-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_v37) = v1 c
          ∧ r.2.mem ((c.tc : Thread Cert.Reference9Ideal.nD Cert.Reference9Ideal.τ).loc Cert.Reference9Ideal.main_v31) = v2 c
          ∧ r.2.mem ((c.tc : Thread Cert.Reference9Ideal.nD Cert.Reference9Ideal.τ).loc Cert.Reference9Ideal.main_v50) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v83) = v0 c
          ∧ r.2.mem ((c.tc : Thread Cert.Reference10Ideal.nD Cert.Reference10Ideal.τ).loc Cert.Reference10Ideal.main_v86) = v1 c
          ∧ r.2.mem ((c.tc : Thread Cert.Reference10Ideal.nD Cert.Reference10Ideal.τ).loc Cert.Reference10Ideal.main_v80) = v2 c
          ∧ r.2.mem ((c.tc : Thread Cert.Reference10Ideal.nD Cert.Reference10Ideal.τ).loc Cert.Reference10Ideal.main_v87) = v3 c
          ∧ r.2.mem ((c.tc : Thread Cert.Reference10Ideal.nD Cert.Reference10Ideal.τ).loc Cert.Reference10Ideal.main_v64) = v4 c
          ∧ r.2.mem ((c.tc : Thread Cert.Reference10Ideal.nD Cert.Reference10Ideal.τ).loc Cert.Reference10Ideal.main_v88) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v111) = v0 c
          ∧ r.2.mem ((c.tc : Thread Cert.Reference11Ideal.nD Cert.Reference11Ideal.τ).loc Cert.Reference11Ideal.main_v116) = v1 c
          ∧ r.2.mem ((c.tc : Thread Cert.Reference11Ideal.nD Cert.Reference11Ideal.τ).loc Cert.Reference11Ideal.main_v108) = v2 c
          ∧ r.2.mem ((c.tc : Thread Cert.Reference11Ideal.nD Cert.Reference11Ideal.τ).loc Cert.Reference11Ideal.main_v117) = v3 c
          ∧ r.2.mem ((c.tc : Thread Cert.Reference11Ideal.nD Cert.Reference11Ideal.τ).loc Cert.Reference11Ideal.main_v91) = v4 c
          ∧ r.2.mem ((c.tc : Thread Cert.Reference11Ideal.nD Cert.Reference11Ideal.τ).loc Cert.Reference11Ideal.main_v113) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v16) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v40) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Kernel.lean ====
abbrev S4096x1024 : Shape := ⟨2, ![4096, 1024]⟩
abbrev S1024x1024 : Shape := ⟨2, ![1024, 1024]⟩
abbrev S4096x3072 : Shape := ⟨2, ![4096, 3072]⟩
abbrev S3x1024 : Shape := ⟨2, ![3, 1024]⟩
abbrev S512x1024 : Shape := ⟨2, ![512, 1024]⟩
abbrev S16x1024 : Shape := ⟨2, ![16, 1024]⟩
abbrev S512x3072 : Shape := ⟨2, ![512, 3072]⟩
abbrev S1x1024 : Shape := ⟨2, ![1, 1024]⟩
abbrev S528x1024 : Shape := ⟨2, ![528, 1024]⟩
abbrev S1024 : Shape := ⟨1, ![1024]⟩

abbrev nBuf : Space → Nat
  | .hbm => 6
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x3072, .bf16⟩
  | .hbm, ⟨3, _⟩ => ⟨S3x1024, .f32⟩
  | .hbm, ⟨4, _⟩ => ⟨S4096x3072, .bf16⟩
  | .hbm, ⟨5, _⟩ => ⟨S3x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S1024x1024, .bf16⟩
  | .local _ .vmem, ⟨5, _⟩ => ⟨S512x3072, .bf16⟩
  | .local _ .vmem, ⟨6, _⟩ => ⟨S512x3072, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S3x1024, .f32⟩
  | .local _ .vmem, ⟨14, _⟩ => ⟨S512x3072, .bf16⟩
  | .local _ .vmem, ⟨15, _⟩ => ⟨S512x3072, .bf16⟩
  | .local _ .vmem, ⟨16, _⟩ => ⟨S3x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_26 : BitVec 32 := 0#32
  let v79 : BitVec 1 := Scalar.cmpi .eq arg0 c0_i32_26
  let v80 : BitVec 32 := Scalar.extui v79
  let c0_i32_27 : BitVec 32 := 0#32
  let v81 : BitVec 1 := Scalar.cmpi .ne v80 c0_i32_27
  v81

def k0_cond2 (i : grid0.Coords) : BitVec 1 :=
  let arg0 : BitVec 32 := BitVec.ofNat 32 (i 0).val
  let c0_i32_28 : BitVec 32 := 0#32
  let v82 : BitVec 1 := Scalar.cmpi .sgt arg0 c0_i32_28
  let v83 : BitVec 32 := Scalar.extui v82
  let c0_i32_29 : BitVec 32 := 0#32
  let v84 : BitVec 1 := Scalar.cmpi .ne v83 c0_i32_29
  v84

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x1024 : Shape := ⟨2, ![4096, 1024]⟩
abbrev S1024x1024 : Shape := ⟨2, ![1024, 1024]⟩
abbrev S4096x3072 : Shape := ⟨2, ![4096, 3072]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x3072, .bf16⟩
  | .hbm, ⟨3, _⟩ => ⟨S3x1024, .f32⟩
  | .hbm, ⟨4, _⟩ => ⟨S4096x1024, .f32⟩
  | .hbm, ⟨5, _⟩ => ⟨S1024x1024, .f32⟩
  | .hbm, ⟨6, _⟩ => ⟨S4096x3072, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S2x1024, .f32⟩
  | .hbm, ⟨13, _⟩ => ⟨S4098x1024, .f32⟩
  | .hbm, ⟨14, _⟩ => ⟨S_, .f32⟩
  | .hbm, ⟨15, _⟩ => ⟨S2x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S4098x1024, .f32⟩
  | .hbm, ⟨46, _⟩ => ⟨S_, .f32⟩
  | .hbm, ⟨47, _⟩ => ⟨S3x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S4098x1024, .f32⟩
  | .hbm, ⟨56, _⟩ => ⟨S4098x1024, .f32⟩
  | .hbm, ⟨57, _⟩ => ⟨S_, .f32⟩
  | .hbm, ⟨58, _⟩ => ⟨S3x1024, .f32⟩
  | .hbm, ⟨59, _⟩ => ⟨S3x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S4098x1024, .f32⟩
  | .hbm, ⟨68, _⟩ => ⟨S4098x1024, .f32⟩
  | .hbm, ⟨69, _⟩ => ⟨S_, .f32⟩
  | .hbm, ⟨70, _⟩ => ⟨S3x1024, .f32⟩
  | .hbm, ⟨71, _⟩ => ⟨S3x1024, .f32⟩
  | .hbm, ⟨72, _⟩ => ⟨S2x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x3072, .f32⟩
  | .hbm, ⟨77, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Kernel2.lean ====
abbrev S4096x1024 : Shape := ⟨2, ![4096, 1024]⟩
abbrev S4x2x4096x704 : Shape := ⟨4, ![4, 2, 4096, 704]⟩
abbrev S8x704x1024 : Shape := ⟨3, ![8, 704, 1024]⟩
abbrev S1x1x4096x704 : Shape := ⟨4, ![1, 1, 4096, 704]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x2x4096x704, .bf16⟩
  | .hbm, ⟨2, _⟩ => ⟨S8x704x1024, .bf16⟩
  | .local _ .vmem, ⟨0, _⟩ => ⟨S4096x1024, .bf16⟩
  | .local _ .vmem, ⟨1, _⟩ => ⟨S1x1x4096x704, .bf16⟩
  | .local _ .vmem, ⟨2, _⟩ => ⟨S1x1x4096x704, .bf16⟩
  | .local _ .vmem, ⟨3, _⟩ => ⟨S1x704x1024, .bf16⟩
  | .local _ .vmem, ⟨4, _⟩ => ⟨S1x704x1024, .bf16⟩
  | .local _ .vmem, ⟨5, _⟩ => ⟨S704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_8 : BitVec 32 := 0#32
  let v10 : BitVec 1 := Scalar.cmpi .eq arg1 c0_i32_8
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg1.toNat, c0_i32_10.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x1024 : Shape := ⟨2, ![4096, 1024]⟩
abbrev S4x2x4096x704 : Shape := ⟨4, ![4, 2, 4096, 704]⟩
abbrev S4096x2x4x704 : Shape := ⟨4, ![4096, 2, 4, 704]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x2x4096x704, .bf16⟩
  | .hbm, ⟨2, _⟩ => ⟨S4x2x4096x704, .f32⟩
  | .hbm, ⟨3, _⟩ => ⟨S4096x2x4x704, .f32⟩
  | .hbm, ⟨4, _⟩ => ⟨S4096x5632, .f32⟩
  | .hbm, ⟨5, _⟩ => ⟨S4096x1024, .f32⟩
  | .hbm, ⟨6, _⟩ => ⟨S_, .f32⟩
  | .hbm, ⟨7, _⟩ => ⟨S1024x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S8x704x1024, .f32⟩
  | .hbm, ⟨13, _⟩ => ⟨S8x704x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S4x4096x704 : Shape := ⟨3, ![4, 4096, 704]⟩
abbrev S4096x1024 : Shape := ⟨2, ![4096, 1024]⟩
abbrev S2816x1024 : Shape := ⟨2, ![2816, 1024]⟩
abbrev S1x4096x704 : Shape := ⟨3, ![1, 4096, 704]⟩
abbrev S704x1024 : Shape := ⟨2, ![704, 1024]⟩
abbrev S4096x704 : Shape := ⟨2, ![4096, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S2816x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S704x1024, .bf16⟩
  | .local _ .vmem, ⟨4, _⟩ => ⟨S704x1024, .bf16⟩
  | .local _ .vmem, ⟨5, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x4096x704, .f32⟩
  | .hbm, ⟨3, _⟩ => ⟨S4096x4x704, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S2816x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def k0_cond3 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x3072 : Shape := ⟨2, ![4096, 3072]⟩
abbrev S8x1024x384 : Shape := ⟨3, ![8, 1024, 384]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512x768 : Shape := ⟨2, ![512, 768]⟩
abbrev S1x1024x384 : Shape := ⟨3, ![1, 1024, 384]⟩
abbrev S1024x384 : Shape := ⟨2, ![1024, 384]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S8x1024x384, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S8x1024x384, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_41 : BitVec 32 := 0#32
  let v67 : BitVec 1 := Scalar.cmpi .ne v66 c0_i32_41
  v67

def k0_cond2 (i : grid0.Coords) : BitVec 1 :=
  let arg0 : BitVec 32 := BitVec.ofNat 32 (i 0).val
  let c0_i32_42 : BitVec 32 := 0#32
  let v68 : BitVec 1 := Scalar.cmpi .sgt arg0 c0_i32_42
  let v69 : BitVec 32 := Scalar.extui v68
  let c0_i32_43 : BitVec 32 := 0#32
  let v70 : BitVec 1 := Scalar.cmpi .ne v69 c0_i32_43
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S4096x3072 : Shape := ⟨2, ![4096, 3072]⟩
abbrev S8x1024x384 : Shape := ⟨3, ![8, 1024, 384]⟩
abbrev S4096x1024 : Shape := ⟨2, ![4096, 1024]⟩
abbrev S1x1024 : Shape := ⟨2, ![1, 1024]⟩
abbrev S1024x8x384 : Shape := ⟨3, ![1024, 8, 384]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S8x1024x384, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x1024x384, .f32⟩
  | .hbm, ⟨6, _⟩ => ⟨S1024x8x384, .f32⟩
  | .hbm, ⟨7, _⟩ => ⟨S1024x3072, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x3072, .f32⟩
  | .hbm, ⟨28, _⟩ => ⟨S4096x3072, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel6.lean ====
abbrev S4096x2048 : Shape := ⟨2, ![4096, 2048]⟩
abbrev S8x1024x256 : Shape := ⟨3, ![8, 1024, 256]⟩
abbrev S4096x1024 : Shape := ⟨2, ![4096, 1024]⟩
abbrev S1x1024 : Shape := ⟨2, ![1, 1024]⟩
abbrev S512x2048 : Shape := ⟨2, ![512, 2048]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S8x1024x256, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_47 : BitVec 32 := 0#32
  let v73 : BitVec 1 := Scalar.cmpi .ne v72 c0_i32_47
  v73

def k0_cond2 (i : grid0.Coords) : BitVec 1 :=
  let arg0 : BitVec 32 := BitVec.ofNat 32 (i 0).val
  let c0_i32_48 : BitVec 32 := 0#32
  let v74 : BitVec 1 := Scalar.cmpi .sgt arg0 c0_i32_48
  let v75 : BitVec 32 := Scalar.extui v74
  let c0_i32_49 : BitVec 32 := 0#32
  let v76 : BitVec 1 := Scalar.cmpi .ne v75 c0_i32_49
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S4096x2048 : Shape := ⟨2, ![4096, 2048]⟩
abbrev S8x1024x256 : Shape := ⟨3, ![8, 1024, 256]⟩
abbrev S4096x1024 : Shape := ⟨2, ![4096, 1024]⟩
abbrev S1x1024 : Shape := ⟨2, ![1, 1024]⟩
abbrev S1024x8x256 : Shape := ⟨3, ![1024, 8, 256]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x1024x256, .f32⟩
  | .hbm, ⟨6, _⟩ => ⟨S1024x8x256, .f32⟩
  | .hbm, ⟨7, _⟩ => ⟨S1024x2048, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x2048, .f32⟩
  | .hbm, ⟨28, _⟩ => ⟨S4096x2048, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel7.lean ====
abbrev S4096x1024 : Shape := ⟨2, ![4096, 1024]⟩
abbrev S8x1024x256 : Shape := ⟨3, ![8, 1024, 256]⟩
abbrev S4096x2048 : Shape := ⟨2, ![4096, 2048]⟩
abbrev S1024x1024 : Shape := ⟨2, ![1024, 1024]⟩
abbrev S1024x2048 : Shape := ⟨2, ![1024, 2048]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x1024x256, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S8x1024x256, .bf16⟩
  | .local _ .vmem, ⟨3, _⟩ => ⟨S1024x2048, .bf16⟩
  | .local _ .vmem, ⟨4, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x1024 : Shape := ⟨2, ![4096, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x256, .bf16⟩
  | .hbm, ⟨2, _⟩ => ⟨S4096x1024, .f32⟩
  | .hbm, ⟨3, _⟩ => ⟨S8x1024x256, .f32⟩
  | .hbm, ⟨4, _⟩ => ⟨S1024x8x256, .f32⟩
  | .hbm, ⟨5, _⟩ => ⟨S1024x2048, .f32⟩
  | .hbm, ⟨6, _⟩ => ⟨S4096x2048, .f32⟩
  | .hbm, ⟨7, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S8x1024x384 : Shape := ⟨3, ![8, 1024, 384]⟩
abbrev S4096x3072 : Shape := ⟨2, ![4096, 3072]⟩
abbrev S1024x1024 : Shape := ⟨2, ![1024, 1024]⟩
abbrev S1024x3072 : Shape := ⟨2, ![1024, 3072]⟩
abbrev S1x1024x384 : Shape := ⟨3, ![1, 1024, 384]⟩
abbrev S1024x384 : Shape := ⟨2, ![1024, 384]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x1024x384, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S8x1024x384, .bf16⟩
  | .local _ .vmem, ⟨3, _⟩ => ⟨S1024x3072, .bf16⟩
  | .local _ .vmem, ⟨4, _⟩ => ⟨S1024x3072, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x1024 : Shape := ⟨2, ![4096, 1024]⟩
abbrev S8x1024x384 : Shape := ⟨3, ![8, 1024, 384]⟩
abbrev S1024x8x384 : Shape := ⟨3, ![1024, 8, 384]⟩
abbrev S1024x3072 : Shape := ⟨2, ![1024, 3072]⟩
abbrev S4096x3072 : Shape := ⟨2, ![4096, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x384, .bf16⟩
  | .hbm, ⟨2, _⟩ => ⟨S4096x1024, .f32⟩
  | .hbm, ⟨3, _⟩ => ⟨S8x1024x384, .f32⟩
  | .hbm, ⟨4, _⟩ => ⟨S1024x8x384, .f32⟩
  | .hbm, ⟨5, _⟩ => ⟨S1024x3072, .f32⟩
  | .hbm, ⟨6, _⟩ => ⟨S4096x3072, .f32⟩
  | .hbm, ⟨7, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S2x4x1024x704 : Shape := ⟨4, ![2, 4, 1024, 704]⟩
abbrev S2x4x3x704 : Shape := ⟨4, ![2, 4, 3, 704]⟩
abbrev S2816x1024 : Shape := ⟨2, ![2816, 1024]⟩
abbrev S1x1024 : Shape := ⟨2, ![1, 1024]⟩
abbrev S4x2x4096x704 : Shape := ⟨4, ![4, 2, 4096, 704]⟩
abbrev S512x1024 : Shape := ⟨2, ![512, 1024]⟩
abbrev S16x1024 : Shape := ⟨2, ![16, 1024]⟩
abbrev S2x1x1024x704 : Shape := ⟨4, ![2, 1, 1024, 704]⟩
abbrev S2x1x3x704 : Shape := ⟨4, ![2, 1, 3, 704]⟩
abbrev S704x1024 : Shape := ⟨2, ![704, 1024]⟩
abbrev S1x2x512x704 : Shape := ⟨4, ![1, 2, 512, 704]⟩
abbrev S2x528x704 : Shape := ⟨3, ![2, 528, 704]⟩
abbrev S528x1024 : Shape := ⟨2, ![528, 1024]⟩
abbrev S1x1x1024x704 : Shape := ⟨4, ![1, 1, 1024, 704]⟩
abbrev S1024x704 : Shape := ⟨2, ![1024, 704]⟩
abbrev S528x704 : Shape := ⟨2, ![528, 704]⟩
abbrev S1x528x704 : Shape := ⟨3, ![1, 528, 704]⟩
abbrev S1x512x704 : Shape := ⟨3, ![1, 512, 704]⟩
abbrev S512x704 : Shape := ⟨2, ![512, 704]⟩
abbrev S1x1x512x704 : Shape := ⟨4, ![1, 1, 512, 704]⟩
abbrev S1x1x1x704 : Shape := ⟨4, ![1, 1, 1, 704]⟩
abbrev S1x704 : Shape := ⟨2, ![1, 704]⟩
abbrev S512 : Shape := ⟨1, ![512]⟩
abbrev S512x1 : Shape := ⟨2, ![512, 1]⟩

abbrev nBuf : Space → Nat
  | .hbm => 10
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S2x4x1024x704, .bf16⟩
  | .hbm, ⟨3, _⟩ => ⟨S2x4x3x704, .f32⟩
  | .hbm, ⟨4, _⟩ => ⟨S2816x1024, .bf16⟩
  | .hbm, ⟨5, _⟩ => ⟨S1x1024, .f32⟩
  | .hbm, ⟨6, _⟩ => ⟨S4x2x4096x704, .bf16⟩
  | .hbm, ⟨7, _⟩ => ⟨S4x2x4096x704, .bf16⟩
  | .hbm, ⟨8, _⟩ => ⟨S4096x1024, .f32⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x3x704, .f32⟩
  | .local _ .vmem, ⟨7, _⟩ => ⟨S2x1x3x704, .f32⟩
  | .local _ .vmem, ⟨8, _⟩ => ⟨S704x1024, .bf16⟩
  | .local _ .vmem, ⟨9, _⟩ => ⟨S704x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x2x512x704, .bf16⟩
  | .local _ .vmem, ⟨14, _⟩ => ⟨S1x2x512x704, .bf16⟩
  | .local _ .vmem, ⟨15, _⟩ => ⟨S1x2x512x704, .bf16⟩
  | .local _ .vmem, ⟨16, _⟩ => ⟨S1x2x512x704, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S2x528x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v87 : BitVec 1 := Scalar.cmpi .eq arg1 c3_i32
  let v88 : BitVec 32 := Scalar.extui v87
  let c0_i32_81 : BitVec 32 := 0#32
  let v89 : BitVec 1 := Scalar.cmpi .ne v88 c0_i32_81
  v89

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference9Ideal.lean ====
abbrev S4096x1024 : Shape := ⟨2, ![4096, 1024]⟩
abbrev S2x4x1024x704 : Shape := ⟨4, ![2, 4, 1024, 704]⟩
abbrev S2x4x3x704 : Shape := ⟨4, ![2, 4, 3, 704]⟩
abbrev S2816x1024 : Shape := ⟨2, ![2816, 1024]⟩
abbrev S1x1024 : Shape := ⟨2, ![1, 1024]⟩
abbrev S1024x2x4x704 : Shape := ⟨4, ![1024, 2, 4, 704]⟩
abbrev S1024x5632 : Shape := ⟨2, ![1024, 5632]⟩
abbrev S3x2x4x704 : Shape := ⟨4, ![3, 2, 4, 704]⟩
abbrev S3x5632 : Shape := ⟨2, ![3, 5632]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩
abbrev S4096x2x4x704 : Shape := ⟨4, ![4096, 2, 4, 704]⟩
abbrev S4x2x4096x704 : Shape := ⟨4, ![4, 2, 4096, 704]⟩
abbrev S4096 : Shape := ⟨1, ![4096]⟩
abbrev S4096x1 : Shape := ⟨2, ![4096, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S2x4x1024x704, .bf16⟩
  | .hbm, ⟨3, _⟩ => ⟨S2x4x3x704, .f32⟩
  | .hbm, ⟨4, _⟩ => ⟨S2816x1024, .bf16⟩
  | .hbm, ⟨5, _⟩ => ⟨S1x1024, .f32⟩
  | .hbm, ⟨6, _⟩ => ⟨S4096x1024, .f32⟩
  | .hbm, ⟨7, _⟩ => ⟨S2x4x1024x704, .f32⟩
  | .hbm, ⟨8, _⟩ => ⟨S1024x2x4x704, .f32⟩
  | .hbm, ⟨9, _⟩ => ⟨S1024x5632, .f32⟩
  | .hbm, ⟨10, _⟩ => ⟨S3x2x4x704, .f32⟩
  | .hbm, ⟨11, _⟩ => ⟨S3x5632, .f32⟩
  | .hbm, ⟨12, _⟩ => ⟨S2816x1024, .f32⟩
  | .hbm, ⟨13, _⟩ => ⟨S4096x5632, .f32⟩
  | .hbm, ⟨14, _⟩ => ⟨S_, .f32⟩
  | .hbm, ⟨15, _⟩ => ⟨S2x5632, .f32⟩
  | .hbm, ⟨16, _⟩ => ⟨S4098x5632, .f32⟩
  | .hbm, ⟨17, _⟩ => ⟨S1x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S1x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S1x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x1024, .f32⟩
  | .hbm, ⟨47, _⟩ => ⟨S4096x1024, .f32⟩
  | .hbm, ⟨48, _⟩ => ⟨S4096x2x4x704, .f32⟩
  | .hbm, ⟨49, _⟩ => ⟨S4x2x4096x704, .f32⟩
  | .hbm, ⟨50, _⟩ => ⟨S4x2x4096x704, .bf16⟩
  | .hbm, ⟨51, _⟩ => ⟨S4096x2x4x704, .f32⟩
  | .hbm, ⟨52, _⟩ => ⟨S4x2x4096x704, .f32⟩
  | .hbm, ⟨53, _⟩ => ⟨S4x2x4096x704, .bf16⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_1 : Ref sig .tc := ⟨.hbm, 55, rfl⟩
abbrev main_v39 : Ref sig .tc := ⟨.hbm, 56, rfl⟩
abbrev main_v40 : Ref sig .tc := ⟨.hbm, 57, rfl⟩
abbrev main_cst_2 : Ref sig .tc := ⟨.hbm, 58, rfl⟩
abbrev main_v41 : Ref sig .tc := ⟨.hbm, 59, rfl⟩
abbrev main_v42 : Ref sig .tc := ⟨.hbm, 60, rfl⟩
abbrev main_cst_3 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel10.lean ====
abbrev S4096x1024 : Shape := ⟨2, ![4096, 1024]⟩
abbrev S2x4x1024x704 : Shape := ⟨4, ![2, 4, 1024, 704]⟩
abbrev S2x4x3x704 : Shape := ⟨4, ![2, 4, 3, 704]⟩
abbrev S2816x1024 : Shape := ⟨2, ![2816, 1024]⟩
abbrev S1x1024 : Shape := ⟨2, ![1, 1024]⟩
abbrev S4x2x4096x704 : Shape := ⟨4, ![4, 2, 4096, 704]⟩
abbrev S1x128 : Shape := ⟨2, ![1, 128]⟩
abbrev S512x1024 : Shape := ⟨2, ![512, 1024]⟩
abbrev S16x1024 : Shape := ⟨2, ![16, 1024]⟩
abbrev S2x1x1024x704 : Shape := ⟨4, ![2, 1, 1024, 704]⟩
abbrev S2x1x3x704 : Shape := ⟨4, ![2, 1, 3, 704]⟩
abbrev S704x1024 : Shape := ⟨2, ![704, 1024]⟩
abbrev S1x2x512x704 : Shape := ⟨4, ![1, 2, 512, 704]⟩
abbrev S2x528x704 : Shape := ⟨3, ![2, 528, 704]⟩
abbrev S528x1024 : Shape := ⟨2, ![528, 1024]⟩
abbrev S1x1x1024x704 : Shape := ⟨4, ![1, 1, 1024, 704]⟩
abbrev S1024x704 : Shape := ⟨2, ![1024, 704]⟩
abbrev S528x704 : Shape := ⟨2, ![528, 704]⟩
abbrev S1x528x704 : Shape := ⟨3, ![1, 528, 704]⟩
abbrev S1x512x704 : Shape := ⟨3, ![1, 512, 704]⟩
abbrev S512x704 : Shape := ⟨2, ![512, 704]⟩
abbrev S1x1x512x704 : Shape := ⟨4, ![1, 1, 512, 704]⟩
abbrev S1x1x1x704 : Shape := ⟨4, ![1, 1, 1, 704]⟩
abbrev S1x704 : Shape := ⟨2, ![1, 704]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 13
  | .vmem => 27
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S2x4x1024x704, .bf16⟩
  | .hbm, ⟨3, _⟩ => ⟨S2x4x3x704, .f32⟩
  | .hbm, ⟨4, _⟩ => ⟨S2816x1024, .bf16⟩
  | .hbm, ⟨5, _⟩ => ⟨S4096x1024, .f32⟩
  | .hbm, ⟨6, _⟩ => ⟨S1x1024, .f32⟩
  | .hbm, ⟨7, _⟩ => ⟨S4x2x4096x704, .bf16⟩
  | .hbm, ⟨8, _⟩ => ⟨S4x2x4096x704, .bf16⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x3x704, .f32⟩
  | .local _ .vmem, ⟨7, _⟩ => ⟨S2x1x3x704, .f32⟩
  | .local _ .vmem, ⟨8, _⟩ => ⟨S704x1024, .bf16⟩
  | .local _ .vmem, ⟨9, _⟩ => ⟨S704x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x2x512x704, .bf16⟩
  | .local _ .vmem, ⟨16, _⟩ => ⟨S1x2x512x704, .bf16⟩
  | .local _ .vmem, ⟨17, _⟩ => ⟨S1x2x512x704, .bf16⟩
  | .local _ .vmem, ⟨18, _⟩ => ⟨S1x2x512x704, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x1024, .f32⟩
  | .local _ .vmem, ⟨24, _⟩ => ⟨S1x128, .f32⟩
  | .local _ .vmem, ⟨25, _⟩ => ⟨S2x528x704, .f32⟩
  | .local _ .vmem, ⟨26, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v88 : BitVec 1 := Scalar.cmpi .eq arg1 c3_i32
  let v89 : BitVec 32 := Scalar.extui v88
  let c0_i32_81 : BitVec 32 := 0#32
  let v90 : BitVec 1 := Scalar.cmpi .ne v89 c0_i32_81
  v90

def k0_cond3 (i : grid0.Coords) : BitVec 1 :=
  let arg0 : BitVec 32 := BitVec.ofNat 32 (i 0).val
  let c0_i32_103 : BitVec 32 := 0#32
  let v138 : BitVec 1 := Scalar.cmpi .eq arg0 c0_i32_103
  let v139 : BitVec 32 := Scalar.extui v138
  let c0_i32_104 : BitVec 32 := 0#32
  let v140 : BitVec 1 := Scalar.cmpi .ne v139 c0_i32_104
  v140

def k0_cond4 (i : grid0.Coords) : BitVec 1 :=
  let arg0 : BitVec 32 := BitVec.ofNat 32 (i 0).val
  let c0_i32_105 : BitVec 32 := 0#32
  let v141 : BitVec 1 := Scalar.cmpi .sgt arg0 c0_i32_105
  let v142 : BitVec 32 := Scalar.extui v141
  let c0_i32_106 : BitVec 32 := 0#32
  let v143 : BitVec 1 := Scalar.cmpi .ne v142 c0_i32_106
  v143

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference10Ideal.lean ====
abbrev S4096x1024 : Shape := ⟨2, ![4096, 1024]⟩
abbrev S2x4x1024x704 : Shape := ⟨4, ![2, 4, 1024, 704]⟩
abbrev S2x4x3x704 : Shape := ⟨4, ![2, 4, 3, 704]⟩
abbrev S2816x1024 : Shape := ⟨2, ![2816, 1024]⟩
abbrev S1x1024 : Shape := ⟨2, ![1, 1024]⟩
abbrev S1024x2x4x704 : Shape := ⟨4, ![1024, 2, 4, 704]⟩
abbrev S1024x5632 : Shape := ⟨2, ![1024, 5632]⟩
abbrev S3x2x4x704 : Shape := ⟨4, ![3, 2, 4, 704]⟩
abbrev S3x5632 : Shape := ⟨2, ![3, 5632]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩
abbrev S4096 : Shape := ⟨1, ![4096]⟩
abbrev S4096x1 : Shape := ⟨2, ![4096, 1]⟩
abbrev S1024 : Shape := ⟨1, ![1024]⟩
abbrev S4096x2x4x704 : Shape := ⟨4, ![4096, 2, 4, 704]⟩
abbrev S4x2x4096x704 : Shape := ⟨4, ![4, 2, 4096, 704]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S2x4x1024x704, .bf16⟩
  | .hbm, ⟨3, _⟩ => ⟨S2x4x3x704, .f32⟩
  | .hbm, ⟨4, _⟩ => ⟨S2816x1024, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S2x4x1024x704, .f32⟩
  | .hbm, ⟨9, _⟩ => ⟨S1024x2x4x704, .f32⟩
  | .hbm, ⟨10, _⟩ => ⟨S1024x5632, .f32⟩
  | .hbm, ⟨11, _⟩ => ⟨S3x2x4x704, .f32⟩
  | .hbm, ⟨12, _⟩ => ⟨S3x5632, .f32⟩
  | .hbm, ⟨13, _⟩ => ⟨S2816x1024, .f32⟩
  | .hbm, ⟨14, _⟩ => ⟨S4096x5632, .f32⟩
  | .hbm, ⟨15, _⟩ => ⟨S_, .f32⟩
  | .hbm, ⟨16, _⟩ => ⟨S2x5632, .f32⟩
  | .hbm, ⟨17, _⟩ => ⟨S4098x5632, .f32⟩
  | .hbm, ⟨18, _⟩ => ⟨S1x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S_, .f32⟩
  | .hbm, ⟨23, _⟩ => ⟨S4096x5632, .f32⟩
  | .hbm, ⟨24, _⟩ => ⟨S4096x5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S4096, .f32⟩
  | .hbm, ⟨86, _⟩ => ⟨S_, .f32⟩
  | .hbm, ⟨87, _⟩ => ⟨S4096, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S4096x1024, .f32⟩
  | .hbm, ⟨102, _⟩ => ⟨S4096x1024, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x2x4x704, .f32⟩
  | .hbm, ⟨115, _⟩ => ⟨S4x2x4096x704, .f32⟩
  | .hbm, ⟨116, _⟩ => ⟨S4x2x4096x704, .bf16⟩
  | .hbm, ⟨117, _⟩ => ⟨S4096x2x4x704, .f32⟩
  | .hbm, ⟨118, _⟩ => ⟨S4x2x4096x704, .f32⟩
  | .hbm, ⟨119, _⟩ => ⟨S4x2x4096x704, .bf16⟩
  | .hbm, ⟨120, _⟩ => ⟨S4096x1024, .bf16⟩
  | .hbm, ⟨121, _⟩ => ⟨S1x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_v33 : Ref sig .tc := ⟨.hbm, 51, rfl⟩
abbrev main_v34 : Ref sig .tc := ⟨.hbm, 52, rfl⟩
abbrev main_cst_2 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_cst_10 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_15 : Ref sig .tc := ⟨.hbm, 104, rfl⟩
abbrev main_v73 : Ref sig .tc := ⟨.hbm, 105, rfl⟩
abbrev main_v74 : Ref sig .tc := ⟨.hbm, 106, rfl⟩
abbrev main_cst_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]
-- ==== Kernel11.lean ====
abbrev S4096x1024 : Shape := ⟨2, ![4096, 1024]⟩
abbrev S4x2x4096x704 : Shape := ⟨4, ![4, 2, 4096, 704]⟩
abbrev S2x4x1024x704 : Shape := ⟨4, ![2, 4, 1024, 704]⟩
abbrev S2x4x3x704 : Shape := ⟨4, ![2, 4, 3, 704]⟩
abbrev S2816x1024 : Shape := ⟨2, ![2816, 1024]⟩
abbrev S1x1024 : Shape := ⟨2, ![1, 1024]⟩
abbrev S4x4096x704 : Shape := ⟨3, ![4, 4096, 704]⟩
abbrev S4x2x3x704 : Shape := ⟨4, ![4, 2, 3, 704]⟩
abbrev S512x1024 : Shape := ⟨2, ![512, 1024]⟩
abbrev S1x2x512x704 : Shape := ⟨4, ![1, 2, 512, 704]⟩
abbrev S2x1x1024x704 : Shape := ⟨4, ![2, 1, 1024, 704]⟩
abbrev S2x1x3x704 : Shape := ⟨4, ![2, 1, 3, 704]⟩
abbrev S704x1024 : Shape := ⟨2, ![704, 1024]⟩
abbrev S1x512x704 : Shape := ⟨3, ![1, 512, 704]⟩
abbrev S4x2x8x704 : Shape := ⟨4, ![4, 2, 8, 704]⟩
abbrev S2x3x8x704 : Shape := ⟨4, ![2, 3, 8, 704]⟩
abbrev S2x520x704 : Shape := ⟨3, ![2, 520, 704]⟩
abbrev S2x8x704 : Shape := ⟨3, ![2, 8, 704]⟩
abbrev S1x2x8x704 : Shape := ⟨4, ![1, 2, 8, 704]⟩
abbrev S2x3x704 : Shape := ⟨3, ![2, 3, 704]⟩
abbrev S1x2x3x704 : Shape := ⟨4, ![1, 2, 3, 704]⟩
abbrev S1x1x1x704 : Shape := ⟨4, ![1, 1, 1, 704]⟩
abbrev S1x704 : Shape := ⟨2, ![1, 704]⟩
abbrev S256x1024 : Shape := ⟨2, ![256, 1024]⟩
abbrev S256x704 : Shape := ⟨2, ![256, 704]⟩
abbrev S1x1x32x704 : Shape := ⟨4, ![1, 1, 32, 704]⟩
abbrev S32x704 : Shape := ⟨2, ![32, 704]⟩
abbrev S1x32x704 : Shape := ⟨3, ![1, 32, 704]⟩
abbrev S1x1x8x704 : Shape := ⟨4, ![1, 1, 8, 704]⟩
abbrev S8x704 : Shape := ⟨2, ![8, 704]⟩
abbrev S1x1x256x704 : Shape := ⟨4, ![1, 1, 256, 704]⟩
abbrev S1x1x1024x704 : Shape := ⟨4, ![1, 1, 1024, 704]⟩
abbrev S1024x704 : Shape := ⟨2, ![1024, 704]⟩
abbrev S1x8x704 : Shape := ⟨3, ![1, 8, 704]⟩
abbrev S704 : Shape := ⟨1, ![704]⟩
abbrev S512 : Shape := ⟨1, ![512]⟩
abbrev S512x1 : Shape := ⟨2, ![512, 1]⟩
abbrev S1024 : Shape := ⟨1, ![1024]⟩

abbrev nBuf : Space → Nat
  | .hbm => 14
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4x2x4096x704, .bf16⟩
  | .hbm, ⟨2, _⟩ => ⟨S4x2x4096x704, .bf16⟩
  | .hbm, ⟨3, _⟩ => ⟨S2x4x1024x704, .bf16⟩
  | .hbm, ⟨4, _⟩ => ⟨S2x4x3x704, .f32⟩
  | .hbm, ⟨5, _⟩ => ⟨S2816x1024, .bf16⟩
  | .hbm, ⟨6, _⟩ => ⟨S4096x1024, .f32⟩
  | .hbm, ⟨7, _⟩ => ⟨S1x1024, .f32⟩
  | .hbm, ⟨8, _⟩ => ⟨S4x4096x704, .bf16⟩
  | .hbm, ⟨9, _⟩ => ⟨S4x2x4096x704, .bf16⟩
  | .hbm, ⟨10, _⟩ => ⟨S4096x1024, .f32⟩
  | .hbm, ⟨11, _⟩ => ⟨S4096x1024, .bf16⟩
  | .hbm, ⟨12, _⟩ => ⟨S1x1024, .f32⟩
  | .hbm, ⟨13, _⟩ => ⟨S4x2x3x704, .f32⟩
  | .local _ .vmem, ⟨0, _⟩ => ⟨S512x1024, .f32⟩
  | .local _ .vmem, ⟨1, _⟩ => ⟨S512x1024, .f32⟩
  | .local _ .vmem, ⟨2, _⟩ => ⟨S1x2x512x704, .bf16⟩
  | .local _ .vmem, ⟨3, _⟩ => ⟨S1x2x512x704, .bf16⟩
  | .local _ .vmem, ⟨4, _⟩ => ⟨S1x2x512x704, .bf16⟩
  | .local _ .vmem, ⟨5, _⟩ => ⟨S1x2x512x704, .bf16⟩
  | .local _ .vmem, ⟨6, _⟩ => ⟨S2x1x1024x704, .bf16⟩
  | .local _ .vmem, ⟨7, _⟩ => ⟨S2x1x1024x704, .bf16⟩
  | .local _ .vmem, ⟨8, _⟩ => ⟨S2x1x3x704, .f32⟩
  | .local _ .vmem, ⟨9, _⟩ => ⟨S2x1x3x704, .f32⟩
  | .local _ .vmem, ⟨10, _⟩ => ⟨S704x1024, .bf16⟩
  | .local _ .vmem, ⟨11, _⟩ => ⟨S704x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x512x704, .bf16⟩
  | .local _ .vmem, ⟨16, _⟩ => ⟨S1x512x704, .bf16⟩
  | .local _ .vmem, ⟨17, _⟩ => ⟨S1x2x512x704, .bf16⟩
  | .local _ .vmem, ⟨18, _⟩ => ⟨S1x2x512x704, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x1024, .f32⟩
  | .local _ .vmem, ⟨24, _⟩ => ⟨S4x2x3x704, .f32⟩
  | .local _ .vmem, ⟨25, _⟩ => ⟨S4x2x8x704, .f32⟩
  | .local _ .vmem, ⟨26, _⟩ => ⟨S512x1024, .f32⟩
  | .local _ .vmem, ⟨27, _⟩ => ⟨S2x3x8x704, .f32⟩
  | .local _ .vmem, ⟨28, _⟩ => ⟨S2x520x704, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let arg1 : BitVec 32 := BitVec.ofNat 32 (i 1).val
  let v2764 : Index := Scalar.indexCast arg1
  let c0_1738 : Index := 0#32
  let c0_1739 : Index := 0#32
  let c0_1740 : Index := 0#32
  ![v2764.toNat, 0, 0, 0]
def k0_off2 (i : grid0.Coords) : Fin 4 → Nat :=
  let arg1 : BitVec 32 := BitVec.ofNat 32 (i 1).val
  let v2769 : Index := Scalar.indexCast arg1
  let c0_1742 : Index := 0#32
  let c0_1743 : Index := 0#32
  let c0_1744 : Index := 0#32
  ![v2769.toNat, 0, 0, 0]
def k0_off3 (i : grid0.Coords) : Fin 4 → Nat :=
  let arg1 : BitVec 32 := BitVec.ofNat 32 (i 1).val
  let v30 : Index := Scalar.indexCast arg1
  let c0_37 : Index := 0#32
  let c0_38 : Index := 0#32
  let c0_39 : Index := 0#32
  ![v30.toNat, 0, 0, 0]
def k0_off4 (i : grid0.Coords) : Fin 4 → Nat :=
  let arg1 : BitVec 32 := BitVec.ofNat 32 (i 1).val
  let v2678 : Index := Scalar.indexCast arg1
  let c0_1661 : Index := 0#32
  let c0_1662 : Index := 0#32
  let c0_1663 : Index := 0#32
  ![v2678.toNat, 0, 0, 0]
def k0_off5 (i : grid0.Coords) : Fin 4 → Nat :=
  let arg1 : BitVec 32 := BitVec.ofNat 32 (i 1).val
  let v2682 : Index := Scalar.indexCast arg1
  let c0_1664 : Index := 0#32
  let c0_1665 : Index := 0#32
  let c0_1666 : Index := 0#32
  ![v2682.toNat, 0, 0, 0]
def k0_off6 (i : grid0.Coords) : Fin 4 → Nat :=
  let arg1 : BitVec 32 := BitVec.ofNat 32 (i 1).val
  let v2694 : Index := Scalar.indexCast arg1
  let c0_1675 : Index := 0#32
  let c1_1676 : Index := 1#32
  let c0_1677 : Index := 0#32
  ![v2694.toNat, 0, 1, 0]
def k0_off7 (i : grid0.Coords) : Fin 4 → Nat :=
  let arg1 : BitVec 32 := BitVec.ofNat 32 (i 1).val
  let v2706 : Index := Scalar.indexCast arg1
  let c0_1686 : Index := 0#32
  let c2_1687 : Index := 2#32
  let c0_1688 : Index := 0#32
  ![v2706.toNat, 0, 2, 0]
def k0_off8 (i : grid0.Coords) : Fin 4 → Nat :=
  let arg1 : BitVec 32 := BitVec.ofNat 32 (i 1).val
  let v2720 : Index := Scalar.indexCast arg1
  let c1_1700 : Index := 1#32
  let c0_1701 : Index := 0#32
  let c0_1702 : Index := 0#32
  ![v2720.toNat, 1, 0, 0]
def k0_off9 (i : grid0.Coords) : Fin 4 → Nat :=
  let arg1 : BitVec 32 := BitVec.ofNat 32 (i 1).val
  let v2724 : Index := Scalar.indexCast arg1
  let c1_1703 : Index := 1#32
  let c0_1704 : Index := 0#32
  let c0_1705 : Index := 0#32
  ![v2724.toNat, 1, 0, 0]
def k0_off10 (i : grid0.Coords) : Fin 4 → Nat :=
  let arg1 : BitVec 32 := BitVec.ofNat 32 (i 1).val
  let v2736 : Index := Scalar.indexCast arg1
  let c1_1714 : Index := 1#32
  let c1_1715 : Index := 1#32
  let c0_1716 : Index := 0#32
  ![v2736.toNat, 1, 1, 0]
def k0_off11 (i : grid0.Coords) : Fin 4 → Nat :=
  let arg1 : BitVec 32 := BitVec.ofNat 32 (i 1).val
  let v2748 : Index := Scalar.indexCast arg1
  let c1_1725 : Index := 1#32
  let c2_1726 : Index := 2#32
  let c0_1727 : Index := 0#32
  ![v2748.toNat, 1, 2, 0]
def k0_cond3 (i : grid0.Coords) : BitVec 1 :=
  let arg1 : BitVec 32 := BitVec.ofNat 32 (i 1).val
  let c3_i32 : BitVec 32 := 3#32
  let v2760 : BitVec 1 := Scalar.cmpi .eq arg1 c3_i32
  let v2761 : BitVec 32 := Scalar.extui v2760
  let c0_i32_1736 : BitVec 32 := 0#32
  let v2762 : BitVec 1 := Scalar.cmpi .ne v2761 c0_i32_1736
  v2762

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v2796 : BitVec 32 := Scalar.extui v0
  let c0_i32_1755 : BitVec 32 := 0#32
  let v2797 : BitVec 1 := Scalar.cmpi .ne v2796 c0_i32_1755
  v2797

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v2798 : BitVec 1 := Scalar.xori v0 v_true
  let v2799 : BitVec 32 := Scalar.extui v2798
  let c0_i32_1756 : BitVec 32 := 0#32
  let v2800 : BitVec 1 := Scalar.cmpi .ne v2799 c0_i32_1756
  v2800

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![arg1.toNat, c0_i32.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![arg1.toNat, c0_i32.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![arg1.toNat, v0.toNat, c0_i32.toNat]

def cc0_transform_9 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![arg1.toNat, c0_i32.toNat, v0.toNat, c0_i32_0.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x2x3x704 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference11Ideal.lean ====
abbrev S4096x1024 : Shape := ⟨2, ![4096, 1024]⟩
abbrev S4x2x4096x704 : Shape := ⟨4, ![4, 2, 4096, 704]⟩
abbrev S2x4x1024x704 : Shape := ⟨4, ![2, 4, 1024, 704]⟩
abbrev S2x4x3x704 : Shape := ⟨4, ![2, 4, 3, 704]⟩
abbrev S2816x1024 : Shape := ⟨2, ![2816, 1024]⟩
abbrev S1x1024 : Shape := ⟨2, ![1, 1024]⟩
abbrev S1024x2x4x704 : Shape := ⟨4, ![1024, 2, 4, 704]⟩
abbrev S1024x5632 : Shape := ⟨2, ![1024, 5632]⟩
abbrev S4096x2x4x704 : Shape := ⟨4, ![4096, 2, 4, 704]⟩
abbrev S4096x5632 : Shape := ⟨2, ![4096, 5632]⟩
abbrev S4096x2816 : Shape := ⟨2, ![4096, 2816]⟩
abbrev S_ : Shape := ⟨0, ![]⟩
abbrev S3x2x4x704 : Shape := ⟨4, ![3, 2, 4, 704]⟩
abbrev S3x5632 : Shape := ⟨2, ![3, 5632]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S4096 : Shape := ⟨1, ![4096]⟩
abbrev S4096x1 : Shape := ⟨2, ![4096, 1]⟩
abbrev S1024 : Shape := ⟨1, ![1024]⟩
abbrev S4096x4x704 : Shape := ⟨3, ![4096, 4, 704]⟩
abbrev S4x4096x704 : Shape := ⟨3, ![4, 4096, 704]⟩
abbrev S4x2x3x704 : Shape := ⟨4, ![4, 2, 3, 704]⟩

abbrev nBuf : Space → Nat
  | .hbm => 172
  | .vmem => 0
  | .smem => 0
  | _ => 0

abbrev hbmTy0_0 (i : Nat) : BufTy := match i % 128 with
  | 0 => ⟨S4096x1024, .f32⟩
  | 1 => ⟨S4x2x4096x704, .bf16⟩
  | 2 => ⟨S4x2x4096x704, .bf16⟩
  | 3 => ⟨S2x4x1024x704, .bf16⟩
  | 4 => ⟨S2x4x3x704, .f32⟩
  | 5 => ⟨S2816x1024, .bf16⟩
  | 6 => ⟨S4096x1024, .f32⟩
  | 7 => ⟨S1x1024, .f32⟩
  | 8 => ⟨S2x4x1024x704, .f32⟩
  | 9 => ⟨S1024x2x4x704, .f32⟩
  | 10 => ⟨S1024x5632, .f32⟩
  | 11 => ⟨S2816x1024, .f32⟩
  | 12 => ⟨S4x2x4096x704, .f32⟩
  | 13 => ⟨S4096x2x4x704, .f32⟩
  | 14 => ⟨S4096x5632, .f32⟩
  | 15 => ⟨S4096x2816, .f32⟩
  | 16 => ⟨S4096x2816, .f32⟩
  | 17 => ⟨S4096x2816, .f32⟩
  | 18 => ⟨S4096x2816, .f32⟩
  | 19 => ⟨S_, .f32⟩
  | 20 => ⟨S4096x2816, .f32⟩
  | 21 => ⟨S4096x2816, .f32⟩
  | 22 => ⟨S_, .f32⟩
  | 23 => ⟨S4096x2816, .f32⟩
  | 24 => ⟨S4096x2816, .f32⟩
  | 25 => ⟨S4096x2816, .f32⟩
  | 26 => ⟨S_, .f32⟩
  | 27 => ⟨S4096x2816, .f32⟩
  | 28 => ⟨S4096x2816, .f32⟩
  | 29 => ⟨S4096x2816, .f32⟩
  | 30 => ⟨S_, .f32⟩
  | 31 => ⟨S4096x2816, .f32⟩
  | 32 => ⟨S4096x2816, .f32⟩
  | 33 => ⟨S_, .f32⟩
  | 34 => ⟨S4096x2816, .f32⟩
  | 35 => ⟨S4096x2816, .f32⟩
  | 36 => ⟨S_, .f32⟩
  | 37 => ⟨S4096x2816, .f32⟩
  | 38 => ⟨S4096x2816, .f32⟩
  | 39 => ⟨S4096x2816, .f32⟩
  | 40 => ⟨S4096x2816, .f32⟩
  | 41 => ⟨S4096x2816, .f32⟩
  | 42 => ⟨S4096x2816, .f32⟩
  | 43 => ⟨S4096x2816, .f32⟩
  | 44 => ⟨S4096x2816, .f32⟩
  | 45 => ⟨S4096x2816, .f32⟩
  | 46 => ⟨S4096x1024, .f32⟩
  | 47 => ⟨S_, .f32⟩
  | 48 => ⟨S4096x2816, .f32⟩
  | 49 => ⟨S4096x2816, .f32⟩
  | 50 => ⟨S4096x2816, .f32⟩
  | 51 => ⟨S4096x2816, .f32⟩
  | 52 => ⟨S4096x2816, .f32⟩
  | 53 => ⟨S4096x2816, .f32⟩
  | 54 => ⟨S4096x5632, .f32⟩
  | 55 => ⟨S4x2x4096x704, .f32⟩
  | 56 => ⟨S4096x2x4x704, .f32⟩
  | 57 => ⟨S4096x5632, .f32⟩
  | 58 => ⟨S3x2x4x704, .f32⟩
  | 59 => ⟨S3x5632, .f32⟩
  | 60 => ⟨S_, .f32⟩
  | 61 => ⟨S2x5632, .f32⟩
  | 62 => ⟨S4098x5632, .f32⟩
  | 63 => ⟨S_, .f32⟩
  | 64 => ⟨S2x5632, .f32⟩
  | 65 => ⟨S1x5632, .f32⟩
  | 66 => ⟨S4096x5632, .f32⟩
  | 67 => ⟨S4096x5632, .f32⟩
  | 68 => ⟨S4096x5632, .f32⟩
  | 69 => ⟨S_, .f32⟩
  | 70 => ⟨S4096x5632, .f32⟩
  | 71 => ⟨S4096x5632, .f32⟩
  | 72 => ⟨S1x5632, .f32⟩
  | 73 => ⟨S4096x5632, .f32⟩
  | 74 => ⟨S4096x5632, .f32⟩
  | 75 => ⟨S4096x5632, .f32⟩
  | 76 => ⟨S4096x5632, .f32⟩
  | 77 => ⟨S1x5632, .f32⟩
  | 78 => ⟨S4096x5632, .f32⟩
  | 79 => ⟨S4096x5632, .f32⟩
  | 80 => ⟨S4096x5632, .f32⟩
  | 81 => ⟨S4096x5632, .f32⟩
  | 82 => ⟨S4096x5632, .f32⟩
  | 83 => ⟨S4096x5632, .f32⟩
  | 84 => ⟨S4096x5632, .f32⟩
  | 85 => ⟨S_, .f32⟩
  | 86 => ⟨S5632, .f32⟩
  | 87 => ⟨S1x5632, .f32⟩
  | 88 => ⟨S_, .f32⟩
  | 89 => ⟨S4098x5632, .f32⟩
  | 90 => ⟨S_, .f32⟩
  | 91 => ⟨S3x5632, .f32⟩
  | 92 => ⟨S4096x5632, .f32⟩
  | 93 => ⟨S4096x5632, .f32⟩
  | 94 => ⟨S4096x5632, .f32⟩
  | 95 => ⟨S_, .f32⟩
  | 96 => ⟨S5632, .f32⟩
  | 97 => ⟨S1x5632, .f32⟩
  | 98 => ⟨S_, .f32⟩
  | 99 => ⟨S4098x5632, .f32⟩
  | 100 => ⟨S4098x5632, .f32⟩
  | 101 => ⟨S_, .f32⟩
  | 102 => ⟨S3x5632, .f32⟩
  | 103 => ⟨S3x5632, .f32⟩
  | 104 => ⟨S4096x5632, .f32⟩
  | 105 => ⟨S4096x5632, .f32⟩
  | 106 => ⟨S4096x5632, .f32⟩
  | 107 => ⟨S_, .f32⟩
  | 108 => ⟨S5632, .f32⟩
  | 109 => ⟨S1x5632, .f32⟩
  | 110 => ⟨S_, .f32⟩
  | 111 => ⟨S4098x5632, .f32⟩
  | 112 => ⟨S4098x5632, .f32⟩
  | 113 => ⟨S_, .f32⟩
  | 114 => ⟨S3x5632, .f32⟩
  | 115 => ⟨S3x5632, .f32⟩
  | 116 => ⟨S2x5632, .f32⟩
  | 117 => ⟨S4096x5632, .f32⟩
  | 118 => ⟨S4096x1024, .f32⟩
  | 119 => ⟨S_, .f32⟩
  | 120 => ⟨S4096, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_1 (i : Nat) : BufTy := match i % 128 with
  | 0 => ⟨S4096x1, .f32⟩
  | 1 => ⟨S4096x1, .f32⟩
  | 2 => ⟨S_, .f32⟩
  | 3 => ⟨S4096x1, .f32⟩
  | 4 => ⟨S4096x1, .f32⟩
  | 5 => ⟨S4096x1024, .f32⟩
  | 6 => ⟨S4096x1024, .f32⟩
  | 7 => ⟨S4096x1024, .f32⟩
  | 8 => ⟨S4096x1024, .f32⟩
  | 9 => ⟨S4096x5632, .f32⟩
  | 10 => ⟨S4096x1024, .f32⟩
  | 11 => ⟨S4096x1024, .f32⟩
  | 12 => ⟨S_, .f32⟩
  | 13 => ⟨S1024, .f32⟩
  | 14 => ⟨S1x1024, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S4096x1024, .f32⟩
  | 22 => ⟨S4096x1024, .f32⟩
  | 23 => ⟨S4096x1024, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x4x704, .f32⟩
  | 36 => ⟨S4x4096x704, .f32⟩
  | 37 => ⟨S4x4096x704, .bf16⟩
  | 38 => ⟨S3x2x4x704, .f32⟩
  | 39 => ⟨S4x2x3x704, .f32⟩
  | 40 => ⟨S4096x2x4x704, .f32⟩
  | 41 => ⟨S4x2x4096x704, .f32⟩
  | 42 => ⟨S4x2x4096x704, .bf16⟩
  | 43 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_call1_cst_1 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_v11_0 : Ref sig .tc := ⟨.hbm, 41, rfl⟩
abbrev main_call1_v11 : Ref sig .tc := ⟨.hbm, 42, rfl⟩
abbrev main_call1_v12 : Ref sig .tc := ⟨.hbm, 43, rfl⟩
abbrev main_v11_1 : Ref sig .tc := ⟨.hbm, 44, rfl⟩
abbrev main_v12 : Ref sig .tc := ⟨.hbm, 45, rfl⟩
abbrev main_v13 : Ref sig .tc := ⟨.hbm, 46, rfl⟩
abbrev main_cst_0 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_1 : Ref sig .tc := ⟨.hbm, 60, rfl⟩
abbrev main_v26 : Ref sig .tc := ⟨.hbm, 61, rfl⟩
abbrev main_v27 : Ref sig .tc := ⟨.hbm, 62, rfl⟩
abbrev main_cst_2 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_3 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_4 : Ref sig .tc := ⟨.hbm, 85, rfl⟩
abbrev main_v48 : Ref sig .tc := ⟨.hbm, 86, rfl⟩
abbrev main_v49 : Ref sig .tc := ⟨.hbm, 87, rfl⟩
abbrev main_cst_5 : Ref sig .tc := ⟨.hbm, 88, rfl⟩
abbrev main_v50 : Ref sig .tc := ⟨.hbm, 89, rfl⟩
abbrev main_cst_6 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_7 : Ref sig .tc := ⟨.hbm, 95, rfl⟩
abbrev main_v55 : Ref sig .tc := ⟨.hbm, 96, rfl⟩
abbrev main_v56 : Ref sig .tc := ⟨.hbm, 97, rfl⟩
abbrev main_cst_8 : Ref sig .tc := ⟨.hbm, 98, rfl⟩
abbrev main_v57 : Ref sig .tc := ⟨.hbm, 99, rfl⟩
abbrev main_v58 : Ref sig .tc := ⟨.hbm, 100, rfl⟩
abbrev main_cst_9 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_10 : Ref sig .tc := ⟨.hbm, 107, rfl⟩
abbrev main_v64 : Ref sig .tc := ⟨.hbm, 108, rfl⟩
abbrev main_v65 : Ref sig .tc := ⟨.hbm, 109, rfl⟩
abbrev main_cst_11 : Ref sig .tc := ⟨.hbm, 110, rfl⟩
abbrev main_v66 : Ref sig .tc := ⟨.hbm, 111, rfl⟩
abbrev main_v67 : Ref sig .tc := ⟨.hbm, 112, rfl⟩
abbrev main_cst_12 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_13 : Ref sig .tc := ⟨.hbm, 119, rfl⟩
abbrev main_v73 : Ref sig .tc := ⟨.hbm, 120, rfl⟩
abbrev main_v74 : Ref sig .tc := ⟨.hbm, 121, rfl⟩
abbrev main_cst_14 : Ref sig .tc := ⟨.hbm, 122, rfl⟩
abbrev main_v75 : Ref sig .tc := ⟨.hbm, 123, rfl⟩
abbrev main_v76 : Ref sig .tc := ⟨.hbm, 124, rfl⟩
abbrev main_cst_15 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_16 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_17 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_18 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_19 : Ref sig .tc := ⟨.hbm, 153, rfl⟩
abbrev main_v101 : Ref sig .tc := ⟨.hbm, 154, rfl⟩
abbrev main_v102 : Ref sig .tc := ⟨.hbm, 155, rfl⟩
abbrev main_cst_20 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel13.lean ====
abbrev S4096x3072 : Shape := ⟨2, ![4096, 3072]⟩
abbrev S3x1024 : Shape := ⟨2, ![3, 1024]⟩
abbrev S1024x1024 : Shape := ⟨2, ![1024, 1024]⟩
abbrev S4096x1024 : Shape := ⟨2, ![4096, 1024]⟩
abbrev S1x1024 : Shape := ⟨2, ![1, 1024]⟩
abbrev S512x3072 : Shape := ⟨2, ![512, 3072]⟩
abbrev S16x1024 : Shape := ⟨2, ![16, 1024]⟩
abbrev S512x1024 : Shape := ⟨2, ![512, 1024]⟩
abbrev S528x1024 : Shape := ⟨2, ![528, 1024]⟩
abbrev S512 : Shape := ⟨1, ![512]⟩
abbrev S512x1 : Shape := ⟨2, ![512, 1]⟩

abbrev nBuf : Space → Nat
  | .hbm => 8
  | .vmem => 17
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .local _ .vmem, ⟨0, _⟩ => ⟨S512x3072, .bf16⟩
  | .local _ .vmem, ⟨1, _⟩ => ⟨S512x3072, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S3x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S4096x3072 : Shape := ⟨2, ![4096, 3072]⟩
abbrev S3x1024 : Shape := ⟨2, ![3, 1024]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S2x1024 : Shape := ⟨2, ![2, 1024]⟩
abbrev S4098x1024 : Shape := ⟨2, ![4098, 1024]⟩
abbrev S4096 : Shape := ⟨1, ![4096]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S4096x3072, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S2x1024, .f32⟩
  | .hbm, ⟨12, _⟩ => ⟨S4098x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1024x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel14.lean ====
abbrev S4096x1024 : Shape := ⟨2, ![4096, 1024]⟩
abbrev S4096x3072 : Shape := ⟨2, ![4096, 3072]⟩
abbrev S8x1024x384 : Shape := ⟨3, ![8, 1024, 384]⟩
abbrev S3x512x1024 : Shape := ⟨3, ![3, 512, 1024]⟩
abbrev S3x512x3072 : Shape := ⟨3, ![3, 512, 3072]⟩
abbrev S1024x3072 : Shape := ⟨2, ![1024, 3072]⟩
abbrev S2x3 : Shape := ⟨2, ![2, 3]⟩
abbrev S1x1 : Shape := ⟨2, ![1, 1]⟩
abbrev S_ : Shape := ⟨0, ![]⟩
abbrev S1x512x1024 : Shape := ⟨3, ![1, 512, 1024]⟩
abbrev S512x1024 : Shape := ⟨2, ![512, 1024]⟩
abbrev S1x512x3072 : Shape := ⟨3, ![1, 512, 3072]⟩
abbrev S512x3072 : Shape := ⟨2, ![512, 3072]⟩
abbrev S1024x384 : Shape := ⟨2, ![1024, 384]⟩
abbrev S1x1024x384 : Shape := ⟨3, ![1, 1024, 384]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S8x1024x384, .bf16⟩
  | .local _ .vmem, ⟨0, _⟩ => ⟨S8x1024x384, .bf16⟩
  | .local _ .vmem, ⟨1, _⟩ => ⟨S3x512x1024, .bf16⟩
  | .local _ .vmem, ⟨2, _⟩ => ⟨S3x512x3072, .bf16⟩
  | .local _ .vmem, ⟨3, _⟩ => ⟨S1024x3072, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_38 : BitVec 32 := 0#32
  let c8_i32 : BitVec 32 := 8#32
  let v34 : BitVec 32 := Scalar.addi c0_i32_38 c8_i32
  let c1_i32_39 : BitVec 32 := 1#32
  ⟨c0_i32_38, v34, c1_i32_39⟩
def k0_off1 (k0_t1 : Fin k0_t1_loop.trips) : Fin 2 → Nat :=
  let c0_i32_73 : BitVec 32 := 0#32
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  ![0, v84.toNat]
def k0_off2 (k0_t1 : Fin k0_t1_loop.trips) : Fin 3 → Nat :=
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  let c0_i32_74 : BitVec 32 := 0#32
  let c0_i32_75 : BitVec 32 := 0#32
  ![v84.toNat, 0, 0]
def k0_off3 (k0_t1 : Fin k0_t1_loop.trips) : Fin 2 → Nat :=
  let c0_i32_38 : BitVec 32 := 0#32
  let c1_i32_39 : BitVec 32 := 1#32
  let arg7 : BitVec 32 := Scf.iv c0_i32_38 c1_i32_39 k0_t1
  let c512_i32_72 : BitVec 32 := 512#32
  let v85 : BitVec 32 := Scalar.muli arg7 c512_i32_72
  let c0_i32_76 : BitVec 32 := 0#32
  ![v85.toNat, 0]
def k0_off4 (k0_t1 : Fin k0_t1_loop.trips) : Fin 2 → Nat :=
  let c1_i32_77 : BitVec 32 := 1#32
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  ![1, v84.toNat]
def k0_off5 (k0_t1 : Fin k0_t1_loop.trips) : Fin 3 → Nat :=
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  let c0_i32_78 : BitVec 32 := 0#32
  let c0_i32_79 : BitVec 32 := 0#32
  ![v84.toNat, 0, 0]
def k0_off6 (k0_t1 : Fin k0_t1_loop.trips) : Fin 2 → Nat :=
  let c0_i32_38 : BitVec 32 := 0#32
  let c1_i32_39 : BitVec 32 := 1#32
  let arg7 : BitVec 32 := Scf.iv c0_i32_38 c1_i32_39 k0_t1
  let c512_i32_72 : BitVec 32 := 512#32
  let v85 : BitVec 32 := Scalar.muli arg7 c512_i32_72
  let c0_i32_80 : BitVec 32 := 0#32
  ![v85.toNat, 0]
def k0_off7 (k0_t1 : Fin k0_t1_loop.trips) : Fin 3 → Nat :=
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  let v97 : Index := Scalar.indexCast v84
  let c0_83 : Index := 0#32
  let c0_84 : Index := 0#32
  ![v97.toNat, 0, 0]
def k0_off8 (k0_t1 : Fin k0_t1_loop.trips) : Fin 3 → Nat :=
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  let v100 : Index := Scalar.indexCast v84
  let c0_85 : Index := 0#32
  let c0_86 : Index := 0#32
  ![v100.toNat, 0, 0]
def k0_cond1 (k0_t1 : Fin k0_t1_loop.trips) : BitVec 1 :=
  let c0_i32_38 : BitVec 32 := 0#32
  let c1_i32_39 : BitVec 32 := 1#32
  let arg7 : BitVec 32 := Scf.iv c0_i32_38 c1_i32_39 k0_t1
  let c3_i32_90 : BitVec 32 := 3#32
  let v108 : BitVec 32 := Scalar.addi arg7 c3_i32_90
  let c8_i32_91 : BitVec 32 := 8#32
  let v109 : BitVec 1 := Scalar.cmpi .slt v108 c8_i32_91
  let v110 : BitVec 32 := Scalar.extui v109
  let c0_i32_92 : BitVec 32 := 0#32
  let v111 : BitVec 1 := Scalar.cmpi .ne v110 c0_i32_92
  v111

def k0_off9 (k0_t1 : Fin k0_t1_loop.trips) : Fin 2 → Nat :=
  let c0_i32_95 : BitVec 32 := 0#32
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  ![0, v84.toNat]
def k0_off10 (k0_t1 : Fin k0_t1_loop.trips) : Fin 3 → Nat :=
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  let c0_i32_96 : BitVec 32 := 0#32
  let c0_i32_97 : BitVec 32 := 0#32
  ![v84.toNat, 0, 0]
def k0_off11 (k0_t1 : Fin k0_t1_loop.trips) : Fin 2 → Nat :=
  let c0_i32_38 : BitVec 32 := 0#32
  let c1_i32_39 : BitVec 32 := 1#32
  let arg7 : BitVec 32 := Scf.iv c0_i32_38 c1_i32_39 k0_t1
  let c3_i32_93 : BitVec 32 := 3#32
  let v112 : BitVec 32 := Scalar.addi arg7 c3_i32_93
  let c512_i32_94 : BitVec 32 := 512#32
  let v113 : BitVec 32 := Scalar.muli v112 c512_i32_94
  let c0_i32_98 : BitVec 32 := 0#32
  ![v113.toNat, 0]
def k0_off12 (k0_t1 : Fin k0_t1_loop.trips) : Fin 2 → Nat :=
  let c1_i32_99 : BitVec 32 := 1#32
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  ![1, v84.toNat]
def k0_off13 (k0_t1 : Fin k0_t1_loop.trips) : Fin 3 → Nat :=
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  let c0_i32_100 : BitVec 32 := 0#32
  let c0_i32_101 : BitVec 32 := 0#32
  ![v84.toNat, 0, 0]
def k0_off14 (k0_t1 : Fin k0_t1_loop.trips) : Fin 2 → Nat :=
  let c0_i32_38 : BitVec 32 := 0#32
  let c1_i32_39 : BitVec 32 := 1#32
  let arg7 : BitVec 32 := Scf.iv c0_i32_38 c1_i32_39 k0_t1
  let c3_i32_93 : BitVec 32 := 3#32
  let v112 : BitVec 32 := Scalar.addi arg7 c3_i32_93
  let c512_i32_94 : BitVec 32 := 512#32
  let v113 : BitVec 32 := Scalar.muli v112 c512_i32_94
  let c0_i32_102 : BitVec 32 := 0#32
  ![v113.toNat, 0]
abbrev stage0_0 : Fin 1 → Memref sig .tc .vmem S8x1024x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference14Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S4096x3072, .f32⟩
  | .hbm, ⟨4, _⟩ => ⟨S_, .f32⟩
  | .hbm, ⟨5, _⟩ => ⟨S1024x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x8x384, .f32⟩
  | .hbm, ⟨10, _⟩ => ⟨S8x1024x384, .f32⟩
  | .hbm, ⟨11, _⟩ => ⟨S8x1024x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel15.lean ====
abbrev S4096x1024 : Shape := ⟨2, ![4096, 1024]⟩
abbrev S4096x2048 : Shape := ⟨2, ![4096, 2048]⟩
abbrev S8x1024x256 : Shape := ⟨3, ![8, 1024, 256]⟩
abbrev S3x512x1024 : Shape := ⟨3, ![3, 512, 1024]⟩
abbrev S3x512x2048 : Shape := ⟨3, ![3, 512, 2048]⟩
abbrev S1024x2048 : Shape := ⟨2, ![1024, 2048]⟩
abbrev S2x3 : Shape := ⟨2, ![2, 3]⟩
abbrev S1x1 : Shape := ⟨2, ![1, 1]⟩
abbrev S_ : Shape := ⟨0, ![]⟩
abbrev S1x512x1024 : Shape := ⟨3, ![1, 512, 1024]⟩
abbrev S512x1024 : Shape := ⟨2, ![512, 1024]⟩
abbrev S1x512x2048 : Shape := ⟨3, ![1, 512, 2048]⟩
abbrev S512x2048 : Shape := ⟨2, ![512, 2048]⟩
abbrev S1024x256 : Shape := ⟨2, ![1024, 256]⟩
abbrev S1x1024x256 : Shape := ⟨3, ![1, 1024, 256]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S8x1024x256, .bf16⟩
  | .local _ .vmem, ⟨1, _⟩ => ⟨S3x512x1024, .bf16⟩
  | .local _ .vmem, ⟨2, _⟩ => ⟨S3x512x2048, .bf16⟩
  | .local _ .vmem, ⟨3, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_38 : BitVec 32 := 0#32
  let c8_i32 : BitVec 32 := 8#32
  let v34 : BitVec 32 := Scalar.addi c0_i32_38 c8_i32
  let c1_i32_39 : BitVec 32 := 1#32
  ⟨c0_i32_38, v34, c1_i32_39⟩
def k0_off1 (k0_t1 : Fin k0_t1_loop.trips) : Fin 2 → Nat :=
  let c0_i32_73 : BitVec 32 := 0#32
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  ![0, v84.toNat]
def k0_off2 (k0_t1 : Fin k0_t1_loop.trips) : Fin 3 → Nat :=
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  let c0_i32_74 : BitVec 32 := 0#32
  let c0_i32_75 : BitVec 32 := 0#32
  ![v84.toNat, 0, 0]
def k0_off3 (k0_t1 : Fin k0_t1_loop.trips) : Fin 2 → Nat :=
  let c0_i32_38 : BitVec 32 := 0#32
  let c1_i32_39 : BitVec 32 := 1#32
  let arg7 : BitVec 32 := Scf.iv c0_i32_38 c1_i32_39 k0_t1
  let c512_i32_72 : BitVec 32 := 512#32
  let v85 : BitVec 32 := Scalar.muli arg7 c512_i32_72
  let c0_i32_76 : BitVec 32 := 0#32
  ![v85.toNat, 0]
def k0_off4 (k0_t1 : Fin k0_t1_loop.trips) : Fin 2 → Nat :=
  let c1_i32_77 : BitVec 32 := 1#32
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  ![1, v84.toNat]
def k0_off5 (k0_t1 : Fin k0_t1_loop.trips) : Fin 3 → Nat :=
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  let c0_i32_78 : BitVec 32 := 0#32
  let c0_i32_79 : BitVec 32 := 0#32
  ![v84.toNat, 0, 0]
def k0_off6 (k0_t1 : Fin k0_t1_loop.trips) : Fin 2 → Nat :=
  let c0_i32_38 : BitVec 32 := 0#32
  let c1_i32_39 : BitVec 32 := 1#32
  let arg7 : BitVec 32 := Scf.iv c0_i32_38 c1_i32_39 k0_t1
  let c512_i32_72 : BitVec 32 := 512#32
  let v85 : BitVec 32 := Scalar.muli arg7 c512_i32_72
  let c0_i32_80 : BitVec 32 := 0#32
  ![v85.toNat, 0]
def k0_off7 (k0_t1 : Fin k0_t1_loop.trips) : Fin 3 → Nat :=
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  let v97 : Index := Scalar.indexCast v84
  let c0_83 : Index := 0#32
  let c0_84 : Index := 0#32
  ![v97.toNat, 0, 0]
def k0_off8 (k0_t1 : Fin k0_t1_loop.trips) : Fin 3 → Nat :=
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  let v100 : Index := Scalar.indexCast v84
  let c0_85 : Index := 0#32
  let c0_86 : Index := 0#32
  ![v100.toNat, 0, 0]
def k0_cond1 (k0_t1 : Fin k0_t1_loop.trips) : BitVec 1 :=
  let c0_i32_38 : BitVec 32 := 0#32
  let c1_i32_39 : BitVec 32 := 1#32
  let arg7 : BitVec 32 := Scf.iv c0_i32_38 c1_i32_39 k0_t1
  let c3_i32_90 : BitVec 32 := 3#32
  let v108 : BitVec 32 := Scalar.addi arg7 c3_i32_90
  let c8_i32_91 : BitVec 32 := 8#32
  let v109 : BitVec 1 := Scalar.cmpi .slt v108 c8_i32_91
  let v110 : BitVec 32 := Scalar.extui v109
  let c0_i32_92 : BitVec 32 := 0#32
  let v111 : BitVec 1 := Scalar.cmpi .ne v110 c0_i32_92
  v111

def k0_off9 (k0_t1 : Fin k0_t1_loop.trips) : Fin 2 → Nat :=
  let c0_i32_95 : BitVec 32 := 0#32
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  ![0, v84.toNat]
def k0_off10 (k0_t1 : Fin k0_t1_loop.trips) : Fin 3 → Nat :=
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  let c0_i32_96 : BitVec 32 := 0#32
  let c0_i32_97 : BitVec 32 := 0#32
  ![v84.toNat, 0, 0]
def k0_off11 (k0_t1 : Fin k0_t1_loop.trips) : Fin 2 → Nat :=
  let c0_i32_38 : BitVec 32 := 0#32
  let c1_i32_39 : BitVec 32 := 1#32
  let arg7 : BitVec 32 := Scf.iv c0_i32_38 c1_i32_39 k0_t1
  let c3_i32_93 : BitVec 32 := 3#32
  let v112 : BitVec 32 := Scalar.addi arg7 c3_i32_93
  let c512_i32_94 : BitVec 32 := 512#32
  let v113 : BitVec 32 := Scalar.muli v112 c512_i32_94
  let c0_i32_98 : BitVec 32 := 0#32
  ![v113.toNat, 0]
def k0_off12 (k0_t1 : Fin k0_t1_loop.trips) : Fin 2 → Nat :=
  let c1_i32_99 : BitVec 32 := 1#32
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  ![1, v84.toNat]
def k0_off13 (k0_t1 : Fin k0_t1_loop.trips) : Fin 3 → Nat :=
  let c0_i32_38 : BitVec 32 := 0#32
  let c1_i32_39 : BitVec 32 := 1#32
  let arg7 : BitVec 32 := Scf.iv c0_i32_38 c1_i32_39 k0_t1
  let c3_i32 : BitVec 32 := 3#32
  let c0_i32_67 : BitVec 32 := 0#32
  let v75 : BitVec 1 := Scalar.cmpi .eq c3_i32 c0_i32_67
  let c1_i32_68 : BitVec 32 := 1#32
  let v76 : BitVec 32 := Scalar.select v75 c1_i32_68 c3_i32
  let v77 : BitVec 32 := Scalar.remsi arg7 v76
  let c0_i32_70 : BitVec 32 := 0#32
  let v79 : BitVec 1 := Scalar.cmpi .slt v77 c0_i32_70
  let c0_i32_71 : BitVec 32 := 0#32
  let v80 : BitVec 1 := Scalar.cmpi .slt v76 c0_i32_71
  let v81 : BitVec 1 := Scalar.xori v79 v80
  let c0_i32_69 : BitVec 32 := 0#32
  let v78 : BitVec 1 := Scalar.cmpi .ne v77 c0_i32_69
  let v82 : BitVec 1 := Scalar.andi v81 v78
  let v83 : BitVec 32 := Scalar.addi v77 v76
  let v84 : BitVec 32 := Scalar.select v82 v83 v77
  let c0_i32_100 : BitVec 32 := 0#32
  let c0_i32_101 : BitVec 32 := 0#32
  ![v84.toNat, 0, 0]
def k0_off14 (k0_t1 : Fin k0_t1_loop.trips) : Fin 2 → Nat :=
  let c0_i32_38 : BitVec 32 := 0#32
  let c1_i32_39 : BitVec 32 := 1#32
  let arg7 : BitVec 32 := Scf.iv c0_i32_38 c1_i32_39 k0_t1
  let c3_i32_93 : BitVec 32 := 3#32
  let v112 : BitVec 32 := Scalar.addi arg7 c3_i32_93
  let c512_i32_94 : BitVec 32 := 512#32
  let v113 : BitVec 32 := Scalar.muli v112 c512_i32_94
  let c0_i32_102 : BitVec 32 := 0#32
  ![v113.toNat, 0]
abbrev stage0_0 : Fin 1 → Memref sig .tc .vmem S8x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference15Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Spec.lean ====
/-
  The backward pass of a row's norm, on rows of extended reals: the form that factors the scale out of the difference
  and the form that adds the two halves of the scale's derivative one after the other have the same value.

  Matrices read at pairs of natural numbers: an entry inside the extents is the array's, an entry outside is zero.
  The gradients below are written over these, so that a tile's row `512 * i + r` and a row shifted by a halo are plain
  arithmetic and the zero padding of a convolution is the zero outside.

  The gradient of a norm followed by a projection, row by row: the cotangent of the norm's output is the cotangent of the
  projection times the transposed weight, whose columns are stored in eight groups.

  The feed-forward layer's formulas, over the sixteen zero rows put above its input: the two halves `0` (gate) and `1`
  (value) of a group of hidden columns, each after its three-tap convolution, and the group's share of the output.

  The gradient of the gated feed-forward and of the norm before it, entry by entry, over arrays stored by group of hidden
  columns and half (`0` the gate, `1` the value): `df` the cotangent of the layer's output, `u` and `uc` the up projection
  before and after the convolution, `w` its weight, `cw` the taps, `wd` the down projection, `x` the norm's input, `gn` its
  gain. A row below the last token holds zero.
-/
module

public import Idealize.ShloMosaic.Lib.Pointwise
public import Idealize.ShloMosaic.Lib.IdealHost
public import Idealize.ShloMosaic.Lib.Pipeline.ValueKit

@[expose] public section

set_option maxRecDepth 16384

noncomputable section

namespace Cert

namespace Rms

open Idealize.ShloMosaic

/-- A real factor that is not negative goes through a finite sum. -/
theorem coe_mul_sum {ι : Type} (s : Finset ι) (f : ι → EReal) (r : ℝ) (hr : 0 ≤ r) :
    ∑ i ∈ s, (r : EReal) * f i = (r : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.mpr hr) (EReal.coe_ne_top r)]

/-- A square is not negative. -/
theorem square_nonneg (x : EReal) : 0 ≤ x * x := by
  induction x with
  | bot => rw [EReal.bot_mul_bot]; exact le_top
  | coe a => rw [← EReal.coe_mul]; exact EReal.coe_nonneg.mpr (mul_self_nonneg a)
  | top => rw [EReal.top_mul_top]; exact le_top

/-- A number added to itself. -/
theorem twice (x : EReal) : x + x = x * ((2 : ℝ) : EReal) := by
  induction x with
  | bot => rw [EReal.bot_mul_coe_of_pos (by norm_num)]; rfl
  | coe a => rw [← EReal.coe_mul, ← EReal.coe_add, mul_two]
  | top => rw [EReal.top_mul_coe_of_pos (by norm_num)]; rfl

/-- The constant 1024. -/
theorem c1024 : Ideal.ofBits .f32 0x44800000#32 = ((1024 : ℝ) : EReal) := by
  simp [Ideal.ofBits, Ideal.ieee, -EReal.coe_mul]; norm_num

/-- The constant -1/2. -/
theorem cnhalf : Ideal.ofBits .f32 0xBF000000#32 = ((-(1 / 2) : ℝ) : EReal) := by
  simp [Ideal.ofBits, Ideal.ieee, -EReal.coe_mul, -EReal.coe_neg]; norm_num

/-- The constant 1/2. -/
theorem chalf : Ideal.ofBits .f32 0x3F000000#32 = ((1 / 2 : ℝ) : EReal) := by
  simp [Ideal.ofBits, Ideal.ieee, -EReal.coe_mul]; norm_num

/-- The constant 2. -/
theorem ctwo : Ideal.ofBits .f32 0x40000000#32 = ((2 : ℝ) : EReal) := by
  simp [Ideal.ofBits, Ideal.ieee, -EReal.coe_mul]; norm_num

/-- The constant 1/1024. -/
theorem cinv : Ideal.ofBits .f32 0x3A800000#32 = ((1 / 1024 : ℝ) : EReal) := by
  simp [Ideal.ofBits, Ideal.ieee, -EReal.coe_mul]; norm_num

/-- The norm's small constant is a positive real. -/
theorem ceps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- A row's mean square plus the small constant. -/
def var (X : Fin 1024 → EReal) : EReal :=
  Ideal.div (∑ k, X k * X k) (Ideal.ofBits .f32 0x44800000#32) + Ideal.ofBits .f32 0x358637BD#32

/-- A row's scale. -/
def scale (X : Fin 1024 → EReal) : EReal := Ideal.rsqrt (var X)

/-- The mean of the scaled row against the cotangent. -/
def mean (X U : Fin 1024 → EReal) : EReal :=
  Ideal.div (∑ k, U k * (X k * scale X)) (Ideal.ofBits .f32 0x44800000#32)

/-- The cotangent of the row, the scale factored out. -/
def back (X U : Fin 1024 → EReal) (j : Fin 1024) : EReal := scale X * (U j - (X j * scale X) * mean X U)

/-- Half the derivative through the scale, per unit of the row. -/
def half (X U : Fin 1024 → EReal) : EReal :=
  Ideal.div ((∑ k, X k * U k) * (Ideal.ofBits .f32 0xBF000000#32 * Ideal.div (scale X) (var X)))
    (Ideal.ofBits .f32 0x44800000#32)

variable (X U : Fin 1024 → EReal)

/-- A row's mean square plus the small constant is infinite or a positive real. -/
theorem var_cases : var X = ⊤ ∨ ∃ v : ℝ, 0 < v ∧ var X = (v : EReal) := by
  obtain ⟨e, he, hc⟩ := ceps
  have hn : 0 ≤ ∑ k, X k * X k := Finset.sum_nonneg fun k _ => square_nonneg _
  unfold var
  rw [c1024, Ideal.div_coe (by norm_num), hc]
  generalize ∑ k, X k * X k = s at hn
  induction s with
  | bot => exact absurd hn (by decide)
  | coe a =>
    refine Or.inr ⟨a * (1 / 1024) + e, ?_, by rw [← EReal.coe_mul, ← EReal.coe_add]⟩
    have : 0 ≤ a := EReal.coe_nonneg.mp hn
    positivity
  | top => exact Or.inl (by rw [EReal.top_mul_coe_of_pos (by norm_num), EReal.top_add_coe])

/-- The row's cotangent is the direct part and twice the half through the scale. -/
theorem back_eq (j : Fin 1024) : back X U j = U j * scale X + X j * half X U + half X U * X j := by
  rcases var_cases X with hv | ⟨v, hp, hv⟩
  · have hs : scale X = 0 := by unfold scale; rw [hv]; exact Ideal.rsqrt_top
    have hd : Ideal.div 0 ⊤ = 0 := by simp [Ideal.div]
    have hh : half X U = 0 := by
      unfold half
      rw [hs, hv, hd, mul_zero, mul_zero, c1024, Ideal.div_coe (by norm_num), zero_mul]
    unfold back
    rw [hh, hs, zero_mul, mul_zero, mul_zero, zero_mul, add_zero, add_zero]
  · have hs : scale X = (((Real.sqrt v)⁻¹ : ℝ) : EReal) := by
      unfold scale
      rw [hv, Ideal.rsqrt_coe, if_neg (not_lt.mpr hp.le), if_neg hp.ne']
    have hr : (Real.sqrt v)⁻¹ * (Real.sqrt v)⁻¹ = 1 / v := by
      rw [← mul_inv, Real.mul_self_sqrt hp.le, one_div]
    have h0 : 0 ≤ (Real.sqrt v)⁻¹ := inv_nonneg.mpr (Real.sqrt_nonneg v)
    generalize (Real.sqrt v)⁻¹ = r at hs hr h0
    have hm : mean X U = (r : EReal) * (∑ k, X k * U k) * ((1 / 1024 : ℝ) : EReal) := by
      unfold mean
      rw [c1024, Ideal.div_coe (by norm_num), hs, ← coe_mul_sum _ _ r h0]
      exact congrArg (· * _) (Finset.sum_congr rfl fun k _ => by ac_rfl)
    have hh : half X U = (∑ k, X k * U k) * ((-(1 / 2) * (r * (1 / v)) * (1 / 1024) : ℝ) : EReal) := by
      unfold half
      rw [c1024, Ideal.div_coe (by norm_num), hs, hv, Ideal.div_coe hp.ne', cnhalf]
      simp only [EReal.coe_mul, mul_assoc]
    unfold back
    rw [hm, hh, hs, sub_eq_add_neg, EReal.left_distrib_of_nonneg_of_ne_top (EReal.coe_nonneg.mpr h0) (EReal.coe_ne_top r)]
    generalize ∑ k, X k * U k = z
    have e1 : (r : EReal) * -(X j * (r : EReal) * ((r : EReal) * z * ((1 / 1024 : ℝ) : EReal)))
        = X j * z * ((-(r * r * r * (1 / 1024)) : ℝ) : EReal) := by
      rw [EReal.coe_neg, mul_neg, mul_neg]
      simp only [EReal.coe_mul]
      exact congrArg Neg.neg (by ac_rfl)
    have e2 : z * ((-(1 / 2) * (r * (1 / v)) * (1 / 1024) : ℝ) : EReal) * X j
        = X j * (z * ((-(1 / 2) * (r * (1 / v)) * (1 / 1024) : ℝ) : EReal)) := mul_comm _ _
    rw [e1, e2, add_assoc, twice, mul_comm (r : EReal) (U j)]
    refine congrArg (fun p : EReal => U j * r + p) ?_
    rw [← mul_assoc, mul_assoc (X j * z), ← EReal.coe_mul, ← hr]
    exact congrArg (fun a : ℝ => X j * z * (a : EReal)) (by ring)

end Rms

namespace Mat

open Idealize.ShloMosaic

/-- Position `i` lies in block `k` of blocks of `B`. -/
abbrev In (k B i : ℕ) : Prop := k * B ≤ i ∧ i < k * B + B
/-- Zero offsets, as a constant function. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- An index is its coordinates. -/
theorem ix2_of {a b : ℕ} (y : (⟨2, ![a, b]⟩ : Shape).Idx) : ∃ (r : Fin a) (q : Fin b), y = ix2 r q := ⟨y 0, y 1, eq_ix2 y⟩
theorem ix3_of {a b d : ℕ} (y : (⟨3, ![a, b, d]⟩ : Shape).Idx) : ∃ (r : Fin a) (q : Fin b) (s : Fin d), y = ix3 r q s :=
  ⟨y 0, y 1, y 2, eq_ix3 y⟩
theorem ix4_of {a b d e : ℕ} (y : (⟨4, ![a, b, d, e]⟩ : Shape).Idx) :
    ∃ (r : Fin a) (q : Fin b) (s : Fin d) (t : Fin e), y = ix4 r q s t := ⟨y 0, y 1, y 2, y 3, eq_ix4 y⟩

/-- The entry `(t, j)` of a matrix, zero outside its extents. -/
def at2 {R C : ℕ} (A : (⟨2, ![R, C]⟩ : Shape).Idx → EReal) (t j : ℕ) : EReal :=
  if h : t < R ∧ j < C then A (ix2 ⟨t, h.1⟩ ⟨j, h.2⟩) else 0

variable {R C : ℕ} (A : (⟨2, ![R, C]⟩ : Shape).Idx → EReal)

/-- An entry of the array, as the entry at its coordinates' values. -/
theorem at2_ix (a : Fin R) (b : Fin C) : A (ix2 a b) = at2 A a b := by
  simp [at2, a.isLt, b.isLt]

/-- An entry of the array at an index whose coordinates are `t` and `j`. -/
theorem at2_of (i : (⟨2, ![R, C]⟩ : Shape).Idx) (t j : ℕ) (ht : (i 0).val = t) (hj : (i 1).val = j) :
    A i = at2 A t j := by
  subst ht hj; exact (congrArg A (eq_ix2 i)).trans (at2_ix A (i 0) (i 1))

/-- Below the last row there is nothing. -/
theorem at2_rows (t j : ℕ) (h : R ≤ t) : at2 A t j = 0 := by
  simp [at2, Nat.not_lt.mpr h]

/-- A select on a bit that says `P` is the conditional on `P`. -/
theorem select_iff {α : Type} {c : BitVec 1} {P : Prop} [Decidable P] (h : c = 1#1 ↔ P) (a b : α) :
    Scalar.select c a b = if P then a else b := by
  unfold Scalar.select
  by_cases hp : P
  · rw [if_pos hp]; exact if_pos (h.mpr hp)
  · rw [if_neg hp]; exact if_neg (fun e => hp (h.mp e))

end Mat

namespace InGrad

open Idealize.ShloMosaic

/-- One entry of the cotangent of the norm's output: a row of the projection's cotangent times a row of the weight. -/
def dh {B : ℕ} (a : ℕ → EReal) (w : Fin 8 → Fin B → EReal) : EReal := ∑ b : Fin 8, ∑ k : Fin B, a (B * b.val + k.val) * w b k

/-- One entry of the input's cotangent: the residual's plus what comes back through the norm. -/
def dx (d : EReal) (h x g : Fin 1024 → EReal) (q : Fin 1024) : EReal := d + Rms.back x (fun k => h k * g k) q

/-- One row's part of the gain's gradient. -/
def dg (h x : Fin 1024 → EReal) (q : Fin 1024) : EReal := h q * (x q * Rms.scale x)

/-- The product over all columns, group by group. -/
theorem dh_flat {B N : ℕ} (hB : 0 < B) (hN : N = 8 * B) (a : ℕ → EReal) (w : Fin 8 → Fin B → EReal) :
    ∑ x : Fin N, a x.val * w ⟨x.val / B, Nat.div_lt_of_lt_mul (by have := x.isLt; rw [Nat.mul_comm]; omega)⟩
      ⟨x.val % B, Nat.mod_lt _ hB⟩ = dh a w := by
  subst hN
  unfold dh
  refine (Equiv.sum_comp (finProdFinEquiv (m := 8) (n := B)) _).symm.trans ?_
  rw [Fintype.sum_prod_type]
  refine Finset.sum_congr rfl fun b _ => Finset.sum_congr rfl fun k _ => ?_
  have e : (finProdFinEquiv (b, k)).val = B * b.val + k.val := by
    show k.val + B * b.val = _
    omega
  refine congrArg₂ (fun p q : EReal => p * q) (congrArg a e) (congrArg₂ w (Fin.ext ?_) (Fin.ext ?_))
  · show (finProdFinEquiv (b, k)).val / B = b.val
    rw [e, Nat.mul_add_div hB, Nat.div_eq_of_lt k.isLt, Nat.add_zero]
  · show (finProdFinEquiv (b, k)).val % B = k.val
    rw [e, Nat.mul_add_mod, Nat.mod_eq_of_lt k.isLt]

/-- A sum over the tokens, tile by tile. -/
theorem sum_tiles (f : ℕ → EReal) :
    ∑ k ∈ Finset.range 8, ∑ r : Fin 512, f (512 * k + r.val) = ∑ t : Fin 4096, f t.val := by
  have e := (Equiv.sum_comp (finProdFinEquiv (m := 8) (n := 512)) fun t : Fin 4096 => f t.val).symm
  refine Eq.trans ?_ e.symm
  rw [Fintype.sum_prod_type, Finset.sum_range]
  refine Finset.sum_congr rfl fun g _ => Finset.sum_congr rfl fun j _ => congrArg f ?_
  show 512 * g.val + j.val = j.val + 512 * g.val
  omega

end InGrad

namespace Ffn

open Idealize.ShloMosaic

/-- The layer's input with sixteen zero rows above it: row `s` is the input's row `s - 16`. -/
def padded (h : (⟨2, ![4096, 1024]⟩ : Shape).Idx → EReal) (s : ℕ) (k : Fin 1024) : EReal :=
  if 16 ≤ s then Mat.at2 h (s - 16) k else 0

variable (H : ℕ → Fin 1024 → EReal) (W : Fin 2 → Fin 1024 → Fin 704 → EReal) (C : Fin 2 → Fin 3 → Fin 704 → EReal)

/-- The up projection of the padded row `s`, half `gv`, hidden column `j` of the group. -/
def pre (gv : Fin 2) (s : ℕ) (j : Fin 704) : EReal := ∑ k, H s k * W gv k j

/-- The three-tap causal convolution of the up projection at row `t`. -/
def conv (gv : Fin 2) (t : ℕ) (j : Fin 704) : EReal :=
  (C gv 2 j * pre H W gv (t + 16) j + C gv 1 j * pre H W gv (t + 15) j) + C gv 0 j * pre H W gv (t + 14) j

/-- The gated hidden value at row `t`. -/
def act (t : ℕ) (j : Fin 704) : EReal :=
  (conv H W C 0 t j * Ideal.logistic (conv H W C 0 t j)) * conv H W C 1 t j

/-- A group's share of the layer's output at row `t`, column `n`. -/
def share (Wd : Fin 704 → Fin 1024 → EReal) (t : ℕ) (n : Fin 1024) : EReal := ∑ j, act H W C t j * Wd j n

/-- A row scaled to unit mean square (with the small constant added) and by the gain. -/
def normed (X g : Fin 1024 → EReal) (q : Fin 1024) : EReal :=
  X q * Ideal.rsqrt (Ideal.div (∑ k, X k * X k) (Ideal.ofBits .f32 0x44800000#32) + Ideal.ofBits .f32 0x358637BD#32)
    * g q

/-- The group a grid point works on. -/
def grp (t : ℕ) : Fin 4 := ⟨t % 4, Nat.mod_lt _ (by omega)⟩

/-- A group's part of the up projection, half by half. -/
def upw (w : (⟨4, ![2, 4, 1024, 704]⟩ : Shape).Idx → EReal) (g : Fin 4) (gv : Fin 2) (k : Fin 1024) (j : Fin 704) :
    EReal := w (ix4 gv g k j)

/-- A group's part of the taps, half by half. -/
def taps (cw : (⟨4, ![2, 4, 3, 704]⟩ : Shape).Idx → EReal) (g : Fin 4) (gv : Fin 2) (a : Fin 3) (j : Fin 704) :
    EReal := cw (ix4 gv g a j)

/-- A group's rows of the down projection. -/
def downw (wd : (⟨2, ![2816, 1024]⟩ : Shape).Idx → EReal) (g : Fin 4) (j : Fin 704) (q : Fin 1024) : EReal :=
  wd (ix2 (⟨704 * g.val + j.val, by omega⟩ : Fin 2816) q)

/-- A start and the terms `0 … m` added to it, one after the other. -/
def upto (x : EReal) (f : ℕ → EReal) : ℕ → EReal
  | 0 => x + f 0
  | m + 1 => upto x f m + f (m + 1)

/-- The group `m`'s share of the layer's output. -/
def shares (h : (⟨2, ![4096, 1024]⟩ : Shape).Idx → EReal) (w : (⟨4, ![2, 4, 1024, 704]⟩ : Shape).Idx → EReal)
    (cw : (⟨4, ![2, 4, 3, 704]⟩ : Shape).Idx → EReal) (wd : (⟨2, ![2816, 1024]⟩ : Shape).Idx → EReal) (t : ℕ)
    (q : Fin 1024) (m : ℕ) : EReal :=
  share (padded h) (upw w (grp m)) (taps cw (grp m)) (downw wd (grp m)) t q

/-- The layer's input plus its output, at row `t` and column `q`. -/
def out (h : (⟨2, ![4096, 1024]⟩ : Shape).Idx → EReal) (x : (⟨2, ![4096, 1024]⟩ : Shape).Idx → EReal)
    (w : (⟨4, ![2, 4, 1024, 704]⟩ : Shape).Idx → EReal) (cw : (⟨4, ![2, 4, 3, 704]⟩ : Shape).Idx → EReal)
    (wd : (⟨2, ![2816, 1024]⟩ : Shape).Idx → EReal) (t : ℕ) (q : Fin 1024) : EReal :=
  upto (Mat.at2 x t q) (shares h w cw wd t q) 3

/-- The 512 stored rows from row `o` on. -/
def rows {α : Type} (P : (⟨3, ![1, 528, 704]⟩ : Shape).Idx → α) (o : ℕ) (ho : o + 512 ≤ 528) :
    (⟨3, ![1, 512, 704]⟩ : Shape).Idx → α :=
  fun x => P (ix3 (x 0) (⟨o + (x 1).val, by have h2 : (x 1).val < 512 := (x 1).isLt; omega⟩ : Fin 528) (x 2))

theorem rows_at {α : Type} (P : (⟨3, ![1, 528, 704]⟩ : Shape).Idx → α) (o : ℕ) (ho : o + 512 ≤ 528) (a : Fin 1)
    (r : Fin 512) (j : Fin 704) : rows P o ho (ix3 a r j) = P (ix3 a ⟨o + r.val, by omega⟩ j) := rfl

/-- A load of 512 rows of one half of the two-half scratch, right after a store of that half, reads the stored rows. -/
theorem scratch_read {Val : EltTy → Type} [∀ e, Nonempty (Val e)] {sig : RefSig} {κ : Kind} {sp : Space} {e : EltTy}
    (v : View sig κ sp ⟨3, ![2, 528, 704]⟩ e) (g o : ℕ) (ho : o + 512 ≤ 528)
    (inb₀ : ∀ a, (![g, 0, 0] : Fin 3 → ℕ) a + (![1, 528, 704] : Fin 3 → ℕ) a ≤ (![2, 528, 704] : Fin 3 → ℕ) a)
    (inb₁ : ∀ a, (![g, o, 0] : Fin 3 → ℕ) a + (![1, 512, 704] : Fin 3 → ℕ) a ≤ (![2, 528, 704] : Fin 3 → ℕ) a)
    (P : (⟨3, ![1, 528, 704]⟩ : Shape).Idx → Val e) (L : List (View.Piece Val ⟨3, ![2, 528, 704]⟩ e)) :
    v.readCov (⟨Rect.unit (s := ⟨3, ![2, 528, 704]⟩) ![g, 0, 0] ![1, 528, 704] inb₀, P⟩ :: L)
      (Rect.unit (s := ⟨3, ![2, 528, 704]⟩) ![g, o, 0] ![1, 512, 704] inb₁).toLoadRect = rows P o ho := by
  rw [View.readCov_eq_canon']
  funext x
  have b : o + (x 1).val < 528 := by have h2 : (x 1).val < 512 := (x 1).isLt; omega
  have he : (Rect.unit (s := ⟨3, ![2, 528, 704]⟩) ![g, o, 0] ![1, 512, 704] inb₁).toLoadRect.idx x
      = (Rect.unit (s := ⟨3, ![2, 528, 704]⟩) ![g, 0, 0] ![1, 528, 704] inb₀).emb
          (ix3 (x 0) (⟨o + (x 1).val, b⟩ : Fin 528) (x 2)) := by
    refine funext fun a => Fin.ext ?_
    match a with
    | ⟨0, _⟩ => rfl
    | ⟨1, _⟩ => show o + 1 * (x 1).val = 0 + 1 * (o + (x 1).val); omega
    | ⟨2, _⟩ => rfl
  have k := View.canon_cons_emb (Rect.unit (s := ⟨3, ![2, 528, 704]⟩) ![g, 0, 0] ![1, 528, 704] inb₀) P L
    (ix3 (x 0) (⟨o + (x 1).val, b⟩ : Fin 528) (x 2))
  rw [← he] at k
  exact k

/-- Rows above the input hold zeros, so their up projection is zero. -/
theorem pre_zero (h : (⟨2, ![4096, 1024]⟩ : Shape).Idx → EReal) (gv : Fin 2) (s : ℕ) (j : Fin 704) (hs : s < 16) :
    pre (padded h) W gv s j = 0 := by
  unfold pre padded
  refine Finset.sum_eq_zero fun k _ => ?_
  rw [if_neg (by omega), zero_mul]

/-- The up projection of a row of the input. -/
theorem pre_row (h : (⟨2, ![4096, 1024]⟩ : Shape).Idx → EReal) (gv : Fin 2) (t : Fin 4096) (j : Fin 704) :
    ∑ k, h (ix2 t k) * W gv k j = pre (padded h) W gv (t + 16) j := by
  unfold pre padded
  refine Finset.sum_congr rfl fun k _ => ?_
  rw [if_pos (by omega), Nat.add_sub_cancel, ← Mat.at2_ix]

/-- A sum over the hidden columns, group by group. -/
theorem sum_groups (f : Fin 2816 → EReal) :
    ∑ x, f x = ∑ g : Fin 4, ∑ j : Fin 704, f ⟨704 * g.val + j.val, by omega⟩ := by
  have e := (Equiv.sum_comp (finProdFinEquiv (m := 4) (n := 704)) f).symm
  refine e.trans ?_
  rw [Fintype.sum_prod_type]
  refine Finset.sum_congr rfl fun g _ => Finset.sum_congr rfl fun j _ => congrArg f (Fin.ext ?_)
  show j.val + 704 * g.val = 704 * g.val + j.val
  omega

/-- The start plus the sum of the four terms, whatever the order of the additions. -/
theorem upto_three (x : EReal) (f : ℕ → EReal) : x + ∑ g : Fin 4, f g.val = upto x f 3 := by
  rw [Fin.sum_univ_four]
  simp only [upto, add_assoc]
  rfl

/-- Three terms added from the last to the first. -/
theorem add_rev (a b c : EReal) : a + b + c = c + b + a := by
  rw [add_comm (a + b) c, add_comm a b, add_assoc]

end Ffn

namespace FfnGrad

open Idealize.ShloMosaic

/-- The gate's gradient from the gated value's, `b` the gate and `v` the value. -/
def gateBack (a b v : EReal) : EReal := (a * v) * (Ideal.logistic b * (1 + b * (1 - Ideal.logistic b)))

/-- The value's gradient from the gated value's, `b` the gate. -/
def valueBack (a b : EReal) : EReal := a * (b * Ideal.logistic b)

/-- A column of the down projection's input, by group. -/
def col (g : Fin 4) (k : Fin 704) : Fin 2816 := ⟨704 * g.val + k.val, by omega⟩

section

variable (df : (⟨2, ![4096, 1024]⟩ : Shape).Idx → EReal) (u uc : (⟨4, ![4, 2, 4096, 704]⟩ : Shape).Idx → EReal)
  (w : (⟨4, ![2, 4, 1024, 704]⟩ : Shape).Idx → EReal) (cw : (⟨4, ![2, 4, 3, 704]⟩ : Shape).Idx → EReal)
  (wd : (⟨2, ![2816, 1024]⟩ : Shape).Idx → EReal) (x : (⟨2, ![4096, 1024]⟩ : Shape).Idx → EReal)
  (gn : (⟨2, ![1, 1024]⟩ : Shape).Idx → EReal)

/-- The gated value. -/
def gact (g : Fin 4) (t : Fin 4096) (k : Fin 704) : EReal :=
  (uc (ix4 g 0 t k) * Ideal.logistic (uc (ix4 g 0 t k))) * uc (ix4 g 1 t k)

/-- The gated value's cotangent. -/
def dAct (g : Fin 4) (t : Fin 4096) (k : Fin 704) : EReal := ∑ j, df (ix2 t j) * wd (ix2 (col g k) j)

/-- The cotangent of the convolved up projection. -/
def dConv (g : Fin 4) (gv : Fin 2) (t : ℕ) (k : Fin 704) : EReal :=
  if h : t < 4096 then
    if gv = 0 then gateBack (dAct df wd g ⟨t, h⟩ k) (uc (ix4 g 0 ⟨t, h⟩ k)) (uc (ix4 g 1 ⟨t, h⟩ k))
    else valueBack (dAct df wd g ⟨t, h⟩ k) (uc (ix4 g 0 ⟨t, h⟩ k))
  else 0

/-- The cotangent of the up projection. -/
def dUp (g : Fin 4) (gv : Fin 2) (t : ℕ) (k : Fin 704) : EReal :=
  (cw (ix4 gv g 2 k) * dConv df uc wd g gv t k + cw (ix4 gv g 1 k) * dConv df uc wd g gv (t + 1) k)
    + cw (ix4 gv g 0 k) * dConv df uc wd g gv (t + 2) k

/-- A group's part of the cotangent of the norm's output. -/
def dHidPart (g : Fin 4) (t : ℕ) (j : Fin 1024) : EReal :=
  (∑ k, dUp df uc cw wd g 0 t k * w (ix4 0 g j k)) + ∑ k, dUp df uc cw wd g 1 t k * w (ix4 1 g j k)

/-- The cotangent of the norm's output. -/
def dHid (t : ℕ) (j : Fin 1024) : EReal := ∑ g : Fin 4, dHidPart df uc w cw wd g t j

/-- The cotangent of the layer's input. -/
def dX (t : Fin 4096) (j : Fin 1024) : EReal :=
  InGrad.dx (df (ix2 t j)) (dHid df uc w cw wd t) (fun k => x (ix2 t k)) (fun k => gn (ix2 0 k)) j

/-- A token's part of the gain's gradient. -/
def dGain (t : Fin 4096) (j : Fin 1024) : EReal := InGrad.dg (dHid df uc w cw wd t) (fun k => x (ix2 t k)) j

/-- A token's part of a tap's gradient. -/
def dTap (g : Fin 4) (gv : Fin 2) (a : Fin 3) (k : Fin 704) (t : Fin 4096) : EReal :=
  u (ix4 g gv t k) * dConv df uc wd g gv (t.val + (2 - a.val)) k

theorem dConv_below (g : Fin 4) (gv : Fin 2) (t : ℕ) (k : Fin 704) (h : 4096 ≤ t) : dConv df uc wd g gv t k = 0 :=
  dif_neg (by omega)

end

/-- A sum over blocks of `b` is the sum over all. -/
theorem sum_blocks (f : ℕ → EReal) (a b : ℕ) :
    ∑ i ∈ Finset.range a, ∑ j ∈ Finset.range b, f (b * i + j) = ∑ r ∈ Finset.range (b * a), f r := by
  induction a with
  | zero => simp
  | succ a ih => rw [Finset.sum_range_succ, ih, Nat.mul_succ, Finset.sum_range_add]

/-- The tokens' sum, tile by tile from the last one. -/
theorem sum_back (f : Fin 4096 → EReal) :
    ∑ n ∈ Finset.range 8, ∑ r : Fin 512, f ⟨512 * (7 - n) + r.val, by omega⟩ = ∑ t, f t := by
  let f' : ℕ → EReal := fun t => if h : t < 4096 then f ⟨t, h⟩ else 0
  have e1 : ∀ n, ∑ r : Fin 512, f ⟨512 * (7 - n) + r.val, by omega⟩ = ∑ r : Fin 512, f' (512 * (8 - 1 - n) + r.val) :=
    fun n => Finset.sum_congr rfl fun r _ => by
      have hr : 512 * (8 - 1 - n) + r.val < 4096 := by omega
      have e : f' (512 * (8 - 1 - n) + r.val) = f ⟨512 * (8 - 1 - n) + r.val, hr⟩ := dif_pos hr
      rw [e]
  have e2 : ∑ t, f t = ∑ t : Fin 4096, f' t.val := Finset.sum_congr rfl fun t _ => by
    have e : f' t.val = f t := dif_pos t.isLt
    rw [e]
  rw [e2, ← InGrad.sum_tiles f', ← Finset.sum_range_reflect (fun n => ∑ r : Fin 512, f' (512 * n + r.val)) 8]
  exact Finset.sum_congr rfl fun n _ => e1 n

end FfnGrad

end Cert

end
-- ==== Proof.ConvGrad.lean ====
/-
  The gradient of the short gated convolution, entry by entry, as a formula over matrices read at natural numbers
  (`D` the cotangent of the mixer's output, `W` its output projection, `Z` the combined projection with the columns
  b, c, x, `K` the three taps).

  What one call of the body computes, entry by entry, from its blocks (no machine in it): the values the body stores
  are the formulas of the gradient at the tile's rows.

  What one grid point leaves in the staging buffers of the two outputs, read at an index.

  The two result arrays of the kernel's run, entry by entry, in the arguments.

  The host's gradient of the short gated convolution, entry by entry: its two results are the formulas of the gradient.

  The value claim of the gradient of the short gated convolution: the kernel's two arrays are the host's.
-/
module

public import proofs.«01_k».proof.Proof.Spec
public import proofs.«01_k».proof.Proof.Gen.KernelIdeal.Value
public import Idealize.ShloMosaic.Lib.Pipeline.ValueKit
public import Idealize.ShloMosaic.Lib.Tactic
public import proofs.«01_k».proof.Proof.Gen.ReferenceIdeal.Read
public import Idealize.ShloMosaic.Lib.Pointwise
public import proofs.«01_k».proof.Defs
public import Idealize.ShloMosaic.Lib.Quiescent

@[expose] public section

set_option maxRecDepth 16384

noncomputable section

namespace Cert.ConvGrad

section

variable (D W Z K : ℕ → ℕ → EReal)

/-- The cotangent of the gated product: the output's cotangent times the transposed projection. -/
def g (t j : ℕ) : EReal := ∑ k : Fin 1024, D t k * W j k

/-- The convolution's input `c · x`. -/
def p (t j : ℕ) : EReal := Z t (1024 + j) * Z t (2048 + j)

/-- The convolution's input `s` rows earlier, zero before the sequence begins. -/
def back (s t j : ℕ) : EReal := if s ≤ t then p Z (t - s) j else 0

/-- The cotangent of the convolution's output. -/
def dq (t j : ℕ) : EReal := g D W t j * Z t j

/-- The causal convolution of `c · x` with the three taps. -/
def q (t j : ℕ) : EReal := K 2 j * p Z t j + K 1 j * back Z 1 t j + K 0 j * back Z 2 t j

/-- The cotangent of the convolution's input: the taps against the cotangents of the rows they reach. -/
def dp (t j : ℕ) : EReal := K 2 j * dq D W Z t j + K 1 j * dq D W Z (t + 1) j + K 0 j * dq D W Z (t + 2) j

/-- The cotangent of the combined projection: the columns of b, of c and of x. -/
def dz (t n : ℕ) : EReal :=
  if n < 1024 then g D W t n * q Z K t n
  else if n < 2048 then dp D W Z K t (n - 1024) * Z t (2048 + (n - 1024))
  else dp D W Z K t (n - 2048) * Z t (1024 + (n - 2048))

/-- What the rows of one stretch add to the cotangent of the tap that reaches `s` rows back. -/
def dk (s lo n j : ℕ) : EReal := ∑ r : Fin n, dq D W Z (lo + r) j * back Z s (lo + r) j

end

section

open Cert.KernelIdeal Cert.KernelIdeal.Gen Cert.Mat Idealize.ShloMosaic

/-- The body's test "not the first tile". -/
theorem sgt_zero (n : ℕ) (h : n < 8) : (Scalar.cmpi .sgt (BitVec.ofNat 32 n) 0#32 = 1#1) ↔ 0 < n :=
  (by decide : ∀ n : Fin 8, (Scalar.cmpi .sgt (BitVec.ofNat 32 n.val) 0#32 = 1#1) ↔ 0 < n.val) ⟨n, h⟩

/-- The body's test "not the last tile". -/
theorem slt_seven (n : ℕ) (h : n < 8) : (Scalar.cmpi .slt (BitVec.ofNat 32 n) 7#32 = 1#1) ↔ n < 7 :=
  (by decide : ∀ n : Fin 8, (Scalar.cmpi .slt (BitVec.ofNat 32 n.val) 7#32 = 1#1) ↔ n.val < 7) ⟨n, h⟩

/-- The blocks of tile `n` hold the matrices' rows: the tile's own, the sixteen before and the sixteen after. -/
structure Blocks (D W Z K : ℕ → ℕ → EReal) (n : ℕ) (x0 : Vec Ideal S512x1024 .bf16) (x1 : Vec Ideal S16x1024 .bf16)
    (x2 : Vec Ideal S1024x1024 .bf16) (x3 : Vec Ideal S512x3072 .bf16) (x4 x5 x6 : Vec Ideal S16x1024 .bf16)
    (x7 : Vec Ideal S3x1024 .f32) : Prop where
  h0 : ∀ (r : Fin 512) (j : Fin 1024), x0 (ix2 r j) = D (512 * n + r) j
  h1 : ∀ (r : Fin 16) (j : Fin 1024), n < 7 → x1 (ix2 r j) = D (512 * n + 512 + r) j
  h2 : ∀ (r j : Fin 1024), x2 (ix2 r j) = W r j
  h3 : ∀ (r : Fin 512) (j : Fin 3072), x3 (ix2 r j) = Z (512 * n + r) j
  h4 : ∀ (r : Fin 16) (j : Fin 1024), 0 < n → x4 (ix2 r j) = Z (512 * n + r - 16) (1024 + j)
  h5 : ∀ (r : Fin 16) (j : Fin 1024), 0 < n → x5 (ix2 r j) = Z (512 * n + r - 16) (2048 + j)
  h6 : ∀ (r : Fin 16) (j : Fin 1024), n < 7 → x6 (ix2 r j) = Z (512 * n + 512 + r) j
  h7 : ∀ (r : Fin 3) (j : Fin 1024), x7 (ix2 r j) = K r j
  hn : n < 8
  hD : ∀ t j, 4096 ≤ t → D t j = 0

variable {D W Z K : ℕ → ℕ → EReal} {i : grid0.Coords} {x0 : Vec Ideal S512x1024 .bf16} {x1 : Vec Ideal S16x1024 .bf16}
  {x2 : Vec Ideal S1024x1024 .bf16} {x3 : Vec Ideal S512x3072 .bf16} {x4 x5 x6 : Vec Ideal S16x1024 .bf16}
  {x7 : Vec Ideal S3x1024 .f32} {n : ℕ}

/-- The product of the tile and its halo with the transposed projection. -/
theorem pay5_apply (h : Blocks D W Z K n x0 x1 x2 x3 x4 x5 x6 x7) (r : Fin 528) (j : Fin 1024)
    (hr : r.val < 512 ∨ n < 7) : k0_pay5 x0 x1 x2 (ix2 r j) = g D W (512 * n + r) j := by
  pointwise [k0_pay5]
  unfold g
  refine Finset.sum_congr rfl fun k _ => ?_
  rw [h.h2]
  congr 1
  split
  · rw [h.h0]
  · rw [h.h1 _ _ (by omega)]; congr 1; show 512 * n + 512 + (r.val - 512) = _; omega

/-- The convolution's input over the sixteen rows before the tile and the tile. -/
theorem pay10_apply (hi : (i 0).val = n) (h : Blocks D W Z K n x0 x1 x2 x3 x4 x5 x6 x7) (r : Fin 528) (j : Fin 1024) :
    k0_pay10 i x3 x4 x5 (ix2 r j) = back Z 16 (512 * n + r) j := by
  pointwise [k0_pay10, k0_pay9, k0_pay8, k0_pay6]
  generalize hA : BitVec.ofNat 32 _ = a
  have c : Scalar.cmpi .sgt a 0#32 = 1#1 ↔ 0 < n := by rw [← hA]; subst hi; exact sgt_zero _ h.hn
  unfold back p
  split
  · refine (select_iff c _ _).trans ?_
    by_cases hp : 0 < n
    · rw [if_pos hp, if_pos (by omega)]
      exact congrArg₂ (· * ·) (h.h4 _ j hp) (h.h5 _ j hp)
    · rw [if_neg hp, if_neg (by omega)]
  · rename_i hr
    have e : 512 * n + (r.val - 16) = 512 * n + r.val - 16 := by omega
    refine (congrArg₂ (· * ·) (h.h3 _ _) (h.h3 _ _)).trans ?_
    exact (congrArg (fun t => Z t (1024 + j) * Z t (2048 + j)) e).trans
      (if_pos (show 16 ≤ 512 * n + r.val by omega)).symm

/-- The rows of the sixteen-row halo, `s` of them skipped, are the rows `s` back. -/
theorem back_back (s t j : ℕ) (hs : s ≤ 16) (ht : s ≤ t + 16): back Z 16 (t + 16 - s) j = back Z s t j := by
  unfold back
  by_cases h : s ≤ t
  · rw [if_pos (by omega), if_pos h]; congr 1; omega
  · rw [if_neg (by omega), if_neg h]

/-- The tile's rows of the convolution's input … -/
theorem pay11_apply (hi : (i 0).val = n) (h : Blocks D W Z K n x0 x1 x2 x3 x4 x5 x6 x7) (r : Fin 512) (j : Fin 1024) :
    k0_pay11 i x3 x4 x5 (ix2 r j) = back Z 0 (512 * n + r) j := by
  pointwise [k0_pay11]
  rw [pay10_apply hi h, ← back_back 0 _ _ (by omega) (by omega)]; congr 1; show 512 * n + (16 + r.val) = _; omega

/-- … one row earlier … -/
theorem pay12_apply (hi : (i 0).val = n) (h : Blocks D W Z K n x0 x1 x2 x3 x4 x5 x6 x7) (r : Fin 512) (j : Fin 1024) :
    k0_pay12 i x3 x4 x5 (ix2 r j) = back Z 1 (512 * n + r) j := by
  pointwise [k0_pay12]
  rw [pay10_apply hi h, ← back_back 1 _ _ (by omega) (by omega)]; congr 1
  show 512 * n + (16 + r.val + 528 - 1) % 528 = _; omega

/-- … and two rows earlier. -/
theorem pay13_apply (hi : (i 0).val = n) (h : Blocks D W Z K n x0 x1 x2 x3 x4 x5 x6 x7) (r : Fin 512) (j : Fin 1024) :
    k0_pay13 i x3 x4 x5 (ix2 r j) = back Z 2 (512 * n + r) j := by
  pointwise [k0_pay13]
  rw [pay10_apply hi h, ← back_back 2 _ _ (by omega) (by omega)]; congr 1
  show 512 * n + (16 + r.val + 528 - 2) % 528 = _; omega

/-- The cotangent of the convolution's output on the tile. -/
theorem pay17_apply (h : Blocks D W Z K n x0 x1 x2 x3 x4 x5 x6 x7) (r : Fin 512) (j : Fin 1024) :
    k0_pay17 (k0_pay5 x0 x1 x2) (k0_pay7 x3) (ix2 r j) = dq D W Z (512 * n + r) j := by
  pointwise [k0_pay17, k0_pay16, k0_pay7, k0_pay6]
  rw [pay5_apply h _ _ (Or.inl r.isLt), h.h3]; rfl

/-- A row of the taps. -/
theorem tap (h : Blocks D W Z K n x0 x1 x2 x3 x4 x5 x6 x7) (k : ℕ) (hk : ∀ a, (![k, 0] : Fin 2 → ℕ) a + S1x1024.size a ≤ S3x1024.size a)
    (j : Fin 1024) : View.ld x7 (Rect.unit ![k, 0] S1x1024.size hk) (ix2 0 j) = K k j := by
  have hk3 : k < 3 := by have := hk 0; simpa using this
  refine (View.ld_unit_apply_of (S := S3x1024) x7 ![k, 0] S1x1024.size hk (ix2 0 j) (ix2 ⟨k, hk3⟩ j) (fun a => match a with
    | ⟨0, _⟩ => rfl
    | ⟨1, _⟩ => by show j.val = 0 + j.val; omega)).trans (h.h7 _ _)

/-- The cotangent of the convolution's input on the tile, the rows after the tile read from the halo. -/
theorem pay18_apply (h : Blocks D W Z K n x0 x1 x2 x3 x4 x5 x6 x7) (r : Fin 512) (j : Fin 1024) :
    k0_pay18 (BitVec.ofNat 32 n) (View.ld x7 (Rect.unit ![0, 0] ![1, 1024] inb_S3x1024_S1x1024_0_0))
      (View.ld x7 (Rect.unit ![1, 0] ![1, 1024] inb_S3x1024_S1x1024_1_0))
      (View.ld x7 (Rect.unit ![2, 0] ![1, 1024] inb_S3x1024_S1x1024_2_0)) (k0_pay5 x0 x1 x2) (k0_pay7 x3) x6 (ix2 r j)
      = dp D W Z K (512 * n + r) j := by
  generalize hv0 : View.ld x7 (Rect.unit ![0, 0] ![1, 1024] inb_S3x1024_S1x1024_0_0) = v0
  generalize hv1 : View.ld x7 (Rect.unit ![1, 0] ![1, 1024] inb_S3x1024_S1x1024_1_0) = v1
  generalize hv2 : View.ld x7 (Rect.unit ![2, 0] ![1, 1024] inb_S3x1024_S1x1024_2_0) = v2
  have e0 : v0 (ix2 0 j) = K 0 j := by rw [← hv0]; exact tap h 0 inb_S3x1024_S1x1024_0_0 j
  have e1 : v1 (ix2 0 j) = K 1 j := by rw [← hv1]; exact tap h 1 inb_S3x1024_S1x1024_1_0 j
  have e2 : v2 (ix2 0 j) = K 2 j := by rw [← hv2]; exact tap h 2 inb_S3x1024_S1x1024_2_0 j
  have hi : n < 8 := h.hn
  have later : ∀ s, 512 ≤ s → s < 528 → ∀ (a : Fin 528) (b : Fin 16), a.val = s → b.val = s - 512 →
      Scalar.select (Scalar.cmpi .slt (BitVec.ofNat 32 n) 7#32) (k0_pay5 x0 x1 x2 (ix2 a j) * x6 (ix2 b j)) 0
        = dq D W Z (512 * n + s) j := by
    intro s h1 h2 a b ha hb
    rw [select_iff (slt_seven n hi)]
    by_cases h7 : n < 7
    · rw [if_pos h7, pay5_apply h _ _ (Or.inr h7), h.h6 _ _ h7]; unfold dq
      have e : 512 * n + 512 + b.val = 512 * n + s := by omega
      rw [e, ha]
    · rw [if_neg h7]; unfold dq g
      have z : ∀ k : ℕ, D (512 * n + s) k = 0 := fun k => h.hD _ _ (by omega)
      simp [z]
  pointwise [k0_pay18]
  unfold dp
  refine congrArg₂ (· + ·) (congrArg₂ (· + ·) (congrArg₂ (· * ·) e2 (pay17_apply h r j)) (congrArg₂ (· * ·) e1 ?_))
    (congrArg₂ (· * ·) e0 ?_)
  · split
    · rename_i hr
      exact (pay17_apply h _ j).trans (congrArg (dq D W Z · j)
        (by show 512 * n + (r.val + 528 - 527) % 528 = 512 * n + r.val + 1; omega))
    · rename_i hr
      exact (later (r.val + 1) (by omega) (by omega) _ _
        (by show 512 + ((r.val + 528 - 527) % 528 - 512) = _; omega)
        (by show (r.val + 528 - 527) % 528 - 512 = _; omega)).trans rfl
  · split
    · rename_i hr
      exact (pay17_apply h _ j).trans (congrArg (dq D W Z · j)
        (by show 512 * n + (r.val + 528 - 526) % 528 = 512 * n + r.val + 2; omega))
    · rename_i hr
      exact (later (r.val + 2) (by omega) (by omega) _ _
        (by show 512 + ((r.val + 528 - 526) % 528 - 512) = _; omega)
        (by show (r.val + 528 - 526) % 528 - 512 = _; omega)).trans rfl

/-- The tile's columns of the gradient of b. -/
theorem pay19_apply (hi : (i 0).val = n) (h : Blocks D W Z K n x0 x1 x2 x3 x4 x5 x6 x7) (r : Fin 512) (j : Fin 1024) :
    k0_pay19 (k0_pay5 x0 x1 x2) (k0_pay13 i x3 x4 x5)
      (k0_pay14 i (View.ld x7 (Rect.unit ![1, 0] ![1, 1024] inb_S3x1024_S1x1024_1_0))
        (View.ld x7 (Rect.unit ![2, 0] ![1, 1024] inb_S3x1024_S1x1024_2_0)) x3 x4 x5)
      (k0_pay15 (View.ld x7 (Rect.unit ![0, 0] ![1, 1024] inb_S3x1024_S1x1024_0_0))) (ix2 r j)
      = dz D W Z K (512 * n + r) j := by
  generalize hv0 : View.ld x7 (Rect.unit ![0, 0] ![1, 1024] inb_S3x1024_S1x1024_0_0) = v0
  generalize hv1 : View.ld x7 (Rect.unit ![1, 0] ![1, 1024] inb_S3x1024_S1x1024_1_0) = v1
  generalize hv2 : View.ld x7 (Rect.unit ![2, 0] ![1, 1024] inb_S3x1024_S1x1024_2_0) = v2
  have e0 : v0 (ix2 0 j) = K 0 j := by rw [← hv0]; exact tap h 0 inb_S3x1024_S1x1024_0_0 j
  have e1 : v1 (ix2 0 j) = K 1 j := by rw [← hv1]; exact tap h 1 inb_S3x1024_S1x1024_1_0 j
  have e2 : v2 (ix2 0 j) = K 2 j := by rw [← hv2]; exact tap h 2 inb_S3x1024_S1x1024_2_0 j
  pointwise [k0_pay19, k0_pay16, k0_pay14, k0_pay15]
  refine Eq.trans ?_ (if_pos j.isLt).symm
  unfold q
  refine congrArg₂ (· * ·) (pay5_apply h _ j (Or.inl r.isLt)) ?_
  refine congrArg₂ (· + ·) (congrArg₂ (· + ·) (congrArg₂ (· * ·) e2 ((pay11_apply hi h r j).trans ?_))
    (congrArg₂ (· * ·) e1 (pay12_apply hi h r j))) (congrArg₂ (· * ·) e0 (pay13_apply hi h r j))
  exact if_pos (Nat.zero_le _)

/-- The tile's columns of the gradient of c. -/
theorem pay20_apply (h : Blocks D W Z K n x0 x1 x2 x3 x4 x5 x6 x7) (r : Fin 512) (j : Fin 1024) :
    k0_pay20 (BitVec.ofNat 32 n) (View.ld x7 (Rect.unit ![0, 0] ![1, 1024] inb_S3x1024_S1x1024_0_0))
      (View.ld x7 (Rect.unit ![1, 0] ![1, 1024] inb_S3x1024_S1x1024_1_0))
      (View.ld x7 (Rect.unit ![2, 0] ![1, 1024] inb_S3x1024_S1x1024_2_0)) (k0_pay5 x0 x1 x2) (k0_pay7 x3) (k0_pay9 x3) x6 (ix2 r j)
      = dz D W Z K (512 * n + r) (1024 + j) := by
  pointwise [k0_pay20, k0_pay9, k0_pay6]
  unfold dz
  rw [if_neg (by omega), if_pos (by omega), Nat.add_sub_cancel_left]
  exact congrArg₂ (· * ·) (pay18_apply h r j) (h.h3 _ _)

/-- The tile's columns of the gradient of x. -/
theorem pay21_apply (h : Blocks D W Z K n x0 x1 x2 x3 x4 x5 x6 x7) (r : Fin 512) (j : Fin 1024) :
    k0_pay21 (BitVec.ofNat 32 n) (View.ld x7 (Rect.unit ![0, 0] ![1, 1024] inb_S3x1024_S1x1024_0_0))
      (View.ld x7 (Rect.unit ![1, 0] ![1, 1024] inb_S3x1024_S1x1024_1_0))
      (View.ld x7 (Rect.unit ![2, 0] ![1, 1024] inb_S3x1024_S1x1024_2_0)) (k0_pay5 x0 x1 x2) (k0_pay7 x3) (k0_pay8 x3) x6 (ix2 r j)
      = dz D W Z K (512 * n + r) (2048 + j) := by
  pointwise [k0_pay21, k0_pay8, k0_pay6]
  unfold dz
  rw [if_neg (by omega), if_neg (by omega), Nat.add_sub_cancel_left]
  exact congrArg₂ (· * ·) (pay18_apply h r j) (h.h3 _ _)

/-- What the tile adds to the last tap's row … -/
theorem pay24_apply (hi : (i 0).val = n) (h : Blocks D W Z K n x0 x1 x2 x3 x4 x5 x6 x7) (j : Fin 1024) :
    k0_pay1 (k0_pay24 (k0_pay5 x0 x1 x2) (k0_pay7 x3) (k0_pay11 i x3 x4 x5)) (ix2 0 j) = dk D W Z 0 (512 * n) 512 j := by
  pointwise [k0_pay1, k0_pay24]
  exact Finset.sum_congr rfl fun r _ => congrArg₂ (· * ·) (pay17_apply h r j) (pay11_apply hi h r j)

/-- … to the middle tap's … -/
theorem pay23_apply (hi : (i 0).val = n) (h : Blocks D W Z K n x0 x1 x2 x3 x4 x5 x6 x7) (j : Fin 1024) :
    k0_pay23 (k0_pay5 x0 x1 x2) (k0_pay7 x3) (k0_pay12 i x3 x4 x5) (ix2 0 j) = dk D W Z 1 (512 * n) 512 j := by
  pointwise [k0_pay23]
  exact Finset.sum_congr rfl fun r _ => congrArg₂ (· * ·) (pay17_apply h r j) (pay12_apply hi h r j)

/-- … and to the first tap's. -/
theorem pay22_apply (hi : (i 0).val = n) (h : Blocks D W Z K n x0 x1 x2 x3 x4 x5 x6 x7) (j : Fin 1024) :
    k0_pay22 (k0_pay5 x0 x1 x2) (k0_pay7 x3) (k0_pay13 i x3 x4 x5) (ix2 0 j) = dk D W Z 2 (512 * n) 512 j := by
  pointwise [k0_pay22]
  exact Finset.sum_congr rfl fun r _ => congrArg₂ (· * ·) (pay17_apply h r j) (pay13_apply hi h r j)

end

end Cert.ConvGrad

namespace Cert.ConvGrad

section

open Cert.KernelIdeal Cert.KernelIdeal.Gen Cert.Mat Idealize.ShloMosaic Idealize.ShloMosaic.TcCoe Idealize.SL.Sem

variable {D W Z K : ℕ → ℕ → EReal} {i : grid0.Coords} {x0 : Vec Ideal S512x1024 .bf16} {x1 : Vec Ideal S16x1024 .bf16}
  {x2 : Vec Ideal S1024x1024 .bf16} {x3 : Vec Ideal S512x3072 .bf16} {x4 x5 x6 : Vec Ideal S16x1024 .bf16}
  {x7 : Vec Ideal S3x1024 .f32} {n : ℕ}
variable (c : Dev nD) (a1 : Memref sig .tc .vmem S512x1024 .bf16) (b1 : a1.IsWhole)
  (a2 : Memref sig .tc .vmem S16x1024 .bf16) (b2 : a2.IsWhole)
  (a3 : Memref sig .tc .vmem S1024x1024 .bf16) (b3 : a3.IsWhole)
  (a4 : Memref sig .tc .vmem S512x3072 .bf16) (b4 : a4.IsWhole)
  (a5 : Memref sig .tc .vmem S16x1024 .bf16) (b5 : a5.IsWhole)
  (a6 : Memref sig .tc .vmem S16x1024 .bf16) (b6 : a6.IsWhole)
  (a7 : Memref sig .tc .vmem S16x1024 .bf16) (b7 : a7.IsWhole)
  (a8 : Memref sig .tc .vmem S3x1024 .f32) (b8 : a8.IsWhole)
  (a9 : Memref sig .tc .vmem S512x3072 .bf16) (b9 : a9.IsWhole)
  (a10 : Memref sig .tc .vmem S3x1024 .f32) (b10 : a10.IsWhole)

/-- A row of the block, named by its numbers. -/
theorem kept (xo : Vec Ideal S3x1024 .f32) (k : Fin 3) (y : S3x1024.Idx) (j : Fin 1024) (h0 : (y 0).val = k.val)
    (h1 : (y 1).val = j.val) : xo (ix2 k j) = xo y :=
  congrArg xo ((congrArg₂ ix2 (Fin.ext h0.symm) (Fin.ext h1.symm)).trans (eq_ix2 y).symm)

/-- The first tile's block of the gradient of the projection holds the formula's rows. -/
theorem out_A_8 (hc0 : cond0_0 i) (hc1 : ¬cond0_1 i) (hi : (i 0).val = n) (h : Blocks D W Z K n x0 x1 x2 x3 x4 x5 x6 x7)
    (y : S512x3072.Idx) : out0_A_8 c i a1 b1 a2 b2 a3 b3 a4 b4 a5 b5 a6 b6 a7 b7
      a8 b8 a9 b9 a10 b10 hc0 hc1 x0 x1 x2 x3 x4 x5 x6 x7 y
      = dz D W Z K (512 * n + (y 0).val) (y 1).val := by
  unfold out0_A_8
  rw [View.read_writes_eq_canon _ _ _ (by exact fun _ => cover0_A_8 ..)]
  unfold kernelRun0_A
  dsimp only
  sl_unfold_words
  simp only [View.readAt_eq_ld, Memref.IsWhole.read_unread,
    View.ld_unit_zero (S := S512x1024) Mat.hz2, View.ld_unit_zero (S := S16x1024) Mat.hz2, View.ld_unit_zero (S := S1024x1024) Mat.hz2,
    View.ld_unit_zero (S := S512x3072) Mat.hz2, shapeCast_self]
  have hb : BitVec.ofNat 32 (i 0).val = BitVec.ofNat 32 n := by rw [hi]
  simp only [hb]
  canon_tiles x e using (View.cover_of_tiled_head _ _ _ (by rfl) y)
  · obtain ⟨r, j, rfl⟩ := Mat.ix2_of x
    rw [e0, e1]; exact pay21_apply h r j
  · obtain ⟨r, j, rfl⟩ := Mat.ix2_of x
    rw [e0, e1]; exact pay20_apply h r j
  · obtain ⟨r, j, rfl⟩ := Mat.ix2_of x
    rw [e0, e1]; exact pay19_apply hi h r j

/-- The first tile's block of the taps' gradient holds the sums over its rows. -/
theorem out_A_9 (hc0 : cond0_0 i) (hc1 : ¬cond0_1 i) (hi : (i 0).val = n) (h : Blocks D W Z K n x0 x1 x2 x3 x4 x5 x6 x7)
    (y : S3x1024.Idx) : out0_A_9 c i a1 b1 a2 b2 a3 b3 a4 b4 a5 b5 a6 b6 a7 b7
      a8 b8 a9 b9 a10 b10 hc0 hc1 x0 x1 x2 x3 x4 x5 x6 x7 y
      = dk D W Z (2 - (y 0).val) (512 * n) 512 (y 1).val := by
  unfold out0_A_9
  rw [View.read_writes_eq_canon _ _ _ (by exact fun _ => cover0_A_9 ..)]
  unfold kernelRun0_A
  dsimp only
  sl_unfold_words
  simp only [View.readAt_eq_ld, Memref.IsWhole.read_unread,
    View.ld_unit_zero (S := S512x1024) Mat.hz2, View.ld_unit_zero (S := S16x1024) Mat.hz2, View.ld_unit_zero (S := S1024x1024) Mat.hz2,
    View.ld_unit_zero (S := S512x3072) Mat.hz2, shapeCast_self]
  canon_tiles x e using (View.cover_of_tiled_head _ _ _ (by rfl) y)
  · obtain ⟨r, j, rfl⟩ := Mat.ix2_of x
    obtain rfl : r = 0 := Subsingleton.elim _ _
    have e : 2 - (y 0).val = 0 := by rw [e0]; rfl
    rw [e, e1]
    exact pay24_apply hi h j
  · obtain ⟨r, j, rfl⟩ := Mat.ix2_of x
    obtain rfl : r = 0 := Subsingleton.elim _ _
    have e : 2 - (y 0).val = 1 := by rw [e0]; rfl
    rw [e, e1]
    exact pay23_apply hi h j
  · obtain ⟨r, j, rfl⟩ := Mat.ix2_of x
    obtain rfl : r = 0 := Subsingleton.elim _ _
    have e : 2 - (y 0).val = 2 := by rw [e0]; rfl
    rw [e, e1]
    exact pay22_apply hi h j

/-- The later tile's block of the gradient of the projection holds the formula's rows. -/
theorem out_B_8 (hc0 : ¬cond0_0 i) (hc1 : cond0_1 i) (xo : Vec Ideal S3x1024 .f32) (hi : (i 0).val = n) (h : Blocks D W Z K n x0 x1 x2 x3 x4 x5 x6 x7)
    (y : S512x3072.Idx) : out0_B_8 c i a1 b1 a2 b2 a3 b3 a4 b4 a5 b5 a6 b6 a7 b7
      a8 b8 a9 b9 a10 b10 hc0 hc1 x0 x1 x2 x3 x4 x5 x6 x7 xo y
      = dz D W Z K (512 * n + (y 0).val) (y 1).val := by
  unfold out0_B_8
  rw [View.read_writes_eq_canon _ _ _ (by exact fun _ => cover0_B_8 ..)]
  unfold kernelRun0_B
  dsimp only
  sl_unfold_words
  simp only [View.readAt_eq_ld, Memref.IsWhole.read_unread,
    View.ld_unit_zero (S := S512x1024) Mat.hz2, View.ld_unit_zero (S := S16x1024) Mat.hz2, View.ld_unit_zero (S := S1024x1024) Mat.hz2,
    View.ld_unit_zero (S := S512x3072) Mat.hz2, shapeCast_self]
  have hb : BitVec.ofNat 32 (i 0).val = BitVec.ofNat 32 n := by rw [hi]
  simp only [hb]
  canon_tiles x e using (View.cover_of_tiled_head _ _ _ (by rfl) y)
  · obtain ⟨r, j, rfl⟩ := Mat.ix2_of x
    rw [e0, e1]; exact pay21_apply h r j
  · obtain ⟨r, j, rfl⟩ := Mat.ix2_of x
    rw [e0, e1]; exact pay20_apply h r j
  · obtain ⟨r, j, rfl⟩ := Mat.ix2_of x
    rw [e0, e1]; exact pay19_apply hi h r j

/-- The later tile's block of the taps' gradient adds the sums over its rows to what the block held. -/
theorem out_B_9 (hc0 : ¬cond0_0 i) (hc1 : cond0_1 i) (xo : Vec Ideal S3x1024 .f32) (hi : (i 0).val = n) (h : Blocks D W Z K n x0 x1 x2 x3 x4 x5 x6 x7)
    (y : S3x1024.Idx) : out0_B_9 c i a1 b1 a2 b2 a3 b3 a4 b4 a5 b5 a6 b6 a7 b7
      a8 b8 a9 b9 a10 b10 hc0 hc1 x0 x1 x2 x3 x4 x5 x6 x7 xo y
      = xo y + dk D W Z (2 - (y 0).val) (512 * n) 512 (y 1).val := by
  unfold out0_B_9
  rw [View.read_writes_eq_canon _ _ _ (by exact fun _ => cover0_B_9 ..)]
  unfold kernelRun0_B
  dsimp only
  sl_unfold_words
  simp only [View.readAt_eq_ld, Memref.IsWhole.read_unread,
    View.ld_unit_zero (S := S512x1024) Mat.hz2, View.ld_unit_zero (S := S16x1024) Mat.hz2, View.ld_unit_zero (S := S1024x1024) Mat.hz2,
    View.ld_unit_zero (S := S512x3072) Mat.hz2, shapeCast_self]
  canon_tiles x e using (View.cover_of_tiled_head _ _ _ (by rfl) y)
  · obtain ⟨r, j, rfl⟩ := Mat.ix2_of x
    obtain rfl : r = 0 := Subsingleton.elim _ _
    have e : 2 - (y 0).val = 0 := by rw [e0]; rfl
    rw [e, e1]
    pointwise [k0_pay4]
    exact congrArg₂ (· + ·) (kept xo 2 y j e0 e1) (pay24_apply hi h j)
  · obtain ⟨r, j, rfl⟩ := Mat.ix2_of x
    obtain rfl : r = 0 := Subsingleton.elim _ _
    have e : 2 - (y 0).val = 1 := by rw [e0]; rfl
    rw [e, e1]
    pointwise [k0_pay3]
    exact congrArg₂ (· + ·) (kept xo 1 y j e0 e1) (pay23_apply hi h j)
  · obtain ⟨r, j, rfl⟩ := Mat.ix2_of x
    obtain rfl : r = 0 := Subsingleton.elim _ _
    have e : 2 - (y 0).val = 2 := by rw [e0]; rfl
    rw [e, e1]
    pointwise [k0_pay2]
    exact congrArg₂ (· + ·) (kept xo 0 y j e0 e1) (pay22_apply hi h j)

end

section

open Cert.KernelIdeal Cert.KernelIdeal.Gen Cert.Mat Idealize.ShloMosaic Idealize.ShloMosaic.TcCoe Idealize.SL.Sem
open Idealize.ShloMosaic.Pipeline (Dat)

variable (m : (ℓ : Loc nD τ sig) → Buf (Elt Ideal) ℓ) (c : Dev nD)

/-- The cotangent of the mixer's output, as launched. -/
def mD : ℕ → ℕ → EReal := at2 (R := 4096) (C := 1024) (m ((c : Thread nD τ).loc main_arg0))
/-- The output projection. -/
def mW : ℕ → ℕ → EReal := at2 (R := 1024) (C := 1024) (m ((c : Thread nD τ).loc main_arg1))
/-- The combined projection. -/
def mZ : ℕ → ℕ → EReal := at2 (R := 4096) (C := 3072) (m ((c : Thread nD τ).loc main_arg2))
/-- The taps. -/
def mK : ℕ → ℕ → EReal := at2 (R := 3) (C := 1024) (m ((c : Thread nD τ).loc main_arg3))

/-- Where the windows' blocks begin, at each grid point. -/
theorem index_facts : ∀ t : Fin grid0.N,
    win0_0.index t 0 = t.val ∧ win0_0.index t 1 = 0
    ∧ (t.val < 7 → win0_1.index t 0 = 32 * t.val + 32) ∧ win0_1.index t 1 = 0
    ∧ win0_2.index t 0 = 0 ∧ win0_2.index t 1 = 0
    ∧ win0_3.index t 0 = t.val ∧ win0_3.index t 1 = 0
    ∧ (0 < t.val → win0_4.index t 0 = 32 * t.val - 1) ∧ win0_4.index t 1 = 1
    ∧ (0 < t.val → win0_5.index t 0 = 32 * t.val - 1) ∧ win0_5.index t 1 = 2
    ∧ (t.val < 7 → win0_6.index t 0 = 32 * t.val + 32) ∧ win0_6.index t 1 = 0
    ∧ win0_7.index t 0 = 0 ∧ win0_7.index t 1 = 0
    ∧ win0_8.index t 0 = t.val ∧ win0_8.index t 1 = 0
    ∧ win0_9.index t 0 = 0 ∧ win0_9.index t 1 = 0
    ∧ (grid0.coords t 0).val = t.val := by decide +kernel

/-- An input window's block at an index is the array at the block's offset plus the index. -/
theorem blk_at {R C : ℕ} (A : (⟨2, ![R, C]⟩ : Shape).Idx → EReal) (i : (⟨2, ![R, C]⟩ : Shape).Idx) (t j : ℕ)
    (ht : (i 0).val = t) (hj : (i 1).val = j) : A i = at2 A t j := at2_of A i t j ht hj

/-- The blocks the body reads at point `t` hold the arguments' rows. -/
theorem blocks (t : Fin cfg0.N) : Blocks (mD m c) (mW m c) (mZ m c) (mK m c) t.val (iblk m c 0 t) (iblk m c 1 t)
    (iblk m c 2 t) (iblk m c 3 t) (iblk m c 4 t) (iblk m c 5 t) (iblk m c 6 t) (iblk m c 7 t) := by
  obtain ⟨h00, h01, h10, h11, h20, h21, h30, h31, h40, h41, h50, h51, h60, h61, h70, h71, -⟩ := index_facts t
  have hN : t.val < 8 := lt_of_lt_of_eq t.isLt N_0
  constructor
  case hn => exact hN
  case hD => intro t j ht; exact at2_rows _ t j ht
  case h0 =>
    intro r j
    refine blk_at (m ((c : Thread nD τ).loc main_arg0)) _ _ _ ?_ ?_
    · show win0_0.index t 0 * 512 + 1 * r.val = _; rw [h00]; omega
    · show win0_0.index t 1 * 1024 + 1 * j.val = _; rw [h01]; omega
  case h1 =>
    intro r j h
    refine blk_at (m ((c : Thread nD τ).loc main_arg0)) _ _ _ ?_ ?_
    · show win0_1.index t 0 * 16 + 1 * r.val = _; rw [h10 h]; omega
    · show win0_1.index t 1 * 1024 + 1 * j.val = _; rw [h11]; omega
  case h2 =>
    intro r j
    refine blk_at (m ((c : Thread nD τ).loc main_arg1)) _ _ _ ?_ ?_
    · show win0_2.index t 0 * 1024 + 1 * r.val = _; rw [h20]; omega
    · show win0_2.index t 1 * 1024 + 1 * j.val = _; rw [h21]; omega
  case h3 =>
    intro r j
    refine blk_at (m ((c : Thread nD τ).loc main_arg2)) _ _ _ ?_ ?_
    · show win0_3.index t 0 * 512 + 1 * r.val = _; rw [h30]; omega
    · show win0_3.index t 1 * 3072 + 1 * j.val = _; rw [h31]; omega
  case h4 =>
    intro r j h
    refine blk_at (m ((c : Thread nD τ).loc main_arg2)) _ _ _ ?_ ?_
    · show win0_4.index t 0 * 16 + 1 * r.val = _; rw [h40 h]; omega
    · show win0_4.index t 1 * 1024 + 1 * j.val = _; rw [h41]; omega
  case h5 =>
    intro r j h
    refine blk_at (m ((c : Thread nD τ).loc main_arg2)) _ _ _ ?_ ?_
    · show win0_5.index t 0 * 16 + 1 * r.val = _; rw [h50 h]; omega
    · show win0_5.index t 1 * 1024 + 1 * j.val = _; rw [h51]; omega
  case h6 =>
    intro r j h
    refine blk_at (m ((c : Thread nD τ).loc main_arg2)) _ _ _ ?_ ?_
    · show win0_6.index t 0 * 16 + 1 * r.val = _; rw [h60 h]; omega
    · show win0_6.index t 1 * 1024 + 1 * j.val = _; rw [h61]; omega
  case h7 =>
    intro r j
    refine blk_at (m ((c : Thread nD τ).loc main_arg3)) _ _ _ ?_ ?_
    · show win0_7.index t 0 * 3 + 1 * r.val = _; rw [h70]; omega
    · show win0_7.index t 1 * 1024 + 1 * j.val = _; rw [h71]; omega

/-- What a point leaves for the gradient of the projection, at an index. -/
theorem outs_8 (t : Fin cfg0.N) (y : S512x3072.Idx) : (outsAt0 m c t.val t.isLt).1 y
    = dz (mD m c) (mW m c) (mZ m c) (mK m c) (512 * t.val + (y 0).val) (y 1).val := by
  have hN : t.val < 8 := lt_of_lt_of_eq t.isLt N_0
  have hi : (grid0.coords t 0).val = t.val := (index_facts t).2.2.2.2.2.2.2.2.2.2.2.2.2.2.2.2.2.2.2.2
  by_cases h : t.val = 0
  · rw [outsAt0_A m c t (by omega) (by omega)]
    dsimp only
    exact out_A_8 (hi := hi) (h := blocks m c t) ..
  · rw [outsAt0_B m c t (by omega) (by omega)]
    dsimp only
    exact out_B_8 (hi := hi) (h := blocks m c t) ..

/-- The sums over two stretches of rows, one after the other, add up. -/
theorem dk_add (D W Z : ℕ → ℕ → EReal) (s lo a b j : ℕ) : dk D W Z s lo (a + b) j = dk D W Z s lo a j + dk D W Z s (lo + a) b j := by
  unfold dk
  rw [Fin.sum_univ_add]
  congr 1
  refine Finset.sum_congr rfl fun r _ => ?_
  simp only [Fin.val_natAdd, Nat.add_assoc]

/-- What the points up to `n` leave for the taps' gradient: the sums over the rows so far. -/
theorem outs_9 : ∀ (n : ℕ) (hn : n < cfg0.N) (y : S3x1024.Idx), (outsAt0 m c n hn).2 y
    = dk (mD m c) (mW m c) (mZ m c) (2 - (y 0).val) 0 (512 * (n + 1)) (y 1).val
  | 0, hn, y => by
    have hi : (grid0.coords ⟨0, hn⟩ 0).val = 0 := (index_facts ⟨0, hn⟩).2.2.2.2.2.2.2.2.2.2.2.2.2.2.2.2.2.2.2.2
    have e := outsAt0_A m c ⟨0, hn⟩ rfl (by simp)
    refine (congrArg (fun p => p.2 y) e).trans ?_
    dsimp only
    refine (out_A_9 (n := 0) (hi := hi) (h := blocks m c ⟨0, hn⟩) ..).trans ?_
    rw [Nat.mul_zero, Nat.zero_add, Nat.mul_one]
  | n + 1, hn, y => by
    have hN : n + 1 < 8 := lt_of_lt_of_eq hn N_0
    have hi : (grid0.coords ⟨n + 1, hn⟩ 0).val = n + 1 := (index_facts ⟨n + 1, hn⟩).2.2.2.2.2.2.2.2.2.2.2.2.2.2.2.2.2.2.2.2
    have e := outsAt0_B m c ⟨n + 1, hn⟩ (by show ¬(n + 1) % 8 = 0; omega) (by show 1 ≤ n + 1; omega)
    refine (congrArg (fun p => p.2 y) e).trans ?_
    dsimp only
    refine (out_B_9 (n := n + 1) (hi := hi) (h := blocks m c ⟨n + 1, hn⟩) ..).trans ?_
    refine (congrArg (· + _) (outs_9 n (Nat.lt_of_succ_lt hn) y)).trans ?_
    rw [show 512 * (n + 1 + 1) = 512 * (n + 1) + 512 by omega, dk_add, Nat.zero_add]

/-- The gradient of the projection, as contents of its array. -/
def gz : Vec Ideal S4096x3072 .bf16 := fun i => dz (mD m c) (mW m c) (mZ m c) (mK m c) (i 0).val (i 1).val

/-- The gradient of the taps, as contents of its array. -/
def gk : Vec Ideal S3x1024 .f32 := fun i => dk (mD m c) (mW m c) (mZ m c) (2 - (i 0).val) 0 4096 (i 1).val

/-- Every point writes back its block of the gradient of the projection. -/
theorem flushed_8 (t : Fin cfg0.N) (_ : (cfg0.win 8).flush t = true) :
    (dats m 0 c).flushed 8 t = ((cfg0.win 8).blk t).view.read (Elt Ideal) (gz m c) := by
  rw [Value.flushed8]
  have hx := index_facts t
  funext y
  refine (outs_8 m c t y).trans ?_
  refine congrArg₂ (dz (mD m c) (mW m c) (mZ m c) (mK m c)) ?_ ?_
  · show _ = win0_8.index t 0 * 512 + 1 * (y 0).val
    rw [hx.2.2.2.2.2.2.2.2.2.2.2.2.2.2.2.2.1]; omega
  · show _ = win0_8.index t 1 * 3072 + 1 * (y 1).val
    rw [hx.2.2.2.2.2.2.2.2.2.2.2.2.2.2.2.2.2.1]; omega

/-- So the array of the projection's gradient ends holding it. -/
theorem final_8 : (dats m 0 c).arrAt 8 cfg0.N = gz m c :=
  (dats m 0 c).arrAt_eq_of_cover 8 (gz m c) (flushed_8 m c) fun i => by
    have h0 : (i 0 : Nat) < 4096 := (i 0).isLt
    have h1 : (i 1 : Nat) < 3072 := (i 1).isLt
    have hN : (i 0 : Nat) / 512 < cfg0.N := lt_of_lt_of_eq (by omega : (i 0 : Nat) / 512 < 8) N_0.symm
    refine ⟨⟨(i 0 : Nat) / 512, hN⟩, flush0_8 _, ?_⟩
    have hx := index_facts ⟨(i 0 : Nat) / 512, hN⟩
    show i ∈ ((View.whole main_v0_0).slice (win0_8.rect ⟨(i 0 : Nat) / 512, hN⟩)).set
    rw [View.set_slice_whole, Rect.mem_set_unit]
    intro a
    match a with
    | ⟨0, _⟩ =>
      show win0_8.index ⟨(i 0 : Nat) / 512, hN⟩ 0 * 512 ≤ (i 0 : Nat) ∧ (i 0 : Nat) < win0_8.index ⟨(i 0 : Nat) / 512, hN⟩ 0 * 512 + 512
      rw [hx.2.2.2.2.2.2.2.2.2.2.2.2.2.2.2.2.1]; dsimp only; omega
    | ⟨1, _⟩ =>
      show win0_8.index ⟨(i 0 : Nat) / 512, hN⟩ 1 * 3072 ≤ (i 1 : Nat) ∧ (i 1 : Nat) < win0_8.index ⟨(i 0 : Nat) / 512, hN⟩ 1 * 3072 + 3072
      rw [hx.2.2.2.2.2.2.2.2.2.2.2.2.2.2.2.2.2.1]; omega

/-- The last point writes back the taps' gradient. -/
theorem flushed_9 (t : Fin cfg0.N) (hf : (cfg0.win 9).flush t = true) :
    (dats m 0 c).flushed 9 t = ((cfg0.win 9).blk t).view.read (Elt Ideal) (gk m c) := by
  have h7 : t.val = 7 := by have := (flush0_9 t).mp hf; have := lt_of_lt_of_eq t.isLt N_0; omega
  rw [Value.flushed9]
  have hx := index_facts t
  funext y
  refine (outs_9 m c t.val t.isLt y).trans ?_
  have e0 : (y 0).val = win0_9.index t 0 * 3 + 1 * (y 0).val := by
    rw [hx.2.2.2.2.2.2.2.2.2.2.2.2.2.2.2.2.2.2.1]; omega
  have e1 : (y 1).val = win0_9.index t 1 * 1024 + 1 * (y 1).val := by
    rw [hx.2.2.2.2.2.2.2.2.2.2.2.2.2.2.2.2.2.2.2.1]; omega
  rw [h7]
  exact congrArg₂ (fun a b => dk (mD m c) (mW m c) (mZ m c) (2 - a) 0 4096 b) e0 e1

/-- So the array of the taps' gradient ends holding it. -/
theorem final_9 : (dats m 0 c).arrAt 9 cfg0.N = gk m c :=
  (dats m 0 c).arrAt_eq_of_cover 9 (gk m c) (flushed_9 m c) fun i => by
    have h0 : (i 0 : Nat) < 3 := (i 0).isLt
    have h1 : (i 1 : Nat) < 1024 := (i 1).isLt
    have hN : 7 < cfg0.N := lt_of_lt_of_eq (by omega : 7 < 8) N_0.symm
    refine ⟨⟨7, hN⟩, (flush0_9 _).mpr rfl, ?_⟩
    have hx := index_facts ⟨7, hN⟩
    show i ∈ ((View.whole main_v0_1).slice (win0_9.rect ⟨7, hN⟩)).set
    rw [View.set_slice_whole, Rect.mem_set_unit]
    intro a
    match a with
    | ⟨0, _⟩ =>
      show win0_9.index ⟨7, hN⟩ 0 * 3 ≤ (i 0 : Nat) ∧ (i 0 : Nat) < win0_9.index ⟨7, hN⟩ 0 * 3 + 3
      rw [hx.2.2.2.2.2.2.2.2.2.2.2.2.2.2.2.2.2.2.1]; omega
    | ⟨1, _⟩ =>
      show win0_9.index ⟨7, hN⟩ 1 * 1024 ≤ (i 1 : Nat) ∧ (i 1 : Nat) < win0_9.index ⟨7, hN⟩ 1 * 1024 + 1024
      rw [hx.2.2.2.2.2.2.2.2.2.2.2.2.2.2.2.2.2.2.2.1]; omega

end

namespace Host

open Cert.ReferenceIdeal Cert.ReferenceIdeal.Gen Cert.ReferenceIdeal.Read Cert.Mat Cert.ConvGrad Idealize.ShloMosaic

variable (x0 : Vec Ideal S4096x1024 .bf16) (x1 : Vec Ideal S1024x1024 .bf16) (x2 : Vec Ideal S4096x3072 .bf16)
  (x3 : Vec Ideal S3x1024 .f32)

/-- The output's cotangent, as a matrix read at numbers. -/
def D : ℕ → ℕ → EReal := at2 (R := 4096) (C := 1024) x0
/-- The output projection. -/
def W : ℕ → ℕ → EReal := at2 (R := 1024) (C := 1024) x1
/-- The combined projection. -/
def Z : ℕ → ℕ → EReal := at2 (R := 4096) (C := 3072) x2
/-- The taps. -/
def K : ℕ → ℕ → EReal := at2 (R := 3) (C := 1024) x3

theorem D_at (r : Fin 4096) (j : Fin 1024) : x0 (ix2 r j) = D x0 r j := at2_ix (R := 4096) (C := 1024) x0 r j
theorem W_at (r j : Fin 1024) : x1 (ix2 r j) = W x1 r j := at2_ix (R := 1024) (C := 1024) x1 r j
theorem Z_at (r : Fin 4096) (j : Fin 3072) : x2 (ix2 r j) = Z x2 r j := at2_ix (R := 4096) (C := 3072) x2 r j
theorem K_at (r : Fin 3) (j : Fin 1024) : x3 (ix2 r j) = K x3 r j := at2_ix (R := 3) (C := 1024) x3 r j

/-- The cotangent of the gated product. -/
theorem g_at (r : Fin 4096) (j : Fin 1024) : val_main_v28 (F := Ideal) x0 x1 (ix2 r j) = g (D x0) (W x1) r j := by
  pointwise [val_main_v28, val_main_v0, val_main_v1]
  exact Finset.sum_congr rfl fun k _ => congrArg₂ (· * ·) (D_at x0 r k) (W_at x1 j k)

/-- The convolution's input with two zero rows before it. -/
theorem padded_at (r : Fin 4098) (j : Fin 1024) : val_main_v8 (F := Ideal) x2 (ix2 r j) = back (Z x2) 2 r j := by
  pointwise [val_main_v8, val_main_v7, val_main_cst, val_main_v6, val_main_v5, val_main_v4, val_main_v2]
  unfold back p
  split
  · exact (if_neg (by omega)).symm
  · exact (congrArg₂ (· * ·) (Z_at x2 _ _) (Z_at x2 _ _)).trans (if_pos (show 2 ≤ r.val by omega)).symm

/-- Rows of the padded input, numbered from a later row. -/
theorem back_up (s u t j : ℕ) (h : s = u + s - u) (hu : u ≤ s) (Z : ℕ → ℕ → EReal) : back Z s (u + t) j = back Z (s - u) t j := by
  unfold back
  by_cases hc : s - u ≤ t
  · rw [if_pos (by omega), if_pos hc]; congr 1; omega
  · rw [if_neg (by omega), if_neg hc]

theorem padded1_at (r : Fin 4098) (t : ℕ) (h : r.val = 1 + t) (j : Fin 1024) : val_main_v8 (F := Ideal) x2 (ix2 r j) = back (Z x2) 1 t j :=
  (padded_at x2 r j).trans (by rw [h]; exact back_up 2 1 t j (by omega) (by omega) _)

theorem padded0_at (r : Fin 4098) (t : ℕ) (h : r.val = 2 + t) (j : Fin 1024) : val_main_v8 (F := Ideal) x2 (ix2 r j) = back (Z x2) 0 t j :=
  (padded_at x2 r j).trans (by rw [h]; exact back_up 2 2 t j (by omega) (by omega) _)

/-- The convolution. -/
theorem q_at (r : Fin 4096) (j : Fin 1024) : val_main_v25 (F := Ideal) x2 x3 (ix2 r j) = q (Z x2) (K x3) r j := by
  pointwise [val_main_v25, val_main_v24, val_main_v23, val_main_v22, val_main_v21, val_main_v20, val_main_v19,
    val_main_v18, val_main_v17, val_main_v16, val_main_v15, val_main_v14, val_main_cst_1, val_main_v13, val_main_v12,
    val_main_v11, val_main_v10]
  refine Eq.trans (congrArg₂ (· + ·) (congrArg₂ (· + ·) (congrArg₂ (· * ·) (K_at x3 0 j) (padded_at x2 _ j))
    (congrArg₂ (· * ·) (K_at x3 1 j) (padded1_at x2 _ r.val rfl j)))
    (congrArg₂ (· * ·) (K_at x3 2 j) ((padded0_at x2 _ r.val rfl j).trans (if_pos (Nat.zero_le _))))) ?_
  unfold q
  exact (add_comm _ _).trans ((congrArg (_ + ·) (add_comm _ _)).trans (add_assoc _ _ _).symm)

/-- The cotangent of the convolution's output. -/
theorem dq_at (r : Fin 4096) (j : Fin 1024) : val_main_v29 (F := Ideal) x0 x1 x2 (ix2 r j) = dq (D x0) (W x1) (Z x2) r j := by
  pointwise [val_main_v29, val_main_v3, val_main_v2]
  exact (congrArg₂ (· * ·) (Z_at x2 _ _) (g_at x0 x1 r j)).trans (mul_comm _ _)

/-- Below the last row the cotangent is zero. -/
theorem dq_rows (t j : ℕ) (h : 4096 ≤ t) : dq (D x0) (W x1) (Z x2) t j = 0 := by
  unfold dq g
  have e : ∀ k, D x0 t k = 0 := fun k => at2_rows (R := 4096) (C := 1024) x0 t k h
  simp [e]

/-- The cotangent of the convolution's input. -/
theorem dp_at (r : Fin 4096) (j : Fin 1024) : val_main_v57 (F := Ideal) x0 x1 x2 x3 (ix2 r j)
    = dp (D x0) (W x1) (Z x2) (K x3) r j := by
  pointwise [val_main_v57, val_main_v53, val_main_v52, val_main_v44, val_main_v43, val_main_v36, val_main_cst_3,
    val_main_cst_6, val_main_cst_9, val_main_v32, val_main_v39, val_main_v48, val_main_v31,val_main_v38,
    val_main_v47,val_main_v21, val_main_v16, val_main_v10]
  unfold dp
  refine congrArg₂ (· + ·) (congrArg₂ (· + ·) (congrArg₂ (· * ·) (K_at x3 2 j) (dq_at x0 x1 x2 r j)) ?_) ?_
  · split
    · exact congrArg₂ (· * ·) (K_at x3 1 j) ((dq_at x0 x1 x2 _ j).trans
        (congrArg (dq _ _ _ · j) (by show 2 + r.val - 1 = r.val + 1; omega)))
    · rw [dq_rows x0 x1 x2 _ _ (by omega), mul_zero]
  · split
    · exact congrArg₂ (· * ·) (K_at x3 0 j) ((dq_at x0 x1 x2 _ j).trans
        (congrArg (dq _ _ _ · j) (by show 2 + r.val = r.val + 2; omega)))
    · rw [dq_rows x0 x1 x2 _ _ (by omega), mul_zero]

/-- The first result: the gradient of the combined projection. -/
theorem dz_at (r : Fin 4096) (n : Fin 3072) : val_main_v61 (F := Ideal) x0 x1 x2 x3 (ix2 r n)
    = dz (D x0) (W x1) (Z x2) (K x3) r n := by
  pointwise [val_main_v61, val_main_v60, val_main_v59, val_main_v58, val_main_v30, val_main_v5, val_main_v4, val_main_v2]
  unfold dz
  split
  · rename_i h
    exact congrArg₂ (· * ·) (g_at x0 x1 _ _) (q_at x2 x3 _ _)
  · rename_i h
    split
    · rename_i h'
      exact (congrArg₂ (· * ·) (dp_at x0 x1 x2 x3 _ _) (Z_at x2 _ _)).trans (if_pos (show n.val < 2048 by omega)).symm
    · rename_i h'
      have e : n.val - 1024 - 1024 = n.val - 2048 := by omega
      refine Eq.trans ?_ (if_neg (show ¬n.val < 2048 by omega)).symm
      refine (mul_comm _ _).trans (congrArg₂ (· * ·) ((dp_at x0 x1 x2 x3 _ _).trans ?_) ((Z_at x2 _ _).trans ?_))
      · exact congrArg (dp _ _ _ _ r.val) e
      · exact congrArg (fun k => Z x2 r.val (1024 + k)) e

/-- The sum for the last tap. -/
theorem tap2_at (r : Fin 1) (j : Fin 1024) : val_main_v35 (F := Ideal) x0 x1 x2 (ix2 r j)
    = dk (D x0) (W x1) (Z x2) 0 0 4096 j := by
  pointwise [val_main_v35, val_main_v34, val_main_v33, val_main_cst_2, val_main_v22]
  exact Finset.sum_congr rfl fun t _ => congrArg₂ (· * ·)
    ((dq_at x0 x1 x2 t j).trans (congrArg (dq _ _ _ · j) (Nat.zero_add _).symm))
    (padded0_at x2 _ (0 + t.val) (by show 2 + t.val = 2 + (0 + t.val); omega) j)

/-- The sum for the middle tap. -/
theorem tap1_at (r : Fin 1) (j : Fin 1024) : val_main_v42 (F := Ideal) x0 x1 x2 (ix2 r j)
    = dk (D x0) (W x1) (Z x2) 1 0 4096 j := by
  pointwise [val_main_v42, val_main_v41, val_main_v40, val_main_cst_5, val_main_v17]
  exact Finset.sum_congr rfl fun t _ => congrArg₂ (· * ·)
    ((dq_at x0 x1 x2 t j).trans (congrArg (dq _ _ _ · j) (Nat.zero_add _).symm))
    (padded1_at x2 _ (0 + t.val) (by show 1 + t.val = 1 + (0 + t.val); omega) j)

/-- The sum for the first tap. -/
theorem tap0_at (r : Fin 1) (j : Fin 1024) : val_main_v51 (F := Ideal) x0 x1 x2 (ix2 r j)
    = dk (D x0) (W x1) (Z x2) 2 0 4096 j := by
  pointwise [val_main_v51, val_main_v50, val_main_v49, val_main_cst_8, val_main_v11]
  exact Finset.sum_congr rfl fun t _ => congrArg₂ (· * ·)
    ((dq_at x0 x1 x2 t j).trans (congrArg (dq _ _ _ · j) (Nat.zero_add _).symm))
    ((padded_at x2 _ j).trans (congrArg (back _ 2 · j) (show t.val = 0 + t.val by omega)))

/-- The second result: the gradient of the taps. -/
theorem dk_at (r : Fin 3) (j : Fin 1024) : val_main_v55 (F := Ideal) x0 x1 x2 (ix2 r j)
    = dk (D x0) (W x1) (Z x2) (2 - r.val) 0 4096 j := by
  pointwise [val_main_v55, val_main_v54, val_main_v46, val_main_v45, val_main_v37, val_main_cst_4, val_main_cst_7,
    val_main_cst_10]
  fin_cases r
  · exact (congrArg₂ (· + ·) (zero_add _) (tap0_at x0 x1 x2 _ j)).trans (zero_add _)
  · exact (congrArg₂ (· + ·) ((zero_add _).trans (tap1_at x0 x1 x2 _ j)) rfl).trans (add_zero _)
  · exact (congrArg₂ (· + ·) ((add_zero _).trans (tap2_at x0 x1 x2 _ j)) rfl).trans (add_zero _)

end Host

section

open Idealize.ShloMosaic Idealize.ShloMosaic.TcCoe Idealize.SL.Sem

instance : Cert.KernelIdeal.Facts := Cert.KernelIdeal.Gen.facts
instance : Cert.ReferenceIdeal.Facts := Cert.ReferenceIdeal.Gen.facts

/-- The host's run leaves no counter raised and keeps its arguments. -/
theorem host_frame : Cert.quiescent_ReferenceIdeal := fun m g _ =>
  (θ_run _ _ _).mono (fun r h => ⟨fun c => (h c).2.2, Idealize.ShloMosaic.sem_eq_zero_of_no_sems (by decide) r.2⟩)
    (Cert.ReferenceIdeal.Value.run (F := Ideal) m g)

/-- Both results of the kernel's idealization are the host's, entry by entry, for every argument. -/
theorem values : Cert.algebraic_KernelIdeal_ReferenceIdeal := by
  intro m g m' g' _ hag
  refine ⟨fun c => gz m c, fun c => gk m c, ?_, ?_⟩
  · exact (θ_run _ _ _).mono (fun r h c => ⟨(h c).1.trans (final_8 m c), (h c).2.1.trans (final_9 m c), (h c).2.2⟩)
      (Cert.KernelIdeal.Value.run_blocks (F := Ideal) m g)
  · refine (θ_run _ _ _).mono (fun r h c => ⟨(h c).1.trans ?_, (h c).2.1.trans ?_, (h c).2.2⟩)
      (Cert.ReferenceIdeal.Value.run (F := Ideal) m' g')
    · obtain ⟨h0, h1, h2, h3⟩ := hag c
      rw [Cert.ReferenceIdeal.Read.val_main_v61_eq, h0, h1, h2, h3]
      funext i
      obtain ⟨r, n, rfl⟩ := Mat.ix2_of i
      exact Host.dz_at _ _ _ _ r n
    · obtain ⟨h0, h1, h2, h3⟩ := hag c
      refine (Cert.ReferenceIdeal.Read.val_main_v55_eq (F := Ideal) _ _ _).trans ?_
      rw [h0, h1, h2]
      funext i
      obtain ⟨r, n, rfl⟩ := Mat.ix2_of i
      exact Host.dk_at _ _ _ r n

end

end Cert.ConvGrad

end
-- ==== Proof.MatClaims.lean ====
/-
  The value claims of the calls that multiply by one matrix.
-/
module

public import proofs.«01_k».proof.Defs
public import proofs.«01_k».proof.Proof.Spec
public import proofs.«01_k».proof.Proof.Gen.Kernel2Ideal.Value
public import proofs.«01_k».proof.Proof.Gen.Reference2Ideal.Read
public import Idealize.ShloMosaic.Lib.Pointwise
public import Idealize.ShloMosaic.Lib.Tactic
public import Idealize.ShloMosaic.Lib.Pipeline.ValueKit
public import Idealize.ShloMosaic.Lib.Quiescent
public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Gen.Kernel12Ideal.Value
public import proofs.«01_k».proof.Proof.Gen.Reference12Ideal.Read

@[expose] public section

set_option maxRecDepth 16384

noncomputable section

/-! The value claim of the gradient of the up-projection: the kernel's array is the host's. -/

namespace Cert.UpGrad

open Cert.Kernel2Ideal Cert.Kernel2Ideal.Gen Idealize.ShloMosaic Idealize.ShloMosaic.TcCoe Idealize.SL.Sem
open Idealize.ShloMosaic.Pipeline (Dat)

instance : Cert.Kernel2Ideal.Facts := Cert.Kernel2Ideal.Gen.facts
instance : Cert.Reference2Ideal.Facts := Cert.Reference2Ideal.Gen.facts

/-- The gradient: in block `b` the columns of group `b % 4`, the gate's for `b < 4` and the value's after. -/
def grad (h : Vec Ideal S4096x1024 .bf16) (d : Vec Ideal S4x2x4096x704 .bf16) : Vec Ideal S8x704x1024 .bf16 := fun i =>
  ∑ t : Fin 4096, d (ix4 ⟨(i 0).val % 4, Nat.mod_lt _ (by omega)⟩
    ⟨(i 0).val / 4, by have h0 : (i 0).val < 8 := (i 0).isLt; omega⟩ t (i 1)) * h (ix2 t (i 2))

/-- What a grid point leaves in the output's block: the product of its two blocks over the tokens. -/
theorem out_apply (c : Dev nD) (i : grid0.Coords) (a2 : Memref sig .tc .vmem S4096x1024 .bf16) (b2 : a2.IsWhole)
    (a3 : Memref sig .tc .vmem S1x1x4096x704 .bf16) (b3 : a3.IsWhole) (a4 : Memref sig .tc .vmem S1x704x1024 .bf16)
    (b4 : a4.IsWhole) (a5 : Memref sig .tc .vmem S704x1024 .f32) (b5 : a5.IsWhole) (hc0 : cond0_0 i)
    (hc1 : ¬cond0_1 i) (hc2 : cond0_2 i) (x0 : Vec Ideal S4096x1024 .bf16) (x1 : Vec Ideal S1x1x4096x704 .bf16)
    (y : S1x704x1024.Idx) :
    out0_A_2 c i a2 b2 a3 b3 a4 b4 a5 b5 hc0 hc1 hc2 x0 x1 y
      = ∑ t : Fin 4096, x1 (ix4 0 0 t (y 1)) * x0 (ix2 t (y 2)) := by
  unfold out0_A_2
  rw [View.read_writes_eq_canon _ _ _ (by exact fun _ => cover0_A_2 ..)]
  unfold kernelRun0_A
  dsimp only
  sl_unfold_words
  simp only [View.readAt_eq_ld, Memref.IsWhole.read_unread, View.ld_unit_zero (S := S4096x1024) Mat.hz2,
    View.ld_unit_zero (S := S1x1x4096x704) Mat.hz4, shapeCast_self, View.readCov_unit_zero (S := S704x1024) _ Mat.hz2,
    View.canon_unit_zero (S := S1x704x1024) Mat.hz3]
  obtain ⟨r, j, n, rfl⟩ := Mat.ix3_of y
  pointwise [k0_pay4, k0_pay2, k0_pay1]

variable (m : (ℓ : Loc nD τ sig) → Buf (Elt Ideal) ℓ) (c : Dev nD)

/-- Where the windows' blocks begin, at each grid point. -/
theorem index_facts : ∀ t : Fin grid0.N,
    win0_0.index t 0 = 0 ∧ win0_0.index t 1 = 0
    ∧ win0_1.index t 0 = t.val % 4 ∧ win0_1.index t 1 = t.val / 4 ∧ win0_1.index t 2 = 0 ∧ win0_1.index t 3 = 0
    ∧ win0_2.index t 0 = t.val ∧ win0_2.index t 1 = 0 ∧ win0_2.index t 2 = 0 := by decide +kernel

/-- The gradient of the arguments as launched. -/
def gw : Vec Ideal S8x704x1024 .bf16 :=
  grad (m ((c : Thread nD τ).loc main_arg0)) (m ((c : Thread nD τ).loc main_arg1))

/-- Every point writes back its block of the gradient. -/
theorem flushed (t : Fin cfg0.N) (_ : (cfg0.win 2).flush t = true) :
    (dats m 0 c).flushed 2 t = ((cfg0.win 2).blk t).view.read (Elt Ideal) (gw m c) := by
  rw [Value.flushed2_A]
  have hx := index_facts t
  have hN : t.val < 8 := lt_of_lt_of_eq t.isLt N_0
  funext y
  refine (out_apply c _ _ _ _ _ _ _ _ _ _ _ _ _ _ y).trans ?_
  show _ = gw m c _
  unfold gw grad
  refine Finset.sum_congr rfl fun r _ => congrArg₂ (fun p q : EReal => p * q) ?_ ?_
  · have y0 : (y 0).val < 1 := (y 0).isLt
    refine congrArg (m ((c : Thread nD τ).loc main_arg1)) (funext fun a => Fin.ext ?_)
    match a with
    | ⟨0, _⟩ => show win0_1.index t 0 * 1 + 1 * 0 = (win0_2.index t 0 * 1 + 1 * (y 0).val) % 4; omega
    | ⟨1, _⟩ => show win0_1.index t 1 * 1 + 1 * 0 = (win0_2.index t 0 * 1 + 1 * (y 0).val) / 4; omega
    | ⟨2, _⟩ => show win0_1.index t 2 * 4096 + 1 * r.val = r.val; omega
    | ⟨3, _⟩ => show win0_1.index t 3 * 704 + 1 * (y 1).val = win0_2.index t 1 * 704 + 1 * (y 1).val; omega
  · refine congrArg (m ((c : Thread nD τ).loc main_arg0)) (funext fun a => Fin.ext ?_)
    match a with
    | ⟨0, _⟩ => show win0_0.index t 0 * 4096 + 1 * r.val = r.val; omega
    | ⟨1, _⟩ => show win0_0.index t 1 * 1024 + 1 * (y 2).val = win0_2.index t 2 * 1024 + 1 * (y 2).val; omega

/-- So the result's array ends holding the gradient. -/
theorem final : (dats m 0 c).arrAt 2 cfg0.N = gw m c :=
  (dats m 0 c).arrAt_eq_of_cover 2 (gw m c) (flushed m c) fun i => by
    have h0 : (i 0 : Nat) < 8 := (i 0).isLt
    have h1 : (i 1 : Nat) < 704 := (i 1).isLt
    have h2 : (i 2 : Nat) < 1024 := (i 2).isLt
    have hN : (i 0 : Nat) < cfg0.N := lt_of_lt_of_eq (by omega : (i 0 : Nat) < 8) N_0.symm
    refine ⟨⟨(i 0 : Nat), hN⟩, flush0_2 _, ?_⟩
    have hx := index_facts ⟨(i 0 : Nat), hN⟩
    dsimp only at hx
    show i ∈ ((View.whole main_v0).slice (win0_2.rect ⟨(i 0 : Nat), hN⟩)).set
    rw [View.set_slice_whole, Rect.mem_set_unit]
    intro a
    match a with
    | ⟨0, _⟩ => show Mat.In (win0_2.index ⟨(i 0 : Nat), hN⟩ 0) 1 (i 0); omega
    | ⟨1, _⟩ => show Mat.In (win0_2.index ⟨(i 0 : Nat), hN⟩ 1) 704 (i 1); omega
    | ⟨2, _⟩ => show Mat.In (win0_2.index ⟨(i 0 : Nat), hN⟩ 2) 1024 (i 2); omega

/-- The host's gradient, entry by entry. -/
theorem host_at (x0 : Vec Ideal S4096x1024 .bf16) (x1 : Vec Ideal S4x2x4096x704 .bf16) (i : S8x704x1024.Idx) :
    Cert.Reference2Ideal.Read.val_main_v10 (F := Ideal) x0 x1 i = grad x0 x1 i := by
  obtain ⟨r, j, n, rfl⟩ := Mat.ix3_of i
  unfold grad
  pointwise [Cert.Reference2Ideal.Read.val_main_v10, Cert.Reference2Ideal.Read.val_main_v9, Cert.Reference2Ideal.Read.val_main_v8, Cert.Reference2Ideal.Read.val_main_v7, Cert.Reference2Ideal.Read.val_main_v6, Cert.Reference2Ideal.Read.val_main_v3, Cert.Reference2Ideal.Read.val_main_v2, Cert.Reference2Ideal.Read.val_main_v1, Cert.Reference2Ideal.Read.val_main_v0]
  exact Finset.sum_congr rfl fun t _ => congrArg (fun z : EReal => z * x0 (ix2 t n)) (congrArg x1
    (congrArg₂ (fun p q => ix4 p q t j) (Fin.ext (by dsimp only; omega)) (Fin.ext (by dsimp only; omega))))

/-- The host's run leaves no counter raised and keeps its arguments. -/
theorem host_frame : Cert.quiescent_Reference2Ideal := fun m g _ =>
  (θ_run _ _ _).mono (fun r h => ⟨fun c => (h c).2, Idealize.ShloMosaic.sem_eq_zero_of_no_sems (by decide) r.2⟩)
    (Cert.Reference2Ideal.Value.run (F := Ideal) m g)

/-- The result of the kernel's idealization is the host's, entry by entry, for every argument. -/
theorem values : Cert.algebraic_Kernel2Ideal_Reference2Ideal := by
  intro m g m' g' _ hag
  refine ⟨fun c => gw m c, ?_, ?_⟩
  · exact (θ_run _ _ _).mono (fun r h c => ⟨(h c).1.trans (final m c), (h c).2⟩)
      (Cert.Kernel2Ideal.Value.run_blocks (F := Ideal) m g)
  · refine (θ_run _ _ _).mono (fun r h c => ⟨(h c).1.trans ?_, (h c).2⟩)
      (Cert.Reference2Ideal.Value.run (F := Ideal) m' g')
    obtain ⟨h0, h1⟩ := hag c
    refine (Cert.Reference2Ideal.Read.val_main_v10_eq (F := Ideal) _ _).trans ?_
    rw [h0, h1]
    funext i
    exact host_at _ _ i

end Cert.UpGrad

/-! The value claim of the gradient of the down-projection: the kernel's array is the host's. -/

namespace Cert.DownGrad

open Cert.Kernel3Ideal Cert.Kernel3Ideal.Gen Idealize.ShloMosaic Idealize.ShloMosaic.TcCoe Idealize.SL.Sem
open Idealize.ShloMosaic.Pipeline (Dat)

instance : Cert.Kernel3Ideal.Facts := Cert.Kernel3Ideal.Gen.facts
instance : Cert.Reference3Ideal.Facts := Cert.Reference3Ideal.Gen.facts

/-- The gradient: row `704 * m + j` takes column `j` of group `m`. -/
def grad (a : Vec Ideal S4x4096x704 .bf16) (d : Vec Ideal S4096x1024 .bf16) : Vec Ideal S2816x1024 .bf16 := fun i =>
  ∑ t : Fin 4096, a (ix3 ⟨(i 0).val / 704, by have h0 : (i 0).val < 2816 := (i 0).isLt; omega⟩ t
    ⟨(i 0).val % 704, Nat.mod_lt _ (by omega)⟩) * d (ix2 t (i 1))

/-- What a grid point leaves in the output's block: the product of its two blocks over the tokens. -/
theorem out_apply (c : Dev nD) (i : grid0.Coords) (a2 : Memref sig .tc .vmem S1x4096x704 .bf16) (b2 : a2.IsWhole)
    (a3 : Memref sig .tc .vmem S4096x1024 .bf16) (b3 : a3.IsWhole) (a4 : Memref sig .tc .vmem S704x1024 .bf16)
    (b4 : a4.IsWhole) (a5 : Memref sig .tc .vmem S704x1024 .f32) (b5 : a5.IsWhole) (hc0 : cond0_0 i)
    (hc1 : ¬cond0_1 i) (hc2 : cond0_2 i) (x0 : Vec Ideal S1x4096x704 .bf16) (x1 : Vec Ideal S4096x1024 .bf16)
    (y : S704x1024.Idx) :
    out0_A_2 c i a2 b2 a3 b3 a4 b4 a5 b5 hc0 hc1 hc2 x0 x1 y
      = ∑ t : Fin 4096, x0 (ix3 0 t (y 0)) * x1 (ix2 t (y 1)) := by
  unfold out0_A_2
  rw [View.read_writes_eq_canon _ _ _ (by exact fun _ => cover0_A_2 ..)]
  unfold kernelRun0_A
  dsimp only
  sl_unfold_words
  simp only [View.readAt_eq_ld, Memref.IsWhole.read_unread, View.ld_unit_zero (S := S1x4096x704) Mat.hz3,
    View.ld_unit_zero (S := S4096x1024) Mat.hz2, shapeCast_self, View.readCov_unit_zero (S := S704x1024) _ Mat.hz2,
    View.canon_unit_zero (S := S704x1024) Mat.hz2]
  obtain ⟨j, n, rfl⟩ := Mat.ix2_of y
  pointwise [k0_pay4, k0_pay2, k0_pay1]

variable (m : (ℓ : Loc nD τ sig) → Buf (Elt Ideal) ℓ) (c : Dev nD)

/-- Where the windows' blocks begin, at each grid point. -/
theorem index_facts : ∀ t : Fin grid0.N,
    win0_0.index t 0 = t.val ∧ win0_0.index t 1 = 0 ∧ win0_0.index t 2 = 0
    ∧ win0_1.index t 0 = 0 ∧ win0_1.index t 1 = 0 ∧ win0_2.index t 0 = t.val ∧ win0_2.index t 1 = 0 := by decide +kernel

/-- The gradient of the arguments as launched. -/
def gw : Vec Ideal S2816x1024 .bf16 :=
  grad (m ((c : Thread nD τ).loc main_arg0)) (m ((c : Thread nD τ).loc main_arg1))

/-- Every point writes back its block of the gradient. -/
theorem flushed (t : Fin cfg0.N) (_ : (cfg0.win 2).flush t = true) :
    (dats m 0 c).flushed 2 t = ((cfg0.win 2).blk t).view.read (Elt Ideal) (gw m c) := by
  rw [Value.flushed2_A]
  have hx := index_facts t
  have hN : t.val < 4 := lt_of_lt_of_eq t.isLt N_0
  funext y
  refine (out_apply c _ _ _ _ _ _ _ _ _ _ _ _ _ _ y).trans ?_
  show _ = gw m c _
  unfold gw grad
  refine Finset.sum_congr rfl fun r _ => congrArg₂ (fun p q : EReal => p * q) ?_ ?_
  · have y0 : (y 0).val < 704 := (y 0).isLt
    refine congrArg (m ((c : Thread nD τ).loc main_arg0)) (funext fun a => Fin.ext ?_)
    match a with
    | ⟨0, _⟩ => show win0_0.index t 0 * 1 + 1 * 0 = (win0_2.index t 0 * 704 + 1 * (y 0).val) / 704; omega
    | ⟨1, _⟩ => show win0_0.index t 1 * 4096 + 1 * r.val = r.val; omega
    | ⟨2, _⟩ => show win0_0.index t 2 * 704 + 1 * (y 0).val = (win0_2.index t 0 * 704 + 1 * (y 0).val) % 704; omega
  · refine congrArg (m ((c : Thread nD τ).loc main_arg1)) (funext fun a => Fin.ext ?_)
    match a with
    | ⟨0, _⟩ => show win0_1.index t 0 * 4096 + 1 * r.val = r.val; omega
    | ⟨1, _⟩ => show win0_1.index t 1 * 1024 + 1 * (y 1).val = win0_2.index t 1 * 1024 + 1 * (y 1).val; omega

/-- So the result's array ends holding the gradient. -/
theorem final : (dats m 0 c).arrAt 2 cfg0.N = gw m c :=
  (dats m 0 c).arrAt_eq_of_cover 2 (gw m c) (flushed m c) fun i => by
    have h0 : (i 0 : Nat) < 2816 := (i 0).isLt
    have h1 : (i 1 : Nat) < 1024 := (i 1).isLt
    have hN : (i 0 : Nat) / 704 < cfg0.N := lt_of_lt_of_eq (by omega : (i 0 : Nat) / 704 < 4) N_0.symm
    refine ⟨⟨(i 0 : Nat) / 704, hN⟩, flush0_2 _, ?_⟩
    have hx := index_facts ⟨(i 0 : Nat) / 704, hN⟩
    dsimp only at hx
    show i ∈ ((View.whole main_v0).slice (win0_2.rect ⟨(i 0 : Nat) / 704, hN⟩)).set
    rw [View.set_slice_whole, Rect.mem_set_unit]
    intro a
    match a with
    | ⟨0, _⟩ => show Mat.In (win0_2.index ⟨(i 0 : Nat) / 704, hN⟩ 0) 704 (i 0); omega
    | ⟨1, _⟩ => show Mat.In (win0_2.index ⟨(i 0 : Nat) / 704, hN⟩ 1) 1024 (i 1); omega

/-- The host's gradient, entry by entry. -/
theorem host_at (x0 : Vec Ideal S4x4096x704 .bf16) (x1 : Vec Ideal S4096x1024 .bf16) (i : S2816x1024.Idx) :
    Cert.Reference3Ideal.Read.val_main_v8 (F := Ideal) x0 x1 i = grad x0 x1 i := by
  obtain ⟨j, n, rfl⟩ := Mat.ix2_of i
  unfold grad
  pointwise [Cert.Reference3Ideal.Read.val_main_v8, Cert.Reference3Ideal.Read.val_main_v7, Cert.Reference3Ideal.Read.val_main_v6, Cert.Reference3Ideal.Read.val_main_v5, Cert.Reference3Ideal.Read.val_main_v2, Cert.Reference3Ideal.Read.val_main_v1, Cert.Reference3Ideal.Read.val_main_v0, Cert.Reference3Ideal.Read.val_main_v3]
  exact Finset.sum_congr rfl fun t _ => mul_comm (G := EReal) _ _

/-- The host's run leaves no counter raised and keeps its arguments. -/
theorem host_frame : Cert.quiescent_Reference3Ideal := fun m g _ =>
  (θ_run _ _ _).mono (fun r h => ⟨fun c => (h c).2, Idealize.ShloMosaic.sem_eq_zero_of_no_sems (by decide) r.2⟩)
    (Cert.Reference3Ideal.Value.run (F := Ideal) m g)

/-- The result of the kernel's idealization is the host's, entry by entry, for every argument. -/
theorem values : Cert.algebraic_Kernel3Ideal_Reference3Ideal := by
  intro m g m' g' _ hag
  refine ⟨fun c => gw m c, ?_, ?_⟩
  · exact (θ_run _ _ _).mono (fun r h c => ⟨(h c).1.trans (final m c), (h c).2⟩)
      (Cert.Kernel3Ideal.Value.run_blocks (F := Ideal) m g)
  · refine (θ_run _ _ _).mono (fun r h c => ⟨(h c).1.trans ?_, (h c).2⟩)
      (Cert.Reference3Ideal.Value.run (F := Ideal) m' g')
    obtain ⟨h0, h1⟩ := hag c
    refine (Cert.Reference3Ideal.Read.val_main_v8_eq (F := Ideal) _ _).trans ?_
    rw [h0, h1]
    funext i
    exact host_at _ _ i

end Cert.DownGrad

/-! The value claim of the gradient of an output projection: the kernel's array is the host's. -/

namespace Cert.OutGrad

open Cert.Kernel4Ideal Cert.Kernel4Ideal.Gen Idealize.ShloMosaic Idealize.ShloMosaic.TcCoe Idealize.SL.Sem
open Idealize.ShloMosaic.Pipeline (Dat)

instance : Cert.Kernel4Ideal.Facts := Cert.Kernel4Ideal.Gen.facts
instance : Cert.Reference4Ideal.Facts := Cert.Reference4Ideal.Gen.facts

/-- The gradient of `w` in `a @ w`. -/
def grad (a : Vec Ideal S4096x1024 .bf16) (d : Vec Ideal S4096x1024 .bf16) : Vec Ideal S1024x1024 .bf16 := fun i =>
  ∑ t : Fin 4096, a (ix2 t (i 0)) * d (ix2 t (i 1))

/-- What a grid point leaves in the output's block: the product of its two blocks over the tokens. -/
theorem out_apply (c : Dev nD) (i : grid0.Coords) (a2 : Memref sig .tc .vmem S4096x512 .bf16) (b2 : a2.IsWhole)
    (a3 : Memref sig .tc .vmem S4096x1024 .bf16) (b3 : a3.IsWhole) (a4 : Memref sig .tc .vmem S512x1024 .bf16)
    (b4 : a4.IsWhole) (a5 : Memref sig .tc .vmem S512x1024 .f32) (b5 : a5.IsWhole) (hc0 : cond0_0 i)
    (hc1 : ¬cond0_1 i) (hc2 : cond0_2 i) (x0 : Vec Ideal S4096x512 .bf16) (x1 : Vec Ideal S4096x1024 .bf16)
    (y : S512x1024.Idx) :
    out0_A_2 c i a2 b2 a3 b3 a4 b4 a5 b5 hc0 hc1 hc2 x0 x1 y
      = ∑ t : Fin 4096, x0 (ix2 t (y 0)) * x1 (ix2 t (y 1)) := by
  unfold out0_A_2
  rw [View.read_writes_eq_canon _ _ _ (by exact fun _ => cover0_A_2 ..)]
  unfold kernelRun0_A
  dsimp only
  sl_unfold_words
  simp only [View.readAt_eq_ld, Memref.IsWhole.read_unread, View.ld_unit_zero (S := S4096x512) Mat.hz2,
    View.ld_unit_zero (S := S4096x1024) Mat.hz2, shapeCast_self, View.readCov_unit_zero (S := S512x1024) _ Mat.hz2,
    View.canon_unit_zero (S := S512x1024) Mat.hz2]
  obtain ⟨j, n, rfl⟩ := Mat.ix2_of y
  pointwise [k0_pay4, k0_pay2, k0_pay1]

variable (m : (ℓ : Loc nD τ sig) → Buf (Elt Ideal) ℓ) (c : Dev nD)

/-- Where the windows' blocks begin, at each grid point. -/
theorem index_facts : ∀ t : Fin grid0.N,
    win0_0.index t 0 = 0 ∧ win0_0.index t 1 = t.val ∧ win0_1.index t 0 = 0 ∧ win0_1.index t 1 = 0
    ∧ win0_2.index t 0 = t.val ∧ win0_2.index t 1 = 0 := by decide +kernel

/-- The gradient of the arguments as launched. -/
def gw : Vec Ideal S1024x1024 .bf16 :=
  grad (m ((c : Thread nD τ).loc main_arg0)) (m ((c : Thread nD τ).loc main_arg1))

/-- Every point writes back its block of the gradient. -/
theorem flushed (t : Fin cfg0.N) (_ : (cfg0.win 2).flush t = true) :
    (dats m 0 c).flushed 2 t = ((cfg0.win 2).blk t).view.read (Elt Ideal) (gw m c) := by
  rw [Value.flushed2_A]
  have hx := index_facts t
  have hN : t.val < 2 := lt_of_lt_of_eq t.isLt N_0
  funext y
  refine (out_apply c _ _ _ _ _ _ _ _ _ _ _ _ _ _ y).trans ?_
  show _ = gw m c _
  unfold gw grad
  refine Finset.sum_congr rfl fun r _ => congrArg₂ (fun p q : EReal => p * q) ?_ ?_
  · refine congrArg (m ((c : Thread nD τ).loc main_arg0)) (funext fun a => Fin.ext ?_)
    match a with
    | ⟨0, _⟩ => show win0_0.index t 0 * 4096 + 1 * r.val = r.val; omega
    | ⟨1, _⟩ => show win0_0.index t 1 * 512 + 1 * (y 0).val = win0_2.index t 0 * 512 + 1 * (y 0).val; omega
  · refine congrArg (m ((c : Thread nD τ).loc main_arg1)) (funext fun a => Fin.ext ?_)
    match a with
    | ⟨0, _⟩ => show win0_1.index t 0 * 4096 + 1 * r.val = r.val; omega
    | ⟨1, _⟩ => show win0_1.index t 1 * 1024 + 1 * (y 1).val = win0_2.index t 1 * 1024 + 1 * (y 1).val; omega

/-- So the result's array ends holding the gradient. -/
theorem final : (dats m 0 c).arrAt 2 cfg0.N = gw m c :=
  (dats m 0 c).arrAt_eq_of_cover 2 (gw m c) (flushed m c) fun i => by
    have h0 : (i 0 : Nat) < 1024 := (i 0).isLt
    have h1 : (i 1 : Nat) < 1024 := (i 1).isLt
    have hN : (i 0 : Nat) / 512 < cfg0.N := lt_of_lt_of_eq (by omega : (i 0 : Nat) / 512 < 2) N_0.symm
    refine ⟨⟨(i 0 : Nat) / 512, hN⟩, flush0_2 _, ?_⟩
    have hx := index_facts ⟨(i 0 : Nat) / 512, hN⟩
    dsimp only at hx
    show i ∈ ((View.whole main_v0).slice (win0_2.rect ⟨(i 0 : Nat) / 512, hN⟩)).set
    rw [View.set_slice_whole, Rect.mem_set_unit]
    intro a
    match a with
    | ⟨0, _⟩ => show Mat.In (win0_2.index ⟨(i 0 : Nat) / 512, hN⟩ 0) 512 (i 0); omega
    | ⟨1, _⟩ => show Mat.In (win0_2.index ⟨(i 0 : Nat) / 512, hN⟩ 1) 1024 (i 1); omega

/-- The host's gradient, entry by entry. -/
theorem host_at (x0 : Vec Ideal S4096x1024 .bf16) (x1 : Vec Ideal S4096x1024 .bf16) (i : S1024x1024.Idx) :
    Cert.Reference4Ideal.Read.val_main_v6 (F := Ideal) x0 x1 i = grad x0 x1 i := by
  obtain ⟨j, n, rfl⟩ := Mat.ix2_of i
  unfold grad
  pointwise [Cert.Reference4Ideal.Read.val_main_v6, Cert.Reference4Ideal.Read.val_main_v5, Cert.Reference4Ideal.Read.val_main_v4, Cert.Reference4Ideal.Read.val_main_v3, Cert.Reference4Ideal.Read.val_main_v1, Cert.Reference4Ideal.Read.val_main_v0]
  exact Finset.sum_congr rfl fun t _ => mul_comm (G := EReal) _ _

/-- The host's run leaves no counter raised and keeps its arguments. -/
theorem host_frame : Cert.quiescent_Reference4Ideal := fun m g _ =>
  (θ_run _ _ _).mono (fun r h => ⟨fun c => (h c).2, Idealize.ShloMosaic.sem_eq_zero_of_no_sems (by decide) r.2⟩)
    (Cert.Reference4Ideal.Value.run (F := Ideal) m g)

/-- The result of the kernel's idealization is the host's, entry by entry, for every argument. -/
theorem values : Cert.algebraic_Kernel4Ideal_Reference4Ideal := by
  intro m g m' g' _ hag
  refine ⟨fun c => gw m c, ?_, ?_⟩
  · exact (θ_run _ _ _).mono (fun r h c => ⟨(h c).1.trans (final m c), (h c).2⟩)
      (Cert.Kernel4Ideal.Value.run_blocks (F := Ideal) m g)
  · refine (θ_run _ _ _).mono (fun r h c => ⟨(h c).1.trans ?_, (h c).2⟩)
      (Cert.Reference4Ideal.Value.run (F := Ideal) m' g')
    obtain ⟨h0, h1⟩ := hag c
    refine (Cert.Reference4Ideal.Read.val_main_v6_eq (F := Ideal) _ _).trans ?_
    rw [h0, h1]
    funext i
    exact host_at _ _ i

end Cert.OutGrad

/-! The value claim of the input projection of the even mixer: the kernel's array is the host's. -/

namespace Cert.AbProj

open Cert.Kernel7Ideal Cert.Kernel7Ideal.Gen Idealize.ShloMosaic Idealize.ShloMosaic.TcCoe Idealize.SL.Sem
open Idealize.ShloMosaic.Pipeline (Dat)

instance : Cert.Kernel7Ideal.Facts := Cert.Kernel7Ideal.Gen.facts
instance : Cert.Reference7Ideal.Facts := Cert.Reference7Ideal.Gen.facts

/-- One entry of the projection of `a`: column `j` is column `j % 256` of the weights' block `j / 256`. -/
def entry {T : ℕ} (a : (⟨2, ![T, 1024]⟩ : Shape).Idx → EReal) (w : S8x1024x256.Idx → EReal) (t : Fin T) (j : Fin 2048) : EReal :=
  ∑ k : Fin 1024, a (ix2 t k) * w (ix3 ⟨j.val / 256, by omega⟩ k ⟨j.val % 256, Nat.mod_lt _ (by omega)⟩)

/-- The projection of all 4096 rows. -/
def proj (a : Vec Ideal S4096x1024 .bf16) (w : Vec Ideal S8x1024x256 .bf16) : Vec Ideal S4096x2048 .bf16 := fun i => entry a w (i 0) (i 1)

/-- What a grid point leaves in the output's block: the projection of its rows. -/
theorem out_apply (x0 : Vec Ideal S1024x1024 .bf16) (x1 : Vec Ideal S8x1024x256 .bf16) (y : S1024x2048.Idx) :
    out0_2 x0 x1 y = entry x0 x1 (y 0) (y 1) := by
  unfold out0_2
  simp only [View.ld_unit_zero (S := S1024x1024) Mat.hz2]
  canon_tiles x e using (View.cover_of_tiled_head _ _ _ (by rfl) y)
  all_goals obtain ⟨t, j, rfl⟩ := Mat.ix2_of x
  all_goals have hj : j.val < 256 := j.isLt
  all_goals first
    | have f1 : (y 1).val = _ + j.val := e1
    | have f1 : (y 1).val = j.val := e1
  all_goals unfold entry
  all_goals pointwise [k0_pay1, k0_pay2, k0_pay3, k0_pay4, k0_pay5, k0_pay6, k0_pay7, k0_pay8]
  all_goals refine Finset.sum_congr rfl fun k _ => congrArg₂ (fun p q : EReal => p * q) (congrArg x0 (congrArg₂ ix2 (Fin.ext e0.symm) rfl)) ?_
  all_goals refine congrArg x1 (congrArg₂ (fun a b => ix3 a k b) (Fin.ext ?_) (Fin.ext ?_))
  all_goals first
    | (show _ = (y 1).val / 256; first | omega | (simp; omega))
    | (show _ = (y 1).val % 256; first | omega | (simp; omega))

variable (m : (ℓ : Loc nD τ sig) → Buf (Elt Ideal) ℓ) (c : Dev nD)

/-- Where the windows' blocks begin, at each grid point. -/
theorem index_facts : ∀ t : Fin grid0.N,
    win0_0.index t 0 = t.val ∧ win0_0.index t 1 = 0
    ∧ win0_1.index t 0 = 0 ∧ win0_1.index t 1 = 0 ∧ win0_1.index t 2 = 0
    ∧ win0_2.index t 0 = t.val ∧ win0_2.index t 1 = 0 := by decide +kernel

/-- The projection of the arguments as launched. -/
def gw : Vec Ideal S4096x2048 .bf16 :=
  proj (m ((c : Thread nD τ).loc main_arg0)) (m ((c : Thread nD τ).loc main_arg1))

/-- Every point writes back its block of the projection. -/
theorem flushed (t : Fin cfg0.N) (_ : (cfg0.win 2).flush t = true) :
    (dats m 0 c).flushed 2 t = ((cfg0.win 2).blk t).view.read (Elt Ideal) (gw m c) := by
  rw [Value.flushed2]
  have hx := index_facts t
  have hN : t.val < 4 := lt_of_lt_of_eq t.isLt N_0
  funext y
  refine (out_apply _ _ y).trans ?_
  show _ = gw m c _
  unfold gw proj entry
  have y1 : (y 1).val < 2048 := (y 1).isLt
  refine Finset.sum_congr rfl fun r _ => congrArg₂ (fun p q : EReal => p * q) ?_ ?_
  · refine congrArg (m ((c : Thread nD τ).loc main_arg0)) (funext fun a => Fin.ext ?_)
    match a with
    | ⟨0, _⟩ => show win0_0.index t 0 * 1024 + 1 * (y 0).val = win0_2.index t 0 * 1024 + 1 * (y 0).val; omega
    | ⟨1, _⟩ => show win0_0.index t 1 * 1024 + 1 * r.val = r.val; omega
  · refine congrArg (m ((c : Thread nD τ).loc main_arg1)) (funext fun a => Fin.ext ?_)
    match a with
    | ⟨0, _⟩ => show win0_1.index t 0 * 8 + 1 * ((y 1).val / 256) = (win0_2.index t 1 * 2048 + 1 * (y 1).val) / 256; omega
    | ⟨1, _⟩ => show win0_1.index t 1 * 1024 + 1 * r.val = r.val; omega
    | ⟨2, _⟩ => show win0_1.index t 2 * 256 + 1 * ((y 1).val % 256) = (win0_2.index t 1 * 2048 + 1 * (y 1).val) % 256; omega

/-- So the result's array ends holding the projection. -/
theorem final : (dats m 0 c).arrAt 2 cfg0.N = gw m c :=
  (dats m 0 c).arrAt_eq_of_cover 2 (gw m c) (flushed m c) fun i => by
    have h0 : (i 0 : Nat) < 4096 := (i 0).isLt
    have h1 : (i 1 : Nat) < 2048 := (i 1).isLt
    have hN : (i 0 : Nat) / 1024 < cfg0.N := lt_of_lt_of_eq (by omega : (i 0 : Nat) / 1024 < 4) N_0.symm
    refine ⟨⟨(i 0 : Nat) / 1024, hN⟩, flush0_2 _, ?_⟩
    have hx := index_facts ⟨(i 0 : Nat) / 1024, hN⟩
    dsimp only at hx
    show i ∈ ((View.whole main_v0).slice (win0_2.rect ⟨(i 0 : Nat) / 1024, hN⟩)).set
    rw [View.set_slice_whole, Rect.mem_set_unit]
    intro a
    match a with
    | ⟨0, _⟩ => show Mat.In (win0_2.index ⟨(i 0 : Nat) / 1024, hN⟩ 0) 1024 (i 0); omega
    | ⟨1, _⟩ => show Mat.In (win0_2.index ⟨(i 0 : Nat) / 1024, hN⟩ 1) 2048 (i 1); omega

/-- The host's projection, entry by entry. -/
theorem host_at (x0 : Vec Ideal S4096x1024 .bf16) (x1 : Vec Ideal S8x1024x256 .bf16) (i : S4096x2048.Idx) :
    Cert.Reference7Ideal.Read.val_main_v5 (F := Ideal) x0 x1 i = proj x0 x1 i := by
  obtain ⟨t, j, rfl⟩ := Mat.ix2_of i
  unfold proj entry
  pointwise [Cert.Reference7Ideal.Read.val_main_v5, Cert.Reference7Ideal.Read.val_main_v4, Cert.Reference7Ideal.Read.val_main_v3, Cert.Reference7Ideal.Read.val_main_v2, Cert.Reference7Ideal.Read.val_main_v1, Cert.Reference7Ideal.Read.val_main_v0]

/-- The host's run leaves no counter raised and keeps its arguments. -/
theorem host_frame : Cert.quiescent_Reference7Ideal := fun m g _ =>
  (θ_run _ _ _).mono (fun r h => ⟨fun c => (h c).2, Idealize.ShloMosaic.sem_eq_zero_of_no_sems (by decide) r.2⟩)
    (Cert.Reference7Ideal.Value.run (F := Ideal) m g)

/-- The result of the kernel's idealization is the host's, entry by entry, for every argument. -/
theorem values : Cert.algebraic_Kernel7Ideal_Reference7Ideal := by
  intro m g m' g' _ hag
  refine ⟨fun c => gw m c, ?_, ?_⟩
  · exact (θ_run _ _ _).mono (fun r h c => ⟨(h c).1.trans (final m c), (h c).2⟩)
      (Cert.Kernel7Ideal.Value.run_blocks (F := Ideal) m g)
  · refine (θ_run _ _ _).mono (fun r h c => ⟨(h c).1.trans ?_, (h c).2⟩)
      (Cert.Reference7Ideal.Value.run (F := Ideal) m' g')
    obtain ⟨h0, h1⟩ := hag c
    refine (Cert.Reference7Ideal.Read.val_main_v5_eq (F := Ideal) _ _).trans ?_
    rw [h0, h1]
    funext i
    exact host_at _ _ i

end Cert.AbProj

/-! The value claim of the input projection of the odd mixer: the kernel's array is the host's. -/

namespace Cert.CProj

open Cert.Kernel8Ideal Cert.Kernel8Ideal.Gen Idealize.ShloMosaic Idealize.ShloMosaic.TcCoe Idealize.SL.Sem
open Idealize.ShloMosaic.Pipeline (Dat)

instance : Cert.Kernel8Ideal.Facts := Cert.Kernel8Ideal.Gen.facts
instance : Cert.Reference8Ideal.Facts := Cert.Reference8Ideal.Gen.facts

/-- One entry of the projection of `a`: column `j` is column `j % 384` of the weights' block `j / 384`. -/
def entry {T : ℕ} (a : (⟨2, ![T, 1024]⟩ : Shape).Idx → EReal) (w : S8x1024x384.Idx → EReal) (t : Fin T) (j : Fin 3072) : EReal :=
  ∑ k : Fin 1024, a (ix2 t k) * w (ix3 ⟨j.val / 384, by omega⟩ k ⟨j.val % 384, Nat.mod_lt _ (by omega)⟩)

/-- The projection of all 4096 rows. -/
def proj (a : Vec Ideal S4096x1024 .bf16) (w : Vec Ideal S8x1024x384 .bf16) : Vec Ideal S4096x3072 .bf16 := fun i => entry a w (i 0) (i 1)

/-- What a grid point leaves in the output's block: the projection of its rows. -/
theorem out_apply (x0 : Vec Ideal S1024x1024 .bf16) (x1 : Vec Ideal S8x1024x384 .bf16) (y : S1024x3072.Idx) :
    out0_2 x0 x1 y = entry x0 x1 (y 0) (y 1) := by
  unfold out0_2
  simp only [View.ld_unit_zero (S := S1024x1024) Mat.hz2]
  canon_tiles x e using (View.cover_of_tiled_head _ _ _ (by rfl) y)
  all_goals obtain ⟨t, j, rfl⟩ := Mat.ix2_of x
  all_goals have hj : j.val < 768 := j.isLt
  all_goals first
    | have f1 : (y 1).val = _ + j.val := e1
    | have f1 : (y 1).val = j.val := e1
  all_goals unfold entry
  all_goals pointwise [k0_pay1, k0_pay2, k0_pay3, k0_pay4]
  all_goals refine Finset.sum_congr rfl fun k _ => congrArg₂ (fun p q : EReal => p * q) (congrArg x0 (congrArg₂ ix2 (Fin.ext e0.symm) rfl)) ?_
  all_goals split
  all_goals refine congrArg x1 (congrArg₂ (fun a b => ix3 a k b) (Fin.ext ?_) (Fin.ext ?_))
  all_goals first
    | (show _ = (y 1).val / 384; first | omega | (simp; omega))
    | (show _ = (y 1).val % 384; first | omega | (simp; omega))

variable (m : (ℓ : Loc nD τ sig) → Buf (Elt Ideal) ℓ) (c : Dev nD)

/-- Where the windows' blocks begin, at each grid point. -/
theorem index_facts : ∀ t : Fin grid0.N,
    win0_0.index t 0 = t.val ∧ win0_0.index t 1 = 0
    ∧ win0_1.index t 0 = 0 ∧ win0_1.index t 1 = 0 ∧ win0_1.index t 2 = 0
    ∧ win0_2.index t 0 = t.val ∧ win0_2.index t 1 = 0 := by decide +kernel

/-- The projection of the arguments as launched. -/
def gw : Vec Ideal S4096x3072 .bf16 :=
  proj (m ((c : Thread nD τ).loc main_arg0)) (m ((c : Thread nD τ).loc main_arg1))

/-- Every point writes back its block of the projection. -/
theorem flushed (t : Fin cfg0.N) (_ : (cfg0.win 2).flush t = true) :
    (dats m 0 c).flushed 2 t = ((cfg0.win 2).blk t).view.read (Elt Ideal) (gw m c) := by
  rw [Value.flushed2]
  have hx := index_facts t
  have hN : t.val < 4 := lt_of_lt_of_eq t.isLt N_0
  funext y
  refine (out_apply _ _ y).trans ?_
  show _ = gw m c _
  unfold gw proj entry
  have y1 : (y 1).val < 3072 := (y 1).isLt
  refine Finset.sum_congr rfl fun r _ => congrArg₂ (fun p q : EReal => p * q) ?_ ?_
  · refine congrArg (m ((c : Thread nD τ).loc main_arg0)) (funext fun a => Fin.ext ?_)
    match a with
    | ⟨0, _⟩ => show win0_0.index t 0 * 1024 + 1 * (y 0).val = win0_2.index t 0 * 1024 + 1 * (y 0).val; omega
    | ⟨1, _⟩ => show win0_0.index t 1 * 1024 + 1 * r.val = r.val; omega
  · refine congrArg (m ((c : Thread nD τ).loc main_arg1)) (funext fun a => Fin.ext ?_)
    match a with
    | ⟨0, _⟩ => show win0_1.index t 0 * 8 + 1 * ((y 1).val / 384) = (win0_2.index t 1 * 3072 + 1 * (y 1).val) / 384; omega
    | ⟨1, _⟩ => show win0_1.index t 1 * 1024 + 1 * r.val = r.val; omega
    | ⟨2, _⟩ => show win0_1.index t 2 * 384 + 1 * ((y 1).val % 384) = (win0_2.index t 1 * 3072 + 1 * (y 1).val) % 384; omega

/-- So the result's array ends holding the projection. -/
theorem final : (dats m 0 c).arrAt 2 cfg0.N = gw m c :=
  (dats m 0 c).arrAt_eq_of_cover 2 (gw m c) (flushed m c) fun i => by
    have h0 : (i 0 : Nat) < 4096 := (i 0).isLt
    have h1 : (i 1 : Nat) < 3072 := (i 1).isLt
    have hN : (i 0 : Nat) / 1024 < cfg0.N := lt_of_lt_of_eq (by omega : (i 0 : Nat) / 1024 < 4) N_0.symm
    refine ⟨⟨(i 0 : Nat) / 1024, hN⟩, flush0_2 _, ?_⟩
    have hx := index_facts ⟨(i 0 : Nat) / 1024, hN⟩
    dsimp only at hx
    show i ∈ ((View.whole main_v0).slice (win0_2.rect ⟨(i 0 : Nat) / 1024, hN⟩)).set
    rw [View.set_slice_whole, Rect.mem_set_unit]
    intro a
    match a with
    | ⟨0, _⟩ => show Mat.In (win0_2.index ⟨(i 0 : Nat) / 1024, hN⟩ 0) 1024 (i 0); omega
    | ⟨1, _⟩ => show Mat.In (win0_2.index ⟨(i 0 : Nat) / 1024, hN⟩ 1) 3072 (i 1); omega

/-- The host's projection, entry by entry. -/
theorem host_at (x0 : Vec Ideal S4096x1024 .bf16) (x1 : Vec Ideal S8x1024x384 .bf16) (i : S4096x3072.Idx) :
    Cert.Reference8Ideal.Read.val_main_v5 (F := Ideal) x0 x1 i = proj x0 x1 i := by
  obtain ⟨t, j, rfl⟩ := Mat.ix2_of i
  unfold proj entry
  pointwise [Cert.Reference8Ideal.Read.val_main_v5, Cert.Reference8Ideal.Read.val_main_v4, Cert.Reference8Ideal.Read.val_main_v3, Cert.Reference8Ideal.Read.val_main_v2, Cert.Reference8Ideal.Read.val_main_v1, Cert.Reference8Ideal.Read.val_main_v0]

/-- The host's run leaves no counter raised and keeps its arguments. -/
theorem host_frame : Cert.quiescent_Reference8Ideal := fun m g _ =>
  (θ_run _ _ _).mono (fun r h => ⟨fun c => (h c).2, Idealize.ShloMosaic.sem_eq_zero_of_no_sems (by decide) r.2⟩)
    (Cert.Reference8Ideal.Value.run (F := Ideal) m g)

/-- The result of the kernel's idealization is the host's, entry by entry, for every argument. -/
theorem values : Cert.algebraic_Kernel8Ideal_Reference8Ideal := by
  intro m g m' g' _ hag
  refine ⟨fun c => gw m c, ?_, ?_⟩
  · exact (θ_run _ _ _).mono (fun r h c => ⟨(h c).1.trans (final m c), (h c).2⟩)
      (Cert.Kernel8Ideal.Value.run_blocks (F := Ideal) m g)
  · refine (θ_run _ _ _).mono (fun r h c => ⟨(h c).1.trans ?_, (h c).2⟩)
      (Cert.Reference8Ideal.Value.run (F := Ideal) m' g')
    obtain ⟨h0, h1⟩ := hag c
    refine (Cert.Reference8Ideal.Read.val_main_v5_eq (F := Ideal) _ _).trans ?_
    rw [h0, h1]
    funext i
    exact host_at _ _ i

end Cert.CProj

/-! The value claim of the output projection of the even mixer: the residual stream after it and its norm are the host's. -/

namespace Cert.MmOut

open Cert.Kernel12Ideal Cert.Kernel12Ideal.Gen Idealize.ShloMosaic Idealize.ShloMosaic.TcCoe Idealize.SL.Sem
open Idealize.ShloMosaic.Pipeline (Dat)

instance : Cert.Kernel12Ideal.Facts := Cert.Kernel12Ideal.Gen.facts
instance : Cert.Reference12Ideal.Facts := Cert.Reference12Ideal.Gen.facts

/-- A row of `x + a @ w`. -/
def row {T : ℕ} (a : (⟨2, ![T, 1024]⟩ : Shape).Idx → EReal) (w : S1024x1024.Idx → EReal)
    (x : (⟨2, ![T, 1024]⟩ : Shape).Idx → EReal) (t : Fin T) (q : Fin 1024) : EReal :=
  x (ix2 t q) + ∑ k : Fin 1024, a (ix2 t k) * w (ix2 k q)

/-- The residual stream after the projection. -/
def stream (a : Vec Ideal S4096x1024 .bf16) (w : Vec Ideal S1024x1024 .bf16) (x : Vec Ideal S4096x1024 .f32) :
    Vec Ideal S4096x1024 .f32 := fun i => row a w x (i 0) (i 1)

/-- Its norm. -/
def scaled (a : Vec Ideal S4096x1024 .bf16) (w : Vec Ideal S1024x1024 .bf16) (x : Vec Ideal S4096x1024 .f32)
    (g : Vec Ideal S1x1024 .f32) : Vec Ideal S4096x1024 .bf16 :=
  fun i => Ffn.normed (row a w x (i 0)) (fun q => g (ix2 0 q)) (i 1)

/-- What a grid point leaves in the first output's block. -/
theorem out4_apply (x0 : Vec Ideal S1024x1024 .bf16) (x1 : Vec Ideal S1024x1024 .bf16) (x2 : Vec Ideal S1024x1024 .f32)
    (x3 : Vec Ideal S1x1024 .f32) (y : S1024x1024.Idx) : out0_4 x0 x1 x2 x3 y = row x0 x1 x2 (y 0) (y 1) := by
  unfold out0_4
  simp only [View.ld_unit_zero (S := S1024x1024) Mat.hz2, View.canon_unit_zero (S := S1024x1024) Mat.hz2]
  obtain ⟨t, q, rfl⟩ := Mat.ix2_of y
  pointwise [k0_pay1]
  rfl

/-- What a grid point leaves in the second output's block. -/
theorem out5_apply (x0 : Vec Ideal S1024x1024 .bf16) (x1 : Vec Ideal S1024x1024 .bf16) (x2 : Vec Ideal S1024x1024 .f32)
    (x3 : Vec Ideal S1x1024 .f32) (y : S1024x1024.Idx) :
    out0_5 x0 x1 x2 x3 y = Ffn.normed (row x0 x1 x2 (y 0)) (fun q => x3 (ix2 0 q)) (y 1) := by
  unfold out0_5
  simp only [View.ld_unit_zero (S := S1024x1024) Mat.hz2, View.ld_unit_zero (S := S1x1024) Mat.hz2,
    View.canon_unit_zero (S := S1024x1024) Mat.hz2]
  obtain ⟨t, q, rfl⟩ := Mat.ix2_of y
  pointwise [k0_pay2, k0_pay1]
  rfl

variable (m : (ℓ : Loc nD τ sig) → Buf (Elt Ideal) ℓ) (c : Dev nD)

/-- Where the windows' blocks begin, at each grid point. -/
theorem index_facts : ∀ t : Fin grid0.N,
    win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0 := by
  decide +kernel

/-- The first result, of the arguments as launched. -/
def gx : Vec Ideal S4096x1024 .f32 := stream (m ((c : Thread nD τ).loc main_arg0)) (m ((c : Thread nD τ).loc main_arg1))
  (m ((c : Thread nD τ).loc main_arg2))

/-- The second result, of the arguments as launched. -/
def gh : Vec Ideal S4096x1024 .bf16 := scaled (m ((c : Thread nD τ).loc main_arg0)) (m ((c : Thread nD τ).loc main_arg1))
  (m ((c : Thread nD τ).loc main_arg2)) (m ((c : Thread nD τ).loc main_arg3))

/-- A row of a point's blocks is the row of the arguments its windows stand at. -/
theorem row_block (t : Fin cfg0.N) (r q : Fin 1024) (s : Fin 4096) (hs : s.val = t.val * 1024 + r.val) :
    row (iblk m c 0 t) (iblk m c 1 t) (iblk m c 2 t) r q
      = row (m ((c : Thread nD τ).loc main_arg0)) (m ((c : Thread nD τ).loc main_arg1))
        (m ((c : Thread nD τ).loc main_arg2)) s q := by
  have hx := index_facts t
  unfold row
  refine congrArg₂ (fun p q : EReal => p + q) ?_ (Finset.sum_congr rfl fun k _ => congrArg₂ (fun p q : EReal => p * q) ?_ ?_)
  · refine congrArg (m ((c : Thread nD τ).loc main_arg2)) (funext fun a => Fin.ext ?_)
    match a with
    | ⟨0, _⟩ => show win0_2.index t 0 * 1024 + 1 * r.val = s.val; omega
    | ⟨1, _⟩ => show win0_2.index t 1 * 1024 + 1 * q.val = q.val; omega
  · refine congrArg (m ((c : Thread nD τ).loc main_arg0)) (funext fun a => Fin.ext ?_)
    match a with
    | ⟨0, _⟩ => show win0_0.index t 0 * 1024 + 1 * r.val = s.val; omega
    | ⟨1, _⟩ => show win0_0.index t 1 * 1024 + 1 * k.val = k.val; omega
  · refine congrArg (m ((c : Thread nD τ).loc main_arg1)) (funext fun a => Fin.ext ?_)
    match a with
    | ⟨0, _⟩ => show win0_1.index t 0 * 1024 + 1 * k.val = k.val; omega
    | ⟨1, _⟩ => show win0_1.index t 1 * 1024 + 1 * q.val = q.val; omega

/-- Every point writes back its block of the first result. -/
theorem flushed4 (t : Fin cfg0.N) (_ : (cfg0.win 4).flush t = true) :
    (dats m 0 c).flushed 4 t = ((cfg0.win 4).blk t).view.read (Elt Ideal) (gx m c) := by
  rw [Value.flushed4]
  have hx := index_facts t
  funext y
  refine (out4_apply _ _ _ _ y).trans ((row_block m c t (y 0) (y 1) _ ?_).trans
    (congrArg (row _ _ _ _) (Fin.ext ?_)))
  · show win0_4.index t 0 * 1024 + 1 * (y 0).val = t.val * 1024 + (y 0).val; omega
  · show (y 1).val = win0_4.index t 1 * 1024 + 1 * (y 1).val; omega

/-- Every point writes back its block of the second result. -/
theorem flushed5 (t : Fin cfg0.N) (_ : (cfg0.win 5).flush t = true) :
    (dats m 0 c).flushed 5 t = ((cfg0.win 5).blk t).view.read (Elt Ideal) (gh m c) := by
  rw [Value.flushed5]
  have hx := index_facts t
  funext y
  refine (out5_apply _ _ _ _ y).trans ?_
  show _ = gh m c _
  unfold gh scaled
  refine (congrFun (congrArg₂ Ffn.normed (funext fun q => row_block m c t (y 0) q _ ?_)
    (funext fun q => congrArg (m ((c : Thread nD τ).loc main_arg3)) (funext fun a => Fin.ext ?_))) _).trans
    (congrArg _ (Fin.ext ?_))
  · show win0_5.index t 0 * 1024 + 1 * (y 0).val = t.val * 1024 + (y 0).val; omega
  · match a with
    | ⟨0, _⟩ => show win0_3.index t 0 * 1 + 1 * 0 = 0; omega
    | ⟨1, _⟩ => show win0_3.index t 1 * 1024 + 1 * q.val = q.val; omega
  · show (y 1).val = win0_5.index t 1 * 1024 + 1 * (y 1).val; omega

/-- So the first result's array ends holding the residual stream. -/
theorem final4 : (dats m 0 c).arrAt 4 cfg0.N = gx m c :=
  (dats m 0 c).arrAt_eq_of_cover 4 (gx m c) (flushed4 m c) fun i => by
    have h0 : (i 0 : Nat) < 4096 := (i 0).isLt
    have h1 : (i 1 : Nat) < 1024 := (i 1).isLt
    have hN : (i 0 : Nat) / 1024 < cfg0.N := lt_of_lt_of_eq (by omega : (i 0 : Nat) / 1024 < 4) N_0.symm
    refine ⟨⟨(i 0 : Nat) / 1024, hN⟩, flush0_4 _, ?_⟩
    have hx := index_facts ⟨(i 0 : Nat) / 1024, hN⟩
    dsimp only at hx
    show i ∈ ((View.whole main_v0_0).slice (win0_4.rect ⟨(i 0 : Nat) / 1024, hN⟩)).set
    rw [View.set_slice_whole, Rect.mem_set_unit]
    intro a
    match a with
    | ⟨0, _⟩ => show Mat.In (win0_4.index ⟨(i 0 : Nat) / 1024, hN⟩ 0) 1024 (i 0); omega
    | ⟨1, _⟩ => show Mat.In (win0_4.index ⟨(i 0 : Nat) / 1024, hN⟩ 1) 1024 (i 1); omega

/-- And the second one's its norm. -/
theorem final5 : (dats m 0 c).arrAt 5 cfg0.N = gh m c :=
  (dats m 0 c).arrAt_eq_of_cover 5 (gh m c) (flushed5 m c) fun i => by
    have h0 : (i 0 : Nat) < 4096 := (i 0).isLt
    have h1 : (i 1 : Nat) < 1024 := (i 1).isLt
    have hN : (i 0 : Nat) / 1024 < cfg0.N := lt_of_lt_of_eq (by omega : (i 0 : Nat) / 1024 < 4) N_0.symm
    refine ⟨⟨(i 0 : Nat) / 1024, hN⟩, flush0_5 _, ?_⟩
    have hx := index_facts ⟨(i 0 : Nat) / 1024, hN⟩
    dsimp only at hx
    show i ∈ ((View.whole main_v0_1).slice (win0_5.rect ⟨(i 0 : Nat) / 1024, hN⟩)).set
    rw [View.set_slice_whole, Rect.mem_set_unit]
    intro a
    match a with
    | ⟨0, _⟩ => show Mat.In (win0_5.index ⟨(i 0 : Nat) / 1024, hN⟩ 0) 1024 (i 0); omega
    | ⟨1, _⟩ => show Mat.In (win0_5.index ⟨(i 0 : Nat) / 1024, hN⟩ 1) 1024 (i 1); omega

section
open Cert.Reference12Ideal.Read
variable (x0 : Vec Ideal S4096x1024 .bf16) (x1 : Vec Ideal S1024x1024 .bf16) (x2 : Vec Ideal S4096x1024 .f32)

/-- The host's residual stream, entry by entry. -/
theorem stream_at (t : Fin 4096) (q : Fin 1024) : val_main_v3 (F := Ideal) x0 x1 x2 (ix2 t q) = row x0 x1 x2 t q := by
  unfold row
  pointwise [val_main_v3, val_main_v2, val_main_v1, val_main_v0]

/-- The host's norm of it, entry by entry. -/
theorem scaled_at (x3 : Vec Ideal S1x1024 .f32) (t : Fin 4096) (q : Fin 1024) :
    val_main_v16 (F := Ideal) x0 x1 x2 x3 (ix2 t q) = Ffn.normed (row x0 x1 x2 t) (fun q => x3 (ix2 0 q)) q := by
  pointwise [val_main_v16, val_main_v15, val_main_v14, val_main_v13, val_main_v12, val_main_v11, val_main_v10,
    val_main_v9, val_main_v8, val_main_v7, val_main_v6, val_main_v5, val_main_v4, val_main_cst, val_main_cst_0, val_main_cst_1]
  simp only [stream_at]
  rfl
end

/-- The host's run leaves no counter raised and keeps its arguments. -/
theorem host_frame : Cert.quiescent_Reference12Ideal := fun m g _ =>
  (θ_run _ _ _).mono (fun r h => ⟨fun c => (h c).2.2, Idealize.ShloMosaic.sem_eq_zero_of_no_sems (by decide) r.2⟩)
    (Cert.Reference12Ideal.Value.run (F := Ideal) m g)

/-- Both results of the kernel's idealization are the host's, entry by entry, for every argument. -/
theorem values : Cert.algebraic_Kernel12Ideal_Reference12Ideal := by
  intro m g m' g' _ hag
  refine ⟨fun c => gx m c, fun c => gh m c, ?_, ?_⟩
  · exact (θ_run _ _ _).mono (fun r h c => ⟨(h c).1.trans (final4 m c), (h c).2.1.trans (final5 m c), (h c).2.2⟩)
      (Cert.Kernel12Ideal.Value.run_blocks (F := Ideal) m g)
  · refine (θ_run _ _ _).mono (fun r h c => ⟨(h c).1.trans ?_, (h c).2.1.trans ?_, (h c).2.2⟩)
      (Cert.Reference12Ideal.Value.run (F := Ideal) m' g')
    all_goals obtain ⟨h0, h1, h2, h3⟩ := hag c
    · refine (Cert.Reference12Ideal.Read.val_main_v3_eq (F := Ideal) _ _ _).trans ?_
      rw [h0, h1, h2]
      funext i
      exact (congrArg _ (eq_ix2 i)).trans (stream_at _ _ _ _ _)
    · refine (Cert.Reference12Ideal.Read.val_main_v16_eq (F := Ideal) _ _ _ _).trans ?_
      rw [h0, h1, h2, h3]
      funext i
      exact (congrArg _ (eq_ix2 i)).trans (scaled_at _ _ _ _ _ _)

end Cert.MmOut

end
-- ==== Proof.CIn.lean ====
/-
  What one call of the body computes, entry by entry, from its blocks (no machine in it).

  What each of the body's cases leaves in its outputs' blocks.

  The result arrays of the kernel's run, entry by entry, in the arguments.

  The value claim of the gradient of the odd mixer's input projection and its norm: the kernel's arrays are the host's.
-/
module

public import proofs.«01_k».proof.Defs
public import proofs.«01_k».proof.Proof.Spec
public import proofs.«01_k».proof.Proof.Gen.Kernel5Ideal.Value
public import Idealize.ShloMosaic.Lib.Tactic
public import Idealize.ShloMosaic.Lib.Pipeline.ValueKit
public import proofs.«01_k».proof.Proof.Gen.Reference5Ideal.Read
public import Idealize.ShloMosaic.Lib.Quiescent

@[expose] public section

set_option maxRecDepth 16384

noncomputable section

namespace Cert.CIn

section

open Cert.Kernel5Ideal Cert.Kernel5Ideal.Gen Cert.Mat Cert.InGrad Idealize.ShloMosaic

variable {a : Fin 512 → ℕ → EReal} {w : Fin 1024 → Fin 8 → Fin 384 → EReal}

/-- The four products of pairs of column groups add up to the cotangent of the norm's output. -/
theorem dh_apply (Z0 Z1 Z2 Z3 : Vec Ideal S512x768 .bf16) (W0 W1 W2 W3 W4 W5 W6 W7 : Vec Ideal S1x1024x384 .bf16)
    (hZ0 : ∀ r k, Z0 (ix2 r k) = a r (0 + k.val)) (hZ1 : ∀ r k, Z1 (ix2 r k) = a r (768 + k.val))
    (hZ2 : ∀ r k, Z2 (ix2 r k) = a r (1536 + k.val)) (hZ3 : ∀ r k, Z3 (ix2 r k) = a r (2304 + k.val))
    (hW0 : ∀ q k, W0 (ix3 0 q k) = w q 0 k) (hW1 : ∀ q k, W1 (ix3 0 q k) = w q 1 k)
    (hW2 : ∀ q k, W2 (ix3 0 q k) = w q 2 k) (hW3 : ∀ q k, W3 (ix3 0 q k) = w q 3 k)
    (hW4 : ∀ q k, W4 (ix3 0 q k) = w q 4 k) (hW5 : ∀ q k, W5 (ix3 0 q k) = w q 5 k)
    (hW6 : ∀ q k, W6 (ix3 0 q k) = w q 6 k) (hW7 : ∀ q k, W7 (ix3 0 q k) = w q 7 k) (r : Fin 512) (q : Fin 1024) :
    k0_pay3 (k0_pay2 Z0 W0 W1 Z1 W2 W3 Z2 W4 W5) Z3 W6 W7 (ix2 r q) = dh (a r) (w q) := by
  pointwise [k0_pay3, k0_pay2]
  simp only [hZ0, hZ1, hZ2, hZ3, hW0, hW1, hW2, hW3, hW4, hW5, hW6, hW7]
  unfold dh
  rw [Fin.sum_univ_eight]
  simp only [← Nat.add_assoc, ← add_assoc, zero_add]
  rfl

/-- The row's scale. -/
theorem scale_apply (x : Vec Ideal S512x1024 .f32) (r : Fin 512) (z : Fin 1) :
    k0_pay4 x (ix2 r z) = Rms.scale (fun k => x (ix2 r k)) := by
  pointwise [k0_pay4]
  rfl

/-- The input's cotangent. -/
theorem dx_apply (V : FVec Ideal S512x1024 .f32) (Z : Vec Ideal S512x768 .bf16) (W W' : Vec Ideal S1x1024x384 .bf16)
    (x d : Vec Ideal S512x1024 .f32) (g : Vec Ideal S1x1024 .f32) (h : Fin 512 → Fin 1024 → EReal)
    (hh : ∀ r q, k0_pay3 V Z W W' (ix2 r q) = h r q) (r : Fin 512) (q : Fin 1024) :
    k0_pay7 V Z W W' x g d (ix2 r q) = dx (d (ix2 r q)) (h r) (fun k => x (ix2 r k)) (fun k => g (ix2 0 k)) q := by
  generalize hV : k0_pay3 V Z W W' = B at hh
  generalize hS : k0_pay4 x = S
  have hs : ∀ r z, S (ix2 r z) = Rms.scale (fun k => x (ix2 r k)) := fun r z => by rw [← hS]; exact scale_apply x r z
  pointwise [k0_pay7, k0_pay5, hV, hS]
  simp only [hh, hs]
  rfl

/-- The input's cotangent, in the other format. -/
theorem dxb_apply (V : FVec Ideal S512x1024 .f32) (Z : Vec Ideal S512x768 .bf16) (W W' : Vec Ideal S1x1024x384 .bf16)
    (x d : Vec Ideal S512x1024 .f32) (g : Vec Ideal S1x1024 .f32) (h : Fin 512 → Fin 1024 → EReal)
    (hh : ∀ r q, k0_pay3 V Z W W' (ix2 r q) = h r q) (r : Fin 512) (q : Fin 1024) :
    k0_pay8 V Z W W' x g d (ix2 r q) = dx (d (ix2 r q)) (h r) (fun k => x (ix2 r k)) (fun k => g (ix2 0 k)) q := by
  refine Eq.trans ?_ (dx_apply V Z W W' x d g h hh r q)
  generalize hV : k0_pay7 V Z W W' x g d = B
  pointwise [k0_pay8, hV]

/-- The tile's part of the gain's gradient. -/
theorem dg_apply (V : FVec Ideal S512x1024 .f32) (Z : Vec Ideal S512x768 .bf16) (W W' : Vec Ideal S1x1024x384 .bf16)
    (x : Vec Ideal S512x1024 .f32) (h : Fin 512 → Fin 1024 → EReal)
    (hh : ∀ r q, k0_pay3 V Z W W' (ix2 r q) = h r q) (z : Fin 1) (q : Fin 1024) :
    k0_pay6 V Z W W' x (ix2 z q) = ∑ r : Fin 512, dg (h r) (fun k => x (ix2 r k)) q := by
  generalize hV : k0_pay3 V Z W W' = B at hh
  generalize hS : k0_pay4 x = S
  have hs : ∀ r z, S (ix2 r z) = Rms.scale (fun k => x (ix2 r k)) := fun r z => by rw [← hS]; exact scale_apply x r z
  pointwise [k0_pay6, k0_pay5, hV, hS]
  simp only [hh, hs]
  rfl

/-- The gain's gradient: what was there, plus the tile's part. -/
theorem dgs_apply (p o : FVec Ideal S1x1024 .f32) (z : Fin 1) (q : Fin 1024) :
    k0_pay1 p o (ix2 z q) = o (ix2 z q) + p (ix2 z q) := by
  pointwise [k0_pay1]

end

section

open Cert.Kernel5Ideal Cert.Kernel5Ideal.Gen Cert.Mat Cert.InGrad Idealize.ShloMosaic Idealize.SL.Sem

/-- The blocks of tile `n`: the tile's rows of the projection's cotangent, of the input and of the residual's cotangent. -/
structure Blocks (A : ℕ → ℕ → EReal) (W : Fin 1024 → Fin 8 → Fin 384 → EReal) (X D : ℕ → Fin 1024 → EReal)
    (G : Fin 1024 → EReal) (n : ℕ) (x0 : Vec Ideal S512x3072 .bf16) (x1 : Vec Ideal S8x1024x384 .bf16)
    (x2 : Vec Ideal S512x1024 .f32) (x3 : Vec Ideal S1x1024 .f32) (x4 : Vec Ideal S512x1024 .f32) : Prop where
  h0 : ∀ (r : Fin 512) (j : Fin 3072) (k : ℕ), j.val = k → x0 (ix2 r j) = A (512 * n + r.val) k
  h1 : ∀ (b : Fin 8) (q : Fin 1024) (k : Fin 384), x1 (ix3 b q k) = W q b k
  h2 : ∀ (r : Fin 512) (q : Fin 1024), x2 (ix2 r q) = X (512 * n + r.val) q
  h3 : ∀ q : Fin 1024, x3 (ix2 0 q) = G q
  h4 : ∀ (r : Fin 512) (q : Fin 1024), x4 (ix2 r q) = D (512 * n + r.val) q

/-- The cotangent of the norm's output. -/
def hid (A : ℕ → ℕ → EReal) (W : Fin 1024 → Fin 8 → Fin 384 → EReal) (t : ℕ) (q : Fin 1024) : EReal := dh (A t) (W q)

variable {A : ℕ → ℕ → EReal} {W : Fin 1024 → Fin 8 → Fin 384 → EReal} {X D : ℕ → Fin 1024 → EReal}
  {G : Fin 1024 → EReal} {n : ℕ} {i : grid0.Coords} {x0 : Vec Ideal S512x3072 .bf16} {x1 : Vec Ideal S8x1024x384 .bf16}
  {x2 : Vec Ideal S512x1024 .f32} {x3 : Vec Ideal S1x1024 .f32} {x4 : Vec Ideal S512x1024 .f32}
variable (c : Dev nD) (a1 : Memref sig .tc .vmem S512x3072 .bf16) (b1 : a1.IsWhole)
  (a2 : Memref sig .tc .vmem S8x1024x384 .bf16) (b2 : a2.IsWhole)
  (a3 : Memref sig .tc .vmem S512x1024 .f32) (b3 : a3.IsWhole)
  (a4 : Memref sig .tc .vmem S1x1024 .f32) (b4 : a4.IsWhole)
  (a5 : Memref sig .tc .vmem S512x1024 .f32) (b5 : a5.IsWhole)
  (a6 : Memref sig .tc .vmem S512x1024 .f32) (b6 : a6.IsWhole)
  (a7 : Memref sig .tc .vmem S512x1024 .bf16) (b7 : a7.IsWhole)
  (a8 : Memref sig .tc .vmem S1x1024 .f32) (b8 : a8.IsWhole)

/-- The block of the input's cotangent. -/
theorem out_A_5 (hc0 : cond0_0 i) (hc1 : ¬cond0_1 i) (h : Blocks A W X D G n x0 x1 x2 x3 x4)
    (y : S512x1024.Idx) :
    out0_A_5 c i a1 b1 a2 b2 a3 b3 a4 b4 a5 b5 a6 b6 a7 b7 a8 b8 hc0 hc1 x0 x1 x2 x3 x4 y
      = dx (D (512 * n + (y 0).val) (y 1)) (hid A W (512 * n + (y 0).val)) (X (512 * n + (y 0).val)) G (y 1) := by
  unfold out0_A_5
  rw [View.read_writes_eq_canon _ _ _ (by exact fun _ => cover0_A_5 ..)]
  unfold kernelRun0_A
  dsimp only
  sl_unfold_words
  simp only [View.readAt_eq_ld, Memref.IsWhole.read_unread, View.ld_unit_zero (S := S512x1024) Mat.hz2,
    View.ld_unit_zero (S := S1x1024) Mat.hz2, shapeCast_self]
  simp only [View.canon_unit_zero (S := S512x1024) Mat.hz2]
  obtain ⟨r, q, rfl⟩ := Mat.ix2_of y
  refine (dx_apply _ _ _ _ _ _ _ (fun r q => hid A W (512 * n + r.val) q) (dh_apply (a := fun r => A (512 * n + r.val)) (w := W) _ _ _ _ _ _ _ _ _ _ _ _ ?_ ?_ ?_ ?_ ?_ ?_ ?_ ?_ ?_ ?_ ?_ ?_) r q).trans ?_
  all_goals first | (intros; pointwise []; first | exact h.h0 _ _ _ (by simp) | exact h.h1 _ _ _) | skip
  rw [funext (h.h2 r), h.h4, funext h.h3]
  rfl

/-- The block of the input's cotangent, in the other format. -/
theorem out_A_6 (hc0 : cond0_0 i) (hc1 : ¬cond0_1 i) (h : Blocks A W X D G n x0 x1 x2 x3 x4)
    (y : S512x1024.Idx) :
    out0_A_6 c i a1 b1 a2 b2 a3 b3 a4 b4 a5 b5 a6 b6 a7 b7 a8 b8 hc0 hc1 x0 x1 x2 x3 x4 y
      = dx (D (512 * n + (y 0).val) (y 1)) (hid A W (512 * n + (y 0).val)) (X (512 * n + (y 0).val)) G (y 1) := by
  unfold out0_A_6
  rw [View.read_writes_eq_canon _ _ _ (by exact fun _ => cover0_A_6 ..)]
  unfold kernelRun0_A
  dsimp only
  sl_unfold_words
  simp only [View.readAt_eq_ld, Memref.IsWhole.read_unread, View.ld_unit_zero (S := S512x1024) Mat.hz2,
    View.ld_unit_zero (S := S1x1024) Mat.hz2, shapeCast_self]
  simp only [View.canon_unit_zero (S := S512x1024) Mat.hz2]
  obtain ⟨r, q, rfl⟩ := Mat.ix2_of y
  refine (dxb_apply _ _ _ _ _ _ _ (fun r q => hid A W (512 * n + r.val) q) (dh_apply (a := fun r => A (512 * n + r.val)) (w := W) _ _ _ _ _ _ _ _ _ _ _ _ ?_ ?_ ?_ ?_ ?_ ?_ ?_ ?_ ?_ ?_ ?_ ?_) r q).trans ?_
  all_goals first | (intros; pointwise []; first | exact h.h0 _ _ _ (by simp) | exact h.h1 _ _ _) | skip
  rw [funext (h.h2 r), h.h4, funext h.h3]
  rfl

/-- The gain's gradient: the tile's part. -/
theorem out_A_7 (hc0 : cond0_0 i) (hc1 : ¬cond0_1 i) (h : Blocks A W X D G n x0 x1 x2 x3 x4)
    (y : S1x1024.Idx) :
    out0_A_7 c i a1 b1 a2 b2 a3 b3 a4 b4 a5 b5 a6 b6 a7 b7 a8 b8 hc0 hc1 x0 x1 x2 x3 x4 y
      = ∑ r : Fin 512, dg (hid A W (512 * n + r.val)) (X (512 * n + r.val)) (y 1) := by
  unfold out0_A_7
  rw [View.read_writes_eq_canon _ _ _ (by exact fun _ => cover0_A_7 ..)]
  unfold kernelRun0_A
  dsimp only
  sl_unfold_words
  simp only [View.readAt_eq_ld, Memref.IsWhole.read_unread, View.ld_unit_zero (S := S512x1024) Mat.hz2,
    View.ld_unit_zero (S := S1x1024) Mat.hz2, shapeCast_self]
  simp only [View.canon_unit_zero (S := S1x1024) Mat.hz2]
  obtain ⟨z, q, rfl⟩ := Mat.ix2_of y
  refine (dg_apply _ _ _ _ _ (fun r q => hid A W (512 * n + r.val) q) (dh_apply (a := fun r => A (512 * n + r.val)) (w := W) _ _ _ _ _ _ _ _ _ _ _ _ ?_ ?_ ?_ ?_ ?_ ?_ ?_ ?_ ?_ ?_ ?_ ?_) z q).trans ?_
  all_goals first | (intros; pointwise []; first | exact h.h0 _ _ _ (by simp) | exact h.h1 _ _ _) | skip
  exact Finset.sum_congr rfl fun r _ => congrArg (fun p => dg _ p q) (funext (h.h2 r))

/-- The block of the input's cotangent. -/
theorem out_B_5 (hc0 : ¬cond0_0 i) (hc1 : cond0_1 i) (h : Blocks A W X D G n x0 x1 x2 x3 x4)
    (xo7 : Vec Ideal S1x1024 .f32) (y : S512x1024.Idx) :
    out0_B_5 c i a1 b1 a2 b2 a3 b3 a4 b4 a5 b5 a6 b6 a7 b7 a8 b8 hc0 hc1 x0 x1 x2 x3 x4 xo7 y
      = dx (D (512 * n + (y 0).val) (y 1)) (hid A W (512 * n + (y 0).val)) (X (512 * n + (y 0).val)) G (y 1) := by
  unfold out0_B_5
  rw [View.read_writes_eq_canon _ _ _ (by exact fun _ => cover0_B_5 ..)]
  unfold kernelRun0_B
  dsimp only
  sl_unfold_words
  simp only [View.readAt_eq_ld, Memref.IsWhole.read_unread, View.ld_unit_zero (S := S512x1024) Mat.hz2,
    View.ld_unit_zero (S := S1x1024) Mat.hz2, shapeCast_self]
  simp only [View.canon_unit_zero (S := S512x1024) Mat.hz2]
  obtain ⟨r, q, rfl⟩ := Mat.ix2_of y
  refine (dx_apply _ _ _ _ _ _ _ (fun r q => hid A W (512 * n + r.val) q) (dh_apply (a := fun r => A (512 * n + r.val)) (w := W) _ _ _ _ _ _ _ _ _ _ _ _ ?_ ?_ ?_ ?_ ?_ ?_ ?_ ?_ ?_ ?_ ?_ ?_) r q).trans ?_
  all_goals first | (intros; pointwise []; first | exact h.h0 _ _ _ (by simp) | exact h.h1 _ _ _) | skip
  rw [funext (h.h2 r), h.h4, funext h.h3]
  rfl

/-- The block of the input's cotangent, in the other format. -/
theorem out_B_6 (hc0 : ¬cond0_0 i) (hc1 : cond0_1 i) (h : Blocks A W X D G n x0 x1 x2 x3 x4)
    (xo7 : Vec Ideal S1x1024 .f32) (y : S512x1024.Idx) :
    out0_B_6 c i a1 b1 a2 b2 a3 b3 a4 b4 a5 b5 a6 b6 a7 b7 a8 b8 hc0 hc1 x0 x1 x2 x3 x4 xo7 y
      = dx (D (512 * n + (y 0).val) (y 1)) (hid A W (512 * n + (y 0).val)) (X (512 * n + (y 0).val)) G (y 1) := by
  unfold out0_B_6
  rw [View.read_writes_eq_canon _ _ _ (by exact fun _ => cover0_B_6 ..)]
  unfold kernelRun0_B
  dsimp only
  sl_unfold_words
  simp only [View.readAt_eq_ld, Memref.IsWhole.read_unread, View.ld_unit_zero (S := S512x1024) Mat.hz2,
    View.ld_unit_zero (S := S1x1024) Mat.hz2, shapeCast_self]
  simp only [View.canon_unit_zero (S := S512x1024) Mat.hz2]
  obtain ⟨r, q, rfl⟩ := Mat.ix2_of y
  refine (dxb_apply _ _ _ _ _ _ _ (fun r q => hid A W (512 * n + r.val) q) (dh_apply (a := fun r => A (512 * n + r.val)) (w := W) _ _ _ _ _ _ _ _ _ _ _ _ ?_ ?_ ?_ ?_ ?_ ?_ ?_ ?_ ?_ ?_ ?_ ?_) r q).trans ?_
  all_goals first | (intros; pointwise []; first | exact h.h0 _ _ _ (by simp) | exact h.h1 _ _ _) | skip
  rw [funext (h.h2 r), h.h4, funext h.h3]
  rfl

/-- The gain's gradient: what was there, plus the tile's part. -/
theorem out_B_7 (hc0 : ¬cond0_0 i) (hc1 : cond0_1 i) (h : Blocks A W X D G n x0 x1 x2 x3 x4)
    (xo7 : Vec Ideal S1x1024 .f32) (y : S1x1024.Idx) :
    out0_B_7 c i a1 b1 a2 b2 a3 b3 a4 b4 a5 b5 a6 b6 a7 b7 a8 b8 hc0 hc1 x0 x1 x2 x3 x4 xo7 y
      = xo7 y + ∑ r : Fin 512, dg (hid A W (512 * n + r.val)) (X (512 * n + r.val)) (y 1) := by
  unfold out0_B_7
  rw [View.read_writes_eq_canon _ _ _ (by exact fun _ => cover0_B_7 ..)]
  unfold kernelRun0_B
  dsimp only
  sl_unfold_words
  simp only [View.readAt_eq_ld, Memref.IsWhole.read_unread, View.ld_unit_zero (S := S512x1024) Mat.hz2,
    View.ld_unit_zero (S := S1x1024) Mat.hz2, shapeCast_self]
  simp only [View.canon_unit_zero (S := S1x1024) Mat.hz2]
  obtain ⟨z, q, rfl⟩ := Mat.ix2_of y
  refine (dgs_apply _ _ z q).trans (congrArg (fun p : EReal => _ + p) ?_)
  refine (dg_apply _ _ _ _ _ (fun r q => hid A W (512 * n + r.val) q) (dh_apply (a := fun r => A (512 * n + r.val)) (w := W) _ _ _ _ _ _ _ _ _ _ _ _ ?_ ?_ ?_ ?_ ?_ ?_ ?_ ?_ ?_ ?_ ?_ ?_) z q).trans ?_
  all_goals first | (intros; pointwise []; first | exact h.h0 _ _ _ (by simp) | exact h.h1 _ _ _) | skip
  exact Finset.sum_congr rfl fun r _ => congrArg (fun p => dg _ p q) (funext (h.h2 r))

end

section

open Cert.Kernel5Ideal Cert.Kernel5Ideal.Gen Cert.Mat Cert.InGrad Idealize.ShloMosaic Idealize.ShloMosaic.TcCoe Idealize.SL.Sem
open Idealize.ShloMosaic.Pipeline (Dat)

variable (m : (ℓ : Loc nD τ sig) → Buf (Elt Ideal) ℓ) (c : Dev nD)

/-- The cotangent of the projection, as launched. -/
def mA : ℕ → ℕ → EReal := at2 (R := 4096) (C := 3072) (m ((c : Thread nD τ).loc main_arg0))
/-- The weight. -/
def mW : Fin 1024 → Fin 8 → Fin 384 → EReal := fun q b k =>
  (m ((c : Thread nD τ).loc main_arg1) : Vec Ideal S8x1024x384 .bf16) (ix3 b q k)
/-- The norm's input. -/
def mX : ℕ → Fin 1024 → EReal := fun t q => at2 (R := 4096) (C := 1024) (m ((c : Thread nD τ).loc main_arg2)) t q.val
/-- The gain. -/
def mG : Fin 1024 → EReal := fun q => (m ((c : Thread nD τ).loc main_arg3) : Vec Ideal S1x1024 .f32) (ix2 0 q)
/-- The residual's cotangent. -/
def mD : ℕ → Fin 1024 → EReal := fun t q => at2 (R := 4096) (C := 1024) (m ((c : Thread nD τ).loc main_arg4)) t q.val

/-- Where the windows' blocks begin, at each grid point. -/
theorem index_facts : ∀ t : Fin grid0.N,
    win0_0.index t 0 = t.val ∧ win0_0.index t 1 = 0
    ∧ win0_1.index t 0 = 0 ∧ win0_1.index t 1 = 0 ∧ win0_1.index t 2 = 0
    ∧ win0_2.index t 0 = t.val ∧ win0_2.index t 1 = 0
    ∧ win0_3.index t 0 = 0 ∧ win0_3.index t 1 = 0
    ∧ win0_4.index t 0 = t.val ∧ win0_4.index t 1 = 0
    ∧ win0_5.index t 0 = t.val ∧ win0_5.index t 1 = 0
    ∧ win0_6.index t 0 = t.val ∧ win0_6.index t 1 = 0
    ∧ win0_7.index t 0 = 0 ∧ win0_7.index t 1 = 0 := by decide +kernel

/-- The blocks the body reads at point `t` hold the arguments' rows. -/
theorem blocks (t : Fin cfg0.N) : Blocks (mA m c) (mW m c) (mX m c) (mD m c) (mG m c) t.val (iblk m c 0 t) (iblk m c 1 t)
    (iblk m c 2 t) (iblk m c 3 t) (iblk m c 4 t) := by
  obtain ⟨i00, i01, i10, i11, i12, i20, i21, i30, i31, i40, i41, i50, i51, i60, i61, i70, i71⟩ := index_facts t
  constructor
  case h0 =>
    intro r j k hk
    refine at2_of (R := 4096) (C := 3072) (m ((c : Thread nD τ).loc main_arg0)) _ _ _ ?_ ?_
    · show win0_0.index t 0 * 512 + 1 * r.val = _; rw [i00]; omega
    · show win0_0.index t 1 * 3072 + 1 * j.val = _; rw [i01]; omega
  case h1 =>
    intro b q k
    refine congrArg (m ((c : Thread nD τ).loc main_arg1)) (funext fun a => Fin.ext ?_)
    match a with
    | ⟨0, _⟩ => show win0_1.index t 0 * 8 + 1 * b.val = b.val; omega
    | ⟨1, _⟩ => show win0_1.index t 1 * 1024 + 1 * q.val = q.val; omega
    | ⟨2, _⟩ => show win0_1.index t 2 * 384 + 1 * k.val = k.val; omega
  case h2 =>
    intro r j
    refine at2_of (R := 4096) (C := 1024) (m ((c : Thread nD τ).loc main_arg2)) _ _ _ ?_ ?_
    · show win0_2.index t 0 * 512 + 1 * r.val = _; rw [i20]; omega
    · show win0_2.index t 1 * 1024 + 1 * j.val = _; rw [i21]; omega
  case h3 =>
    intro q
    refine congrArg (m ((c : Thread nD τ).loc main_arg3)) (funext fun a => Fin.ext ?_)
    match a with
    | ⟨0, _⟩ => show win0_3.index t 0 * 1 + 1 * 0 = 0; omega
    | ⟨1, _⟩ => show win0_3.index t 1 * 1024 + 1 * q.val = q.val; omega
  case h4 =>
    intro r j
    refine at2_of (R := 4096) (C := 1024) (m ((c : Thread nD τ).loc main_arg4)) _ _ _ ?_ ?_
    · show win0_4.index t 0 * 512 + 1 * r.val = _; rw [i40]; omega
    · show win0_4.index t 1 * 1024 + 1 * j.val = _; rw [i41]; omega

/-- One entry of the input's cotangent. -/
def mDx (t : ℕ) (q : Fin 1024) : EReal := dx (mD m c t q) (hid (mA m c) (mW m c) t) (mX m c t) (mG m c) q

/-- One token's part of the gain's gradient. -/
def mDg (t : ℕ) (q : Fin 1024) : EReal := dg (hid (mA m c) (mW m c) t) (mX m c t) q

/-- The input's cotangent, as contents of its array. -/
def gDx : Vec Ideal S4096x1024 .f32 := fun i => mDx m c (i 0).val (i 1)

/-- What a point leaves for it. -/
theorem outs_5 (t : Fin cfg0.N) (y : S512x1024.Idx) : (outsAt0 m c t.val t.isLt).1 y
    = mDx m c (512 * t.val + (y 0).val) (y 1) := by
  have hN : t.val < 8 := lt_of_lt_of_eq t.isLt N_0
  by_cases h : t.val = 0
  · rw [outsAt0_A m c t (by omega) (by omega)]
    dsimp only
    exact out_A_5 (h := blocks m c t) ..
  · rw [outsAt0_B m c t (by omega) (by omega)]
    dsimp only
    exact out_B_5 (h := blocks m c t) ..

/-- Every point writes back its block of it. -/
theorem flushed_5 (t : Fin cfg0.N) (_ : (cfg0.win 5).flush t = true) :
    (dats m 0 c).flushed 5 t = ((cfg0.win 5).blk t).view.read (Elt Ideal) (gDx m c) := by
  rw [Value.flushed5]
  obtain ⟨i00, i01, i10, i11, i12, i20, i21, i30, i31, i40, i41, i50, i51, i60, i61, i70, i71⟩ := index_facts t
  funext y
  refine (outs_5 m c t y).trans ?_
  refine congrArg₂ (mDx m c) ?_ (Fin.ext ?_)
  · show _ = win0_5.index t 0 * 512 + 1 * (y 0).val; omega
  · show _ = win0_5.index t 1 * 1024 + 1 * (y 1).val; omega

/-- So the array ends holding it. -/
theorem final_5 : (dats m 0 c).arrAt 5 cfg0.N = gDx m c :=
  (dats m 0 c).arrAt_eq_of_cover 5 (gDx m c) (flushed_5 m c) fun i => by
    have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    refine ⟨⟨(i 0 : Nat) / 512, hN⟩, flush0_5 _, ?_⟩
    obtain ⟨i00, i01, i10, i11, i12, i20, i21, i30, i31, i40, i41, i50, i51, i60, i61, i70, i71⟩ := index_facts ⟨(i 0 : Nat) / 512, hN⟩
    show i ∈ ((View.whole main_v0_0).slice (win0_5.rect ⟨(i 0 : Nat) / 512, hN⟩)).set
    rw [View.set_slice_whole, Rect.mem_set_unit]
    dsimp only at i50
    generalize (⟨(i 0 : Nat) / 512, hN⟩ : Fin grid0.N) = t at i50 i51 ⊢
    intro a
    match a with
    | ⟨0, _⟩ => show Mat.In (win0_5.index t 0) 512 (i 0); omega
    | ⟨1, _⟩ => show Mat.In (win0_5.index t 1) 1024 (i 1); omega

/-- The input's cotangent, in the other format, as contents of its array. -/
def gDxb : Vec Ideal S4096x1024 .bf16 := fun i => mDx m c (i 0).val (i 1)

/-- What a point leaves for it. -/
theorem outs_6 (t : Fin cfg0.N) (y : S512x1024.Idx) : (outsAt0 m c t.val t.isLt).2.1 y
    = mDx m c (512 * t.val + (y 0).val) (y 1) := by
  have hN : t.val < 8 := lt_of_lt_of_eq t.isLt N_0
  by_cases h : t.val = 0
  · rw [outsAt0_A m c t (by omega) (by omega)]
    dsimp only
    exact out_A_6 (h := blocks m c t) ..
  · rw [outsAt0_B m c t (by omega) (by omega)]
    dsimp only
    exact out_B_6 (h := blocks m c t) ..

/-- Every point writes back its block of it. -/
theorem flushed_6 (t : Fin cfg0.N) (_ : (cfg0.win 6).flush t = true) :
    (dats m 0 c).flushed 6 t = ((cfg0.win 6).blk t).view.read (Elt Ideal) (gDxb m c) := by
  rw [Value.flushed6]
  obtain ⟨i00, i01, i10, i11, i12, i20, i21, i30, i31, i40, i41, i50, i51, i60, i61, i70, i71⟩ := index_facts t
  funext y
  refine (outs_6 m c t y).trans ?_
  refine congrArg₂ (mDx m c) ?_ (Fin.ext ?_)
  · show _ = win0_6.index t 0 * 512 + 1 * (y 0).val; omega
  · show _ = win0_6.index t 1 * 1024 + 1 * (y 1).val; omega

/-- So the array ends holding it. -/
theorem final_6 : (dats m 0 c).arrAt 6 cfg0.N = gDxb m c :=
  (dats m 0 c).arrAt_eq_of_cover 6 (gDxb m c) (flushed_6 m c) fun i => by
    have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    refine ⟨⟨(i 0 : Nat) / 512, hN⟩, flush0_6 _, ?_⟩
    obtain ⟨i00, i01, i10, i11, i12, i20, i21, i30, i31, i40, i41, i50, i51, i60, i61, i70, i71⟩ := index_facts ⟨(i 0 : Nat) / 512, hN⟩
    show i ∈ ((View.whole main_v0_1).slice (win0_6.rect ⟨(i 0 : Nat) / 512, hN⟩)).set
    rw [View.set_slice_whole, Rect.mem_set_unit]
    dsimp only at i60
    generalize (⟨(i 0 : Nat) / 512, hN⟩ : Fin grid0.N) = t at i60 i61 ⊢
    intro a
    match a with
    | ⟨0, _⟩ => show Mat.In (win0_6.index t 0) 512 (i 0); omega
    | ⟨1, _⟩ => show Mat.In (win0_6.index t 1) 1024 (i 1); omega

/-- The gain's gradient, as contents of its array. -/
def gDg : Vec Ideal S1x1024 .f32 := fun i => ∑ k ∈ Finset.range 8, ∑ r : Fin 512, mDg m c (512 * k + r.val) (i 1)

/-- What the points up to `n` leave for it: the tiles' parts so far. -/
theorem outs_7 : ∀ (n : ℕ) (hn : n < cfg0.N) (y : S1x1024.Idx), (outsAt0 m c n hn).2.2 y
    = ∑ k ∈ Finset.range (n + 1), ∑ r : Fin 512, mDg m c (512 * k + r.val) (y 1)
  | 0, hn, y => by
    have e := outsAt0_A m c ⟨0, hn⟩ rfl (by simp)
    refine (congrArg (fun p => p.2.2 y) e).trans ?_
    dsimp only
    refine (out_A_7 (n := 0) (h := blocks m c ⟨0, hn⟩) ..).trans ?_
    rw [Finset.sum_range_one]
    rfl
  | n + 1, hn, y => by
    have hN : n + 1 < 8 := lt_of_lt_of_eq hn N_0
    have e := outsAt0_B m c ⟨n + 1, hn⟩ (by show ¬(n + 1) % 8 = 0; omega) (by show 1 ≤ n + 1; omega)
    refine (congrArg (fun p => p.2.2 y) e).trans ?_
    dsimp only
    refine (out_B_7 (n := n + 1) (h := blocks m c ⟨n + 1, hn⟩) ..).trans ?_
    rw [Finset.sum_range_succ]
    exact congrArg (· + _) (outs_7 n (Nat.lt_of_succ_lt hn) y)

/-- The last point writes it back. -/
theorem flushed_7 (t : Fin cfg0.N) (hf : (cfg0.win 7).flush t = true) :
    (dats m 0 c).flushed 7 t = ((cfg0.win 7).blk t).view.read (Elt Ideal) (gDg m c) := by
  have h7 : t.val + 1 = 8 := by have := (flush0_7 t).mp hf; have := lt_of_lt_of_eq t.isLt N_0; omega
  rw [Value.flushed7]
  obtain ⟨i00, i01, i10, i11, i12, i20, i21, i30, i31, i40, i41, i50, i51, i60, i61, i70, i71⟩ := index_facts t
  funext y
  refine (outs_7 m c t.val t.isLt y).trans ?_
  rw [h7]
  refine congrArg (fun q : Fin 1024 => ∑ k ∈ Finset.range 8, ∑ r : Fin 512, mDg m c (512 * k + r.val) q) (Fin.ext ?_)
  show _ = win0_7.index t 1 * 1024 + 1 * (y 1).val; omega

/-- So the array ends holding it. -/
theorem final_7 : (dats m 0 c).arrAt 7 cfg0.N = gDg m c :=
  (dats m 0 c).arrAt_eq_of_cover 7 (gDg m c) (flushed_7 m c) fun i => by
    have h0 : (i 0 : Nat) < 1 := (i 0).isLt
    have h1 : (i 1 : Nat) < 1024 := (i 1).isLt
    have hN : 7 < cfg0.N := lt_of_lt_of_eq (by decide) N_0.symm
    refine ⟨⟨7, hN⟩, (flush0_7 _).mpr rfl, ?_⟩
    obtain ⟨i00, i01, i10, i11, i12, i20, i21, i30, i31, i40, i41, i50, i51, i60, i61, i70, i71⟩ := index_facts ⟨7, hN⟩
    show i ∈ ((View.whole main_v0_2).slice (win0_7.rect ⟨7, hN⟩)).set
    rw [View.set_slice_whole, Rect.mem_set_unit]
    generalize (⟨7, hN⟩ : Fin grid0.N) = t at i70 i71 ⊢
    intro a
    match a with
    | ⟨0, _⟩ => show Mat.In (win0_7.index t 0) 1 (i 0); omega
    | ⟨1, _⟩ => show Mat.In (win0_7.index t 1) 1024 (i 1); omega

end

section

instance : Cert.Kernel5Ideal.Facts := Cert.Kernel5Ideal.Gen.facts
instance : Cert.Reference5Ideal.Facts := Cert.Reference5Ideal.Gen.facts

namespace Host

open Cert.Reference5Ideal Cert.Reference5Ideal.Read Cert.Mat Cert.InGrad Idealize.ShloMosaic

variable (x0 : (⟨S4096x3072, .bf16⟩ : BufTy).Contents (Elt Ideal)) (x1 : (⟨S8x1024x384, .bf16⟩ : BufTy).Contents (Elt Ideal))
  (x2 : (⟨S4096x1024, .f32⟩ : BufTy).Contents (Elt Ideal)) (x3 : (⟨S1x1024, .f32⟩ : BufTy).Contents (Elt Ideal))
  (x4 : (⟨S4096x1024, .f32⟩ : BufTy).Contents (Elt Ideal))

/-- One entry of the cotangent of the norm's output. -/
def hidden (t : Fin 4096) (q : Fin 1024) : EReal := dh (at2 (R := 4096) (C := 3072) x0 t.val) (fun b k => x1 (ix3 b q k))

/-- The cotangent of the norm's output. -/
theorem hidden_at (t : Fin 4096) (q : Fin 1024) : val_main_v20 (F := Ideal) x0 x1 (ix2 t q) = hidden x0 x1 t q := by
  unfold hidden
  rw [← dh_flat (B := 384) (N := 3072) (by decide) (by decide)]
  pointwise [val_main_v20, val_main_v19, val_main_v2, val_main_v1, val_main_v0]
  refine Finset.sum_congr rfl fun k _ => ?_
  exact congrArg₂ (fun p q : EReal => p * q) (at2_ix (R := 4096) (C := 3072) x0 t k) rfl

/-- A row's mean square. -/
theorem var_at (t : Fin 4096) (z : Fin 1) : val_main_v9 (F := Ideal) x2 (ix2 t z) = Rms.var (fun k => x2 (ix2 t k)) := by
  pointwise [val_main_v9, val_main_v8, val_main_cst_1, val_main_v7, val_main_v6, val_main_cst_0, val_main_v5, val_main_v4,
    val_main_cst, val_main_v3]
  rfl

/-- A row's scale. -/
theorem scale_at (t : Fin 4096) (z : Fin 1) : val_main_v10 (F := Ideal) x2 (ix2 t z) = Rms.scale (fun k => x2 (ix2 t k)) := by
  pointwise [val_main_v10]
  rw [var_at]
  rfl

/-- The gain's gradient. -/
theorem dg_at (q : Fin 1024) : val_main_v23 (F := Ideal) x0 x1 x2 (ix2 0 q)
    = ∑ t : Fin 4096, dg (hidden x0 x1 t) (fun k => x2 (ix2 t k)) q := by
  pointwise [val_main_v23, val_main_v22, val_main_cst_3, val_main_v21, val_main_v15, val_main_v14]
  refine Finset.sum_congr rfl fun t _ => ?_
  rw [scale_at, hidden_at]
  exact mul_comm (G := EReal) _ _

/-- The input's cotangent. -/
theorem dx_at (t : Fin 4096) (q : Fin 1024) : val_main_v40 (F := Ideal) x0 x1 x2 x3 x4 (ix2 t q)
    = dx (x4 (ix2 t q)) (hidden x0 x1 t) (fun k => x2 (ix2 t k)) (fun k => x3 (ix2 0 k)) q := by
  unfold dx
  rw [Rms.back_eq, ← add_assoc, ← add_assoc]
  pointwise [val_main_v40, val_main_v39, val_main_v38, val_main_v37, val_main_v36, val_main_v35, val_main_cst_6,
    val_main_v34, val_main_v33, val_main_cst_5, val_main_v32, val_main_v31, val_main_v30, val_main_v29, val_main_v28,
    val_main_v27, val_main_cst_4, val_main_v26, val_main_v25, val_main_v24, val_main_v13, val_main_v12, val_main_cst_2,
    val_main_v11]
  simp only [Fin.sum_univ_one, scale_at, var_at, hidden_at]
  rfl

end Host

open Cert.Mat Cert.InGrad Idealize.ShloMosaic Idealize.ShloMosaic.TcCoe Idealize.SL.Sem

/-- The host's run leaves no counter raised and keeps its arguments. -/
theorem host_frame : Cert.quiescent_Reference5Ideal := fun m g _ =>
  (θ_run _ _ _).mono (fun r h => ⟨fun c => (h c).2.2.2,
      Idealize.ShloMosaic.sem_eq_zero_of_no_sems (by decide) r.2⟩)
    (Cert.Reference5Ideal.Value.run (F := Ideal) m g)

/-- A row of the array, read at its number. -/
theorem row_eq (T : Vec Ideal Cert.Kernel5Ideal.S4096x1024 .f32) (t : Fin 4096) :
    (fun q : Fin 1024 => at2 (R := 4096) (C := 1024) T t.val q.val) = fun q => T (ix2 t q) :=
  funext fun q => (at2_ix (R := 4096) (C := 1024) T t q).symm

variable (m : (ℓ : Loc Cert.Kernel5Ideal.nD Cert.Kernel5Ideal.τ Cert.Kernel5Ideal.sig) → Buf (Elt Ideal) ℓ)
  (c : Dev Cert.Kernel5Ideal.nD)

/-- The host's entry of the input's cotangent is the kernel's. -/
theorem dx_same (t : Fin 4096) (q : Fin 1024) :
    dx ((m ((c.tc : Thread _ _).loc Cert.Kernel5Ideal.main_arg4) : Vec Ideal Cert.Kernel5Ideal.S4096x1024 .f32) (ix2 t q))
      (Host.hidden (m ((c.tc : Thread _ _).loc Cert.Kernel5Ideal.main_arg0)) (m ((c.tc : Thread _ _).loc Cert.Kernel5Ideal.main_arg1)) t)
      (fun k => (m ((c.tc : Thread _ _).loc Cert.Kernel5Ideal.main_arg2) : Vec Ideal Cert.Kernel5Ideal.S4096x1024 .f32) (ix2 t k))
      (fun k => (m ((c.tc : Thread _ _).loc Cert.Kernel5Ideal.main_arg3) : Vec Ideal Cert.Kernel5Ideal.S1x1024 .f32) (ix2 0 k)) q
      = mDx m c t.val q := by
  unfold mDx
  have hX : mX m c t.val = _ := row_eq _ t
  have hD : mD m c t.val q = _ := (at2_ix (R := 4096) (C := 1024) _ t q).symm
  rw [hX, hD]
  rfl

/-- The host's gain's gradient is the kernel's. -/
theorem dg_same (q : Fin 1024) :
    ∑ t : Fin 4096, dg
      (Host.hidden (m ((c.tc : Thread _ _).loc Cert.Kernel5Ideal.main_arg0)) (m ((c.tc : Thread _ _).loc Cert.Kernel5Ideal.main_arg1)) t)
      (fun k => (m ((c.tc : Thread _ _).loc Cert.Kernel5Ideal.main_arg2) : Vec Ideal Cert.Kernel5Ideal.S4096x1024 .f32) (ix2 t k)) q
      = ∑ k ∈ Finset.range 8, ∑ r : Fin 512, mDg m c (512 * k + r.val) q := by
  rw [sum_tiles fun t => mDg m c t q]
  refine Finset.sum_congr rfl fun t _ => ?_
  unfold mDg
  have hX : mX m c t.val = _ := row_eq _ t
  rw [hX]
  rfl

/-- All results of the kernel's idealization are the host's, entry by entry, for every argument. -/
theorem values : Cert.algebraic_Kernel5Ideal_Reference5Ideal := by
  intro m g m' g' _ hag
  refine ⟨fun c => gDx m c, fun c => gDxb m c, fun c => gDg m c, ?_, ?_⟩
  · exact (θ_run _ _ _).mono (fun r h c => ⟨(h c).1.trans (final_5 m c), (h c).2.1.trans (final_6 m c),
        (h c).2.2.1.trans (final_7 m c), (h c).2.2.2⟩)
      (Cert.Kernel5Ideal.Value.run_blocks (F := Ideal) m g)
  · refine (θ_run _ _ _).mono (fun r h c => ⟨(h c).1.trans ?_, (h c).2.1.trans ?_, (h c).2.2.1.trans ?_, (h c).2.2.2⟩)
      (Cert.Reference5Ideal.Value.run (F := Ideal) m' g')
    · obtain ⟨h0, h1, h2, h3, h4⟩ := hag c
      rw [Cert.Reference5Ideal.Read.val_main_v40_eq, h0, h1, h2, h3, h4]
      funext i
      obtain ⟨t, q, rfl⟩ := Mat.ix2_of i
      exact (Host.dx_at _ _ _ _ _ t q).trans (dx_same m c t q)
    · obtain ⟨h0, h1, h2, h3, h4⟩ := hag c
      rw [Cert.Reference5Ideal.Read.val_main_v41_eq, h0, h1, h2, h3, h4]
      funext i
      obtain ⟨t, q, rfl⟩ := Mat.ix2_of i
      exact (Host.dx_at _ _ _ _ _ t q).trans (dx_same m c t q)
    · obtain ⟨h0, h1, h2, h3, h4⟩ := hag c
      refine (Cert.Reference5Ideal.Read.val_main_v23_eq (F := Ideal) _ _ _).trans ?_
      rw [h0, h1, h2]
      funext i
      obtain ⟨z, q, rfl⟩ := Mat.ix2_of i
      obtain rfl : z = 0 := Fin.fin_one_eq_zero z
      exact (Host.dg_at _ _ _ q).trans (dg_same m c q)

end

end Cert.CIn

end
-- ==== Proof.AbIn.lean ====
/-
  What one call of the body computes, entry by entry, from its blocks (no machine in it).

  What each of the body's cases leaves in its outputs' blocks.

  The result arrays of the kernel's run, entry by entry, in the arguments.

  The value claim of the gradient of the even mixer's input projection and its norm: the kernel's arrays are the host's.
-/
module

public import proofs.«01_k».proof.Defs
public import proofs.«01_k».proof.Proof.Spec
public import proofs.«01_k».proof.Proof.Gen.Kernel6Ideal.Value
public import Idealize.ShloMosaic.Lib.Tactic
public import Idealize.ShloMosaic.Lib.Pipeline.ValueKit
public import proofs.«01_k».proof.Proof.Gen.Reference6Ideal.Read
public import Idealize.ShloMosaic.Lib.Quiescent

@[expose] public section

set_option maxRecDepth 16256

noncomputable section

namespace Cert.AbIn

section

open Cert.Kernel6Ideal Cert.Kernel6Ideal.Gen Cert.Mat Cert.InGrad Idealize.ShloMosaic

variable {a : Fin 512 → ℕ → EReal} {w : Fin 1024 → Fin 8 → Fin 256 → EReal}

/-- The eight products of the column groups add up to the cotangent of the norm's output. -/
theorem dh_apply (Z0 Z1 Z2 Z3 Z4 Z5 Z6 Z7 : Vec Ideal S512x256 .bf16) (W0 W1 W2 W3 W4 W5 W6 W7 : Vec Ideal S1x1024x256 .bf16)
    (hZ0 : ∀ r k, Z0 (ix2 r k) = a r (0 + k.val)) (hZ1 : ∀ r k, Z1 (ix2 r k) = a r (256 + k.val))
    (hZ2 : ∀ r k, Z2 (ix2 r k) = a r (512 + k.val)) (hZ3 : ∀ r k, Z3 (ix2 r k) = a r (768 + k.val))
    (hZ4 : ∀ r k, Z4 (ix2 r k) = a r (1024 + k.val)) (hZ5 : ∀ r k, Z5 (ix2 r k) = a r (1280 + k.val))
    (hZ6 : ∀ r k, Z6 (ix2 r k) = a r (1536 + k.val)) (hZ7 : ∀ r k, Z7 (ix2 r k) = a r (1792 + k.val))
    (hW0 : ∀ q k, W0 (ix3 0 q k) = w q 0 k) (hW1 : ∀ q k, W1 (ix3 0 q k) = w q 1 k)
    (hW2 : ∀ q k, W2 (ix3 0 q k) = w q 2 k) (hW3 : ∀ q k, W3 (ix3 0 q k) = w q 3 k)
    (hW4 : ∀ q k, W4 (ix3 0 q k) = w q 4 k) (hW5 : ∀ q k, W5 (ix3 0 q k) = w q 5 k)
    (hW6 : ∀ q k, W6 (ix3 0 q k) = w q 6 k) (hW7 : ∀ q k, W7 (ix3 0 q k) = w q 7 k) (r : Fin 512) (q : Fin 1024) :
    k0_pay4 (k0_pay3 Z0 W0 Z1 W1 Z2 W2 Z3 W3 Z4 W4) Z5 W5 Z6 W6 Z7 W7 (ix2 r q) = dh (a r) (w q) := by
  pointwise [k0_pay4, k0_pay3]
  simp only [hZ0, hZ1, hZ2, hZ3, hZ4, hZ5, hZ6, hZ7, hW0, hW1, hW2, hW3, hW4, hW5, hW6, hW7]
  unfold dh
  rw [Fin.sum_univ_eight]
  simp only [zero_add]
  rfl

/-- The row's scale. -/
theorem scale_apply (x : Vec Ideal S512x1024 .f32) (r : Fin 512) (z : Fin 1) :
    k0_pay5 x (ix2 r z) = Rms.scale (fun k => x (ix2 r k)) := by
  pointwise [k0_pay5]
  rfl

variable (V : FVec Ideal S512x1024 .f32) (Z Z' Z'' : Vec Ideal S512x256 .bf16) (W W' W'' : Vec Ideal S1x1024x256 .bf16)

/-- The input's cotangent. -/
theorem dx_apply (x d : Vec Ideal S512x1024 .f32) (g : Vec Ideal S1x1024 .f32) (h : Fin 512 → Fin 1024 → EReal)
    (hh : ∀ r q, k0_pay4 V Z W Z' W' Z'' W'' (ix2 r q) = h r q) (r : Fin 512) (q : Fin 1024) :
    k0_pay1 (k0_pay5 x) (k0_pay6 x) (k0_pay8 V Z W Z' W' Z'' W'' g) (k0_pay9 V Z W Z' W' Z'' W'' x g) d (ix2 r q)
      = dx (d (ix2 r q)) (h r) (fun k => x (ix2 r k)) (fun k => g (ix2 0 k)) q := by
  generalize hV : k0_pay4 V Z W Z' W' Z'' W'' = B at hh
  generalize hS : k0_pay5 x = S
  have hs : ∀ r z, S (ix2 r z) = Rms.scale (fun k => x (ix2 r k)) := fun r z => by rw [← hS]; exact scale_apply x r z
  pointwise [k0_pay1, k0_pay9, k0_pay8, k0_pay6, hV, hS]
  simp only [hh, hs]
  rfl

/-- The tile's part of the gain's gradient. -/
theorem dg_apply (x : Vec Ideal S512x1024 .f32) (h : Fin 512 → Fin 1024 → EReal)
    (hh : ∀ r q, k0_pay4 V Z W Z' W' Z'' W'' (ix2 r q) = h r q) (z : Fin 1) (q : Fin 1024) :
    k0_pay7 V Z W Z' W' Z'' W'' x (ix2 z q) = ∑ r : Fin 512, dg (h r) (fun k => x (ix2 r k)) q := by
  generalize hV : k0_pay4 V Z W Z' W' Z'' W'' = B at hh
  generalize hS : k0_pay5 x = S
  have hs : ∀ r z, S (ix2 r z) = Rms.scale (fun k => x (ix2 r k)) := fun r z => by rw [← hS]; exact scale_apply x r z
  pointwise [k0_pay7, k0_pay6, hV, hS]
  simp only [hh, hs]
  rfl

/-- The gain's gradient: what was there, plus the tile's part. -/
theorem dgs_apply (p o : FVec Ideal S1x1024 .f32) (z : Fin 1) (q : Fin 1024) :
    k0_pay2 p o (ix2 z q) = o (ix2 z q) + p (ix2 z q) := by
  pointwise [k0_pay2]

end

section

open Cert.Kernel6Ideal Cert.Kernel6Ideal.Gen Cert.Mat Cert.InGrad Idealize.ShloMosaic Idealize.SL.Sem

/-- The blocks of tile `n`: the tile's rows of the projection's cotangent, of the input and of the residual's cotangent. -/
structure Blocks (A : ℕ → ℕ → EReal) (W : Fin 1024 → Fin 8 → Fin 256 → EReal) (X D : ℕ → Fin 1024 → EReal)
    (G : Fin 1024 → EReal) (n : ℕ) (x0 : Vec Ideal S512x2048 .bf16) (x1 : Vec Ideal S8x1024x256 .bf16)
    (x2 : Vec Ideal S512x1024 .f32) (x3 : Vec Ideal S1x1024 .f32) (x4 : Vec Ideal S512x1024 .f32) : Prop where
  h0 : ∀ (r : Fin 512) (j : Fin 2048) (k : ℕ), j.val = k → x0 (ix2 r j) = A (512 * n + r.val) k
  h1 : ∀ (b : Fin 8) (q : Fin 1024) (k : Fin 256), x1 (ix3 b q k) = W q b k
  h2 : ∀ (r : Fin 512) (q : Fin 1024), x2 (ix2 r q) = X (512 * n + r.val) q
  h3 : ∀ q : Fin 1024, x3 (ix2 0 q) = G q
  h4 : ∀ (r : Fin 512) (q : Fin 1024), x4 (ix2 r q) = D (512 * n + r.val) q

/-- The cotangent of the norm's output. -/
def hid (A : ℕ → ℕ → EReal) (W : Fin 1024 → Fin 8 → Fin 256 → EReal) (t : ℕ) (q : Fin 1024) : EReal := dh (A t) (W q)

variable {A : ℕ → ℕ → EReal} {W : Fin 1024 → Fin 8 → Fin 256 → EReal} {X D : ℕ → Fin 1024 → EReal}
  {G : Fin 1024 → EReal} {n : ℕ} {i : grid0.Coords} {x0 : Vec Ideal S512x2048 .bf16} {x1 : Vec Ideal S8x1024x256 .bf16}
  {x2 : Vec Ideal S512x1024 .f32} {x3 : Vec Ideal S1x1024 .f32} {x4 : Vec Ideal S512x1024 .f32}
variable (c : Dev nD) (a1 : Memref sig .tc .vmem S512x2048 .bf16) (b1 : a1.IsWhole)
  (a2 : Memref sig .tc .vmem S8x1024x256 .bf16) (b2 : a2.IsWhole)
  (a3 : Memref sig .tc .vmem S512x1024 .f32) (b3 : a3.IsWhole)
  (a4 : Memref sig .tc .vmem S1x1024 .f32) (b4 : a4.IsWhole)
  (a5 : Memref sig .tc .vmem S512x1024 .f32) (b5 : a5.IsWhole)
  (a6 : Memref sig .tc .vmem S512x1024 .f32) (b6 : a6.IsWhole)
  (a7 : Memref sig .tc .vmem S1x1024 .f32) (b7 : a7.IsWhole)

/-- The block of the input's cotangent. -/
theorem out_A_5 (hc0 : cond0_0 i) (hc1 : ¬cond0_1 i) (h : Blocks A W X D G n x0 x1 x2 x3 x4)
    (y : S512x1024.Idx) :
    out0_A_5 c i a1 b1 a2 b2 a3 b3 a4 b4 a5 b5 a6 b6 a7 b7 hc0 hc1 x0 x1 x2 x3 x4 y
      = dx (D (512 * n + (y 0).val) (y 1)) (hid A W (512 * n + (y 0).val)) (X (512 * n + (y 0).val)) G (y 1) := by
  unfold out0_A_5
  rw [View.read_writes_eq_canon _ _ _ (by exact fun _ => cover0_A_5 ..)]
  unfold kernelRun0_A
  dsimp only
  sl_unfold_words
  simp only [View.readAt_eq_ld, Memref.IsWhole.read_unread, View.ld_unit_zero (S := S512x1024) Mat.hz2,
    View.ld_unit_zero (S := S1x1024) Mat.hz2, shapeCast_self]
  simp only [View.canon_unit_zero (S := S512x1024) Mat.hz2]
  obtain ⟨r, q, rfl⟩ := Mat.ix2_of y
  refine (dx_apply _ _ _ _ _ _ _ _ _ _ (fun r q => hid A W (512 * n + r.val) q) (dh_apply (a := fun r => A (512 * n + r.val)) (w := W) _ _ _ _ _ _ _ _ _ _ _ _ _ _ _ _ ?_ ?_ ?_ ?_ ?_ ?_ ?_ ?_ ?_ ?_ ?_ ?_ ?_ ?_ ?_ ?_) r q).trans ?_
  all_goals first | (intros; pointwise []; first | exact h.h0 _ _ _ (by simp) | exact h.h1 _ _ _) | skip
  rw [funext (h.h2 r), h.h4, funext h.h3]
  rfl

/-- The gain's gradient: the tile's part. -/
theorem out_A_6 (hc0 : cond0_0 i) (hc1 : ¬cond0_1 i) (h : Blocks A W X D G n x0 x1 x2 x3 x4)
    (y : S1x1024.Idx) :
    out0_A_6 c i a1 b1 a2 b2 a3 b3 a4 b4 a5 b5 a6 b6 a7 b7 hc0 hc1 x0 x1 x2 x3 x4 y
      = ∑ r : Fin 512, dg (hid A W (512 * n + r.val)) (X (512 * n + r.val)) (y 1) := by
  unfold out0_A_6
  rw [View.read_writes_eq_canon _ _ _ (by exact fun _ => cover0_A_6 ..)]
  unfold kernelRun0_A
  dsimp only
  sl_unfold_words
  simp only [View.readAt_eq_ld, Memref.IsWhole.read_unread, View.ld_unit_zero (S := S512x1024) Mat.hz2,
    View.ld_unit_zero (S := S1x1024) Mat.hz2, shapeCast_self]
  simp only [View.canon_unit_zero (S := S1x1024) Mat.hz2]
  obtain ⟨z, q, rfl⟩ := Mat.ix2_of y
  refine (dg_apply _ _ _ _ _ _ _ _ (fun r q => hid A W (512 * n + r.val) q) (dh_apply (a := fun r => A (512 * n + r.val)) (w := W) _ _ _ _ _ _ _ _ _ _ _ _ _ _ _ _ ?_ ?_ ?_ ?_ ?_ ?_ ?_ ?_ ?_ ?_ ?_ ?_ ?_ ?_ ?_ ?_) z q).trans ?_
  all_goals first | (intros; pointwise []; first | exact h.h0 _ _ _ (by simp) | exact h.h1 _ _ _) | skip
  exact Finset.sum_congr rfl fun r _ => congrArg (fun p => dg _ p q) (funext (h.h2 r))

/-- The block of the input's cotangent. -/
theorem out_B_5 (hc0 : ¬cond0_0 i) (hc1 : cond0_1 i) (h : Blocks A W X D G n x0 x1 x2 x3 x4)
    (xo6 : Vec Ideal S1x1024 .f32) (y : S512x1024.Idx) :
    out0_B_5 c i a1 b1 a2 b2 a3 b3 a4 b4 a5 b5 a6 b6 a7 b7 hc0 hc1 x0 x1 x2 x3 x4 xo6 y
      = dx (D (512 * n + (y 0).val) (y 1)) (hid A W (512 * n + (y 0).val)) (X (512 * n + (y 0).val)) G (y 1) := by
  unfold out0_B_5
  rw [View.read_writes_eq_canon _ _ _ (by exact fun _ => cover0_B_5 ..)]
  unfold kernelRun0_B
  dsimp only
  sl_unfold_words
  simp only [View.readAt_eq_ld, Memref.IsWhole.read_unread, View.ld_unit_zero (S := S512x1024) Mat.hz2,
    View.ld_unit_zero (S := S1x1024) Mat.hz2, shapeCast_self]
  simp only [View.canon_unit_zero (S := S512x1024) Mat.hz2]
  obtain ⟨r, q, rfl⟩ := Mat.ix2_of y
  refine (dx_apply _ _ _ _ _ _ _ _ _ _ (fun r q => hid A W (512 * n + r.val) q) (dh_apply (a := fun r => A (512 * n + r.val)) (w := W) _ _ _ _ _ _ _ _ _ _ _ _ _ _ _ _ ?_ ?_ ?_ ?_ ?_ ?_ ?_ ?_ ?_ ?_ ?_ ?_ ?_ ?_ ?_ ?_) r q).trans ?_
  all_goals first | (intros; pointwise []; first | exact h.h0 _ _ _ (by simp) | exact h.h1 _ _ _) | skip
  rw [funext (h.h2 r), h.h4, funext h.h3]
  rfl

/-- The gain's gradient: what was there, plus the tile's part. -/
theorem out_B_6 (hc0 : ¬cond0_0 i) (hc1 : cond0_1 i) (h : Blocks A W X D G n x0 x1 x2 x3 x4)
    (xo6 : Vec Ideal S1x1024 .f32) (y : S1x1024.Idx) :
    out0_B_6 c i a1 b1 a2 b2 a3 b3 a4 b4 a5 b5 a6 b6 a7 b7 hc0 hc1 x0 x1 x2 x3 x4 xo6 y
      = xo6 y + ∑ r : Fin 512, dg (hid A W (512 * n + r.val)) (X (512 * n + r.val)) (y 1) := by
  unfold out0_B_6
  rw [View.read_writes_eq_canon _ _ _ (by exact fun _ => cover0_B_6 ..)]
  unfold kernelRun0_B
  dsimp only
  sl_unfold_words
  simp only [View.readAt_eq_ld, Memref.IsWhole.read_unread, View.ld_unit_zero (S := S512x1024) Mat.hz2,
    View.ld_unit_zero (S := S1x1024) Mat.hz2, shapeCast_self]
  simp only [View.canon_unit_zero (S := S1x1024) Mat.hz2]
  obtain ⟨z, q, rfl⟩ := Mat.ix2_of y
  refine (dgs_apply _ _ z q).trans (congrArg (fun p : EReal => _ + p) ?_)
  refine (dg_apply _ _ _ _ _ _ _ _ (fun r q => hid A W (512 * n + r.val) q) (dh_apply (a := fun r => A (512 * n + r.val)) (w := W) _ _ _ _ _ _ _ _ _ _ _ _ _ _ _ _ ?_ ?_ ?_ ?_ ?_ ?_ ?_ ?_ ?_ ?_ ?_ ?_ ?_ ?_ ?_ ?_) z q).trans ?_
  all_goals first | (intros; pointwise []; first | exact h.h0 _ _ _ (by simp) | exact h.h1 _ _ _) | skip
  exact Finset.sum_congr rfl fun r _ => congrArg (fun p => dg _ p q) (funext (h.h2 r))

end

section

open Cert.Kernel6Ideal Cert.Kernel6Ideal.Gen Cert.Mat Cert.InGrad Idealize.ShloMosaic Idealize.ShloMosaic.TcCoe Idealize.SL.Sem
open Idealize.ShloMosaic.Pipeline (Dat)

variable (m : (ℓ : Loc nD τ sig) → Buf (Elt Ideal) ℓ) (c : Dev nD)

/-- The cotangent of the projection, as launched. -/
def mA : ℕ → ℕ → EReal := at2 (R := 4096) (C := 2048) (m ((c : Thread nD τ).loc main_arg0))
/-- The weight. -/
def mW : Fin 1024 → Fin 8 → Fin 256 → EReal := fun q b k =>
  (m ((c : Thread nD τ).loc main_arg1) : Vec Ideal S8x1024x256 .bf16) (ix3 b q k)
/-- The norm's input. -/
def mX : ℕ → Fin 1024 → EReal := fun t q => at2 (R := 4096) (C := 1024) (m ((c : Thread nD τ).loc main_arg2)) t q.val
/-- The gain. -/
def mG : Fin 1024 → EReal := fun q => (m ((c : Thread nD τ).loc main_arg3) : Vec Ideal S1x1024 .f32) (ix2 0 q)
/-- The residual's cotangent. -/
def mD : ℕ → Fin 1024 → EReal := fun t q => at2 (R := 4096) (C := 1024) (m ((c : Thread nD τ).loc main_arg4)) t q.val

/-- Where the windows' blocks begin, at each grid point. -/
theorem index_facts : ∀ t : Fin grid0.N,
    win0_0.index t 0 = t.val ∧ win0_0.index t 1 = 0
    ∧ win0_1.index t 0 = 0 ∧ win0_1.index t 1 = 0 ∧ win0_1.index t 2 = 0
    ∧ win0_2.index t 0 = t.val ∧ win0_2.index t 1 = 0
    ∧ win0_3.index t 0 = 0 ∧ win0_3.index t 1 = 0
    ∧ win0_4.index t 0 = t.val ∧ win0_4.index t 1 = 0
    ∧ win0_5.index t 0 = t.val ∧ win0_5.index t 1 = 0
    ∧ win0_6.index t 0 = 0 ∧ win0_6.index t 1 = 0 := by decide +kernel

/-- The blocks the body reads at point `t` hold the arguments' rows. -/
theorem blocks (t : Fin cfg0.N) : Blocks (mA m c) (mW m c) (mX m c) (mD m c) (mG m c) t.val (iblk m c 0 t) (iblk m c 1 t)
    (iblk m c 2 t) (iblk m c 3 t) (iblk m c 4 t) := by
  obtain ⟨i00, i01, i10, i11, i12, i20, i21, i30, i31, i40, i41, i50, i51, i60, i61⟩ := index_facts t
  constructor
  case h0 =>
    intro r j k hk
    refine at2_of (R := 4096) (C := 2048) (m ((c : Thread nD τ).loc main_arg0)) _ _ _ ?_ ?_
    · show win0_0.index t 0 * 512 + 1 * r.val = _; rw [i00]; omega
    · show win0_0.index t 1 * 2048 + 1 * j.val = _; rw [i01]; omega
  case h1 =>
    intro b q k
    refine congrArg (m ((c : Thread nD τ).loc main_arg1)) (funext fun a => Fin.ext ?_)
    match a with
    | ⟨0, _⟩ => show win0_1.index t 0 * 8 + 1 * b.val = b.val; omega
    | ⟨1, _⟩ => show win0_1.index t 1 * 1024 + 1 * q.val = q.val; omega
    | ⟨2, _⟩ => show win0_1.index t 2 * 256 + 1 * k.val = k.val; omega
  case h2 =>
    intro r j
    refine at2_of (R := 4096) (C := 1024) (m ((c : Thread nD τ).loc main_arg2)) _ _ _ ?_ ?_
    · show win0_2.index t 0 * 512 + 1 * r.val = _; rw [i20]; omega
    · show win0_2.index t 1 * 1024 + 1 * j.val = _; rw [i21]; omega
  case h3 =>
    intro q
    refine congrArg (m ((c : Thread nD τ).loc main_arg3)) (funext fun a => Fin.ext ?_)
    match a with
    | ⟨0, _⟩ => show win0_3.index t 0 * 1 + 1 * 0 = 0; omega
    | ⟨1, _⟩ => show win0_3.index t 1 * 1024 + 1 * q.val = q.val; omega
  case h4 =>
    intro r j
    refine at2_of (R := 4096) (C := 1024) (m ((c : Thread nD τ).loc main_arg4)) _ _ _ ?_ ?_
    · show win0_4.index t 0 * 512 + 1 * r.val = _; rw [i40]; omega
    · show win0_4.index t 1 * 1024 + 1 * j.val = _; rw [i41]; omega

/-- One entry of the input's cotangent. -/
def mDx (t : ℕ) (q : Fin 1024) : EReal := dx (mD m c t q) (hid (mA m c) (mW m c) t) (mX m c t) (mG m c) q

/-- One token's part of the gain's gradient. -/
def mDg (t : ℕ) (q : Fin 1024) : EReal := dg (hid (mA m c) (mW m c) t) (mX m c t) q

/-- The input's cotangent, as contents of its array. -/
def gDx : Vec Ideal S4096x1024 .f32 := fun i => mDx m c (i 0).val (i 1)

/-- What a point leaves for it. -/
theorem outs_5 (t : Fin cfg0.N) (y : S512x1024.Idx) : (outsAt0 m c t.val t.isLt).1 y
    = mDx m c (512 * t.val + (y 0).val) (y 1) := by
  have hN : t.val < 8 := lt_of_lt_of_eq t.isLt N_0
  by_cases h : t.val = 0
  · rw [outsAt0_A m c t (by omega) (by omega)]
    dsimp only
    exact out_A_5 (h := blocks m c t) ..
  · rw [outsAt0_B m c t (by omega) (by omega)]
    dsimp only
    exact out_B_5 (h := blocks m c t) ..

/-- Every point writes back its block of it. -/
theorem flushed_5 (t : Fin cfg0.N) (_ : (cfg0.win 5).flush t = true) :
    (dats m 0 c).flushed 5 t = ((cfg0.win 5).blk t).view.read (Elt Ideal) (gDx m c) := by
  rw [Value.flushed5]
  obtain ⟨i00, i01, i10, i11, i12, i20, i21, i30, i31, i40, i41, i50, i51, i60, i61⟩ := index_facts t
  funext y
  refine (outs_5 m c t y).trans ?_
  refine congrArg₂ (mDx m c) ?_ (Fin.ext ?_)
  · show _ = win0_5.index t 0 * 512 + 1 * (y 0).val; omega
  · show _ = win0_5.index t 1 * 1024 + 1 * (y 1).val; omega

/-- So the array ends holding it. -/
theorem final_5 : (dats m 0 c).arrAt 5 cfg0.N = gDx m c :=
  (dats m 0 c).arrAt_eq_of_cover 5 (gDx m c) (flushed_5 m c) fun i => by
    have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    refine ⟨⟨(i 0 : Nat) / 512, hN⟩, flush0_5 _, ?_⟩
    obtain ⟨i00, i01, i10, i11, i12, i20, i21, i30, i31, i40, i41, i50, i51, i60, i61⟩ := index_facts ⟨(i 0 : Nat) / 512, hN⟩
    show i ∈ ((View.whole main_v0_0).slice (win0_5.rect ⟨(i 0 : Nat) / 512, hN⟩)).set
    rw [View.set_slice_whole, Rect.mem_set_unit]
    dsimp only at i50
    generalize (⟨(i 0 : Nat) / 512, hN⟩ : Fin grid0.N) = t at i50 i51 ⊢
    intro a
    match a with
    | ⟨0, _⟩ => show Mat.In (win0_5.index t 0) 512 (i 0); omega
    | ⟨1, _⟩ => show Mat.In (win0_5.index t 1) 1024 (i 1); omega

/-- The gain's gradient, as contents of its array. -/
def gDg : Vec Ideal S1x1024 .f32 := fun i => ∑ k ∈ Finset.range 8, ∑ r : Fin 512, mDg m c (512 * k + r.val) (i 1)

/-- What the points up to `n` leave for it: the tiles' parts so far. -/
theorem outs_6 : ∀ (n : ℕ) (hn : n < cfg0.N) (y : S1x1024.Idx), (outsAt0 m c n hn).2 y
    = ∑ k ∈ Finset.range (n + 1), ∑ r : Fin 512, mDg m c (512 * k + r.val) (y 1)
  | 0, hn, y => by
    have e := outsAt0_A m c ⟨0, hn⟩ rfl (by simp)
    refine (congrArg (fun p => p.2 y) e).trans ?_
    dsimp only
    refine (out_A_6 (n := 0) (h := blocks m c ⟨0, hn⟩) ..).trans ?_
    rw [Finset.sum_range_one]
    rfl
  | n + 1, hn, y => by
    have hN : n + 1 < 8 := lt_of_lt_of_eq hn N_0
    have e := outsAt0_B m c ⟨n + 1, hn⟩ (by show ¬(n + 1) % 8 = 0; omega) (by show 1 ≤ n + 1; omega)
    refine (congrArg (fun p => p.2 y) e).trans ?_
    dsimp only
    refine (out_B_6 (n := n + 1) (h := blocks m c ⟨n + 1, hn⟩) ..).trans ?_
    rw [Finset.sum_range_succ]
    exact congrArg (· + _) (outs_6 n (Nat.lt_of_succ_lt hn) y)

/-- The last point writes it back. -/
theorem flushed_6 (t : Fin cfg0.N) (hf : (cfg0.win 6).flush t = true) :
    (dats m 0 c).flushed 6 t = ((cfg0.win 6).blk t).view.read (Elt Ideal) (gDg m c) := by
  have h7 : t.val + 1 = 8 := by have := (flush0_6 t).mp hf; have := lt_of_lt_of_eq t.isLt N_0; omega
  rw [Value.flushed6]
  obtain ⟨i00, i01, i10, i11, i12, i20, i21, i30, i31, i40, i41, i50, i51, i60, i61⟩ := index_facts t
  funext y
  refine (outs_6 m c t.val t.isLt y).trans ?_
  rw [h7]
  refine congrArg (fun q : Fin 1024 => ∑ k ∈ Finset.range 8, ∑ r : Fin 512, mDg m c (512 * k + r.val) q) (Fin.ext ?_)
  show _ = win0_6.index t 1 * 1024 + 1 * (y 1).val; omega

/-- So the array ends holding it. -/
theorem final_6 : (dats m 0 c).arrAt 6 cfg0.N = gDg m c :=
  (dats m 0 c).arrAt_eq_of_cover 6 (gDg m c) (flushed_6 m c) fun i => by
    have h0 : (i 0 : Nat) < 1 := (i 0).isLt
    have h1 : (i 1 : Nat) < 1024 := (i 1).isLt
    have hN : 7 < cfg0.N := lt_of_lt_of_eq (by decide) N_0.symm
    refine ⟨⟨7, hN⟩, (flush0_6 _).mpr rfl, ?_⟩
    obtain ⟨i00, i01, i10, i11, i12, i20, i21, i30, i31, i40, i41, i50, i51, i60, i61⟩ := index_facts ⟨7, hN⟩
    show i ∈ ((View.whole main_v0_1).slice (win0_6.rect ⟨7, hN⟩)).set
    rw [View.set_slice_whole, Rect.mem_set_unit]
    generalize (⟨7, hN⟩ : Fin grid0.N) = t at i60 i61 ⊢
    intro a
    match a with
    | ⟨0, _⟩ => show Mat.In (win0_6.index t 0) 1 (i 0); omega
    | ⟨1, _⟩ => show Mat.In (win0_6.index t 1) 1024 (i 1); omega

end

section

instance : Cert.Kernel6Ideal.Facts := Cert.Kernel6Ideal.Gen.facts
instance : Cert.Reference6Ideal.Facts := Cert.Reference6Ideal.Gen.facts

namespace Host

open Cert.Reference6Ideal Cert.Reference6Ideal.Read Cert.Mat Cert.InGrad Idealize.ShloMosaic

variable (x0 : (⟨S4096x2048, .bf16⟩ : BufTy).Contents (Elt Ideal)) (x1 : (⟨S8x1024x256, .bf16⟩ : BufTy).Contents (Elt Ideal))
  (x2 : (⟨S4096x1024, .f32⟩ : BufTy).Contents (Elt Ideal)) (x3 : (⟨S1x1024, .f32⟩ : BufTy).Contents (Elt Ideal))
  (x4 : (⟨S4096x1024, .f32⟩ : BufTy).Contents (Elt Ideal))

/-- One entry of the cotangent of the norm's output. -/
def hidden (t : Fin 4096) (q : Fin 1024) : EReal := dh (at2 (R := 4096) (C := 2048) x0 t.val) (fun b k => x1 (ix3 b q k))

/-- The cotangent of the norm's output. -/
theorem hidden_at (t : Fin 4096) (q : Fin 1024) : val_main_v20 (F := Ideal) x0 x1 (ix2 t q) = hidden x0 x1 t q := by
  unfold hidden
  rw [← dh_flat (B := 256) (N := 2048) (by decide) (by decide)]
  pointwise [val_main_v20, val_main_v19, val_main_v2, val_main_v1, val_main_v0]
  refine Finset.sum_congr rfl fun k _ => ?_
  exact congrArg₂ (fun p q : EReal => p * q) (at2_ix (R := 4096) (C := 2048) x0 t k) rfl

/-- A row's mean square. -/
theorem var_at (t : Fin 4096) (z : Fin 1) : val_main_v9 (F := Ideal) x2 (ix2 t z) = Rms.var (fun k => x2 (ix2 t k)) := by
  pointwise [val_main_v9, val_main_v8, val_main_cst_1, val_main_v7, val_main_v6, val_main_cst_0, val_main_v5, val_main_v4,
    val_main_cst, val_main_v3]
  rfl

/-- A row's scale. -/
theorem scale_at (t : Fin 4096) (z : Fin 1) : val_main_v10 (F := Ideal) x2 (ix2 t z) = Rms.scale (fun k => x2 (ix2 t k)) := by
  pointwise [val_main_v10]
  rw [var_at]
  rfl

/-- The gain's gradient. -/
theorem dg_at (q : Fin 1024) : val_main_v23 (F := Ideal) x0 x1 x2 (ix2 0 q)
    = ∑ t : Fin 4096, dg (hidden x0 x1 t) (fun k => x2 (ix2 t k)) q := by
  pointwise [val_main_v23, val_main_v22, val_main_cst_3, val_main_v21, val_main_v15, val_main_v14]
  refine Finset.sum_congr rfl fun t _ => ?_
  rw [scale_at, hidden_at]
  exact mul_comm (G := EReal) _ _

/-- The input's cotangent. -/
theorem dx_at (t : Fin 4096) (q : Fin 1024) : val_main_v40 (F := Ideal) x0 x1 x2 x3 x4 (ix2 t q)
    = dx (x4 (ix2 t q)) (hidden x0 x1 t) (fun k => x2 (ix2 t k)) (fun k => x3 (ix2 0 k)) q := by
  unfold dx
  rw [Rms.back_eq, ← add_assoc, ← add_assoc]
  pointwise [val_main_v40, val_main_v39, val_main_v38, val_main_v37, val_main_v36, val_main_v35, val_main_cst_6,
    val_main_v34, val_main_v33, val_main_cst_5, val_main_v32, val_main_v31, val_main_v30, val_main_v29, val_main_v28,
    val_main_v27, val_main_cst_4, val_main_v26, val_main_v25, val_main_v24, val_main_v13, val_main_v12, val_main_cst_2,
    val_main_v11]
  simp only [Fin.sum_univ_one, scale_at, var_at, hidden_at]
  rfl

end Host

open Cert.Mat Cert.InGrad Idealize.ShloMosaic Idealize.ShloMosaic.TcCoe Idealize.SL.Sem

/-- The host's run leaves no counter raised and keeps its arguments. -/
theorem host_frame : Cert.quiescent_Reference6Ideal := fun m g _ =>
  (θ_run _ _ _).mono (fun r h => ⟨fun c => (h c).2.2,
      Idealize.ShloMosaic.sem_eq_zero_of_no_sems (by decide) r.2⟩)
    (Cert.Reference6Ideal.Value.run (F := Ideal) m g)

/-- A row of the array, read at its number. -/
theorem row_eq (T : Vec Ideal Cert.Kernel6Ideal.S4096x1024 .f32) (t : Fin 4096) :
    (fun q : Fin 1024 => at2 (R := 4096) (C := 1024) T t.val q.val) = fun q => T (ix2 t q) :=
  funext fun q => (at2_ix (R := 4096) (C := 1024) T t q).symm

variable (m : (ℓ : Loc Cert.Kernel6Ideal.nD Cert.Kernel6Ideal.τ Cert.Kernel6Ideal.sig) → Buf (Elt Ideal) ℓ)
  (c : Dev Cert.Kernel6Ideal.nD)

/-- The host's entry of the input's cotangent is the kernel's. -/
theorem dx_same (t : Fin 4096) (q : Fin 1024) :
    dx ((m ((c.tc : Thread _ _).loc Cert.Kernel6Ideal.main_arg4) : Vec Ideal Cert.Kernel6Ideal.S4096x1024 .f32) (ix2 t q))
      (Host.hidden (m ((c.tc : Thread _ _).loc Cert.Kernel6Ideal.main_arg0)) (m ((c.tc : Thread _ _).loc Cert.Kernel6Ideal.main_arg1)) t)
      (fun k => (m ((c.tc : Thread _ _).loc Cert.Kernel6Ideal.main_arg2) : Vec Ideal Cert.Kernel6Ideal.S4096x1024 .f32) (ix2 t k))
      (fun k => (m ((c.tc : Thread _ _).loc Cert.Kernel6Ideal.main_arg3) : Vec Ideal Cert.Kernel6Ideal.S1x1024 .f32) (ix2 0 k)) q
      = mDx m c t.val q := by
  unfold mDx
  have hX : mX m c t.val = _ := row_eq _ t
  have hD : mD m c t.val q = _ := (at2_ix (R := 4096) (C := 1024) _ t q).symm
  rw [hX, hD]
  rfl

/-- The host's gain's gradient is the kernel's. -/
theorem dg_same (q : Fin 1024) :
    ∑ t : Fin 4096, dg
      (Host.hidden (m ((c.tc : Thread _ _).loc Cert.Kernel6Ideal.main_arg0)) (m ((c.tc : Thread _ _).loc Cert.Kernel6Ideal.main_arg1)) t)
      (fun k => (m ((c.tc : Thread _ _).loc Cert.Kernel6Ideal.main_arg2) : Vec Ideal Cert.Kernel6Ideal.S4096x1024 .f32) (ix2 t k)) q
      = ∑ k ∈ Finset.range 8, ∑ r : Fin 512, mDg m c (512 * k + r.val) q := by
  rw [sum_tiles fun t => mDg m c t q]
  refine Finset.sum_congr rfl fun t _ => ?_
  unfold mDg
  have hX : mX m c t.val = _ := row_eq _ t
  rw [hX]
  rfl

/-- All results of the kernel's idealization are the host's, entry by entry, for every argument. -/
theorem values : Cert.algebraic_Kernel6Ideal_Reference6Ideal := by
  intro m g m' g' _ hag
  refine ⟨fun c => gDx m c, fun c => gDg m c, ?_, ?_⟩
  · exact (θ_run _ _ _).mono (fun r h c => ⟨(h c).1.trans (final_5 m c), (h c).2.1.trans (final_6 m c), (h c).2.2⟩)
      (Cert.Kernel6Ideal.Value.run_blocks (F := Ideal) m g)
  · refine (θ_run _ _ _).mono (fun r h c => ⟨(h c).1.trans ?_, (h c).2.1.trans ?_, (h c).2.2⟩)
      (Cert.Reference6Ideal.Value.run (F := Ideal) m' g')
    · obtain ⟨h0, h1, h2, h3, h4⟩ := hag c
      rw [Cert.Reference6Ideal.Read.val_main_v40_eq, h0, h1, h2, h3, h4]
      funext i
      obtain ⟨t, q, rfl⟩ := Mat.ix2_of i
      exact (Host.dx_at _ _ _ _ _ t q).trans (dx_same m c t q)
    · obtain ⟨h0, h1, h2, h3, h4⟩ := hag c
      refine (Cert.Reference6Ideal.Read.val_main_v23_eq (F := Ideal) _ _ _).trans ?_
      rw [h0, h1, h2]
      funext i
      obtain ⟨z, q, rfl⟩ := Mat.ix2_of i
      obtain rfl : z = 0 := Fin.fin_one_eq_zero z
      exact (Host.dg_at _ _ _ q).trans (dg_same m c q)

end

end Cert.AbIn

end
-- ==== Proof.Ffn.lean ====
/-
  What one call of the body computes, entry by entry, from its blocks (no machine in it): the padded input, its up
  projection, the convolution of each half and the group's product.

  What one grid point leaves in the staging buffers of the outputs, read at an index.

  The four arrays the kernel leaves, named: each block is what its grid point wrote, and the blocks tile the arrays.

  The host's feed-forward layer, entry by entry: its results are the formulas of the layer.

  The value claim of the first layer's feed-forward pass: the kernel's four arrays are the host's.
-/
module

public import proofs.«01_k».proof.Proof.Spec
public import proofs.«01_k».proof.Proof.Gen.Kernel9Ideal.Value
public import Idealize.ShloMosaic.Lib.Tactic
public import proofs.«01_k».proof.Proof.Gen.Reference9Ideal.Read
public import Idealize.ShloMosaic.Lib.Pointwise
public import proofs.«01_k».proof.Defs
public import Idealize.ShloMosaic.Lib.Quiescent

@[expose] public section

set_option maxRecDepth 16384

noncomputable section

namespace Cert.Ffn0

section

open Cert.Kernel9Ideal Cert.Kernel9Ideal.Gen Cert.Mat Cert.Ffn Idealize.ShloMosaic

/-- The body's test "not the first tile". -/
theorem sgt_zero (n : ℕ) (h : n < 8) : (Scalar.cmpi .sgt (BitVec.ofNat 32 n) 0#32 = 1#1) ↔ 0 < n :=
  (by decide : ∀ n : Fin 8, (Scalar.cmpi .sgt (BitVec.ofNat 32 n.val) 0#32 = 1#1) ↔ 0 < n.val) ⟨n, h⟩

/-- The blocks of tile `n` and one group: the tile's rows of the input, the sixteen before, the group's weights. -/
structure Blocks (H : ℕ → Fin 1024 → EReal) (W : Fin 2 → Fin 1024 → Fin 704 → EReal)
    (C : Fin 2 → Fin 3 → Fin 704 → EReal) (Wd : Fin 704 → Fin 1024 → EReal) (n : ℕ) (x0 : Vec Ideal S512x1024 .bf16)
    (x1 : Vec Ideal S16x1024 .bf16) (x2 : Vec Ideal S2x1x1024x704 .bf16) (x3 : Vec Ideal S2x1x3x704 .f32)
    (x4 : Vec Ideal S704x1024 .bf16) : Prop where
  h0 : ∀ (r : Fin 512) (k : Fin 1024), x0 (ix2 r k) = H (512 * n + r + 16) k
  h1 : ∀ (r : Fin 16) (k : Fin 1024), 0 < n → x1 (ix2 r k) = H (512 * n + r) k
  hH : ∀ s k, s < 16 → H s k = 0
  h2 : ∀ (gv : Fin 2) (k : Fin 1024) (j : Fin 704), x2 (ix4 gv 0 k j) = W gv k j
  h3 : ∀ (gv : Fin 2) (a : Fin 3) (j : Fin 704), x3 (ix4 gv 0 a j) = C gv a j
  h4 : ∀ (j : Fin 704) (q : Fin 1024), x4 (ix2 j q) = Wd j q
  hn : n < 8

variable {H : ℕ → Fin 1024 → EReal} {W : Fin 2 → Fin 1024 → Fin 704 → EReal}
  {C : Fin 2 → Fin 3 → Fin 704 → EReal} {Wd : Fin 704 → Fin 1024 → EReal} {n : ℕ} {i : grid0.Coords}
  {x0 : Vec Ideal S512x1024 .bf16} {x1 : Vec Ideal S16x1024 .bf16} {x2 : Vec Ideal S2x1x1024x704 .bf16}
  {x3 : Vec Ideal S2x1x3x704 .f32} {x4 : Vec Ideal S704x1024 .bf16}

/-- The sixteen rows before the tile (zero before the first) and the tile are rows of the padded input. -/
theorem hx_apply (hi : (i 0).val = n) (h : Blocks H W C Wd n x0 x1 x2 x3 x4) (s : Fin 528) (k : Fin 1024) :
    k0_pay3 i x1 x0 (ix2 s k) = H (512 * n + s) k := by
  pointwise [k0_pay3]
  generalize hA : BitVec.ofNat 32 _ = a
  have c : Scalar.cmpi .sgt a 0#32 = 1#1 ↔ 0 < n := by rw [← hA]; subst hi; exact sgt_zero _ h.hn
  split
  · rename_i hs
    refine (select_iff c _ _).trans ?_
    by_cases hp : 0 < n
    · rw [if_pos hp]; exact h.h1 _ k hp
    · rw [if_neg hp, h.hH _ _ (by omega)]
  · rename_i hs
    exact (h.h0 _ k).trans (congrArg (fun t => H t k) (show 512 * n + (s.val - 16) + 16 = 512 * n + s.val by omega))

/-- The up projection of the gate half. -/
theorem gate_apply (hi : (i 0).val = n) (h : Blocks H W C Wd n x0 x1 x2 x3 x4) (w : Vec Ideal S1x1x1024x704 .bf16)
    (hw : ∀ k j, w (ix4 0 0 k j) = W 0 k j) (s : Fin 528) (j : Fin 704) :
    k0_pay4 i x1 x0 w (ix3 0 s j) = pre H W 0 (512 * n + s) j := by
  pointwise [k0_pay4]
  unfold pre
  refine Finset.sum_congr rfl fun k _ => ?_
  exact congrArg₂ (fun p q : EReal => p * q) (hx_apply hi h s k) (hw k j)

/-- The up projection of the value half. -/
theorem value_apply (hi : (i 0).val = n) (h : Blocks H W C Wd n x0 x1 x2 x3 x4) (w : Vec Ideal S1x1x1024x704 .bf16)
    (hw : ∀ k j, w (ix4 0 0 k j) = W 1 k j) (s : Fin 528) (j : Fin 704) :
    k0_pay10 (k0_pay3 i x1 x0) w (ix3 0 s j) = pre H W 1 (512 * n + s) j := by
  pointwise [k0_pay10]
  unfold pre
  refine Finset.sum_congr rfl fun k _ => ?_
  exact congrArg₂ (fun p q : EReal => p * q) (hx_apply hi h s k) (hw k j)

/-- A gate row of the convolution. -/
theorem conv0_apply (P : Vec Ideal S1x528x704 .f32) (hP : ∀ s j, P (ix3 0 s j) = pre H W 0 (512 * n + s) j)
    (c2 c1 c0 : Vec Ideal S1x1x1x704 .f32) (h2 : ∀ j, c2 (ix4 0 0 0 j) = C 0 2 j) (h1 : ∀ j, c1 (ix4 0 0 0 j) = C 0 1 j)
    (h0 : ∀ j, c0 (ix4 0 0 0 j) = C 0 0 j) (r : Fin 512) (j : Fin 704) :
    k0_pay8 (k0_pay7 (rows P 16 (by omega)) c2) c1 (rows P 15 (by omega)) c0 (rows P 14 (by omega)) (ix2 r j)
      = conv H W C 0 (512 * n + r) j := by
  pointwise [k0_pay8, k0_pay7, k0_pay5]
  unfold conv
  simp only [rows_at, h2, h1, h0]
  refine congrArg₂ (fun p q : EReal => p + q) (congrArg₂ (fun p q : EReal => p + q) ?_ ?_) ?_
  all_goals refine congrArg (fun q : EReal => _ * q) ((hP _ _).trans (congrArg (fun t => pre H W 0 t j) ?_))
  all_goals show 512 * n + (_ + r.val) = _; omega

/-- A value row of the convolution. -/
theorem conv1_apply (P : Vec Ideal S1x528x704 .f32) (hP : ∀ s j, P (ix3 0 s j) = pre H W 1 (512 * n + s) j)
    (c2 c1 c0 : Vec Ideal S1x1x1x704 .f32) (h2 : ∀ j, c2 (ix4 0 0 0 j) = C 1 2 j) (h1 : ∀ j, c1 (ix4 0 0 0 j) = C 1 1 j)
    (h0 : ∀ j, c0 (ix4 0 0 0 j) = C 1 0 j) (r : Fin 512) (j : Fin 704) :
    k0_pay14 (k0_pay11 (rows P 16 (by omega))) c2 c1 (rows P 15 (by omega)) c0 (rows P 14 (by omega)) (ix2 r j)
      = conv H W C 1 (512 * n + r) j := by
  pointwise [k0_pay14, k0_pay11]
  unfold conv
  simp only [rows_at, h2, h1, h0]
  refine congrArg₂ (fun p q : EReal => p + q) (congrArg₂ (fun p q : EReal => p + q) ?_ ?_) ?_
  all_goals refine congrArg (fun q : EReal => _ * q) ((hP _ _).trans (congrArg (fun t => pre H W 1 t j) ?_))
  all_goals show 512 * n + (_ + r.val) = _; omega

/-- The stored gate half of the up projection. -/
theorem store0_apply (P : Vec Ideal S1x528x704 .f32) (hP : ∀ s j, P (ix3 0 s j) = pre H W 0 (512 * n + s) j)
    (a b : Fin 1) (r : Fin 512) (j : Fin 704) :
    k0_pay6 (rows P 16 (by omega)) (ix4 a b r j) = pre H W 0 (512 * n + r + 16) j := by
  pointwise [k0_pay6, k0_pay5]
  rw [rows_at]
  exact (hP _ _).trans (congrArg (fun t => pre H W 0 t j) (show 512 * n + (16 + r.val) = 512 * n + r.val + 16 by omega))

/-- The stored value half of the up projection. -/
theorem store1_apply (P : Vec Ideal S1x528x704 .f32) (hP : ∀ s j, P (ix3 0 s j) = pre H W 1 (512 * n + s) j)
    (a b : Fin 1) (r : Fin 512) (j : Fin 704) :
    k0_pay13 (k0_pay12 (rows P 16 (by omega))) (ix4 a b r j) = pre H W 1 (512 * n + r + 16) j := by
  pointwise [k0_pay13, k0_pay12, k0_pay11]
  rw [rows_at]
  exact (hP _ _).trans (congrArg (fun t => pre H W 1 t j) (show 512 * n + (16 + r.val) = 512 * n + r.val + 16 by omega))

/-- The stored gate half after the convolution. -/
theorem stored0_apply (V : FVec Ideal S512x704 .f32) (c1 : Vec Ideal S1x1x1x704 .f32) (V1 : Vec Ideal S1x512x704 .f32)
    (c0 : Vec Ideal S1x1x1x704 .f32) (V0 : Vec Ideal S1x512x704 .f32)
    (hV : ∀ r j, k0_pay8 V c1 V1 c0 V0 (ix2 r j) = conv H W C 0 (512 * n + r) j)
    (a b : Fin 1) (r : Fin 512) (j : Fin 704) :
    k0_pay9 V c1 V1 c0 V0 (ix4 a b r j) = conv H W C 0 (512 * n + r) j := by
  rw [← hV r j]
  generalize hVe : k0_pay8 V c1 V1 c0 V0 = B
  pointwise [k0_pay9, hVe]

/-- The stored value half after the convolution. -/
theorem stored1_apply (V : FVec Ideal S512x704 .f32) (c2 c1 c0 : Vec Ideal S1x1x1x704 .f32)
    (V1 V0 : Vec Ideal S1x512x704 .f32)
    (hV : ∀ r j, k0_pay14 V c2 c1 V1 c0 V0 (ix2 r j) = conv H W C 1 (512 * n + r) j)
    (a b : Fin 1) (r : Fin 512) (j : Fin 704) :
    k0_pay15 V c2 c1 V1 c0 V0 (ix4 a b r j) = conv H W C 1 (512 * n + r) j := by
  rw [← hV r j]
  generalize hVe : k0_pay14 V c2 c1 V1 c0 V0 = B
  pointwise [k0_pay15, hVe]

/-- The group's share added to what the output's block held. -/
theorem add_apply (h : Blocks H W C Wd n x0 x1 x2 x3 x4) (xo : Vec Ideal S512x1024 .f32) (A : FVec Ideal S512x704 .f32)
    (V : FVec Ideal S512x704 .f32) (c2 c1 c0 : Vec Ideal S1x1x1x704 .f32) (V1 V0 : Vec Ideal S1x512x704 .f32)
    (hA : ∀ r j, A (ix2 r j) = conv H W C 0 (512 * n + r) j)
    (hV : ∀ r j, k0_pay14 V c2 c1 V1 c0 V0 (ix2 r j) = conv H W C 1 (512 * n + r) j) (r : Fin 512) (q : Fin 1024) :
    k0_pay1 (k0_pay16 xo) (k0_pay17 A V c2 c1 V1 c0 V0) x4 (constant S512x1024 .f32 0x00000000#32) (ix2 r q)
      = xo (ix2 r q) + share H W C Wd (512 * n + r) q := by
  generalize hVe : k0_pay14 V c2 c1 V1 c0 V0 = B at hV
  pointwise [k0_pay1, k0_pay16, k0_pay17, hVe]
  unfold share act
  refine congrArg (fun p : EReal => _ + p) (Finset.sum_congr rfl fun j _ => ?_)
  rw [hA, hV, h.h4]

/-- The layer norm's row scale and the gain, applied to the finished block. -/
theorem norm_apply (X : Vec Ideal S512x1024 .f32) (g : Vec Ideal S1x1024 .f32) (r : Fin 512) (q : Fin 1024) :
    k0_pay2 X g (ix2 r q) = normed (fun q => X (ix2 r q)) (fun q => g (ix2 0 q)) q := by
  pointwise [k0_pay2]
  rfl

end

section

open Cert.Kernel9Ideal Cert.Kernel9Ideal.Gen Cert.Mat Cert.Ffn Idealize.ShloMosaic Idealize.ShloMosaic.TcCoe
  Idealize.SL.Sem

variable {H : ℕ → Fin 1024 → EReal} {W : Fin 2 → Fin 1024 → Fin 704 → EReal}
  {C : Fin 2 → Fin 3 → Fin 704 → EReal} {Wd : Fin 704 → Fin 1024 → EReal} {n : ℕ} {i : grid0.Coords}
  {x0 : Vec Ideal S512x1024 .bf16} {x1 : Vec Ideal S16x1024 .bf16} {x2 : Vec Ideal S2x1x1024x704 .bf16}
  {x3 : Vec Ideal S2x1x3x704 .f32} {x4 : Vec Ideal S704x1024 .bf16} {x5 : Vec Ideal S512x1024 .f32}
  {x6 : Vec Ideal S1x1024 .f32}
variable (c : Dev nD)
  (a2 : Memref sig .tc .vmem S512x1024 .bf16) (b2 : a2.IsWhole)
  (a3 : Memref sig .tc .vmem S16x1024 .bf16) (b3 : a3.IsWhole)
  (a4 : Memref sig .tc .vmem S2x1x1024x704 .bf16) (b4 : a4.IsWhole)
  (a5 : Memref sig .tc .vmem S2x1x3x704 .f32) (b5 : a5.IsWhole)
  (a6 : Memref sig .tc .vmem S704x1024 .bf16) (b6 : a6.IsWhole)
  (a7 : Memref sig .tc .vmem S512x1024 .f32) (b7 : a7.IsWhole)
  (a8 : Memref sig .tc .vmem S1x1024 .f32) (b8 : a8.IsWhole)
  (a9 : Memref sig .tc .vmem S1x2x512x704 .bf16) (b9 : a9.IsWhole)
  (a10 : Memref sig .tc .vmem S1x2x512x704 .bf16) (b10 : a10.IsWhole)
  (a11 : Memref sig .tc .vmem S512x1024 .f32) (b11 : a11.IsWhole)
  (a12 : Memref sig .tc .vmem S512x1024 .bf16) (b12 : a12.IsWhole)
  (a13 : Memref sig .tc .vmem S2x528x704 .f32) (b13 : a13.IsWhole)

/-- The up projection's block, in each of the body's cases. -/
theorem out_7 (hi : (i 0).val = n) (h : Blocks H W C Wd n x0 x1 x2 x3 x4) (y : S1x2x512x704.Idx) :
    (∀ (hc0 : cond0_0 i) (hc1 : ¬cond0_1 i), out0_A_7 c i a2 b2 a3 b3 a4 b4 a5 b5 a6 b6 a7 b7 a8 b8 a9 b9 a10 b10
      a11 b11 a12 b12 a13 b13
      hc0 hc1 x0 x1 x2 x3 x4 x5 x6 y = pre H W (y 1) (512 * n + (y 2).val + 16) (y 3))
    ∧ (∀ (hc0 : ¬cond0_0 i) (hc1 : ¬cond0_1 i) (xo9 : Vec Ideal S512x1024 .f32), out0_B_7 c i a2 b2 a3 b3 a4 b4 a5 b5 a6 b6 a7 b7 a8 b8 a9 b9 a10 b10
      a11 b11 a12 b12 a13 b13
      hc0 hc1 x0 x1 x2 x3 x4 x5 x6 xo9 y = pre H W (y 1) (512 * n + (y 2).val + 16) (y 3))
    ∧ (∀ (hc0 : ¬cond0_0 i) (hc1 : cond0_1 i) (xo9 : Vec Ideal S512x1024 .f32), out0_C_7 c i a2 b2 a3 b3 a4 b4 a5 b5 a6 b6 a7 b7 a8 b8 a9 b9 a10 b10
      a11 b11 a12 b12 a13 b13
      hc0 hc1 x0 x1 x2 x3 x4 x5 x6 xo9 y = pre H W (y 1) (512 * n + (y 2).val + 16) (y 3)) := by
  refine ⟨fun _ _ => ?_, fun _ _ _ => ?_, fun _ _ _ => ?_⟩
  all_goals first
    | (unfold out0_A_7; rw [View.read_writes_eq_canon _ _ _ (by exact fun _ => cover0_A_7 ..)]; unfold kernelRun0_A)
    | (unfold out0_B_7; rw [View.read_writes_eq_canon _ _ _ (by exact fun _ => cover0_B_7 ..)]; unfold kernelRun0_B)
    | (unfold out0_C_7; rw [View.read_writes_eq_canon _ _ _ (by exact fun _ => cover0_C_7 ..)]; unfold kernelRun0_C)
  all_goals dsimp only
  all_goals sl_unfold_words
  all_goals simp only [View.readAt_eq_ld, Memref.IsWhole.read_unread,
    View.ld_unit_zero (S := S512x1024) Mat.hz2, View.ld_unit_zero (S := S16x1024) Mat.hz2, View.ld_unit_zero (S := S1x1024) Mat.hz2,
    View.ld_unit_zero (S := S704x1024) Mat.hz2, shapeCast_self, scratch_read _ 0 16 (by omega),
    scratch_read _ 0 15 (by omega), scratch_read _ 0 14 (by omega), scratch_read _ 1 16 (by omega),
    scratch_read _ 1 15 (by omega), scratch_read _ 1 14 (by omega)]
  all_goals canon_tiles x e using (View.cover_of_tiled_head _ _ _ (by rfl) y)
  all_goals obtain ⟨a, b, r, j, rfl⟩ := Mat.ix4_of x
  all_goals have f2 : (y 2).val = r.val := e2
  all_goals have f3 : y 3 = j := Fin.ext e3
  all_goals first
    | have f1 : y 1 = (1 : Fin 2) := Fin.ext (show (y 1).val = 1 from Eq.trans e1 (show 1 + b.val = 1 by omega))
    | have f1 : y 1 = (0 : Fin 2) := Fin.ext (show (y 1).val = 0 from Eq.trans e1 (show b.val = 0 by omega))
  all_goals rw [f1, f2, f3]
  all_goals first
    | refine store1_apply _ (value_apply hi h _ ?_) _ _ _ _
    | refine store0_apply _ (gate_apply hi h _ ?_) _ _ _ _
  all_goals (intros; pointwise []; first | exact h.h2 _ _ _ | exact h.h3 _ _ _)

/-- The convolution's block. -/
theorem out_8 (hi : (i 0).val = n) (h : Blocks H W C Wd n x0 x1 x2 x3 x4) (y : S1x2x512x704.Idx) :
    (∀ (hc0 : cond0_0 i) (hc1 : ¬cond0_1 i), out0_A_8 c i a2 b2 a3 b3 a4 b4 a5 b5 a6 b6 a7 b7 a8 b8 a9 b9 a10 b10
      a11 b11 a12 b12 a13 b13
      hc0 hc1 x0 x1 x2 x3 x4 x5 x6 y = conv H W C (y 1) (512 * n + (y 2).val) (y 3))
    ∧ (∀ (hc0 : ¬cond0_0 i) (hc1 : ¬cond0_1 i) (xo9 : Vec Ideal S512x1024 .f32), out0_B_8 c i a2 b2 a3 b3 a4 b4 a5 b5 a6 b6 a7 b7 a8 b8 a9 b9 a10 b10
      a11 b11 a12 b12 a13 b13
      hc0 hc1 x0 x1 x2 x3 x4 x5 x6 xo9 y = conv H W C (y 1) (512 * n + (y 2).val) (y 3))
    ∧ (∀ (hc0 : ¬cond0_0 i) (hc1 : cond0_1 i) (xo9 : Vec Ideal S512x1024 .f32), out0_C_8 c i a2 b2 a3 b3 a4 b4 a5 b5 a6 b6 a7 b7 a8 b8 a9 b9 a10 b10
      a11 b11 a12 b12 a13 b13
      hc0 hc1 x0 x1 x2 x3 x4 x5 x6 xo9 y = conv H W C (y 1) (512 * n + (y 2).val) (y 3)) := by
  refine ⟨fun _ _ => ?_, fun _ _ _ => ?_, fun _ _ _ => ?_⟩
  all_goals first
    | (unfold out0_A_8; rw [View.read_writes_eq_canon _ _ _ (by exact fun _ => cover0_A_8 ..)]; unfold kernelRun0_A)
    | (unfold out0_B_8; rw [View.read_writes_eq_canon _ _ _ (by exact fun _ => cover0_B_8 ..)]; unfold kernelRun0_B)
    | (unfold out0_C_8; rw [View.read_writes_eq_canon _ _ _ (by exact fun _ => cover0_C_8 ..)]; unfold kernelRun0_C)
  all_goals dsimp only
  all_goals sl_unfold_words
  all_goals simp only [View.readAt_eq_ld, Memref.IsWhole.read_unread,
    View.ld_unit_zero (S := S512x1024) Mat.hz2, View.ld_unit_zero (S := S16x1024) Mat.hz2, View.ld_unit_zero (S := S1x1024) Mat.hz2,
    View.ld_unit_zero (S := S704x1024) Mat.hz2, shapeCast_self, scratch_read _ 0 16 (by omega),
    scratch_read _ 0 15 (by omega), scratch_read _ 0 14 (by omega), scratch_read _ 1 16 (by omega),
    scratch_read _ 1 15 (by omega), scratch_read _ 1 14 (by omega)]
  all_goals canon_tiles x e using (View.cover_of_tiled_head _ _ _ (by rfl) y)
  all_goals obtain ⟨a, b, r, j, rfl⟩ := Mat.ix4_of x
  all_goals have f2 : (y 2).val = r.val := e2
  all_goals have f3 : y 3 = j := Fin.ext e3
  all_goals first
    | have f1 : y 1 = (1 : Fin 2) := Fin.ext (show (y 1).val = 1 from Eq.trans e1 (show 1 + b.val = 1 by omega))
    | have f1 : y 1 = (0 : Fin 2) := Fin.ext (show (y 1).val = 0 from Eq.trans e1 (show b.val = 0 by omega))
  all_goals rw [f1, f2, f3]
  all_goals first
    | refine stored1_apply _ _ _ _ _ _ ?_ _ _ _ _
    | refine stored0_apply _ _ _ _ _ ?_ _ _ _ _
  all_goals first
    | refine conv0_apply _ (gate_apply hi h _ ?_) _ _ _ ?_ ?_ ?_
    | refine conv1_apply _ (value_apply hi h _ ?_) _ _ _ ?_ ?_ ?_
  all_goals (intros; pointwise []; first | exact h.h2 _ _ _ | exact h.h3 _ _ _)

/-- The output's block. -/
theorem out_9 (hi : (i 0).val = n) (h : Blocks H W C Wd n x0 x1 x2 x3 x4) (y : S512x1024.Idx) :
    (∀ (hc0 : cond0_0 i) (hc1 : ¬cond0_1 i), out0_A_9 c i a2 b2 a3 b3 a4 b4 a5 b5 a6 b6 a7 b7 a8 b8 a9 b9 a10 b10
      a11 b11 a12 b12 a13 b13
      hc0 hc1 x0 x1 x2 x3 x4 x5 x6 y = x5 y + share H W C Wd (512 * n + (y 0).val) (y 1))
    ∧ (∀ (hc0 : ¬cond0_0 i) (hc1 : ¬cond0_1 i) (xo9 : Vec Ideal S512x1024 .f32), out0_B_9 c i a2 b2 a3 b3 a4 b4 a5 b5 a6 b6 a7 b7 a8 b8 a9 b9 a10 b10
      a11 b11 a12 b12 a13 b13
      hc0 hc1 x0 x1 x2 x3 x4 x5 x6 xo9 y = xo9 y + share H W C Wd (512 * n + (y 0).val) (y 1))
    ∧ (∀ (hc0 : ¬cond0_0 i) (hc1 : cond0_1 i) (xo9 : Vec Ideal S512x1024 .f32), out0_C_9 c i a2 b2 a3 b3 a4 b4 a5 b5 a6 b6 a7 b7 a8 b8 a9 b9 a10 b10
      a11 b11 a12 b12 a13 b13
      hc0 hc1 x0 x1 x2 x3 x4 x5 x6 xo9 y = xo9 y + share H W C Wd (512 * n + (y 0).val) (y 1)) := by
  refine ⟨fun _ _ => ?_, fun _ _ _ => ?_, fun _ _ _ => ?_⟩
  all_goals first
    | (unfold out0_A_9; rw [View.read_writes_eq_canon _ _ _ (by exact fun _ => cover0_A_9 ..)]; unfold kernelRun0_A)
    | (unfold out0_B_9; rw [View.read_writes_eq_canon _ _ _ (by exact fun _ => cover0_B_9 ..)]; unfold kernelRun0_B)
    | (unfold out0_C_9; rw [View.read_writes_eq_canon _ _ _ (by exact fun _ => cover0_C_9 ..)]; unfold kernelRun0_C)
  all_goals dsimp only
  all_goals sl_unfold_words
  all_goals simp only [View.readAt_eq_ld, Memref.IsWhole.read_unread,
    View.ld_unit_zero (S := S512x1024) Mat.hz2, View.ld_unit_zero (S := S16x1024) Mat.hz2, View.ld_unit_zero (S := S1x1024) Mat.hz2,
    View.ld_unit_zero (S := S704x1024) Mat.hz2, shapeCast_self, scratch_read _ 0 16 (by omega),
    scratch_read _ 0 15 (by omega), scratch_read _ 0 14 (by omega), scratch_read _ 1 16 (by omega),
    scratch_read _ 1 15 (by omega), scratch_read _ 1 14 (by omega)]
  all_goals simp only [View.canon_unit_zero (S := S512x1024) Mat.hz2, View.canon_cons_unit_zero (S := S512x1024) Mat.hz2,
    View.readCov_unit_zero (S := S512x1024) _ Mat.hz2]
  all_goals obtain ⟨r, q, rfl⟩ := Mat.ix2_of y
  all_goals refine add_apply h _ _ _ _ _ _ _ _ ?_ ?_ r q
  all_goals first
    | refine conv0_apply _ (gate_apply hi h _ ?_) _ _ _ ?_ ?_ ?_
    | refine conv1_apply _ (value_apply hi h _ ?_) _ _ _ ?_ ?_ ?_
  all_goals (intros; pointwise []; first | exact h.h2 _ _ _ | exact h.h3 _ _ _)

/-- The normed output's block. -/
theorem out_C_10 (hc0 : ¬cond0_0 i) (hc1 : cond0_1 i) (hi : (i 0).val = n)
    (h : Blocks H W C Wd n x0 x1 x2 x3 x4) (xo9 : Vec Ideal S512x1024 .f32) (y : S512x1024.Idx) :
    out0_C_10 c i a2 b2 a3 b3 a4 b4 a5 b5 a6 b6 a7 b7 a8 b8 a9 b9 a10 b10
    a11 b11 a12 b12 a13 b13 hc0 hc1 x0 x1 x2 x3 x4 x5 x6 xo9 y
      = normed (fun q => xo9 (ix2 (y 0) q) + share H W C Wd (512 * n + (y 0).val) q) (fun q => x6 (ix2 0 q)) (y 1) := by
  unfold out0_C_10
  rw [View.read_writes_eq_canon _ _ _
    (by exact fun _ => cover0_C_10 ..)]
  unfold kernelRun0_C
  dsimp only
  sl_unfold_words
  simp only [View.readAt_eq_ld, Memref.IsWhole.read_unread,
    View.ld_unit_zero (S := S512x1024) Mat.hz2, View.ld_unit_zero (S := S16x1024) Mat.hz2, View.ld_unit_zero (S := S1x1024) Mat.hz2,
    View.ld_unit_zero (S := S704x1024) Mat.hz2, shapeCast_self, scratch_read _ 0 16 (by omega),
    scratch_read _ 0 15 (by omega), scratch_read _ 0 14 (by omega), scratch_read _ 1 16 (by omega),
    scratch_read _ 1 15 (by omega), scratch_read _ 1 14 (by omega)]
  simp only [View.canon_unit_zero (S := S512x1024) Mat.hz2, View.canon_cons_unit_zero (S := S512x1024) Mat.hz2,
    View.readCov_unit_zero (S := S512x1024) _ Mat.hz2]
  obtain ⟨r, q, rfl⟩ := Mat.ix2_of y
  refine (norm_apply _ _ r q).trans (congrArg (fun X => normed X (fun q => x6 (ix2 0 q)) q) (funext fun q => ?_))
  refine add_apply h _ _ _ _ _ _ _ _ ?_ ?_ r q
  all_goals first
    | refine conv0_apply _ (gate_apply hi h _ ?_) _ _ _ ?_ ?_ ?_
    | refine conv1_apply _ (value_apply hi h _ ?_) _ _ _ ?_ ?_ ?_
  all_goals (intros; pointwise []; first | exact h.h2 _ _ _ | exact h.h3 _ _ _)

end

section

open Cert.Kernel9Ideal Cert.Kernel9Ideal.Gen Cert.Mat Cert.Ffn Idealize.ShloMosaic Idealize.ShloMosaic.TcCoe
  Idealize.SL.Sem

variable (m : (ℓ : Loc nD τ sig) → Buf (Elt Ideal) ℓ) (c : Dev nD)

/-- The layer's normed input, as launched. -/
def mH : Vec Ideal S4096x1024 .bf16 := m ((c : Thread nD τ).loc main_arg0)
/-- The residual stream. -/
def mX : Vec Ideal S4096x1024 .f32 := m ((c : Thread nD τ).loc main_arg1)
/-- The up projection, half by half and group by group. -/
def mW : Vec Ideal S2x4x1024x704 .bf16 := m ((c : Thread nD τ).loc main_arg2)
/-- The taps. -/
def mC : Vec Ideal S2x4x3x704 .f32 := m ((c : Thread nD τ).loc main_arg3)
/-- The down projection. -/
def mD : Vec Ideal S2816x1024 .bf16 := m ((c : Thread nD τ).loc main_arg4)
/-- The next norm's gain. -/
def mG : Vec Ideal S1x1024 .f32 := m ((c : Thread nD τ).loc main_arg5)

theorem coords_at : ∀ t : Fin grid0.N, (grid0.coords t 0).val = t.val / 4 ∧ (grid0.coords t 1).val = t.val % 4 := by
  decide +kernel
theorem index_0 : ∀ t : Fin grid0.N, win0_0.index t 0 = t.val / 4 ∧ win0_0.index t 1 = 0 := by decide +kernel
theorem index_1 : ∀ t : Fin grid0.N, (0 < t.val / 4 → win0_1.index t 0 = 32 * (t.val / 4) - 1) ∧ win0_1.index t 1 = 0 := by
  decide +kernel
theorem index_2 : ∀ t : Fin grid0.N, win0_2.index t 0 = 0 ∧ win0_2.index t 1 = t.val % 4 ∧ win0_2.index t 2 = 0
    ∧ win0_2.index t 3 = 0 := by decide +kernel
theorem index_3 : ∀ t : Fin grid0.N, win0_3.index t 0 = 0 ∧ win0_3.index t 1 = t.val % 4 ∧ win0_3.index t 2 = 0
    ∧ win0_3.index t 3 = 0 := by decide +kernel
theorem index_4 : ∀ t : Fin grid0.N, win0_4.index t 0 = t.val % 4 ∧ win0_4.index t 1 = 0 := by decide +kernel
theorem index_5 : ∀ t : Fin grid0.N, win0_5.index t 0 = t.val / 4 ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = t.val % 4 ∧ win0_7.index t 1 = 0 ∧ win0_7.index t 2 = t.val / 4
    ∧ win0_7.index t 3 = 0 := by decide +kernel
theorem index_8 : ∀ t : Fin grid0.N, win0_8.index t 0 = t.val % 4 ∧ win0_8.index t 1 = 0 ∧ win0_8.index t 2 = t.val / 4
    ∧ win0_8.index t 3 = 0 := by decide +kernel
theorem index_9 : ∀ t : Fin grid0.N, win0_9.index t 0 = t.val / 4 ∧ win0_9.index t 1 = 0 := by decide +kernel
theorem index_10 : ∀ t : Fin grid0.N, win0_10.index t 0 = t.val / 4 ∧ win0_10.index t 1 = 0 := by decide +kernel

/-- A row of the input, as a row of the padded one. -/
theorem padded_of (h : (⟨2, ![4096, 1024]⟩ : Shape).Idx → EReal) (i : (⟨2, ![4096, 1024]⟩ : Shape).Idx) (s : ℕ)
    (k : Fin 1024) (h0 : (i 0).val + 16 = s) (h1 : (i 1).val = k.val) : h i = padded h s k := by
  unfold padded
  rw [if_pos (by omega)]
  exact at2_of h i _ _ (by omega) h1

/-- The blocks the body reads at point `t` hold the arguments' parts. -/
theorem blocks (t : Fin cfg0.N) : Blocks (padded (mH m c)) (upw (mW m c) (grp t.val)) (taps (mC m c) (grp t.val))
    (downw (mD m c) (grp t.val)) (t.val / 4) (iblk m c 0 t) (iblk m c 1 t) (iblk m c 2 t) (iblk m c 3 t)
    (iblk m c 4 t) := by
  have hN : t.val < 32 := lt_of_lt_of_eq t.isLt N_0
  constructor
  case hn => omega
  case hH => intro s k hs; unfold padded; exact if_neg (by omega)
  case h0 =>
    intro r k
    obtain ⟨e0, e1⟩ := index_0 t
    refine padded_of (mH m c) _ _ _ ?_ ?_
    · show win0_0.index t 0 * 512 + 1 * r.val + 16 = _; rw [e0]; omega
    · show win0_0.index t 1 * 1024 + 1 * k.val = _; rw [e1]; omega
  case h1 =>
    intro r k hp
    obtain ⟨e0, e1⟩ := index_1 t
    refine padded_of (mH m c) _ _ _ ?_ ?_
    · show win0_1.index t 0 * 16 + 1 * r.val + 16 = _; rw [e0 hp]; omega
    · show win0_1.index t 1 * 1024 + 1 * k.val = _; rw [e1]; omega
  case h2 =>
    intro gv k j
    obtain ⟨e0, e1, e2, e3⟩ := index_2 t
    refine congrArg (mW m c) (funext fun a => Fin.ext ?_)
    match a with
    | ⟨0, _⟩ => show win0_2.index t 0 * 2 + 1 * gv.val = gv.val; omega
    | ⟨1, _⟩ => show win0_2.index t 1 * 1 + 1 * 0 = t.val % 4; omega
    | ⟨2, _⟩ => show win0_2.index t 2 * 1024 + 1 * k.val = k.val; omega
    | ⟨3, _⟩ => show win0_2.index t 3 * 704 + 1 * j.val = j.val; omega
  case h3 =>
    intro gv k j
    obtain ⟨e0, e1, e2, e3⟩ := index_3 t
    refine congrArg (mC m c) (funext fun a => Fin.ext ?_)
    match a with
    | ⟨0, _⟩ => show win0_3.index t 0 * 2 + 1 * gv.val = gv.val; omega
    | ⟨1, _⟩ => show win0_3.index t 1 * 1 + 1 * 0 = t.val % 4; omega
    | ⟨2, _⟩ => show win0_3.index t 2 * 3 + 1 * k.val = k.val; omega
    | ⟨3, _⟩ => show win0_3.index t 3 * 704 + 1 * j.val = j.val; omega
  case h4 =>
    intro j q
    obtain ⟨e0, e1⟩ := index_4 t
    refine congrArg (mD m c) (funext fun a => Fin.ext ?_)
    match a with
    | ⟨0, _⟩ => show win0_4.index t 0 * 704 + 1 * j.val = 704 * (t.val % 4) + j.val; omega
    | ⟨1, _⟩ => show win0_4.index t 1 * 1024 + 1 * q.val = q.val; omega

/-- The residual's block at point `t`. -/
theorem block5 (t : Fin cfg0.N) (y : S512x1024.Idx) :
    iblk m c 5 t y = at2 (R := 4096) (C := 1024) (mX m c) (512 * (t.val / 4) + (y 0).val) (y 1).val := by
  obtain ⟨e0, e1⟩ := index_5 t
  refine at2_of (R := 4096) (C := 1024) (mX m c) _ _ _ ?_ ?_
  · show win0_5.index t 0 * 512 + 1 * (y 0).val = _; omega
  · show win0_5.index t 1 * 1024 + 1 * (y 1).val = _; omega

/-- The gain's block. -/
theorem block6 (t : Fin cfg0.N) (q : Fin 1024) : iblk m c 6 t (ix2 0 q) = mG m c (ix2 0 q) := by
  obtain ⟨e0, e1⟩ := index_6 t
  refine congrArg (mG m c) (funext fun a => Fin.ext ?_)
  match a with
  | ⟨0, _⟩ => show win0_6.index t 0 * 1 + 1 * 0 = 0; omega
  | ⟨1, _⟩ => show win0_6.index t 1 * 1024 + 1 * q.val = q.val; omega

/-- The up projection, as contents of its array. -/
def gUp : Vec Ideal S4x2x4096x704 .bf16 := fun i =>
  pre (padded (mH m c)) (upw (mW m c) (i 0)) (i 1) ((i 2).val + 16) (i 3)

/-- What a point leaves for it, at an index. -/
theorem outs_7 (t : Fin cfg0.N) (y : S1x2x512x704.Idx) : (outsAt0 m c t.val t.isLt).1 y
    = pre (padded (mH m c)) (upw (mW m c) (grp t.val)) (y 1) (512 * (t.val / 4) + (y 2).val + 16) (y 3) := by
  have hi : (grid0.coords t 0).val = t.val / 4 := (coords_at t).1
  by_cases h0 : t.val % 4 = 0
  · rw [outsAt0_A m c t h0 (by omega)]; dsimp only
    exact (out_7 (hi := hi) (h := blocks m c t) ..).1 _ _
  · by_cases h1 : t.val % 4 = 3
    · rw [outsAt0_C m c t h0 h1]; dsimp only
      exact (out_7 (hi := hi) (h := blocks m c t) ..).2.2 _ _ _
    · rw [outsAt0_B m c t h0 h1]; dsimp only
      exact (out_7 (hi := hi) (h := blocks m c t) ..).2.1 _ _ _

/-- Every point writes back its block of it. -/
theorem flushed_7 (t : Fin cfg0.N) (_ : (cfg0.win 7).flush t = true) :
    (dats m 0 c).flushed 7 t = ((cfg0.win 7).blk t).view.read (Elt Ideal) (gUp m c) := by
  rw [Value.flushed7]
  funext y
  refine (outs_7 m c t y).trans ?_
  obtain ⟨e0, e1, e2, e3⟩ := index_7 t
  have y0 : (y 0).val < 1 := (y 0).isLt
  have key : ∀ i : S4x2x4096x704.Idx, (i 0).val = t.val % 4 → (i 1).val = (y 1).val →
      (i 2).val = 512 * (t.val / 4) + (y 2).val → (i 3).val = (y 3).val →
      pre (padded (mH m c)) (upw (mW m c) (grp t.val)) (y 1) (512 * (t.val / 4) + (y 2).val + 16) (y 3)
        = gUp m c i := by
    intro i h0 h1 h2 h3
    unfold gUp
    rw [show i 0 = grp t.val from Fin.ext h0, show i 1 = y 1 from Fin.ext h1, show i 3 = y 3 from Fin.ext h3, h2]
  refine key _ ?_ ?_ ?_ ?_
  · show win0_7.index t 0 * 1 + 1 * (y 0).val = _; omega
  · show win0_7.index t 1 * 2 + 1 * (y 1).val = _; omega
  · show win0_7.index t 2 * 512 + 1 * (y 2).val = _; omega
  · show win0_7.index t 3 * 704 + 1 * (y 3).val = _; omega

/-- So the array ends holding it. -/
theorem final_7 : (dats m 0 c).arrAt 7 cfg0.N = gUp m c :=
  (dats m 0 c).arrAt_eq_of_cover 7 (gUp m c) (flushed_7 m c) fun i => by
    have h0 : (i 0 : Nat) < 4 := (i 0).isLt
    have h1 : (i 1 : Nat) < 2 := (i 1).isLt
    have h2 : (i 2 : Nat) < 4096 := (i 2).isLt
    have h3 : (i 3 : Nat) < 704 := (i 3).isLt
    have hp : 4 * ((i 2 : Nat) / 512) + (i 0 : Nat) < 32 := by omega
    have hN : 4 * ((i 2 : Nat) / 512) + (i 0 : Nat) < cfg0.N := lt_of_lt_of_eq hp N_0.symm
    refine ⟨⟨4 * ((i 2 : Nat) / 512) + (i 0 : Nat), hN⟩, flush0_7 _, ?_⟩
    obtain ⟨e0, e1, e2, e3⟩ := index_7 ⟨4 * ((i 2 : Nat) / 512) + (i 0 : Nat), hN⟩
    show i ∈ ((View.whole main_v0_0).slice (win0_7.rect ⟨4 * ((i 2 : Nat) / 512) + (i 0 : Nat), hN⟩)).set
    rw [View.set_slice_whole, Rect.mem_set_unit]
    dsimp only at e0 e2
    generalize (⟨4 * ((i 2 : Nat) / 512) + (i 0 : Nat), hN⟩ : Fin grid0.N) = t at e0 e1 e2 e3 ⊢
    intro a
    match a with
    | ⟨0, _⟩ => show Mat.In (win0_7.index t 0) 1 (i 0); omega
    | ⟨1, _⟩ => show Mat.In (win0_7.index t 1) 2 (i 1); omega
    | ⟨2, _⟩ => show Mat.In (win0_7.index t 2) 512 (i 2); omega
    | ⟨3, _⟩ => show Mat.In (win0_7.index t 3) 704 (i 3); omega

/-- The convolved up projection, as contents of its array. -/
def gConv : Vec Ideal S4x2x4096x704 .bf16 := fun i =>
  conv (padded (mH m c)) (upw (mW m c) (i 0)) (taps (mC m c) (i 0)) (i 1) ((i 2).val) (i 3)

/-- What a point leaves for it, at an index. -/
theorem outs_8 (t : Fin cfg0.N) (y : S1x2x512x704.Idx) : (outsAt0 m c t.val t.isLt).2.1 y
    = conv (padded (mH m c)) (upw (mW m c) (grp t.val)) (taps (mC m c) (grp t.val)) (y 1) (512 * (t.val / 4) + (y 2).val) (y 3) := by
  have hi : (grid0.coords t 0).val = t.val / 4 := (coords_at t).1
  by_cases h0 : t.val % 4 = 0
  · rw [outsAt0_A m c t h0 (by omega)]; dsimp only
    exact (out_8 (hi := hi) (h := blocks m c t) ..).1 _ _
  · by_cases h1 : t.val % 4 = 3
    · rw [outsAt0_C m c t h0 h1]; dsimp only
      exact (out_8 (hi := hi) (h := blocks m c t) ..).2.2 _ _ _
    · rw [outsAt0_B m c t h0 h1]; dsimp only
      exact (out_8 (hi := hi) (h := blocks m c t) ..).2.1 _ _ _

/-- Every point writes back its block of it. -/
theorem flushed_8 (t : Fin cfg0.N) (_ : (cfg0.win 8).flush t = true) :
    (dats m 0 c).flushed 8 t = ((cfg0.win 8).blk t).view.read (Elt Ideal) (gConv m c) := by
  rw [Value.flushed8]
  funext y
  refine (outs_8 m c t y).trans ?_
  obtain ⟨e0, e1, e2, e3⟩ := index_8 t
  have y0 : (y 0).val < 1 := (y 0).isLt
  have key : ∀ i : S4x2x4096x704.Idx, (i 0).val = t.val % 4 → (i 1).val = (y 1).val →
      (i 2).val = 512 * (t.val / 4) + (y 2).val → (i 3).val = (y 3).val →
      conv (padded (mH m c)) (upw (mW m c) (grp t.val)) (taps (mC m c) (grp t.val)) (y 1) (512 * (t.val / 4) + (y 2).val) (y 3)
        = gConv m c i := by
    intro i h0 h1 h2 h3
    unfold gConv
    rw [show i 0 = grp t.val from Fin.ext h0, show i 1 = y 1 from Fin.ext h1, show i 3 = y 3 from Fin.ext h3, h2]
  refine key _ ?_ ?_ ?_ ?_
  · show win0_8.index t 0 * 1 + 1 * (y 0).val = _; omega
  · show win0_8.index t 1 * 2 + 1 * (y 1).val = _; omega
  · show win0_8.index t 2 * 512 + 1 * (y 2).val = _; omega
  · show win0_8.index t 3 * 704 + 1 * (y 3).val = _; omega

/-- So the array ends holding it. -/
theorem final_8 : (dats m 0 c).arrAt 8 cfg0.N = gConv m c :=
  (dats m 0 c).arrAt_eq_of_cover 8 (gConv m c) (flushed_8 m c) fun i => by
    have h0 : (i 0 : Nat) < 4 := (i 0).isLt
    have h1 : (i 1 : Nat) < 2 := (i 1).isLt
    have h2 : (i 2 : Nat) < 4096 := (i 2).isLt
    have h3 : (i 3 : Nat) < 704 := (i 3).isLt
    have hp : 4 * ((i 2 : Nat) / 512) + (i 0 : Nat) < 32 := by omega
    have hN : 4 * ((i 2 : Nat) / 512) + (i 0 : Nat) < cfg0.N := lt_of_lt_of_eq hp N_0.symm
    refine ⟨⟨4 * ((i 2 : Nat) / 512) + (i 0 : Nat), hN⟩, flush0_8 _, ?_⟩
    obtain ⟨e0, e1, e2, e3⟩ := index_8 ⟨4 * ((i 2 : Nat) / 512) + (i 0 : Nat), hN⟩
    show i ∈ ((View.whole main_v0_1).slice (win0_8.rect ⟨4 * ((i 2 : Nat) / 512) + (i 0 : Nat), hN⟩)).set
    rw [View.set_slice_whole, Rect.mem_set_unit]
    dsimp only at e0 e2
    generalize (⟨4 * ((i 2 : Nat) / 512) + (i 0 : Nat), hN⟩ : Fin grid0.N) = t at e0 e1 e2 e3 ⊢
    intro a
    match a with
    | ⟨0, _⟩ => show Mat.In (win0_8.index t 0) 1 (i 0); omega
    | ⟨1, _⟩ => show Mat.In (win0_8.index t 1) 2 (i 1); omega
    | ⟨2, _⟩ => show Mat.In (win0_8.index t 2) 512 (i 2); omega
    | ⟨3, _⟩ => show Mat.In (win0_8.index t 3) 704 (i 3); omega

/-- What the points up to `n` leave for the output: the residual and the shares of the tile's groups so far. -/
theorem outs_9 : ∀ (n : ℕ) (hn : n < cfg0.N) (y : S512x1024.Idx), (outsAt0 m c n hn).2.2.1 y
    = upto (at2 (R := 4096) (C := 1024) (mX m c) (512 * (n / 4) + (y 0).val) (y 1).val)
        (shares (mH m c) (mW m c) (mC m c) (mD m c) (512 * (n / 4) + (y 0).val) (y 1)) (n % 4)
  | 0, hn, y => by
    have e := outsAt0_A m c ⟨0, hn⟩ rfl (by simp)
    refine (congrArg (fun p => p.2.2.1 y) e).trans ?_
    dsimp only
    refine ((out_9 (hi := (coords_at ⟨0, hn⟩).1) (h := blocks m c ⟨0, hn⟩) ..).1 _ _).trans ?_
    rw [block5]
    rfl
  | n + 1, hn, y => by
    by_cases h0 : (n + 1) % 4 = 0
    · have e := outsAt0_A m c ⟨n + 1, hn⟩ h0 (by show ¬(n + 1) % 4 = 3; omega)
      refine (congrArg (fun p => p.2.2.1 y) e).trans ?_
      dsimp only
      refine ((out_9 (hi := (coords_at ⟨n + 1, hn⟩).1) (h := blocks m c ⟨n + 1, hn⟩) ..).1 _ _).trans ?_
      rw [block5, h0]
      refine congrArg (fun g => _ + share (padded (mH m c)) (upw (mW m c) g) (taps (mC m c) g) (downw (mD m c) g) _ _) ?_
      exact Fin.ext h0
    · have hd : (n + 1) / 4 = n / 4 := by omega
      have hm : (n + 1) % 4 = n % 4 + 1 := by omega
      have hg : grp (n + 1) = grp (n % 4 + 1) := Fin.ext (by show (n + 1) % 4 = (n % 4 + 1) % 4; omega)
      by_cases h1 : (n + 1) % 4 = 3
      · have e := outsAt0_C m c ⟨n + 1, hn⟩ h0 h1
        refine (congrArg (fun p => p.2.2.1 y) e).trans ?_
        dsimp only
        refine ((out_9 (hi := (coords_at ⟨n + 1, hn⟩).1) (h := blocks m c ⟨n + 1, hn⟩) ..).2.2 _ _ _).trans ?_
        refine (congrArg (· + _) (outs_9 n (Nat.lt_of_succ_lt hn) y)).trans ?_
        rw [hd, hm]
        refine congrArg (fun g => _ + share (padded (mH m c)) (upw (mW m c) g) (taps (mC m c) g) (downw (mD m c) g) _ _) hg
      · have e := outsAt0_B m c ⟨n + 1, hn⟩ h0 h1
        refine (congrArg (fun p => p.2.2.1 y) e).trans ?_
        dsimp only
        refine ((out_9 (hi := (coords_at ⟨n + 1, hn⟩).1) (h := blocks m c ⟨n + 1, hn⟩) ..).2.1 _ _ _).trans ?_
        refine (congrArg (· + _) (outs_9 n (Nat.lt_of_succ_lt hn) y)).trans ?_
        rw [hd, hm]
        refine congrArg (fun g => _ + share (padded (mH m c)) (upw (mW m c) g) (taps (mC m c) g) (downw (mD m c) g) _ _) hg

/-- The layer's input plus its output. -/
def mOut (t : ℕ) (q : Fin 1024) : EReal := out (mH m c) (mX m c) (mW m c) (mC m c) (mD m c) t q

/-- The output, as contents of its array. -/
def gOut : Vec Ideal S4096x1024 .f32 := fun i => mOut m c (i 0).val (i 1)

/-- The normed output, as contents of its array. -/
def gNorm : Vec Ideal S4096x1024 .bf16 := fun i =>
  normed (fun q => mOut m c (i 0).val q) (fun q => mG m c (ix2 0 q)) (i 1)

/-- What a tile's last point leaves for the output. -/
theorem last_9 (t : Fin cfg0.N) (h3 : t.val % 4 = 3) (y : S512x1024.Idx) : (outsAt0 m c t.val t.isLt).2.2.1 y
    = mOut m c (512 * (t.val / 4) + (y 0).val) (y 1) := by
  rw [outs_9, h3]; rfl

/-- A tile's last point writes back its block of the output. -/
theorem flushed_9 (t : Fin cfg0.N) (hf : (cfg0.win 9).flush t = true) :
    (dats m 0 c).flushed 9 t = ((cfg0.win 9).blk t).view.read (Elt Ideal) (gOut m c) := by
  rw [Value.flushed9]
  funext y
  refine (last_9 m c t ((flush0_9 t).mp hf) y).trans ?_
  obtain ⟨e0, e1⟩ := index_9 t
  show _ = gOut m c _
  unfold gOut
  refine congrArg₂ (mOut m c) ?_ (Fin.ext ?_)
  · show _ = win0_9.index t 0 * 512 + 1 * (y 0).val; omega
  · show _ = win0_9.index t 1 * 1024 + 1 * (y 1).val; omega

/-- So the array ends holding it. -/
theorem final_9 : (dats m 0 c).arrAt 9 cfg0.N = gOut m c :=
  (dats m 0 c).arrAt_eq_of_cover 9 (gOut m c) (flushed_9 m c) fun i => by
    have h0 : (i 0 : Nat) < 4096 := (i 0).isLt
    have h1 : (i 1 : Nat) < 1024 := (i 1).isLt
    have hp : 4 * ((i 0 : Nat) / 512) + 3 < 32 := by omega
    have hN : 4 * ((i 0 : Nat) / 512) + 3 < cfg0.N := lt_of_lt_of_eq hp N_0.symm
    refine ⟨⟨4 * ((i 0 : Nat) / 512) + 3, hN⟩, (flush0_9 _).mpr (by show (4 * ((i 0 : Nat) / 512) + 3) % 4 = 3; omega), ?_⟩
    obtain ⟨e0, e1⟩ := index_9 ⟨4 * ((i 0 : Nat) / 512) + 3, hN⟩
    show i ∈ ((View.whole main_v0_2).slice (win0_9.rect ⟨4 * ((i 0 : Nat) / 512) + 3, hN⟩)).set
    rw [View.set_slice_whole, Rect.mem_set_unit]
    dsimp only at e0
    generalize (⟨4 * ((i 0 : Nat) / 512) + 3, hN⟩ : Fin grid0.N) = t at e0 e1 ⊢
    intro a
    match a with
    | ⟨0, _⟩ => show Mat.In (win0_9.index t 0) 512 (i 0); omega
    | ⟨1, _⟩ => show Mat.In (win0_9.index t 1) 1024 (i 1); omega

/-- What a tile's last point leaves for the normed output. -/
theorem last_10 (t : Fin cfg0.N) (h3 : t.val % 4 = 3) (y : S512x1024.Idx) : (outsAt0 m c t.val t.isLt).2.2.2 y
    = normed (fun q => mOut m c (512 * (t.val / 4) + (y 0).val) q) (fun q => mG m c (ix2 0 q)) (y 1) := by
  have h9 := fun q : Fin 1024 => last_9 m c t h3 (ix2 (y 0) q)
  rw [outsAt0_C m c t (by omega) h3] at h9 ⊢
  dsimp only at h9 ⊢
  refine (out_C_10 (hi := (coords_at t).1) (h := blocks m c t) ..).trans ?_
  refine congrArg₂ (fun X g => normed X g (y 1)) (funext fun q => ?_) (funext fun q => block6 m c t q)
  refine Eq.trans ?_ (h9 q)
  exact ((out_9 (hi := (coords_at t).1) (h := blocks m c t) ..).2.2 _ _ _).symm

/-- A tile's last point writes back its block of the normed output. -/
theorem flushed_10 (t : Fin cfg0.N) (hf : (cfg0.win 10).flush t = true) :
    (dats m 0 c).flushed 10 t = ((cfg0.win 10).blk t).view.read (Elt Ideal) (gNorm m c) := by
  rw [Value.flushed10]
  funext y
  refine (last_10 m c t ((flush0_10 t).mp hf) y).trans ?_
  obtain ⟨e0, e1⟩ := index_10 t
  show _ = gNorm m c _
  unfold gNorm
  refine congrArg₂ (fun t q => normed (fun q => mOut m c t q) (fun q => mG m c (ix2 0 q)) q) ?_ (Fin.ext ?_)
  · show _ = win0_10.index t 0 * 512 + 1 * (y 0).val; omega
  · show _ = win0_10.index t 1 * 1024 + 1 * (y 1).val; omega

/-- So the array ends holding it. -/
theorem final_10 : (dats m 0 c).arrAt 10 cfg0.N = gNorm m c :=
  (dats m 0 c).arrAt_eq_of_cover 10 (gNorm m c) (flushed_10 m c) fun i => by
    have h0 : (i 0 : Nat) < 4096 := (i 0).isLt
    have h1 : (i 1 : Nat) < 1024 := (i 1).isLt
    have hp : 4 * ((i 0 : Nat) / 512) + 3 < 32 := by omega
    have hN : 4 * ((i 0 : Nat) / 512) + 3 < cfg0.N := lt_of_lt_of_eq hp N_0.symm
    refine ⟨⟨4 * ((i 0 : Nat) / 512) + 3, hN⟩, (flush0_10 _).mpr (by show (4 * ((i 0 : Nat) / 512) + 3) % 4 = 3; omega), ?_⟩
    obtain ⟨e0, e1⟩ := index_10 ⟨4 * ((i 0 : Nat) / 512) + 3, hN⟩
    show i ∈ ((View.whole main_v0_3).slice (win0_10.rect ⟨4 * ((i 0 : Nat) / 512) + 3, hN⟩)).set
    rw [View.set_slice_whole, Rect.mem_set_unit]
    dsimp only at e0
    generalize (⟨4 * ((i 0 : Nat) / 512) + 3, hN⟩ : Fin grid0.N) = t at e0 e1 ⊢
    intro a
    match a with
    | ⟨0, _⟩ => show Mat.In (win0_10.index t 0) 512 (i 0); omega
    | ⟨1, _⟩ => show Mat.In (win0_10.index t 1) 1024 (i 1); omega

end

namespace Host

open Cert.Reference9Ideal Cert.Reference9Ideal.Gen Cert.Reference9Ideal.Read Cert.Mat Cert.Ffn Idealize.ShloMosaic

variable (x0 : Vec Ideal S4096x1024 .bf16) (x1 : Vec Ideal S4096x1024 .f32) (x2 : Vec Ideal S2x4x1024x704 .bf16)
  (x3 : Vec Ideal S2x4x3x704 .f32) (x4 : Vec Ideal S2816x1024 .bf16)

/-- The up projection, in the columns of one half and group. -/
theorem up_at (t : Fin 4096) (q : Fin 5632) (gv : Fin 2) (g : Fin 4) (j : Fin 704)
    (hq : q.val = gv.val * 2816 + g.val * 704 + j.val) :
    val_main_v7 (F := Ideal) x0 x2 (ix2 t q) = pre (padded x0) (upw x2 g) gv (t.val + 16) j := by
  pointwise [val_main_v7, val_main_v0, val_main_v3, val_main_v2, val_main_v1]
  rw [← pre_row]
  unfold upw
  have hgv := gv.isLt
  have hg := g.isLt
  have hj := j.isLt
  refine Finset.sum_congr rfl fun k _ => congrArg (fun i => x0 (ix2 t k) * x2 i) ?_
  refine funext fun i => Fin.ext ?_
  match i with
  | ⟨0, _⟩ => show q.val / 2816 = gv.val; omega
  | ⟨1, _⟩ => show q.val / 704 % 4 = g.val; omega
  | ⟨2, _⟩ => rfl
  | ⟨3, _⟩ => show q.val % 704 = j.val; omega

/-- The taps, in the columns of one half and group. -/
theorem taps_at (a : Fin 3) (q : Fin 5632) (gv : Fin 2) (g : Fin 4) (j : Fin 704)
    (hq : q.val = gv.val * 2816 + g.val * 704 + j.val) :
    val_main_v5 (F := Ideal) x3 (ix2 a q) = taps x3 g gv a j := by
  pointwise [val_main_v5, val_main_v4]
  unfold taps
  have hgv := gv.isLt
  have hg := g.isLt
  have hj := j.isLt
  refine congrArg x3 ?_
  refine funext fun i => Fin.ext ?_
  match i with
  | ⟨0, _⟩ => show q.val / 2816 = gv.val; omega
  | ⟨1, _⟩ => show q.val / 704 % 4 = g.val; omega
  | ⟨2, _⟩ => rfl
  | ⟨3, _⟩ => show q.val % 704 = j.val; omega

/-- The up projection with two zero rows above it. -/
theorem above_at (s : Fin 4098) (q : Fin 5632) (gv : Fin 2) (g : Fin 4) (j : Fin 704)
    (hq : q.val = gv.val * 2816 + g.val * 704 + j.val) (n : ℕ) (hn : s.val + 14 = n) :
    val_main_v9 (F := Ideal) x0 x2 (ix2 s q) = pre (padded x0) (upw x2 g) gv n j := by
  pointwise [val_main_v9, val_main_v8, val_main_cst]
  subst hn
  split
  · exact (pre_zero _ _ _ _ _ (by omega)).symm
  · refine (up_at _ _ _ _ gv g j hq).trans ?_
    refine congrArg (fun n => pre (padded x0) (upw x2 g) gv n j) ?_
    show s.val - 2 + 16 = s.val + 14
    omega

/-- The convolution, in the columns of one half and group. -/
theorem conv_at (t : Fin 4096) (q : Fin 5632) (gv : Fin 2) (g : Fin 4) (j : Fin 704)
    (hq : q.val = gv.val * 2816 + g.val * 704 + j.val) :
    val_main_v25 (F := Ideal) x0 x2 x3 (ix2 t q) = conv (padded x0) (upw x2 g) (taps x3 g) gv t j := by
  pointwise [val_main_v25, val_main_v24, val_main_v23, val_main_v22, val_main_v21, val_main_v20, val_main_v19,
    val_main_v18, val_main_v17, val_main_v16, val_main_v15, val_main_v14, val_main_cst_0, val_main_v13, val_main_v12,
    val_main_v11, val_main_v10]
  rw [taps_at x3 0 q gv g j hq, taps_at x3 1 q gv g j hq, taps_at x3 2 q gv g j hq,
    above_at x0 x2 _ q gv g j hq (t.val + 14) rfl, above_at x0 x2 _ q gv g j hq (t.val + 15) (by show 1 + t.val + 14 = _; omega),
    above_at x0 x2 _ q gv g j hq (t.val + 16) (by show 2 + t.val + 14 = _; omega)]
  unfold conv
  exact add_rev _ _ _

/-- The gated hidden value. -/
theorem act_at (t : Fin 4096) (g : Fin 4) (j : Fin 704) (q : Fin 2816) (hq : q.val = 704 * g.val + j.val) :
    val_main_v29 (F := Ideal) x0 x2 x3 (ix2 t q) = act (padded x0) (upw x2 g) (taps x3 g) t j := by
  pointwise [val_main_v29, val_main_v28, val_main_v27, val_main_v26, val_main_call0_v5, val_main_call0_v4,
    val_main_call0_v3, val_main_call0_v2, val_main_call0_v1, val_main_call0_v0, val_main_call0_cst,
    val_main_call0_cst_0]
  rw [conv_at x0 x2 x3 t _ 0 g j (by show q.val = 0 * 2816 + _ + _; omega),
    conv_at x0 x2 x3 t _ 1 g j (by show 2816 + q.val = 1 * 2816 + _ + _; omega)]
  rfl

/-- The layer's input plus its output. -/
theorem out_at (t : Fin 4096) (q : Fin 1024) :
    val_main_v31 (F := Ideal) x0 x1 x2 x3 x4 (ix2 t q) = out x0 x1 x2 x3 x4 t q := by
  pointwise [val_main_v31, val_main_v30, val_main_v6]
  unfold out
  rw [← upto_three, ← at2_ix, sum_groups]
  refine congrArg (fun p : EReal => _ + p) (Finset.sum_congr rfl fun g _ => ?_)
  have e : grp g.val = g := Fin.ext (Nat.mod_eq_of_lt g.isLt)
  unfold shares share
  rw [e]
  exact Finset.sum_congr rfl fun j _ => congrArg (fun p : EReal => p * _) (act_at x0 x2 x3 t g j _ rfl)

/-- The stored up projection. -/
theorem stored_up (g : Fin 4) (gv : Fin 2) (t : Fin 4096) (j : Fin 704) :
    val_main_v34 (F := Ideal) x0 x2 (ix4 g gv t j) = pre (padded x0) (upw x2 g) gv (t.val + 16) j := by
  pointwise [val_main_v34, val_main_v33, val_main_v32]
  exact up_at x0 x2 t _ gv g j rfl

/-- The stored convolution. -/
theorem stored_conv (g : Fin 4) (gv : Fin 2) (t : Fin 4096) (j : Fin 704) :
    val_main_v37 (F := Ideal) x0 x2 x3 (ix4 g gv t j) = conv (padded x0) (upw x2 g) (taps x3 g) gv t j := by
  pointwise [val_main_v37, val_main_v36, val_main_v35]
  exact conv_at x0 x2 x3 t _ gv g j rfl

/-- The normed output. -/
theorem norm_at (x5 : Vec Ideal S1x1024 .f32) (t : Fin 4096) (q : Fin 1024) :
    val_main_v50 (F := Ideal) x0 x1 x2 x3 x4 x5 (ix2 t q)
      = normed (fun q => out x0 x1 x2 x3 x4 t q) (fun q => x5 (ix2 0 q)) q := by
  pointwise [val_main_v50, val_main_v49, val_main_v48, val_main_v47, val_main_v46, val_main_v45, val_main_v44,
    val_main_v43, val_main_v42, val_main_v41, val_main_v40, val_main_v39, val_main_v38, val_main_cst_1,
    val_main_cst_2, val_main_cst_3]
  simp only [out_at]
  rfl

end Host

section

open Idealize.ShloMosaic Idealize.ShloMosaic.TcCoe Idealize.SL.Sem

instance : Cert.Kernel9Ideal.Facts := Cert.Kernel9Ideal.Gen.facts
instance : Cert.Reference9Ideal.Facts := Cert.Reference9Ideal.Gen.facts

/-- The host's run leaves no counter raised and keeps its arguments. -/
theorem host_frame : Cert.quiescent_Reference9Ideal := fun m g _ =>
  (θ_run _ _ _).mono (fun r h => ⟨fun c => (h c).2.2.2.2,
      Idealize.ShloMosaic.sem_eq_zero_of_no_sems (by decide) r.2⟩)
    (Cert.Reference9Ideal.Value.run (F := Ideal) m g)

/-- All four results of the kernel's idealization are the host's, entry by entry, for every argument. -/
theorem values : Cert.algebraic_Kernel9Ideal_Reference9Ideal := by
  intro m g m' g' _ hag
  refine ⟨fun c => gUp m c, fun c => gConv m c, fun c => gOut m c, fun c => gNorm m c, ?_, ?_⟩
  · exact (θ_run _ _ _).mono (fun r h c => ⟨(h c).1.trans (final_7 m c), (h c).2.1.trans (final_8 m c),
        (h c).2.2.1.trans (final_9 m c), (h c).2.2.2.1.trans (final_10 m c), (h c).2.2.2.2⟩)
      (Cert.Kernel9Ideal.Value.run_blocks (F := Ideal) m g)
  · refine (θ_run _ _ _).mono (fun r h c => ⟨(h c).1.trans ?_, (h c).2.1.trans ?_, (h c).2.2.1.trans ?_,
        (h c).2.2.2.1.trans ?_, (h c).2.2.2.2⟩)
      (Cert.Reference9Ideal.Value.run (F := Ideal) m' g')
    · obtain ⟨h0, h1, h2, h3, h4, h5⟩ := hag c
      refine (Cert.Reference9Ideal.Read.val_main_v34_eq (F := Ideal) _ _).trans ?_
      rw [h0, h2]
      funext i
      obtain ⟨a, b, t, j, rfl⟩ := Mat.ix4_of i
      exact Host.stored_up _ _ a b t j
    · obtain ⟨h0, h1, h2, h3, h4, h5⟩ := hag c
      refine (Cert.Reference9Ideal.Read.val_main_v37_eq (F := Ideal) _ _ _).trans ?_
      rw [h0, h2, h3]
      funext i
      obtain ⟨a, b, t, j, rfl⟩ := Mat.ix4_of i
      exact Host.stored_conv _ _ _ a b t j
    · obtain ⟨h0, h1, h2, h3, h4, h5⟩ := hag c
      rw [Cert.Reference9Ideal.Read.val_main_v31_eq, h0, h1, h2, h3, h4]
      funext i
      obtain ⟨t, q, rfl⟩ := Mat.ix2_of i
      exact Host.out_at _ _ _ _ _ t q
    · obtain ⟨h0, h1, h2, h3, h4, h5⟩ := hag c
      rw [Cert.Reference9Ideal.Read.val_main_v50_eq, h0, h1, h2, h3, h4, h5]
      funext i
      obtain ⟨t, q, rfl⟩ := Mat.ix2_of i
      exact Host.norm_at _ _ _ _ _ _ t q

end

end Cert.Ffn0

end
-- ==== Proof.Loss.lean ====
/-
  The loss layer's run with every array named: each result is its window's array after the last point, and the arguments
  are as launched.

  What one call of the body computes, entry by entry, from its blocks (no machine in it): the padded input, its up
  projection, the convolution of each half and the group's product.

  What one grid point leaves in the staging buffers of the up projection and the convolution, and in the carried block,
  read at an index.

  What a tile's last grid point leaves in the staging buffers of the cotangent, the gain's gradient and the loss, read at
  an index.

  The four arrays the kernel leaves, named: each block is what its grid point wrote, and the blocks tile the arrays.

  The host's last layer with the loss, entry by entry: its forward results are the formulas of the layer, and its loss and
  gradients the row formulas of the loss.

  The value claim of the last layer's feed-forward pass with the loss: the kernel's six arrays are the host's.
-/
module

public import proofs.«01_k».proof.Proof.Gen.Kernel10Ideal.Frame
public import Idealize.ShloMosaic.Lib.Pipeline.Value
public import Idealize.ShloMosaic.Lib.Pointwise
public import proofs.«01_k».proof.Proof.Spec
public import Idealize.ShloMosaic.Lib.Tactic
public import proofs.«01_k».proof.Proof.Gen.Reference10Ideal.Read
public import proofs.«01_k».proof.Defs
public import Idealize.ShloMosaic.Lib.Quiescent

@[expose] public section

set_option maxRecDepth 16384

noncomputable section

namespace Cert.Ffn1

section

open Cert.Kernel10Ideal Cert.Kernel10Ideal.Gen Idealize.ShloMosaic Idealize.ShloMosaic.TcCoe Idealize.SL.Sem

variable (m : (ℓ : Loc nD τ sig) → Buf (Elt Ideal) ℓ) (ρ : Dev nD → PrngReg)

/-- What a point writes back of window 8: what its body left there. -/
theorem flushed8 (c : Dev nD) (t : Fin cfg0.N) :
    (dats m 0 c).flushed 8 t = (cfg0.win 8).cut (grid0.coords t) ((outsAt0 m c t.val t.isLt).1) :=
  congrArg ((cfg0.win 8).cut (grid0.coords t)) (after0_8 m c t)

/-- What a point writes back of window 9: what its body left there. -/
theorem flushed9 (c : Dev nD) (t : Fin cfg0.N) :
    (dats m 0 c).flushed 9 t = (cfg0.win 9).cut (grid0.coords t) ((outsAt0 m c t.val t.isLt).2.1) :=
  congrArg ((cfg0.win 9).cut (grid0.coords t)) (after0_9 m c t)

/-- What a point writes back of window 10: what its body left there. -/
theorem flushed10 (c : Dev nD) (t : Fin cfg0.N) :
    (dats m 0 c).flushed 10 t = (cfg0.win 10).cut (grid0.coords t) ((outsAt0 m c t.val t.isLt).2.2.1) :=
  congrArg ((cfg0.win 10).cut (grid0.coords t)) (after0_10 m c t)

/-- What a point writes back of window 11: what its body left there. -/
theorem flushed11 (c : Dev nD) (t : Fin cfg0.N) :
    (dats m 0 c).flushed 11 t = (cfg0.win 11).cut (grid0.coords t) ((outsAt0 m c t.val t.isLt).2.2.2.1) :=
  congrArg ((cfg0.win 11).cut (grid0.coords t)) (after0_11 m c t)

/-- What a point writes back of window 12: what its body left there. -/
theorem flushed12 (c : Dev nD) (t : Fin cfg0.N) :
    (dats m 0 c).flushed 12 t = (cfg0.win 12).cut (grid0.coords t) ((outsAt0 m c t.val t.isLt).2.2.2.2.1) :=
  congrArg ((cfg0.win 12).cut (grid0.coords t)) (after0_12 m c t)

/-- What a point writes back of window 13: what its body left there. -/
theorem flushed13 (c : Dev nD) (t : Fin cfg0.N) :
    (dats m 0 c).flushed 13 t = (cfg0.win 13).cut (grid0.coords t) ((outsAt0 m c t.val t.isLt).2.2.2.2.2.1) :=
  congrArg ((cfg0.win 13).cut (grid0.coords t)) (after0_13 m c t)

/-- An input window's array is as launched after the run. -/
theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  ⟨((h c).1 0).trans (((dats m 0 c).arrAt_in 0 rfl _).trans ((A_eq m c 0).trans (V_main_arg0 m c))),
   ((h c).1 5).trans (((dats m 0 c).arrAt_in 5 rfl _).trans ((A_eq m c 5).trans (V_main_arg1 m c))),
   ((h c).1 2).trans (((dats m 0 c).arrAt_in 2 rfl _).trans ((A_eq m c 2).trans (V_main_arg2 m c))),
   ((h c).1 3).trans (((dats m 0 c).arrAt_in 3 rfl _).trans ((A_eq m c 3).trans (V_main_arg3 m c))),
   ((h c).1 4).trans (((dats m 0 c).arrAt_in 4 rfl _).trans ((A_eq m c 4).trans (V_main_arg4 m c))),
   ((h c).1 6).trans (((dats m 0 c).arrAt_in 6 rfl _).trans ((A_eq m c 6).trans (V_main_arg5 m c))),
   ((h c).1 7).trans (((dats m 0 c).arrAt_in 7 rfl _).trans ((A_eq m c 7).trans (V_main_arg6 m c)))⟩

/-- After the run each result holds its window's final array, and the arguments are as launched. -/
theorem run_arrays : θ_run defs (onTc (τ := τ) (main (F := Ideal))) ⟨m, fun _ => 0, ρ⟩ fun r => ∀ c : Dev nD,
      r.2.mem ((c : Thread nD τ).loc main_v0_0) = (dats m 0 c).arrAt 8 cfg0.N
      ∧ r.2.mem ((c : Thread nD τ).loc main_v0_1) = (dats m 0 c).arrAt 9 cfg0.N
      ∧ r.2.mem ((c : Thread nD τ).loc main_v0_2) = (dats m 0 c).arrAt 10 cfg0.N
      ∧ r.2.mem ((c : Thread nD τ).loc main_v0_3) = (dats m 0 c).arrAt 11 cfg0.N
      ∧ r.2.mem ((c : Thread nD τ).loc main_v0_4) = (dats m 0 c).arrAt 12 cfg0.N
      ∧ r.2.mem ((c : Thread nD τ).loc main_v0_5) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 8, (h c).1 9, (h c).1 10, (h c).1 11, (h c).1 12, (h c).1 13, kept m r h c⟩)
    (run_main m ρ)

end

section

open Cert.Kernel10Ideal Cert.Kernel10Ideal.Gen Cert.Mat Cert.Ffn Idealize.ShloMosaic

/-- The body's test "not the first tile". -/
theorem sgt_zero (n : ℕ) (h : n < 8) : (Scalar.cmpi .sgt (BitVec.ofNat 32 n) 0#32 = 1#1) ↔ 0 < n :=
  (by decide : ∀ n : Fin 8, (Scalar.cmpi .sgt (BitVec.ofNat 32 n.val) 0#32 = 1#1) ↔ 0 < n.val) ⟨n, h⟩

/-- The blocks of tile `n` and one group: the tile's rows of the input, the sixteen before, the group's weights. -/
structure Blocks (H : ℕ → Fin 1024 → EReal) (W : Fin 2 → Fin 1024 → Fin 704 → EReal)
    (C : Fin 2 → Fin 3 → Fin 704 → EReal) (Wd : Fin 704 → Fin 1024 → EReal) (n : ℕ) (x0 : Vec Ideal S512x1024 .bf16)
    (x1 : Vec Ideal S16x1024 .bf16) (x2 : Vec Ideal S2x1x1024x704 .bf16) (x3 : Vec Ideal S2x1x3x704 .f32)
    (x4 : Vec Ideal S704x1024 .bf16) : Prop where
  h0 : ∀ (r : Fin 512) (k : Fin 1024), x0 (ix2 r k) = H (512 * n + r + 16) k
  h1 : ∀ (r : Fin 16) (k : Fin 1024), 0 < n → x1 (ix2 r k) = H (512 * n + r) k
  hH : ∀ s k, s < 16 → H s k = 0
  h2 : ∀ (gv : Fin 2) (k : Fin 1024) (j : Fin 704), x2 (ix4 gv 0 k j) = W gv k j
  h3 : ∀ (gv : Fin 2) (a : Fin 3) (j : Fin 704), x3 (ix4 gv 0 a j) = C gv a j
  h4 : ∀ (j : Fin 704) (q : Fin 1024), x4 (ix2 j q) = Wd j q
  hn : n < 8

variable {H : ℕ → Fin 1024 → EReal} {W : Fin 2 → Fin 1024 → Fin 704 → EReal}
  {C : Fin 2 → Fin 3 → Fin 704 → EReal} {Wd : Fin 704 → Fin 1024 → EReal} {n : ℕ} {i : grid0.Coords}
  {x0 : Vec Ideal S512x1024 .bf16} {x1 : Vec Ideal S16x1024 .bf16} {x2 : Vec Ideal S2x1x1024x704 .bf16}
  {x3 : Vec Ideal S2x1x3x704 .f32} {x4 : Vec Ideal S704x1024 .bf16}

/-- The sixteen rows before the tile (zero before the first) and the tile are rows of the padded input. -/
theorem hx_apply (hi : (i 0).val = n) (h : Blocks H W C Wd n x0 x1 x2 x3 x4) (s : Fin 528) (k : Fin 1024) :
    k0_pay14 i x1 x0 (ix2 s k) = H (512 * n + s) k := by
  pointwise [k0_pay14]
  generalize hA : BitVec.ofNat 32 _ = a
  have c : Scalar.cmpi .sgt a 0#32 = 1#1 ↔ 0 < n := by rw [← hA]; subst hi; exact sgt_zero _ h.hn
  split
  · rename_i hs
    refine (select_iff c _ _).trans ?_
    by_cases hp : 0 < n
    · rw [if_pos hp]; exact h.h1 _ k hp
    · rw [if_neg hp, h.hH _ _ (by omega)]
  · rename_i hs
    exact (h.h0 _ k).trans (congrArg (fun t => H t k) (show 512 * n + (s.val - 16) + 16 = 512 * n + s.val by omega))

/-- The up projection of the gate half. -/
theorem gate_apply (hi : (i 0).val = n) (h : Blocks H W C Wd n x0 x1 x2 x3 x4) (w : Vec Ideal S1x1x1024x704 .bf16)
    (hw : ∀ k j, w (ix4 0 0 k j) = W 0 k j) (s : Fin 528) (j : Fin 704) :
    k0_pay15 i x1 x0 w (ix3 0 s j) = pre H W 0 (512 * n + s) j := by
  pointwise [k0_pay15]
  unfold pre
  refine Finset.sum_congr rfl fun k _ => ?_
  exact congrArg₂ (fun p q : EReal => p * q) (hx_apply hi h s k) (hw k j)

/-- The up projection of the value half. -/
theorem value_apply (hi : (i 0).val = n) (h : Blocks H W C Wd n x0 x1 x2 x3 x4) (w : Vec Ideal S1x1x1024x704 .bf16)
    (hw : ∀ k j, w (ix4 0 0 k j) = W 1 k j) (s : Fin 528) (j : Fin 704) :
    k0_pay21 (k0_pay14 i x1 x0) w (ix3 0 s j) = pre H W 1 (512 * n + s) j := by
  pointwise [k0_pay21]
  unfold pre
  refine Finset.sum_congr rfl fun k _ => ?_
  exact congrArg₂ (fun p q : EReal => p * q) (hx_apply hi h s k) (hw k j)

/-- A gate row of the convolution. -/
theorem conv0_apply (P : Vec Ideal S1x528x704 .f32) (hP : ∀ s j, P (ix3 0 s j) = pre H W 0 (512 * n + s) j)
    (c2 c1 c0 : Vec Ideal S1x1x1x704 .f32) (h2 : ∀ j, c2 (ix4 0 0 0 j) = C 0 2 j) (h1 : ∀ j, c1 (ix4 0 0 0 j) = C 0 1 j)
    (h0 : ∀ j, c0 (ix4 0 0 0 j) = C 0 0 j) (r : Fin 512) (j : Fin 704) :
    k0_pay19 (k0_pay18 (rows P 16 (by omega)) c2) c1 (rows P 15 (by omega)) c0 (rows P 14 (by omega)) (ix2 r j)
      = conv H W C 0 (512 * n + r) j := by
  pointwise [k0_pay19, k0_pay18, k0_pay16]
  unfold conv
  simp only [rows_at, h2, h1, h0]
  refine congrArg₂ (fun p q : EReal => p + q) (congrArg₂ (fun p q : EReal => p + q) ?_ ?_) ?_
  all_goals refine congrArg (fun q : EReal => _ * q) ((hP _ _).trans (congrArg (fun t => pre H W 0 t j) ?_))
  all_goals show 512 * n + (_ + r.val) = _; omega

/-- A value row of the convolution. -/
theorem conv1_apply (P : Vec Ideal S1x528x704 .f32) (hP : ∀ s j, P (ix3 0 s j) = pre H W 1 (512 * n + s) j)
    (c2 c1 c0 : Vec Ideal S1x1x1x704 .f32) (h2 : ∀ j, c2 (ix4 0 0 0 j) = C 1 2 j) (h1 : ∀ j, c1 (ix4 0 0 0 j) = C 1 1 j)
    (h0 : ∀ j, c0 (ix4 0 0 0 j) = C 1 0 j) (r : Fin 512) (j : Fin 704) :
    k0_pay25 (k0_pay22 (rows P 16 (by omega))) c2 c1 (rows P 15 (by omega)) c0 (rows P 14 (by omega)) (ix2 r j)
      = conv H W C 1 (512 * n + r) j := by
  pointwise [k0_pay25, k0_pay22]
  unfold conv
  simp only [rows_at, h2, h1, h0]
  refine congrArg₂ (fun p q : EReal => p + q) (congrArg₂ (fun p q : EReal => p + q) ?_ ?_) ?_
  all_goals refine congrArg (fun q : EReal => _ * q) ((hP _ _).trans (congrArg (fun t => pre H W 1 t j) ?_))
  all_goals show 512 * n + (_ + r.val) = _; omega

/-- The stored gate half of the up projection. -/
theorem store0_apply (P : Vec Ideal S1x528x704 .f32) (hP : ∀ s j, P (ix3 0 s j) = pre H W 0 (512 * n + s) j)
    (a b : Fin 1) (r : Fin 512) (j : Fin 704) :
    k0_pay17 (rows P 16 (by omega)) (ix4 a b r j) = pre H W 0 (512 * n + r + 16) j := by
  pointwise [k0_pay17, k0_pay16]
  rw [rows_at]
  exact (hP _ _).trans (congrArg (fun t => pre H W 0 t j) (show 512 * n + (16 + r.val) = 512 * n + r.val + 16 by omega))

/-- The stored value half of the up projection. -/
theorem store1_apply (P : Vec Ideal S1x528x704 .f32) (hP : ∀ s j, P (ix3 0 s j) = pre H W 1 (512 * n + s) j)
    (a b : Fin 1) (r : Fin 512) (j : Fin 704) :
    k0_pay24 (k0_pay23 (rows P 16 (by omega))) (ix4 a b r j) = pre H W 1 (512 * n + r + 16) j := by
  pointwise [k0_pay24, k0_pay23, k0_pay22]
  rw [rows_at]
  exact (hP _ _).trans (congrArg (fun t => pre H W 1 t j) (show 512 * n + (16 + r.val) = 512 * n + r.val + 16 by omega))

/-- The stored gate half after the convolution. -/
theorem stored0_apply (V : FVec Ideal S512x704 .f32) (c1 : Vec Ideal S1x1x1x704 .f32) (V1 : Vec Ideal S1x512x704 .f32)
    (c0 : Vec Ideal S1x1x1x704 .f32) (V0 : Vec Ideal S1x512x704 .f32)
    (hV : ∀ r j, k0_pay19 V c1 V1 c0 V0 (ix2 r j) = conv H W C 0 (512 * n + r) j)
    (a b : Fin 1) (r : Fin 512) (j : Fin 704) :
    k0_pay20 V c1 V1 c0 V0 (ix4 a b r j) = conv H W C 0 (512 * n + r) j := by
  rw [← hV r j]
  generalize hVe : k0_pay19 V c1 V1 c0 V0 = B
  pointwise [k0_pay20, hVe]

/-- The stored value half after the convolution. -/
theorem stored1_apply (V : FVec Ideal S512x704 .f32) (c2 c1 c0 : Vec Ideal S1x1x1x704 .f32)
    (V1 V0 : Vec Ideal S1x512x704 .f32)
    (hV : ∀ r j, k0_pay25 V c2 c1 V1 c0 V0 (ix2 r j) = conv H W C 1 (512 * n + r) j)
    (a b : Fin 1) (r : Fin 512) (j : Fin 704) :
    k0_pay26 V c2 c1 V1 c0 V0 (ix4 a b r j) = conv H W C 1 (512 * n + r) j := by
  rw [← hV r j]
  generalize hVe : k0_pay25 V c2 c1 V1 c0 V0 = B
  pointwise [k0_pay26, hVe]

/-- A row's normed entry, with the gain, less the target. -/
def diff (X T g : Fin 1024 → EReal) (q : Fin 1024) : EReal := (X q * Rms.scale X) * g q - T q

/-- The loss's cotangent of the normed row. -/
def dnorm (X T g : Fin 1024 → EReal) (q : Fin 1024) : EReal := diff X T g q * Ideal.ofBits .f32 0x3A800000#32

/-- The loss's cotangent of the row. -/
def dback (X T g : Fin 1024 → EReal) (q : Fin 1024) : EReal := Rms.back X (fun j => dnorm X T g j * g j) q

/-- A row's term of the gain's gradient. -/
def dgain (X T g : Fin 1024 → EReal) (q : Fin 1024) : EReal := dnorm X T g q * (X q * Rms.scale X)

/-- A row's term of the loss, before the half. -/
def lossRow (X T g : Fin 1024 → EReal) : EReal :=
  Ideal.div (∑ q, diff X T g q * diff X T g q) (Ideal.ofBits .f32 0x44800000#32)

/-- The group's share added to what the carried block held. -/
theorem add_apply (h : Blocks H W C Wd n x0 x1 x2 x3 x4) (xo : Vec Ideal S512x1024 .f32) (A : FVec Ideal S512x704 .f32)
    (V : FVec Ideal S512x704 .f32) (c2 c1 c0 : Vec Ideal S1x1x1x704 .f32) (V1 V0 : Vec Ideal S1x512x704 .f32)
    (hA : ∀ r j, A (ix2 r j) = conv H W C 0 (512 * n + r) j)
    (hV : ∀ r j, k0_pay25 V c2 c1 V1 c0 V0 (ix2 r j) = conv H W C 1 (512 * n + r) j) (r : Fin 512) (q : Fin 1024) :
    k0_pay1 xo (k0_pay27 A V c2 c1 V1 c0 V0 x4) (ix2 r q)
      = xo (ix2 r q) + share H W C Wd (512 * n + r) q := by
  generalize hVe : k0_pay25 V c2 c1 V1 c0 V0 = B at hV
  pointwise [k0_pay1, k0_pay27, hVe]
  unfold share act
  refine congrArg (fun p : EReal => _ + p) (Finset.sum_congr rfl fun j _ => ?_)
  rw [hA, hV, h.h4]

/-- The residual's block, as the carried block starts with it. -/
theorem start_apply (X : Vec Ideal S512x1024 .f32) : k0_pay13 X = X := by
  funext y
  obtain ⟨r, q, rfl⟩ := Mat.ix2_of y
  pointwise [k0_pay13]

variable (Y T : Vec Ideal S512x1024 .f32) (g : Vec Ideal S1x1024 .f32)

/-- The cotangent of a row of the finished block. -/
theorem dx_apply (r : Fin 512) (q : Fin 1024) : k0_pay11 Y T g (ix2 r q)
    = dback (fun q => Y (ix2 r q)) (fun q => T (ix2 r q)) (fun q => g (ix2 0 q)) q := by
  pointwise [k0_pay11, k0_pay9, k0_pay8, k0_pay7, k0_pay6]
  rfl

/-- The same, in the other float format. -/
theorem dxb_apply (V : FVec Ideal S512x1024 .f32) (r : Fin 512) (q : Fin 1024) : k0_pay3 V (ix2 r q) = V (ix2 r q) := by
  pointwise [k0_pay3]

/-- The block's part of the gain's gradient. -/
theorem dg_apply (q : Fin 1024) : k0_pay10 Y T g (ix2 0 q)
    = ∑ r : Fin 512, dgain (fun q => Y (ix2 r q)) (fun q => T (ix2 r q)) (fun q => g (ix2 0 q)) q := by
  pointwise [k0_pay10, k0_pay9, k0_pay8, k0_pay7, k0_pay6]
  rfl

/-- The block's part of the loss. -/
theorem loss_apply : k0_pay12 Y T g (ix2 0 0) = Ideal.ofBits .f32 0x3F000000#32
    * ∑ r : Fin 512, lossRow (fun q => Y (ix2 r q)) (fun q => T (ix2 r q)) (fun q => g (ix2 0 q)) := by
  pointwise [k0_pay12, k0_pay9, k0_pay8, k0_pay7, k0_pay6]
  rfl

/-- The gain's gradient added to what the points before left. -/
theorem dgs_apply (A B : Vec Ideal S1x1024 .f32) (q : Fin 1024) :
    k0_pay4 A B (ix2 0 q) = B (ix2 0 q) + A (ix2 0 q) := by
  pointwise [k0_pay4]

/-- The loss in every lane. -/
theorem lane_apply (A : FVec Ideal S1x1 .f32) (l : Fin 128) : k0_pay2 A (ix2 0 l) = A (ix2 0 0) := by
  pointwise [k0_pay2]

/-- The loss added to what the points before left. -/
theorem lanes_apply (A : FVec Ideal S1x1 .f32) (B : Vec Ideal S1x128 .f32) (l : Fin 128) :
    k0_pay5 A B (ix2 0 l) = B (ix2 0 l) + A (ix2 0 0) := by
  pointwise [k0_pay5, k0_pay2]

end

section

open Cert.Kernel10Ideal Cert.Kernel10Ideal.Gen Cert.Mat Cert.Ffn Idealize.ShloMosaic Idealize.ShloMosaic.TcCoe
  Idealize.SL.Sem

variable {H : ℕ → Fin 1024 → EReal} {W : Fin 2 → Fin 1024 → Fin 704 → EReal}
  {C : Fin 2 → Fin 3 → Fin 704 → EReal} {Wd : Fin 704 → Fin 1024 → EReal} {n : ℕ} {i : grid0.Coords}
  {x0 : Vec Ideal S512x1024 .bf16} {x1 : Vec Ideal S16x1024 .bf16} {x2 : Vec Ideal S2x1x1024x704 .bf16}
  {x3 : Vec Ideal S2x1x3x704 .f32} {x4 : Vec Ideal S704x1024 .bf16} {x5 : Vec Ideal S512x1024 .f32}
  {x6 : Vec Ideal S512x1024 .f32} {x7 : Vec Ideal S1x1024 .f32}
variable (c : Dev nD)
  (a2 : Memref sig .tc .vmem S512x1024 .bf16) (b2 : a2.IsWhole)
  (a3 : Memref sig .tc .vmem S16x1024 .bf16) (b3 : a3.IsWhole)
  (a4 : Memref sig .tc .vmem S2x1x1024x704 .bf16) (b4 : a4.IsWhole)
  (a5 : Memref sig .tc .vmem S2x1x3x704 .f32) (b5 : a5.IsWhole)
  (a6 : Memref sig .tc .vmem S704x1024 .bf16) (b6 : a6.IsWhole)
  (a7 : Memref sig .tc .vmem S512x1024 .f32) (b7 : a7.IsWhole)
  (a8 : Memref sig .tc .vmem S512x1024 .f32) (b8 : a8.IsWhole)
  (a9 : Memref sig .tc .vmem S1x1024 .f32) (b9 : a9.IsWhole)
  (a10 : Memref sig .tc .vmem S1x2x512x704 .bf16) (b10 : a10.IsWhole)
  (a11 : Memref sig .tc .vmem S1x2x512x704 .bf16) (b11 : a11.IsWhole)
  (a12 : Memref sig .tc .vmem S512x1024 .f32) (b12 : a12.IsWhole)
  (a13 : Memref sig .tc .vmem S512x1024 .bf16) (b13 : a13.IsWhole)
  (a14 : Memref sig .tc .vmem S1x1024 .f32) (b14 : a14.IsWhole)
  (a15 : Memref sig .tc .vmem S1x128 .f32) (b15 : a15.IsWhole)
  (a16 : Memref sig .tc .vmem S2x528x704 .f32) (b16 : a16.IsWhole)
  (a17 : Memref sig .tc .vmem S512x1024 .f32) (b17 : a17.IsWhole)

/-- The up projection's block, in each of the body's cases. -/
theorem out_8 (hi : (i 0).val = n) (h : Blocks H W C Wd n x0 x1 x2 x3 x4) (y : S1x2x512x704.Idx) :
    (∀ hc0 hc1, out0_A_8 c i _ b2 _ b3 _ b4 _ b5 _ b6 _ b7 _ b8 _ b9 _ b10 _ b11 _ b12 _ b13 _ b14 _ b15 _ b16 _ b17
      hc0 hc1 x0 x1 x2 x3 x4 x5 x6 x7 y = pre H W (y 1) (512 * n + (y 2).val + 16) (y 3))
    ∧ (∀ hc0 hc1 xs1, out0_B_8 c i _ b2 _ b3 _ b4 _ b5 _ b6 _ b7 _ b8 _ b9 _ b10 _ b11 _ b12 _ b13 _ b14 _ b15 _ b16 _ b17
      hc0 hc1 x0 x1 x2 x3 x4 x5 x6 x7 xs1 y = pre H W (y 1) (512 * n + (y 2).val + 16) (y 3))
    ∧ (∀ hc0 hc1 hc2 hc3 xs1, out0_C_8 c i _ b2 _ b3 _ b4 _ b5 _ b6 _ b7 _ b8 _ b9 _ b10 _ b11 _ b12 _ b13 _ b14 _ b15 _ b16 _ b17
      hc0 hc1 hc2 hc3 x0 x1 x2 x3 x4 x5 x6 x7 xs1 y = pre H W (y 1) (512 * n + (y 2).val + 16) (y 3))
    ∧ (∀ hc0 hc1 hc2 hc3 xo12 xo13 xs1, out0_D_8 c i _ b2 _ b3 _ b4 _ b5 _ b6 _ b7 _ b8 _ b9 _ b10 _ b11 _ b12 _ b13 _ b14 _ b15 _ b16 _ b17
      hc0 hc1 hc2 hc3 x0 x1 x2 x3 x4 x5 x6 x7 xo12 xo13 xs1 y = pre H W (y 1) (512 * n + (y 2).val + 16) (y 3)) := by
  refine ⟨fun _ _ => ?_, fun _ _ _ => ?_, fun _ _ _ _ _ => ?_, fun _ _ _ _ _ _ _ => ?_⟩
  all_goals first
    | (unfold out0_A_8; rw [View.read_writes_eq_canon _ _ _ (by exact fun _ => cover0_A_8 ..)]; unfold kernelRun0_A)
    | (unfold out0_B_8; rw [View.read_writes_eq_canon _ _ _ (by exact fun _ => cover0_B_8 ..)]; unfold kernelRun0_B)
    | (unfold out0_C_8; rw [View.read_writes_eq_canon _ _ _ (by exact fun _ => cover0_C_8 ..)]; unfold kernelRun0_C)
    | (unfold out0_D_8; rw [View.read_writes_eq_canon _ _ _ (by exact fun _ => cover0_D_8 ..)]; unfold kernelRun0_D)
  all_goals dsimp only
  all_goals sl_unfold_words
  all_goals simp only [View.readAt_eq_ld, Memref.IsWhole.read_unread,
    View.ld_unit_zero (S := S512x1024) Mat.hz2, View.ld_unit_zero (S := S16x1024) Mat.hz2, View.ld_unit_zero (S := S1x1024) Mat.hz2,
    View.ld_unit_zero (S := S704x1024) Mat.hz2, View.ld_unit_zero (S := S1x128) Mat.hz2, shapeCast_self,
    scratch_read _ 0 16 (by omega), scratch_read _ 0 15 (by omega), scratch_read _ 0 14 (by omega),
    scratch_read _ 1 16 (by omega), scratch_read _ 1 15 (by omega), scratch_read _ 1 14 (by omega)]
  all_goals canon_tiles x e using (View.cover_of_tiled_head _ _ _ (by rfl) y)
  all_goals obtain ⟨a, b, r, j, rfl⟩ := Mat.ix4_of x
  all_goals have f2 : (y 2).val = r.val := e2
  all_goals have f3 : y 3 = j := Fin.ext e3
  all_goals first
    | have f1 : y 1 = (1 : Fin 2) := Fin.ext (show (y 1).val = 1 from Eq.trans e1 (show 1 + b.val = 1 by omega))
    | have f1 : y 1 = (0 : Fin 2) := Fin.ext (show (y 1).val = 0 from Eq.trans e1 (show b.val = 0 by omega))
  all_goals rw [f1, f2, f3]
  all_goals first
    | refine store1_apply _ (value_apply hi h _ ?_) _ _ _ _
    | refine store0_apply _ (gate_apply hi h _ ?_) _ _ _ _
  all_goals (intros; pointwise []; first | exact h.h2 _ _ _ | exact h.h3 _ _ _)

/-- The convolution's block. -/
theorem out_9 (hi : (i 0).val = n) (h : Blocks H W C Wd n x0 x1 x2 x3 x4) (y : S1x2x512x704.Idx) :
    (∀ hc0 hc1, out0_A_9 c i _ b2 _ b3 _ b4 _ b5 _ b6 _ b7 _ b8 _ b9 _ b10 _ b11 _ b12 _ b13 _ b14 _ b15 _ b16 _ b17
      hc0 hc1 x0 x1 x2 x3 x4 x5 x6 x7 y = conv H W C (y 1) (512 * n + (y 2).val) (y 3))
    ∧ (∀ hc0 hc1 xs1, out0_B_9 c i _ b2 _ b3 _ b4 _ b5 _ b6 _ b7 _ b8 _ b9 _ b10 _ b11 _ b12 _ b13 _ b14 _ b15 _ b16 _ b17
      hc0 hc1 x0 x1 x2 x3 x4 x5 x6 x7 xs1 y = conv H W C (y 1) (512 * n + (y 2).val) (y 3))
    ∧ (∀ hc0 hc1 hc2 hc3 xs1, out0_C_9 c i _ b2 _ b3 _ b4 _ b5 _ b6 _ b7 _ b8 _ b9 _ b10 _ b11 _ b12 _ b13 _ b14 _ b15 _ b16 _ b17
      hc0 hc1 hc2 hc3 x0 x1 x2 x3 x4 x5 x6 x7 xs1 y = conv H W C (y 1) (512 * n + (y 2).val) (y 3))
    ∧ (∀ hc0 hc1 hc2 hc3 xo12 xo13 xs1, out0_D_9 c i _ b2 _ b3 _ b4 _ b5 _ b6 _ b7 _ b8 _ b9 _ b10 _ b11 _ b12 _ b13 _ b14 _ b15 _ b16 _ b17
      hc0 hc1 hc2 hc3 x0 x1 x2 x3 x4 x5 x6 x7 xo12 xo13 xs1 y = conv H W C (y 1) (512 * n + (y 2).val) (y 3)) := by
  refine ⟨fun _ _ => ?_, fun _ _ _ => ?_, fun _ _ _ _ _ => ?_, fun _ _ _ _ _ _ _ => ?_⟩
  all_goals first
    | (unfold out0_A_9; rw [View.read_writes_eq_canon _ _ _ (by exact fun _ => cover0_A_9 ..)]; unfold kernelRun0_A)
    | (unfold out0_B_9; rw [View.read_writes_eq_canon _ _ _ (by exact fun _ => cover0_B_9 ..)]; unfold kernelRun0_B)
    | (unfold out0_C_9; rw [View.read_writes_eq_canon _ _ _ (by exact fun _ => cover0_C_9 ..)]; unfold kernelRun0_C)
    | (unfold out0_D_9; rw [View.read_writes_eq_canon _ _ _ (by exact fun _ => cover0_D_9 ..)]; unfold kernelRun0_D)
  all_goals dsimp only
  all_goals sl_unfold_words
  all_goals simp only [View.readAt_eq_ld, Memref.IsWhole.read_unread,
    View.ld_unit_zero (S := S512x1024) Mat.hz2, View.ld_unit_zero (S := S16x1024) Mat.hz2, View.ld_unit_zero (S := S1x1024) Mat.hz2,
    View.ld_unit_zero (S := S704x1024) Mat.hz2, View.ld_unit_zero (S := S1x128) Mat.hz2, shapeCast_self,
    scratch_read _ 0 16 (by omega), scratch_read _ 0 15 (by omega), scratch_read _ 0 14 (by omega),
    scratch_read _ 1 16 (by omega), scratch_read _ 1 15 (by omega), scratch_read _ 1 14 (by omega)]
  all_goals canon_tiles x e using (View.cover_of_tiled_head _ _ _ (by rfl) y)
  all_goals obtain ⟨a, b, r, j, rfl⟩ := Mat.ix4_of x
  all_goals have f2 : (y 2).val = r.val := e2
  all_goals have f3 : y 3 = j := Fin.ext e3
  all_goals first
    | have f1 : y 1 = (1 : Fin 2) := Fin.ext (show (y 1).val = 1 from Eq.trans e1 (show 1 + b.val = 1 by omega))
    | have f1 : y 1 = (0 : Fin 2) := Fin.ext (show (y 1).val = 0 from Eq.trans e1 (show b.val = 0 by omega))
  all_goals rw [f1, f2, f3]
  all_goals first
    | refine stored1_apply _ _ _ _ _ _ ?_ _ _ _ _
    | refine stored0_apply _ _ _ _ _ ?_ _ _ _ _
  all_goals first
    | refine conv0_apply _ (gate_apply hi h _ ?_) _ _ _ ?_ ?_ ?_
    | refine conv1_apply _ (value_apply hi h _ ?_) _ _ _ ?_ ?_ ?_
  all_goals (intros; pointwise []; first | exact h.h2 _ _ _ | exact h.h3 _ _ _)

/-- The carried block. -/
theorem out_S (hi : (i 0).val = n) (h : Blocks H W C Wd n x0 x1 x2 x3 x4) (y : S512x1024.Idx) :
    (∀ hc0 hc1, sout0_A_1 c i _ b2 _ b3 _ b4 _ b5 _ b6 _ b7 _ b8 _ b9 _ b10 _ b11 _ b12 _ b13 _ b14 _ b15 _ b16 _ b17
      hc0 hc1 x0 x1 x2 x3 x4 x5 x6 x7 y = x5 y + share H W C Wd (512 * n + (y 0).val) (y 1))
    ∧ (∀ hc0 hc1 xs1, sout0_B_1 c i _ b2 _ b3 _ b4 _ b5 _ b6 _ b7 _ b8 _ b9 _ b10 _ b11 _ b12 _ b13 _ b14 _ b15 _ b16 _ b17
      hc0 hc1 x0 x1 x2 x3 x4 x5 x6 x7 xs1 y = xs1 y + share H W C Wd (512 * n + (y 0).val) (y 1))
    ∧ (∀ hc0 hc1 hc2 hc3 xs1, sout0_C_1 c i _ b2 _ b3 _ b4 _ b5 _ b6 _ b7 _ b8 _ b9 _ b10 _ b11 _ b12 _ b13 _ b14 _ b15 _ b16 _ b17
      hc0 hc1 hc2 hc3 x0 x1 x2 x3 x4 x5 x6 x7 xs1 y = xs1 y + share H W C Wd (512 * n + (y 0).val) (y 1))
    ∧ (∀ hc0 hc1 hc2 hc3 xo12 xo13 xs1, sout0_D_1 c i _ b2 _ b3 _ b4 _ b5 _ b6 _ b7 _ b8 _ b9 _ b10 _ b11 _ b12 _ b13 _ b14 _ b15 _ b16 _ b17
      hc0 hc1 hc2 hc3 x0 x1 x2 x3 x4 x5 x6 x7 xo12 xo13 xs1 y = xs1 y + share H W C Wd (512 * n + (y 0).val) (y 1)) := by
  refine ⟨fun _ _ => ?_, fun _ _ _ => ?_, fun _ _ _ _ _ => ?_, fun _ _ _ _ _ _ _ => ?_⟩
  all_goals first
    | (unfold sout0_A_1; rw [View.read_writes_eq_canon _ _ _ (by exact fun _ => scover0_A_1 ..)]; unfold kernelRun0_A)
    | (unfold sout0_B_1; rw [View.read_writes_eq_canon _ _ _ (by exact fun _ => scover0_B_1 ..)]; unfold kernelRun0_B)
    | (unfold sout0_C_1; rw [View.read_writes_eq_canon _ _ _ (by exact fun _ => scover0_C_1 ..)]; unfold kernelRun0_C)
    | (unfold sout0_D_1; rw [View.read_writes_eq_canon _ _ _ (by exact fun _ => scover0_D_1 ..)]; unfold kernelRun0_D)
  all_goals dsimp only
  all_goals sl_unfold_words
  all_goals simp only [View.readAt_eq_ld, Memref.IsWhole.read_unread,
    View.ld_unit_zero (S := S512x1024) Mat.hz2, View.ld_unit_zero (S := S16x1024) Mat.hz2, View.ld_unit_zero (S := S1x1024) Mat.hz2,
    View.ld_unit_zero (S := S704x1024) Mat.hz2, View.ld_unit_zero (S := S1x128) Mat.hz2, shapeCast_self,
    scratch_read _ 0 16 (by omega), scratch_read _ 0 15 (by omega), scratch_read _ 0 14 (by omega),
    scratch_read _ 1 16 (by omega), scratch_read _ 1 15 (by omega), scratch_read _ 1 14 (by omega)]
  all_goals simp only [View.canon_unit_zero (S := S512x1024) Mat.hz2, View.canon_cons_unit_zero (S := S512x1024) Mat.hz2,
    View.canon_unit_zero (S := S1x1024) Mat.hz2, View.canon_unit_zero (S := S1x128) Mat.hz2,
    View.readCov_unit_zero (S := S512x1024) _ Mat.hz2, start_apply]
  all_goals obtain ⟨r, q, rfl⟩ := Mat.ix2_of y
  all_goals refine add_apply h _ _ _ _ _ _ _ _ ?_ ?_ r q
  all_goals first
    | refine conv0_apply _ (gate_apply hi h _ ?_) _ _ _ ?_ ?_ ?_
    | refine conv1_apply _ (value_apply hi h _ ?_) _ _ _ ?_ ?_ ?_
  all_goals (intros; pointwise []; first | exact h.h2 _ _ _ | exact h.h3 _ _ _)

/-- A tile's last point, alone and after others: the cotangent's block, the same in the other format, the gain's gradient so
    far, and the loss so far in every lane. -/
theorem out_last (hi : (i 0).val = n) (h : Blocks H W C Wd n x0 x1 x2 x3 x4) :
    (∀ (hc0 : ¬cond0_0 i) (hc1 : cond0_1 i) (hc2 : cond0_2 i) (hc3 : ¬cond0_3 i) (xs1 : Vec Ideal S512x1024 .f32),
      (∀ y, out0_C_10 c i _ b2 _ b3 _ b4 _ b5 _ b6 _ b7 _ b8 _ b9 _ b10 _ b11 _ b12 _ b13 _ b14 _ b15 _ b16 _ b17
        hc0 hc1 hc2 hc3 x0 x1 x2 x3 x4 x5 x6 x7 xs1 y = dback (fun q => xs1 (ix2 (y 0) q) + share H W C Wd (512 * n + (y 0).val) q) (fun q => x6 (ix2 (y 0) q)) (fun q => x7 (ix2 0 q)) (y 1)) ∧
      (∀ y, out0_C_11 c i _ b2 _ b3 _ b4 _ b5 _ b6 _ b7 _ b8 _ b9 _ b10 _ b11 _ b12 _ b13 _ b14 _ b15 _ b16 _ b17
        hc0 hc1 hc2 hc3 x0 x1 x2 x3 x4 x5 x6 x7 xs1 y = dback (fun q => xs1 (ix2 (y 0) q) + share H W C Wd (512 * n + (y 0).val) q) (fun q => x6 (ix2 (y 0) q)) (fun q => x7 (ix2 0 q)) (y 1)) ∧
      (∀ y, out0_C_12 c i _ b2 _ b3 _ b4 _ b5 _ b6 _ b7 _ b8 _ b9 _ b10 _ b11 _ b12 _ b13 _ b14 _ b15 _ b16 _ b17
        hc0 hc1 hc2 hc3 x0 x1 x2 x3 x4 x5 x6 x7 xs1 y = ∑ r : Fin 512, dgain (fun q => xs1 (ix2 r q) + share H W C Wd (512 * n + r.val) q) (fun q => x6 (ix2 r q)) (fun q => x7 (ix2 0 q)) (y 1)) ∧
      (∀ y, out0_C_13 c i _ b2 _ b3 _ b4 _ b5 _ b6 _ b7 _ b8 _ b9 _ b10 _ b11 _ b12 _ b13 _ b14 _ b15 _ b16 _ b17
        hc0 hc1 hc2 hc3 x0 x1 x2 x3 x4 x5 x6 x7 xs1 y = Ideal.ofBits .f32 0x3F000000#32 * ∑ r : Fin 512, lossRow (fun q => xs1 (ix2 r q) + share H W C Wd (512 * n + r.val) q) (fun q => x6 (ix2 r q)) (fun q => x7 (ix2 0 q))))
    ∧ (∀ (hc0 : ¬cond0_0 i) (hc1 : cond0_1 i) (hc2 : ¬cond0_2 i) (hc3 : cond0_3 i) (xo12 : Vec Ideal S1x1024 .f32)
      (xo13 : Vec Ideal S1x128 .f32) (xs1 : Vec Ideal S512x1024 .f32),
      (∀ y, out0_D_10 c i _ b2 _ b3 _ b4 _ b5 _ b6 _ b7 _ b8 _ b9 _ b10 _ b11 _ b12 _ b13 _ b14 _ b15 _ b16 _ b17
        hc0 hc1 hc2 hc3 x0 x1 x2 x3 x4 x5 x6 x7 xo12 xo13 xs1 y = dback (fun q => xs1 (ix2 (y 0) q) + share H W C Wd (512 * n + (y 0).val) q) (fun q => x6 (ix2 (y 0) q)) (fun q => x7 (ix2 0 q)) (y 1)) ∧
      (∀ y, out0_D_11 c i _ b2 _ b3 _ b4 _ b5 _ b6 _ b7 _ b8 _ b9 _ b10 _ b11 _ b12 _ b13 _ b14 _ b15 _ b16 _ b17
        hc0 hc1 hc2 hc3 x0 x1 x2 x3 x4 x5 x6 x7 xo12 xo13 xs1 y = dback (fun q => xs1 (ix2 (y 0) q) + share H W C Wd (512 * n + (y 0).val) q) (fun q => x6 (ix2 (y 0) q)) (fun q => x7 (ix2 0 q)) (y 1)) ∧
      (∀ y, out0_D_12 c i _ b2 _ b3 _ b4 _ b5 _ b6 _ b7 _ b8 _ b9 _ b10 _ b11 _ b12 _ b13 _ b14 _ b15 _ b16 _ b17
        hc0 hc1 hc2 hc3 x0 x1 x2 x3 x4 x5 x6 x7 xo12 xo13 xs1 y = xo12 y + ∑ r : Fin 512, dgain (fun q => xs1 (ix2 r q) + share H W C Wd (512 * n + r.val) q) (fun q => x6 (ix2 r q)) (fun q => x7 (ix2 0 q)) (y 1)) ∧
      (∀ y, out0_D_13 c i _ b2 _ b3 _ b4 _ b5 _ b6 _ b7 _ b8 _ b9 _ b10 _ b11 _ b12 _ b13 _ b14 _ b15 _ b16 _ b17
        hc0 hc1 hc2 hc3 x0 x1 x2 x3 x4 x5 x6 x7 xo12 xo13 xs1 y = xo13 y + Ideal.ofBits .f32 0x3F000000#32 * ∑ r : Fin 512, lossRow (fun q => xs1 (ix2 r q) + share H W C Wd (512 * n + r.val) q) (fun q => x6 (ix2 r q)) (fun q => x7 (ix2 0 q)))) := by
  refine ⟨fun _ _ _ _ _ => ⟨fun y => ?_, fun y => ?_, fun y => ?_, fun y => ?_⟩,
    fun _ _ _ _ _ _ _ => ⟨fun y => ?_, fun y => ?_, fun y => ?_, fun y => ?_⟩⟩
  all_goals first
    | (unfold out0_C_10; rw [View.read_writes_eq_canon _ _ _ (by exact fun _ => cover0_C_10 ..)]; unfold kernelRun0_C)
    | (unfold out0_D_10; rw [View.read_writes_eq_canon _ _ _ (by exact fun _ => cover0_D_10 ..)]; unfold kernelRun0_D)
    | (unfold out0_C_11; rw [View.read_writes_eq_canon _ _ _ (by exact fun _ => cover0_C_11 ..)]; unfold kernelRun0_C)
    | (unfold out0_D_11; rw [View.read_writes_eq_canon _ _ _ (by exact fun _ => cover0_D_11 ..)]; unfold kernelRun0_D)
    | (unfold out0_C_12; rw [View.read_writes_eq_canon _ _ _ (by exact fun _ => cover0_C_12 ..)]; unfold kernelRun0_C)
    | (unfold out0_D_12; rw [View.read_writes_eq_canon _ _ _ (by exact fun _ => cover0_D_12 ..)]; unfold kernelRun0_D)
    | (unfold out0_C_13; rw [View.read_writes_eq_canon _ _ _ (by exact fun _ => cover0_C_13 ..)]; unfold kernelRun0_C)
    | (unfold out0_D_13; rw [View.read_writes_eq_canon _ _ _ (by exact fun _ => cover0_D_13 ..)]; unfold kernelRun0_D)
  all_goals dsimp only
  all_goals sl_unfold_words
  all_goals simp only [View.readAt_eq_ld, Memref.IsWhole.read_unread,
    View.ld_unit_zero (S := S512x1024) Mat.hz2, View.ld_unit_zero (S := S16x1024) Mat.hz2, View.ld_unit_zero (S := S1x1024) Mat.hz2,
    View.ld_unit_zero (S := S704x1024) Mat.hz2, View.ld_unit_zero (S := S1x128) Mat.hz2, shapeCast_self,
    scratch_read _ 0 16 (by omega), scratch_read _ 0 15 (by omega), scratch_read _ 0 14 (by omega),
    scratch_read _ 1 16 (by omega), scratch_read _ 1 15 (by omega), scratch_read _ 1 14 (by omega)]
  all_goals simp only [View.canon_unit_zero (S := S512x1024) Mat.hz2, View.canon_cons_unit_zero (S := S512x1024) Mat.hz2,
    View.canon_unit_zero (S := S1x1024) Mat.hz2, View.canon_unit_zero (S := S1x128) Mat.hz2,
    View.readCov_unit_zero (S := S512x1024) _ Mat.hz2, start_apply]
  all_goals obtain ⟨a, b, rfl⟩ := Mat.ix2_of y
  all_goals first
    | (refine (dx_apply _ _ _ a b).trans (congrArg (fun X => dback X _ _ b) (funext fun q => ?_))
       refine add_apply h _ _ _ _ _ _ _ _ ?_ ?_ a q)
    | (refine (dxb_apply _ a b).trans ((dx_apply _ _ _ a b).trans (congrArg (fun X => dback X _ _ b) (funext fun q => ?_)))
       refine add_apply h _ _ _ _ _ _ _ _ ?_ ?_ a q)
    | (obtain rfl := Fin.fin_one_eq_zero a
       first
         | refine (dg_apply _ _ _ b).trans (Finset.sum_congr rfl fun r _ => congrArg (fun X => dgain X _ _ b) (funext fun q => ?_))
         | refine (dgs_apply _ _ b).trans (congrArg (fun p : EReal => _ + p) ((dg_apply _ _ _ b).trans (Finset.sum_congr rfl fun r _ =>
             congrArg (fun X => dgain X _ _ b) (funext fun q => ?_))))
         | refine (lane_apply _ b).trans ((loss_apply _ _ _).trans (congrArg (fun p : EReal => _ * p) (Finset.sum_congr rfl fun r _ =>
             congrArg (fun X => lossRow X _ _) (funext fun q => ?_))))
         | refine (lanes_apply _ _ b).trans (congrArg (fun p : EReal => _ + p) ((loss_apply _ _ _).trans
             (congrArg (fun p : EReal => _ * p) (Finset.sum_congr rfl fun r _ => congrArg (fun X => lossRow X _ _) (funext fun q => ?_)))))
       refine add_apply h _ _ _ _ _ _ _ _ ?_ ?_ r q)
  all_goals first
    | refine conv0_apply _ (gate_apply hi h _ ?_) _ _ _ ?_ ?_ ?_
    | refine conv1_apply _ (value_apply hi h _ ?_) _ _ _ ?_ ?_ ?_
  all_goals (intros; pointwise []; first | exact h.h2 _ _ _ | exact h.h3 _ _ _)

end

end Cert.Ffn1

namespace Cert.Ffn1

section

open Cert.Kernel10Ideal Cert.Kernel10Ideal.Gen Cert.Mat Cert.Ffn Idealize.ShloMosaic Idealize.ShloMosaic.TcCoe
  Idealize.SL.Sem

variable (m : (ℓ : Loc nD τ sig) → Buf (Elt Ideal) ℓ) (c : Dev nD)

/-- The layer's normed input, as launched. -/
def mH : Vec Ideal S4096x1024 .bf16 := m ((c : Thread nD τ).loc main_arg0)
/-- The residual stream. -/
def mX : Vec Ideal S4096x1024 .f32 := m ((c : Thread nD τ).loc main_arg1)
/-- The up projection, half by half and group by group. -/
def mW : Vec Ideal S2x4x1024x704 .bf16 := m ((c : Thread nD τ).loc main_arg2)
/-- The taps. -/
def mC : Vec Ideal S2x4x3x704 .f32 := m ((c : Thread nD τ).loc main_arg3)
/-- The down projection. -/
def mD : Vec Ideal S2816x1024 .bf16 := m ((c : Thread nD τ).loc main_arg4)
/-- The target. -/
def mT : Vec Ideal S4096x1024 .f32 := m ((c : Thread nD τ).loc main_arg5)
/-- The last norm's gain. -/
def mG : Vec Ideal S1x1024 .f32 := m ((c : Thread nD τ).loc main_arg6)

theorem coords_at : ∀ t : Fin grid0.N, (grid0.coords t 0).val = t.val / 4 ∧ (grid0.coords t 1).val = t.val % 4 := by
  decide +kernel
theorem index_0 : ∀ t : Fin grid0.N, win0_0.index t 0 = t.val / 4 ∧ win0_0.index t 1 = 0 := by decide +kernel
theorem index_1 : ∀ t : Fin grid0.N, (0 < t.val / 4 → win0_1.index t 0 = 32 * (t.val / 4) - 1) ∧ win0_1.index t 1 = 0 := by
  decide +kernel
theorem index_2 : ∀ t : Fin grid0.N, win0_2.index t 0 = 0 ∧ win0_2.index t 1 = t.val % 4 ∧ win0_2.index t 2 = 0
    ∧ win0_2.index t 3 = 0 := by decide +kernel
theorem index_3 : ∀ t : Fin grid0.N, win0_3.index t 0 = 0 ∧ win0_3.index t 1 = t.val % 4 ∧ win0_3.index t 2 = 0
    ∧ win0_3.index t 3 = 0 := by decide +kernel
theorem index_4 : ∀ t : Fin grid0.N, win0_4.index t 0 = t.val % 4 ∧ win0_4.index t 1 = 0 := by decide +kernel
theorem index_5 : ∀ t : Fin grid0.N, win0_5.index t 0 = t.val / 4 ∧ win0_5.index t 1 = 0 := by decide +kernel
theorem index_6 : ∀ t : Fin grid0.N, win0_6.index t 0 = t.val / 4 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = t.val % 4 ∧ win0_8.index t 1 = 0 ∧ win0_8.index t 2 = t.val / 4
    ∧ win0_8.index t 3 = 0 := by decide +kernel
theorem index_9 : ∀ t : Fin grid0.N, win0_9.index t 0 = t.val % 4 ∧ win0_9.index t 1 = 0 ∧ win0_9.index t 2 = t.val / 4
    ∧ win0_9.index t 3 = 0 := by decide +kernel
theorem index_10 : ∀ t : Fin grid0.N, win0_10.index t 0 = t.val / 4 ∧ win0_10.index t 1 = 0 := by decide +kernel
theorem index_11 : ∀ t : Fin grid0.N, win0_11.index t 0 = t.val / 4 ∧ win0_11.index t 1 = 0 := by decide +kernel
theorem index_12 : ∀ t : Fin grid0.N, win0_12.index t 0 = 0 ∧ win0_12.index t 1 = 0 := by decide +kernel
theorem index_13 : ∀ t : Fin grid0.N, win0_13.index t 0 = 0 ∧ win0_13.index t 1 = 0 := by decide +kernel

/-- A row of the input, as a row of the padded one. -/
theorem padded_of (h : (⟨2, ![4096, 1024]⟩ : Shape).Idx → EReal) (i : (⟨2, ![4096, 1024]⟩ : Shape).Idx) (s : ℕ)
    (k : Fin 1024) (h0 : (i 0).val + 16 = s) (h1 : (i 1).val = k.val) : h i = padded h s k := by
  unfold padded
  rw [if_pos (by omega)]
  exact at2_of h i _ _ (by omega) h1

/-- The blocks the body reads at point `t` hold the arguments' parts. -/
theorem blocks (t : Fin cfg0.N) : Blocks (padded (mH m c)) (upw (mW m c) (grp t.val)) (taps (mC m c) (grp t.val))
    (downw (mD m c) (grp t.val)) (t.val / 4) (iblk m c 0 t) (iblk m c 1 t) (iblk m c 2 t) (iblk m c 3 t)
    (iblk m c 4 t) := by
  have hN : t.val < 32 := lt_of_lt_of_eq t.isLt N_0
  constructor
  case hn => omega
  case hH => intro s k hs; unfold padded; exact if_neg (by omega)
  case h0 =>
    intro r k
    obtain ⟨e0, e1⟩ := index_0 t
    refine padded_of (mH m c) _ _ _ ?_ ?_
    · show win0_0.index t 0 * 512 + 1 * r.val + 16 = _; rw [e0]; omega
    · show win0_0.index t 1 * 1024 + 1 * k.val = _; rw [e1]; omega
  case h1 =>
    intro r k hp
    obtain ⟨e0, e1⟩ := index_1 t
    refine padded_of (mH m c) _ _ _ ?_ ?_
    · show win0_1.index t 0 * 16 + 1 * r.val + 16 = _; rw [e0 hp]; omega
    · show win0_1.index t 1 * 1024 + 1 * k.val = _; rw [e1]; omega
  case h2 =>
    intro gv k j
    obtain ⟨e0, e1, e2, e3⟩ := index_2 t
    refine congrArg (mW m c) (funext fun a => Fin.ext ?_)
    match a with
    | ⟨0, _⟩ => show win0_2.index t 0 * 2 + 1 * gv.val = gv.val; omega
    | ⟨1, _⟩ => show win0_2.index t 1 * 1 + 1 * 0 = t.val % 4; omega
    | ⟨2, _⟩ => show win0_2.index t 2 * 1024 + 1 * k.val = k.val; omega
    | ⟨3, _⟩ => show win0_2.index t 3 * 704 + 1 * j.val = j.val; omega
  case h3 =>
    intro gv k j
    obtain ⟨e0, e1, e2, e3⟩ := index_3 t
    refine congrArg (mC m c) (funext fun a => Fin.ext ?_)
    match a with
    | ⟨0, _⟩ => show win0_3.index t 0 * 2 + 1 * gv.val = gv.val; omega
    | ⟨1, _⟩ => show win0_3.index t 1 * 1 + 1 * 0 = t.val % 4; omega
    | ⟨2, _⟩ => show win0_3.index t 2 * 3 + 1 * k.val = k.val; omega
    | ⟨3, _⟩ => show win0_3.index t 3 * 704 + 1 * j.val = j.val; omega
  case h4 =>
    intro j q
    obtain ⟨e0, e1⟩ := index_4 t
    refine congrArg (mD m c) (funext fun a => Fin.ext ?_)
    match a with
    | ⟨0, _⟩ => show win0_4.index t 0 * 704 + 1 * j.val = 704 * (t.val % 4) + j.val; omega
    | ⟨1, _⟩ => show win0_4.index t 1 * 1024 + 1 * q.val = q.val; omega

/-- The residual's block at point `t`. -/
theorem block5 (t : Fin cfg0.N) (y : S512x1024.Idx) :
    iblk m c 5 t y = at2 (R := 4096) (C := 1024) (mX m c) (512 * (t.val / 4) + (y 0).val) (y 1).val := by
  obtain ⟨e0, e1⟩ := index_5 t
  refine at2_of (R := 4096) (C := 1024) (mX m c) _ _ _ ?_ ?_
  · show win0_5.index t 0 * 512 + 1 * (y 0).val = _; omega
  · show win0_5.index t 1 * 1024 + 1 * (y 1).val = _; omega

/-- The target's block at point `t`. -/
theorem block6 (t : Fin cfg0.N) (y : S512x1024.Idx) :
    iblk m c 6 t y = at2 (R := 4096) (C := 1024) (mT m c) (512 * (t.val / 4) + (y 0).val) (y 1).val := by
  obtain ⟨e0, e1⟩ := index_6 t
  refine at2_of (R := 4096) (C := 1024) (mT m c) _ _ _ ?_ ?_
  · show win0_6.index t 0 * 512 + 1 * (y 0).val = _; omega
  · show win0_6.index t 1 * 1024 + 1 * (y 1).val = _; omega

/-- The gain's block. -/
theorem block7 (t : Fin cfg0.N) (q : Fin 1024) : iblk m c 7 t (ix2 0 q) = mG m c (ix2 0 q) := by
  obtain ⟨e0, e1⟩ := index_7 t
  refine congrArg (mG m c) (funext fun a => Fin.ext ?_)
  match a with
  | ⟨0, _⟩ => show win0_7.index t 0 * 1 + 1 * 0 = 0; omega
  | ⟨1, _⟩ => show win0_7.index t 1 * 1024 + 1 * q.val = q.val; omega

/-- The up projection, as contents of its array. -/
def gUp : Vec Ideal S4x2x4096x704 .bf16 := fun i =>
  pre (padded (mH m c)) (upw (mW m c) (i 0)) (i 1) ((i 2).val + 16) (i 3)

/-- What a point leaves for it, at an index. -/
theorem outs_8 (t : Fin cfg0.N) (y : S1x2x512x704.Idx) : (outsAt0 m c t.val t.isLt).1 y
    = pre (padded (mH m c)) (upw (mW m c) (grp t.val)) (y 1) (512 * (t.val / 4) + (y 2).val + 16) (y 3) := by
  have hi : (grid0.coords t 0).val = t.val / 4 := (coords_at t).1
  by_cases h0 : t.val % 4 = 0
  · rw [outsAt0_A m c t h0 (by omega)]; dsimp only
    exact (out_8 (hi := hi) (h := blocks m c t) ..).1 _ _
  · by_cases h1 : t.val % 4 = 3
    · by_cases h2 : t.val < 4
      · rw [outsAt0_C m c t h0 h1 h2 (by omega)]; dsimp only
        exact (out_8 (hi := hi) (h := blocks m c t) ..).2.2.1 _ _ _ _ _
      · rw [outsAt0_D m c t h0 h1 h2 (by omega)]; dsimp only
        exact (out_8 (hi := hi) (h := blocks m c t) ..).2.2.2 _ _ _ _ _ _ _
    · rw [outsAt0_B m c t h0 h1]; dsimp only
      exact (out_8 (hi := hi) (h := blocks m c t) ..).2.1 _ _ _

/-- Every point writes back its block of it. -/
theorem flushed_8 (t : Fin cfg0.N) (_ : (cfg0.win 8).flush t = true) :
    (dats m 0 c).flushed 8 t = ((cfg0.win 8).blk t).view.read (Elt Ideal) (gUp m c) := by
  rw [flushed8]
  funext y
  refine (outs_8 m c t y).trans ?_
  obtain ⟨e0, e1, e2, e3⟩ := index_8 t
  have y0 : (y 0).val < 1 := (y 0).isLt
  have key : ∀ i : S4x2x4096x704.Idx, (i 0).val = t.val % 4 → (i 1).val = (y 1).val →
      (i 2).val = 512 * (t.val / 4) + (y 2).val → (i 3).val = (y 3).val →
      pre (padded (mH m c)) (upw (mW m c) (grp t.val)) (y 1) (512 * (t.val / 4) + (y 2).val + 16) (y 3)
        = gUp m c i := by
    intro i h0 h1 h2 h3
    unfold gUp
    rw [show i 0 = grp t.val from Fin.ext h0, show i 1 = y 1 from Fin.ext h1, show i 3 = y 3 from Fin.ext h3, h2]
  refine key _ ?_ ?_ ?_ ?_
  · show win0_8.index t 0 * 1 + 1 * (y 0).val = _; omega
  · show win0_8.index t 1 * 2 + 1 * (y 1).val = _; omega
  · show win0_8.index t 2 * 512 + 1 * (y 2).val = _; omega
  · show win0_8.index t 3 * 704 + 1 * (y 3).val = _; omega

/-- So the array ends holding it. -/
theorem final_8 : (dats m 0 c).arrAt 8 cfg0.N = gUp m c :=
  (dats m 0 c).arrAt_eq_of_cover 8 (gUp m c) (flushed_8 m c) fun i => by
    have h0 : (i 0 : Nat) < 4 := (i 0).isLt
    have h1 : (i 1 : Nat) < 2 := (i 1).isLt
    have h2 : (i 2 : Nat) < 4096 := (i 2).isLt
    have h3 : (i 3 : Nat) < 704 := (i 3).isLt
    have hp : 4 * ((i 2 : Nat) / 512) + (i 0 : Nat) < 32 := by omega
    have hN : 4 * ((i 2 : Nat) / 512) + (i 0 : Nat) < cfg0.N := lt_of_lt_of_eq hp N_0.symm
    refine ⟨⟨4 * ((i 2 : Nat) / 512) + (i 0 : Nat), hN⟩, flush0_8 _, ?_⟩
    obtain ⟨e0, e1, e2, e3⟩ := index_8 ⟨4 * ((i 2 : Nat) / 512) + (i 0 : Nat), hN⟩
    show i ∈ ((View.whole main_v0_0).slice (win0_8.rect ⟨4 * ((i 2 : Nat) / 512) + (i 0 : Nat), hN⟩)).set
    rw [View.set_slice_whole, Rect.mem_set_unit]
    dsimp only at e0 e2
    generalize (⟨4 * ((i 2 : Nat) / 512) + (i 0 : Nat), hN⟩ : Fin grid0.N) = t at e0 e1 e2 e3 ⊢
    intro a
    match a with
    | ⟨0, _⟩ => show Mat.In (win0_8.index t 0) 1 (i 0); omega
    | ⟨1, _⟩ => show Mat.In (win0_8.index t 1) 2 (i 1); omega
    | ⟨2, _⟩ => show Mat.In (win0_8.index t 2) 512 (i 2); omega
    | ⟨3, _⟩ => show Mat.In (win0_8.index t 3) 704 (i 3); omega

/-- The convolved up projection, as contents of its array. -/
def gConv : Vec Ideal S4x2x4096x704 .bf16 := fun i =>
  conv (padded (mH m c)) (upw (mW m c) (i 0)) (taps (mC m c) (i 0)) (i 1) ((i 2).val) (i 3)

/-- What a point leaves for it, at an index. -/
theorem outs_9 (t : Fin cfg0.N) (y : S1x2x512x704.Idx) : (outsAt0 m c t.val t.isLt).2.1 y
    = conv (padded (mH m c)) (upw (mW m c) (grp t.val)) (taps (mC m c) (grp t.val)) (y 1) (512 * (t.val / 4) + (y 2).val) (y 3) := by
  have hi : (grid0.coords t 0).val = t.val / 4 := (coords_at t).1
  by_cases h0 : t.val % 4 = 0
  · rw [outsAt0_A m c t h0 (by omega)]; dsimp only
    exact (out_9 (hi := hi) (h := blocks m c t) ..).1 _ _
  · by_cases h1 : t.val % 4 = 3
    · by_cases h2 : t.val < 4
      · rw [outsAt0_C m c t h0 h1 h2 (by omega)]; dsimp only
        exact (out_9 (hi := hi) (h := blocks m c t) ..).2.2.1 _ _ _ _ _
      · rw [outsAt0_D m c t h0 h1 h2 (by omega)]; dsimp only
        exact (out_9 (hi := hi) (h := blocks m c t) ..).2.2.2 _ _ _ _ _ _ _
    · rw [outsAt0_B m c t h0 h1]; dsimp only
      exact (out_9 (hi := hi) (h := blocks m c t) ..).2.1 _ _ _

/-- Every point writes back its block of it. -/
theorem flushed_9 (t : Fin cfg0.N) (_ : (cfg0.win 9).flush t = true) :
    (dats m 0 c).flushed 9 t = ((cfg0.win 9).blk t).view.read (Elt Ideal) (gConv m c) := by
  rw [flushed9]
  funext y
  refine (outs_9 m c t y).trans ?_
  obtain ⟨e0, e1, e2, e3⟩ := index_9 t
  have y0 : (y 0).val < 1 := (y 0).isLt
  have key : ∀ i : S4x2x4096x704.Idx, (i 0).val = t.val % 4 → (i 1).val = (y 1).val →
      (i 2).val = 512 * (t.val / 4) + (y 2).val → (i 3).val = (y 3).val →
      conv (padded (mH m c)) (upw (mW m c) (grp t.val)) (taps (mC m c) (grp t.val)) (y 1) (512 * (t.val / 4) + (y 2).val) (y 3)
        = gConv m c i := by
    intro i h0 h1 h2 h3
    unfold gConv
    rw [show i 0 = grp t.val from Fin.ext h0, show i 1 = y 1 from Fin.ext h1, show i 3 = y 3 from Fin.ext h3, h2]
  refine key _ ?_ ?_ ?_ ?_
  · show win0_9.index t 0 * 1 + 1 * (y 0).val = _; omega
  · show win0_9.index t 1 * 2 + 1 * (y 1).val = _; omega
  · show win0_9.index t 2 * 512 + 1 * (y 2).val = _; omega
  · show win0_9.index t 3 * 704 + 1 * (y 3).val = _; omega

/-- So the array ends holding it. -/
theorem final_9 : (dats m 0 c).arrAt 9 cfg0.N = gConv m c :=
  (dats m 0 c).arrAt_eq_of_cover 9 (gConv m c) (flushed_9 m c) fun i => by
    have h0 : (i 0 : Nat) < 4 := (i 0).isLt
    have h1 : (i 1 : Nat) < 2 := (i 1).isLt
    have h2 : (i 2 : Nat) < 4096 := (i 2).isLt
    have h3 : (i 3 : Nat) < 704 := (i 3).isLt
    have hp : 4 * ((i 2 : Nat) / 512) + (i 0 : Nat) < 32 := by omega
    have hN : 4 * ((i 2 : Nat) / 512) + (i 0 : Nat) < cfg0.N := lt_of_lt_of_eq hp N_0.symm
    refine ⟨⟨4 * ((i 2 : Nat) / 512) + (i 0 : Nat), hN⟩, flush0_9 _, ?_⟩
    obtain ⟨e0, e1, e2, e3⟩ := index_9 ⟨4 * ((i 2 : Nat) / 512) + (i 0 : Nat), hN⟩
    show i ∈ ((View.whole main_v0_1).slice (win0_9.rect ⟨4 * ((i 2 : Nat) / 512) + (i 0 : Nat), hN⟩)).set
    rw [View.set_slice_whole, Rect.mem_set_unit]
    dsimp only at e0 e2
    generalize (⟨4 * ((i 2 : Nat) / 512) + (i 0 : Nat), hN⟩ : Fin grid0.N) = t at e0 e1 e2 e3 ⊢
    intro a
    match a with
    | ⟨0, _⟩ => show Mat.In (win0_9.index t 0) 1 (i 0); omega
    | ⟨1, _⟩ => show Mat.In (win0_9.index t 1) 2 (i 1); omega
    | ⟨2, _⟩ => show Mat.In (win0_9.index t 2) 512 (i 2); omega
    | ⟨3, _⟩ => show Mat.In (win0_9.index t 3) 704 (i 3); omega

/-- What the points up to `n` carry: the residual and the shares of the tile's groups so far. -/
theorem carried : ∀ (n : ℕ) (hn : n < cfg0.N) (y : S512x1024.Idx), (outsAt0 m c n hn).2.2.2.2.2.2 y
    = upto (at2 (R := 4096) (C := 1024) (mX m c) (512 * (n / 4) + (y 0).val) (y 1).val)
        (shares (mH m c) (mW m c) (mC m c) (mD m c) (512 * (n / 4) + (y 0).val) (y 1)) (n % 4)
  | 0, hn, y => by
    have e := outsAt0_A m c ⟨0, hn⟩ rfl (by simp)
    refine (congrArg (fun p => p.2.2.2.2.2.2 y) e).trans ?_
    dsimp only
    refine ((out_S (hi := (coords_at ⟨0, hn⟩).1) (h := blocks m c ⟨0, hn⟩) ..).1 _ _).trans ?_
    rw [block5]
    rfl
  | n + 1, hn, y => by
    by_cases h0 : (n + 1) % 4 = 0
    · have e := outsAt0_A m c ⟨n + 1, hn⟩ h0 (by show ¬(n + 1) % 4 = 3; omega)
      refine (congrArg (fun p => p.2.2.2.2.2.2 y) e).trans ?_
      dsimp only
      refine ((out_S (hi := (coords_at ⟨n + 1, hn⟩).1) (h := blocks m c ⟨n + 1, hn⟩) ..).1 _ _).trans ?_
      rw [block5, h0]
      refine congrArg (fun g => _ + share (padded (mH m c)) (upw (mW m c) g) (taps (mC m c) g) (downw (mD m c) g) _ _) ?_
      exact Fin.ext h0
    · have hd : (n + 1) / 4 = n / 4 := by omega
      have hm : (n + 1) % 4 = n % 4 + 1 := by omega
      have hg : grp (n + 1) = grp (n % 4 + 1) := Fin.ext (by show (n + 1) % 4 = (n % 4 + 1) % 4; omega)
      by_cases h1 : (n + 1) % 4 = 3
      · by_cases h2 : n + 1 < 4
        · have e := outsAt0_C m c ⟨n + 1, hn⟩ h0 h1 h2 (by show ¬4 ≤ n + 1; omega)
          refine (congrArg (fun p => p.2.2.2.2.2.2 y) e).trans ?_
          dsimp only
          refine ((out_S (hi := (coords_at ⟨n + 1, hn⟩).1) (h := blocks m c ⟨n + 1, hn⟩) ..).2.2.1 _ _ _ _ _).trans ?_
          refine (congrArg (· + _) (carried n (Nat.lt_of_succ_lt hn) y)).trans ?_
          rw [hd, hm]
          refine congrArg (fun g => _ + share (padded (mH m c)) (upw (mW m c) g) (taps (mC m c) g) (downw (mD m c) g) _ _) hg
        · have e := outsAt0_D m c ⟨n + 1, hn⟩ h0 h1 h2 (by show 4 ≤ n + 1; omega)
          refine (congrArg (fun p => p.2.2.2.2.2.2 y) e).trans ?_
          dsimp only
          refine ((out_S (hi := (coords_at ⟨n + 1, hn⟩).1) (h := blocks m c ⟨n + 1, hn⟩) ..).2.2.2 _ _ _ _ _ _ _).trans ?_
          refine (congrArg (· + _) (carried n (Nat.lt_of_succ_lt hn) y)).trans ?_
          rw [hd, hm]
          refine congrArg (fun g => _ + share (padded (mH m c)) (upw (mW m c) g) (taps (mC m c) g) (downw (mD m c) g) _ _) hg
      · have e := outsAt0_B m c ⟨n + 1, hn⟩ h0 h1
        refine (congrArg (fun p => p.2.2.2.2.2.2 y) e).trans ?_
        dsimp only
        refine ((out_S (hi := (coords_at ⟨n + 1, hn⟩).1) (h := blocks m c ⟨n + 1, hn⟩) ..).2.1 _ _ _).trans ?_
        refine (congrArg (· + _) (carried n (Nat.lt_of_succ_lt hn) y)).trans ?_
        rw [hd, hm]
        refine congrArg (fun g => _ + share (padded (mH m c)) (upw (mW m c) g) (taps (mC m c) g) (downw (mD m c) g) _ _) hg

end

section

open Cert.Kernel10Ideal Cert.Kernel10Ideal.Gen Cert.Mat Cert.Ffn Idealize.ShloMosaic Idealize.ShloMosaic.TcCoe
  Idealize.SL.Sem

variable (m : (ℓ : Loc nD τ sig) → Buf (Elt Ideal) ℓ) (c : Dev nD)

/-- The layer's input plus its output. -/
def mOut (t : ℕ) (q : Fin 1024) : EReal := out (mH m c) (mX m c) (mW m c) (mC m c) (mD m c) t q

/-- The target's row. -/
def mRow (t : ℕ) (q : Fin 1024) : EReal := at2 (R := 4096) (C := 1024) (mT m c) t q.val

/-- The gain. -/
def mGain (q : Fin 1024) : EReal := mG m c (ix2 0 q)

/-- At a tile's last point the carried block and the last share make the finished rows. -/
theorem finished (n : ℕ) (hn : n + 1 < cfg0.N) (h3 : (n + 1) % 4 = 3) (r : Fin 512) (q : Fin 1024) :
    (outsAt0 m c n (Nat.lt_of_succ_lt hn)).2.2.2.2.2.2 (ix2 r q)
      + share (padded (mH m c)) (upw (mW m c) (grp (n + 1))) (taps (mC m c) (grp (n + 1))) (downw (mD m c) (grp (n + 1)))
          (512 * ((n + 1) / 4) + r.val) q = mOut m c (512 * ((n + 1) / 4) + r.val) q := by
  refine (congrArg (· + _) (carried m c n (Nat.lt_of_succ_lt hn) (ix2 r q))).trans ?_
  have hd : (n + 1) / 4 = n / 4 := by omega
  have hm : n % 4 = 2 := by omega
  have hg : grp (n + 1) = grp 3 := Fin.ext (by show (n + 1) % 4 = 3 % 4; omega)
  rw [hd, hm, hg]
  rfl

/-- The row's cotangent, as contents of its array. -/
def gDx : Vec Ideal S4096x1024 .f32 := fun i =>
  dback (mOut m c (i 0).val) (mRow m c (i 0).val) (mGain m c) (i 1)

/-- What a tile's last point leaves for it. -/
theorem last_10 : ∀ (n : ℕ) (hn : n < cfg0.N) (_ : n % 4 = 3) (y : S512x1024.Idx), (outsAt0 m c n hn).2.2.1 y
    = dback (mOut m c (512 * (n / 4) + (y 0).val)) (mRow m c (512 * (n / 4) + (y 0).val)) (mGain m c) (y 1)
  | 0, _, h3, _ => absurd h3 (by decide)
  | n + 1, hn, h3, y => by
    have h0 : ¬(n + 1) % 4 = 0 := by omega
    have hx : ∀ a b d : Fin 1024 → EReal, ∀ a' b' d' : Fin 1024 → EReal, a = a' → b = b' → d = d' →
        dback a b d (y 1) = dback a' b' d' (y 1) := by
      intro a b d a' b' d' h1 h2 h3; rw [h1, h2, h3]
    by_cases h2 : n + 1 < 4
    · have e := outsAt0_C m c ⟨n + 1, hn⟩ h0 h3 h2 (by show ¬4 ≤ n + 1; omega)
      refine (congrArg (fun p => p.2.2.1 y) e).trans ?_
      dsimp only
      refine (((out_last (hi := (coords_at ⟨n + 1, hn⟩).1) (h := blocks m c ⟨n + 1, hn⟩) ..).1 _ _ _ _ _).1 y).trans ?_
      refine hx _ _ _ _ _ _ (funext fun q => ?_) (funext fun q => ?_) (funext fun q => block7 m c ⟨n + 1, hn⟩ q)
      · exact finished m c n hn h3 (y 0) q
      · exact block6 m c ⟨n + 1, hn⟩ (ix2 (y 0) q)
    · have e := outsAt0_D m c ⟨n + 1, hn⟩ h0 h3 h2 (by show 4 ≤ n + 1; omega)
      refine (congrArg (fun p => p.2.2.1 y) e).trans ?_
      dsimp only
      refine (((out_last (hi := (coords_at ⟨n + 1, hn⟩).1) (h := blocks m c ⟨n + 1, hn⟩) ..).2 _ _ _ _ _ _ _).1 y).trans ?_
      refine hx _ _ _ _ _ _ (funext fun q => ?_) (funext fun q => ?_) (funext fun q => block7 m c ⟨n + 1, hn⟩ q)
      · exact finished m c n hn h3 (y 0) q
      · exact block6 m c ⟨n + 1, hn⟩ (ix2 (y 0) q)

/-- A tile's last point writes back its block of it. -/
theorem flushed_10 (t : Fin cfg0.N) (hf : (cfg0.win 10).flush t = true) :
    (dats m 0 c).flushed 10 t = ((cfg0.win 10).blk t).view.read (Elt Ideal) (gDx m c) := by
  rw [flushed10]
  funext y
  refine (last_10 m c t.val t.isLt ((flush0_10 t).mp hf) y).trans ?_
  obtain ⟨e0, e1⟩ := index_10 t
  show _ = gDx m c _
  unfold gDx
  refine congrArg₂ (fun t q => dback (mOut m c t) (mRow m c t) (mGain m c) q) ?_ (Fin.ext ?_)
  · show _ = win0_10.index t 0 * 512 + 1 * (y 0).val; omega
  · show _ = win0_10.index t 1 * 1024 + 1 * (y 1).val; omega

/-- So the array ends holding it. -/
theorem final_10 : (dats m 0 c).arrAt 10 cfg0.N = gDx m c :=
  (dats m 0 c).arrAt_eq_of_cover 10 (gDx m c) (flushed_10 m c) fun i => by
    have h0 : (i 0 : Nat) < 4096 := (i 0).isLt
    have h1 : (i 1 : Nat) < 1024 := (i 1).isLt
    have hp : 4 * ((i 0 : Nat) / 512) + 3 < 32 := by omega
    have hN : 4 * ((i 0 : Nat) / 512) + 3 < cfg0.N := lt_of_lt_of_eq hp N_0.symm
    refine ⟨⟨4 * ((i 0 : Nat) / 512) + 3, hN⟩, (flush0_10 _).mpr (by show (4 * ((i 0 : Nat) / 512) + 3) % 4 = 3; omega), ?_⟩
    obtain ⟨e0, e1⟩ := index_10 ⟨4 * ((i 0 : Nat) / 512) + 3, hN⟩
    show i ∈ ((View.whole main_v0_2).slice (win0_10.rect ⟨4 * ((i 0 : Nat) / 512) + 3, hN⟩)).set
    rw [View.set_slice_whole, Rect.mem_set_unit]
    dsimp only at e0
    generalize (⟨4 * ((i 0 : Nat) / 512) + 3, hN⟩ : Fin grid0.N) = t at e0 e1 ⊢
    intro a
    match a with
    | ⟨0, _⟩ => show Mat.In (win0_10.index t 0) 512 (i 0); omega
    | ⟨1, _⟩ => show Mat.In (win0_10.index t 1) 1024 (i 1); omega

/-- The row's cotangent in the other format, as contents of its array. -/
def gDxb : Vec Ideal S4096x1024 .bf16 := fun i =>
  dback (mOut m c (i 0).val) (mRow m c (i 0).val) (mGain m c) (i 1)

/-- What a tile's last point leaves for it. -/
theorem last_11 : ∀ (n : ℕ) (hn : n < cfg0.N) (_ : n % 4 = 3) (y : S512x1024.Idx), (outsAt0 m c n hn).2.2.2.1 y
    = dback (mOut m c (512 * (n / 4) + (y 0).val)) (mRow m c (512 * (n / 4) + (y 0).val)) (mGain m c) (y 1)
  | 0, _, h3, _ => absurd h3 (by decide)
  | n + 1, hn, h3, y => by
    have h0 : ¬(n + 1) % 4 = 0 := by omega
    have hx : ∀ a b d : Fin 1024 → EReal, ∀ a' b' d' : Fin 1024 → EReal, a = a' → b = b' → d = d' →
        dback a b d (y 1) = dback a' b' d' (y 1) := by
      intro a b d a' b' d' h1 h2 h3; rw [h1, h2, h3]
    by_cases h2 : n + 1 < 4
    · have e := outsAt0_C m c ⟨n + 1, hn⟩ h0 h3 h2 (by show ¬4 ≤ n + 1; omega)
      refine (congrArg (fun p => p.2.2.2.1 y) e).trans ?_
      dsimp only
      refine (((out_last (hi := (coords_at ⟨n + 1, hn⟩).1) (h := blocks m c ⟨n + 1, hn⟩) ..).1 _ _ _ _ _).2.1 y).trans ?_
      refine hx _ _ _ _ _ _ (funext fun q => ?_) (funext fun q => ?_) (funext fun q => block7 m c ⟨n + 1, hn⟩ q)
      · exact finished m c n hn h3 (y 0) q
      · exact block6 m c ⟨n + 1, hn⟩ (ix2 (y 0) q)
    · have e := outsAt0_D m c ⟨n + 1, hn⟩ h0 h3 h2 (by show 4 ≤ n + 1; omega)
      refine (congrArg (fun p => p.2.2.2.1 y) e).trans ?_
      dsimp only
      refine (((out_last (hi := (coords_at ⟨n + 1, hn⟩).1) (h := blocks m c ⟨n + 1, hn⟩) ..).2 _ _ _ _ _ _ _).2.1 y).trans ?_
      refine hx _ _ _ _ _ _ (funext fun q => ?_) (funext fun q => ?_) (funext fun q => block7 m c ⟨n + 1, hn⟩ q)
      · exact finished m c n hn h3 (y 0) q
      · exact block6 m c ⟨n + 1, hn⟩ (ix2 (y 0) q)

/-- A tile's last point writes back its block of it. -/
theorem flushed_11 (t : Fin cfg0.N) (hf : (cfg0.win 11).flush t = true) :
    (dats m 0 c).flushed 11 t = ((cfg0.win 11).blk t).view.read (Elt Ideal) (gDxb m c) := by
  rw [flushed11]
  funext y
  refine (last_11 m c t.val t.isLt ((flush0_11 t).mp hf) y).trans ?_
  obtain ⟨e0, e1⟩ := index_11 t
  show _ = gDxb m c _
  unfold gDxb
  refine congrArg₂ (fun t q => dback (mOut m c t) (mRow m c t) (mGain m c) q) ?_ (Fin.ext ?_)
  · show _ = win0_11.index t 0 * 512 + 1 * (y 0).val; omega
  · show _ = win0_11.index t 1 * 1024 + 1 * (y 1).val; omega

/-- So the array ends holding it. -/
theorem final_11 : (dats m 0 c).arrAt 11 cfg0.N = gDxb m c :=
  (dats m 0 c).arrAt_eq_of_cover 11 (gDxb m c) (flushed_11 m c) fun i => by
    have h0 : (i 0 : Nat) < 4096 := (i 0).isLt
    have h1 : (i 1 : Nat) < 1024 := (i 1).isLt
    have hp : 4 * ((i 0 : Nat) / 512) + 3 < 32 := by omega
    have hN : 4 * ((i 0 : Nat) / 512) + 3 < cfg0.N := lt_of_lt_of_eq hp N_0.symm
    refine ⟨⟨4 * ((i 0 : Nat) / 512) + 3, hN⟩, (flush0_11 _).mpr (by show (4 * ((i 0 : Nat) / 512) + 3) % 4 = 3; omega), ?_⟩
    obtain ⟨e0, e1⟩ := index_11 ⟨4 * ((i 0 : Nat) / 512) + 3, hN⟩
    show i ∈ ((View.whole main_v0_3).slice (win0_11.rect ⟨4 * ((i 0 : Nat) / 512) + 3, hN⟩)).set
    rw [View.set_slice_whole, Rect.mem_set_unit]
    dsimp only at e0
    generalize (⟨4 * ((i 0 : Nat) / 512) + 3, hN⟩ : Fin grid0.N) = t at e0 e1 ⊢
    intro a
    match a with
    | ⟨0, _⟩ => show Mat.In (win0_11.index t 0) 512 (i 0); omega
    | ⟨1, _⟩ => show Mat.In (win0_11.index t 1) 1024 (i 1); omega

/-- The gain's gradient: a tile's part. -/
def gDgTile (k : ℕ) (q : Fin 1024) : EReal := ∑ r : Fin 512, dgain (mOut m c (512 * k + r.val)) (mRow m c (512 * k + r.val)) (mGain m c) q

/-- The parts of the tiles finished up to point `n`. -/
theorem sum_12 : ∀ (n : ℕ) (hn : n < cfg0.N) (_ : 3 ≤ n) (y : S1x1024.Idx), (outsAt0 m c n hn).2.2.2.2.1 y
    = ∑ k ∈ Finset.range ((n + 1) / 4), gDgTile m c k (y 1)
  | 0, _, h3, _ => absurd h3 (by decide)
  | n + 1, hn, h3, y => by
    have hx : ∀ (q : Fin 1024) (a b d a' b' d' : Fin 1024 → EReal), a = a' → b = b' → d = d' →
        dgain a b d q = dgain a' b' d' q := by
      intro q a b d a' b' d' h1 h2 h3; rw [h1, h2, h3]
    by_cases h0 : (n + 1) % 4 = 3
    · by_cases h2 : n + 1 < 4
      · have e := outsAt0_C m c ⟨n + 1, hn⟩ (by show ¬(n + 1) % 4 = 0; omega) h0 h2 (by show ¬4 ≤ n + 1; omega)
        refine (congrArg (fun p => p.2.2.2.2.1 y) e).trans ?_
        dsimp only
        refine (((out_last (hi := (coords_at ⟨n + 1, hn⟩).1) (h := blocks m c ⟨n + 1, hn⟩) ..).1 _ _ _ _ _).2.2.1 y).trans ?_
        have h4 : (n + 1 + 1) / 4 = (n + 1) / 4 + 1 := by omega
        have h5 : Finset.range ((n + 1) / 4) = ∅ := by rw [show (n + 1) / 4 = 0 by omega]; rfl
        rw [h4, Finset.sum_range_succ, h5, Finset.sum_empty, zero_add]
        unfold gDgTile
        refine Finset.sum_congr rfl fun r _ => ?_
        refine hx (y 1) _ _ _ _ _ _ (funext fun q => ?_) (funext fun q => ?_) (funext fun q => block7 m c ⟨n + 1, hn⟩ q)
        · exact finished m c n hn h0 r q
        · exact block6 m c ⟨n + 1, hn⟩ (ix2 r q)
      · have e := outsAt0_D m c ⟨n + 1, hn⟩ (by show ¬(n + 1) % 4 = 0; omega) h0 h2 (by show 4 ≤ n + 1; omega)
        refine (congrArg (fun p => p.2.2.2.2.1 y) e).trans ?_
        dsimp only
        refine (((out_last (hi := (coords_at ⟨n + 1, hn⟩).1) (h := blocks m c ⟨n + 1, hn⟩) ..).2 _ _ _ _ _ _ _).2.2.1 y).trans ?_
        have h4 : (n + 1 + 1) / 4 = (n + 1) / 4 + 1 := by omega
        rw [h4, Finset.sum_range_succ]
        refine congrArg₂ (fun p q : EReal => p + q) (sum_12 n (Nat.lt_of_succ_lt hn) (by omega) y) ?_
        unfold gDgTile
        refine Finset.sum_congr rfl fun r _ => ?_
        refine hx (y 1) _ _ _ _ _ _ (funext fun q => ?_) (funext fun q => ?_) (funext fun q => block7 m c ⟨n + 1, hn⟩ q)
        · exact finished m c n hn h0 r q
        · exact block6 m c ⟨n + 1, hn⟩ (ix2 r q)
    · have h4 : (n + 1 + 1) / 4 = (n + 1) / 4 := by omega
      rw [h4]
      by_cases h1 : (n + 1) % 4 = 0
      · have e := outsAt0_A m c ⟨n + 1, hn⟩ h1 h0
        exact (congrArg (fun p => p.2.2.2.2.1 y) e).trans (sum_12 n (Nat.lt_of_succ_lt hn) (by omega) y)
      · have e := outsAt0_B m c ⟨n + 1, hn⟩ h1 h0
        exact (congrArg (fun p => p.2.2.2.2.1 y) e).trans (sum_12 n (Nat.lt_of_succ_lt hn) (by omega) y)

/-- The gain's gradient, as contents of its array. -/
def gDg : Vec Ideal S1x1024 .f32 := fun i => ∑ k ∈ Finset.range 8, gDgTile m c k (i 1)

/-- The last point writes it back. -/
theorem flushed_12 (t : Fin cfg0.N) (hf : (cfg0.win 12).flush t = true) :
    (dats m 0 c).flushed 12 t = ((cfg0.win 12).blk t).view.read (Elt Ideal) (gDg m c) := by
  rw [flushed12]
  funext y
  have hN : t.val < 32 := lt_of_lt_of_eq t.isLt N_0
  have ht : t.val % 32 = 31 := (flush0_12 t).mp hf
  refine (sum_12 m c t.val t.isLt (by omega) y).trans ?_
  obtain ⟨e0, e1⟩ := index_12 t
  show _ = gDg m c _
  unfold gDg
  rw [show (t.val + 1) / 4 = 8 by omega]
  refine Finset.sum_congr rfl fun k _ => congrArg (gDgTile m c k) (Fin.ext ?_)
  show _ = win0_12.index t 1 * 1024 + 1 * (y 1).val; omega

/-- So the array ends holding it. -/
theorem final_12 : (dats m 0 c).arrAt 12 cfg0.N = gDg m c :=
  (dats m 0 c).arrAt_eq_of_cover 12 (gDg m c) (flushed_12 m c) fun i => by
    have h0 : (i 0 : Nat) < 1 := (i 0).isLt
    have h1 : (i 1 : Nat) < 1024 := (i 1).isLt
    have hN : 31 < cfg0.N := lt_of_lt_of_eq (by decide) N_0.symm
    refine ⟨⟨31, hN⟩, (flush0_12 _).mpr rfl, ?_⟩
    obtain ⟨e0, e1⟩ := index_12 ⟨31, hN⟩
    show i ∈ ((View.whole main_v0_4).slice (win0_12.rect ⟨31, hN⟩)).set
    rw [View.set_slice_whole, Rect.mem_set_unit]
    generalize (⟨31, hN⟩ : Fin grid0.N) = t at e0 e1 ⊢
    intro a
    match a with
    | ⟨0, _⟩ => show Mat.In (win0_12.index t 0) 1 (i 0); omega
    | ⟨1, _⟩ => show Mat.In (win0_12.index t 1) 1024 (i 1); omega

/-- The loss: a tile's part. -/
def gLossTile (k : ℕ) (q : Fin 128) : EReal := Ideal.ofBits .f32 0x3F000000#32 * ∑ r : Fin 512, lossRow (mOut m c (512 * k + r.val)) (mRow m c (512 * k + r.val)) (mGain m c)

/-- The parts of the tiles finished up to point `n`. -/
theorem sum_13 : ∀ (n : ℕ) (hn : n < cfg0.N) (_ : 3 ≤ n) (y : S1x128.Idx), (outsAt0 m c n hn).2.2.2.2.2.1 y
    = ∑ k ∈ Finset.range ((n + 1) / 4), gLossTile m c k (y 1)
  | 0, _, h3, _ => absurd h3 (by decide)
  | n + 1, hn, h3, y => by
    have hx : ∀ (q : Fin 128) (a b d a' b' d' : Fin 1024 → EReal), a = a' → b = b' → d = d' →
        lossRow a b d = lossRow a' b' d' := by
      intro q a b d a' b' d' h1 h2 h3; rw [h1, h2, h3]
    by_cases h0 : (n + 1) % 4 = 3
    · by_cases h2 : n + 1 < 4
      · have e := outsAt0_C m c ⟨n + 1, hn⟩ (by show ¬(n + 1) % 4 = 0; omega) h0 h2 (by show ¬4 ≤ n + 1; omega)
        refine (congrArg (fun p => p.2.2.2.2.2.1 y) e).trans ?_
        dsimp only
        refine (((out_last (hi := (coords_at ⟨n + 1, hn⟩).1) (h := blocks m c ⟨n + 1, hn⟩) ..).1 _ _ _ _ _).2.2.2 y).trans ?_
        have h4 : (n + 1 + 1) / 4 = (n + 1) / 4 + 1 := by omega
        have h5 : Finset.range ((n + 1) / 4) = ∅ := by rw [show (n + 1) / 4 = 0 by omega]; rfl
        rw [h4, Finset.sum_range_succ, h5, Finset.sum_empty, zero_add]
        unfold gLossTile
        refine congrArg (fun p : EReal => _ * p) (Finset.sum_congr rfl fun r _ => ?_)
        refine hx (y 1) _ _ _ _ _ _ (funext fun q => ?_) (funext fun q => ?_) (funext fun q => block7 m c ⟨n + 1, hn⟩ q)
        · exact finished m c n hn h0 r q
        · exact block6 m c ⟨n + 1, hn⟩ (ix2 r q)
      · have e := outsAt0_D m c ⟨n + 1, hn⟩ (by show ¬(n + 1) % 4 = 0; omega) h0 h2 (by show 4 ≤ n + 1; omega)
        refine (congrArg (fun p => p.2.2.2.2.2.1 y) e).trans ?_
        dsimp only
        refine (((out_last (hi := (coords_at ⟨n + 1, hn⟩).1) (h := blocks m c ⟨n + 1, hn⟩) ..).2 _ _ _ _ _ _ _).2.2.2 y).trans ?_
        have h4 : (n + 1 + 1) / 4 = (n + 1) / 4 + 1 := by omega
        rw [h4, Finset.sum_range_succ]
        refine congrArg₂ (fun p q : EReal => p + q) (sum_13 n (Nat.lt_of_succ_lt hn) (by omega) y) ?_
        unfold gLossTile
        refine congrArg (fun p : EReal => _ * p) (Finset.sum_congr rfl fun r _ => ?_)
        refine hx (y 1) _ _ _ _ _ _ (funext fun q => ?_) (funext fun q => ?_) (funext fun q => block7 m c ⟨n + 1, hn⟩ q)
        · exact finished m c n hn h0 r q
        · exact block6 m c ⟨n + 1, hn⟩ (ix2 r q)
    · have h4 : (n + 1 + 1) / 4 = (n + 1) / 4 := by omega
      rw [h4]
      by_cases h1 : (n + 1) % 4 = 0
      · have e := outsAt0_A m c ⟨n + 1, hn⟩ h1 h0
        exact (congrArg (fun p => p.2.2.2.2.2.1 y) e).trans (sum_13 n (Nat.lt_of_succ_lt hn) (by omega) y)
      · have e := outsAt0_B m c ⟨n + 1, hn⟩ h1 h0
        exact (congrArg (fun p => p.2.2.2.2.2.1 y) e).trans (sum_13 n (Nat.lt_of_succ_lt hn) (by omega) y)

/-- The loss, as contents of its array. -/
def gLoss : Vec Ideal S1x128 .f32 := fun i => ∑ k ∈ Finset.range 8, gLossTile m c k (i 1)

/-- The last point writes it back. -/
theorem flushed_13 (t : Fin cfg0.N) (hf : (cfg0.win 13).flush t = true) :
    (dats m 0 c).flushed 13 t = ((cfg0.win 13).blk t).view.read (Elt Ideal) (gLoss m c) := by
  rw [flushed13]
  funext y
  have hN : t.val < 32 := lt_of_lt_of_eq t.isLt N_0
  have ht : t.val % 32 = 31 := (flush0_13 t).mp hf
  refine (sum_13 m c t.val t.isLt (by omega) y).trans ?_
  obtain ⟨e0, e1⟩ := index_13 t
  show _ = gLoss m c _
  unfold gLoss
  rw [show (t.val + 1) / 4 = 8 by omega]
  refine Finset.sum_congr rfl fun k _ => congrArg (gLossTile m c k) (Fin.ext ?_)
  show _ = win0_13.index t 1 * 128 + 1 * (y 1).val; omega

/-- So the array ends holding it. -/
theorem final_13 : (dats m 0 c).arrAt 13 cfg0.N = gLoss m c :=
  (dats m 0 c).arrAt_eq_of_cover 13 (gLoss m c) (flushed_13 m c) fun i => by
    have h0 : (i 0 : Nat) < 1 := (i 0).isLt
    have h1 : (i 1 : Nat) < 128 := (i 1).isLt
    have hN : 31 < cfg0.N := lt_of_lt_of_eq (by decide) N_0.symm
    refine ⟨⟨31, hN⟩, (flush0_13 _).mpr rfl, ?_⟩
    obtain ⟨e0, e1⟩ := index_13 ⟨31, hN⟩
    show i ∈ ((View.whole main_v0_5).slice (win0_13.rect ⟨31, hN⟩)).set
    rw [View.set_slice_whole, Rect.mem_set_unit]
    generalize (⟨31, hN⟩ : Fin grid0.N) = t at e0 e1 ⊢
    intro a
    match a with
    | ⟨0, _⟩ => show Mat.In (win0_13.index t 0) 1 (i 0); omega
    | ⟨1, _⟩ => show Mat.In (win0_13.index t 1) 128 (i 1); omega

end

namespace Host

open Cert.Reference10Ideal Cert.Reference10Ideal.Gen Cert.Reference10Ideal.Read Cert.Mat Cert.Ffn Idealize.ShloMosaic

variable (x0 : Vec Ideal S4096x1024 .bf16) (x1 : Vec Ideal S4096x1024 .f32) (x2 : Vec Ideal S2x4x1024x704 .bf16)
  (x3 : Vec Ideal S2x4x3x704 .f32) (x4 : Vec Ideal S2816x1024 .bf16)

/-- The up projection, in the columns of one half and group. -/
theorem up_at (t : Fin 4096) (q : Fin 5632) (gv : Fin 2) (g : Fin 4) (j : Fin 704)
    (hq : q.val = gv.val * 2816 + g.val * 704 + j.val) :
    val_main_v7 (F := Ideal) x0 x2 (ix2 t q) = pre (padded x0) (upw x2 g) gv (t.val + 16) j := by
  pointwise [val_main_v7, val_main_v0, val_main_v3, val_main_v2, val_main_v1]
  rw [← pre_row]
  unfold upw
  have hgv := gv.isLt
  have hg := g.isLt
  have hj := j.isLt
  refine Finset.sum_congr rfl fun k _ => congrArg (fun i => x0 (ix2 t k) * x2 i) ?_
  refine funext fun i => Fin.ext ?_
  match i with
  | ⟨0, _⟩ => show q.val / 2816 = gv.val; omega
  | ⟨1, _⟩ => show q.val / 704 % 4 = g.val; omega
  | ⟨2, _⟩ => rfl
  | ⟨3, _⟩ => show q.val % 704 = j.val; omega

/-- The taps, in the columns of one half and group. -/
theorem taps_at (a : Fin 3) (q : Fin 5632) (gv : Fin 2) (g : Fin 4) (j : Fin 704)
    (hq : q.val = gv.val * 2816 + g.val * 704 + j.val) :
    val_main_v5 (F := Ideal) x3 (ix2 a q) = taps x3 g gv a j := by
  pointwise [val_main_v5, val_main_v4]
  unfold taps
  have hgv := gv.isLt
  have hg := g.isLt
  have hj := j.isLt
  refine congrArg x3 ?_
  refine funext fun i => Fin.ext ?_
  match i with
  | ⟨0, _⟩ => show q.val / 2816 = gv.val; omega
  | ⟨1, _⟩ => show q.val / 704 % 4 = g.val; omega
  | ⟨2, _⟩ => rfl
  | ⟨3, _⟩ => show q.val % 704 = j.val; omega

/-- The up projection with two zero rows above it. -/
theorem above_at (s : Fin 4098) (q : Fin 5632) (gv : Fin 2) (g : Fin 4) (j : Fin 704)
    (hq : q.val = gv.val * 2816 + g.val * 704 + j.val) (n : ℕ) (hn : s.val + 14 = n) :
    val_main_v9 (F := Ideal) x0 x2 (ix2 s q) = pre (padded x0) (upw x2 g) gv n j := by
  pointwise [val_main_v9, val_main_v8, val_main_cst]
  subst hn
  split
  · exact (pre_zero _ _ _ _ _ (by omega)).symm
  · refine (up_at _ _ _ _ gv g j hq).trans ?_
    refine congrArg (fun n => pre (padded x0) (upw x2 g) gv n j) ?_
    show s.val - 2 + 16 = s.val + 14
    omega

/-- The convolution, in the columns of one half and group. -/
theorem conv_at (t : Fin 4096) (q : Fin 5632) (gv : Fin 2) (g : Fin 4) (j : Fin 704)
    (hq : q.val = gv.val * 2816 + g.val * 704 + j.val) :
    val_main_v25 (F := Ideal) x0 x2 x3 (ix2 t q) = conv (padded x0) (upw x2 g) (taps x3 g) gv t j := by
  pointwise [val_main_v25, val_main_v24, val_main_v23, val_main_v22, val_main_v21, val_main_v20, val_main_v19,
    val_main_v18, val_main_v17, val_main_v16, val_main_v15, val_main_v14, val_main_cst_0, val_main_v13, val_main_v12,
    val_main_v11, val_main_v10]
  rw [taps_at x3 0 q gv g j hq, taps_at x3 1 q gv g j hq, taps_at x3 2 q gv g j hq,
    above_at x0 x2 _ q gv g j hq (t.val + 14) rfl, above_at x0 x2 _ q gv g j hq (t.val + 15) (by show 1 + t.val + 14 = _; omega),
    above_at x0 x2 _ q gv g j hq (t.val + 16) (by show 2 + t.val + 14 = _; omega)]
  unfold conv
  exact add_rev _ _ _

/-- The gated hidden value. -/
theorem act_at (t : Fin 4096) (g : Fin 4) (j : Fin 704) (q : Fin 2816) (hq : q.val = 704 * g.val + j.val) :
    val_main_v29 (F := Ideal) x0 x2 x3 (ix2 t q) = act (padded x0) (upw x2 g) (taps x3 g) t j := by
  pointwise [val_main_v29, val_main_v28, val_main_v27, val_main_v26, val_main_call0_v5, val_main_call0_v4,
    val_main_call0_v3, val_main_call0_v2, val_main_call0_v1, val_main_call0_v0, val_main_call0_cst,
    val_main_call0_cst_0]
  rw [conv_at x0 x2 x3 t _ 0 g j (by show q.val = 0 * 2816 + _ + _; omega),
    conv_at x0 x2 x3 t _ 1 g j (by show 2816 + q.val = 1 * 2816 + _ + _; omega)]
  rfl

/-- The layer's input plus its output. -/
theorem out_at (t : Fin 4096) (q : Fin 1024) :
    val_main_v31 (F := Ideal) x0 x1 x2 x3 x4 (ix2 t q) = out x0 x1 x2 x3 x4 t q := by
  pointwise [val_main_v31, val_main_v30, val_main_v6]
  unfold out
  rw [← upto_three, ← at2_ix, sum_groups]
  refine congrArg (fun p : EReal => _ + p) (Finset.sum_congr rfl fun g _ => ?_)
  have e : grp g.val = g := Fin.ext (Nat.mod_eq_of_lt g.isLt)
  unfold shares share
  rw [e]
  exact Finset.sum_congr rfl fun j _ => congrArg (fun p : EReal => p * _) (act_at x0 x2 x3 t g j _ rfl)

/-- The stored up projection. -/
theorem stored_up (g : Fin 4) (gv : Fin 2) (t : Fin 4096) (j : Fin 704) :
    val_main_v83 (F := Ideal) x0 x2 (ix4 g gv t j) = pre (padded x0) (upw x2 g) gv (t.val + 16) j := by
  pointwise [val_main_v83, val_main_v82, val_main_v81]
  exact up_at x0 x2 t _ gv g j rfl

/-- The stored convolution. -/
theorem stored_conv (g : Fin 4) (gv : Fin 2) (t : Fin 4096) (j : Fin 704) :
    val_main_v86 (F := Ideal) x0 x2 x3 (ix4 g gv t j) = conv (padded x0) (upw x2 g) (taps x3 g) gv t j := by
  pointwise [val_main_v86, val_main_v85, val_main_v84]
  exact conv_at x0 x2 x3 t _ gv g j rfl

/-- A row of the layer's input plus its output. -/
def row (t : ℕ) (q : Fin 1024) : EReal := out x0 x1 x2 x3 x4 t q

variable (x5 : Vec Ideal S4096x1024 .f32) (x6 : Vec Ideal S1x1024 .f32)

/-- The row's mean square plus the small constant. -/
theorem var_at (t : Fin 4096) :
    val_main_v38 (F := Ideal) x0 x1 x2 x3 x4 (ix2 t 0) = Rms.var (row x0 x1 x2 x3 x4 t) := by
  pointwise [val_main_v38, val_main_v37, val_main_cst_3, val_main_v36, val_main_v35, val_main_cst_2, val_main_v34,
    val_main_v33, val_main_cst_1, val_main_v32]
  simp only [out_at]
  rfl

/-- The row's scale. -/
theorem scale_at (t : Fin 4096) :
    val_main_v39 (F := Ideal) x0 x1 x2 x3 x4 (ix2 t 0) = Rms.scale (row x0 x1 x2 x3 x4 t) := by
  pointwise [val_main_v39]
  rw [var_at]
  rfl

/-- The normed row less the target. -/
theorem diff_at (t : Fin 4096) (q : Fin 1024) : val_main_v47 (F := Ideal) x0 x1 x2 x3 x4 x5 x6 (ix2 t q)
    = diff (row x0 x1 x2 x3 x4 t) (fun q => x5 (ix2 t q)) (fun q => x6 (ix2 0 q)) q := by
  pointwise [val_main_v47, val_main_v46, val_main_v45, val_main_v44, val_main_v43]
  rw [scale_at, out_at]
  rfl

/-- Half of twice a number over 1024 is the number times the constant 1/1024. -/
theorem halved (d : EReal) : Ideal.div (Ideal.ofBits .f32 0x3F000000#32) (Ideal.ofBits .f32 0x44800000#32)
    * (Ideal.ofBits .f32 0x40000000#32 * d) = d * Ideal.ofBits .f32 0x3A800000#32 := by
  rw [Rms.c1024, Ideal.div_coe (by norm_num), Rms.chalf, Rms.ctwo, Rms.cinv, ← mul_assoc, ← EReal.coe_mul,
    ← EReal.coe_mul, mul_comm (G := EReal)]
  refine congrArg (fun a : ℝ => d * (a : EReal)) ?_
  norm_num

/-- The loss's cotangent of the normed row. -/
theorem dnorm_at (t : Fin 4096) (q : Fin 1024) : val_main_v61 (F := Ideal) x0 x1 x2 x3 x4 x5 x6 (ix2 t q)
    = dnorm (row x0 x1 x2 x3 x4 t) (fun q => x5 (ix2 t q)) (fun q => x6 (ix2 0 q)) q := by
  pointwise [val_main_v61, val_main_v60, val_main_v59, val_main_v58, val_main_cst_12, val_main_v57, val_main_v56,
    val_main_cst_10, val_main_cst_11, val_main_v50, val_main_v49, val_main_cst_5]
  rw [diff_at]
  exact halved _

/-- The gain's gradient. -/
theorem dgain_at (q : Fin 1024) : val_main_v64 (F := Ideal) x0 x1 x2 x3 x4 x5 x6 (ix2 0 q)
    = ∑ t : Fin 4096, dgain (row x0 x1 x2 x3 x4 t) (fun q => x5 (ix2 t q)) (fun q => x6 (ix2 0 q)) q := by
  pointwise [val_main_v64, val_main_v63, val_main_cst_13, val_main_v62, val_main_v44, val_main_v43]
  refine Finset.sum_congr rfl fun t _ => ?_
  rw [scale_at, out_at, dnorm_at]
  exact mul_comm (G := EReal) _ _

/-- The loss, in every lane. -/
theorem loss_at (l : Fin 128) : val_main_v88 (F := Ideal) x0 x1 x2 x3 x4 x5 x6 (ix2 0 l)
    = Ideal.ofBits .f32 0x3F000000#32
      * ∑ t : Fin 4096, lossRow (row x0 x1 x2 x3 x4 t) (fun q => x5 (ix2 t q)) (fun q => x6 (ix2 0 q)) := by
  pointwise [val_main_v88, val_main_v55, val_main_cst_9, val_main_v54, val_main_cst_8, val_main_v53, val_main_v52,
    val_main_cst_7, val_main_v51, val_main_cst_6, val_main_v48]
  simp only [diff_at]
  rfl

/-- The row's cotangent. -/
theorem dback_at (t : Fin 4096) (q : Fin 1024) :
    val_main_v80 (F := Ideal) x0 x1 x2 x3 x4 x5 x6 (ix2 t q)
      = dback (row x0 x1 x2 x3 x4 t) (fun q => x5 (ix2 t q)) (fun q => x6 (ix2 0 q)) q := by
  unfold dback
  rw [Rms.back_eq]
  pointwise [val_main_v80, val_main_v79, val_main_v78, val_main_v77, val_main_v76, val_main_v75, val_main_cst_16,
    val_main_v74, val_main_v73, val_main_cst_15, val_main_v72, val_main_v71, val_main_v70, val_main_v69, val_main_v68,
    val_main_cst_14, val_main_v67, val_main_v66, val_main_v65, val_main_v42, val_main_v41, val_main_cst_4, val_main_v40]
  simp only [dnorm_at, Fin.sum_univ_one, scale_at, var_at, out_at]
  rfl

end Host

section

open Cert.Ffn Cert.Mat Idealize.ShloMosaic Idealize.ShloMosaic.TcCoe Idealize.SL.Sem

instance : Cert.Kernel10Ideal.Facts := Cert.Kernel10Ideal.Gen.facts
instance : Cert.Reference10Ideal.Facts := Cert.Reference10Ideal.Gen.facts

/-- The host's run leaves no counter raised and keeps its arguments. -/
theorem host_frame : Cert.quiescent_Reference10Ideal := fun m g _ =>
  (θ_run _ _ _).mono (fun r h => ⟨fun c => (h c).2.2.2.2.2.2,
      Idealize.ShloMosaic.sem_eq_zero_of_no_sems (by decide) r.2⟩)
    (Cert.Reference10Ideal.Value.run (F := Ideal) m g)

/-- A sum over the tokens, tile by tile. -/
theorem sum_tiles (f : ℕ → EReal) :
    ∑ k ∈ Finset.range 8, ∑ r : Fin 512, f (512 * k + r.val) = ∑ t : Fin 4096, f t.val := by
  have e := (Equiv.sum_comp (finProdFinEquiv (m := 8) (n := 512)) fun t : Fin 4096 => f t.val).symm
  refine Eq.trans ?_ e.symm
  rw [Fintype.sum_prod_type, Finset.sum_range]
  refine Finset.sum_congr rfl fun g _ => Finset.sum_congr rfl fun j _ => congrArg f ?_
  show 512 * g.val + j.val = j.val + 512 * g.val
  omega

/-- A row of the target, read at its number. -/
theorem row_eq (T : Vec Ideal Cert.Kernel10Ideal.S4096x1024 .f32) (t : Fin 4096) :
    (fun q : Fin 1024 => at2 (R := 4096) (C := 1024) T t.val q.val) = fun q => T (ix2 t q) :=
  funext fun q => (at2_ix (R := 4096) (C := 1024) T t q).symm

/-- All six results of the kernel's idealization are the host's, entry by entry, for every argument. -/
theorem values : Cert.algebraic_Kernel10Ideal_Reference10Ideal := by
  intro m g m' g' _ hag
  have hl : ∀ c, StableHlo.launchContents m' c (Proc.devRef .tc Cert.Reference10Ideal.main_arg0) = mH m c
      ∧ StableHlo.launchContents m' c (Proc.devRef .tc Cert.Reference10Ideal.main_arg1) = mX m c
      ∧ StableHlo.launchContents m' c (Proc.devRef .tc Cert.Reference10Ideal.main_arg2) = mW m c
      ∧ StableHlo.launchContents m' c (Proc.devRef .tc Cert.Reference10Ideal.main_arg3) = mC m c
      ∧ StableHlo.launchContents m' c (Proc.devRef .tc Cert.Reference10Ideal.main_arg4) = mD m c
      ∧ StableHlo.launchContents m' c (Proc.devRef .tc Cert.Reference10Ideal.main_arg5) = mT m c
      ∧ StableHlo.launchContents m' c (Proc.devRef .tc Cert.Reference10Ideal.main_arg6) = mG m c := hag
  refine ⟨fun c => gUp m c, fun c => gConv m c, fun c => gDx m c, fun c => gDxb m c, fun c => gDg m c,
    fun c => gLoss m c, ?_, ?_⟩
  · exact (θ_run _ _ _).mono (fun r h c => ⟨(h c).1.trans (final_8 m c), (h c).2.1.trans (final_9 m c),
        (h c).2.2.1.trans (final_10 m c), (h c).2.2.2.1.trans (final_11 m c), (h c).2.2.2.2.1.trans (final_12 m c),
        (h c).2.2.2.2.2.1.trans (final_13 m c), (h c).2.2.2.2.2.2⟩)
      (run_arrays m g)
  · refine (θ_run _ _ _).mono (fun r h c => ⟨(h c).1.trans ?_, (h c).2.1.trans ?_, (h c).2.2.1.trans ?_,
        (h c).2.2.2.1.trans ?_, (h c).2.2.2.2.1.trans ?_, (h c).2.2.2.2.2.1.trans ?_, (h c).2.2.2.2.2.2⟩)
      (Cert.Reference10Ideal.Value.run (F := Ideal) m' g')
    · obtain ⟨h0, h1, h2, h3, h4, h5, h6⟩ := hl c
      refine (Cert.Reference10Ideal.Read.val_main_v83_eq (F := Ideal) _).trans ?_
      rw [h0, h2]
      funext i
      obtain ⟨a, b, t, j, rfl⟩ := Mat.ix4_of i
      exact Host.stored_up _ _ a b t j
    · obtain ⟨h0, h1, h2, h3, h4, h5, h6⟩ := hl c
      refine (Cert.Reference10Ideal.Read.val_main_v86_eq (F := Ideal) _).trans ?_
      rw [h0, h2, h3]
      funext i
      obtain ⟨a, b, t, j, rfl⟩ := Mat.ix4_of i
      exact Host.stored_conv _ _ _ a b t j
    · obtain ⟨h0, h1, h2, h3, h4, h5, h6⟩ := hl c
      refine (Cert.Reference10Ideal.Read.val_main_v80_eq (F := Ideal) _).trans ?_
      rw [h0, h1, h2, h3, h4, h5, h6]
      funext i
      obtain ⟨t, q, rfl⟩ := Mat.ix2_of i
      refine (Host.dback_at _ _ _ _ _ _ _ t q).trans ?_
      exact congrArg (fun T => dback _ T _ q) (row_eq _ t).symm
    · obtain ⟨h0, h1, h2, h3, h4, h5, h6⟩ := hl c
      refine (Cert.Reference10Ideal.Read.val_main_v87_eq (F := Ideal) _).trans ?_
      rw [h0, h1, h2, h3, h4, h5, h6]
      funext i
      obtain ⟨t, q, rfl⟩ := Mat.ix2_of i
      refine (Host.dback_at _ _ _ _ _ _ _ t q).trans ?_
      exact congrArg (fun T => dback _ T _ q) (row_eq _ t).symm
    · obtain ⟨h0, h1, h2, h3, h4, h5, h6⟩ := hl c
      refine (Cert.Reference10Ideal.Read.val_main_v64_eq (F := Ideal) _).trans ?_
      rw [h0, h1, h2, h3, h4, h5, h6]
      funext i
      obtain ⟨z, q, rfl⟩ := Mat.ix2_of i
      obtain rfl : z = 0 := Fin.fin_one_eq_zero z
      refine (Host.dgain_at _ _ _ _ _ _ _ q).trans ?_
      show _ = ∑ k ∈ Finset.range 8, gDgTile m c k q
      unfold gDgTile
      rw [sum_tiles fun t => dgain (mOut m c t) (mRow m c t) (mGain m c) q]
      exact Finset.sum_congr rfl fun t _ => congrArg (fun T => dgain _ T _ q) (row_eq _ t).symm
    · obtain ⟨h0, h1, h2, h3, h4, h5, h6⟩ := hl c
      refine (Cert.Reference10Ideal.Read.val_main_v88_eq (F := Ideal) _).trans ?_
      rw [h0, h1, h2, h3, h4, h5, h6]
      funext i
      obtain ⟨z, l, rfl⟩ := Mat.ix2_of i
      obtain rfl : z = 0 := Fin.fin_one_eq_zero z
      refine (Host.loss_at _ _ _ _ _ _ _ l).trans ?_
      show _ = ∑ k ∈ Finset.range 8, gLossTile m c k l
      unfold gLossTile
      rw [Rms.chalf, Rms.coe_mul_sum _ _ _ (by norm_num), sum_tiles fun t => lossRow (mOut m c t) (mRow m c t) (mGain m c)]
      exact congrArg (fun p : EReal => _ * p)
        (Finset.sum_congr rfl fun t _ => congrArg (fun T => lossRow _ T _) (row_eq _ t).symm)

end

end Cert.Ffn1

end
-- ==== Proof.FgBody.lean ====
/-
  One grid point of the feed-forward gradient: the kernel's body run once, from any contents of its windows and its
  scratch buffers, to the contents it leaves in each of them.

  The feed-forward gradient's pipeline around its body: what each result's window holds after a point is held to a
  predicate, the scratch buffers to another, and the run of the whole program follows from one step.
-/
module

public import proofs.«01_k».proof.Proof.Gen.Kernel11Ideal.Frame
public import proofs.«01_k».proof.Proof.Gen.Kernel11Ideal.Skeleton
public import proofs.«01_k».proof.Proof.Gen.Kernel11Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.DatRel
public import Idealize.ShloMosaic.Lib.Pipeline.ArrRel

@[expose] public section

set_option maxRecDepth 16384

noncomputable section

namespace Cert.FfnGrad

section

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (a2 : Memref sig .tc .vmem S512x1024 .f32) (b2 : a2.IsWhole) (a3 : Memref sig .tc .vmem S1x2x512x704 .bf16) (b3 : a3.IsWhole) (a4 : Memref sig .tc .vmem S1x2x512x704 .bf16) (b4 : a4.IsWhole) (a5 : Memref sig .tc .vmem S2x1x1024x704 .bf16) (b5 : a5.IsWhole) (a6 : Memref sig .tc .vmem S2x1x3x704 .f32) (b6 : a6.IsWhole) (a7 : Memref sig .tc .vmem S704x1024 .bf16) (b7 : a7.IsWhole) (a8 : Memref sig .tc .vmem S512x1024 .f32) (b8 : a8.IsWhole) (a9 : Memref sig .tc .vmem S1x1024 .f32) (b9 : a9.IsWhole) (a10 : Memref sig .tc .vmem S1x512x704 .bf16) (b10 : a10.IsWhole) (a11 : Memref sig .tc .vmem S1x2x512x704 .bf16) (b11 : a11.IsWhole) (a12 : Memref sig .tc .vmem S512x1024 .f32) (b12 : a12.IsWhole) (a13 : Memref sig .tc .vmem S512x1024 .bf16) (b13 : a13.IsWhole) (a14 : Memref sig .tc .vmem S1x1024 .f32) (b14 : a14.IsWhole) (a15 : Memref sig .tc .vmem S4x2x3x704 .f32) (b15 : a15.IsWhole) (a16 : Memref sig .tc .vmem S4x2x8x704 .f32) (b16 : a16.IsWhole) (a17 : Memref sig .tc .vmem S512x1024 .f32) (b17 : a17.IsWhole) (a18 : Memref sig .tc .vmem S2x3x8x704 .f32) (b18 : a18.IsWhole) (a19 : Memref sig .tc .vmem S2x520x704 .f32) (b19 : a19.IsWhole)
  (x2 : Vec F S512x1024 .f32) (x3 : Vec F S1x2x512x704 .bf16) (x4 : Vec F S1x2x512x704 .bf16) (x5 : Vec F S2x1x1024x704 .bf16) (x6 : Vec F S2x1x3x704 .f32) (x7 : Vec F S704x1024 .bf16) (x8 : Vec F S512x1024 .f32) (x9 : Vec F S1x1024 .f32) (x10 : Vec F S1x512x704 .bf16) (x11 : Vec F S1x2x512x704 .bf16) (x12 : Vec F S512x1024 .f32) (x13 : Vec F S512x1024 .bf16) (x14 : Vec F S1x1024 .f32) (x15 : Vec F S4x2x3x704 .f32) (x16 : Vec F S4x2x8x704 .f32) (x17 : Vec F S512x1024 .f32) (x18 : Vec F S2x3x8x704 .f32) (x19 : Vec F S2x520x704 .f32)

/-- A whole buffer of a device at given contents. -/
abbrev pt (c : Dev nD) {s : Shape} {e : EltTy} (a : Memref sig .tc .vmem s e) (f : Buf (Elt F) (a.view.loc (c : Thread nD τ))) : sProp 𝕄 :=
  a.view.loc (c : Thread nD τ) ↦[a.view.set]{fullShare} f

/-- A whole buffer held at what its view reads. -/
theorem owns_pt (c : Dev nD) {s : Shape} {e : EltTy} {a : Memref sig .tc .vmem s e} (b : a.IsWhole) (x : s.Idx → Elt F e) :
    (owns (c : Thread nD τ) a fullShare x : sProp 𝕄) = pt c a (b.unread x) := by
  unfold Idealize.ShloMosaic.owns
  refine Entails.antisymm (show (_ : sProp 𝕄) ⊢ _ from ?_) (show (_ : sProp 𝕄) ⊢ _ from ?_)
  · iintro ⟨%f, %h, H⟩; obtain rfl := b.eq_unread h; iexact H
  · iintro H; iexists _; isplitr; · ipureintro; exact b.read_unread x
    iexact H

/-- What one grid point leaves: the contents of the six results' buffers and of the four scratch buffers, with the run of
    the body from the given contents to these, the arguments' buffers as found. -/
structure Left where
  g10 : Buf (Elt F) (a10.view.loc (c : Thread nD τ))
  g11 : Buf (Elt F) (a11.view.loc (c : Thread nD τ))
  g12 : Buf (Elt F) (a12.view.loc (c : Thread nD τ))
  g13 : Buf (Elt F) (a13.view.loc (c : Thread nD τ))
  g14 : Buf (Elt F) (a14.view.loc (c : Thread nD τ))
  g15 : Buf (Elt F) (a15.view.loc (c : Thread nD τ))
  g16 : Buf (Elt F) (a16.view.loc (c : Thread nD τ))
  g17 : Buf (Elt F) (a17.view.loc (c : Thread nD τ))
  g18 : Buf (Elt F) (a18.view.loc (c : Thread nD τ))
  g19 : Buf (Elt F) (a19.view.loc (c : Thread nD τ))
  ok : ∀ (E : Set ℕ) (K : PUnit → sProp 𝕄),
   iprop(pt c a2 (b2.unread x2) ∗ pt c a3 (b3.unread x3) ∗ pt c a4 (b4.unread x4) ∗ pt c a5 (b5.unread x5) ∗ pt c a6 (b6.unread x6) ∗ pt c a7 (b7.unread x7) ∗ pt c a8 (b8.unread x8) ∗ pt c a9 (b9.unread x9) ∗ pt c a10 (b10.unread x10) ∗ pt c a11 (b11.unread x11) ∗ pt c a12 (b12.unread x12) ∗ pt c a13 (b13.unread x13) ∗ pt c a14 (b14.unread x14) ∗ pt c a15 (b15.unread x15) ∗ pt c a16 (b16.unread x16) ∗ pt c a17 (b17.unread x17) ∗ pt c a18 (b18.unread x18) ∗ pt c a19 (b19.unread x19) ∗ (iprop(pt c a2 (b2.unread x2) ∗ pt c a3 (b3.unread x3) ∗ pt c a4 (b4.unread x4) ∗ pt c a5 (b5.unread x5) ∗ pt c a6 (b6.unread x6) ∗ pt c a7 (b7.unread x7) ∗ pt c a8 (b8.unread x8) ∗ pt c a9 (b9.unread x9) ∗ pt c a10 g10 ∗ pt c a11 g11 ∗ pt c a12 g12 ∗ pt c a13 g13 ∗ pt c a14 g14 ∗ pt c a15 g15 ∗ pt c a16 g16 ∗ pt c a17 g17 ∗ pt c a18 g18 ∗ pt c a19 g19) -∗ K ⟨⟩)) ⊢ wp frame (wpE (defs₀ (F := F)) Variants.none c none) E (cc0_ffn_bwd i a2 b2 a3 b3 a4 b4 a5 b5 a6 b6 a7 b7 a8 b8 a9 b9 a10 b10 a11 b11 a12 b12 a13 b13 a14 b14 a15 b15 a16 b16 a17 b17 a18 b18 a19 b19) K

set_option maxHeartbeats 8000000 in
/-- The body's run, at any value instance. -/
noncomputable def run : Left (F := F) c i a2 b2 a3 b3 a4 b4 a5 b5 a6 b6 a7 b7 a8 b8 a9 b9 a10 b10 a11 b11 a12 b12 a13 b13 a14 b14 a15 b15 a16 b16 a17 b17 a18 b18 a19 b19 x2 x3 x4 x5 x6 x7 x8 x9 x10 x11 x12 x13 x14 x15 x16 x17 x18 x19 := by
  refine ⟨?_, ?_, ?_, ?_, ?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    iintro ⟨H2, H3, H4, H5, H6, H7, H8, H9, H10, H11, H12, H13, H14, H15, H16, H17, H18, H19, Hk⟩
    sl_exec
    sl_step
    iapply Hk
    iframe H2 H3 H4 H5 H6 H7 H8 H9 H10 H11 H12 H13 H14 H15 H16 H17 H18 H19

variable {c i a2 b2 a3 b3 a4 b4 a5 b5 a6 b6 a7 b7 a8 b8 a9 b9 a10 b10 a11 b11 a12 b12 a13 b13 a14 b14 a15 b15 a16 b16 a17 b17 a18 b18 a19 b19 x2 x3 x4 x5 x6 x7 x8 x9 x10 x11 x12 x13 x14 x15 x16 x17 x18 x19}

set_option maxHeartbeats 800000 in
/-- A run of the body, each buffer's contents read through its view. -/
theorem Left.owns (R : Left (F := F) c i a2 b2 a3 b3 a4 b4 a5 b5 a6 b6 a7 b7 a8 b8 a9 b9 a10 b10 a11 b11 a12 b12 a13 b13 a14 b14 a15 b15 a16 b16 a17 b17 a18 b18 a19 b19 x2 x3 x4 x5 x6 x7 x8 x9 x10 x11 x12 x13 x14 x15 x16 x17 x18 x19) (E : Set ℕ) (K : PUnit → sProp 𝕄) :
   iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (a10.view.read (Elt F) R.g10) ∗ owns (c : Thread nD τ) a11 fullShare (a11.view.read (Elt F) R.g11) ∗ owns (c : Thread nD τ) a12 fullShare (a12.view.read (Elt F) R.g12) ∗ owns (c : Thread nD τ) a13 fullShare (a13.view.read (Elt F) R.g13) ∗ owns (c : Thread nD τ) a14 fullShare (a14.view.read (Elt F) R.g14) ∗ owns (c : Thread nD τ) a15 fullShare (a15.view.read (Elt F) R.g15) ∗ owns (c : Thread nD τ) a16 fullShare (a16.view.read (Elt F) R.g16) ∗ owns (c : Thread nD τ) a17 fullShare (a17.view.read (Elt F) R.g17) ∗ owns (c : Thread nD τ) a18 fullShare (a18.view.read (Elt F) R.g18) ∗ owns (c : Thread nD τ) a19 fullShare (a19.view.read (Elt F) R.g19)) -∗ K ⟨⟩)) ⊢ wp frame (wpE (defs₀ (F := F)) Variants.none c none) E (cc0_ffn_bwd i a2 b2 a3 b3 a4 b4 a5 b5 a6 b6 a7 b7 a8 b8 a9 b9 a10 b10 a11 b11 a12 b12 a13 b13 a14 b14 a15 b15 a16 b16 a17 b17 a18 b18 a19 b19) K := by
  obtain ⟨g10, g11, g12, g13, g14, g15, g16, g17, g18, g19, hR⟩ := R
  simp only [owns_pt c b2, owns_pt c b3, owns_pt c b4, owns_pt c b5, owns_pt c b6, owns_pt c b7, owns_pt c b8, owns_pt c b9, owns_pt c b10, owns_pt c b11, owns_pt c b12, owns_pt c b13, owns_pt c b14, owns_pt c b15, owns_pt c b16, owns_pt c b17, owns_pt c b18, owns_pt c b19, Memref.IsWhole.unread_read]
  exact hR E K

end

section

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (t : Fin cfg0.N) (y2 : Vec F S512x1024 .f32) (y3 : Vec F S1x2x512x704 .bf16) (y4 : Vec F S1x2x512x704 .bf16) (y5 : Vec F S2x1x1024x704 .bf16) (y6 : Vec F S2x1x3x704 .f32) (y7 : Vec F S704x1024 .bf16) (y8 : Vec F S512x1024 .f32) (y9 : Vec F S1x1024 .f32) (y10 : Vec F S1x512x704 .bf16) (y11 : Vec F S1x2x512x704 .bf16) (y12 : Vec F S512x1024 .f32) (y13 : Vec F S512x1024 .bf16) (y14 : Vec F S1x1024 .f32) (y15 : Vec F S4x2x3x704 .f32) (y16 : Vec F S4x2x8x704 .f32) (y17 : Vec F S512x1024 .f32) (y18 : Vec F S2x3x8x704 .f32) (y19 : Vec F S2x520x704 .f32)

/-- The body's run at a point of the grid, on the buffers the pipeline hands it. -/
def runAt :=
  run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) y2 y3 y4 y5 y6 y7 y8 y9 y10 y11 y12 y13 y14 y15 y16 y17 y18 y19

/-- What the body leaves in buffer 10 at a point. -/
def o10 : Vec F S1x512x704 .bf16 :=
  (win0_8.stage (cfg0.slots t 8)).view.read (Elt F) (runAt (F := F) c t y2 y3 y4 y5 y6 y7 y8 y9 y10 y11 y12 y13 y14 y15 y16 y17 y18 y19).g10

/-- What the body leaves in buffer 11 at a point. -/
def o11 : Vec F S1x2x512x704 .bf16 :=
  (win0_9.stage (cfg0.slots t 9)).view.read (Elt F) (runAt (F := F) c t y2 y3 y4 y5 y6 y7 y8 y9 y10 y11 y12 y13 y14 y15 y16 y17 y18 y19).g11

/-- What the body leaves in buffer 12 at a point. -/
def o12 : Vec F S512x1024 .f32 :=
  (win0_10.stage (cfg0.slots t 10)).view.read (Elt F) (runAt (F := F) c t y2 y3 y4 y5 y6 y7 y8 y9 y10 y11 y12 y13 y14 y15 y16 y17 y18 y19).g12

/-- What the body leaves in buffer 13 at a point. -/
def o13 : Vec F S512x1024 .bf16 :=
  (win0_11.stage (cfg0.slots t 11)).view.read (Elt F) (runAt (F := F) c t y2 y3 y4 y5 y6 y7 y8 y9 y10 y11 y12 y13 y14 y15 y16 y17 y18 y19).g13

/-- What the body leaves in buffer 14 at a point. -/
def o14 : Vec F S1x1024 .f32 :=
  (win0_12.stage (cfg0.slots t 12)).view.read (Elt F) (runAt (F := F) c t y2 y3 y4 y5 y6 y7 y8 y9 y10 y11 y12 y13 y14 y15 y16 y17 y18 y19).g14

/-- What the body leaves in buffer 15 at a point. -/
def o15 : Vec F S4x2x3x704 .f32 :=
  (win0_13.stage (cfg0.slots t 13)).view.read (Elt F) (runAt (F := F) c t y2 y3 y4 y5 y6 y7 y8 y9 y10 y11 y12 y13 y14 y15 y16 y17 y18 y19).g15

/-- What the body leaves in buffer 16 at a point. -/
def o16 : Vec F S4x2x8x704 .f32 :=
  (Memref.whole cc0_scratch0).view.read (Elt F) (runAt (F := F) c t y2 y3 y4 y5 y6 y7 y8 y9 y10 y11 y12 y13 y14 y15 y16 y17 y18 y19).g16

/-- What the body leaves in buffer 17 at a point. -/
def o17 : Vec F S512x1024 .f32 :=
  (Memref.whole cc0_scratch1).view.read (Elt F) (runAt (F := F) c t y2 y3 y4 y5 y6 y7 y8 y9 y10 y11 y12 y13 y14 y15 y16 y17 y18 y19).g17

end

/-- What is claimed of the results' windows after a point, and of the two scratch buffers carried between points. -/
structure Held (F : FTy → Type) where
  /-- Of the carried rows and the accumulator before a point. -/
  S : Dev nD → ℕ → Vec F S4x2x8x704 .f32 → Vec F S512x1024 .f32 → Prop
  /-- Of window 8 after a point. -/
  Q8 : Dev nD → Fin cfg0.N → Vec F S1x512x704 .bf16 → Prop
  /-- Of window 9 after a point. -/
  Q9 : Dev nD → Fin cfg0.N → Vec F S1x2x512x704 .bf16 → Prop
  /-- Of window 10 after a point. -/
  Q10 : Dev nD → Fin cfg0.N → Vec F S512x1024 .f32 → Prop
  /-- Of window 11 after a point. -/
  Q11 : Dev nD → Fin cfg0.N → Vec F S512x1024 .bf16 → Prop
  /-- Of window 12 after a point. -/
  Q12 : Dev nD → Fin cfg0.N → Vec F S1x1024 .f32 → Prop
  /-- Of window 13 after a point. -/
  Q13 : Dev nD → Fin cfg0.N → Vec F S4x2x3x704 .f32 → Prop

/-- The predicate of each window. -/
def Held.Rl (P : Held F) (c : Dev nD) : (w : Fin cfg0.W) → Fin cfg0.N → ((cfg0.win w).block.Idx → Elt F (cfg0.win w).elt) → Prop
  | 0 => fun _ _ => True
  | 1 => fun _ _ => True
  | 2 => fun _ _ => True
  | 3 => fun _ _ => True
  | 4 => fun _ _ => True
  | 5 => fun _ _ => True
  | 6 => fun _ _ => True
  | 7 => fun _ _ => True
  | 8 => fun t X => P.Q8 c t X
  | 9 => fun t X => P.Q9 c t X
  | 10 => fun t X => P.Q10 c t X
  | 11 => fun t X => P.Q11 c t X
  | 12 => fun t X => P.Q12 c t X
  | 13 => fun t X => P.Q13 c t X
  | ⟨_ + 14, h⟩ => absurd h (Nat.not_lt.2 (Nat.le_add_left _ _))

/-- The four scratch buffers before point `n`, and the generator's register. -/
def Held.Phi (P : Held F) (c : Dev nD) (n : ℕ) (_ : n ≤ cfg0.N) : sProp 𝕄 :=
  iprop((∃ (x16 : Vec F S4x2x8x704 .f32) (x17 : Vec F S512x1024 .f32) (x18 : Vec F S2x3x8x704 .f32) (x19 : Vec F S2x520x704 .f32), ⌜P.S c n x16 x17⌝
    ∗ owns (c : Thread nD τ) (Memref.whole cc0_scratch0) fullShare x16 ∗ owns (c : Thread nD τ) (Memref.whole cc0_scratch1) fullShare x17
    ∗ owns (c : Thread nD τ) (Memref.whole cc0_scratch2) fullShare x18 ∗ owns (c : Thread nD τ) (Memref.whole cc0_scratch3) fullShare x19)
    ∗ ∃ r, prngReg c r)

/-- The proof data: an argument's window keeps its block. -/
def dats (P : Held F) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => Dat.unnamed (cfg := cfg0) 8 t
    | 9 => Dat.unnamed (cfg := cfg0) 9 t
    | 10 => Dat.unnamed (cfg := cfg0) 10 t
    | 11 => Dat.unnamed (cfg := cfg0) 11 t
    | 12 => Dat.unnamed (cfg := cfg0) 12 t
    | 13 => Dat.unnamed (cfg := cfg0) 13 t
    | ⟨_ + 14, h⟩ => absurd h (Nat.not_lt.2 (Nat.le_add_left _ _))
  Φ t := P.Phi c t.val (Nat.le_of_lt_succ t.isLt)
  q _ := fullShare
  owed _ := 0

/-- The results' windows. -/
def fgt : Fin cfg0.W → Bool := fun w => decide (8 ≤ w.val)

/-- The proof data with the results' windows held to their predicates. -/
abbrev rdat (P : Held F) (c : Dev nD) := (dats m P c).toRRel fgt (P.Rl c)

theorem A_eq (P : Held F) (c : Dev nD) (w : Fin cfg0.W) : (dats m P c).A w = V m c (Pipeline.arrRef spec0 w) := by dsimp only [dats]

/-- An argument's window is left as it was found. -/
theorem keeps (P : Held F) (c : Dev nD) (w : Fin cfg0.W) (hw : fgt w = false) (t : Fin cfg0.N) (Y X) (h : (dats m P c).Leaves w t X) :
    (rdat m P c).after w t Y X := by
  rw [(dats m P c).toRRel_after_of_eq_false (fgt := fgt) (Rl := P.Rl c) hw]
  exact h

/-- An argument's window holds its block, where its proof data says so. -/
theorem found {P : Held F} {c : Dev nD} (w : Fin cfg0.W) (hw : fgt w = false) {t : Fin cfg0.N} {Y} (h : (rdat m P c).Finds w t Y) {b}
    (hb : ∀ d, (dats m P c).before w t d = b) : Y = b := by
  obtain ⟨d, hd⟩ := (dats m P c).toRRel_finds (fgt := fgt) (Rl := P.Rl c) hw t Y h
  exact hd.trans (hb d)

/-- Argument window 0 holds its block. -/
theorem found_0 (P : Held F) (c : Dev nD) (t : Fin cfg0.N) (Y) (h : (rdat m P c).Finds 0 t Y) : Y = iblk m c 0 t :=
  found m 0 (by decide) h (before0_0_of m (dats m P c) (A_eq m P c 0) (fun _ => rfl) t)

/-- Argument window 1 holds its block. -/
theorem found_1 (P : Held F) (c : Dev nD) (t : Fin cfg0.N) (Y) (h : (rdat m P c).Finds 1 t Y) : Y = iblk m c 1 t :=
  found m 1 (by decide) h (before0_1_of m (dats m P c) (A_eq m P c 1) (fun _ => rfl) t)

/-- Argument window 2 holds its block. -/
theorem found_2 (P : Held F) (c : Dev nD) (t : Fin cfg0.N) (Y) (h : (rdat m P c).Finds 2 t Y) : Y = iblk m c 2 t :=
  found m 2 (by decide) h (before0_2_of m (dats m P c) (A_eq m P c 2) (fun _ => rfl) t)

/-- Argument window 3 holds its block. -/
theorem found_3 (P : Held F) (c : Dev nD) (t : Fin cfg0.N) (Y) (h : (rdat m P c).Finds 3 t Y) : Y = iblk m c 3 t :=
  found m 3 (by decide) h (before0_3_of m (dats m P c) (A_eq m P c 3) (fun _ => rfl) t)

/-- Argument window 4 holds its block. -/
theorem found_4 (P : Held F) (c : Dev nD) (t : Fin cfg0.N) (Y) (h : (rdat m P c).Finds 4 t Y) : Y = iblk m c 4 t :=
  found m 4 (by decide) h (before0_4_of m (dats m P c) (A_eq m P c 4) (fun _ => rfl) t)

/-- Argument window 5 holds its block. -/
theorem found_5 (P : Held F) (c : Dev nD) (t : Fin cfg0.N) (Y) (h : (rdat m P c).Finds 5 t Y) : Y = iblk m c 5 t :=
  found m 5 (by decide) h (before0_5_of m (dats m P c) (A_eq m P c 5) (fun _ => rfl) t)

/-- Argument window 6 holds its block. -/
theorem found_6 (P : Held F) (c : Dev nD) (t : Fin cfg0.N) (Y) (h : (rdat m P c).Finds 6 t Y) : Y = iblk m c 6 t :=
  found m 6 (by decide) h (before0_6_of m (dats m P c) (A_eq m P c 6) (fun _ => rfl) t)

/-- Argument window 7 holds its block. -/
theorem found_7 (P : Held F) (c : Dev nD) (t : Fin cfg0.N) (Y) (h : (rdat m P c).Finds 7 t Y) : Y = iblk m c 7 t :=
  found m 7 (by decide) h (before0_7_of m (dats m P c) (A_eq m P c 7) (fun _ => rfl) t)

/-- A result's window holds what is claimed of it, -/
theorem holds (P : Held F) (c : Dev nD) (w : Fin cfg0.W) (hw : fgt w = true) (t : Fin cfg0.N) (Y X) (h : P.Rl c w t X) :
    (rdat m P c).after w t Y X := by
  rw [(dats m P c).toRRel_after_of_eq_true (fgt := fgt) (Rl := P.Rl c) hw]
  exact h

/-- and what is claimed of it is left there. -/
theorem left (P : Held F) (c : Dev nD) (w : Fin cfg0.W) (hw : fgt w = true) (t : Fin cfg0.N) (X) (h : (rdat m P c).Leaves w t X) : P.Rl c w t X :=
  (dats m P c).toRRel_leaves (fgt := fgt) (Rl := P.Rl c) hw h

/-- What the body finds in window 12 after the first point is what the point before left. -/
theorem found_12 (P : Held F) (c : Dev nD) (t p : Fin cfg0.N) (hp : p.val + 1 = t.val) (Y : Vec F S1x1024 .f32) (h : (rdat m P c).Finds 12 t Y) :
    P.Q12 c p Y := by
  have hN : grid0.N = 32 := N_0
  have ht : t.val < grid0.N := t.isLt
  have e : (⟨t.val - 1, Nat.lt_of_le_of_lt (Nat.sub_le _ _) t.isLt⟩ : Fin cfg0.N) = p := Fin.ext (by simp only; omega)
  have h1 := ((rdat m P c).finds_of_pos (w := 12) (t := t) rfl (by omega) Y).mp h
  rw [e] at h1
  rcases h1 with h1 | h1
  · have := (flush0_12 p).mp h1; omega
  · exact left m P c 12 (by decide) p Y h1

/-- What the body finds in window 13 after the first point is what the point before left. -/
theorem found_13 (P : Held F) (c : Dev nD) (t p : Fin cfg0.N) (hp : p.val + 1 = t.val) (Y : Vec F S4x2x3x704 .f32) (h : (rdat m P c).Finds 13 t Y) :
    P.Q13 c p Y := by
  have hN : grid0.N = 32 := N_0
  have ht : t.val < grid0.N := t.isLt
  have e : (⟨t.val - 1, Nat.lt_of_le_of_lt (Nat.sub_le _ _) t.isLt⟩ : Fin cfg0.N) = p := Fin.ext (by simp only; omega)
  have h1 := ((rdat m P c).finds_of_pos (w := 13) (t := t) rfl (by omega) Y).mp h
  rw [e] at h1
  rcases h1 with h1 | h1
  · have := (flush0_13 p).mp h1; omega
  · exact left m P c 13 (by decide) p Y h1

/-- One step: from what is claimed before a point to what is claimed after it. -/
def Step (P : Held F) : Prop := ∀ (c : Dev nD) (t : Fin cfg0.N) (y2 : Vec F S512x1024 .f32) (y3 : Vec F S1x2x512x704 .bf16) (y4 : Vec F S1x2x512x704 .bf16) (y5 : Vec F S2x1x1024x704 .bf16) (y6 : Vec F S2x1x3x704 .f32) (y7 : Vec F S704x1024 .bf16) (y8 : Vec F S512x1024 .f32) (y9 : Vec F S1x1024 .f32) (y10 : Vec F S1x512x704 .bf16) (y11 : Vec F S1x2x512x704 .bf16) (y12 : Vec F S512x1024 .f32) (y13 : Vec F S512x1024 .bf16) (y14 : Vec F S1x1024 .f32) (y15 : Vec F S4x2x3x704 .f32) (y16 : Vec F S4x2x8x704 .f32) (y17 : Vec F S512x1024 .f32) (y18 : Vec F S2x3x8x704 .f32) (y19 : Vec F S2x520x704 .f32) (_ : y2 = iblk m c 0 t) (_ : y3 = iblk m c 1 t) (_ : y4 = iblk m c 2 t) (_ : y5 = iblk m c 3 t) (_ : y6 = iblk m c 4 t) (_ : y7 = iblk m c 5 t) (_ : y8 = iblk m c 6 t) (_ : y9 = iblk m c 7 t)
    (_ : ∀ p : Fin cfg0.N, p.val + 1 = t.val → P.Q12 c p y14) (_ : ∀ p : Fin cfg0.N, p.val + 1 = t.val → P.Q13 c p y15) (_ : P.S c t.val y16 y17),
    P.Q8 c t (o10 c t y2 y3 y4 y5 y6 y7 y8 y9 y10 y11 y12 y13 y14 y15 y16 y17 y18 y19) ∧ P.Q9 c t (o11 c t y2 y3 y4 y5 y6 y7 y8 y9 y10 y11 y12 y13 y14 y15 y16 y17 y18 y19) ∧ P.Q10 c t (o12 c t y2 y3 y4 y5 y6 y7 y8 y9 y10 y11 y12 y13 y14 y15 y16 y17 y18 y19) ∧ P.Q11 c t (o13 c t y2 y3 y4 y5 y6 y7 y8 y9 y10 y11 y12 y13 y14 y15 y16 y17 y18 y19) ∧ P.Q12 c t (o14 c t y2 y3 y4 y5 y6 y7 y8 y9 y10 y11 y12 y13 y14 y15 y16 y17 y18 y19) ∧ P.Q13 c t (o15 c t y2 y3 y4 y5 y6 y7 y8 y9 y10 y11 y12 y13 y14 y15 y16 y17 y18 y19) ∧ P.S c (t.val + 1) (o16 c t y2 y3 y4 y5 y6 y7 y8 y9 y10 y11 y12 y13 y14 y15 y16 y17 y18 y19) (o17 c t y2 y3 y4 y5 y6 y7 y8 y9 y10 y11 y12 y13 y14 y15 y16 y17 y18 y19)

/-- The body table's row at the point is the body on the point's buffers. -/
theorem defs₀_row (t : Fin cfg0.N) : defs₀ (F := F) .tc cfg0.body (cfg0.bodyArgs t (cfg0.slots t)) = bodyAt0 t := by
  unfold defs₀; rw [Defs.onTc_tc]

theorem Phi_pre (P : Held F) (c : Dev nD) (t : Fin cfg0.N) : (rdat m P c).Φ t.castSucc = P.Phi c t.val (Nat.le_of_lt t.isLt) := by
  show (dats m P c).Φ t.castSucc = _
  dsimp only [dats]
  exact Pipeline.Dat.Φ_castSucc (P.Phi c) t

theorem Phi_post (P : Held F) (c : Dev nD) (t : Fin cfg0.N) : (rdat m P c).Φ t.succ = P.Phi c (t.val + 1) t.isLt := by
  show (dats m P c).Φ t.succ = _
  dsimp only [dats]
  rfl

set_option maxHeartbeats 1600000 in
/-- The body at every point: from the windows as found and the scratch buffers as claimed to what is claimed after. -/
theorem body (P : Held F) (hstep : Step m P) (c : Dev nD) : (rdat m P c).BodyObligation (defs₀ (F := F)) Variants.none () Set.univ := by
  intro t Y hY
  have HS := fun y16 y17 y18 y19 h16 => hstep c t (Y 0) (Y 1) (Y 2) (Y 3) (Y 4) (Y 5) (Y 6) (Y 7) (Y 8) (Y 9) (Y 10) (Y 11) (Y 12) (Y 13) y16 y17 y18 y19 (found_0 m P c t _ (hY 0)) (found_1 m P c t _ (hY 1)) (found_2 m P c t _ (hY 2)) (found_3 m P c t _ (hY 3)) (found_4 m P c t _ (hY 4)) (found_5 m P c t _ (hY 5)) (found_6 m P c t _ (hY 6)) (found_7 m P c t _ (hY 7))
    (fun p hp => found_12 m P c t p hp _ (hY 12)) (fun p hp => found_13 m P c t p hp _ (hY 13)) h16
  rw [bigSep_W0, bigSep_W0, defs₀_row, Phi_pre, Phi_post]
  unfold Held.Phi
  iintro ⟨⟨⟨%x16, %x17, %x18, %x19, %hS, G16, G17, G18, G19⟩, Hg⟩, HO, H2, H3, H4, H5, H6, H7, H8, H9, H10, H11, H12, H13, H14, H15⟩
  have HS1 := HS x16 x17 x18 x19 hS
  iapply ((runAt (F := F) c t (Y 0) (Y 1) (Y 2) (Y 3) (Y 4) (Y 5) (Y 6) (Y 7) (Y 8) (Y 9) (Y 10) (Y 11) (Y 12) (Y 13) x16 x17 x18 x19).owns Set.univ _)
  iframe H2 H3 H4 H5 H6 H7 H8 H9 H10 H11 H12 H13 H14 H15 G16 G17 G18 G19
  iintro ⟨H2, H3, H4, H5, H6, H7, H8, H9, H10, H11, H12, H13, H14, H15, G16, G17, G18, G19⟩
  isplitl [G16 G17 G18 G19 Hg]
  · isplitr [Hg]
    · iexists _, _, _, _
      isplitr; · ipureintro; exact HS1.2.2.2.2.2.2
      iframe G16 G17 G18
      iexact G19
    · iexact Hg
  isplitl [HO]; · iexact HO
  isplitl [H2]
  · iexists _; isplitr; · ipureintro; exact keeps m P c 0 (by decide) t _ _ (found_0 m P c t _ (hY 0))
    iexact H2
  isplitl [H3]
  · iexists _; isplitr; · ipureintro; exact keeps m P c 1 (by decide) t _ _ (found_1 m P c t _ (hY 1))
    iexact H3
  isplitl [H4]
  · iexists _; isplitr; · ipureintro; exact keeps m P c 2 (by decide) t _ _ (found_2 m P c t _ (hY 2))
    iexact H4
  isplitl [H5]
  · iexists _; isplitr; · ipureintro; exact keeps m P c 3 (by decide) t _ _ (found_3 m P c t _ (hY 3))
    iexact H5
  isplitl [H6]
  · iexists _; isplitr; · ipureintro; exact keeps m P c 4 (by decide) t _ _ (found_4 m P c t _ (hY 4))
    iexact H6
  isplitl [H7]
  · iexists _; isplitr; · ipureintro; exact keeps m P c 5 (by decide) t _ _ (found_5 m P c t _ (hY 5))
    iexact H7
  isplitl [H8]
  · iexists _; isplitr; · ipureintro; exact keeps m P c 6 (by decide) t _ _ (found_6 m P c t _ (hY 6))
    iexact H8
  isplitl [H9]
  · iexists _; isplitr; · ipureintro; exact keeps m P c 7 (by decide) t _ _ (found_7 m P c t _ (hY 7))
    iexact H9
  isplitl [H10]
  · iexists _; isplitr; · ipureintro; exact holds m P c 8 (by decide) t _ _ HS1.1
    iexact H10
  isplitl [H11]
  · iexists _; isplitr; · ipureintro; exact holds m P c 9 (by decide) t _ _ HS1.2.1
    iexact H11
  isplitl [H12]
  · iexists _; isplitr; · ipureintro; exact holds m P c 10 (by decide) t _ _ HS1.2.2.1
    iexact H12
  isplitl [H13]
  · iexists _; isplitr; · ipureintro; exact holds m P c 11 (by decide) t _ _ HS1.2.2.2.1
    iexact H13
  isplitl [H14]
  · iexists _; isplitr; · ipureintro; exact holds m P c 12 (by decide) t _ _ HS1.2.2.2.2.1
    iexact H14
  · iexists _; isplitr; · ipureintro; exact holds m P c 13 (by decide) t _ _ HS1.2.2.2.2.2.1
    iexact H15

/-- The scratch buffers as the region finds them. -/
theorem Phi_in (P : Held F) (h0 : ∀ c x16 x17, P.S c 0 x16 x17) (c : Dev nD) : Pipeline.ΦA spec0 c ⊢ (rdat m P c).Φ 0 := by
  show _ ⊢ (dats m P c).Φ 0
  dsimp only [dats]
  unfold Pipeline.ΦA Held.Phi
  rw [scopedRest0_eq]
  simp only [owns_whole]
  iintro ⟨⟨⟨%f0, H0⟩, ⟨%f1, H1⟩, ⟨%f2, H2⟩, ⟨%f3, H3⟩⟩, Hg⟩
  isplitr [Hg]
  · iexists f0, f1, f2, f3
    isplitr; · ipureintro; exact h0 c _ _
    iframe H0 H1 H2
    iexact H3
  · iexact Hg

/-- The scratch buffers given back. -/
theorem Phi_out (P : Held F) (c : Dev nD) : (rdat m P c).Φ (Fin.last cfg0.N) ⊢ Pipeline.ΦA spec0 c := by
  show (dats m P c).Φ (Fin.last cfg0.N) ⊢ _
  dsimp only [dats]
  unfold Pipeline.ΦA Held.Phi
  rw [scopedRest0_eq]
  simp only [owns_whole]
  iintro ⟨⟨%x16, %x17, %x18, %x19, %hS, G16, G17, G18, G19⟩, Hg⟩
  isplitr [Hg]
  · isplitl [G16]; · iexists x16; iexact G16
    isplitl [G17]; · iexists x17; iexact G17
    isplitl [G18]; · iexists x18; iexact G18
    iexists x19; iexact G19
  · iexact Hg

set_option backward.isDefEq.respectTransparency.types false in
/-- The program's run: every array ends as its window's predicate allows, every semaphore at zero. -/
theorem run_main (P : Held F) (hstep : Step m P) (h0 : ∀ c x16 x17, P.S c 0 x16 x17) :
    θ_run defs (onTc (τ := τ) (main (F := F))) (s₀ m ρ)
      (fun r => Pipeline.RDat.FramePost (cfgs 0) (fun c => rdat m P c) (V m) r ∧ r.2.sem = fun _ => 0) :=
  Pipeline.RDat.θ_run_frame_track (Q' := _) cfgs (0 : Fin 1) launch0 defs₀ Variants.none (fun c => rdat m P c) m ρ main
    (body m P hstep) (fun c w => (dats m P c).share_full (fun _ => rfl) w) (fun _ _ => rfl) (V m) (hmain m Variants.none) (A_eq m P)
    (Phi_in m P h0) (Phi_out m P)

/-- The arguments' arrays end as they were. -/
abbrev Kept (r : PUnit × MemSt nD τ sig (Elt F)) (c : Dev nD) : Prop :=
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)

/-- The arguments' arrays after the run. -/
theorem kept (P : Held F) (r : PUnit × MemSt nD τ sig (Elt F)) (h : Pipeline.RDat.FramePost (cfgs 0) (fun c => rdat m P c) (V m) r) (c : Dev nD) :
    Kept m r c :=
  ⟨(Pipeline.RDat.FramePost.arr_in h c 0 rfl).trans ((A_eq m P c 0).trans (V_main_arg0 m c)),
    (Pipeline.RDat.FramePost.arr_in h c 1 rfl).trans ((A_eq m P c 1).trans (V_main_arg1 m c)),
    (Pipeline.RDat.FramePost.arr_in h c 2 rfl).trans ((A_eq m P c 2).trans (V_main_arg2 m c)),
    (Pipeline.RDat.FramePost.arr_in h c 3 rfl).trans ((A_eq m P c 3).trans (V_main_arg3 m c)),
    (Pipeline.RDat.FramePost.arr_in h c 4 rfl).trans ((A_eq m P c 4).trans (V_main_arg4 m c)),
    (Pipeline.RDat.FramePost.arr_in h c 5 rfl).trans ((A_eq m P c 5).trans (V_main_arg5 m c)),
    (Pipeline.RDat.FramePost.arr_in h c 6 rfl).trans ((A_eq m P c 6).trans (V_main_arg6 m c)),
    (Pipeline.RDat.FramePost.arr_in h c 7 rfl).trans ((A_eq m P c 7).trans (V_main_arg7 m c))⟩

/-- Nothing claimed of any result. -/
def nothing : Held F := ⟨fun _ _ _ _ => True, fun _ _ _ => True, fun _ _ _ => True, fun _ _ _ => True, fun _ _ _ => True, fun _ _ _ => True, fun _ _ _ => True⟩

/-- The program terminates without a fault, its arguments end as they were, and every semaphore ends at zero. -/
theorem frame : θ_run defs (onTc (τ := τ) (main (F := F))) ⟨m, fun _ => 0, ρ⟩ (fun r => (∀ c : Dev nD,
      Kept m r c) ∧ r.2.sem = fun _ => 0) :=
  (θ_run defs _ _).mono (fun r h => ⟨fun c => kept m nothing r h.1 c, h.2⟩)
    (run_main m ρ nothing (by intro c t; intros; exact ⟨trivial, trivial, trivial, trivial, trivial, trivial, trivial⟩) (fun _ _ _ => trivial))

end

end Cert.FfnGrad

end
-- ==== Proof.FgPoint.lean ====
/-
  The feed-forward gradient's block formulas at one grid point, over the extended reals, and the kernel's operations on
  thirty-two rows, each read entry by entry.

  One grid point of the feed-forward gradient: the buffers and contents it runs on, and what the lists of its stores hold
  after each chunk of thirty-two rows.

  One grid point of the feed-forward gradient: what each chunk's stores hold, chunk by chunk from the last rows upwards.

  One grid point of the feed-forward gradient: what it leaves in each buffer, entry by entry.
-/
module

public import proofs.«01_k».proof.Proof.FgBody
public import proofs.«01_k».proof.Proof.Spec
public import Idealize.ShloMosaic.Lib.Pointwise
public import Idealize.ShloMosaic.Lib.Pipeline.ValueKit
public import Idealize.ShloMosaic.Lib.WholeRead
public import Idealize.ShloMosaic.Lib.WritesUnit
public import Idealize.ShloMosaic.Lib.VecWindow

@[expose] public section

set_option maxRecDepth 16384

noncomputable section

namespace Cert.FfnGrad

section

open Cert.Kernel11Ideal Cert.Kernel11Ideal.Gen
open Idealize.ShloMosaic Idealize.ShloMosaic.TcCoe Idealize.ShloMosaic.Tactic

section Formulas

variable (x2 : Vec Ideal S512x1024 .f32) (x3 x4 : Vec Ideal S1x2x512x704 .bf16) (x5 : Vec Ideal S2x1x1024x704 .bf16)
  (x6 : Vec Ideal S2x1x3x704 .f32) (x7 : Vec Ideal S704x1024 .bf16) (car : Fin 2 → Fin 8 → Fin 704 → EReal)

/-- The gated value's gradient: the output's gradient through the group's rows of the down projection. -/
def da (r : Fin 512) (k : Fin 704) : EReal := ∑ j, x2 (ix2 r j) * x7 (ix2 k j)

/-- The gradient before the convolution at the block's rows: half `0` the gate's, half `1` the value's. -/
def dc (gv : Fin 2) (r : Fin 512) (k : Fin 704) : EReal :=
  if gv = 0 then gateBack (da x2 x7 r k) (x4 (ix4 0 0 r k)) (x4 (ix4 0 1 r k)) else valueBack (da x2 x7 r k) (x4 (ix4 0 0 r k))

/-- The same with the eight rows below the block. -/
def D (gv : Fin 2) (r : ℕ) (k : Fin 704) : EReal :=
  if h : r < 512 then dc x2 x4 x7 gv ⟨r, h⟩ k else if h : r - 512 < 8 then car gv ⟨r - 512, h⟩ k else 0

/-- The gradient through the convolution. -/
def du (gv : Fin 2) (r : ℕ) (k : Fin 704) : EReal :=
  (x6 (ix4 gv 0 2 k) * D x2 x4 x7 car gv r k + x6 (ix4 gv 0 1 k) * D x2 x4 x7 car gv (r + 1) k)
    + x6 (ix4 gv 0 0 k) * D x2 x4 x7 car gv (r + 2) k

/-- A row's term of the tap's gradient. -/
def tap (gv : Fin 2) (a : Fin 3) (r : ℕ) (k : Fin 704) : EReal :=
  (if h : r < 512 then x3 (ix4 0 gv ⟨r, h⟩ k) else 0) * D x2 x4 x7 car gv (r + (2 - a.val)) k

/-- Thirty-two rows' terms, folded to eight. -/
def fold (gv : Fin 2) (a : Fin 3) (o : ℕ) (s : Fin 8) (k : Fin 704) : EReal :=
  (((0 + tap x2 x3 x4 x7 car gv a (o + s.val) k) + tap x2 x3 x4 x7 car gv a (o + (8 + s.val)) k)
    + tap x2 x3 x4 x7 car gv a (o + (16 + s.val)) k) + tap x2 x3 x4 x7 car gv a (o + (24 + s.val)) k

/-- The tap's partial sums after `n` chunks, from the last rows upwards. -/
def taps (gv : Fin 2) (a : Fin 3) : ℕ → Fin 8 → Fin 704 → EReal
  | 0, _, _ => 0
  | n + 1, s, k => taps gv a n s k + fold x2 x3 x4 x7 car gv a (480 - 32 * n) s k

end Formulas

/-! ### The operations on a chunk -/

/-- Thirty-two rows of a block. -/
def slab (o : ℕ) (x : FVec Ideal S256x704 .f32) (h : S256x704.Slices ![o, 0] S32x704) : FVec Ideal S32x704 .f32 :=
  extractStridedSlice S32x704 ![o, 0] x h

theorem slab_at (o : ℕ) (x : FVec Ideal S256x704 .f32) (h : S256x704.Slices ![o, 0] S32x704) (s : Fin 32) (k : Fin 704)
    (r : Fin 256) (hr : r.val = o + s.val) : slab o x h (ix2 s k) = x (ix2 r k) := by
  show x _ = x _
  refine congrArg x (funext fun a => Fin.ext ?_)
  match a with
  | ⟨0, _⟩ => exact hr.symm
  | ⟨1, _⟩ => exact Nat.zero_add _

def chA (u0 u1 : Vec Ideal S1x1x32x704 .bf16) : FVec Ideal S1x32x704 .bf16 := k0_pay24 u0 u1

theorem chA_at (u0 u1 : Vec Ideal S1x1x32x704 .bf16) (s : Fin 32) (k : Fin 704) :
    chA u0 u1 (ix3 0 s k) = (u0 (ix4 0 0 s k) * Ideal.logistic (u0 (ix4 0 0 s k))) * u1 (ix4 0 0 s k) := by
  unfold chA; pointwise [k0_pay24, k0_pay23, k0_pay22, k0_pay21, k0_pay20]

def chG (d : FVec Ideal S32x704 .f32) (u0 u1 : Vec Ideal S1x1x32x704 .bf16) : FVec Ideal S32x704 .f32 :=
  k0_pay28 (k0_pay20 u0) (k0_pay22 u0) (mulf d (k0_pay21 u1)) k0_pay27

theorem chG_at (d : FVec Ideal S32x704 .f32) (u0 u1 : Vec Ideal S1x1x32x704 .bf16) (s : Fin 32) (k : Fin 704) :
    chG d u0 u1 (ix2 s k) = gateBack (d (ix2 s k)) (u0 (ix4 0 0 s k)) (u1 (ix4 0 0 s k)) := by
  unfold chG; pointwise [k0_pay28, k0_pay27, k0_pay22, k0_pay21, k0_pay20]; rfl

def chV (d : FVec Ideal S32x704 .f32) (u0 : Vec Ideal S1x1x32x704 .bf16) : FVec Ideal S32x704 .f32 := k0_pay29 (k0_pay23 u0) d

theorem chV_at (d : FVec Ideal S32x704 .f32) (u0 : Vec Ideal S1x1x32x704 .bf16) (s : Fin 32) (k : Fin 704) :
    chV d u0 (ix2 s k) = valueBack (d (ix2 s k)) (u0 (ix4 0 0 s k)) := by
  unfold chV; pointwise [k0_pay29, k0_pay23, k0_pay22, k0_pay20]; rfl

def chD (d : FVec Ideal S32x704 .f32) : FVec Ideal S1x32x704 .f32 := k0_pay42 d

theorem chD_at (d : FVec Ideal S32x704 .f32) (s : Fin 32) (k : Fin 704) : chD d (ix3 0 s k) = d (ix2 s k) := by
  unfold chD; pointwise [k0_pay42]

def chU (c0 c1 c2 : Vec Ideal S1x1x1x704 .f32) (d : FVec Ideal S32x704 .f32) (d1 d2 : Vec Ideal S1x32x704 .f32) :
    FVec Ideal S1x1x32x704 .bf16 := k0_pay45 (k0_pay13 c0) (k0_pay14 c1) (k0_pay15 c2) d d1 d2

theorem chU_at (c0 c1 c2 : Vec Ideal S1x1x1x704 .f32) (d : FVec Ideal S32x704 .f32) (d1 d2 : Vec Ideal S1x32x704 .f32)
    (s : Fin 32) (k : Fin 704) : chU c0 c1 c2 d d1 d2 (ix4 0 0 s k)
      = (c2 (ix4 0 0 0 k) * d (ix2 s k) + c1 (ix4 0 0 0 k) * d1 (ix3 0 s k)) + c0 (ix4 0 0 0 k) * d2 (ix3 0 s k) := by
  unfold chU; pointwise [k0_pay45, k0_pay44, k0_pay43, k0_pay15, k0_pay14, k0_pay13]

def chRow (d : Vec Ideal S1x32x704 .f32) : FVec Ideal S32x704 .f32 := k0_pay31 d

theorem chRow_at (d : Vec Ideal S1x32x704 .f32) (s : Fin 32) (k : Fin 704) : chRow d (ix2 s k) = d (ix3 0 s k) := by
  unfold chRow; pointwise [k0_pay31]

def chT (u : Vec Ideal S1x1x32x704 .bf16) (d : FVec Ideal S32x704 .f32) (t : Vec Ideal S1x1x8x704 .f32) : FVec Ideal S1x1x8x704 .f32 :=
  k0_pay39 d (k0_pay34 u) t

theorem chT_at (u : Vec Ideal S1x1x32x704 .bf16) (d : FVec Ideal S32x704 .f32) (t : Vec Ideal S1x1x8x704 .f32) (s : Fin 8) (k : Fin 704) :
    chT u d t (ix4 0 0 s k) = t (ix4 0 0 s k)
      + ((((0 + u (ix4 0 0 ⟨s.val, by omega⟩ k) * d (ix2 ⟨s.val, by omega⟩ k))
        + u (ix4 0 0 ⟨8 + s.val, by omega⟩ k) * d (ix2 ⟨8 + s.val, by omega⟩ k))
        + u (ix4 0 0 ⟨16 + s.val, by omega⟩ k) * d (ix2 ⟨16 + s.val, by omega⟩ k))
        + u (ix4 0 0 ⟨24 + s.val, by omega⟩ k) * d (ix2 ⟨24 + s.val, by omega⟩ k)) := by
  unfold chT; pointwise [k0_pay39, k0_pay34]

theorem half_at (X : Vec Ideal S256x1024 .f32) (W : Vec Ideal S704x1024 .bf16) (r : Fin 256) (k : Fin 704) :
    k0_pay16 X W (ix2 r k) = ∑ j, X (ix2 r j) * W (ix2 k j) := by
  pointwise [k0_pay16]

end

section

open Cert.Kernel11Ideal Cert.Kernel11Ideal.Gen
open Idealize.ShloMosaic Idealize.ShloMosaic.TcCoe Idealize.ShloMosaic.Tactic

/-- A grid point's coordinates, its buffers and what it finds in them. -/
structure Pt where
  i : grid0.Coords
  {m2 : Memref sig .tc .vmem S512x1024 .f32} (w2 : m2.IsWhole)
  {m3 : Memref sig .tc .vmem S1x2x512x704 .bf16} (w3 : m3.IsWhole)
  {m4 : Memref sig .tc .vmem S1x2x512x704 .bf16} (w4 : m4.IsWhole)
  {m5 : Memref sig .tc .vmem S2x1x1024x704 .bf16} (w5 : m5.IsWhole)
  {m6 : Memref sig .tc .vmem S2x1x3x704 .f32} (w6 : m6.IsWhole)
  {m7 : Memref sig .tc .vmem S704x1024 .bf16} (w7 : m7.IsWhole)
  {m8 : Memref sig .tc .vmem S512x1024 .f32} (w8 : m8.IsWhole)
  {m9 : Memref sig .tc .vmem S1x1024 .f32} (w9 : m9.IsWhole)
  {m10 : Memref sig .tc .vmem S1x512x704 .bf16} (w10 : m10.IsWhole)
  {m11 : Memref sig .tc .vmem S1x2x512x704 .bf16} (w11 : m11.IsWhole)
  {m12 : Memref sig .tc .vmem S512x1024 .f32} (w12 : m12.IsWhole)
  {m13 : Memref sig .tc .vmem S512x1024 .bf16} (w13 : m13.IsWhole)
  {m14 : Memref sig .tc .vmem S1x1024 .f32} (w14 : m14.IsWhole)
  {m15 : Memref sig .tc .vmem S4x2x3x704 .f32} (w15 : m15.IsWhole)
  {m16 : Memref sig .tc .vmem S4x2x8x704 .f32} (w16 : m16.IsWhole)
  {m17 : Memref sig .tc .vmem S512x1024 .f32} (w17 : m17.IsWhole)
  {m18 : Memref sig .tc .vmem S2x3x8x704 .f32} (w18 : m18.IsWhole)
  {m19 : Memref sig .tc .vmem S2x520x704 .f32} (w19 : m19.IsWhole)
  (x2 : Vec Ideal S512x1024 .f32) (x3 x4 : Vec Ideal S1x2x512x704 .bf16) (x5 : Vec Ideal S2x1x1024x704 .bf16)
  (x6 : Vec Ideal S2x1x3x704 .f32) (x7 : Vec Ideal S704x1024 .bf16) (x8 : Vec Ideal S512x1024 .f32) (x9 : Vec Ideal S1x1024 .f32)
  (x10 : Vec Ideal S1x512x704 .bf16) (x11 : Vec Ideal S1x2x512x704 .bf16) (x12 : Vec Ideal S512x1024 .f32)
  (x13 : Vec Ideal S512x1024 .bf16) (x14 : Vec Ideal S1x1024 .f32) (x15 : Vec Ideal S4x2x3x704 .f32)
  (x16 : Vec Ideal S4x2x8x704 .f32) (x17 : Vec Ideal S512x1024 .f32)
  (x18 : Vec Ideal S2x3x8x704 .f32) (x19 : Vec Ideal S2x520x704 .f32)

/-- The body's run there. -/
def Pt.run (p : Pt) (c : Dev nD) :=
  FfnGrad.run (F := Ideal) c p.i p.m2 p.w2 p.m3 p.w3 p.m4 p.w4 p.m5 p.w5 p.m6 p.w6 p.m7 p.w7 p.m8 p.w8 p.m9 p.w9 p.m10 p.w10
    p.m11 p.w11 p.m12 p.w12 p.m13 p.w13 p.m14 p.w14 p.m15 p.w15 p.m16 p.w16 p.m17 p.w17 p.m18 p.w18 p.m19 p.w19
    p.x2 p.x3 p.x4 p.x5 p.x6 p.x7 p.x8 p.x9 p.x10 p.x11 p.x12 p.x13 p.x14 p.x15 p.x16 p.x17 p.x18 p.x19

/-! ### Words and offsets -/

theorem word_small (n : ℕ) (hn : n < 4) : (BitVec.ofNat 32 n).toNat = n := by
  rw [BitVec.toNat_ofNat]; exact Nat.mod_eq_of_lt (by omega)

theorem cond_first : ∀ t : Fin grid0.N, k0_cond1 (grid0.coords t) = 1#1 ↔ t.val / 4 = 0 := by decide +kernel

theorem Pt.slot_lt (p : Pt) : (p.i 1).val < 4 := (p.i 1).isLt

/-- The group's slot of the buffers all groups share. -/
def Pt.slot (p : Pt) : Fin 4 := ⟨(p.i 1).val, p.slot_lt⟩

theorem off1 (p : Pt) : k0_off1 p.i = ![p.slot.val, 0, 0, 0] :=
  congrArg (fun n : ℕ => ![n, 0, 0, 0]) (word_small _ p.slot_lt)

theorem off8 (p : Pt) : k0_off8 p.i = ![p.slot.val, 1, 0, 0] :=
  congrArg (fun n : ℕ => ![n, 1, 0, 0]) (word_small _ p.slot_lt)

theorem off6 (p : Pt) : k0_off6 p.i = ![p.slot.val, 0, 1, 0] :=
  congrArg (fun n : ℕ => ![n, 0, 1, 0]) (word_small _ p.slot_lt)

theorem off7 (p : Pt) : k0_off7 p.i = ![p.slot.val, 0, 2, 0] :=
  congrArg (fun n : ℕ => ![n, 0, 2, 0]) (word_small _ p.slot_lt)

theorem off10 (p : Pt) : k0_off10 p.i = ![p.slot.val, 1, 1, 0] :=
  congrArg (fun n : ℕ => ![n, 1, 1, 0]) (word_small _ p.slot_lt)

theorem off11 (p : Pt) : k0_off11 p.i = ![p.slot.val, 1, 2, 0] :=
  congrArg (fun n : ℕ => ![n, 1, 2, 0]) (word_small _ p.slot_lt)

/-- The rows kept from the tile after this one, none at the first point. -/
def Pt.car (p : Pt) (gv : Fin 2) (s : Fin 8) (k : Fin 704) : EReal :=
  if k0_cond1 p.i = 1#1 then 0 else p.x16 (ix4 p.slot gv s k)

abbrev Pt.D (p : Pt) : Fin 2 → ℕ → Fin 704 → EReal := FfnGrad.D p.x2 p.x4 p.x7 p.car

abbrev Pt.du (p : Pt) : Fin 2 → ℕ → Fin 704 → EReal := FfnGrad.du p.x2 p.x4 p.x6 p.x7 p.car

abbrev Pt.taps (p : Pt) : Fin 2 → Fin 3 → ℕ → Fin 8 → Fin 704 → EReal := FfnGrad.taps p.x2 p.x3 p.x4 p.x7 p.car

/-! ### Loads from the arguments -/

/-- Thirty-two rows of the half `gv` of the up projection. -/
def Pt.u3 (p : Pt) (gv o : ℕ) (h : ∀ a, (![0, gv, o, 0] : Fin 4 → ℕ) a + S1x1x32x704.size a ≤ S1x2x512x704.size a) :
    Vec Ideal S1x1x32x704 .bf16 :=
  View.readAt (Elt Ideal) p.m3.view (Rect.unit (s := S1x2x512x704) ![0, gv, o, 0] S1x1x32x704.size h).toLoadRect (p.w3.unread p.x3)

/-- Thirty-two rows of the half `gv` of the up projection through its convolution. -/
def Pt.u4 (p : Pt) (gv o : ℕ) (h : ∀ a, (![0, gv, o, 0] : Fin 4 → ℕ) a + S1x1x32x704.size a ≤ S1x2x512x704.size a) :
    Vec Ideal S1x1x32x704 .bf16 :=
  View.readAt (Elt Ideal) p.m4.view (Rect.unit (s := S1x2x512x704) ![0, gv, o, 0] S1x1x32x704.size h).toLoadRect (p.w4.unread p.x4)

/-- One tap of the half `gv`. -/
def Pt.c6 (p : Pt) (gv a : ℕ) (h : ∀ b, (![gv, 0, a, 0] : Fin 4 → ℕ) b + S1x1x1x704.size b ≤ S2x1x3x704.size b) :
    Vec Ideal S1x1x1x704 .f32 :=
  View.readAt (Elt Ideal) p.m6.view (Rect.unit (s := S2x1x3x704) ![gv, 0, a, 0] S1x1x1x704.size h).toLoadRect (p.w6.unread p.x6)

theorem Pt.u3_at (p : Pt) (gv o : ℕ) (h) (g : Fin 2) (hg : g.val = gv) (s : Fin 32) (k : Fin 704) (r : Fin 512) (hr : r.val = o + s.val) :
    p.u3 gv o h (ix4 0 0 s k) = p.x3 (ix4 0 g r k) := by
  refine (Memref.IsWhole.readAt_unread p.w3 p.x3 _ _).trans (congrArg p.x3 (funext fun a => Fin.ext ?_))
  match a with
  | ⟨0, _⟩ => rfl
  | ⟨1, _⟩ => show gv + 1 * 0 = g.val; omega
  | ⟨2, _⟩ => show o + 1 * s.val = r.val; omega
  | ⟨3, _⟩ => show 0 + 1 * k.val = k.val; omega

theorem Pt.u4_at (p : Pt) (gv o : ℕ) (h) (g : Fin 2) (hg : g.val = gv) (s : Fin 32) (k : Fin 704) (r : Fin 512) (hr : r.val = o + s.val) :
    p.u4 gv o h (ix4 0 0 s k) = p.x4 (ix4 0 g r k) := by
  refine (Memref.IsWhole.readAt_unread p.w4 p.x4 _ _).trans (congrArg p.x4 (funext fun a => Fin.ext ?_))
  match a with
  | ⟨0, _⟩ => rfl
  | ⟨1, _⟩ => show gv + 1 * 0 = g.val; omega
  | ⟨2, _⟩ => show o + 1 * s.val = r.val; omega
  | ⟨3, _⟩ => show 0 + 1 * k.val = k.val; omega

theorem Pt.c6_at (p : Pt) (gv a : ℕ) (h) (g : Fin 2) (hg : g.val = gv) (b : Fin 3) (hb : b.val = a) (k : Fin 704) :
    p.c6 gv a h (ix4 0 0 0 k) = p.x6 (ix4 g 0 b k) := by
  refine (Memref.IsWhole.readAt_unread p.w6 p.x6 _ _).trans (congrArg p.x6 (funext fun d => Fin.ext ?_))
  match d with
  | ⟨0, _⟩ => show gv + 1 * 0 = g.val; omega
  | ⟨1, _⟩ => rfl
  | ⟨2, _⟩ => show a + 1 * 0 = b.val; omega
  | ⟨3, _⟩ => show 0 + 1 * k.val = k.val; omega

/-- Half the rows of the gated value's gradient. -/
def Pt.dah (p : Pt) (o : ℕ) (h : ∀ a, (![o, 0] : Fin 2 → ℕ) a + S256x1024.size a ≤ S512x1024.size a) : FVec Ideal S256x704 .f32 :=
  k0_pay16 (View.readAt (Elt Ideal) p.m2.view (Rect.unit (s := S512x1024) ![o, 0] S256x1024.size h).toLoadRect (p.w2.unread p.x2))
    (View.readAt (Elt Ideal) p.m7.view (Rect.unit (s := S704x1024) ![0, 0] S704x1024.size inb_S704x1024_S704x1024_0_0).toLoadRect (p.w7.unread p.x7))

theorem Pt.dah_at (p : Pt) (o : ℕ) (h) (s : Fin 256) (k : Fin 704) (r : Fin 512) (hr : r.val = o + s.val) :
    p.dah o h (ix2 s k) = da p.x2 p.x7 r k := by
  refine (half_at _ _ s k).trans (Finset.sum_congr rfl fun j _ => ?_)
  refine congrArg₂ (fun a b : EReal => a * b) ?_ ?_
  · refine (Memref.IsWhole.readAt_unread p.w2 p.x2 _ _).trans (congrArg p.x2 (funext fun d => Fin.ext ?_))
    match d with
    | ⟨0, _⟩ => show o + 1 * s.val = r.val; omega
    | ⟨1, _⟩ => show 0 + 1 * j.val = j.val; omega
  · refine (Memref.IsWhole.readAt_unread p.w7 p.x7 _ _).trans (congrArg p.x7 (funext fun d => Fin.ext ?_))
    match d with
    | ⟨0, _⟩ => show 0 + 1 * k.val = k.val; omega
    | ⟨1, _⟩ => show 0 + 1 * j.val = j.val; omega

/-! ### A chunk's gradients before the convolution -/

theorem D_lt {x2 : Vec Ideal S512x1024 .f32} {x4 : Vec Ideal S1x2x512x704 .bf16} {x7 : Vec Ideal S704x1024 .bf16}
    {car : Fin 2 → Fin 8 → Fin 704 → EReal} (gv : Fin 2) (r : ℕ) (h : r < 512) (k : Fin 704) :
    D x2 x4 x7 car gv r k = dc x2 x4 x7 gv ⟨r, h⟩ k := dif_pos h

/-- Thirty-two rows of the gate's gradient. -/
def Pt.gate (p : Pt) (b o o' : ℕ) (hb : ∀ a, (![b, 0] : Fin 2 → ℕ) a + S256x1024.size a ≤ S512x1024.size a)
    (ho : S256x704.Slices ![o, 0] S32x704)
    (h0 : ∀ a, (![0, 0, o', 0] : Fin 4 → ℕ) a + S1x1x32x704.size a ≤ S1x2x512x704.size a)
    (h1 : ∀ a, (![0, 1, o', 0] : Fin 4 → ℕ) a + S1x1x32x704.size a ≤ S1x2x512x704.size a) : FVec Ideal S32x704 .f32 :=
  chG (slab o (p.dah b hb) ho) (p.u4 0 o' h0) (p.u4 1 o' h1)

/-- Thirty-two rows of the value's gradient. -/
def Pt.value (p : Pt) (b o o' : ℕ) (hb : ∀ a, (![b, 0] : Fin 2 → ℕ) a + S256x1024.size a ≤ S512x1024.size a)
    (ho : S256x704.Slices ![o, 0] S32x704)
    (h0 : ∀ a, (![0, 0, o', 0] : Fin 4 → ℕ) a + S1x1x32x704.size a ≤ S1x2x512x704.size a) : FVec Ideal S32x704 .f32 :=
  chV (slab o (p.dah b hb) ho) (p.u4 0 o' h0)

theorem Pt.gate_at (p : Pt) (b o o' : ℕ) (hb ho h0 h1) (e : o' = b + o) (hs : o + 32 ≤ 256) (hs' : b ≤ 256) (s : Fin 32) (k : Fin 704) :
    p.gate b o o' hb ho h0 h1 (ix2 s k) = p.D 0 (o' + s.val) k := by
  have hr : o' + s.val < 512 := by omega
  have hda : slab o (p.dah b hb) ho (ix2 s k) = da p.x2 p.x7 ⟨o' + s.val, hr⟩ k :=
    (slab_at o _ ho s k ⟨o + s.val, by omega⟩ rfl).trans (p.dah_at b hb _ k ⟨o' + s.val, hr⟩ (by show o' + s.val = b + (o + s.val); omega))
  refine (chG_at _ _ _ s k).trans (Eq.trans ?_ (D_lt 0 (o' + s.val) hr k).symm)
  show _ = dc p.x2 p.x4 p.x7 0 ⟨o' + s.val, hr⟩ k
  unfold dc
  rw [if_pos rfl, hda, p.u4_at 0 o' h0 0 rfl s k ⟨o' + s.val, hr⟩ rfl, p.u4_at 1 o' h1 1 rfl s k ⟨o' + s.val, hr⟩ rfl]

theorem Pt.value_at (p : Pt) (b o o' : ℕ) (hb ho h0) (e : o' = b + o) (hs : o + 32 ≤ 256) (hs' : b ≤ 256) (s : Fin 32) (k : Fin 704) :
    p.value b o o' hb ho h0 (ix2 s k) = p.D 1 (o' + s.val) k := by
  have hr : o' + s.val < 512 := by omega
  have hda : slab o (p.dah b hb) ho (ix2 s k) = da p.x2 p.x7 ⟨o' + s.val, hr⟩ k :=
    (slab_at o _ ho s k ⟨o + s.val, by omega⟩ rfl).trans (p.dah_at b hb _ k ⟨o' + s.val, hr⟩ (by show o' + s.val = b + (o + s.val); omega))
  refine (chV_at _ _ s k).trans (Eq.trans ?_ (D_lt 1 (o' + s.val) hr k).symm)
  show _ = dc p.x2 p.x4 p.x7 1 ⟨o' + s.val, hr⟩ k
  unfold dc
  rw [if_neg (by decide), hda, p.u4_at 0 o' h0 0 rfl s k ⟨o' + s.val, hr⟩ rfl]

/-! ### The gradients before the convolution, stored chunk by chunk -/

section Rows

variable {v : View sig .tc .vmem S2x520x704 .f32} {E : Fin 2 → ℕ → Fin 704 → EReal}
  {L : List (View.Piece (Elt Ideal) S2x520x704 .f32)} {l0 l1 : ℕ}

/-- The stores hold `E` from row `l0` on in the gate's half and from row `l1` on in the value's. -/
def Rows (v : View sig .tc .vmem S2x520x704 .f32) (E : Fin 2 → ℕ → Fin 704 → EReal)
    (L : List (View.Piece (Elt Ideal) S2x520x704 .f32)) (l0 l1 : ℕ) : Prop :=
  ∀ f (g : Fin 2) (r : Fin 520) (k : Fin 704), (if g = 0 then l0 else l1) ≤ r.val →
    v.read (Elt Ideal) (v.writes (Elt Ideal) f L) (ix3 g r k) = E g r.val k

theorem Rows.start {w : Vec Ideal S2x8x704 .f32} {inb} (hw : ∀ (g : Fin 2) (s : Fin 8) k, w (ix3 g s k) = E g (512 + s.val) k) :
    Rows v E [⟨Rect.unit (s := S2x520x704) ![0, 512, 0] S2x8x704.size inb, w⟩] 512 512 := by
  intro f g r k h
  have h' : 512 ≤ r.val := by rcases Decidable.em (g = 0) with hg | hg <;> simpa [hg] using h
  refine (View.read_writes_cons_unit_of_mem v f inb w [] (ix3 g r k) (ix3 g ⟨r.val - 512, by omega⟩ k) rfl ?_).trans ?_
  · intro a
    match a with
    | ⟨0, _⟩ => exact (Nat.zero_add _).symm
    | ⟨1, _⟩ => show r.val = 512 + (r.val - 512); omega
    | ⟨2, _⟩ => exact (Nat.zero_add _).symm
  · rw [hw]; exact congrArg (fun n => E g n k) (by show 512 + (r.val - 512) = r.val; omega)

theorem Rows.gate {o : ℕ} {w : Vec Ideal S1x32x704 .f32} {inb} (h : Rows v E L (o + 32) l1) {d : FVec Ideal S32x704 .f32}
    (hd : ∀ (s : Fin 32) k, d (ix2 s k) = E 0 (o + s.val) k) (hw : w = chD d) :
    Rows v E (⟨Rect.unit (s := S2x520x704) ![0, o, 0] S1x32x704.size inb, w⟩ :: L) o l1 := by
  intro f g r k hr
  match g with
  | ⟨0, _⟩ =>
    by_cases hlt : r.val < o + 32
    · have hr' : o ≤ r.val := hr
      refine (View.read_writes_cons_unit_of_mem v f inb w L _ (ix3 0 ⟨r.val - o, by omega⟩ k) rfl ?_).trans ?_
      · intro a
        match a with
        | ⟨0, _⟩ => rfl
        | ⟨1, _⟩ => show r.val = o + (r.val - o); omega
        | ⟨2, _⟩ => exact (Nat.zero_add _).symm
      · rw [hw, chD_at, hd]; exact congrArg (fun n => E 0 n k) (by show o + (r.val - o) = r.val; omega)
    · refine (View.read_writes_cons_unit_of_not_mem v f inb w L _ rfl (1 : Fin 3) (Or.inr (not_lt.mp hlt))).trans ?_
      exact h f 0 r k (not_lt.mp hlt)
  | ⟨1, _⟩ =>
    refine (View.read_writes_cons_unit_of_not_mem v f inb w L _ rfl (0 : Fin 3) (Or.inr (le_refl 1))).trans ?_
    exact h f 1 r k hr

theorem Rows.value {o : ℕ} {w : Vec Ideal S1x32x704 .f32} {inb} (h : Rows v E L l0 (o + 32)) {d : FVec Ideal S32x704 .f32}
    (hd : ∀ (s : Fin 32) k, d (ix2 s k) = E 1 (o + s.val) k) (hw : w = chD d) :
    Rows v E (⟨Rect.unit (s := S2x520x704) ![1, o, 0] S1x32x704.size inb, w⟩ :: L) l0 o := by
  intro f g r k hr
  match g with
  | ⟨1, _⟩ =>
    by_cases hlt : r.val < o + 32
    · have hr' : o ≤ r.val := hr
      refine (View.read_writes_cons_unit_of_mem v f inb w L _ (ix3 0 ⟨r.val - o, by omega⟩ k) rfl ?_).trans ?_
      · intro a
        match a with
        | ⟨0, _⟩ => rfl
        | ⟨1, _⟩ => show r.val = o + (r.val - o); omega
        | ⟨2, _⟩ => exact (Nat.zero_add _).symm
      · rw [hw, chD_at, hd]; exact congrArg (fun n => E 1 n k) (by show o + (r.val - o) = r.val; omega)
    · refine (View.read_writes_cons_unit_of_not_mem v f inb w L _ rfl (1 : Fin 3) (Or.inr (not_lt.mp hlt))).trans ?_
      exact h f 1 r k (not_lt.mp hlt)
  | ⟨0, _⟩ =>
    refine (View.read_writes_cons_unit_of_not_mem v f inb w L _ rfl (0 : Fin 3) (Or.inl (Nat.zero_lt_one))).trans ?_
    exact h f 0 r k hr

/-- Thirty-two rows read back. -/
theorem Rows.read (h : Rows v E L l0 l1) (g : Fin 2) {gv o : ℕ} (hg : g.val = gv) {inb}
    (hl : (if g = 0 then l0 else l1) ≤ o) (s : Fin 32) (k : Fin 704) :
    v.readCov L (Rect.unit (s := S2x520x704) ![gv, o, 0] S1x32x704.size inb).toLoadRect (ix3 0 s k) = E g (o + s.val) k := by
  have hr : o + s.val < 520 := by have := inb 1; have : o + 32 ≤ 520 := this; omega
  refine Eq.trans (congrArg (v.read (Elt Ideal) (v.writes (Elt Ideal) v.junk L)) (funext fun a => Fin.ext ?_))
    (h v.junk g ⟨o + s.val, hr⟩ k (by show _ ≤ o + s.val; omega))
  match a with
  | ⟨0, _⟩ => show gv + 1 * 0 = g.val; omega
  | ⟨1, _⟩ => show o + 1 * s.val = o + s.val; omega
  | ⟨2, _⟩ => show 0 + 1 * k.val = k.val; omega

/-- Eight rows read back. -/
theorem Rows.read8 (h : Rows v E L l0 l1) (g : Fin 2) {gv : ℕ} (hg : g.val = gv) {inb}
    (hl : (if g = 0 then l0 else l1) ≤ 0) (s : Fin 8) (k : Fin 704) :
    v.readCov L (Rect.unit (s := S2x520x704) ![gv, 0, 0] S1x8x704.size inb).toLoadRect (ix3 0 s k) = E g s.val k := by
  refine Eq.trans (congrArg (v.read (Elt Ideal) (v.writes (Elt Ideal) v.junk L)) (funext fun a => Fin.ext ?_))
    (h v.junk g ⟨s.val, by omega⟩ k (hl.trans (Nat.zero_le _)))
  match a with
  | ⟨0, _⟩ => show gv + 1 * 0 = g.val; omega
  | ⟨1, _⟩ => show 0 + 1 * s.val = s.val; omega
  | ⟨2, _⟩ => show 0 + 1 * k.val = k.val; omega

end Rows

/-! ### The taps' partial sums -/

section Taps

variable {v : View sig .tc .vmem S2x3x8x704 .f32} {L : List (View.Piece (Elt Ideal) S2x3x8x704 .f32)}

/-- The stores hold the taps' sums after `q` updates, six for each chunk. -/
def Pt.Sums (p : Pt) (L : List (View.Piece (Elt Ideal) S2x3x8x704 .f32)) (q : ℕ) : Prop :=
  ∀ f (g : Fin 2) (a : Fin 3) (s : Fin 8) (k : Fin 704),
    p.m18.view.read (Elt Ideal) (p.m18.view.writes (Elt Ideal) f L) (ix4 g a s k) = p.taps g a ((q + 5 - (3 * g.val + a.val)) / 6) s k

theorem Pt.sums_start (p : Pt) {inb} :
    p.Sums [⟨Rect.unit (s := S2x3x8x704) ![0, 0, 0, 0] S2x3x8x704.size inb, k0_pay18 (F := Ideal)⟩] 0 := by
  intro f g a s k
  have e : (0 + 5 - (3 * g.val + a.val)) / 6 = 0 := by omega
  rw [e]
  refine (View.read_writes_cons_unit_of_mem p.m18.view f inb (k0_pay18 (F := Ideal)) [] (ix4 g a s k) (ix4 g a s k) rfl ?_).trans ?_
  · intro b
    match b with
    | ⟨0, _⟩ => exact (Nat.zero_add _).symm
    | ⟨1, _⟩ => exact (Nat.zero_add _).symm
    | ⟨2, _⟩ => exact (Nat.zero_add _).symm
    | ⟨3, _⟩ => exact (Nat.zero_add _).symm
  · show k0_pay18 (F := Ideal) (ix4 g a s k) = 0
    pointwise [k0_pay18]

theorem Pt.sums_read (p : Pt) {q : ℕ} (h : p.Sums L q) (g : Fin 2) (a : Fin 3) {gv av : ℕ} (hg : g.val = gv) (ha : a.val = av) {inb}
    (s : Fin 8) (k : Fin 704) :
    p.m18.view.readCov L (Rect.unit (s := S2x3x8x704) ![gv, av, 0, 0] S1x1x8x704.size inb).toLoadRect (ix4 0 0 s k)
      = p.taps g a ((q + 5 - (3 * g.val + a.val)) / 6) s k := by
  refine Eq.trans (congrArg (p.m18.view.read (Elt Ideal) (p.m18.view.writes (Elt Ideal) p.m18.view.junk L)) (funext fun b => Fin.ext ?_))
    (h p.m18.view.junk g a s k)
  match b with
  | ⟨0, _⟩ => show gv + 1 * 0 = g.val; omega
  | ⟨1, _⟩ => show av + 1 * 0 = a.val; omega
  | ⟨2, _⟩ => show 0 + 1 * s.val = s.val; omega
  | ⟨3, _⟩ => show 0 + 1 * k.val = k.val; omega

theorem Pt.sums_step (p : Pt) {gv av : ℕ} (g : Fin 2) (a : Fin 3) (n q o : ℕ) (hg : g.val = gv) (ha : a.val = av)
    (hq : q = 6 * n + (3 * gv + av)) (ho : o = 480 - 32 * n) {w : Vec Ideal S1x1x8x704 .f32} {inb inb'}
    (h : p.Sums L q) (h3) {d : FVec Ideal S32x704 .f32} (hd : ∀ (s : Fin 32) k, d (ix2 s k) = p.D g (o + s.val + (2 - a.val)) k)
    (hw : w = chT (p.u3 gv o h3) d (p.m18.view.readCov L (Rect.unit (s := S2x3x8x704) ![gv, av, 0, 0] S1x1x8x704.size inb').toLoadRect)) :
    p.Sums (⟨Rect.unit (s := S2x3x8x704) ![gv, av, 0, 0] S1x1x8x704.size inb, w⟩ :: L) (q + 1) := by
  intro f g' a' s k
  have hq' := hq
  subst hg ha
  by_cases hc : g' = g ∧ a' = a
  · obtain ⟨rfl, rfl⟩ := hc
    have e1 : (q + 1 + 5 - (3 * g'.val + a'.val)) / 6 = n + 1 := by omega
    have e0 : (q + 5 - (3 * g'.val + a'.val)) / 6 = n := by omega
    rw [e1]
    refine (View.read_writes_cons_unit_of_mem p.m18.view f inb w L (ix4 g' a' s k) (ix4 0 0 s k) rfl ?_).trans ?_
    · intro b
      match b with
      | ⟨0, _⟩ => rfl
      | ⟨1, _⟩ => rfl
      | ⟨2, _⟩ => exact (Nat.zero_add _).symm
      | ⟨3, _⟩ => exact (Nat.zero_add _).symm
    · show w (ix4 0 0 s k) = p.taps g' a' n s k + fold p.x2 p.x3 p.x4 p.x7 p.car g' a' (480 - 32 * n) s k
      have hb : o ≤ 480 := by omega
      have term (j : ℕ) (hj : j + s.val < 32) : p.u3 g'.val o h3 (ix4 0 0 ⟨j + s.val, hj⟩ k) * d (ix2 ⟨j + s.val, hj⟩ k)
          = tap p.x2 p.x3 p.x4 p.x7 p.car g' a' (o + (j + s.val)) k := by
        unfold tap
        have hr : o + (j + s.val) < 512 := by omega
        rw [dif_pos hr, p.u3_at g'.val o h3 g' rfl ⟨j + s.val, hj⟩ k ⟨o + (j + s.val), hr⟩ rfl, hd]
      have t0 := term 0 (by omega)
      simp only [Nat.zero_add] at t0
      rw [hw, chT_at, p.sums_read h g' a' rfl rfl, e0, t0, term 8 (by omega), term 16 (by omega), term 24 (by omega), ← ho]
      rfl
  · have e : (q + 1 + 5 - (3 * g'.val + a'.val)) / 6 = (q + 5 - (3 * g'.val + a'.val)) / 6 := by
      have : ¬ (g'.val = g.val ∧ a'.val = a.val) := fun h => hc ⟨Fin.ext h.1, Fin.ext h.2⟩
      omega
    rw [e]
    by_cases hgg : g' = g
    · have haa : a'.val ≠ a.val := fun h => hc ⟨hgg, Fin.ext h⟩
      refine (View.read_writes_cons_unit_of_not_mem p.m18.view f inb w L _ rfl (1 : Fin 4) ?_).trans (h f g' a' s k)
      show a'.val < a.val ∨ a.val + 1 ≤ a'.val
      omega
    · have hgg' : g'.val ≠ g.val := fun h => hgg (Fin.ext h)
      refine (View.read_writes_cons_unit_of_not_mem p.m18.view f inb w L _ rfl (0 : Fin 4) ?_).trans (h f g' a' s k)
      show g'.val < g.val ∨ g.val + 1 ≤ g'.val
      omega

end Taps

/-! ### The gradient through the convolution, stored chunk by chunk -/

section Dup

variable {v : View sig .tc .vmem S1x2x512x704 .bf16} {E : Fin 2 → ℕ → Fin 704 → EReal}
  {L : List (View.Piece (Elt Ideal) S1x2x512x704 .bf16)} {l0 l1 : ℕ}

/-- The stores hold `E` from row `l0` on in the gate's half and from row `l1` on in the value's. -/
def Dups (v : View sig .tc .vmem S1x2x512x704 .bf16) (E : Fin 2 → ℕ → Fin 704 → EReal)
    (L : List (View.Piece (Elt Ideal) S1x2x512x704 .bf16)) (l0 l1 : ℕ) : Prop :=
  ∀ f (g : Fin 2) (r : Fin 512) (k : Fin 704), (if g = 0 then l0 else l1) ≤ r.val →
    v.read (Elt Ideal) (v.writes (Elt Ideal) f L) (ix4 0 g r k) = E g r.val k

theorem Dups.nil : Dups v E [] 512 512 := by
  intro f g r k h
  have h' : 512 ≤ r.val := by rcases Decidable.em (g = 0) with hg | hg <;> simpa [hg] using h
  omega

theorem Dups.gate {o : ℕ} {w : Vec Ideal S1x1x32x704 .bf16} {inb} (h : Dups v E L (o + 32) l1)
    (hw : ∀ (s : Fin 32) k, w (ix4 0 0 s k) = E 0 (o + s.val) k) :
    Dups v E (⟨Rect.unit (s := S1x2x512x704) ![0, 0, o, 0] S1x1x32x704.size inb, w⟩ :: L) o l1 := by
  intro f g r k hr
  match g with
  | ⟨0, _⟩ =>
    by_cases hlt : r.val < o + 32
    · have hr' : o ≤ r.val := hr
      refine (View.read_writes_cons_unit_of_mem v f inb w L _ (ix4 0 0 ⟨r.val - o, by omega⟩ k) rfl ?_).trans ?_
      · intro a
        match a with
        | ⟨0, _⟩ => rfl
        | ⟨1, _⟩ => rfl
        | ⟨2, _⟩ => show r.val = o + (r.val - o); omega
        | ⟨3, _⟩ => exact (Nat.zero_add _).symm
      · rw [hw]; exact congrArg (fun n => E 0 n k) (by show o + (r.val - o) = r.val; omega)
    · refine (View.read_writes_cons_unit_of_not_mem v f inb w L _ rfl (2 : Fin 4) (Or.inr (not_lt.mp hlt))).trans ?_
      exact h f 0 r k (not_lt.mp hlt)
  | ⟨1, _⟩ =>
    refine (View.read_writes_cons_unit_of_not_mem v f inb w L _ rfl (1 : Fin 4) (Or.inr (le_refl 1))).trans ?_
    exact h f 1 r k hr

theorem Dups.value {o : ℕ} {w : Vec Ideal S1x1x32x704 .bf16} {inb} (h : Dups v E L l0 (o + 32))
    (hw : ∀ (s : Fin 32) k, w (ix4 0 0 s k) = E 1 (o + s.val) k) :
    Dups v E (⟨Rect.unit (s := S1x2x512x704) ![0, 1, o, 0] S1x1x32x704.size inb, w⟩ :: L) l0 o := by
  intro f g r k hr
  match g with
  | ⟨1, _⟩ =>
    by_cases hlt : r.val < o + 32
    · have hr' : o ≤ r.val := hr
      refine (View.read_writes_cons_unit_of_mem v f inb w L _ (ix4 0 0 ⟨r.val - o, by omega⟩ k) rfl ?_).trans ?_
      · intro a
        match a with
        | ⟨0, _⟩ => rfl
        | ⟨1, _⟩ => rfl
        | ⟨2, _⟩ => show r.val = o + (r.val - o); omega
        | ⟨3, _⟩ => exact (Nat.zero_add _).symm
      · rw [hw]; exact congrArg (fun n => E 1 n k) (by show o + (r.val - o) = r.val; omega)
    · refine (View.read_writes_cons_unit_of_not_mem v f inb w L _ rfl (2 : Fin 4) (Or.inr (not_lt.mp hlt))).trans ?_
      exact h f 1 r k (not_lt.mp hlt)
  | ⟨0, _⟩ =>
    refine (View.read_writes_cons_unit_of_not_mem v f inb w L _ rfl (1 : Fin 4) (Or.inl Nat.zero_lt_one)).trans ?_
    exact h f 0 r k hr

/-- Two hundred and fifty-six rows read back. -/
theorem Dups.read (h : Dups v E L l0 l1) (g : Fin 2) {gv o : ℕ} (hg : g.val = gv) {inb}
    (hl : (if g = 0 then l0 else l1) ≤ o) (s : Fin 256) (k : Fin 704) :
    v.readCov L (Rect.unit (s := S1x2x512x704) ![0, gv, o, 0] S1x1x256x704.size inb).toLoadRect (ix4 0 0 s k) = E g (o + s.val) k := by
  have hr : o + s.val < 512 := by have := inb 2; have : o + 256 ≤ 512 := this; omega
  refine Eq.trans (congrArg (v.read (Elt Ideal) (v.writes (Elt Ideal) v.junk L)) (funext fun a => Fin.ext ?_))
    (h v.junk g ⟨o + s.val, hr⟩ k (by show _ ≤ o + s.val; omega))
  match a with
  | ⟨0, _⟩ => rfl
  | ⟨1, _⟩ => show gv + 1 * 0 = g.val; omega
  | ⟨2, _⟩ => show o + 1 * s.val = o + s.val; omega
  | ⟨3, _⟩ => show 0 + 1 * k.val = k.val; omega

end Dup

/-- A chunk of the gradient through the convolution, from the chunk's own gradient and the rows one and two below. -/
theorem Pt.du_chunk (p : Pt) (g : Fin 2) {gv o : ℕ} (hg : g.val = gv) {w : Vec Ideal S1x1x32x704 .bf16} (h0 h1 h2)
    {d : FVec Ideal S32x704 .f32} {d1 d2 : Vec Ideal S1x32x704 .f32}
    (hd : ∀ (s : Fin 32) k, d (ix2 s k) = p.D g (o + s.val) k)
    (hd1 : ∀ (s : Fin 32) k, d1 (ix3 0 s k) = p.D g (o + 1 + s.val) k)
    (hd2 : ∀ (s : Fin 32) k, d2 (ix3 0 s k) = p.D g (o + 2 + s.val) k)
    (hw : w = chU (p.c6 gv 0 h0) (p.c6 gv 1 h1) (p.c6 gv 2 h2) d d1 d2) (s : Fin 32) (k : Fin 704) :
    w (ix4 0 0 s k) = p.du g (o + s.val) k := by
  rw [hw, chU_at, p.c6_at gv 0 h0 g hg 0 rfl, p.c6_at gv 1 h1 g hg 1 rfl, p.c6_at gv 2 h2 g hg 2 rfl, hd, hd1, hd2]
  have e1 : o + 1 + s.val = o + s.val + 1 := by omega
  have e2 : o + 2 + s.val = o + s.val + 2 := by omega
  rw [e1, e2]
  rfl

/-! ### The gated value -/

section Gated

variable {v : View sig .tc .vmem S1x512x704 .bf16} {E : ℕ → Fin 704 → EReal}
  {L : List (View.Piece (Elt Ideal) S1x512x704 .bf16)}

/-- The stores hold `E` on the rows from `l` on. -/
def Gated (v : View sig .tc .vmem S1x512x704 .bf16) (E : ℕ → Fin 704 → EReal)
    (L : List (View.Piece (Elt Ideal) S1x512x704 .bf16)) (l : ℕ) : Prop :=
  ∀ f (r : Fin 512) (k : Fin 704), l ≤ r.val → v.read (Elt Ideal) (v.writes (Elt Ideal) f L) (ix3 0 r k) = E r.val k

theorem Gated.nil : Gated v E [] 512 := fun _ r _ h => absurd h (by omega)

theorem Gated.cons {o : ℕ} {w : Vec Ideal S1x32x704 .bf16} {inb} (h : Gated v E L (o + 32))
    (hw : ∀ (s : Fin 32) k, w (ix3 0 s k) = E (o + s.val) k) :
    Gated v E (⟨Rect.unit (s := S1x512x704) ![0, o, 0] S1x32x704.size inb, w⟩ :: L) o := by
  intro f r k hr
  by_cases hlt : r.val < o + 32
  · refine (View.read_writes_cons_unit_of_mem v f inb w L _ (ix3 0 ⟨r.val - o, by omega⟩ k) rfl ?_).trans ?_
    · intro a
      match a with
      | ⟨0, _⟩ => rfl
      | ⟨1, _⟩ => show r.val = o + (r.val - o); omega
      | ⟨2, _⟩ => exact (Nat.zero_add _).symm
    · rw [hw]; exact congrArg (fun n => E n k) (by show o + (r.val - o) = r.val; omega)
  · refine (View.read_writes_cons_unit_of_not_mem v f inb w L _ rfl (1 : Fin 3) (Or.inr (not_lt.mp hlt))).trans ?_
    exact h f r k (not_lt.mp hlt)

end Gated

/-- The gated value at a row. -/
def Pt.gated (p : Pt) (r : ℕ) (k : Fin 704) : EReal :=
  if h : r < 512 then (p.x4 (ix4 0 0 ⟨r, h⟩ k) * Ideal.logistic (p.x4 (ix4 0 0 ⟨r, h⟩ k))) * p.x4 (ix4 0 1 ⟨r, h⟩ k) else 0

theorem Pt.gated_chunk (p : Pt) {o : ℕ} (ho : o ≤ 480) {w : Vec Ideal S1x32x704 .bf16} (h0 h1)
    (hw : w = chA (p.u4 0 o h0) (p.u4 1 o h1)) (s : Fin 32) (k : Fin 704) : w (ix3 0 s k) = p.gated (o + s.val) k := by
  have hr : o + s.val < 512 := by omega
  unfold Pt.gated
  rw [hw, chA_at, dif_pos hr, p.u4_at 0 o h0 0 rfl s k ⟨o + s.val, hr⟩ rfl, p.u4_at 1 o h1 1 rfl s k ⟨o + s.val, hr⟩ rfl]

end

section

open Cert.Kernel11Ideal Cert.Kernel11Ideal.Gen
open Idealize.ShloMosaic Idealize.ShloMosaic.TcCoe Idealize.ShloMosaic.Tactic
open run.sl

theorem off3 (p : Pt) : k0_off3 p.i = ![p.slot.val, 0, 0, 0] :=
  congrArg (fun n : ℕ => ![n, 0, 0, 0]) (word_small _ p.slot_lt)

theorem readAt_idx {sp : Space} {s : Shape} {e : EltTy} (v : View sig .tc sp s e) (B : LoadRect s) (f : v.ty.Contents (Elt Ideal))
    (x : B.shape.Idx) (y : s.Idx) (h : B.idx x = y) : v.readAt (Elt Ideal) B f x = v.read (Elt Ideal) f y :=
  congrArg (v.read (Elt Ideal) f) h

theorem slot8_hit (v : View sig .tc .vmem S4x2x8x704 .f32) (f : v.ty.Contents (Elt Ideal)) {off : Fin 4 → ℕ} {inb} (w : Vec Ideal S1x2x8x704 .f32)
    (L : List (View.Piece (Elt Ideal) S4x2x8x704 .f32)) (m : Fin 4) (g : Fin 2) (s : Fin 8) (k : Fin 704) (h : off = ![m.val, 0, 0, 0]) :
    v.read (Elt Ideal) (v.writes (Elt Ideal) f (⟨Rect.unit (s := S4x2x8x704) off S1x2x8x704.size inb, w⟩ :: L)) (ix4 m g s k) = w (ix4 0 g s k) := by
  subst h
  refine View.read_writes_cons_unit_of_mem v f inb w L (ix4 m g s k) (ix4 0 g s k) rfl ?_
  intro a
  match a with
  | ⟨0, _⟩ => rfl
  | ⟨1, _⟩ => exact (Nat.zero_add _).symm
  | ⟨2, _⟩ => exact (Nat.zero_add _).symm
  | ⟨3, _⟩ => exact (Nat.zero_add _).symm

theorem slot8_miss (v : View sig .tc .vmem S4x2x8x704 .f32) (f : v.ty.Contents (Elt Ideal)) {off : Fin 4 → ℕ} {inb} (w : Vec Ideal S1x2x8x704 .f32)
    (L : List (View.Piece (Elt Ideal) S4x2x8x704 .f32)) (m : Fin 4) (m' : Fin 4) (g : Fin 2) (s : Fin 8) (k : Fin 704) (h : off = ![m.val, 0, 0, 0]) (hne : m' ≠ m) :
    v.read (Elt Ideal) (v.writes (Elt Ideal) f (⟨Rect.unit (s := S4x2x8x704) off S1x2x8x704.size inb, w⟩ :: L)) (ix4 m' g s k)
      = v.read (Elt Ideal) (v.writes (Elt Ideal) f L) (ix4 m' g s k) := by
  subst h
  have : m'.val ≠ m.val := fun e => hne (Fin.ext e)
  refine View.read_writes_cons_unit_of_not_mem v f inb w L _ rfl (0 : Fin 4) ?_
  show m'.val < m.val ∨ m.val + 1 ≤ m'.val
  omega

theorem half8_hit (v : View sig .tc .vmem S4x2x8x704 .f32) (f : v.ty.Contents (Elt Ideal)) {off : Fin 4 → ℕ} {inb} (w : Vec Ideal S1x1x8x704 .f32)
    (L : List (View.Piece (Elt Ideal) S4x2x8x704 .f32)) (m : Fin 4) (g : Fin 2) (s : Fin 8) (k : Fin 704) (h : off = ![m.val, g.val, 0, 0]) :
    v.read (Elt Ideal) (v.writes (Elt Ideal) f (⟨Rect.unit (s := S4x2x8x704) off S1x1x8x704.size inb, w⟩ :: L)) (ix4 m g s k) = w (ix4 0 0 s k) := by
  subst h
  refine View.read_writes_cons_unit_of_mem v f inb w L (ix4 m g s k) (ix4 0 0 s k) rfl ?_
  intro a
  match a with
  | ⟨0, _⟩ => rfl
  | ⟨1, _⟩ => rfl
  | ⟨2, _⟩ => exact (Nat.zero_add _).symm
  | ⟨3, _⟩ => exact (Nat.zero_add _).symm

theorem half8_miss (v : View sig .tc .vmem S4x2x8x704 .f32) (f : v.ty.Contents (Elt Ideal)) {off : Fin 4 → ℕ} {inb} (w : Vec Ideal S1x1x8x704 .f32)
    (L : List (View.Piece (Elt Ideal) S4x2x8x704 .f32)) (m : Fin 4) (g' : Fin 2) (m' : Fin 4) (g : Fin 2) (s : Fin 8) (k : Fin 704) (h : off = ![m.val, g'.val, 0, 0]) (hne : ¬ (m' = m ∧ g = g')) :
    v.read (Elt Ideal) (v.writes (Elt Ideal) f (⟨Rect.unit (s := S4x2x8x704) off S1x1x8x704.size inb, w⟩ :: L)) (ix4 m' g s k)
      = v.read (Elt Ideal) (v.writes (Elt Ideal) f L) (ix4 m' g s k) := by
  subst h
  by_cases hm : m' = m
  · have : g.val ≠ g'.val := fun e => hne ⟨hm, Fin.ext e⟩
    refine View.read_writes_cons_unit_of_not_mem v f inb w L _ rfl (1 : Fin 4) ?_
    show g.val < g'.val ∨ g'.val + 1 ≤ g.val
    omega
  · have : m'.val ≠ m.val := fun e => hm (Fin.ext e)
    refine View.read_writes_cons_unit_of_not_mem v f inb w L _ rfl (0 : Fin 4) ?_
    show m'.val < m.val ∨ m.val + 1 ≤ m'.val
    omega

theorem slot3_hit (v : View sig .tc .vmem S4x2x3x704 .f32) (f : v.ty.Contents (Elt Ideal)) {off : Fin 4 → ℕ} {inb} (w : Vec Ideal S1x2x3x704 .f32)
    (L : List (View.Piece (Elt Ideal) S4x2x3x704 .f32)) (m : Fin 4) (g : Fin 2) (s : Fin 3) (k : Fin 704) (h : off = ![m.val, 0, 0, 0]) :
    v.read (Elt Ideal) (v.writes (Elt Ideal) f (⟨Rect.unit (s := S4x2x3x704) off S1x2x3x704.size inb, w⟩ :: L)) (ix4 m g s k) = w (ix4 0 g s k) := by
  subst h
  refine View.read_writes_cons_unit_of_mem v f inb w L (ix4 m g s k) (ix4 0 g s k) rfl ?_
  intro a
  match a with
  | ⟨0, _⟩ => rfl
  | ⟨1, _⟩ => exact (Nat.zero_add _).symm
  | ⟨2, _⟩ => exact (Nat.zero_add _).symm
  | ⟨3, _⟩ => exact (Nat.zero_add _).symm

theorem slot3_miss (v : View sig .tc .vmem S4x2x3x704 .f32) (f : v.ty.Contents (Elt Ideal)) {off : Fin 4 → ℕ} {inb} (w : Vec Ideal S1x2x3x704 .f32)
    (L : List (View.Piece (Elt Ideal) S4x2x3x704 .f32)) (m : Fin 4) (m' : Fin 4) (g : Fin 2) (s : Fin 3) (k : Fin 704) (h : off = ![m.val, 0, 0, 0]) (hne : m' ≠ m) :
    v.read (Elt Ideal) (v.writes (Elt Ideal) f (⟨Rect.unit (s := S4x2x3x704) off S1x2x3x704.size inb, w⟩ :: L)) (ix4 m' g s k)
      = v.read (Elt Ideal) (v.writes (Elt Ideal) f L) (ix4 m' g s k) := by
  subst h
  have : m'.val ≠ m.val := fun e => hne (Fin.ext e)
  refine View.read_writes_cons_unit_of_not_mem v f inb w L _ rfl (0 : Fin 4) ?_
  show m'.val < m.val ∨ m.val + 1 ≤ m'.val
  omega

theorem half3_hit (v : View sig .tc .vmem S4x2x3x704 .f32) (f : v.ty.Contents (Elt Ideal)) {off : Fin 4 → ℕ} {inb} (w : Vec Ideal S1x1x1x704 .f32)
    (L : List (View.Piece (Elt Ideal) S4x2x3x704 .f32)) (m : Fin 4) (g : Fin 2) (s : Fin 3) (k : Fin 704) (h : off = ![m.val, g.val, s.val, 0]) :
    v.read (Elt Ideal) (v.writes (Elt Ideal) f (⟨Rect.unit (s := S4x2x3x704) off S1x1x1x704.size inb, w⟩ :: L)) (ix4 m g s k) = w (ix4 0 0 0 k) := by
  subst h
  refine View.read_writes_cons_unit_of_mem v f inb w L (ix4 m g s k) (ix4 0 0 0 k) rfl ?_
  intro a
  match a with
  | ⟨0, _⟩ => rfl
  | ⟨1, _⟩ => rfl
  | ⟨2, _⟩ => rfl
  | ⟨3, _⟩ => exact (Nat.zero_add _).symm

theorem half3_miss (v : View sig .tc .vmem S4x2x3x704 .f32) (f : v.ty.Contents (Elt Ideal)) {off : Fin 4 → ℕ} {inb} (w : Vec Ideal S1x1x1x704 .f32)
    (L : List (View.Piece (Elt Ideal) S4x2x3x704 .f32)) (m : Fin 4) (g' : Fin 2) (s' : Fin 3) (m' : Fin 4) (g : Fin 2) (s : Fin 3) (k : Fin 704) (h : off = ![m.val, g'.val, s'.val, 0]) (hne : ¬ (m' = m ∧ g = g' ∧ s = s')) :
    v.read (Elt Ideal) (v.writes (Elt Ideal) f (⟨Rect.unit (s := S4x2x3x704) off S1x1x1x704.size inb, w⟩ :: L)) (ix4 m' g s k)
      = v.read (Elt Ideal) (v.writes (Elt Ideal) f L) (ix4 m' g s k) := by
  subst h
  by_cases hm : m' = m
  · by_cases hg : g = g'
    · have : s.val ≠ s'.val := fun e => hne ⟨hm, hg, Fin.ext e⟩
      refine View.read_writes_cons_unit_of_not_mem v f inb w L _ rfl (2 : Fin 4) ?_
      show s.val < s'.val ∨ s'.val + 1 ≤ s.val
      omega
    · have : g.val ≠ g'.val := fun e => hg (Fin.ext e)
      refine View.read_writes_cons_unit_of_not_mem v f inb w L _ rfl (1 : Fin 4) ?_
      show g.val < g'.val ∨ g'.val + 1 ≤ g.val
      omega
  · have : m'.val ≠ m.val := fun e => hm (Fin.ext e)
    refine View.read_writes_cons_unit_of_not_mem v f inb w L _ rfl (0 : Fin 4) ?_
    show m'.val < m.val ∨ m.val + 1 ≤ m'.val
    omega

/-- The rows below the block, as loaded. -/
theorem v31_at (p : Pt) (g : Fin 2) (s : Fin 8) (k : Fin 704) :
    v31 (F := Ideal) p.i p.m16 p.w16 p.x16 (ix4 0 g s k) = p.car g s k := by
  unfold v31 Pt.car
  have hidx (inb) : (Rect.unit (s := S4x2x8x704) (k0_off3 p.i) S1x2x8x704.size inb).toLoadRect.idx (ix4 0 g s k) = ix4 p.slot g s k := by
    refine funext fun a => Fin.ext ?_
    have e := congrFun (off3 p) a
    match a with
    | ⟨0, _⟩ => exact (congrArg (fun n => n + 1 * 0) e).trans (by show p.slot.val + 1 * 0 = p.slot.val; omega)
    | ⟨1, _⟩ => exact (congrArg (fun n => n + 1 * g.val) e).trans (by show 0 + 1 * g.val = g.val; omega)
    | ⟨2, _⟩ => exact (congrArg (fun n => n + 1 * s.val) e).trans (by show 0 + 1 * s.val = s.val; omega)
    | ⟨3, _⟩ => exact (congrArg (fun n => n + 1 * k.val) e).trans (by show 0 + 1 * k.val = k.val; omega)
  rw [readAt_idx _ _ _ _ _ (hidx _)]
  by_cases hc : k0_cond1 p.i = 1#1
  · rw [dif_pos hc, if_pos hc]
    refine (slot8_hit p.m16.view _ _ _ p.slot g s k (off1 p)).trans ?_
    pointwise [k0_pay7]
  · rw [dif_neg hc, if_neg hc]
    exact congrFun (p.w16.read_unread p.x16) _

theorem row {v : View sig .tc .vmem S2x520x704 .f32} {E : Fin 2 → ℕ → Fin 704 → EReal}
    {L : List (View.Piece (Elt Ideal) S2x520x704 .f32)} {l0 l1 : ℕ} (h : Rows v E L l0 l1) (g : Fin 2) (gv o j o' : ℕ)
    (hg : g.val = gv) (inb) (hl : (if g = 0 then l0 else l1) ≤ o') (e : o' = o + j) (s : Fin 32) (k : Fin 704) :
    chRow (v.readCov L (Rect.unit (s := S2x520x704) ![gv, o', 0] S1x32x704.size inb).toLoadRect) (ix2 s k) = E g (o + s.val + j) k :=
  (chRow_at _ s k).trans ((h.read g hg hl s k).trans (congrArg (fun n => E g n k) (by omega)))

/-! ### The gradients before the convolution -/

/-! ### The same, with the numbers' side conditions decided -/

theorem Pt.gt (p : Pt) (b o o' : ℕ) (ho : S256x704.Slices ![o, 0] S32x704 := by decide) (hb : ∀ a, (![b, 0] : Fin 2 → ℕ) a + S256x1024.size a ≤ S512x1024.size a := by decide)
    (h0 : ∀ a, (![0, 0, o', 0] : Fin 4 → ℕ) a + S1x1x32x704.size a ≤ S1x2x512x704.size a := by decide)
    (h1 : ∀ a, (![0, 1, o', 0] : Fin 4 → ℕ) a + S1x1x32x704.size a ≤ S1x2x512x704.size a := by decide)
    (e : o' = b + o := by decide) (hs : o + 32 ≤ 256 := by decide) (hs' : b ≤ 256 := by decide) (s : Fin 32) (k : Fin 704) :
    p.gate b o o' hb ho h0 h1 (ix2 s k) = p.D 0 (o' + s.val) k := p.gate_at b o o' hb ho h0 h1 e hs hs' s k

theorem Pt.vl (p : Pt) (b o o' : ℕ) (ho : S256x704.Slices ![o, 0] S32x704 := by decide) (hb : ∀ a, (![b, 0] : Fin 2 → ℕ) a + S256x1024.size a ≤ S512x1024.size a := by decide)
    (h0 : ∀ a, (![0, 0, o', 0] : Fin 4 → ℕ) a + S1x1x32x704.size a ≤ S1x2x512x704.size a := by decide)
    (e : o' = b + o := by decide) (hs : o + 32 ≤ 256 := by decide) (hs' : b ≤ 256 := by decide) (s : Fin 32) (k : Fin 704) :
    p.value b o o' hb ho h0 (ix2 s k) = p.D 1 (o' + s.val) k := p.value_at b o o' hb ho h0 e hs hs' s k

theorem Pt.st (p : Pt) (g : Fin 2) (a : Fin 3) (n q o : ℕ) {L : List (View.Piece (Elt Ideal) S2x3x8x704 .f32)} {w : Vec Ideal S1x1x8x704 .f32} {inb inb'}
    (h : p.Sums L q) {d : FVec Ideal S32x704 .f32} (hd : ∀ (s : Fin 32) k, d (ix2 s k) = p.D g (o + s.val + (2 - a.val)) k) {h3}
    (hw : w = chT (p.u3 g.val o h3) d (p.m18.view.readCov L (Rect.unit (s := S2x3x8x704) ![g.val, a.val, 0, 0] S1x1x8x704.size inb').toLoadRect))
    (hq : q = 6 * n + (3 * g.val + a.val) := by decide) (ho : o = 480 - 32 * n := by decide) :
    p.Sums (⟨Rect.unit (s := S2x3x8x704) ![g.val, a.val, 0, 0] S1x1x8x704.size inb, w⟩ :: L) (q + 1) :=
  p.sums_step g a n q o rfl rfl hq ho h h3 hd hw

theorem Pt.rw (p : Pt) (g : Fin 2) (o j o' : ℕ) {L : List (View.Piece (Elt Ideal) S2x520x704 .f32)} {l0 l1 : ℕ} {inb}
    (h : Rows p.m19.view p.D L l0 l1) (hl : (if g = 0 then l0 else l1) ≤ o' := by decide) (e : o' = o + j := by decide) (s : Fin 32) (k : Fin 704) :
    chRow (p.m19.view.readCov L (Rect.unit (s := S2x520x704) ![g.val, o', 0] S1x32x704.size inb).toLoadRect) (ix2 s k) = p.D g (o + s.val + j) k :=
  row h g g.val o j o' rfl inb hl e s k

theorem Pt.dn (p : Pt) (g : Fin 2) (o : ℕ) {w : Vec Ideal S1x1x32x704 .bf16} {h0 h1 h2} {inb1 inb2} {d : FVec Ideal S32x704 .f32}
    {L : List (View.Piece (Elt Ideal) S2x520x704 .f32)} {l0 l1 : ℕ}
    (hd : ∀ (s : Fin 32) k, d (ix2 s k) = p.D g (o + s.val) k) (h : Rows p.m19.view p.D L l0 l1)
    (hw : w = chU (p.c6 g.val 0 h0) (p.c6 g.val 1 h1) (p.c6 g.val 2 h2) d
      (p.m19.view.readCov L (Rect.unit (s := S2x520x704) ![g.val, o + 1, 0] S1x32x704.size inb1).toLoadRect)
      (p.m19.view.readCov L (Rect.unit (s := S2x520x704) ![g.val, o + 2, 0] S1x32x704.size inb2).toLoadRect))
    (hl : (if g = 0 then l0 else l1) ≤ o := by decide) (s : Fin 32) (k : Fin 704) : w (ix4 0 0 s k) = p.du g (o + s.val) k :=
  p.du_chunk g rfl h0 h1 h2 hd (h.read g rfl (by omega)) (h.read g rfl (by omega)) hw s k

/-! ### The gradients before the convolution, after each store -/

theorem h19_2 (p : Pt) : Rows p.m19.view p.D (H19_2 p.i _ p.w2 _ p.w4 _ p.w7 _ p.w16 p.x2 p.x4 p.x7 p.x16) 480 512 :=
  Rows.gate (Rows.start fun g s k => by
    pointwise [k0_pay19]
    refine (v31_at p g s k).trans ?_
    have e : 512 + s.val - 512 = s.val := by omega
    show _ = D p.x2 p.x4 p.x7 p.car g (512 + s.val) k
    unfold D
    rw [dif_neg (by omega), dif_pos (by omega)]
    exact congrArg (fun x => p.car g x k) (Fin.ext e.symm)) (p.gt 256 224 480) rfl

theorem h19_3 (p : Pt) : Rows p.m19.view p.D (H19_3 p.i _ p.w2 _ p.w4 _ p.w7 _ p.w16 p.x2 p.x4 p.x7 p.x16) 480 480 :=
  .value (h19_2 p) (p.vl 256 224 480) rfl

theorem h19_4 (p : Pt) : Rows p.m19.view p.D (H19_4 p.i _ p.w2 _ p.w4 _ p.w7 _ p.w16 p.x2 p.x4 p.x7 p.x16) 448 480 :=
  .gate (h19_3 p) (p.gt 256 192 448) rfl

theorem h19_5 (p : Pt) : Rows p.m19.view p.D (H19_5 p.i _ p.w2 _ p.w4 _ p.w7 _ p.w16 p.x2 p.x4 p.x7 p.x16) 448 448 :=
  .value (h19_4 p) (p.vl 256 192 448) rfl

theorem h19_6 (p : Pt) : Rows p.m19.view p.D (H19_6 p.i _ p.w2 _ p.w4 _ p.w7 _ p.w16 p.x2 p.x4 p.x7 p.x16) 416 448 :=
  .gate (h19_5 p) (p.gt 256 160 416) rfl

theorem h19_7 (p : Pt) : Rows p.m19.view p.D (H19_7 p.i _ p.w2 _ p.w4 _ p.w7 _ p.w16 p.x2 p.x4 p.x7 p.x16) 416 416 :=
  .value (h19_6 p) (p.vl 256 160 416) rfl

theorem h19_8 (p : Pt) : Rows p.m19.view p.D (H19_8 p.i _ p.w2 _ p.w4 _ p.w7 _ p.w16 p.x2 p.x4 p.x7 p.x16) 384 416 :=
  .gate (h19_7 p) (p.gt 256 128 384) rfl

theorem h19_9 (p : Pt) : Rows p.m19.view p.D (H19_9 p.i _ p.w2 _ p.w4 _ p.w7 _ p.w16 p.x2 p.x4 p.x7 p.x16) 384 384 :=
  .value (h19_8 p) (p.vl 256 128 384) rfl

theorem h19_10 (p : Pt) : Rows p.m19.view p.D (H19_10 p.i _ p.w2 _ p.w4 _ p.w7 _ p.w16 p.x2 p.x4 p.x7 p.x16) 352 384 :=
  .gate (h19_9 p) (p.gt 256 96 352) rfl

theorem h19_11 (p : Pt) : Rows p.m19.view p.D (H19_11 p.i _ p.w2 _ p.w4 _ p.w7 _ p.w16 p.x2 p.x4 p.x7 p.x16) 352 352 :=
  .value (h19_10 p) (p.vl 256 96 352) rfl

theorem h19_12 (p : Pt) : Rows p.m19.view p.D (H19_12 p.i _ p.w2 _ p.w4 _ p.w7 _ p.w16 p.x2 p.x4 p.x7 p.x16) 320 352 :=
  .gate (h19_11 p) (p.gt 256 64 320) rfl

theorem h19_13 (p : Pt) : Rows p.m19.view p.D (H19_13 p.i _ p.w2 _ p.w4 _ p.w7 _ p.w16 p.x2 p.x4 p.x7 p.x16) 320 320 :=
  .value (h19_12 p) (p.vl 256 64 320) rfl

theorem h19_14 (p : Pt) : Rows p.m19.view p.D (H19_14 p.i _ p.w2 _ p.w4 _ p.w7 _ p.w16 p.x2 p.x4 p.x7 p.x16) 288 320 :=
  .gate (h19_13 p) (p.gt 256 32 288) rfl

theorem h19_15 (p : Pt) : Rows p.m19.view p.D (H19_15 p.i _ p.w2 _ p.w4 _ p.w7 _ p.w16 p.x2 p.x4 p.x7 p.x16) 288 288 :=
  .value (h19_14 p) (p.vl 256 32 288) rfl

theorem h19_16 (p : Pt) : Rows p.m19.view p.D (H19_16 p.i _ p.w2 _ p.w4 _ p.w7 _ p.w16 p.x2 p.x4 p.x7 p.x16) 256 288 :=
  .gate (h19_15 p) (p.gt 256 0 256) rfl

theorem h19_17 (p : Pt) : Rows p.m19.view p.D (H19_17 p.i _ p.w2 _ p.w4 _ p.w7 _ p.w16 p.x2 p.x4 p.x7 p.x16) 256 256 :=
  .value (h19_16 p) (p.vl 256 0 256) rfl

theorem h19_18 (p : Pt) : Rows p.m19.view p.D (H19_18 p.i _ p.w2 _ p.w4 _ p.w7 _ p.w16 p.x2 p.x4 p.x7 p.x16) 224 256 :=
  .gate (h19_17 p) (p.gt 0 224 224) rfl

theorem h19_19 (p : Pt) : Rows p.m19.view p.D (H19_19 p.i _ p.w2 _ p.w4 _ p.w7 _ p.w16 p.x2 p.x4 p.x7 p.x16) 224 224 :=
  .value (h19_18 p) (p.vl 0 224 224) rfl

theorem h19_20 (p : Pt) : Rows p.m19.view p.D (H19_20 p.i _ p.w2 _ p.w4 _ p.w7 _ p.w16 p.x2 p.x4 p.x7 p.x16) 192 224 :=
  .gate (h19_19 p) (p.gt 0 192 192) rfl

theorem h19_21 (p : Pt) : Rows p.m19.view p.D (H19_21 p.i _ p.w2 _ p.w4 _ p.w7 _ p.w16 p.x2 p.x4 p.x7 p.x16) 192 192 :=
  .value (h19_20 p) (p.vl 0 192 192) rfl

theorem h19_22 (p : Pt) : Rows p.m19.view p.D (H19_22 p.i _ p.w2 _ p.w4 _ p.w7 _ p.w16 p.x2 p.x4 p.x7 p.x16) 160 192 :=
  .gate (h19_21 p) (p.gt 0 160 160) rfl

theorem h19_23 (p : Pt) : Rows p.m19.view p.D (H19_23 p.i _ p.w2 _ p.w4 _ p.w7 _ p.w16 p.x2 p.x4 p.x7 p.x16) 160 160 :=
  .value (h19_22 p) (p.vl 0 160 160) rfl

theorem h19_24 (p : Pt) : Rows p.m19.view p.D (H19_24 p.i _ p.w2 _ p.w4 _ p.w7 _ p.w16 p.x2 p.x4 p.x7 p.x16) 128 160 :=
  .gate (h19_23 p) (p.gt 0 128 128) rfl

theorem h19_25 (p : Pt) : Rows p.m19.view p.D (H19_25 p.i _ p.w2 _ p.w4 _ p.w7 _ p.w16 p.x2 p.x4 p.x7 p.x16) 128 128 :=
  .value (h19_24 p) (p.vl 0 128 128) rfl

theorem h19_26 (p : Pt) : Rows p.m19.view p.D (H19_26 p.i _ p.w2 _ p.w4 _ p.w7 _ p.w16 p.x2 p.x4 p.x7 p.x16) 96 128 :=
  .gate (h19_25 p) (p.gt 0 96 96) rfl

theorem h19_27 (p : Pt) : Rows p.m19.view p.D (H19_27 p.i _ p.w2 _ p.w4 _ p.w7 _ p.w16 p.x2 p.x4 p.x7 p.x16) 96 96 :=
  .value (h19_26 p) (p.vl 0 96 96) rfl

theorem h19_28 (p : Pt) : Rows p.m19.view p.D (H19_28 p.i _ p.w2 _ p.w4 _ p.w7 _ p.w16 p.x2 p.x4 p.x7 p.x16) 64 96 :=
  .gate (h19_27 p) (p.gt 0 64 64) rfl

theorem h19_29 (p : Pt) : Rows p.m19.view p.D (H19_29 p.i _ p.w2 _ p.w4 _ p.w7 _ p.w16 p.x2 p.x4 p.x7 p.x16) 64 64 :=
  .value (h19_28 p) (p.vl 0 64 64) rfl

theorem h19_30 (p : Pt) : Rows p.m19.view p.D (H19_30 p.i _ p.w2 _ p.w4 _ p.w7 _ p.w16 p.x2 p.x4 p.x7 p.x16) 32 64 :=
  .gate (h19_29 p) (p.gt 0 32 32) rfl

theorem h19_31 (p : Pt) : Rows p.m19.view p.D (H19_31 p.i _ p.w2 _ p.w4 _ p.w7 _ p.w16 p.x2 p.x4 p.x7 p.x16) 32 32 :=
  .value (h19_30 p) (p.vl 0 32 32) rfl

theorem h19_32 (p : Pt) : Rows p.m19.view p.D (H19_32 p.i _ p.w2 _ p.w4 _ p.w7 _ p.w16 p.x2 p.x4 p.x7 p.x16) 0 32 :=
  .gate (h19_31 p) (p.gt 0 0 0) rfl

theorem h19_33 (p : Pt) : Rows p.m19.view p.D (H19_33 p.i _ p.w2 _ p.w4 _ p.w7 _ p.w16 p.x2 p.x4 p.x7 p.x16) 0 0 :=
  .value (h19_32 p) (p.vl 0 0 0) rfl

/-! ### The taps' partial sums, after each chunk -/

theorem h18_1 (p : Pt) : p.Sums (H18_1 (F := Ideal)) 0 := p.sums_start

theorem h18_7 (p : Pt) : p.Sums (H18_7 p.i _ p.w2 _ p.w3 _ p.w4 _ p.w7 _ p.w16 p.m18 p.m19 p.x2 p.x3 p.x4 p.x7 p.x16) 6 :=
  p.st 1 2 0 5 480 (p.st 1 1 0 4 480 (p.st 1 0 0 3 480 (p.st 0 2 0 2 480 (p.st 0 1 0 1 480 (p.st 0 0 0 0 480 (h18_1 p)
    (p.rw 0 480 2 482 (h19_2 p)) rfl)
    (p.rw 0 480 1 481 (h19_2 p)) rfl)
    (p.gt 256 224 480) rfl)
    (p.rw 1 480 2 482 (h19_3 p)) rfl)
    (p.rw 1 480 1 481 (h19_3 p)) rfl)
    (p.vl 256 224 480) rfl

theorem h18_13 (p : Pt) : p.Sums (H18_13 p.i _ p.w2 _ p.w3 _ p.w4 _ p.w7 _ p.w16 p.m18 p.m19 p.x2 p.x3 p.x4 p.x7 p.x16) 12 :=
  p.st 1 2 1 11 448 (p.st 1 1 1 10 448 (p.st 1 0 1 9 448 (p.st 0 2 1 8 448 (p.st 0 1 1 7 448 (p.st 0 0 1 6 448 (h18_7 p)
    (p.rw 0 448 2 450 (h19_4 p)) rfl)
    (p.rw 0 448 1 449 (h19_4 p)) rfl)
    (p.gt 256 192 448) rfl)
    (p.rw 1 448 2 450 (h19_5 p)) rfl)
    (p.rw 1 448 1 449 (h19_5 p)) rfl)
    (p.vl 256 192 448) rfl

theorem h18_19 (p : Pt) : p.Sums (H18_19 p.i _ p.w2 _ p.w3 _ p.w4 _ p.w7 _ p.w16 p.m18 p.m19 p.x2 p.x3 p.x4 p.x7 p.x16) 18 :=
  p.st 1 2 2 17 416 (p.st 1 1 2 16 416 (p.st 1 0 2 15 416 (p.st 0 2 2 14 416 (p.st 0 1 2 13 416 (p.st 0 0 2 12 416 (h18_13 p)
    (p.rw 0 416 2 418 (h19_6 p)) rfl)
    (p.rw 0 416 1 417 (h19_6 p)) rfl)
    (p.gt 256 160 416) rfl)
    (p.rw 1 416 2 418 (h19_7 p)) rfl)
    (p.rw 1 416 1 417 (h19_7 p)) rfl)
    (p.vl 256 160 416) rfl

theorem h18_25 (p : Pt) : p.Sums (H18_25 p.i _ p.w2 _ p.w3 _ p.w4 _ p.w7 _ p.w16 p.m18 p.m19 p.x2 p.x3 p.x4 p.x7 p.x16) 24 :=
  p.st 1 2 3 23 384 (p.st 1 1 3 22 384 (p.st 1 0 3 21 384 (p.st 0 2 3 20 384 (p.st 0 1 3 19 384 (p.st 0 0 3 18 384 (h18_19 p)
    (p.rw 0 384 2 386 (h19_8 p)) rfl)
    (p.rw 0 384 1 385 (h19_8 p)) rfl)
    (p.gt 256 128 384) rfl)
    (p.rw 1 384 2 386 (h19_9 p)) rfl)
    (p.rw 1 384 1 385 (h19_9 p)) rfl)
    (p.vl 256 128 384) rfl

theorem h18_31 (p : Pt) : p.Sums (H18_31 p.i _ p.w2 _ p.w3 _ p.w4 _ p.w7 _ p.w16 p.m18 p.m19 p.x2 p.x3 p.x4 p.x7 p.x16) 30 :=
  p.st 1 2 4 29 352 (p.st 1 1 4 28 352 (p.st 1 0 4 27 352 (p.st 0 2 4 26 352 (p.st 0 1 4 25 352 (p.st 0 0 4 24 352 (h18_25 p)
    (p.rw 0 352 2 354 (h19_10 p)) rfl)
    (p.rw 0 352 1 353 (h19_10 p)) rfl)
    (p.gt 256 96 352) rfl)
    (p.rw 1 352 2 354 (h19_11 p)) rfl)
    (p.rw 1 352 1 353 (h19_11 p)) rfl)
    (p.vl 256 96 352) rfl

theorem h18_37 (p : Pt) : p.Sums (H18_37 p.i _ p.w2 _ p.w3 _ p.w4 _ p.w7 _ p.w16 p.m18 p.m19 p.x2 p.x3 p.x4 p.x7 p.x16) 36 :=
  p.st 1 2 5 35 320 (p.st 1 1 5 34 320 (p.st 1 0 5 33 320 (p.st 0 2 5 32 320 (p.st 0 1 5 31 320 (p.st 0 0 5 30 320 (h18_31 p)
    (p.rw 0 320 2 322 (h19_12 p)) rfl)
    (p.rw 0 320 1 321 (h19_12 p)) rfl)
    (p.gt 256 64 320) rfl)
    (p.rw 1 320 2 322 (h19_13 p)) rfl)
    (p.rw 1 320 1 321 (h19_13 p)) rfl)
    (p.vl 256 64 320) rfl

theorem h18_43 (p : Pt) : p.Sums (H18_43 p.i _ p.w2 _ p.w3 _ p.w4 _ p.w7 _ p.w16 p.m18 p.m19 p.x2 p.x3 p.x4 p.x7 p.x16) 42 :=
  p.st 1 2 6 41 288 (p.st 1 1 6 40 288 (p.st 1 0 6 39 288 (p.st 0 2 6 38 288 (p.st 0 1 6 37 288 (p.st 0 0 6 36 288 (h18_37 p)
    (p.rw 0 288 2 290 (h19_14 p)) rfl)
    (p.rw 0 288 1 289 (h19_14 p)) rfl)
    (p.gt 256 32 288) rfl)
    (p.rw 1 288 2 290 (h19_15 p)) rfl)
    (p.rw 1 288 1 289 (h19_15 p)) rfl)
    (p.vl 256 32 288) rfl

theorem h18_49 (p : Pt) : p.Sums (H18_49 p.i _ p.w2 _ p.w3 _ p.w4 _ p.w7 _ p.w16 p.m18 p.m19 p.x2 p.x3 p.x4 p.x7 p.x16) 48 :=
  p.st 1 2 7 47 256 (p.st 1 1 7 46 256 (p.st 1 0 7 45 256 (p.st 0 2 7 44 256 (p.st 0 1 7 43 256 (p.st 0 0 7 42 256 (h18_43 p)
    (p.rw 0 256 2 258 (h19_16 p)) rfl)
    (p.rw 0 256 1 257 (h19_16 p)) rfl)
    (p.gt 256 0 256) rfl)
    (p.rw 1 256 2 258 (h19_17 p)) rfl)
    (p.rw 1 256 1 257 (h19_17 p)) rfl)
    (p.vl 256 0 256) rfl

theorem h18_55 (p : Pt) : p.Sums (H18_55 p.i _ p.w2 _ p.w3 _ p.w4 _ p.w7 _ p.w16 p.m18 p.m19 p.x2 p.x3 p.x4 p.x7 p.x16) 54 :=
  p.st 1 2 8 53 224 (p.st 1 1 8 52 224 (p.st 1 0 8 51 224 (p.st 0 2 8 50 224 (p.st 0 1 8 49 224 (p.st 0 0 8 48 224 (h18_49 p)
    (p.rw 0 224 2 226 (h19_18 p)) rfl)
    (p.rw 0 224 1 225 (h19_18 p)) rfl)
    (p.gt 0 224 224) rfl)
    (p.rw 1 224 2 226 (h19_19 p)) rfl)
    (p.rw 1 224 1 225 (h19_19 p)) rfl)
    (p.vl 0 224 224) rfl

theorem h18_61 (p : Pt) : p.Sums (H18_61 p.i _ p.w2 _ p.w3 _ p.w4 _ p.w7 _ p.w16 p.m18 p.m19 p.x2 p.x3 p.x4 p.x7 p.x16) 60 :=
  p.st 1 2 9 59 192 (p.st 1 1 9 58 192 (p.st 1 0 9 57 192 (p.st 0 2 9 56 192 (p.st 0 1 9 55 192 (p.st 0 0 9 54 192 (h18_55 p)
    (p.rw 0 192 2 194 (h19_20 p)) rfl)
    (p.rw 0 192 1 193 (h19_20 p)) rfl)
    (p.gt 0 192 192) rfl)
    (p.rw 1 192 2 194 (h19_21 p)) rfl)
    (p.rw 1 192 1 193 (h19_21 p)) rfl)
    (p.vl 0 192 192) rfl

theorem h18_67 (p : Pt) : p.Sums (H18_67 p.i _ p.w2 _ p.w3 _ p.w4 _ p.w7 _ p.w16 p.m18 p.m19 p.x2 p.x3 p.x4 p.x7 p.x16) 66 :=
  p.st 1 2 10 65 160 (p.st 1 1 10 64 160 (p.st 1 0 10 63 160 (p.st 0 2 10 62 160 (p.st 0 1 10 61 160 (p.st 0 0 10 60 160 (h18_61 p)
    (p.rw 0 160 2 162 (h19_22 p)) rfl)
    (p.rw 0 160 1 161 (h19_22 p)) rfl)
    (p.gt 0 160 160) rfl)
    (p.rw 1 160 2 162 (h19_23 p)) rfl)
    (p.rw 1 160 1 161 (h19_23 p)) rfl)
    (p.vl 0 160 160) rfl

theorem h18_73 (p : Pt) : p.Sums (H18_73 p.i _ p.w2 _ p.w3 _ p.w4 _ p.w7 _ p.w16 p.m18 p.m19 p.x2 p.x3 p.x4 p.x7 p.x16) 72 :=
  p.st 1 2 11 71 128 (p.st 1 1 11 70 128 (p.st 1 0 11 69 128 (p.st 0 2 11 68 128 (p.st 0 1 11 67 128 (p.st 0 0 11 66 128 (h18_67 p)
    (p.rw 0 128 2 130 (h19_24 p)) rfl)
    (p.rw 0 128 1 129 (h19_24 p)) rfl)
    (p.gt 0 128 128) rfl)
    (p.rw 1 128 2 130 (h19_25 p)) rfl)
    (p.rw 1 128 1 129 (h19_25 p)) rfl)
    (p.vl 0 128 128) rfl

theorem h18_79 (p : Pt) : p.Sums (H18_79 p.i _ p.w2 _ p.w3 _ p.w4 _ p.w7 _ p.w16 p.m18 p.m19 p.x2 p.x3 p.x4 p.x7 p.x16) 78 :=
  p.st 1 2 12 77 96 (p.st 1 1 12 76 96 (p.st 1 0 12 75 96 (p.st 0 2 12 74 96 (p.st 0 1 12 73 96 (p.st 0 0 12 72 96 (h18_73 p)
    (p.rw 0 96 2 98 (h19_26 p)) rfl)
    (p.rw 0 96 1 97 (h19_26 p)) rfl)
    (p.gt 0 96 96) rfl)
    (p.rw 1 96 2 98 (h19_27 p)) rfl)
    (p.rw 1 96 1 97 (h19_27 p)) rfl)
    (p.vl 0 96 96) rfl

theorem h18_85 (p : Pt) : p.Sums (H18_85 p.i _ p.w2 _ p.w3 _ p.w4 _ p.w7 _ p.w16 p.m18 p.m19 p.x2 p.x3 p.x4 p.x7 p.x16) 84 :=
  p.st 1 2 13 83 64 (p.st 1 1 13 82 64 (p.st 1 0 13 81 64 (p.st 0 2 13 80 64 (p.st 0 1 13 79 64 (p.st 0 0 13 78 64 (h18_79 p)
    (p.rw 0 64 2 66 (h19_28 p)) rfl)
    (p.rw 0 64 1 65 (h19_28 p)) rfl)
    (p.gt 0 64 64) rfl)
    (p.rw 1 64 2 66 (h19_29 p)) rfl)
    (p.rw 1 64 1 65 (h19_29 p)) rfl)
    (p.vl 0 64 64) rfl

theorem h18_91 (p : Pt) : p.Sums (H18_91 p.i _ p.w2 _ p.w3 _ p.w4 _ p.w7 _ p.w16 p.m18 p.m19 p.x2 p.x3 p.x4 p.x7 p.x16) 90 :=
  p.st 1 2 14 89 32 (p.st 1 1 14 88 32 (p.st 1 0 14 87 32 (p.st 0 2 14 86 32 (p.st 0 1 14 85 32 (p.st 0 0 14 84 32 (h18_85 p)
    (p.rw 0 32 2 34 (h19_30 p)) rfl)
    (p.rw 0 32 1 33 (h19_30 p)) rfl)
    (p.gt 0 32 32) rfl)
    (p.rw 1 32 2 34 (h19_31 p)) rfl)
    (p.rw 1 32 1 33 (h19_31 p)) rfl)
    (p.vl 0 32 32) rfl

theorem h18_97 (p : Pt) : p.Sums (H18_97 p.i _ p.w2 _ p.w3 _ p.w4 _ p.w7 _ p.w16 p.m18 p.m19 p.x2 p.x3 p.x4 p.x7 p.x16) 96 :=
  p.st 1 2 15 95 0 (p.st 1 1 15 94 0 (p.st 1 0 15 93 0 (p.st 0 2 15 92 0 (p.st 0 1 15 91 0 (p.st 0 0 15 90 0 (h18_91 p)
    (p.rw 0 0 2 2 (h19_32 p)) rfl)
    (p.rw 0 0 1 1 (h19_32 p)) rfl)
    (p.gt 0 0 0) rfl)
    (p.rw 1 0 2 2 (h19_33 p)) rfl)
    (p.rw 1 0 1 1 (h19_33 p)) rfl)
    (p.vl 0 0 0) rfl

/-! ### The gradient through the convolution, and the gated value -/

theorem h11_16 (p : Pt) : Dups p.m11.view p.du (H11_16 (F := Ideal) p.i p.m2 p.w2 p.m4 p.w4 p.m6 p.w6 p.m7 p.w7 p.m16 p.w16 p.m19 p.x2 p.x4 p.x6 p.x7 p.x16) 256 256 :=
  .value (.gate (.value (.gate (.value (.gate (.value (.gate (.value (.gate (.value (.gate (.value (.gate (.value (.gate .nil
    (p.dn 0 480 (p.gt 256 224 480) (h19_2 p) rfl))
    (p.dn 1 480 (p.vl 256 224 480) (h19_3 p) rfl))
    (p.dn 0 448 (p.gt 256 192 448) (h19_4 p) rfl))
    (p.dn 1 448 (p.vl 256 192 448) (h19_5 p) rfl))
    (p.dn 0 416 (p.gt 256 160 416) (h19_6 p) rfl))
    (p.dn 1 416 (p.vl 256 160 416) (h19_7 p) rfl))
    (p.dn 0 384 (p.gt 256 128 384) (h19_8 p) rfl))
    (p.dn 1 384 (p.vl 256 128 384) (h19_9 p) rfl))
    (p.dn 0 352 (p.gt 256 96 352) (h19_10 p) rfl))
    (p.dn 1 352 (p.vl 256 96 352) (h19_11 p) rfl))
    (p.dn 0 320 (p.gt 256 64 320) (h19_12 p) rfl))
    (p.dn 1 320 (p.vl 256 64 320) (h19_13 p) rfl))
    (p.dn 0 288 (p.gt 256 32 288) (h19_14 p) rfl))
    (p.dn 1 288 (p.vl 256 32 288) (h19_15 p) rfl))
    (p.dn 0 256 (p.gt 256 0 256) (h19_16 p) rfl))
    (p.dn 1 256 (p.vl 256 0 256) (h19_17 p) rfl)

theorem h11_32 (p : Pt) : Dups p.m11.view p.du (H11_32 (F := Ideal) p.i p.m2 p.w2 p.m4 p.w4 p.m6 p.w6 p.m7 p.w7 p.m16 p.w16 p.m19 p.x2 p.x4 p.x6 p.x7 p.x16) 0 0 :=
  .value (.gate (.value (.gate (.value (.gate (.value (.gate (.value (.gate (.value (.gate (.value (.gate (.value (.gate (h11_16 p)
    (p.dn 0 224 (p.gt 0 224 224) (h19_18 p) rfl))
    (p.dn 1 224 (p.vl 0 224 224) (h19_19 p) rfl))
    (p.dn 0 192 (p.gt 0 192 192) (h19_20 p) rfl))
    (p.dn 1 192 (p.vl 0 192 192) (h19_21 p) rfl))
    (p.dn 0 160 (p.gt 0 160 160) (h19_22 p) rfl))
    (p.dn 1 160 (p.vl 0 160 160) (h19_23 p) rfl))
    (p.dn 0 128 (p.gt 0 128 128) (h19_24 p) rfl))
    (p.dn 1 128 (p.vl 0 128 128) (h19_25 p) rfl))
    (p.dn 0 96 (p.gt 0 96 96) (h19_26 p) rfl))
    (p.dn 1 96 (p.vl 0 96 96) (h19_27 p) rfl))
    (p.dn 0 64 (p.gt 0 64 64) (h19_28 p) rfl))
    (p.dn 1 64 (p.vl 0 64 64) (h19_29 p) rfl))
    (p.dn 0 32 (p.gt 0 32 32) (h19_30 p) rfl))
    (p.dn 1 32 (p.vl 0 32 32) (h19_31 p) rfl))
    (p.dn 0 0 (p.gt 0 0 0) (h19_32 p) rfl))
    (p.dn 1 0 (p.vl 0 0 0) (h19_33 p) rfl)

theorem Pt.ga (p : Pt) (o : ℕ) {w : Vec Ideal S1x32x704 .bf16} {h0 h1} (hw : w = chA (p.u4 0 o h0) (p.u4 1 o h1)) (ho : o ≤ 480 := by decide)
    (s : Fin 32) (k : Fin 704) : w (ix3 0 s k) = p.gated (o + s.val) k := p.gated_chunk ho h0 h1 hw s k

theorem h10_16 (p : Pt) : Gated p.m10.view p.gated (H10_16 (F := Ideal) p.m4 p.w4 p.x4) 0 :=
  .cons (.cons (.cons (.cons (.cons (.cons (.cons (.cons (.cons (.cons (.cons (.cons (.cons (.cons (.cons (.cons .nil
    (p.ga 480 rfl))
    (p.ga 448 rfl))
    (p.ga 416 rfl))
    (p.ga 384 rfl))
    (p.ga 352 rfl))
    (p.ga 320 rfl))
    (p.ga 288 rfl))
    (p.ga 256 rfl))
    (p.ga 224 rfl))
    (p.ga 192 rfl))
    (p.ga 160 rfl))
    (p.ga 128 rfl))
    (p.ga 96 rfl))
    (p.ga 64 rfl))
    (p.ga 32 rfl))
    (p.ga 0 rfl)

theorem off2 (p : Pt) : k0_off2 p.i = ![p.slot.val, 0, 0, 0] :=
  congrArg (fun n : ℕ => ![n, 0, 0, 0]) (word_small _ p.slot_lt)

theorem off4 (p : Pt) : k0_off4 p.i = ![p.slot.val, 0, 0, 0] :=
  congrArg (fun n : ℕ => ![n, 0, 0, 0]) (word_small _ p.slot_lt)

theorem off5 (p : Pt) : k0_off5 p.i = ![p.slot.val, 0, 0, 0] :=
  congrArg (fun n : ℕ => ![n, 0, 0, 0]) (word_small _ p.slot_lt)

theorem off9 (p : Pt) : k0_off9 p.i = ![p.slot.val, 1, 0, 0] :=
  congrArg (fun n : ℕ => ![n, 1, 0, 0]) (word_small _ p.slot_lt)

/-! ### The gated value and the gradient through the convolution -/

theorem out10 (p : Pt) (c : Dev nD) (r : Fin 512) (k : Fin 704) :
    p.m10.view.read (Elt Ideal) (p.run c).g10 (ix3 0 r k) = p.gated r.val k := by
  unfold Pt.run run
  dsimp only
  exact h10_16 p _ r k (Nat.zero_le _)

theorem out11 (p : Pt) (c : Dev nD) (g : Fin 2) (r : Fin 512) (k : Fin 704) :
    p.m11.view.read (Elt Ideal) (p.run c).g11 (ix4 0 g r k) = p.du g r.val k := by
  unfold Pt.run run
  dsimp only
  exact h11_32 p _ g r k (by split <;> exact Nat.zero_le _)

/-! ### The rows kept for the tile before -/

theorem h16 (p : Pt) (f) (m : Fin 4) (g : Fin 2) (s : Fin 8) (k : Fin 704) :
    p.m16.view.read (Elt Ideal) (p.m16.view.writes (Elt Ideal) f (H16_2 (F := Ideal) p.i p.m2 p.w2 p.m4 p.w4 p.m7 p.w7 p.m16 p.w16 p.m19 p.x2 p.x4 p.x7 p.x16)) (ix4 m g s k)
      = if m = p.slot then p.D g s.val k else p.m16.view.read (Elt Ideal) f (ix4 m g s k) := by
  unfold H16_2
  by_cases hm : m = p.slot
  · subst hm
    rw [if_pos rfl]
    match g with
    | ⟨0, _⟩ =>
      refine (half8_miss p.m16.view f _ _ p.slot 1 p.slot 0 s k (off8 p) (fun h => absurd h.2 (by decide))).trans ?_
      refine (half8_hit p.m16.view f _ _ p.slot 0 s k (off4 p)).trans ?_
      pointwise [k0_pay508]
      exact (h19_33 p).read8 0 rfl (by decide) s k
    | ⟨1, _⟩ =>
      refine (half8_hit p.m16.view f _ _ p.slot 1 s k (off8 p)).trans ?_
      pointwise [k0_pay514]
      exact (h19_33 p).read8 1 rfl (by decide) s k
  · rw [if_neg hm]
    refine (half8_miss p.m16.view f _ _ p.slot 1 m g s k (off8 p) (fun h => hm h.1)).trans ?_
    exact half8_miss p.m16.view f _ _ p.slot 0 m g s k (off4 p) (fun h => hm h.1)

theorem out16 (p : Pt) (c : Dev nD) (m : Fin 4) (g : Fin 2) (s : Fin 8) (k : Fin 704) :
    p.m16.view.read (Elt Ideal) (p.run c).g16 (ix4 m g s k) = if m = p.slot then p.D g s.val k else p.x16 (ix4 m g s k) := by
  have key (f) (hf : m ≠ p.slot → p.m16.view.read (Elt Ideal) f (ix4 m g s k) = p.x16 (ix4 m g s k)) :
      p.m16.view.read (Elt Ideal) (p.m16.view.writes (Elt Ideal) f (H16_2 (F := Ideal) p.i p.m2 p.w2 p.m4 p.w4 p.m7 p.w7 p.m16 p.w16 p.m19 p.x2 p.x4 p.x7 p.x16)) (ix4 m g s k)
        = if m = p.slot then p.D g s.val k else p.x16 (ix4 m g s k) := by
    rw [h16 p f m g s k]
    by_cases hm : m = p.slot
    · rw [if_pos hm, if_pos hm]
    · rw [if_neg hm, if_neg hm, hf hm]
  have hx : p.m16.view.read (Elt Ideal) (p.w16.unread p.x16) (ix4 m g s k) = p.x16 (ix4 m g s k) :=
    congrFun (p.w16.read_unread p.x16) _
  unfold Pt.run run
  dsimp only
  generalize (if m = p.slot then p.D g s.val k else p.x16 (ix4 m g s k)) = R at key ⊢
  split_ifs
  · exact key _ fun hm => (slot8_miss p.m16.view (p.w16.unread p.x16) _ [] p.slot m g s k (off1 p) hm).trans hx
  · exact key (p.w16.unread p.x16) fun _ => hx
  · exact key _ fun hm => (slot8_miss p.m16.view (p.w16.unread p.x16) _ [] p.slot m g s k (off1 p) hm).trans hx
  · exact key (p.w16.unread p.x16) fun _ => hx

/-! ### The up projection's gradient, accumulated over the groups -/

/-- A group's part of an entry of the gradient through the up projection. -/
def Pt.part (p : Pt) (r : ℕ) (j : Fin 1024) : EReal :=
  (∑ k, p.du 0 r k * p.x5 (ix4 0 0 j k)) + ∑ k, p.du 1 r k * p.x5 (ix4 1 0 j k)

/-- The entry after the group's part. -/
def Pt.acc (p : Pt) (r : Fin 512) (j : Fin 1024) : EReal :=
  (if v5 p.i = 1#1 then 0 else p.x17 (ix2 r j)) + p.part r.val j

theorem old17 (p : Pt) {inb : v5 p.i = 1#1 → ∀ a, (![0, 0] : Fin 2 → ℕ) a + S512x1024.size a ≤ S512x1024.size a} (r : Fin 512) (j : Fin 1024) :
    p.m17.view.read (Elt Ideal) (if hc : v5 p.i = 1#1 then p.m17.view.writes (Elt Ideal) (p.w17.unread p.x17)
        [⟨Rect.unit (s := S512x1024) ![0, 0] S512x1024.size (inb hc), k0_pay9 (F := Ideal)⟩] else p.w17.unread p.x17) (ix2 r j)
      = if v5 p.i = 1#1 then 0 else p.x17 (ix2 r j) := by
  by_cases hc : v5 p.i = 1#1
  · rw [dif_pos hc, if_pos hc]
    refine (View.read_writes_cons_unit_of_mem p.m17.view (p.w17.unread p.x17) (inb hc) (k0_pay9 (F := Ideal)) [] (ix2 r j) (ix2 r j) rfl ?_).trans ?_
    · intro a
      match a with
      | ⟨0, _⟩ => exact (Nat.zero_add _).symm
      | ⟨1, _⟩ => exact (Nat.zero_add _).symm
    · show k0_pay9 (F := Ideal) (ix2 r j) = 0
      pointwise [k0_pay9]
  · rw [dif_neg hc, if_neg hc]
    exact congrFun (p.w17.read_unread p.x17) _

/-- The up projection's weight, one half of it. -/
theorem w5_at (p : Pt) (gv : ℕ) (g : Fin 2) (hg : g.val = gv) (inb) (j : Fin 1024) (k : Fin 704) :
    View.readAt (Elt Ideal) p.m5.view (Rect.unit (s := S2x1x1024x704) ![gv, 0, 0, 0] S1x1x1024x704.size inb).toLoadRect (p.w5.unread p.x5)
      (ix4 0 0 j k) = p.x5 (ix4 g 0 j k) := by
  refine (Memref.IsWhole.readAt_unread p.w5 p.x5 _ _).trans (congrArg p.x5 (funext fun a => Fin.ext ?_))
  match a with
  | ⟨0, _⟩ => show gv + 1 * 0 = g.val; omega
  | ⟨1, _⟩ => rfl
  | ⟨2, _⟩ => show 0 + 1 * j.val = j.val; omega
  | ⟨3, _⟩ => show 0 + 1 * k.val = k.val; omega

theorem rows17 (v : View sig .tc .vmem S512x1024 .f32) (B : ℕ) (inb) (r : Fin 512) (s : Fin 256) (hr : r.val = B + s.val) (j : Fin 1024) (f) :
    v.readAt (Elt Ideal) (Rect.unit (s := S512x1024) ![B, 0] S256x1024.size inb).toLoadRect f (ix2 s j) = v.read (Elt Ideal) f (ix2 r j) := by
  refine congrArg (v.read (Elt Ideal) f) (funext fun a => Fin.ext ?_)
  match a with
  | ⟨0, _⟩ => show B + 1 * s.val = r.val; omega
  | ⟨1, _⟩ => show 0 + 1 * j.val = j.val; omega

theorem v1340_at (p : Pt) (s : Fin 256) (j : Fin 1024) (r : Fin 512) (hr : r.val = 256 + s.val) :
    v1340 (F := Ideal) p.i p.m17 p.w17 p.x17 (ix2 s j) = if v5 p.i = 1#1 then 0 else p.x17 (ix2 r j) := by
  unfold v1340
  exact (rows17 p.m17.view 256 _ r s hr j _).trans (old17 p r j)

theorem v2660_at (p : Pt) (s : Fin 256) (j : Fin 1024) (r : Fin 512) (hr : r.val = 0 + s.val) :
    v2660 (F := Ideal) p.i p.m17 p.w17 p.x17 (ix2 s j) = if v5 p.i = 1#1 then 0 else p.x17 (ix2 r j) := by
  unfold v2660
  exact (rows17 p.m17.view 0 _ r s hr j _).trans (old17 p r j)

theorem h17 (p : Pt) (f) (r : Fin 512) (j : Fin 1024) :
    p.m17.view.read (Elt Ideal) (p.m17.view.writes (Elt Ideal) f (H17_2 (F := Ideal) p.i p.m2 p.w2 p.m4 p.w4 p.m5 p.w5 p.m6 p.w6 p.m7 p.w7 p.m11 p.m16 p.w16 p.m17 p.w17 p.m19 p.x2 p.x4 p.x5 p.x6 p.x7 p.x16 p.x17)) (ix2 r j) = p.acc r j := by
  unfold H17_2 Pt.acc Pt.part
  by_cases hr : r.val < 256
  · refine (View.read_writes_cons_unit_of_mem p.m17.view f _ (k0_pay507 (v2660 (F := Ideal) p.i p.m17 p.w17 p.x17) (r_240 (F := Ideal) p.i p.m2 p.w2 p.m4 p.w4 p.m5 p.w5 p.m6 p.w6 p.m7 p.w7 p.m11 p.m16 p.w16 p.m19 p.x2 p.x4 p.x5 p.x6 p.x7 p.x16) (r_241 (F := Ideal) p.i p.m2 p.w2 p.m4 p.w4 p.m6 p.w6 p.m7 p.w7 p.m11 p.m16 p.w16 p.m19 p.x2 p.x4 p.x6 p.x7 p.x16) (r_242 (F := Ideal) p.m5 p.w5 p.x5) (cst_1655 (F := Ideal))) _ (ix2 r j) (ix2 (⟨r.val, hr⟩ : Fin 256) j) rfl ?_).trans ?_
    · intro a
      match a with
      | ⟨0, _⟩ => exact (Nat.zero_add _).symm
      | ⟨1, _⟩ => exact (Nat.zero_add _).symm
    · unfold r_240 r_241 r_242 cst_1655
      generalize hA : v2660 (F := Ideal) p.i p.m17 p.w17 p.x17 = A
      generalize hB : v2661 (F := Ideal) p.i p.m2 p.w2 p.m4 p.w4 p.m6 p.w6 p.m7 p.w7 p.m11 p.m16 p.w16 p.m19 p.x2 p.x4 p.x6 p.x7 p.x16 = B
      generalize hC : v2666 (F := Ideal) p.i p.m2 p.w2 p.m4 p.w4 p.m6 p.w6 p.m7 p.w7 p.m11 p.m16 p.w16 p.m19 p.x2 p.x4 p.x6 p.x7 p.x16 = C
      have eA := v2660_at p ⟨r.val, hr⟩ j r (Nat.zero_add _).symm
      rw [hA] at eA
      have eB (k : Fin 704) : B (ix4 0 0 ⟨r.val, hr⟩ k) = p.du 0 r.val k := by
        rw [← hB]; exact ((h11_32 p).read 0 rfl (by decide) ⟨r.val, hr⟩ k).trans (congrArg (fun n => p.du 0 n k) (Nat.zero_add _))
      have eC (k : Fin 704) : C (ix4 0 0 ⟨r.val, hr⟩ k) = p.du 1 r.val k := by
        rw [← hC]; exact ((h11_32 p).read 1 rfl (by decide) ⟨r.val, hr⟩ k).trans (congrArg (fun n => p.du 1 n k) (Nat.zero_add _))
      have e0 := w5_at p 0 0 rfl inb_S2x1x1024x704_S1x1x1024x704_0_0_0_0 j
      have e1 := w5_at p 1 1 rfl inb_S2x1x1024x704_S1x1x1024x704_1_0_0_0 j
      generalize View.readAt (Elt Ideal) p.m5.view (Rect.unit (s := S2x1x1024x704) ![0, 0, 0, 0] S1x1x1024x704.size inb_S2x1x1024x704_S1x1x1024x704_0_0_0_0).toLoadRect (p.w5.unread p.x5) = W0 at e0 ⊢
      generalize View.readAt (Elt Ideal) p.m5.view (Rect.unit (s := S2x1x1024x704) ![1, 0, 0, 0] S1x1x1024x704.size inb_S2x1x1024x704_S1x1x1024x704_1_0_0_0).toLoadRect (p.w5.unread p.x5) = W1 at e1 ⊢
      pointwise [k0_pay507, k0_pay506, k0_pay505, k0_pay504]
      simp only [eB, eC, e0, e1, eA]
  · have hr' : r.val - 256 < 256 := by omega
    refine (View.read_writes_cons_unit_of_not_mem p.m17.view f _ (k0_pay507 (v2660 (F := Ideal) p.i p.m17 p.w17 p.x17) (r_240 (F := Ideal) p.i p.m2 p.w2 p.m4 p.w4 p.m5 p.w5 p.m6 p.w6 p.m7 p.w7 p.m11 p.m16 p.w16 p.m19 p.x2 p.x4 p.x5 p.x6 p.x7 p.x16) (r_241 (F := Ideal) p.i p.m2 p.w2 p.m4 p.w4 p.m6 p.w6 p.m7 p.w7 p.m11 p.m16 p.w16 p.m19 p.x2 p.x4 p.x6 p.x7 p.x16) (r_242 (F := Ideal) p.m5 p.w5 p.x5) (cst_1655 (F := Ideal))) _ (ix2 r j) rfl (0 : Fin 2) (Or.inr (not_lt.mp hr))).trans ?_
    refine (View.read_writes_cons_unit_of_mem p.m17.view f _ (k0_pay272 (v1340 (F := Ideal) p.i p.m17 p.w17 p.x17) (v1341 (F := Ideal) p.i p.m2 p.w2 p.m4 p.w4 p.m6 p.w6 p.m7 p.w7 p.m11 p.m16 p.w16 p.m19 p.x2 p.x4 p.x6 p.x7 p.x16) _ (v1346 (F := Ideal) p.i p.m2 p.w2 p.m4 p.w4 p.m6 p.w6 p.m7 p.w7 p.m11 p.m16 p.w16 p.m19 p.x2 p.x4 p.x6 p.x7 p.x16) _) _ (ix2 r j) (ix2 (⟨r.val - 256, hr'⟩ : Fin 256) j) rfl ?_).trans ?_
    · intro a
      match a with
      | ⟨0, _⟩ => show r.val = 256 + (r.val - 256); omega
      | ⟨1, _⟩ => exact (Nat.zero_add _).symm
    · generalize hA : v1340 (F := Ideal) p.i p.m17 p.w17 p.x17 = A
      generalize hB : v1341 (F := Ideal) p.i p.m2 p.w2 p.m4 p.w4 p.m6 p.w6 p.m7 p.w7 p.m11 p.m16 p.w16 p.m19 p.x2 p.x4 p.x6 p.x7 p.x16 = B
      generalize hC : v1346 (F := Ideal) p.i p.m2 p.w2 p.m4 p.w4 p.m6 p.w6 p.m7 p.w7 p.m11 p.m16 p.w16 p.m19 p.x2 p.x4 p.x6 p.x7 p.x16 = C
      have eA := v1340_at p ⟨r.val - 256, hr'⟩ j r (by show r.val = 256 + (r.val - 256); omega)
      rw [hA] at eA
      have er : 256 + (r.val - 256) = r.val := by omega
      have eB (k : Fin 704) : B (ix4 0 0 ⟨r.val - 256, hr'⟩ k) = p.du 0 r.val k := by
        rw [← hB]; exact ((h11_16 p).read 0 rfl (by decide) ⟨r.val - 256, hr'⟩ k).trans (congrArg (fun n => p.du 0 n k) er)
      have eC (k : Fin 704) : C (ix4 0 0 ⟨r.val - 256, hr'⟩ k) = p.du 1 r.val k := by
        rw [← hC]; exact ((h11_16 p).read 1 rfl (by decide) ⟨r.val - 256, hr'⟩ k).trans (congrArg (fun n => p.du 1 n k) er)
      have e0 := w5_at p 0 0 rfl inb_S2x1x1024x704_S1x1x1024x704_0_0_0_0 j
      have e1 := w5_at p 1 1 rfl inb_S2x1x1024x704_S1x1x1024x704_1_0_0_0 j
      generalize View.readAt (Elt Ideal) p.m5.view (Rect.unit (s := S2x1x1024x704) ![0, 0, 0, 0] S1x1x1024x704.size inb_S2x1x1024x704_S1x1x1024x704_0_0_0_0).toLoadRect (p.w5.unread p.x5) = W0 at e0 ⊢
      generalize View.readAt (Elt Ideal) p.m5.view (Rect.unit (s := S2x1x1024x704) ![1, 0, 0, 0] S1x1x1024x704.size inb_S2x1x1024x704_S1x1x1024x704_1_0_0_0).toLoadRect (p.w5.unread p.x5) = W1 at e1 ⊢
      pointwise [k0_pay272]
      simp only [eB, eC, e0, e1, eA]

theorem out17 (p : Pt) (c : Dev nD) (r : Fin 512) (j : Fin 1024) :
    p.m17.view.read (Elt Ideal) (p.run c).g17 (ix2 r j) = p.acc r j := by
  unfold Pt.run run
  dsimp only
  exact h17 p _ r j

theorem v2763_at (p : Pt) (r : Fin 512) (j : Fin 1024) : v2763 (F := Ideal) p.i p.m2 p.w2 p.m4 p.w4 p.m5 p.w5 p.m6 p.w6 p.m7 p.w7 p.m11 p.m16 p.w16 p.m17 p.w17 p.m19 p.x2 p.x4 p.x5 p.x6 p.x7 p.x16 p.x17 (ix2 r j) = p.acc r j := by
  unfold v2763
  refine Eq.trans (congrArg (p.m17.view.read (Elt Ideal) _) (funext fun a => Fin.ext ?_)) (h17 p p.m17.view.junk r j)
  match a with
  | ⟨0, _⟩ => show 0 + 1 * r.val = r.val; omega
  | ⟨1, _⟩ => show 0 + 1 * j.val = j.val; omega

/-! ### The taps' gradients -/

/-- A tap's entry before the point's part. -/
def Pt.was (p : Pt) (m : Fin 4) (g : Fin 2) (a : Fin 3) (k : Fin 704) : EReal :=
  if k0_cond1 p.i = 1#1 then 0 else p.x15 (ix4 m g a k)

theorem old15 (p : Pt) {inb : k0_cond1 p.i = 1#1 → ∀ a, (k0_off2 p.i) a + S1x2x3x704.size a ≤ S4x2x3x704.size a} (off : Fin 4 → ℕ) (inb') (g : Fin 2) (a : Fin 3) (k : Fin 704)
    (ho : off = ![p.slot.val, g.val, a.val, 0]) :
    View.readAt (Elt Ideal) p.m15.view (Rect.unit (s := S4x2x3x704) off S1x1x1x704.size inb').toLoadRect (if hc : k0_cond1 p.i = 1#1 then p.m15.view.writes (Elt Ideal) (p.w15.unread p.x15)
        [⟨Rect.unit (s := S4x2x3x704) (k0_off2 p.i) S1x2x3x704.size (inb hc), k0_pay8 (F := Ideal)⟩] else p.w15.unread p.x15) (ix4 0 0 0 k)
      = p.was p.slot g a k := by
  subst ho
  have hidx : (Rect.unit (s := S4x2x3x704) ![p.slot.val, g.val, a.val, 0] S1x1x1x704.size inb').toLoadRect.idx (ix4 0 0 0 k) = ix4 p.slot g a k := by
    refine funext fun d => Fin.ext ?_
    match d with
    | ⟨0, _⟩ => show p.slot.val + 1 * 0 = p.slot.val; omega
    | ⟨1, _⟩ => show g.val + 1 * 0 = g.val; omega
    | ⟨2, _⟩ => show a.val + 1 * 0 = a.val; omega
    | ⟨3, _⟩ => show 0 + 1 * k.val = k.val; omega
  rw [readAt_idx _ _ _ _ _ hidx]
  unfold Pt.was
  by_cases hc : k0_cond1 p.i = 1#1
  · rw [dif_pos hc, if_pos hc]
    refine (slot3_hit p.m15.view _ _ _ p.slot g a k (off2 p)).trans ?_
    pointwise [k0_pay8]
  · rw [dif_neg hc, if_neg hc]
    exact congrFun (p.w15.read_unread p.x15) _

theorem h15 (p : Pt) (f) (m : Fin 4) (g : Fin 2) (a : Fin 3) (k : Fin 704) :
    p.m15.view.read (Elt Ideal) (p.m15.view.writes (Elt Ideal) f (H15_6 (F := Ideal) p.i p.m2 p.w2 p.m3 p.w3 p.m4 p.w4 p.m7 p.w7 p.m15 p.w15 p.m16 p.w16 p.m18 p.m19 p.x2 p.x3 p.x4 p.x7 p.x15 p.x16)) (ix4 m g a k)
      = if m = p.slot then p.was m g a k + ∑ s, p.taps g a 16 s k else p.m15.view.read (Elt Ideal) f (ix4 m g a k) := by
  unfold H15_6
  by_cases hm : m = p.slot
  · subst hm
    rw [if_pos rfl]
    match g, a with
    | ⟨0, _⟩, ⟨0, _⟩ =>
      refine (half3_miss p.m15.view f _ _ p.slot 1 2 p.slot 0 0 k (off11 p) (fun h => absurd h.2 (by decide))).trans ?_
      refine (half3_miss p.m15.view f _ _ p.slot 1 1 p.slot 0 0 k (off10 p) (fun h => absurd h.2 (by decide))).trans ?_
      refine (half3_miss p.m15.view f _ _ p.slot 1 0 p.slot 0 0 k (off9 p) (fun h => absurd h.2 (by decide))).trans ?_
      refine (half3_miss p.m15.view f _ _ p.slot 0 2 p.slot 0 0 k (off7 p) (fun h => absurd h.2 (by decide))).trans ?_
      refine (half3_miss p.m15.view f _ _ p.slot 0 1 p.slot 0 0 k (off6 p) (fun h => absurd h.2 (by decide))).trans ?_
      refine (half3_hit p.m15.view f _ _ p.slot 0 0 k (off5 p)).trans ?_
      have eA : v2683 (F := Ideal) p.i p.m15 p.w15 p.x15 (ix4 0 0 0 k) = p.was p.slot 0 0 k := old15 p _ _ 0 0 k (off5 p)
      have eB (s : Fin 8) : v2685 (F := Ideal) p.i p.m2 p.w2 p.m3 p.w3 p.m4 p.w4 p.m7 p.w7 p.m16 p.w16 p.m18 p.m19 p.x2 p.x3 p.x4 p.x7 p.x16 (ix4 0 0 s k) = p.taps 0 0 16 s k := p.sums_read (h18_97 p) 0 0 rfl rfl s k
      generalize v2683 (F := Ideal) p.i p.m15 p.w15 p.x15 = A at eA ⊢
      generalize v2685 (F := Ideal) p.i p.m2 p.w2 p.m3 p.w3 p.m4 p.w4 p.m7 p.w7 p.m16 p.w16 p.m18 p.m19 p.x2 p.x3 p.x4 p.x7 p.x16 = B at eB ⊢
      pointwise [k0_pay509]
      simp only [eA, eB]
    | ⟨0, _⟩, ⟨1, _⟩ =>
      refine (half3_miss p.m15.view f _ _ p.slot 1 2 p.slot 0 1 k (off11 p) (fun h => absurd h.2 (by decide))).trans ?_
      refine (half3_miss p.m15.view f _ _ p.slot 1 1 p.slot 0 1 k (off10 p) (fun h => absurd h.2 (by decide))).trans ?_
      refine (half3_miss p.m15.view f _ _ p.slot 1 0 p.slot 0 1 k (off9 p) (fun h => absurd h.2 (by decide))).trans ?_
      refine (half3_miss p.m15.view f _ _ p.slot 0 2 p.slot 0 1 k (off7 p) (fun h => absurd h.2 (by decide))).trans ?_
      refine (half3_hit p.m15.view f _ _ p.slot 0 1 k (off6 p)).trans ?_
      unfold r_243 r_244
      have eA : v2695 (F := Ideal) p.i p.m15 p.w15 p.x15 (ix4 0 0 0 k) = p.was p.slot 0 1 k := old15 p _ _ 0 1 k (off6 p)
      have eB (s : Fin 8) : v2697 (F := Ideal) p.i p.m2 p.w2 p.m3 p.w3 p.m4 p.w4 p.m7 p.w7 p.m16 p.w16 p.m18 p.m19 p.x2 p.x3 p.x4 p.x7 p.x16 (ix4 0 0 s k) = p.taps 0 1 16 s k := p.sums_read (h18_97 p) 0 1 rfl rfl s k
      generalize v2695 (F := Ideal) p.i p.m15 p.w15 p.x15 = A at eA ⊢
      generalize v2697 (F := Ideal) p.i p.m2 p.w2 p.m3 p.w3 p.m4 p.w4 p.m7 p.w7 p.m16 p.w16 p.m18 p.m19 p.x2 p.x3 p.x4 p.x7 p.x16 = B at eB ⊢
      pointwise [k0_pay512, k0_pay511, k0_pay510]
      simp only [eA, eB]
    | ⟨0, _⟩, ⟨2, _⟩ =>
      refine (half3_miss p.m15.view f _ _ p.slot 1 2 p.slot 0 2 k (off11 p) (fun h => absurd h.2 (by decide))).trans ?_
      refine (half3_miss p.m15.view f _ _ p.slot 1 1 p.slot 0 2 k (off10 p) (fun h => absurd h.2 (by decide))).trans ?_
      refine (half3_miss p.m15.view f _ _ p.slot 1 0 p.slot 0 2 k (off9 p) (fun h => absurd h.2 (by decide))).trans ?_
      refine (half3_hit p.m15.view f _ _ p.slot 0 2 k (off7 p)).trans ?_
      have eA : v2707 (F := Ideal) p.i p.m15 p.w15 p.x15 (ix4 0 0 0 k) = p.was p.slot 0 2 k := old15 p _ _ 0 2 k (off7 p)
      have eB (s : Fin 8) : v2709 (F := Ideal) p.i p.m2 p.w2 p.m3 p.w3 p.m4 p.w4 p.m7 p.w7 p.m16 p.w16 p.m18 p.m19 p.x2 p.x3 p.x4 p.x7 p.x16 (ix4 0 0 s k) = p.taps 0 2 16 s k := p.sums_read (h18_97 p) 0 2 rfl rfl s k
      generalize v2707 (F := Ideal) p.i p.m15 p.w15 p.x15 = A at eA ⊢
      generalize v2709 (F := Ideal) p.i p.m2 p.w2 p.m3 p.w3 p.m4 p.w4 p.m7 p.w7 p.m16 p.w16 p.m18 p.m19 p.x2 p.x3 p.x4 p.x7 p.x16 = B at eB ⊢
      pointwise [k0_pay513]
      simp only [eA, eB]
    | ⟨1, _⟩, ⟨0, _⟩ =>
      refine (half3_miss p.m15.view f _ _ p.slot 1 2 p.slot 1 0 k (off11 p) (fun h => absurd h.2 (by decide))).trans ?_
      refine (half3_miss p.m15.view f _ _ p.slot 1 1 p.slot 1 0 k (off10 p) (fun h => absurd h.2 (by decide))).trans ?_
      refine (half3_hit p.m15.view f _ _ p.slot 1 0 k (off9 p)).trans ?_
      unfold r_245 r_246
      have eA : v2725 (F := Ideal) p.i p.m15 p.w15 p.x15 (ix4 0 0 0 k) = p.was p.slot 1 0 k := old15 p _ _ 1 0 k (off9 p)
      have eB (s : Fin 8) : v2727 (F := Ideal) p.i p.m2 p.w2 p.m3 p.w3 p.m4 p.w4 p.m7 p.w7 p.m16 p.w16 p.m18 p.m19 p.x2 p.x3 p.x4 p.x7 p.x16 (ix4 0 0 s k) = p.taps 1 0 16 s k := p.sums_read (h18_97 p) 1 0 rfl rfl s k
      generalize v2725 (F := Ideal) p.i p.m15 p.w15 p.x15 = A at eA ⊢
      generalize v2727 (F := Ideal) p.i p.m2 p.w2 p.m3 p.w3 p.m4 p.w4 p.m7 p.w7 p.m16 p.w16 p.m18 p.m19 p.x2 p.x3 p.x4 p.x7 p.x16 = B at eB ⊢
      pointwise [k0_pay517, k0_pay516, k0_pay515]
      simp only [eA, eB]
    | ⟨1, _⟩, ⟨1, _⟩ =>
      refine (half3_miss p.m15.view f _ _ p.slot 1 2 p.slot 1 1 k (off11 p) (fun h => absurd h.2 (by decide))).trans ?_
      refine (half3_hit p.m15.view f _ _ p.slot 1 1 k (off10 p)).trans ?_
      have eA : v2737 (F := Ideal) p.i p.m15 p.w15 p.x15 (ix4 0 0 0 k) = p.was p.slot 1 1 k := old15 p _ _ 1 1 k (off10 p)
      have eB (s : Fin 8) : v2739 (F := Ideal) p.i p.m2 p.w2 p.m3 p.w3 p.m4 p.w4 p.m7 p.w7 p.m16 p.w16 p.m18 p.m19 p.x2 p.x3 p.x4 p.x7 p.x16 (ix4 0 0 s k) = p.taps 1 1 16 s k := p.sums_read (h18_97 p) 1 1 rfl rfl s k
      generalize v2737 (F := Ideal) p.i p.m15 p.w15 p.x15 = A at eA ⊢
      generalize v2739 (F := Ideal) p.i p.m2 p.w2 p.m3 p.w3 p.m4 p.w4 p.m7 p.w7 p.m16 p.w16 p.m18 p.m19 p.x2 p.x3 p.x4 p.x7 p.x16 = B at eB ⊢
      pointwise [k0_pay518]
      simp only [eA, eB]
    | ⟨1, _⟩, ⟨2, _⟩ =>
      refine (half3_hit p.m15.view f _ _ p.slot 1 2 k (off11 p)).trans ?_
      have eA : v2749 (F := Ideal) p.i p.m15 p.w15 p.x15 (ix4 0 0 0 k) = p.was p.slot 1 2 k := old15 p _ _ 1 2 k (off11 p)
      have eB (s : Fin 8) : v2751 (F := Ideal) p.i p.m2 p.w2 p.m3 p.w3 p.m4 p.w4 p.m7 p.w7 p.m16 p.w16 p.m18 p.m19 p.x2 p.x3 p.x4 p.x7 p.x16 (ix4 0 0 s k) = p.taps 1 2 16 s k := p.sums_read (h18_97 p) 1 2 rfl rfl s k
      generalize v2749 (F := Ideal) p.i p.m15 p.w15 p.x15 = A at eA ⊢
      generalize v2751 (F := Ideal) p.i p.m2 p.w2 p.m3 p.w3 p.m4 p.w4 p.m7 p.w7 p.m16 p.w16 p.m18 p.m19 p.x2 p.x3 p.x4 p.x7 p.x16 = B at eB ⊢
      pointwise [k0_pay519]
      simp only [eA, eB]
  · rw [if_neg hm]
    refine (half3_miss p.m15.view f _ _ p.slot 1 2 m g a k (off11 p) (fun h => hm h.1)).trans ?_
    refine (half3_miss p.m15.view f _ _ p.slot 1 1 m g a k (off10 p) (fun h => hm h.1)).trans ?_
    refine (half3_miss p.m15.view f _ _ p.slot 1 0 m g a k (off9 p) (fun h => hm h.1)).trans ?_
    refine (half3_miss p.m15.view f _ _ p.slot 0 2 m g a k (off7 p) (fun h => hm h.1)).trans ?_
    refine (half3_miss p.m15.view f _ _ p.slot 0 1 m g a k (off6 p) (fun h => hm h.1)).trans ?_
    exact half3_miss p.m15.view f _ _ p.slot 0 0 m g a k (off5 p) (fun h => hm h.1)

theorem out15 (p : Pt) (c : Dev nD) (m : Fin 4) (g : Fin 2) (a : Fin 3) (k : Fin 704) :
    p.m15.view.read (Elt Ideal) (p.run c).g15 (ix4 m g a k)
      = if m = p.slot then p.was m g a k + ∑ s, p.taps g a 16 s k else p.x15 (ix4 m g a k) := by
  have key (f) (hf : m ≠ p.slot → p.m15.view.read (Elt Ideal) f (ix4 m g a k) = p.x15 (ix4 m g a k)) :
      p.m15.view.read (Elt Ideal) (p.m15.view.writes (Elt Ideal) f (H15_6 (F := Ideal) p.i p.m2 p.w2 p.m3 p.w3 p.m4 p.w4 p.m7 p.w7 p.m15 p.w15 p.m16 p.w16 p.m18 p.m19 p.x2 p.x3 p.x4 p.x7 p.x15 p.x16)) (ix4 m g a k)
        = if m = p.slot then p.was m g a k + ∑ s, p.taps g a 16 s k else p.x15 (ix4 m g a k) := by
    rw [h15 p f m g a k]
    by_cases hm : m = p.slot
    · rw [if_pos hm, if_pos hm]
    · rw [if_neg hm, if_neg hm, hf hm]
  have hx : p.m15.view.read (Elt Ideal) (p.w15.unread p.x15) (ix4 m g a k) = p.x15 (ix4 m g a k) :=
    congrFun (p.w15.read_unread p.x15) _
  unfold Pt.run run
  dsimp only
  generalize (if m = p.slot then p.was m g a k + ∑ s, p.taps g a 16 s k else p.x15 (ix4 m g a k)) = R at key ⊢
  split_ifs
  · exact key _ fun hm => (slot3_miss p.m15.view (p.w15.unread p.x15) _ [] p.slot m g a k (off2 p) hm).trans hx
  · exact key (p.w15.unread p.x15) fun _ => hx
  · exact key _ fun hm => (slot3_miss p.m15.view (p.w15.unread p.x15) _ [] p.slot m g a k (off2 p) hm).trans hx
  · exact key (p.w15.unread p.x15) fun _ => hx

/-! ### The input's and the gain's gradients, after the last group -/

theorem cond5 (p : Pt) : k0_cond5 p.i = 1#1 ↔ ¬ k0_cond1 p.i = 1#1 := by
  unfold k0_cond5 k0_cond1
  dsimp only
  generalize Scalar.cmpi .eq (BitVec.ofNat 32 (p.i 0).val) 0#32 = v0
  revert v0
  decide

theorem x2_at (p : Pt) (inb) (r : Fin 512) (j : Fin 1024) :
    View.readAt (Elt Ideal) p.m2.view (Rect.unit (s := S512x1024) ![0, 0] S512x1024.size inb).toLoadRect (p.w2.unread p.x2) (ix2 r j) = p.x2 (ix2 r j) := by
  refine (Memref.IsWhole.readAt_unread p.w2 p.x2 _ _).trans (congrArg p.x2 (funext fun a => Fin.ext ?_))
  match a with
  | ⟨0, _⟩ => show 0 + 1 * r.val = r.val; omega
  | ⟨1, _⟩ => show 0 + 1 * j.val = j.val; omega

theorem x8_at (p : Pt) (inb) (r : Fin 512) (j : Fin 1024) :
    View.readAt (Elt Ideal) p.m8.view (Rect.unit (s := S512x1024) ![0, 0] S512x1024.size inb).toLoadRect (p.w8.unread p.x8) (ix2 r j) = p.x8 (ix2 r j) := by
  refine (Memref.IsWhole.readAt_unread p.w8 p.x8 _ _).trans (congrArg p.x8 (funext fun a => Fin.ext ?_))
  match a with
  | ⟨0, _⟩ => show 0 + 1 * r.val = r.val; omega
  | ⟨1, _⟩ => show 0 + 1 * j.val = j.val; omega

theorem x9_at (p : Pt) (inb) (j : Fin 1024) :
    View.readAt (Elt Ideal) p.m9.view (Rect.unit (s := S1x1024) ![0, 0] S1x1024.size inb).toLoadRect (p.w9.unread p.x9) (ix2 0 j) = p.x9 (ix2 0 j) := by
  refine (Memref.IsWhole.readAt_unread p.w9 p.x9 _ _).trans (congrArg p.x9 (funext fun a => Fin.ext ?_))
  match a with
  | ⟨0, _⟩ => rfl
  | ⟨1, _⟩ => show 0 + 1 * j.val = j.val; omega

/-- The row's scale. -/
theorem scale_apply (x : Vec Ideal S512x1024 .f32) (r : Fin 512) (z : Fin 1) :
    k0_pay2 x (ix2 r z) = Rms.scale (fun k => x (ix2 r k)) := by
  pointwise [k0_pay2]
  rfl

theorem dx_apply (A x d : Vec Ideal S512x1024 .f32) (g : Vec Ideal S1x1024 .f32) (r : Fin 512) (j : Fin 1024) :
    k0_pay5 A x g d (ix2 r j) = InGrad.dx (d (ix2 r j)) (fun q => A (ix2 r q)) (fun k => x (ix2 r k)) (fun k => g (ix2 0 k)) j := by
  generalize hS : k0_pay2 x = S
  have hs : ∀ r z, S (ix2 r z) = Rms.scale (fun k => x (ix2 r k)) := fun r z => by rw [← hS]; exact scale_apply x r z
  pointwise [k0_pay5, k0_pay3, hS]
  simp only [hs]
  rfl

theorem dg_apply (A x : Vec Ideal S512x1024 .f32) (z : Fin 1) (j : Fin 1024) :
    k0_pay4 A x (ix2 z j) = ∑ r : Fin 512, InGrad.dg (fun q => A (ix2 r q)) (fun k => x (ix2 r k)) j := by
  generalize hS : k0_pay2 x = S
  have hs : ∀ r z, S (ix2 r z) = Rms.scale (fun k => x (ix2 r k)) := fun r z => by rw [← hS]; exact scale_apply x r z
  pointwise [k0_pay4, k0_pay3, hS]
  simp only [hs]
  rfl

/-- An entry of the input's gradient. -/
def Pt.dx (p : Pt) (r : Fin 512) (j : Fin 1024) : EReal :=
  InGrad.dx (p.x2 (ix2 r j)) (fun q => p.acc r q) (fun k => p.x8 (ix2 r k)) (fun k => p.x9 (ix2 0 k)) j

/-- The block's part of the gain's gradient. -/
def Pt.dg (p : Pt) (j : Fin 1024) : EReal := ∑ r : Fin 512, InGrad.dg (fun q => p.acc r q) (fun k => p.x8 (ix2 r k)) j

theorem pay5_at (p : Pt) (r : Fin 512) (j : Fin 1024) (inb inb' inb'') :
    k0_pay5 (v2763 (F := Ideal) p.i p.m2 p.w2 p.m4 p.w4 p.m5 p.w5 p.m6 p.w6 p.m7 p.w7 p.m11 p.m16 p.w16 p.m17 p.w17 p.m19 p.x2 p.x4 p.x5 p.x6 p.x7 p.x16 p.x17) (View.readAt (Elt Ideal) p.m8.view (Rect.unit (s := S512x1024) ![0, 0] S512x1024.size inb).toLoadRect (p.w8.unread p.x8))
      (View.readAt (Elt Ideal) p.m9.view (Rect.unit (s := S1x1024) ![0, 0] S1x1024.size inb').toLoadRect (p.w9.unread p.x9))
      (View.readAt (Elt Ideal) p.m2.view (Rect.unit (s := S512x1024) ![0, 0] S512x1024.size inb'').toLoadRect (p.w2.unread p.x2)) (ix2 r j) = p.dx r j := by
  refine (dx_apply _ _ _ _ r j).trans ?_
  unfold Pt.dx
  congr 1
  · exact x2_at p _ r j
  · exact funext fun q => v2763_at p r q
  · exact funext fun q => x8_at p _ r q
  · exact funext fun q => x9_at p _ q

theorem pay4_at (p : Pt) (j : Fin 1024) (inb) :
    k0_pay4 (v2763 (F := Ideal) p.i p.m2 p.w2 p.m4 p.w4 p.m5 p.w5 p.m6 p.w6 p.m7 p.w7 p.m11 p.m16 p.w16 p.m17 p.w17 p.m19 p.x2 p.x4 p.x5 p.x6 p.x7 p.x16 p.x17) (View.readAt (Elt Ideal) p.m8.view (Rect.unit (s := S512x1024) ![0, 0] S512x1024.size inb).toLoadRect (p.w8.unread p.x8))
      (ix2 0 j) = p.dg j := by
  refine (dg_apply _ _ 0 j).trans (Finset.sum_congr rfl fun r _ => ?_)
  congr 1
  · exact funext fun q => v2763_at p r q
  · exact funext fun q => x8_at p _ r q

theorem whole12 (v : View sig .tc .vmem S512x1024 .f32) (f) (inb) (w : Vec Ideal S512x1024 .f32) (L) (r : Fin 512) (j : Fin 1024) :
    v.read (Elt Ideal) (v.writes (Elt Ideal) f (⟨Rect.unit (s := S512x1024) ![0, 0] S512x1024.size inb, w⟩ :: L)) (ix2 r j) = w (ix2 r j) := by
  refine View.read_writes_cons_unit_of_mem v f inb w L (ix2 r j) (ix2 r j) rfl ?_
  intro a
  match a with
  | ⟨0, _⟩ => exact (Nat.zero_add _).symm
  | ⟨1, _⟩ => exact (Nat.zero_add _).symm

theorem whole13 (v : View sig .tc .vmem S512x1024 .bf16) (f) (inb) (w : Vec Ideal S512x1024 .bf16) (L) (r : Fin 512) (j : Fin 1024) :
    v.read (Elt Ideal) (v.writes (Elt Ideal) f (⟨Rect.unit (s := S512x1024) ![0, 0] S512x1024.size inb, w⟩ :: L)) (ix2 r j) = w (ix2 r j) := by
  refine View.read_writes_cons_unit_of_mem v f inb w L (ix2 r j) (ix2 r j) rfl ?_
  intro a
  match a with
  | ⟨0, _⟩ => exact (Nat.zero_add _).symm
  | ⟨1, _⟩ => exact (Nat.zero_add _).symm

theorem whole14 (v : View sig .tc .vmem S1x1024 .f32) (f) (inb) (w : Vec Ideal S1x1024 .f32) (L) (j : Fin 1024) :
    v.read (Elt Ideal) (v.writes (Elt Ideal) f (⟨Rect.unit (s := S1x1024) ![0, 0] S1x1024.size inb, w⟩ :: L)) (ix2 0 j) = w (ix2 0 j) := by
  refine View.read_writes_cons_unit_of_mem v f inb w L (ix2 0 j) (ix2 0 j) rfl ?_
  intro a
  match a with
  | ⟨0, _⟩ => rfl
  | ⟨1, _⟩ => exact (Nat.zero_add _).symm

theorem out12 (p : Pt) (c : Dev nD) (h3 : k0_cond3 p.i = 1#1) (r : Fin 512) (j : Fin 1024) :
    p.m12.view.read (Elt Ideal) (p.run c).g12 (ix2 r j) = p.dx r j := by
  unfold Pt.run run
  dsimp only
  rw [dif_pos h3]
  unfold H12_1
  exact (whole12 p.m12.view _ _ _ [] r j).trans (pay5_at p r j _ _ _)

theorem out13 (p : Pt) (c : Dev nD) (h3 : k0_cond3 p.i = 1#1) (r : Fin 512) (j : Fin 1024) :
    p.m13.view.read (Elt Ideal) (p.run c).g13 (ix2 r j) = p.dx r j := by
  unfold Pt.run run
  dsimp only
  rw [dif_pos h3]
  unfold H13_1
  refine (whole13 p.m13.view _ _ _ [] r j).trans ?_
  refine Eq.trans ?_ (pay5_at p r j inb_S512x1024_S512x1024_0_0 inb_S1x1024_S1x1024_0_0 inb_S512x1024_S512x1024_0_0)
  unfold k0_pay6
  generalize k0_pay5 (F := Ideal) _ _ _ _ = B
  pointwise []

theorem out14_kept (p : Pt) (c : Dev nD) (h3 : ¬ k0_cond3 p.i = 1#1) (j : Fin 1024) :
    p.m14.view.read (Elt Ideal) (p.run c).g14 (ix2 0 j) = p.x14 (ix2 0 j) := by
  unfold Pt.run run
  dsimp only
  rw [dif_neg h3]
  exact congrFun (p.w14.read_unread p.x14) _

theorem out14 (p : Pt) (c : Dev nD) (h3 : k0_cond3 p.i = 1#1) (j : Fin 1024) :
    p.m14.view.read (Elt Ideal) (p.run c).g14 (ix2 0 j) = (if k0_cond1 p.i = 1#1 then 0 else p.x14 (ix2 0 j)) + p.dg j := by
  unfold Pt.run run
  dsimp only
  rw [dif_pos h3]
  by_cases h1 : k0_cond1 p.i = 1#1
  · have h5 : ¬ k0_cond5 p.i = 1#1 := fun h => (cond5 p).mp h h1
    have h4 : k0_cond4 p.i = 1#1 := h1
    rw [dif_neg h5, dif_pos h4, if_pos h1, zero_add]
    exact (whole14 p.m14.view _ _ _ [] j).trans (pay4_at p j _)
  · have h5 : k0_cond5 p.i = 1#1 := (cond5 p).mpr h1
    have h4 : ¬ k0_cond4 p.i = 1#1 := h1
    rw [dif_pos h5, if_neg h1]
    refine (whole14 p.m14.view _ _ _ [] j).trans ?_
    have eA : r_247 (F := Ideal) p.i p.m2 p.w2 p.m4 p.w4 p.m5 p.w5 p.m6 p.w6 p.m7 p.w7 p.m8 p.w8 p.m11 p.m16 p.w16 p.m17 p.w17 p.m19 p.x2 p.x4 p.x5 p.x6 p.x7 p.x8 p.x16 p.x17 (ix2 0 j) = p.dg j := pay4_at p j _
    have eB : v2801 (F := Ideal) p.i p.m2 p.w2 p.m4 p.w4 p.m5 p.w5 p.m6 p.w6 p.m7 p.w7 p.m8 p.w8 p.m11 p.m14 p.w14 p.m16 p.w16 p.m17 p.w17 p.m19 p.x2 p.x4 p.x5 p.x6 p.x7 p.x8 p.x14 p.x16 p.x17 (ix2 0 j) = p.x14 (ix2 0 j) := by
      unfold v2801
      rw [dif_neg h4]
      refine (Memref.IsWhole.readAt_unread p.w14 p.x14 _ _).trans (congrArg p.x14 (funext fun a => Fin.ext ?_))
      match a with
      | ⟨0, _⟩ => rfl
      | ⟨1, _⟩ => show 0 + 1 * j.val = j.val; omega
    generalize r_247 (F := Ideal) p.i p.m2 p.w2 p.m4 p.w4 p.m5 p.w5 p.m6 p.w6 p.m7 p.w7 p.m8 p.w8 p.m11 p.m16 p.w16 p.m17 p.w17 p.m19 p.x2 p.x4 p.x5 p.x6 p.x7 p.x8 p.x16 p.x17 = A at eA ⊢
    generalize v2801 (F := Ideal) p.i p.m2 p.w2 p.m4 p.w4 p.m5 p.w5 p.m6 p.w6 p.m7 p.w7 p.m8 p.w8 p.m11 p.m14 p.w14 p.m16 p.w16 p.m17 p.w17 p.m19 p.x2 p.x4 p.x5 p.x6 p.x7 p.x8 p.x14 p.x16 p.x17 = B at eB ⊢
    refine Eq.trans ?_ (congrArg₂ (fun a b : EReal => a + b) eB eA)
    pointwise [k0_pay1]

end

end Cert.FfnGrad

end
-- ==== Proof.Fg.lean ====
/-
  One grid point of the feed-forward gradient in terms of the whole arrays: the point works on a group of hidden columns and a
  tile of tokens, from the last tile to the first.

  The feed-forward gradient over the whole grid: what each window, the carried rows and the accumulator hold after each point,
  and so what the six arrays hold at the end.

  The six arrays the feed-forward gradient leaves, named: each block is what its grid point left, and the blocks tile the arrays.

  The host's gradient of the gated feed-forward and its norm, entry by entry: its results are the formulas of the gradient.

  The value claim of the gradient of the gated feed-forward and its norm: the kernel's six arrays are the host's.
-/
module

public import proofs.«01_k».proof.Proof.FgPoint
public import proofs.«01_k».proof.Proof.FgBody
public import proofs.«01_k».proof.Proof.Spec
public import proofs.«01_k».proof.Proof.Gen.Reference11Ideal.Read
public import Idealize.ShloMosaic.Lib.Pointwise
public import proofs.«01_k».proof.Defs
public import Idealize.ShloMosaic.Lib.Quiescent

@[expose] public section

set_option maxRecDepth 16384

noncomputable section

namespace Cert.FfnGrad

section

open Cert.Kernel11Ideal Cert.Kernel11Ideal.Gen Cert.Ffn
open Idealize.ShloMosaic Idealize.ShloMosaic.TcCoe

/-- The token of a row of point `n`'s tile. -/
def tk (n : ℕ) (r : Fin 512) : Fin 4096 := ⟨512 * (7 - n / 4) + r.val, by omega⟩

section

variable (df : Vec Ideal S4096x1024 .f32) (u uc : Vec Ideal S4x2x4096x704 .bf16) (w : Vec Ideal S2x4x1024x704 .bf16)
  (cw : Vec Ideal S2x4x3x704 .f32) (wd : Vec Ideal S2816x1024 .bf16) (x : Vec Ideal S4096x1024 .f32) (gn : Vec Ideal S1x1024 .f32)

/-- The point is number `n`, and the blocks it reads are the arrays' parts. -/
structure Pt.On (p : Pt) (n : ℕ) : Prop where
  lt : n < 32
  slot : p.slot = grp n
  first : k0_cond1 p.i = 1#1 ↔ n / 4 = 0
  start : run.sl.v5 p.i = 1#1 ↔ n % 4 = 0
  last : k0_cond3 p.i = 1#1 ↔ n % 4 = 3
  b2 : ∀ r j, p.x2 (ix2 r j) = df (ix2 (tk n r) j)
  b3 : ∀ gv r k, p.x3 (ix4 0 gv r k) = u (ix4 (grp n) gv (tk n r) k)
  b4 : ∀ gv r k, p.x4 (ix4 0 gv r k) = uc (ix4 (grp n) gv (tk n r) k)
  b5 : ∀ gv j k, p.x5 (ix4 gv 0 j k) = w (ix4 gv (grp n) j k)
  b6 : ∀ gv a k, p.x6 (ix4 gv 0 a k) = cw (ix4 gv (grp n) a k)
  b7 : ∀ k j, p.x7 (ix2 k j) = wd (ix2 (col (grp n) k) j)
  b8 : ∀ r j, p.x8 (ix2 r j) = x (ix2 (tk n r) j)
  b9 : ∀ j, p.x9 (ix2 0 j) = gn (ix2 0 j)
  carry : n / 4 ≠ 0 → ∀ gv s k, p.x16 (ix4 p.slot gv s k) = dConv df uc wd (grp n) gv (512 * (7 - n / 4) + (512 + s.val)) k

variable {df u uc w cw wd x gn} {p : Pt} {n : ℕ} (h : p.On df u uc w cw wd x gn n)

include h

theorem gated_on (r : Fin 512) (k : Fin 704) : p.gated r.val k = gact uc (grp n) (tk n r) k := by
  unfold Pt.gated gact
  rw [dif_pos r.isLt, h.b4, h.b4]

theorem D_on (gv : Fin 2) (r : ℕ) (hr : r < 520) (k : Fin 704) :
    p.D gv r k = dConv df uc wd (grp n) gv (512 * (7 - n / 4) + r) k := by
  show D p.x2 p.x4 p.x7 p.car gv r k = _
  unfold D
  by_cases h1 : r < 512
  · have ht : 512 * (7 - n / 4) + r < 4096 := by omega
    have e : da p.x2 p.x7 ⟨r, h1⟩ k = dAct df wd (grp n) ⟨512 * (7 - n / 4) + r, ht⟩ k :=
      Finset.sum_congr rfl fun j _ => congrArg₂ (fun a b : EReal => a * b) (h.b2 ⟨r, h1⟩ j) (h.b7 k j)
    rw [dif_pos h1]
    unfold dc dConv
    rw [dif_pos ht, e, h.b4, h.b4]
    rfl
  · rw [dif_neg h1, dif_pos (by omega)]
    unfold Pt.car
    by_cases h0 : n / 4 = 0
    · rw [if_pos (h.first.mpr h0), dConv_below]
      omega
    · rw [if_neg (fun e => h0 (h.first.mp e)), h.carry h0]
      refine congrArg (fun t => dConv df uc wd (grp n) gv t k) ?_
      show 512 * (7 - n / 4) + (512 + (r - 512)) = _
      omega

theorem du_on (gv : Fin 2) (r : Fin 512) (k : Fin 704) : p.du gv r.val k = dUp df uc cw wd (grp n) gv (tk n r).val k := by
  show (p.x6 (ix4 gv 0 2 k) * p.D gv r k + p.x6 (ix4 gv 0 1 k) * p.D gv (r + 1) k) + p.x6 (ix4 gv 0 0 k) * p.D gv (r + 2) k = _
  rw [D_on h gv r (by omega), D_on h gv (r + 1) (by omega), D_on h gv (r + 2) (by omega), h.b6, h.b6, h.b6]
  rfl

theorem part_on (r : Fin 512) (j : Fin 1024) : p.part r.val j = dHidPart df uc w cw wd (grp n) (tk n r).val j := by
  unfold Pt.part dHidPart
  refine congrArg₂ (fun a b : EReal => a + b) (Finset.sum_congr rfl fun k _ => ?_) (Finset.sum_congr rfl fun k _ => ?_)
  · rw [du_on h, h.b5]
  · rw [du_on h, h.b5]

theorem tap_on (gv : Fin 2) (a : Fin 3) (r : Fin 512) (k : Fin 704) :
    tap p.x2 p.x3 p.x4 p.x7 p.car gv a r.val k = dTap df u uc wd (grp n) gv a k (tk n r) := by
  unfold tap dTap
  rw [dif_pos r.isLt, h.b3]
  refine congrArg (fun b : EReal => u (ix4 (grp n) gv (tk n r) k) * b) ((D_on h gv _ (by omega) k).trans ?_)
  exact congrArg (fun t => dConv df uc wd (grp n) gv t k) (by show _ = 512 * (7 - n / 4) + r.val + _; omega)

omit h in
theorem taps_eq (gv : Fin 2) (a : Fin 3) (k : Fin 704) (s : Fin 8) : ∀ N, p.taps gv a N s k
    = ∑ i ∈ Finset.range N, fold p.x2 p.x3 p.x4 p.x7 p.car gv a (480 - 32 * i) s k
  | 0 => rfl
  | N + 1 => by
    rw [Finset.sum_range_succ, ← taps_eq gv a k s N]
    rfl

omit h in
theorem taps_all (gv : Fin 2) (a : Fin 3) (k : Fin 704) :
    ∑ s : Fin 8, p.taps gv a 16 s k = ∑ r : Fin 512, tap p.x2 p.x3 p.x4 p.x7 p.car gv a r.val k := by
  have e (o : ℕ) (s : Fin 8) : fold p.x2 p.x3 p.x4 p.x7 p.car gv a o s k
      = ∑ e ∈ Finset.range 4, tap p.x2 p.x3 p.x4 p.x7 p.car gv a (o + (8 * e + s.val)) k := by
    unfold fold
    simp only [Finset.sum_range_succ, Finset.sum_range_zero, Nat.mul_zero, Nat.zero_add, Nat.mul_one, Nat.reduceMul]
  simp only [taps_eq, e]
  generalize tap p.x2 p.x3 p.x4 p.x7 p.car gv a = T
  rw [Finset.sum_comm]
  have e2 (i : ℕ) : ∑ s : Fin 8, ∑ e ∈ Finset.range 4, T (480 - 32 * i + (8 * e + s.val)) k
      = ∑ r ∈ Finset.range 32, T (32 * (16 - 1 - i) + r) k := by
    have e3 : 480 - 32 * i = 32 * (16 - 1 - i) := by omega
    rw [Finset.sum_comm, e3]
    refine Eq.trans (Finset.sum_congr rfl fun e _ => (Finset.sum_range (fun s => T (32 * (16 - 1 - i) + (8 * e + s)) k)).symm) ?_
    exact sum_blocks (fun r => T (32 * (16 - 1 - i) + r) k) 4 8
  simp only [e2]
  rw [Finset.sum_range_reflect (fun i => ∑ r ∈ Finset.range 32, T (32 * i + r) k) 16, sum_blocks (fun r => T r k) 16 32]
  exact Finset.sum_range (fun r => T r k)

/-- The point's part of a tap's gradient. -/
theorem taps_on (gv : Fin 2) (a : Fin 3) (k : Fin 704) :
    ∑ s : Fin 8, p.taps gv a 16 s k = ∑ r : Fin 512, dTap df u uc wd (grp n) gv a k (tk n r) :=
  (taps_all gv a k).trans (Finset.sum_congr rfl fun r _ => tap_on h gv a r k)

/-- The accumulator after the point: the groups' parts so far. -/
theorem acc_on (hacc : n % 4 ≠ 0 → ∀ r j, p.x17 (ix2 r j)
      = ∑ v ∈ Finset.range (n % 4), dHidPart df uc w cw wd (grp v) (tk n r).val j) (r : Fin 512) (j : Fin 1024) :
    p.acc r j = ∑ v ∈ Finset.range (n % 4 + 1), dHidPart df uc w cw wd (grp v) (tk n r).val j := by
  have e : grp (n % 4) = grp n := Fin.ext (Nat.mod_mod n 4)
  unfold Pt.acc
  rw [part_on h, Finset.sum_range_succ, e]
  refine congrArg (fun b : EReal => b + _) ?_
  by_cases h0 : n % 4 = 0
  · rw [if_pos (h.start.mpr h0), h0, Finset.sum_range_zero]
  · rw [if_neg (fun e => h0 (h.start.mp e)), hacc h0]

/-- After the last group it is the cotangent of the norm's output. -/
theorem hid_on (h3 : n % 4 = 3) (hacc : n % 4 ≠ 0 → ∀ r j, p.x17 (ix2 r j)
      = ∑ v ∈ Finset.range (n % 4), dHidPart df uc w cw wd (grp v) (tk n r).val j) (r : Fin 512) :
    (fun j => p.acc r j) = dHid df uc w cw wd (tk n r).val := by
  funext j
  rw [acc_on h hacc, h3]
  unfold dHid
  rw [Finset.sum_range]
  refine Finset.sum_congr rfl fun i _ => congrArg (fun v => dHidPart df uc w cw wd v (tk n r).val j) (Fin.ext ?_)
  exact Nat.mod_eq_of_lt i.isLt

theorem dx_on (h3 : n % 4 = 3) (hacc : n % 4 ≠ 0 → ∀ r j, p.x17 (ix2 r j)
      = ∑ v ∈ Finset.range (n % 4), dHidPart df uc w cw wd (grp v) (tk n r).val j) (r : Fin 512) (j : Fin 1024) :
    p.dx r j = dX df uc w cw wd x gn (tk n r) j := by
  unfold Pt.dx dX
  rw [hid_on h h3 hacc]
  simp only [h.b2, h.b8, h.b9]

theorem dg_on (h3 : n % 4 = 3) (hacc : n % 4 ≠ 0 → ∀ r j, p.x17 (ix2 r j)
      = ∑ v ∈ Finset.range (n % 4), dHidPart df uc w cw wd (grp v) (tk n r).val j) (j : Fin 1024) :
    p.dg j = ∑ r : Fin 512, dGain df uc w cw wd x (tk n r) j := by
  unfold Pt.dg dGain
  refine Finset.sum_congr rfl fun r _ => ?_
  rw [hid_on h h3 hacc]
  simp only [h.b8]

end

end

section

open Cert.Kernel11Ideal Cert.Kernel11Ideal.Gen Cert.Ffn
open Idealize.ShloMosaic Idealize.ShloMosaic.TcCoe Idealize.SL.Sem

variable (m : (ℓ : Loc nD τ sig) → Buf (Elt Ideal) ℓ) (c : Dev nD)

/-- The layer's cotangent, as launched. -/
def mDf : Vec Ideal S4096x1024 .f32 := m ((c : Thread nD τ).loc main_arg0)
/-- The up projection as the forward pass stored it. -/
def mU : Vec Ideal S4x2x4096x704 .bf16 := m ((c : Thread nD τ).loc main_arg1)
/-- The convolved up projection as the forward pass stored it. -/
def mUc : Vec Ideal S4x2x4096x704 .bf16 := m ((c : Thread nD τ).loc main_arg2)
/-- The up projection's weight. -/
def mW : Vec Ideal S2x4x1024x704 .bf16 := m ((c : Thread nD τ).loc main_arg3)
/-- The taps. -/
def mCw : Vec Ideal S2x4x3x704 .f32 := m ((c : Thread nD τ).loc main_arg4)
/-- The down projection's weight. -/
def mWd : Vec Ideal S2816x1024 .bf16 := m ((c : Thread nD τ).loc main_arg5)
/-- The norm's input. -/
def mX : Vec Ideal S4096x1024 .f32 := m ((c : Thread nD τ).loc main_arg6)
/-- The norm's gain. -/
def mGn : Vec Ideal S1x1024 .f32 := m ((c : Thread nD τ).loc main_arg7)

/-- The cotangent of the convolved up projection. -/
abbrev kC (g : Fin 4) (gv : Fin 2) (t : ℕ) (k : Fin 704) : EReal := dConv (mDf m c) (mUc m c) (mWd m c) g gv t k
/-- The cotangent of the up projection. -/
abbrev kU (g : Fin 4) (gv : Fin 2) (t : ℕ) (k : Fin 704) : EReal := dUp (mDf m c) (mUc m c) (mCw m c) (mWd m c) g gv t k
/-- A group's part of the cotangent of the norm's output. -/
abbrev kP (g : Fin 4) (t : ℕ) (j : Fin 1024) : EReal := dHidPart (mDf m c) (mUc m c) (mW m c) (mCw m c) (mWd m c) g t j
/-- The cotangent of the layer's input. -/
abbrev kX (t : Fin 4096) (j : Fin 1024) : EReal := dX (mDf m c) (mUc m c) (mW m c) (mCw m c) (mWd m c) (mX m c) (mGn m c) t j
/-- A token's part of the gain's gradient. -/
abbrev kG (t : Fin 4096) (j : Fin 1024) : EReal := dGain (mDf m c) (mUc m c) (mW m c) (mCw m c) (mWd m c) (mX m c) t j
/-- A token's part of a tap's gradient. -/
abbrev kT (g : Fin 4) (gv : Fin 2) (a : Fin 3) (k : Fin 704) (t : Fin 4096) : EReal :=
  dTap (mDf m c) (mU m c) (mUc m c) (mWd m c) g gv a k t

theorem index_t : ∀ t : Fin grid0.N, win0_0.index t 0 = 7 - t.val / 4 ∧ win0_0.index t 1 = 0
    ∧ win0_6.index t 0 = 7 - t.val / 4 ∧ win0_6.index t 1 = 0 := by decide +kernel
theorem index_u : ∀ t : Fin grid0.N, win0_1.index t 0 = t.val % 4 ∧ win0_1.index t 1 = 0
    ∧ win0_1.index t 2 = 7 - t.val / 4 ∧ win0_1.index t 3 = 0 := by decide +kernel
theorem index_uc : ∀ t : Fin grid0.N, win0_2.index t 0 = t.val % 4 ∧ win0_2.index t 1 = 0
    ∧ win0_2.index t 2 = 7 - t.val / 4 ∧ win0_2.index t 3 = 0 := by decide +kernel
theorem index_w : ∀ t : Fin grid0.N, win0_3.index t 0 = 0 ∧ win0_3.index t 1 = t.val % 4
    ∧ win0_3.index t 2 = 0 ∧ win0_3.index t 3 = 0 := by decide +kernel
theorem index_cw : ∀ t : Fin grid0.N, win0_4.index t 0 = 0 ∧ win0_4.index t 1 = t.val % 4
    ∧ win0_4.index t 2 = 0 ∧ win0_4.index t 3 = 0 := by decide +kernel
theorem index_wd : ∀ t : Fin grid0.N, win0_5.index t 0 = t.val % 4 ∧ win0_5.index t 1 = 0
    ∧ win0_7.index t 0 = 0 ∧ win0_7.index t 1 = 0 := by decide +kernel
theorem index_8 : ∀ t : Fin grid0.N, win0_8.index t 0 = t.val % 4 ∧ win0_8.index t 1 = 7 - t.val / 4
    ∧ win0_8.index t 2 = 0 := by decide +kernel
theorem index_9 : ∀ t : Fin grid0.N, win0_9.index t 0 = t.val % 4 ∧ win0_9.index t 1 = 0
    ∧ win0_9.index t 2 = 7 - t.val / 4 ∧ win0_9.index t 3 = 0 := by decide +kernel
theorem index_10 : ∀ t : Fin grid0.N, win0_10.index t 0 = 7 - t.val / 4 ∧ win0_10.index t 1 = 0
    ∧ win0_11.index t 0 = 7 - t.val / 4 ∧ win0_11.index t 1 = 0 := by decide +kernel
theorem index_12 : ∀ t : Fin grid0.N, win0_12.index t 0 = 0 ∧ win0_12.index t 1 = 0 := by decide +kernel
theorem index_13 : ∀ t : Fin grid0.N, win0_13.index t 0 = 0 ∧ win0_13.index t 1 = 0
    ∧ win0_13.index t 2 = 0 ∧ win0_13.index t 3 = 0 := by decide +kernel
theorem group_at : ∀ t : Fin grid0.N, (grid0.coords t 1).val = t.val % 4 := by decide +kernel
theorem start_at : ∀ t : Fin grid0.N, run.sl.v5 (grid0.coords t) = 1#1 ↔ t.val % 4 = 0 := by decide +kernel
theorem last_at : ∀ t : Fin grid0.N, k0_cond3 (grid0.coords t) = 1#1 ↔ t.val % 4 = 3 := by decide +kernel

/-- What is claimed after each point: the results' blocks, the sums so far, the carried rows and the accumulator. -/
def held : Held Ideal where
  S c n x16 x17 := (∀ (g : Fin 4) (gv : Fin 2) (s : Fin 8) (k : Fin 704), (n + 3 - g.val) / 4 ≠ 0 →
      x16 (ix4 g gv s k) = kC m c g gv (512 * (8 - (n + 3 - g.val) / 4) + s.val) k)
    ∧ (n % 4 ≠ 0 → ∀ r j, x17 (ix2 r j) = ∑ v ∈ Finset.range (n % 4), kP m c (grp v) (tk n r).val j)
  Q8 c t X := ∀ r k, X (ix3 0 r k) = gact (mUc m c) (grp t.val) (tk t.val r) k
  Q9 c t X := ∀ gv r k, X (ix4 0 gv r k) = kU m c (grp t.val) gv (tk t.val r).val k
  Q10 c t X := t.val % 4 = 3 → ∀ r j, X (ix2 r j) = kX m c (tk t.val r) j
  Q11 c t X := t.val % 4 = 3 → ∀ r j, X (ix2 r j) = kX m c (tk t.val r) j
  Q12 c t X := (t.val + 1) / 4 ≠ 0 → ∀ j, X (ix2 0 j)
    = ∑ n ∈ Finset.range ((t.val + 1) / 4), ∑ r : Fin 512, kG m c ⟨512 * (7 - n) + r.val, by omega⟩ j
  Q13 c t X := ∀ (g : Fin 4) (gv : Fin 2) (a : Fin 3) (k : Fin 704), (t.val + 4 - g.val) / 4 ≠ 0 → X (ix4 g gv a k)
    = ∑ n ∈ Finset.range ((t.val + 4 - g.val) / 4), ∑ r : Fin 512, kT m c g gv a k ⟨512 * (7 - n) + r.val, by omega⟩

/-- The blocks the body reads at a point are the arguments' parts. -/
theorem on_at (p : Pt) (t : Fin cfg0.N) (hi : p.i = grid0.coords t)
    (h2 : p.x2 = iblk m c 0 t) (h3 : p.x3 = iblk m c 1 t) (h4 : p.x4 = iblk m c 2 t) (h5 : p.x5 = iblk m c 3 t)
    (h6 : p.x6 = iblk m c 4 t) (h7 : p.x7 = iblk m c 5 t) (h8 : p.x8 = iblk m c 6 t) (h9 : p.x9 = iblk m c 7 t)
    (hS : (held m).S c t.val p.x16 p.x17) :
    p.On (mDf m c) (mU m c) (mUc m c) (mW m c) (mCw m c) (mWd m c) (mX m c) (mGn m c) t.val := by
  have hN : t.val < 32 := lt_of_lt_of_eq t.isLt N_0
  have hslot : p.slot = grp t.val := by
    refine Fin.ext ?_
    show (p.i 1).val = t.val % 4
    rw [hi]
    exact group_at t
  refine ⟨hN, hslot, ?_, ?_, ?_, ?_, ?_, ?_, ?_, ?_, ?_, ?_, ?_, ?_⟩
  · rw [hi]; exact cond_first t
  · rw [hi]; exact start_at t
  · rw [hi]; exact last_at t
  · intro r j
    rw [h2]
    obtain ⟨e0, e1, -, -⟩ := index_t t
    refine congrArg (mDf m c) (funext fun a => Fin.ext ?_)
    match a with
    | ⟨0, _⟩ => show win0_0.index t 0 * 512 + 1 * r.val = 512 * (7 - t.val / 4) + r.val; omega
    | ⟨1, _⟩ => show win0_0.index t 1 * 1024 + 1 * j.val = j.val; omega
  · intro gv r k
    rw [h3]
    obtain ⟨e0, e1, e2, e3⟩ := index_u t
    refine congrArg (mU m c) (funext fun a => Fin.ext ?_)
    match a with
    | ⟨0, _⟩ => show win0_1.index t 0 * 1 + 1 * 0 = t.val % 4; omega
    | ⟨1, _⟩ => show win0_1.index t 1 * 2 + 1 * gv.val = gv.val; omega
    | ⟨2, _⟩ => show win0_1.index t 2 * 512 + 1 * r.val = 512 * (7 - t.val / 4) + r.val; omega
    | ⟨3, _⟩ => show win0_1.index t 3 * 704 + 1 * k.val = k.val; omega
  · intro gv r k
    rw [h4]
    obtain ⟨e0, e1, e2, e3⟩ := index_uc t
    refine congrArg (mUc m c) (funext fun a => Fin.ext ?_)
    match a with
    | ⟨0, _⟩ => show win0_2.index t 0 * 1 + 1 * 0 = t.val % 4; omega
    | ⟨1, _⟩ => show win0_2.index t 1 * 2 + 1 * gv.val = gv.val; omega
    | ⟨2, _⟩ => show win0_2.index t 2 * 512 + 1 * r.val = 512 * (7 - t.val / 4) + r.val; omega
    | ⟨3, _⟩ => show win0_2.index t 3 * 704 + 1 * k.val = k.val; omega
  · intro gv j k
    rw [h5]
    obtain ⟨e0, e1, e2, e3⟩ := index_w t
    refine congrArg (mW m c) (funext fun a => Fin.ext ?_)
    match a with
    | ⟨0, _⟩ => show win0_3.index t 0 * 2 + 1 * gv.val = gv.val; omega
    | ⟨1, _⟩ => show win0_3.index t 1 * 1 + 1 * 0 = t.val % 4; omega
    | ⟨2, _⟩ => show win0_3.index t 2 * 1024 + 1 * j.val = j.val; omega
    | ⟨3, _⟩ => show win0_3.index t 3 * 704 + 1 * k.val = k.val; omega
  · intro gv a k
    rw [h6]
    obtain ⟨e0, e1, e2, e3⟩ := index_cw t
    refine congrArg (mCw m c) (funext fun b => Fin.ext ?_)
    match b with
    | ⟨0, _⟩ => show win0_4.index t 0 * 2 + 1 * gv.val = gv.val; omega
    | ⟨1, _⟩ => show win0_4.index t 1 * 1 + 1 * 0 = t.val % 4; omega
    | ⟨2, _⟩ => show win0_4.index t 2 * 3 + 1 * a.val = a.val; omega
    | ⟨3, _⟩ => show win0_4.index t 3 * 704 + 1 * k.val = k.val; omega
  · intro k j
    rw [h7]
    obtain ⟨e0, e1, -, -⟩ := index_wd t
    refine congrArg (mWd m c) (funext fun a => Fin.ext ?_)
    match a with
    | ⟨0, _⟩ => show win0_5.index t 0 * 704 + 1 * k.val = 704 * (t.val % 4) + k.val; omega
    | ⟨1, _⟩ => show win0_5.index t 1 * 1024 + 1 * j.val = j.val; omega
  · intro r j
    rw [h8]
    obtain ⟨-, -, e0, e1⟩ := index_t t
    refine congrArg (mX m c) (funext fun a => Fin.ext ?_)
    match a with
    | ⟨0, _⟩ => show win0_6.index t 0 * 512 + 1 * r.val = 512 * (7 - t.val / 4) + r.val; omega
    | ⟨1, _⟩ => show win0_6.index t 1 * 1024 + 1 * j.val = j.val; omega
  · intro j
    rw [h9]
    obtain ⟨-, -, e0, e1⟩ := index_wd t
    refine congrArg (mGn m c) (funext fun a => Fin.ext ?_)
    match a with
    | ⟨0, _⟩ => show win0_7.index t 0 * 1 + 1 * 0 = 0; omega
    | ⟨1, _⟩ => show win0_7.index t 1 * 1024 + 1 * j.val = j.val; omega
  · intro hn gv s k
    have hc : (t.val + 3 - (grp t.val).val) / 4 = t.val / 4 := by show (t.val + 3 - t.val % 4) / 4 = _; omega
    rw [hslot, hS.1 (grp t.val) gv s k (by rw [hc]; exact hn), hc]
    exact congrArg (fun a => kC m c (grp t.val) gv a k) (by omega)

/-- A point that finds what is claimed before it leaves what is claimed after it. -/
theorem step_at (p : Pt) (t : Fin cfg0.N)
    (h : p.On (mDf m c) (mU m c) (mUc m c) (mW m c) (mCw m c) (mWd m c) (mX m c) (mGn m c) t.val)
    (h12 : ∀ q : Fin cfg0.N, q.val + 1 = t.val → (held m).Q12 c q p.x14)
    (h13 : ∀ q : Fin cfg0.N, q.val + 1 = t.val → (held m).Q13 c q p.x15) (hS : (held m).S c t.val p.x16 p.x17) :
    (held m).Q8 c t (p.m10.view.read (Elt Ideal) (p.run c).g10) ∧ (held m).Q9 c t (p.m11.view.read (Elt Ideal) (p.run c).g11)
      ∧ (held m).Q10 c t (p.m12.view.read (Elt Ideal) (p.run c).g12) ∧ (held m).Q11 c t (p.m13.view.read (Elt Ideal) (p.run c).g13)
      ∧ (held m).Q12 c t (p.m14.view.read (Elt Ideal) (p.run c).g14) ∧ (held m).Q13 c t (p.m15.view.read (Elt Ideal) (p.run c).g15)
      ∧ (held m).S c (t.val + 1) (p.m16.view.read (Elt Ideal) (p.run c).g16) (p.m17.view.read (Elt Ideal) (p.run c).g17) := by
  have hN : t.val < 32 := h.lt
  have prev (h0 : t.val ≠ 0) : ∃ q : Fin cfg0.N, q.val + 1 = t.val :=
    ⟨⟨t.val - 1, lt_of_le_of_lt (Nat.sub_le _ _) t.isLt⟩, by show t.val - 1 + 1 = t.val; omega⟩
  refine ⟨?_, ?_, ?_, ?_, ?_, ?_, ?_, ?_⟩
  · intro r k
    rw [out10, gated_on h]
  · intro gv r k
    rw [out11, du_on h]
  · intro h3 r j
    rw [out12 p c (h.last.mpr h3), dx_on h h3 hS.2]
  · intro h3 r j
    rw [out13 p c (h.last.mpr h3), dx_on h h3 hS.2]
  · intro hn j
    by_cases h3 : t.val % 4 = 3
    · have hc : (t.val + 1) / 4 = t.val / 4 + 1 := by omega
      rw [out14 p c (h.last.mpr h3), dg_on h h3 hS.2, hc, Finset.sum_range_succ]
      refine congrArg₂ (fun a b : EReal => a + b) ?_ rfl
      by_cases h0 : t.val / 4 = 0
      · rw [if_pos (h.first.mpr h0), h0, Finset.sum_range_zero]
      · rw [if_neg (fun e => h0 (h.first.mp e))]
        obtain ⟨q, hq⟩ := prev (by omega)
        have e := h12 q hq
        have hq4 : (q.val + 1) / 4 = t.val / 4 := by rw [hq]
        refine (e (by rw [hq4]; exact h0) j).trans ?_
        rw [hq4]
    · have hc : (t.val + 1) / 4 = t.val / 4 := by omega
      rw [out14_kept p c (fun e => h3 (h.last.mp e)), hc]
      rw [hc] at hn
      obtain ⟨q, hq⟩ := prev (by omega)
      have hq4 : (q.val + 1) / 4 = t.val / 4 := by rw [hq]
      refine (h12 q hq (by rw [hq4]; exact hn) j).trans ?_
      rw [hq4]
  · intro g gv a k hn
    rw [out15]
    have found (h0 : t.val ≠ 0) (hn' : (t.val + 3 - g.val) / 4 ≠ 0) : p.x15 (ix4 g gv a k)
        = ∑ n ∈ Finset.range ((t.val + 3 - g.val) / 4), ∑ r : Fin 512, kT m c g gv a k ⟨512 * (7 - n) + r.val, by omega⟩ := by
      obtain ⟨q, hq⟩ := prev h0
      have hq4 : (q.val + 4 - g.val) / 4 = (t.val + 3 - g.val) / 4 := by rw [← hq]
      refine (h13 q hq g gv a k (by rw [hq4]; exact hn')).trans ?_
      rw [hq4]
    by_cases hg : g = p.slot
    · have hgt : g = grp t.val := hg.trans h.slot
      have hc : (t.val + 4 - g.val) / 4 = t.val / 4 + 1 := by rw [hgt]; show (t.val + 4 - t.val % 4) / 4 = _; omega
      have hc' : (t.val + 3 - g.val) / 4 = t.val / 4 := by rw [hgt]; show (t.val + 3 - t.val % 4) / 4 = _; omega
      rw [if_pos hg, taps_on h, hc, Finset.sum_range_succ]
      refine congrArg₂ (fun a b : EReal => a + b) ?_ (by rw [hgt]; rfl)
      unfold Pt.was
      by_cases h0 : t.val / 4 = 0
      · rw [if_pos (h.first.mpr h0), h0, Finset.sum_range_zero]
      · rw [if_neg (fun e => h0 (h.first.mp e)), found (by omega) (by rw [hc']; exact h0), hc']
    · have hne : g.val ≠ t.val % 4 := fun e => hg ((Fin.ext e).trans h.slot.symm)
      have hc : (t.val + 4 - g.val) / 4 = (t.val + 3 - g.val) / 4 := by have := g.isLt; omega
      rw [if_neg hg, hc]
      rw [hc] at hn
      exact found (by have := g.isLt; omega) hn
  · intro g gv s k hn
    rw [out16]
    by_cases hg : g = p.slot
    · have hgt : g = grp t.val := hg.trans h.slot
      have hc : (t.val + 1 + 3 - g.val) / 4 = t.val / 4 + 1 := by rw [hgt]; show (t.val + 1 + 3 - t.val % 4) / 4 = _; omega
      rw [if_pos hg, D_on h gv s.val (by omega), hc, hgt]
      exact congrArg (fun a => kC m c (grp t.val) gv a k) (by omega)
    · have hne : g.val ≠ t.val % 4 := fun e => hg ((Fin.ext e).trans h.slot.symm)
      have hc : (t.val + 1 + 3 - g.val) / 4 = (t.val + 3 - g.val) / 4 := by have := g.isLt; omega
      rw [if_neg hg, hc]
      rw [hc] at hn
      exact hS.1 g gv s k hn
  · intro hn r j
    have hc : (t.val + 1) % 4 = t.val % 4 + 1 := by omega
    have ht : tk (t.val + 1) r = tk t.val r := Fin.ext (by show 512 * (7 - (t.val + 1) / 4) + r.val = 512 * (7 - t.val / 4) + r.val; omega)
    rw [out17, acc_on h hS.2, hc, ht]

theorem step : Step m (held m) := by
  intro c t y2 y3 y4 y5 y6 y7 y8 y9 y10 y11 y12 y13 y14 y15 y16 y17 y18 y19 e2 e3 e4 e5 e6 e7 e8 e9 h12 h13 hS
  let p : Pt := ⟨grid0.coords t, hstage0_0 ((cfg0.slots t 0).cast nbuf0_0), hstage0_1 ((cfg0.slots t 1).cast nbuf0_1),
    hstage0_2 ((cfg0.slots t 2).cast nbuf0_2), hstage0_3 ((cfg0.slots t 3).cast nbuf0_3), hstage0_4 ((cfg0.slots t 4).cast nbuf0_4),
    hstage0_5 ((cfg0.slots t 5).cast nbuf0_5), hstage0_6 ((cfg0.slots t 6).cast nbuf0_6), hstage0_7 ((cfg0.slots t 7).cast nbuf0_7),
    hstage0_8 ((cfg0.slots t 8).cast nbuf0_8), hstage0_9 ((cfg0.slots t 9).cast nbuf0_9), hstage0_10 ((cfg0.slots t 10).cast nbuf0_10),
    hstage0_11 ((cfg0.slots t 11).cast nbuf0_11), hstage0_12 ((cfg0.slots t 12).cast nbuf0_12), hstage0_13 ((cfg0.slots t 13).cast nbuf0_13),
    Memref.isWhole_whole cc0_scratch0, Memref.isWhole_whole cc0_scratch1, Memref.isWhole_whole cc0_scratch2,
    Memref.isWhole_whole cc0_scratch3,
    y2, y3, y4, y5, y6, y7, y8, y9, y10, y11, y12, y13, y14, y15, y16, y17, y18, y19⟩
  exact step_at m c p t (on_at m c p t rfl e2 e3 e4 e5 e6 e7 e8 e9 hS) h12 h13 hS

theorem start (c : Dev nD) (x16 : Vec Ideal S4x2x8x704 .f32) (x17 : Vec Ideal S512x1024 .f32) : (held m).S c 0 x16 x17 :=
  ⟨fun g _ _ _ hn => absurd (by omega) hn, fun hn => absurd rfl hn⟩

end

section

open Cert.Kernel11Ideal Cert.Kernel11Ideal.Gen Cert.Ffn
open Idealize.ShloMosaic Idealize.ShloMosaic.TcCoe Idealize.SL.Sem

variable (m : (ℓ : Loc nD τ sig) → Buf (Elt Ideal) ℓ) (c : Dev nD)

/-- The gated value, as contents of its array. -/
def gAct : Vec Ideal S4x4096x704 .bf16 := fun i => gact (mUc m c) (i 0) (i 1) (i 2)
/-- The cotangent of the up projection, as contents of its array. -/
def gDup : Vec Ideal S4x2x4096x704 .bf16 := fun i => kU m c (i 0) (i 1) (i 2).val (i 3)
/-- The cotangent of the layer's input, as contents of its array. -/
def gDx : Vec Ideal S4096x1024 .f32 := fun i => kX m c (i 0) (i 1)
/-- The same, narrowed. -/
def gDxb : Vec Ideal S4096x1024 .bf16 := fun i => kX m c (i 0) (i 1)
/-- The gain's gradient, as contents of its array. -/
def gDg : Vec Ideal S1x1024 .f32 := fun i => ∑ t, kG m c t (i 1)
/-- The taps' gradient, as contents of its array. -/
def gDcw : Vec Ideal S4x2x3x704 .f32 := fun i => ∑ t, kT m c (i 0) (i 1) (i 2) (i 3) t

variable (after : (w : Fin cfg0.W) → Fin cfg0.N → (cfg0.win w).block.Idx → Elt Ideal (cfg0.win w).elt)
  (hL : ∀ (w : Fin cfg0.W) (u : Fin cfg0.N), (cfg0.win w).flush u = true → (rdat m (held m) c).Leaves w u (after w u))

include hL

/-- The gated value. -/
theorem final_8 : ((rdat m (held m) c).withAfter after).arrAt 8 cfg0.N = gAct m c := by
  refine Pipeline.Dat.arrAt_eq_of_cover ((rdat m (held m) c).withAfter after) 8 (gAct m c) (fun t hf => ?_) (fun i => ?_)
  · have key := left m (held m) c 8 (by decide) t (after 8 t) (hL 8 t hf)
    have hN : t.val < 32 := lt_of_lt_of_eq t.isLt N_0
    funext y
    obtain ⟨e0, e1, e2⟩ := index_8 t
    obtain ⟨r, k, rfl⟩ : ∃ (r : Fin 512) (k : Fin 704), y = ix3 0 r k := by
      refine ⟨y 1, y 2, funext fun a => ?_⟩
      match a with
      | ⟨0, _⟩ => exact Subsingleton.elim (α := Fin 1) _ _
      | ⟨1, _⟩ => rfl
      | ⟨2, _⟩ => rfl
    refine (key r k).trans ?_
    refine congr (congr (congrArg (gact (mUc m c)) (Fin.ext ?_)) (Fin.ext ?_)) (Fin.ext ?_)
    · show t.val % 4 = win0_8.index t 0 * 1 + 1 * 0; omega
    · show 512 * (7 - t.val / 4) + r.val = win0_8.index t 1 * 512 + 1 * r.val; omega
    · show k.val = win0_8.index t 2 * 704 + 1 * k.val; omega
  · have h0 : (i 0 : Nat) < 4 := (i 0).isLt
    have h1 : (i 1 : Nat) < 4096 := (i 1).isLt
    have h2 : (i 2 : Nat) < 704 := (i 2).isLt
    have hp : 4 * (7 - (i 1 : Nat) / 512) + (i 0 : Nat) < 32 := by omega
    have hN : 4 * (7 - (i 1 : Nat) / 512) + (i 0 : Nat) < cfg0.N := lt_of_lt_of_eq hp N_0.symm
    refine ⟨⟨4 * (7 - (i 1 : Nat) / 512) + (i 0 : Nat), hN⟩, flush0_8 _, ?_⟩
    obtain ⟨e0, e1, e2⟩ := index_8 ⟨4 * (7 - (i 1 : Nat) / 512) + (i 0 : Nat), hN⟩
    show i ∈ ((View.whole main_v0_0).slice (win0_8.rect ⟨4 * (7 - (i 1 : Nat) / 512) + (i 0 : Nat), hN⟩)).set
    rw [View.set_slice_whole, Rect.mem_set_unit]
    dsimp only at e0 e1 e2
    generalize (⟨4 * (7 - (i 1 : Nat) / 512) + (i 0 : Nat), hN⟩ : Fin grid0.N) = t at e0 e1 e2 ⊢
    intro a
    match a with
    | ⟨0, _⟩ => show Mat.In (win0_8.index t 0) 1 (i 0); omega
    | ⟨1, _⟩ => show Mat.In (win0_8.index t 1) 512 (i 1); omega
    | ⟨2, _⟩ => show Mat.In (win0_8.index t 2) 704 (i 2); omega

/-- The cotangent of the up projection. -/
theorem final_9 : ((rdat m (held m) c).withAfter after).arrAt 9 cfg0.N = gDup m c := by
  refine Pipeline.Dat.arrAt_eq_of_cover ((rdat m (held m) c).withAfter after) 9 (gDup m c) (fun t hf => ?_) (fun i => ?_)
  · have key := left m (held m) c 9 (by decide) t (after 9 t) (hL 9 t hf)
    have hN : t.val < 32 := lt_of_lt_of_eq t.isLt N_0
    funext y
    obtain ⟨e0, e1, e2, e3⟩ := index_9 t
    obtain ⟨gv, r, k, rfl⟩ : ∃ (gv : Fin 2) (r : Fin 512) (k : Fin 704), y = ix4 0 gv r k := by
      refine ⟨y 1, y 2, y 3, funext fun a => ?_⟩
      match a with
      | ⟨0, _⟩ => exact Subsingleton.elim (α := Fin 1) _ _
      | ⟨1, _⟩ => rfl
      | ⟨2, _⟩ => rfl
      | ⟨3, _⟩ => rfl
    refine (key gv r k).trans ?_
    refine congr (congr (congr (congrArg (kU m c) (Fin.ext ?_)) (Fin.ext ?_)) ?_) (Fin.ext ?_)
    · show t.val % 4 = win0_9.index t 0 * 1 + 1 * 0; omega
    · show gv.val = win0_9.index t 1 * 2 + 1 * gv.val; omega
    · show 512 * (7 - t.val / 4) + r.val = win0_9.index t 2 * 512 + 1 * r.val; omega
    · show k.val = win0_9.index t 3 * 704 + 1 * k.val; omega
  · have h0 : (i 0 : Nat) < 4 := (i 0).isLt
    have h1 : (i 1 : Nat) < 2 := (i 1).isLt
    have h2 : (i 2 : Nat) < 4096 := (i 2).isLt
    have h3 : (i 3 : Nat) < 704 := (i 3).isLt
    have hp : 4 * (7 - (i 2 : Nat) / 512) + (i 0 : Nat) < 32 := by omega
    have hN : 4 * (7 - (i 2 : Nat) / 512) + (i 0 : Nat) < cfg0.N := lt_of_lt_of_eq hp N_0.symm
    refine ⟨⟨4 * (7 - (i 2 : Nat) / 512) + (i 0 : Nat), hN⟩, flush0_9 _, ?_⟩
    obtain ⟨e0, e1, e2, e3⟩ := index_9 ⟨4 * (7 - (i 2 : Nat) / 512) + (i 0 : Nat), hN⟩
    show i ∈ ((View.whole main_v0_1).slice (win0_9.rect ⟨4 * (7 - (i 2 : Nat) / 512) + (i 0 : Nat), hN⟩)).set
    rw [View.set_slice_whole, Rect.mem_set_unit]
    dsimp only at e0 e1 e2 e3
    generalize (⟨4 * (7 - (i 2 : Nat) / 512) + (i 0 : Nat), hN⟩ : Fin grid0.N) = t at e0 e1 e2 e3 ⊢
    intro a
    match a with
    | ⟨0, _⟩ => show Mat.In (win0_9.index t 0) 1 (i 0); omega
    | ⟨1, _⟩ => show Mat.In (win0_9.index t 1) 2 (i 1); omega
    | ⟨2, _⟩ => show Mat.In (win0_9.index t 2) 512 (i 2); omega
    | ⟨3, _⟩ => show Mat.In (win0_9.index t 3) 704 (i 3); omega

/-- The cotangent of the layer's input. -/
theorem final_10 : ((rdat m (held m) c).withAfter after).arrAt 10 cfg0.N = gDx m c := by
  refine Pipeline.Dat.arrAt_eq_of_cover ((rdat m (held m) c).withAfter after) 10 (gDx m c) (fun t hf => ?_) (fun i => ?_)
  · have key := left m (held m) c 10 (by decide) t (after 10 t) (hL 10 t hf)
    have hN : t.val < 32 := lt_of_lt_of_eq t.isLt N_0
    funext y
    obtain ⟨e0, e1, -, -⟩ := index_10 t
    obtain ⟨r, j, rfl⟩ : ∃ (r : Fin 512) (j : Fin 1024), y = ix2 r j := by
      refine ⟨y 0, y 1, funext fun a => ?_⟩
      match a with
      | ⟨0, _⟩ => rfl
      | ⟨1, _⟩ => rfl
    refine (key ((flush0_10 t).mp hf) r j).trans ?_
    refine congr (congrArg (kX m c) (Fin.ext ?_)) (Fin.ext ?_)
    · show 512 * (7 - t.val / 4) + r.val = win0_10.index t 0 * 512 + 1 * r.val; omega
    · show j.val = win0_10.index t 1 * 1024 + 1 * j.val; omega
  · have h0 : (i 0 : Nat) < 4096 := (i 0).isLt
    have h1 : (i 1 : Nat) < 1024 := (i 1).isLt
    have hp : 4 * (7 - (i 0 : Nat) / 512) + 3 < 32 := by omega
    have hN : 4 * (7 - (i 0 : Nat) / 512) + 3 < cfg0.N := lt_of_lt_of_eq hp N_0.symm
    refine ⟨⟨4 * (7 - (i 0 : Nat) / 512) + 3, hN⟩, (flush0_10 _).mpr (by show (4 * (7 - (i 0 : Nat) / 512) + 3) % 4 = 3; omega), ?_⟩
    obtain ⟨e0, e1, -, -⟩ := index_10 ⟨4 * (7 - (i 0 : Nat) / 512) + 3, hN⟩
    show i ∈ ((View.whole main_v0_2).slice (win0_10.rect ⟨4 * (7 - (i 0 : Nat) / 512) + 3, hN⟩)).set
    rw [View.set_slice_whole, Rect.mem_set_unit]
    dsimp only at e0 e1
    generalize (⟨4 * (7 - (i 0 : Nat) / 512) + 3, hN⟩ : Fin grid0.N) = t at e0 e1 ⊢
    intro a
    match a with
    | ⟨0, _⟩ => show Mat.In (win0_10.index t 0) 512 (i 0); omega
    | ⟨1, _⟩ => show Mat.In (win0_10.index t 1) 1024 (i 1); omega

/-- The same, narrowed. -/
theorem final_11 : ((rdat m (held m) c).withAfter after).arrAt 11 cfg0.N = gDxb m c := by
  refine Pipeline.Dat.arrAt_eq_of_cover ((rdat m (held m) c).withAfter after) 11 (gDxb m c) (fun t hf => ?_) (fun i => ?_)
  · have key := left m (held m) c 11 (by decide) t (after 11 t) (hL 11 t hf)
    have hN : t.val < 32 := lt_of_lt_of_eq t.isLt N_0
    funext y
    obtain ⟨-, -, e0, e1⟩ := index_10 t
    obtain ⟨r, j, rfl⟩ : ∃ (r : Fin 512) (j : Fin 1024), y = ix2 r j := by
      refine ⟨y 0, y 1, funext fun a => ?_⟩
      match a with
      | ⟨0, _⟩ => rfl
      | ⟨1, _⟩ => rfl
    refine (key ((flush0_11 t).mp hf) r j).trans ?_
    refine congr (congrArg (kX m c) (Fin.ext ?_)) (Fin.ext ?_)
    · show 512 * (7 - t.val / 4) + r.val = win0_11.index t 0 * 512 + 1 * r.val; omega
    · show j.val = win0_11.index t 1 * 1024 + 1 * j.val; omega
  · have h0 : (i 0 : Nat) < 4096 := (i 0).isLt
    have h1 : (i 1 : Nat) < 1024 := (i 1).isLt
    have hp : 4 * (7 - (i 0 : Nat) / 512) + 3 < 32 := by omega
    have hN : 4 * (7 - (i 0 : Nat) / 512) + 3 < cfg0.N := lt_of_lt_of_eq hp N_0.symm
    refine ⟨⟨4 * (7 - (i 0 : Nat) / 512) + 3, hN⟩, (flush0_11 _).mpr (by show (4 * (7 - (i 0 : Nat) / 512) + 3) % 4 = 3; omega), ?_⟩
    obtain ⟨-, -, e0, e1⟩ := index_10 ⟨4 * (7 - (i 0 : Nat) / 512) + 3, hN⟩
    show i ∈ ((View.whole main_v0_3).slice (win0_11.rect ⟨4 * (7 - (i 0 : Nat) / 512) + 3, hN⟩)).set
    rw [View.set_slice_whole, Rect.mem_set_unit]
    dsimp only at e0 e1
    generalize (⟨4 * (7 - (i 0 : Nat) / 512) + 3, hN⟩ : Fin grid0.N) = t at e0 e1 ⊢
    intro a
    match a with
    | ⟨0, _⟩ => show Mat.In (win0_11.index t 0) 512 (i 0); omega
    | ⟨1, _⟩ => show Mat.In (win0_11.index t 1) 1024 (i 1); omega

/-- The gain's gradient. -/
theorem final_12 : ((rdat m (held m) c).withAfter after).arrAt 12 cfg0.N = gDg m c := by
  refine Pipeline.Dat.arrAt_eq_of_cover ((rdat m (held m) c).withAfter after) 12 (gDg m c) (fun t hf => ?_) (fun i => ?_)
  · have key := left m (held m) c 12 (by decide) t (after 12 t) (hL 12 t hf)
    have hN : t.val < 32 := lt_of_lt_of_eq t.isLt N_0
    have h31 : t.val = 31 := by have := (flush0_12 t).mp hf; omega
    have hc : (t.val + 1) / 4 = 8 := by omega
    funext y
    obtain ⟨e0, e1⟩ := index_12 t
    obtain ⟨j, rfl⟩ : ∃ (j : Fin 1024), y = ix2 0 j := by
      refine ⟨y 1, funext fun a => ?_⟩
      match a with
      | ⟨0, _⟩ => exact Subsingleton.elim (α := Fin 1) _ _
      | ⟨1, _⟩ => rfl
    refine (key (by rw [hc]; decide) j).trans ?_
    rw [hc]
    refine (sum_back (fun t => kG m c t j)).trans ?_
    refine congrArg (fun j' => ∑ t, kG m c t j') (Fin.ext ?_)
    show j.val = win0_12.index t 1 * 1024 + 1 * j.val; omega
  · have h0 : (i 0 : Nat) < 1 := (i 0).isLt
    have h1 : (i 1 : Nat) < 1024 := (i 1).isLt
    have hp : 31 < 32 := by omega
    have hN : 31 < cfg0.N := lt_of_lt_of_eq hp N_0.symm
    refine ⟨⟨31, hN⟩, (flush0_12 _).mpr rfl, ?_⟩
    obtain ⟨e0, e1⟩ := index_12 ⟨31, hN⟩
    show i ∈ ((View.whole main_v0_4).slice (win0_12.rect ⟨31, hN⟩)).set
    rw [View.set_slice_whole, Rect.mem_set_unit]
    generalize (⟨31, hN⟩ : Fin grid0.N) = t at e0 e1 ⊢
    intro a
    match a with
    | ⟨0, _⟩ => show Mat.In (win0_12.index t 0) 1 (i 0); omega
    | ⟨1, _⟩ => show Mat.In (win0_12.index t 1) 1024 (i 1); omega

/-- The taps' gradient. -/
theorem final_13 : ((rdat m (held m) c).withAfter after).arrAt 13 cfg0.N = gDcw m c := by
  refine Pipeline.Dat.arrAt_eq_of_cover ((rdat m (held m) c).withAfter after) 13 (gDcw m c) (fun t hf => ?_) (fun i => ?_)
  · have key := left m (held m) c 13 (by decide) t (after 13 t) (hL 13 t hf)
    have hN : t.val < 32 := lt_of_lt_of_eq t.isLt N_0
    have h31 : t.val = 31 := by have := (flush0_13 t).mp hf; omega
    funext y
    obtain ⟨e0, e1, e2, e3⟩ := index_13 t
    obtain ⟨g, gv, a, k, rfl⟩ : ∃ (g : Fin 4) (gv : Fin 2) (a : Fin 3) (k : Fin 704), y = ix4 g gv a k := by
      refine ⟨y 0, y 1, y 2, y 3, funext fun a => ?_⟩
      match a with
      | ⟨0, _⟩ => rfl
      | ⟨1, _⟩ => rfl
      | ⟨2, _⟩ => rfl
      | ⟨3, _⟩ => rfl
    refine (key g gv a k (by have := g.isLt; omega)).trans ?_
    have hc : (t.val + 4 - g.val) / 4 = 8 := by have := g.isLt; omega
    rw [hc]
    refine (sum_back (fun t => kT m c g gv a k t)).trans ?_
    refine congrArg (fun f : Fin 4096 → EReal => ∑ t, f t) (congr (congr (congr (congrArg (kT m c) (Fin.ext ?_)) (Fin.ext ?_)) (Fin.ext ?_)) (Fin.ext ?_))
    · show g.val = win0_13.index t 0 * 4 + 1 * g.val; omega
    · show gv.val = win0_13.index t 1 * 2 + 1 * gv.val; omega
    · show a.val = win0_13.index t 2 * 3 + 1 * a.val; omega
    · show k.val = win0_13.index t 3 * 704 + 1 * k.val; omega
  · have h0 : (i 0 : Nat) < 4 := (i 0).isLt
    have h1 : (i 1 : Nat) < 2 := (i 1).isLt
    have h2 : (i 2 : Nat) < 3 := (i 2).isLt
    have h3 : (i 3 : Nat) < 704 := (i 3).isLt
    have hp : 31 < 32 := by omega
    have hN : 31 < cfg0.N := lt_of_lt_of_eq hp N_0.symm
    refine ⟨⟨31, hN⟩, (flush0_13 _).mpr rfl, ?_⟩
    obtain ⟨e0, e1, e2, e3⟩ := index_13 ⟨31, hN⟩
    show i ∈ ((View.whole main_v0_5).slice (win0_13.rect ⟨31, hN⟩)).set
    rw [View.set_slice_whole, Rect.mem_set_unit]
    generalize (⟨31, hN⟩ : Fin grid0.N) = t at e0 e1 e2 e3 ⊢
    intro a
    match a with
    | ⟨0, _⟩ => show Mat.In (win0_13.index t 0) 4 (i 0); omega
    | ⟨1, _⟩ => show Mat.In (win0_13.index t 1) 2 (i 1); omega
    | ⟨2, _⟩ => show Mat.In (win0_13.index t 2) 3 (i 2); omega
    | ⟨3, _⟩ => show Mat.In (win0_13.index t 3) 704 (i 3); omega

omit hL in
/-- The program's run: its results are the formulas, its arguments end as they were. -/
theorem run_values (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = gAct m c
      ∧ r.2.mem ((c.tc : Thread nD τ).loc main_v0_1) = gDup m c
      ∧ r.2.mem ((c.tc : Thread nD τ).loc main_v0_2) = gDx m c
      ∧ r.2.mem ((c.tc : Thread nD τ).loc main_v0_3) = gDxb m c
      ∧ r.2.mem ((c.tc : Thread nD τ).loc main_v0_4) = gDg m c
      ∧ r.2.mem ((c.tc : Thread nD τ).loc main_v0_5) = gDcw m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run (defs (F := Ideal)) _ _).mono (fun r h c => ?_) (run_main m ρ (held m) (step m) (start m))
  obtain ⟨after, hL, hA⟩ := Pipeline.RDat.FramePost.exists_exact h.1 c
  exact ⟨(hA 8).trans (final_8 m c after hL), (hA 9).trans (final_9 m c after hL), (hA 10).trans (final_10 m c after hL),
    (hA 11).trans (final_11 m c after hL), (hA 12).trans (final_12 m c after hL), (hA 13).trans (final_13 m c after hL),
    kept m (held m) r h.1 c⟩

end

section

open Idealize.ShloMosaic

/-- The derivative of the gate's activation, with its two terms gathered. -/
theorem silu_back (b : EReal) : Ideal.logistic b + b * (Ideal.logistic b * (1 - Ideal.logistic b))
    = Ideal.logistic b * (1 + b * (1 - Ideal.logistic b)) := by
  induction b with
  | bot => simp
  | top =>
    rw [Ideal.logistic_top]
    have h : (1 : EReal) - 1 = 0 := by rw [← EReal.coe_one, ← EReal.coe_sub, sub_self, EReal.coe_zero]
    simp [h]
  | coe r =>
    rw [Ideal.logistic_coe]
    norm_cast
    ring

/-- A sum over all columns, group by group of either half. -/
theorem sum_cols (f : Fin 5632 → EReal) : ∑ q, f q = ∑ g : Fin 4, ((∑ k : Fin 704, f ⟨704 * g.val + k.val, by omega⟩)
    + ∑ k : Fin 704, f ⟨2816 + (704 * g.val + k.val), by omega⟩) := by
  rw [Finset.sum_add_distrib, ← Ffn.sum_groups fun q : Fin 2816 => f ⟨q.val, by omega⟩,
    ← Ffn.sum_groups fun q : Fin 2816 => f ⟨2816 + q.val, by omega⟩]
  exact Fin.sum_univ_add (a := 2816) (b := 2816) (f := f)

/-- A sum against rows moved down by `s` is a sum against the other factor moved up. -/
theorem sum_shift (f v : ℕ → EReal) (s : ℕ) (hs : s ≤ 4096) (hf : ∀ t, 4096 ≤ t → f t = 0) :
    ∑ t : Fin 4096, f t.val * (if t.val < s then 0 else v (t.val - s)) = ∑ t : Fin 4096, v t.val * f (t.val + s) := by
  rw [Fin.sum_univ_eq_sum_range (fun t => f t * (if t < s then 0 else v (t - s))) 4096,
    Fin.sum_univ_eq_sum_range (fun t => v t * f (t + s)) 4096]
  obtain ⟨n, hn⟩ := Nat.exists_eq_add_of_le hs
  have e1 : ∑ t ∈ Finset.range 4096, f t * (if t < s then 0 else v (t - s))
      = ∑ t ∈ Finset.range (s + n), f t * (if t < s then 0 else v (t - s)) := by rw [hn]
  have e2 : ∑ t ∈ Finset.range 4096, v t * f (t + s) = ∑ t ∈ Finset.range (n + s), v t * f (t + s) := by
    rw [hn, Nat.add_comm s n]
  rw [e1, e2, Finset.sum_range_add, Finset.sum_range_add, Finset.sum_eq_zero (s := Finset.range s),
    Finset.sum_eq_zero (s := Finset.range s), zero_add, add_zero]
  · refine Finset.sum_congr rfl fun t _ => ?_
    rw [if_neg (by omega), Nat.add_sub_cancel_left, Nat.add_comm s t]
    exact mul_comm (G := EReal) _ _
  · intro t _
    rw [hf _ (by omega), mul_zero]
  · intro t ht
    rw [if_pos (Finset.mem_range.mp ht), mul_zero]

namespace Host

open Cert.Reference11Ideal Cert.Reference11Ideal.Gen Cert.Reference11Ideal.Read

variable (x0 : Vec Ideal S4096x1024 .f32) (x1 x2 : Vec Ideal S4x2x4096x704 .bf16) (x3 : Vec Ideal S2x4x1024x704 .bf16)
  (x4 : Vec Ideal S2x4x3x704 .f32) (x5 : Vec Ideal S2816x1024 .bf16) (x6 : Vec Ideal S4096x1024 .f32)
  (x7 : Vec Ideal S1x1024 .f32)

/-- The convolved up projection, in the columns of one half and group. -/
theorem uc_at (t : Fin 4096) (q : Fin 5632) (gv : Fin 2) (g : Fin 4) (k : Fin 704)
    (hq : q.val = gv.val * 2816 + g.val * 704 + k.val) : val_main_v6 (F := Ideal) x2 (ix2 t q) = x2 (ix4 g gv t k) := by
  pointwise [val_main_v6, val_main_v5, val_main_v4]
  have hgv := gv.isLt
  have hg := g.isLt
  have hk := k.isLt
  refine congrArg x2 (funext fun i => Fin.ext ?_)
  match i with
  | ⟨0, _⟩ => show q.val / 704 % 4 = g.val; omega
  | ⟨1, _⟩ => show q.val / 2816 = gv.val; omega
  | ⟨2, _⟩ => rfl
  | ⟨3, _⟩ => show q.val % 704 = k.val; omega

/-- The up projection, in the columns of one half and group. -/
theorem u_at (t : Fin 4096) (q : Fin 5632) (gv : Fin 2) (g : Fin 4) (k : Fin 704)
    (hq : q.val = gv.val * 2816 + g.val * 704 + k.val) : val_main_v23 (F := Ideal) x1 (ix2 t q) = x1 (ix4 g gv t k) := by
  pointwise [val_main_v23, val_main_v22, val_main_v21]
  have hgv := gv.isLt
  have hg := g.isLt
  have hk := k.isLt
  refine congrArg x1 (funext fun i => Fin.ext ?_)
  match i with
  | ⟨0, _⟩ => show q.val / 704 % 4 = g.val; omega
  | ⟨1, _⟩ => show q.val / 2816 = gv.val; omega
  | ⟨2, _⟩ => rfl
  | ⟨3, _⟩ => show q.val % 704 = k.val; omega

/-- The taps, in the columns of one half and group. -/
theorem cw_at (a : Fin 3) (q : Fin 5632) (gv : Fin 2) (g : Fin 4) (k : Fin 704)
    (hq : q.val = gv.val * 2816 + g.val * 704 + k.val) : val_main_v25 (F := Ideal) x4 (ix2 a q) = x4 (ix4 gv g a k) := by
  pointwise [val_main_v25, val_main_v24]
  have hgv := gv.isLt
  have hg := g.isLt
  have hk := k.isLt
  refine congrArg x4 (funext fun i => Fin.ext ?_)
  match i with
  | ⟨0, _⟩ => show q.val / 2816 = gv.val; omega
  | ⟨1, _⟩ => show q.val / 704 % 4 = g.val; omega
  | ⟨2, _⟩ => rfl
  | ⟨3, _⟩ => show q.val % 704 = k.val; omega

/-- The up projection's weight, in the columns of one half and group. -/
theorem w_at (j : Fin 1024) (q : Fin 5632) (gv : Fin 2) (g : Fin 4) (k : Fin 704)
    (hq : q.val = gv.val * 2816 + g.val * 704 + k.val) : val_main_v2 (F := Ideal) x3 (ix2 j q) = x3 (ix4 gv g j k) := by
  pointwise [val_main_v2, val_main_v1, val_main_v0]
  have hgv := gv.isLt
  have hg := g.isLt
  have hk := k.isLt
  refine congrArg x3 (funext fun i => Fin.ext ?_)
  match i with
  | ⟨0, _⟩ => show q.val / 2816 = gv.val; omega
  | ⟨1, _⟩ => show q.val / 704 % 4 = g.val; omega
  | ⟨2, _⟩ => rfl
  | ⟨3, _⟩ => show q.val % 704 = k.val; omega

/-- The gate, in the columns of one group. -/
theorem gate_at (t : Fin 4096) (q : Fin 2816) (g : Fin 4) (k : Fin 704) (hq : q.val = 704 * g.val + k.val) :
    val_main_v7 (F := Ideal) x2 (ix2 t q) = x2 (ix4 g 0 t k) := by
  pointwise [val_main_v7]
  exact uc_at x2 t _ 0 g k (by show q.val = 0 * 2816 + _ + _; omega)

/-- The value, in the columns of one group. -/
theorem value_at (t : Fin 4096) (q : Fin 2816) (g : Fin 4) (k : Fin 704) (hq : q.val = 704 * g.val + k.val) :
    val_main_v8 (F := Ideal) x2 (ix2 t q) = x2 (ix4 g 1 t k) := by
  pointwise [val_main_v8]
  exact uc_at x2 t _ 1 g k (by show 2816 + q.val = 1 * 2816 + _ + _; omega)

/-- The activated gate. -/
theorem silu_at (t : Fin 4096) (q : Fin 2816) (g : Fin 4) (k : Fin 704) (hq : q.val = 704 * g.val + k.val) :
    val_main_v9 (F := Ideal) x2 (ix2 t q) = x2 (ix4 g 0 t k) * Ideal.logistic (x2 (ix4 g 0 t k)) := by
  pointwise [val_main_v9, val_main_call0_v5, val_main_call0_v4, val_main_call0_v3, val_main_call0_v2,
    val_main_call0_v1, val_main_call0_v0, val_main_call0_cst, val_main_call0_cst_0]
  rw [gate_at x2 t q g k hq]
  rfl

/-- The derivative of the activated gate. -/
theorem slope_at (t : Fin 4096) (q : Fin 2816) (g : Fin 4) (k : Fin 704) (hq : q.val = 704 * g.val + k.val) :
    val_main_v11_1 (F := Ideal) x2 (ix2 t q) = Ideal.logistic (x2 (ix4 g 0 t k))
      * (1 + x2 (ix4 g 0 t k) * (1 - Ideal.logistic (x2 (ix4 g 0 t k)))) := by
  rw [← silu_back]
  pointwise [val_main_v11_1, val_main_call1_v12, val_main_call1_v11, val_main_call1_v9,
    val_main_call1_v8, val_main_call1_v7, val_main_call1_v6, val_main_call1_v5, val_main_call1_v4, val_main_call1_v3,
    val_main_call1_v2, val_main_call1_v1, val_main_call1_v0, val_main_call1_cst, val_main_call1_cst_0,
    val_main_call1_cst_1, val_main_v10, val_main_cst]
  rw [gate_at x2 t q g k hq]
  rfl

/-- The gated value. -/
theorem act_at (t : Fin 4096) (q : Fin 2816) (g : Fin 4) (k : Fin 704) (hq : q.val = 704 * g.val + k.val) :
    val_main_v12 (F := Ideal) x2 (ix2 t q) = gact x2 g t k := by
  pointwise [val_main_v12]
  rw [silu_at x2 t q g k hq, value_at x2 t q g k hq]
  rfl

/-- The gated value's cotangent. -/
theorem dact_at (t : Fin 4096) (q : Fin 2816) (g : Fin 4) (k : Fin 704) (hq : q.val = 704 * g.val + k.val) :
    val_main_v16 (F := Ideal) x0 x5 (ix2 t q) = dAct x0 x5 g t k := by
  obtain rfl : q = col g k := Fin.ext hq
  pointwise [val_main_v16, val_main_v15, val_main_v14, val_main_cst_0, val_main_v3]
  rfl

/-- The cotangent of the convolved up projection. -/
theorem dconv_at (t : Fin 4096) (q : Fin 5632) (gv : Fin 2) (g : Fin 4) (k : Fin 704)
    (hq : q.val = gv.val * 2816 + g.val * 704 + k.val) :
    val_main_v20 (F := Ideal) x0 x2 x5 (ix2 t q) = dConv x0 x2 x5 g gv t.val k := by
  have hg := g.isLt
  have hk := k.isLt
  have e : dConv x0 x2 x5 g gv t.val k = if gv = 0 then gateBack (dAct x0 x5 g t k) (x2 (ix4 g 0 t k)) (x2 (ix4 g 1 t k))
      else valueBack (dAct x0 x5 g t k) (x2 (ix4 g 0 t k)) := dif_pos t.isLt
  rw [e]
  have hgv : gv = 0 ∨ gv = 1 := by fin_cases gv <;> simp
  pointwise [val_main_v20, val_main_v19, val_main_v18, val_main_v17]
  rcases hgv with rfl | rfl
  · have h : q.val = 704 * g.val + k.val := by rw [hq]; show 0 * 2816 + _ + _ = _; omega
    refine (dif_pos (show q.val < 2816 by omega)).trans (Eq.trans ?_ (if_pos rfl).symm)
    exact congrArg₂ (fun p q : EReal => p * q) (congrArg₂ (fun p q : EReal => p * q) (dact_at x0 x5 t _ g k h)
      (value_at x2 t _ g k h)) (slope_at x2 t _ g k h)
  · have h : q.val = 2816 + (704 * g.val + k.val) := by rw [hq]; show 1 * 2816 + _ + _ = _; omega
    have h' : q.val - 2816 = 704 * g.val + k.val := by omega
    refine (dif_neg (show ¬q.val < 2816 by omega)).trans (Eq.trans ?_ (if_neg (by decide)).symm)
    exact (congrArg₂ (fun p q : EReal => p * q) (silu_at x2 t _ g k h') (dact_at x0 x5 t _ g k h')).trans
      (mul_comm (G := EReal) _ _)

/-- The cotangent of the up projection. -/
theorem dup_at (t : Fin 4096) (q : Fin 5632) (gv : Fin 2) (g : Fin 4) (k : Fin 704)
    (hq : q.val = gv.val * 2816 + g.val * 704 + k.val) :
    val_main_v71 (F := Ideal) x0 x2 x4 x5 (ix2 t q) = dUp x0 x2 x4 x5 g gv t.val k := by
  pointwise [val_main_v71, val_main_v67, val_main_v66, val_main_v58, val_main_v57, val_main_v50, val_main_cst_5,
    val_main_cst_8, val_main_cst_11, val_main_v62, val_main_v61, val_main_v53, val_main_v52, val_main_v46, val_main_v45,
    val_main_v40, val_main_v35, val_main_v29]
  unfold dUp
  refine congrArg₂ (fun p q : EReal => p + q) (congrArg₂ (fun p q : EReal => p + q) (congrArg₂ (fun p q : EReal => p * q)
    (cw_at x4 2 q gv g k hq) (dconv_at x0 x2 x5 t q gv g k hq)) ?_) ?_
  · split
    · exact congrArg₂ (fun p q : EReal => p * q) (cw_at x4 1 q gv g k hq) ((dconv_at x0 x2 x5 _ q gv g k hq).trans
        (congrArg (dConv _ _ _ g gv · k) (by show 2 + t.val - 1 = t.val + 1; omega)))
    · rw [dConv_below _ _ _ _ _ _ _ (by omega), mul_zero]
  · split
    · exact congrArg₂ (fun p q : EReal => p * q) (cw_at x4 0 q gv g k hq) ((dconv_at x0 x2 x5 _ q gv g k hq).trans
        (congrArg (dConv _ _ _ g gv · k) (by show 2 + t.val = t.val + 2; omega)))
    · rw [dConv_below _ _ _ _ _ _ _ (by omega), mul_zero]

/-- The cotangent of the norm's output. -/
theorem hid_at (t : Fin 4096) (j : Fin 1024) :
    val_main_v88 (F := Ideal) x0 x2 x3 x4 x5 (ix2 t j) = dHid x0 x2 x3 x4 x5 t.val j := by
  pointwise [val_main_v88]
  rw [sum_cols]
  unfold dHid dHidPart
  refine Finset.sum_congr rfl fun g _ => congrArg₂ (fun p q : EReal => p + q) ?_ ?_
  · refine Finset.sum_congr rfl fun k _ => ?_
    have h : 704 * g.val + k.val = (0 : Fin 2).val * 2816 + g.val * 704 + k.val := by show _ = 0 * 2816 + _ + _; omega
    exact congrArg₂ (fun p q : EReal => p * q) (dup_at x0 x2 x4 x5 t _ 0 g k h) (w_at x3 j _ 0 g k h)
  · refine Finset.sum_congr rfl fun k _ => ?_
    have h : 2816 + (704 * g.val + k.val) = (1 : Fin 2).val * 2816 + g.val * 704 + k.val := by
      show _ = 1 * 2816 + _ + _; omega
    exact congrArg₂ (fun p q : EReal => p * q) (dup_at x0 x2 x4 x5 t _ 1 g k h) (w_at x3 j _ 1 g k h)

/-- A row's mean square. -/
theorem var_at (t : Fin 4096) (z : Fin 1) : val_main_v78 (F := Ideal) x6 (ix2 t z) = Rms.var (fun k => x6 (ix2 t k)) := by
  pointwise [val_main_v78, val_main_v77, val_main_v76, val_main_v75, val_main_v74, val_main_v73, val_main_v72,
    val_main_cst_13, val_main_cst_14, val_main_cst_15]
  rfl

/-- A row's scale. -/
theorem scale_at (t : Fin 4096) (z : Fin 1) :
    val_main_v79 (F := Ideal) x6 (ix2 t z) = Rms.scale (fun k => x6 (ix2 t k)) := by
  pointwise [val_main_v79]
  rw [var_at]
  rfl

/-- The gain's gradient. -/
theorem dg_at (q : Fin 1024) : val_main_v91 (F := Ideal) x0 x2 x3 x4 x5 x6 (ix2 0 q)
    = ∑ t : Fin 4096, dGain x0 x2 x3 x4 x5 x6 t q := by
  pointwise [val_main_v91, val_main_v90, val_main_cst_17, val_main_v89, val_main_v84, val_main_v83]
  refine Finset.sum_congr rfl fun t _ => ?_
  rw [scale_at, hid_at]
  exact mul_comm (G := EReal) _ _

/-- The layer's input's cotangent. -/
theorem dx_at (t : Fin 4096) (q : Fin 1024) : val_main_v108 (F := Ideal) x0 x2 x3 x4 x5 x6 x7 (ix2 t q)
    = dX x0 x2 x3 x4 x5 x6 x7 t q := by
  unfold dX InGrad.dx
  rw [Rms.back_eq, ← add_assoc, ← add_assoc]
  pointwise [val_main_v108, val_main_v107, val_main_v106, val_main_v105, val_main_v104, val_main_v103, val_main_v102,
    val_main_v101, val_main_v100, val_main_v99, val_main_v98, val_main_v97, val_main_v96, val_main_v95, val_main_v94,
    val_main_v93, val_main_v92, val_main_v82, val_main_v81, val_main_v80, val_main_cst_16, val_main_cst_18,
    val_main_cst_19, val_main_cst_20]
  simp only [Fin.sum_univ_one, scale_at, var_at, hid_at]
  rfl

/-- A column of the up projection, zero below the last token. -/
def ucol (g : Fin 4) (gv : Fin 2) (k : Fin 704) (t : ℕ) : EReal := if h : t < 4096 then x1 (ix4 g gv ⟨t, h⟩ k) else 0

/-- The up projection with two zero rows above it. -/
theorem above_at (s : Fin 4098) (q : Fin 5632) (gv : Fin 2) (g : Fin 4) (k : Fin 704)
    (hq : q.val = gv.val * 2816 + g.val * 704 + k.val) :
    val_main_v27 (F := Ideal) x1 (ix2 s q) = if s.val < 2 then 0 else ucol x1 g gv k (s.val - 2) := by
  pointwise [val_main_v27, val_main_v26, val_main_cst_1]
  unfold ucol
  by_cases h : s.val < 2
  · rw [if_pos h]
    split
    · rfl
    · omega
  · rw [if_neg h, dif_pos (show s.val - 2 < 4096 by omega)]
    split
    · omega
    · exact u_at x1 _ q gv g k hq

/-- The tokens' sum against the up projection moved down by `s` rows is a tap's gradient. -/
theorem tap_sum (a : Fin 3) (s : ℕ) (hs : s = 2 - a.val) (gv : Fin 2) (g : Fin 4) (k : Fin 704) (f : Fin 4096 → EReal)
    (hf : ∀ t, f t = dConv x0 x2 x5 g gv t.val k * (if t.val < s then 0 else ucol x1 g gv k (t.val - s))) :
    ∑ t, f t = ∑ t : Fin 4096, dTap x0 x1 x2 x5 g gv a k t := by
  rw [Finset.sum_congr rfl fun t _ => hf t, sum_shift (fun t => dConv x0 x2 x5 g gv t k) (ucol x1 g gv k) s (by omega)
    fun t ht => dConv_below _ _ _ _ _ _ _ ht]
  refine Finset.sum_congr rfl fun t _ => ?_
  unfold dTap ucol
  rw [dif_pos t.isLt, hs]

/-- The last tap's gradient. -/
theorem tap2_at (r : Fin 1) (q : Fin 5632) (gv : Fin 2) (g : Fin 4) (k : Fin 704)
    (hq : q.val = gv.val * 2816 + g.val * 704 + k.val) :
    val_main_v49 (F := Ideal) x0 x1 x2 x5 (ix2 r q) = ∑ t : Fin 4096, dTap x0 x1 x2 x5 g gv 2 k t := by
  pointwise [val_main_v49, val_main_v48, val_main_v47, val_main_cst_4, val_main_v41]
  refine tap_sum x0 x1 x2 x5 2 0 rfl gv g k _ fun t => congrArg₂ (fun p q : EReal => p * q)
    (dconv_at x0 x2 x5 t q gv g k hq) ((above_at x1 _ q gv g k hq).trans ?_)
  refine (if_neg (by show ¬ 2 + t.val < 2; omega)).trans (Eq.trans ?_ (if_neg (by omega)).symm)
  exact congrArg (ucol x1 g gv k) (by show 2 + t.val - 2 = t.val - 0; omega)

/-- The middle tap's gradient. -/
theorem tap1_at (r : Fin 1) (q : Fin 5632) (gv : Fin 2) (g : Fin 4) (k : Fin 704)
    (hq : q.val = gv.val * 2816 + g.val * 704 + k.val) :
    val_main_v56 (F := Ideal) x0 x1 x2 x5 (ix2 r q) = ∑ t : Fin 4096, dTap x0 x1 x2 x5 g gv 1 k t := by
  pointwise [val_main_v56, val_main_v55, val_main_v54, val_main_cst_7, val_main_v36]
  refine tap_sum x0 x1 x2 x5 1 1 rfl gv g k _ fun t => congrArg₂ (fun p q : EReal => p * q)
    (dconv_at x0 x2 x5 t q gv g k hq) ((above_at x1 _ q gv g k hq).trans ?_)
  show (if 1 + t.val < 2 then 0 else ucol x1 g gv k (1 + t.val - 2)) = _
  by_cases h : t.val < 1
  · rw [if_pos h, if_pos (by omega)]
  · rw [if_neg h, if_neg (by omega)]
    exact congrArg (ucol x1 g gv k) (by omega)

/-- The first tap's gradient. -/
theorem tap0_at (r : Fin 1) (q : Fin 5632) (gv : Fin 2) (g : Fin 4) (k : Fin 704)
    (hq : q.val = gv.val * 2816 + g.val * 704 + k.val) :
    val_main_v65 (F := Ideal) x0 x1 x2 x5 (ix2 r q) = ∑ t : Fin 4096, dTap x0 x1 x2 x5 g gv 0 k t := by
  pointwise [val_main_v65, val_main_v64, val_main_v63, val_main_cst_10, val_main_v30]
  exact tap_sum x0 x1 x2 x5 0 2 rfl gv g k _ fun t => congrArg₂ (fun p q : EReal => p * q)
    (dconv_at x0 x2 x5 t q gv g k hq) (above_at x1 _ q gv g k hq)

/-- The taps' gradient, in the columns of one half and group. -/
theorem dcw_at (a : Fin 3) (q : Fin 5632) (gv : Fin 2) (g : Fin 4) (k : Fin 704)
    (hq : q.val = gv.val * 2816 + g.val * 704 + k.val) :
    val_main_v69 (F := Ideal) x0 x1 x2 x5 (ix2 a q) = ∑ t : Fin 4096, dTap x0 x1 x2 x5 g gv a k t := by
  pointwise [val_main_v69, val_main_v68, val_main_v60, val_main_v59, val_main_v51, val_main_cst_6, val_main_cst_9,
    val_main_cst_12]
  fin_cases a
  · exact (congrArg₂ (fun p q : EReal => p + q) (zero_add _) (tap0_at x0 x1 x2 x5 _ q gv g k hq)).trans (zero_add _)
  · exact (congrArg₂ (fun p q : EReal => p + q) ((zero_add _).trans (tap1_at x0 x1 x2 x5 _ q gv g k hq)) rfl).trans (add_zero _)
  · exact (congrArg₂ (fun p q : EReal => p + q) ((add_zero _).trans (tap2_at x0 x1 x2 x5 _ q gv g k hq)) rfl).trans (add_zero _)

/-- The stored gated value. -/
theorem stored_act (g : Fin 4) (t : Fin 4096) (k : Fin 704) :
    val_main_v111 (F := Ideal) x2 (ix3 g t k) = gact x2 g t k := by
  pointwise [val_main_v111, val_main_v110, val_main_v109]
  exact act_at x2 t _ g k (congrArg (· + k.val) (Nat.mul_comm _ _))

/-- The stored cotangent of the up projection. -/
theorem stored_dup (g : Fin 4) (gv : Fin 2) (t : Fin 4096) (k : Fin 704) :
    val_main_v116 (F := Ideal) x0 x2 x4 x5 (ix4 g gv t k) = dUp x0 x2 x4 x5 g gv t.val k := by
  pointwise [val_main_v116, val_main_v115, val_main_v114]
  exact dup_at x0 x2 x4 x5 t _ gv g k rfl

/-- The stored gradient of the taps. -/
theorem stored_dcw (g : Fin 4) (gv : Fin 2) (a : Fin 3) (k : Fin 704) :
    val_main_v113 (F := Ideal) x0 x1 x2 x5 (ix4 g gv a k) = ∑ t : Fin 4096, dTap x0 x1 x2 x5 g gv a k t := by
  pointwise [val_main_v113, val_main_v112]
  exact dcw_at x0 x1 x2 x5 a _ gv g k rfl

end Host

end

section

open Idealize.ShloMosaic Idealize.ShloMosaic.TcCoe Idealize.SL.Sem

instance : Cert.Kernel11Ideal.Facts := Cert.Kernel11Ideal.Gen.facts
instance : Cert.Reference11Ideal.Facts := Cert.Reference11Ideal.Gen.facts

/-- The host's run leaves no counter raised and keeps its arguments. -/
theorem host_frame : Cert.quiescent_Reference11Ideal := fun m g _ =>
  (θ_run _ _ _).mono (fun r h => ⟨fun c => (h c).2.2.2.2.2.2,
      Idealize.ShloMosaic.sem_eq_zero_of_no_sems (by decide) r.2⟩)
    (Cert.Reference11Ideal.Value.run (F := Ideal) m g)

/-- All six results of the kernel's idealization are the host's, entry by entry, for every argument. -/
theorem values : Cert.algebraic_Kernel11Ideal_Reference11Ideal := by
  intro m g m' g' _ hag
  refine ⟨fun c => gAct m c, fun c => gDup m c, fun c => gDx m c, fun c => gDxb m c, fun c => gDg m c,
    fun c => gDcw m c, run_values m g, ?_⟩
  refine (θ_run _ _ _).mono (fun r h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
    (Cert.Reference11Ideal.Value.run (F := Ideal) m' g')
  · obtain ⟨h0, h1, h2, h3, h4, h5, h6, h7⟩ := hag c
    refine (Cert.Reference11Ideal.Read.val_main_v111_eq (F := Ideal) _).trans ?_
    rw [h2]
    funext i
    obtain ⟨a, t, j, rfl⟩ := Mat.ix3_of i
    exact Host.stored_act _ a t j
  · obtain ⟨h0, h1, h2, h3, h4, h5, h6, h7⟩ := hag c
    refine (Cert.Reference11Ideal.Read.val_main_v116_eq (F := Ideal) _ _).trans ?_
    rw [h0, h2, h4, h5]
    funext i
    obtain ⟨a, b, t, j, rfl⟩ := Mat.ix4_of i
    exact Host.stored_dup _ _ _ _ a b t j
  · obtain ⟨h0, h1, h2, h3, h4, h5, h6, h7⟩ := hag c
    refine (Cert.Reference11Ideal.Read.val_main_v108_eq (F := Ideal) _ _).trans ?_
    rw [h0, h2, h3, h4, h5, h6, h7]
    funext i
    obtain ⟨t, q, rfl⟩ := Mat.ix2_of i
    exact Host.dx_at _ _ _ _ _ _ _ t q
  · obtain ⟨h0, h1, h2, h3, h4, h5, h6, h7⟩ := hag c
    refine (Cert.Reference11Ideal.Read.val_main_v117_eq (F := Ideal) _ _).trans ?_
    rw [h0, h2, h3, h4, h5, h6, h7]
    funext i
    obtain ⟨t, q, rfl⟩ := Mat.ix2_of i
    exact Host.dx_at _ _ _ _ _ _ _ t q
  · obtain ⟨h0, h1, h2, h3, h4, h5, h6, h7⟩ := hag c
    refine (Cert.Reference11Ideal.Read.val_main_v91_eq (F := Ideal) _ _).trans ?_
    rw [h0, h2, h3, h4, h5, h6]
    funext i
    obtain ⟨z, q, rfl⟩ := Mat.ix2_of i
    obtain rfl : z = 0 := Fin.fin_one_eq_zero z
    exact Host.dg_at _ _ _ _ _ _ q
  · obtain ⟨h0, h1, h2, h3, h4, h5, h6, h7⟩ := hag c
    refine (Cert.Reference11Ideal.Read.val_main_v113_eq (F := Ideal) _ _).trans ?_
    rw [h0, h1, h2, h5]
    funext i
    obtain ⟨a, b, r, j, rfl⟩ := Mat.ix4_of i
    exact Host.stored_dcw _ _ _ _ a b r j

end

end Cert.FfnGrad

end
-- ==== Proof.CFwdClaim.lean ====
/-
  The value claim of the odd mixer's forward call: the gated convolution, the residual stream after its projection and
  that stream's norm are the host's.
-/
module

public import proofs.«01_k».proof.Defs
public import proofs.«01_k».proof.Proof.Spec
public import proofs.«01_k».proof.Proof.ConvGrad
public import proofs.«01_k».proof.Proof.Gen.Kernel13Ideal.Value
public import proofs.«01_k».proof.Proof.Gen.Reference13Ideal.Read
public import Idealize.ShloMosaic.Lib.Pointwise
public import Idealize.ShloMosaic.Lib.Tactic
public import Idealize.ShloMosaic.Lib.Pipeline.ValueKit
public import Idealize.ShloMosaic.Lib.Quiescent

@[expose] public section

set_option maxRecDepth 16384

noncomputable section

namespace Cert.CFwd

open Cert.Kernel13Ideal Cert.Kernel13Ideal.Gen Cert.Mat Idealize.ShloMosaic Idealize.ShloMosaic.TcCoe Idealize.SL.Sem
open Cert.ConvGrad (p q back back_back sgt_zero)
open Idealize.ShloMosaic.Pipeline (Dat)

instance : Cert.Kernel13Ideal.Facts := Cert.Kernel13Ideal.Gen.facts
instance : Cert.Reference13Ideal.Facts := Cert.Reference13Ideal.Gen.facts

section
variable (Z K W X : ℕ → ℕ → EReal)

/-- The gated convolution. -/
def gated (t j : ℕ) : EReal := Z t j * q Z K t j

/-- A row of the residual stream after the projection. -/
def row (t : ℕ) (n : Fin 1024) : EReal := X t n + ∑ k : Fin 1024, gated Z K t k * W k n
end

/-- The blocks of tile `n` hold the matrices' rows: the tile's own and the sixteen before. -/
structure Blocks (Z K W X : ℕ → ℕ → EReal) (n : ℕ) (x0 : Vec Ideal S512x3072 .bf16) (x1 x2 : Vec Ideal S16x1024 .bf16)
    (x3 : Vec Ideal S3x1024 .f32) (x4 : Vec Ideal S1024x1024 .bf16) (x5 : Vec Ideal S512x1024 .f32) : Prop where
  h0 : ∀ (r : Fin 512) (j : Fin 3072), x0 (ix2 r j) = Z (512 * n + r) j
  h1 : ∀ (r : Fin 16) (j : Fin 1024), 0 < n → x1 (ix2 r j) = Z (512 * n + r - 16) (1024 + j)
  h2 : ∀ (r : Fin 16) (j : Fin 1024), 0 < n → x2 (ix2 r j) = Z (512 * n + r - 16) (2048 + j)
  h3 : ∀ (r : Fin 3) (j : Fin 1024), x3 (ix2 r j) = K r j
  h4 : ∀ (r j : Fin 1024), x4 (ix2 r j) = W r j
  h5 : ∀ (r : Fin 512) (j : Fin 1024), x5 (ix2 r j) = X (512 * n + r) j
  hn : n < 8

/-- The convolution's input over the sixteen rows before the tile and the tile. -/
def ext (i : grid0.Coords) (v0 : Vec Ideal S512x3072 .bf16) (v3 v5 : Vec Ideal S16x1024 .bf16) : FVec Ideal S528x1024 .f32 :=
  concatenate S528x1024 0 [⟨S16x1024, Scalar.select (Scalar.cmpi .sgt (BitVec.ofNat 32 (i 0).val) 0#32)
      (mulf (extf .f32 v3 bitsLt_bf16_f32) (extf .f32 v5 bitsLt_bf16_f32))
      (broadcast S16x1024 (Scalar.ofBits (F := Ideal) .f32 0x00000000#32))⟩,
    ⟨S512x1024, mulf
      (extractStridedSlice S512x1024 ![0, 1024] (extf .f32 v0 bitsLt_bf16_f32) slices_S512x3072_o0_1024_S512x1024)
      (extractStridedSlice S512x1024 ![0, 2048] (extf .f32 v0 bitsLt_bf16_f32) slices_S512x3072_o0_2048_S512x1024)⟩]
    concatenates_S16x1024_S512x1024_S528x1024_d0

/-- The gated convolution over that input. -/
theorem pay3_ext (i : grid0.Coords) (v0 : Vec Ideal S512x3072 .bf16) (v3 v5 : Vec Ideal S16x1024 .bf16)
    (v14 v15 v16 : Vec Ideal S1x1024 .f32) : k0_pay3 i v0 v3 v5 v14 v15 v16
      = truncf .bf16 (mulf (extractStridedSlice S512x1024 ![0, 0] (extf .f32 v0 bitsLt_bf16_f32) slices_S512x3072_o0_0_S512x1024)
        (addf (addf (mulf (broadcastTo S512x1024 v16 broadcasts_S1x1024_S512x1024)
            (extractStridedSlice S512x1024 ![16, 0] (ext i v0 v3 v5) slices_S528x1024_o16_0_S512x1024))
          (mulf (broadcastTo S512x1024 v15 broadcasts_S1x1024_S512x1024) (extractStridedSlice S512x1024 ![16, 0]
            (dynamicRotate 0 1#32 none (ext i v0 v3 v5) rotates_S528x1024_d0) slices_S528x1024_o16_0_S512x1024)))
          (mulf (broadcastTo S512x1024 v14 broadcasts_S1x1024_S512x1024) (extractStridedSlice S512x1024 ![16, 0]
            (dynamicRotate 0 2#32 none (ext i v0 v3 v5) rotates_S528x1024_d0) slices_S528x1024_o16_0_S512x1024))))
        bitsLt_bf16_f32 := rfl

variable {Z K W X : ℕ → ℕ → EReal} {i : grid0.Coords} {x0 : Vec Ideal S512x3072 .bf16} {x1 x2 : Vec Ideal S16x1024 .bf16}
  {x3 : Vec Ideal S3x1024 .f32} {x4 : Vec Ideal S1024x1024 .bf16} {x5 : Vec Ideal S512x1024 .f32} {n : ℕ}

/-- Its rows. -/
theorem ext_apply (hi : (i 0).val = n) (h : Blocks Z K W X n x0 x1 x2 x3 x4 x5) (r : Fin 528) (j : Fin 1024) :
    ext i x0 x1 x2 (ix2 r j) = back Z 16 (512 * n + r) j := by
  pointwise [ext]
  generalize hA : BitVec.ofNat 32 _ = a
  have c : Scalar.cmpi .sgt a 0#32 = 1#1 ↔ 0 < n := by rw [← hA]; subst hi; exact sgt_zero _ h.hn
  unfold back p
  split
  · refine (select_iff c _ _).trans ?_
    by_cases hp : 0 < n
    · rw [if_pos hp, if_pos (by omega)]
      exact congrArg₂ (· * ·) (h.h1 _ j hp) (h.h2 _ j hp)
    · rw [if_neg hp, if_neg (by omega)]
  · rename_i hr
    have e : 512 * n + (r.val - 16) = 512 * n + r.val - 16 := by omega
    refine (congrArg₂ (· * ·) (h.h0 _ _) (h.h0 _ _)).trans ?_
    exact (congrArg (fun t => Z t (1024 + j) * Z t (2048 + j)) e).trans
      (if_pos (show 16 ≤ 512 * n + r.val by omega)).symm

/-- A row of the taps. -/
theorem tap (h : Blocks Z K W X n x0 x1 x2 x3 x4 x5) (k : ℕ) (hk : ∀ a, (![k, 0] : Fin 2 → ℕ) a + S1x1024.size a ≤ S3x1024.size a)
    (j : Fin 1024) : View.ld x3 (Rect.unit ![k, 0] S1x1024.size hk) (ix2 0 j) = K k j := by
  have hk3 : k < 3 := by have := hk 0; simpa using this
  refine (View.ld_unit_apply_of (S := S3x1024) x3 ![k, 0] S1x1024.size hk (ix2 0 j) (ix2 ⟨k, hk3⟩ j) (fun a => match a with
    | ⟨0, _⟩ => rfl
    | ⟨1, _⟩ => by show j.val = 0 + j.val; omega)).trans (h.h3 _ _)

/-- The gated convolution's entries on the tile. -/
theorem pay3_apply (hi : (i 0).val = n) (h : Blocks Z K W X n x0 x1 x2 x3 x4 x5) (v14 v15 v16 : Vec Ideal S1x1024 .f32)
    (e0 : ∀ j, v14 (ix2 0 j) = K 0 j) (e1 : ∀ j, v15 (ix2 0 j) = K 1 j) (e2 : ∀ j, v16 (ix2 0 j) = K 2 j)
    (r : Fin 512) (j : Fin 1024) : k0_pay3 i x0 x1 x2 v14 v15 v16 (ix2 r j) = gated Z K (512 * n + r) j := by
  rw [pay3_ext]
  generalize hE : ext i x0 x1 x2 = E
  have he : ∀ (r : Fin 528) (j : Fin 1024), E (ix2 r j) = back Z 16 (512 * n + r) j := fun r j => by
    rw [← hE]; exact ext_apply hi h r j
  pointwise []
  unfold gated q
  refine congrArg₂ (· * ·) (h.h0 _ _) (congrArg₂ (· + ·) (congrArg₂ (· + ·) (congrArg₂ (· * ·) (e2 j) ?_)
    (congrArg₂ (· * ·) (e1 j) ?_)) (congrArg₂ (· * ·) (e0 j) ?_))
  · refine (he _ _).trans (Eq.trans ?_ ((back_back (Z := Z) 0 (512 * n + r.val) j (by omega) (by omega)).trans (if_pos (Nat.zero_le _))))
    congr 1; show 512 * n + (16 + r.val) = _; omega
  · refine (he _ _).trans (Eq.trans ?_ (back_back (Z := Z) 1 (512 * n + r.val) j (by omega) (by omega)))
    congr 1; show 512 * n + (16 + r.val + 528 - 1) % 528 = _; omega
  · refine (he _ _).trans (Eq.trans ?_ (back_back (Z := Z) 2 (512 * n + r.val) j (by omega) (by omega)))
    congr 1; show 512 * n + (16 + r.val + 528 - 2) % 528 = _; omega

/-- The gated convolution, as the body names it. -/
theorem pay4_apply (hi : (i 0).val = n) (h : Blocks Z K W X n x0 x1 x2 x3 x4 x5) (x6 : Vec Ideal S1x1024 .f32)
    (r : Fin 512) (j : Fin 1024) : k0_pay4 i x0 x1 x2 x3 x4 x5 x6 (ix2 r j) = gated Z K (512 * n + r) j := by
  unfold k0_pay4
  rw [View.ld_unit_zero (S := S512x3072) Mat.hz2, View.ld_unit_zero (S := S16x1024) Mat.hz2, View.ld_unit_zero (S := S16x1024) Mat.hz2]
  exact pay3_apply hi h _ _ _ (tap h 0 _) (tap h 1 _) (tap h 2 _) r j

/-- What a grid point leaves in the first output's block. -/
theorem out7_apply (hi : (i 0).val = n) (h : Blocks Z K W X n x0 x1 x2 x3 x4 x5) (x6 : Vec Ideal S1x1024 .f32)
    (y : S512x1024.Idx) : out0_7 i x0 x1 x2 x3 x4 x5 x6 y = gated Z K (512 * n + (y 0).val) (y 1).val := by
  unfold out0_7
  rw [View.canon_unit_zero (S := S512x1024) Mat.hz2]
  obtain ⟨r, j, rfl⟩ := Mat.ix2_of y
  exact pay4_apply hi h x6 r j

/-- The residual stream's entries on the tile. -/
theorem pay1_apply (h : Blocks Z K W X n x0 x1 x2 x3 x4 x5) (v : FVec Ideal S512x1024 .bf16)
    (hv : ∀ (r : Fin 512) (j : Fin 1024), v (ix2 r j) = gated Z K (512 * n + r) j) (r : Fin 512) (j : Fin 1024) :
    k0_pay1 v x5 x4 (ix2 r j) = row Z K W X (512 * n + r) j := by
  pointwise [k0_pay1]
  unfold row
  exact congrArg₂ (· + ·) (h.h5 r j) (Finset.sum_congr rfl fun k _ => congrArg₂ (· * ·) (hv r k) (h.h4 k j))

/-- What a grid point leaves in the second output's block. -/
theorem out8_apply (hi : (i 0).val = n) (h : Blocks Z K W X n x0 x1 x2 x3 x4 x5) (x6 : Vec Ideal S1x1024 .f32)
    (y : S512x1024.Idx) : out0_8 i x0 x1 x2 x3 x4 x5 x6 y = row Z K W X (512 * n + (y 0).val) (y 1) := by
  unfold out0_8
  rw [View.canon_unit_zero (S := S512x1024) Mat.hz2, View.ld_unit_zero (S := S512x1024) Mat.hz2, View.ld_unit_zero (S := S1024x1024) Mat.hz2]
  obtain ⟨r, j, rfl⟩ := Mat.ix2_of y
  exact pay1_apply h _ (pay4_apply hi h x6) r j

/-- What a grid point leaves in the third output's block. -/
theorem out9_apply (hi : (i 0).val = n) (h : Blocks Z K W X n x0 x1 x2 x3 x4 x5) (x6 : Vec Ideal S1x1024 .f32)
    (y : S512x1024.Idx) : out0_9 i x0 x1 x2 x3 x4 x5 x6 y
      = Ffn.normed (row Z K W X (512 * n + (y 0).val)) (fun q => x6 (ix2 0 q)) (y 1) := by
  unfold out0_9
  rw [View.canon_unit_zero (S := S512x1024) Mat.hz2, View.ld_unit_zero (S := S512x1024) Mat.hz2,
    View.ld_unit_zero (S := S1024x1024) Mat.hz2, View.ld_unit_zero (S := S1x1024) Mat.hz2]
  obtain ⟨r, j, rfl⟩ := Mat.ix2_of y
  have e := pay1_apply h _ (pay4_apply hi h x6) r
  pointwise [k0_pay2]
  simp only [e]
  rfl

variable (m : (ℓ : Loc nD τ sig) → Buf (Elt Ideal) ℓ) (c : Dev nD)

/-- The combined projection, as launched. -/
def mZ : ℕ → ℕ → EReal := at2 (R := 4096) (C := 3072) (m ((c : Thread nD τ).loc main_arg0))
/-- The taps. -/
def mK : ℕ → ℕ → EReal := at2 (R := 3) (C := 1024) (m ((c : Thread nD τ).loc main_arg1))
/-- The output projection. -/
def mW : ℕ → ℕ → EReal := at2 (R := 1024) (C := 1024) (m ((c : Thread nD τ).loc main_arg2))
/-- The residual stream. -/
def mX : ℕ → ℕ → EReal := at2 (R := 4096) (C := 1024) (m ((c : Thread nD τ).loc main_arg3))

/-- Where the windows' blocks begin, at each grid point. -/
theorem index_facts : ∀ t : Fin grid0.N,
    win0_0.index t 0 = t.val ∧ win0_0.index t 1 = 0
    ∧ (0 < t.val → win0_1.index t 0 = 32 * t.val - 1) ∧ win0_1.index t 1 = 1
    ∧ (0 < t.val → win0_2.index t 0 = 32 * t.val - 1) ∧ win0_2.index t 1 = 2
    ∧ win0_3.index t 0 = 0 ∧ win0_3.index t 1 = 0 ∧ win0_4.index t 0 = 0 ∧ win0_4.index t 1 = 0
    ∧ win0_5.index t 0 = t.val ∧ win0_5.index t 1 = 0 ∧ win0_6.index t 0 = 0 ∧ win0_6.index t 1 = 0
    ∧ win0_7.index t 0 = t.val ∧ win0_7.index t 1 = 0 ∧ win0_8.index t 0 = t.val ∧ win0_8.index t 1 = 0
    ∧ win0_9.index t 0 = t.val ∧ win0_9.index t 1 = 0 ∧ (grid0.coords t 0).val = t.val := by decide +kernel

theorem coord (t : Fin cfg0.N) : (grid0.coords t 0).val = t.val := by
  have hx := index_facts t
  omega

/-- The blocks the body reads at point `t` hold the arguments' rows. -/
theorem blocks (t : Fin cfg0.N) : Blocks (mZ m c) (mK m c) (mW m c) (mX m c) t.val (iblk m c 0 t) (iblk m c 1 t)
    (iblk m c 2 t) (iblk m c 3 t) (iblk m c 4 t) (iblk m c 5 t) := by
  have hx := index_facts t
  have hN : t.val < 8 := lt_of_lt_of_eq t.isLt N_0
  constructor
  case hn => exact hN
  case h0 =>
    intro r j
    refine at2_of (m ((c : Thread nD τ).loc main_arg0)) _ _ _ ?_ ?_
    · show win0_0.index t 0 * 512 + 1 * r.val = _; omega
    · show win0_0.index t 1 * 3072 + 1 * j.val = _; omega
  case h1 =>
    intro r j h
    refine at2_of (m ((c : Thread nD τ).loc main_arg0)) _ _ _ ?_ ?_
    · show win0_1.index t 0 * 16 + 1 * r.val = _; omega
    · show win0_1.index t 1 * 1024 + 1 * j.val = _; omega
  case h2 =>
    intro r j h
    refine at2_of (m ((c : Thread nD τ).loc main_arg0)) _ _ _ ?_ ?_
    · show win0_2.index t 0 * 16 + 1 * r.val = _; omega
    · show win0_2.index t 1 * 1024 + 1 * j.val = _; omega
  case h3 =>
    intro r j
    refine at2_of (m ((c : Thread nD τ).loc main_arg1)) _ _ _ ?_ ?_
    · show win0_3.index t 0 * 3 + 1 * r.val = _; omega
    · show win0_3.index t 1 * 1024 + 1 * j.val = _; omega
  case h4 =>
    intro r j
    refine at2_of (m ((c : Thread nD τ).loc main_arg2)) _ _ _ ?_ ?_
    · show win0_4.index t 0 * 1024 + 1 * r.val = _; omega
    · show win0_4.index t 1 * 1024 + 1 * j.val = _; omega
  case h5 =>
    intro r j
    refine at2_of (m ((c : Thread nD τ).loc main_arg3)) _ _ _ ?_ ?_
    · show win0_5.index t 0 * 512 + 1 * r.val = _; omega
    · show win0_5.index t 1 * 1024 + 1 * j.val = _; omega

/-- The first result, of the arguments as launched. -/
def gr : Vec Ideal S4096x1024 .bf16 := fun i => gated (mZ m c) (mK m c) (i 0).val (i 1).val
/-- The second result. -/
def gx : Vec Ideal S4096x1024 .f32 := fun i => row (mZ m c) (mK m c) (mW m c) (mX m c) (i 0).val (i 1)
/-- The third result. -/
def gh : Vec Ideal S4096x1024 .bf16 := fun i => Ffn.normed (row (mZ m c) (mK m c) (mW m c) (mX m c) (i 0).val)
  (fun q => m ((c : Thread nD τ).loc main_arg4) (ix2 (⟨0, by decide⟩ : Fin 1) q)) (i 1)

/-- Every point writes back its block of the first result. -/
theorem flushed7 (t : Fin cfg0.N) (_ : (cfg0.win 7).flush t = true) :
    (dats m 0 c).flushed 7 t = ((cfg0.win 7).blk t).view.read (Elt Ideal) (gr m c) := by
  rw [Value.flushed7]
  have hx := index_facts t
  funext y
  refine (out7_apply (coord t) (blocks m c t) _ y).trans ?_
  show _ = gr m c _
  unfold gr
  refine congrArg₂ (gated _ _) ?_ ?_
  · show 512 * t.val + (y 0).val = win0_7.index t 0 * 512 + 1 * (y 0).val; omega
  · show (y 1).val = win0_7.index t 1 * 1024 + 1 * (y 1).val; omega

/-- Every point writes back its block of the second result. -/
theorem flushed8 (t : Fin cfg0.N) (_ : (cfg0.win 8).flush t = true) :
    (dats m 0 c).flushed 8 t = ((cfg0.win 8).blk t).view.read (Elt Ideal) (gx m c) := by
  rw [Value.flushed8]
  have hx := index_facts t
  funext y
  refine (out8_apply (coord t) (blocks m c t) _ y).trans ?_
  show _ = gx m c _
  unfold gx
  refine congrArg₂ (row _ _ _ _) ?_ (Fin.ext ?_)
  · show 512 * t.val + (y 0).val = win0_8.index t 0 * 512 + 1 * (y 0).val; omega
  · show (y 1).val = win0_8.index t 1 * 1024 + 1 * (y 1).val; omega

/-- Every point writes back its block of the third result. -/
theorem flushed9 (t : Fin cfg0.N) (_ : (cfg0.win 9).flush t = true) :
    (dats m 0 c).flushed 9 t = ((cfg0.win 9).blk t).view.read (Elt Ideal) (gh m c) := by
  rw [Value.flushed9]
  have hx := index_facts t
  funext y
  refine (out9_apply (coord t) (blocks m c t) _ y).trans ?_
  show _ = gh m c _
  unfold gh
  refine (congrFun (congrArg₂ Ffn.normed (congrArg (row _ _ _ _) ?_)
    (funext fun q => congrArg (m ((c : Thread nD τ).loc main_arg4)) (funext fun a => Fin.ext ?_))) _).trans
    (congrArg _ (Fin.ext ?_))
  · show 512 * t.val + (y 0).val = win0_9.index t 0 * 512 + 1 * (y 0).val; omega
  · match a with
    | ⟨0, _⟩ => show win0_6.index t 0 * 1 + 1 * 0 = 0; omega
    | ⟨1, _⟩ => show win0_6.index t 1 * 1024 + 1 * q.val = q.val; omega
  · show (y 1).val = win0_9.index t 1 * 1024 + 1 * (y 1).val; omega

/-- So the first result's array ends holding the gated convolution. -/
theorem final7 : (dats m 0 c).arrAt 7 cfg0.N = gr m c :=
  (dats m 0 c).arrAt_eq_of_cover 7 (gr m c) (flushed7 m c) fun i => by
    have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    refine ⟨⟨(i 0 : Nat) / 512, hN⟩, flush0_7 _, ?_⟩
    have hx := index_facts ⟨(i 0 : Nat) / 512, hN⟩
    dsimp only at hx
    show i ∈ ((View.whole main_v0_0).slice (win0_7.rect ⟨(i 0 : Nat) / 512, hN⟩)).set
    rw [View.set_slice_whole, Rect.mem_set_unit]
    intro a
    match a with
    | ⟨0, _⟩ => show Mat.In (win0_7.index ⟨(i 0 : Nat) / 512, hN⟩ 0) 512 (i 0); omega
    | ⟨1, _⟩ => show Mat.In (win0_7.index ⟨(i 0 : Nat) / 512, hN⟩ 1) 1024 (i 1); omega

/-- The second result's array ends holding the residual stream. -/
theorem final8 : (dats m 0 c).arrAt 8 cfg0.N = gx m c :=
  (dats m 0 c).arrAt_eq_of_cover 8 (gx m c) (flushed8 m c) fun i => by
    have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    refine ⟨⟨(i 0 : Nat) / 512, hN⟩, flush0_8 _, ?_⟩
    have hx := index_facts ⟨(i 0 : Nat) / 512, hN⟩
    dsimp only at hx
    show i ∈ ((View.whole main_v0_1).slice (win0_8.rect ⟨(i 0 : Nat) / 512, hN⟩)).set
    rw [View.set_slice_whole, Rect.mem_set_unit]
    intro a
    match a with
    | ⟨0, _⟩ => show Mat.In (win0_8.index ⟨(i 0 : Nat) / 512, hN⟩ 0) 512 (i 0); omega
    | ⟨1, _⟩ => show Mat.In (win0_8.index ⟨(i 0 : Nat) / 512, hN⟩ 1) 1024 (i 1); omega

/-- The third result's array ends holding its norm. -/
theorem final9 : (dats m 0 c).arrAt 9 cfg0.N = gh m c :=
  (dats m 0 c).arrAt_eq_of_cover 9 (gh m c) (flushed9 m c) fun i => by
    have h0 : (i 0 : Nat) < 4096 := (i 0).isLt
    have h1 : (i 1 : Nat) < 1024 := (i 1).isLt
    have hN : (i 0 : Nat) / 512 < cfg0.N := lt_of_lt_of_eq (by omega : (i 0 : Nat) / 512 < 8) N_0.symm
    refine ⟨⟨(i 0 : Nat) / 512, hN⟩, flush0_9 _, ?_⟩
    have hx := index_facts ⟨(i 0 : Nat) / 512, hN⟩
    dsimp only at hx
    show i ∈ ((View.whole main_v0_2).slice (win0_9.rect ⟨(i 0 : Nat) / 512, hN⟩)).set
    rw [View.set_slice_whole, Rect.mem_set_unit]
    intro a
    match a with
    | ⟨0, _⟩ => show Mat.In (win0_9.index ⟨(i 0 : Nat) / 512, hN⟩ 0) 512 (i 0); omega
    | ⟨1, _⟩ => show Mat.In (win0_9.index ⟨(i 0 : Nat) / 512, hN⟩ 1) 1024 (i 1); omega

section
open Cert.Reference13Ideal.Read
variable (x0 : Vec Ideal S4096x3072 .bf16) (x1 : Vec Ideal S3x1024 .f32) (x2 : Vec Ideal S1024x1024 .bf16)
  (x3 : Vec Ideal S4096x1024 .f32)

/-- The host's convolution input with two zero rows before it. -/
theorem padded_at (r : Fin 4098) (j : Fin 1024) :
    val_main_v6 (F := Ideal) x0 (ix2 r j) = back (at2 (R := 4096) (C := 3072) x0) 2 r j := by
  pointwise [val_main_v6, val_main_v5, val_main_cst, val_main_v4, val_main_v3, val_main_v2, val_main_v0]
  unfold back p
  split
  · exact (if_neg (by omega)).symm
  · exact (congrArg₂ (· * ·) (at2_ix (R := 4096) (C := 3072) x0 _ _) (at2_ix (R := 4096) (C := 3072) x0 _ _)).trans
      (if_pos (show 2 ≤ r.val by omega)).symm

/-- Rows of it, numbered from a later row. -/
theorem later (r : Fin 4098) (s t : ℕ) (hs : s ≤ 2) (h : r.val + s = 2 + t) (j : Fin 1024) :
    val_main_v6 (F := Ideal) x0 (ix2 r j) = back (at2 (R := 4096) (C := 3072) x0) s t j :=
  (padded_at x0 r j).trans (by
    unfold back
    by_cases hc : s ≤ t
    · rw [if_pos (by omega), if_pos hc]; congr 1; omega
    · rw [if_neg (by omega), if_neg hc])

/-- The host's gated convolution, entry by entry. -/
theorem gated_at (r : Fin 4096) (j : Fin 1024) : val_main_v23 (F := Ideal) x0 x1 (ix2 r j)
    = gated (at2 (R := 4096) (C := 3072) x0) (at2 (R := 3) (C := 1024) x1) r j := by
  pointwise [val_main_v23, val_main_v22, val_main_v21, val_main_v20, val_main_v19, val_main_v18, val_main_v17,
    val_main_v16, val_main_v15, val_main_v14, val_main_v13, val_main_v12, val_main_v11, val_main_cst_0, val_main_v10,
    val_main_v9, val_main_v8, val_main_v7, val_main_v1, val_main_v0]
  unfold gated
  refine congrArg₂ (· * ·) (at2_ix (R := 4096) (C := 3072) x0 _ _) ?_
  refine Eq.trans (congrArg₂ (· + ·) (congrArg₂ (· + ·)
    (congrArg₂ (· * ·) (at2_ix (R := 3) (C := 1024) x1 0 j) (later x0 _ 2 r.val (by omega) (by show r.val + 2 = 2 + r.val; omega) j))
    (congrArg₂ (· * ·) (at2_ix (R := 3) (C := 1024) x1 1 j) (later x0 _ 1 r.val (by omega) (by show 1 + r.val + 1 = 2 + r.val; omega) j)))
    (congrArg₂ (· * ·) (at2_ix (R := 3) (C := 1024) x1 2 j)
      ((later x0 _ 0 r.val (by omega) (by show 2 + r.val + 0 = 2 + r.val; omega) j).trans (if_pos (Nat.zero_le _))))) ?_
  unfold q
  exact (add_comm _ _).trans ((congrArg (_ + ·) (add_comm _ _)).trans (add_assoc _ _ _).symm)

/-- The host's residual stream, entry by entry. -/
theorem stream_at (t : Fin 4096) (n : Fin 1024) : val_main_v26 (F := Ideal) x0 x1 x2 x3 (ix2 t n)
    = row (at2 (R := 4096) (C := 3072) x0) (at2 (R := 3) (C := 1024) x1) (at2 (R := 1024) (C := 1024) x2)
      (at2 (R := 4096) (C := 1024) x3) t n := by
  unfold row
  pointwise [val_main_v26, val_main_v25, val_main_v24]
  exact congrArg₂ (· + ·) (at2_ix (R := 4096) (C := 1024) x3 t n) (Finset.sum_congr rfl fun k _ =>
    congrArg₂ (· * ·) (gated_at x0 x1 t k) (at2_ix (R := 1024) (C := 1024) x2 k n))

/-- The host's norm of it, entry by entry. -/
theorem scaled_at (x4 : Vec Ideal S1x1024 .f32) (t : Fin 4096) (n : Fin 1024) :
    val_main_v40 (F := Ideal) x0 x1 x2 x3 x4 (ix2 t n)
      = Ffn.normed (row (at2 (R := 4096) (C := 3072) x0) (at2 (R := 3) (C := 1024) x1) (at2 (R := 1024) (C := 1024) x2)
        (at2 (R := 4096) (C := 1024) x3) t) (fun q => x4 (ix2 0 q)) n := by
  pointwise [val_main_v40, val_main_v39, val_main_v38, val_main_v37, val_main_v36, val_main_v35, val_main_v34,
    val_main_v33, val_main_v32, val_main_v31, val_main_v30, val_main_v29, val_main_v28, val_main_cst_1, val_main_cst_2,
    val_main_cst_3]
  simp only [stream_at]
  rfl
end

/-- The host's run leaves no counter raised and keeps its arguments. -/
theorem host_frame : Cert.quiescent_Reference13Ideal := fun m g _ =>
  (θ_run _ _ _).mono (fun r h => ⟨fun c => (h c).2.2.2, Idealize.ShloMosaic.sem_eq_zero_of_no_sems (by decide) r.2⟩)
    (Cert.Reference13Ideal.Value.run (F := Ideal) m g)

/-- The three results of the kernel's idealization are the host's, entry by entry, for every argument. -/
theorem values : Cert.algebraic_Kernel13Ideal_Reference13Ideal := by
  intro m g m' g' _ hag
  refine ⟨fun c => gr m c, fun c => gx m c, fun c => gh m c, ?_, ?_⟩
  · exact (θ_run _ _ _).mono (fun r h c => ⟨(h c).1.trans (final7 m c), (h c).2.1.trans (final8 m c),
      (h c).2.2.1.trans (final9 m c), (h c).2.2.2⟩) (Cert.Kernel13Ideal.Value.run_blocks (F := Ideal) m g)
  · refine (θ_run _ _ _).mono (fun r h c => ⟨(h c).1.trans ?_, (h c).2.1.trans ?_, (h c).2.2.1.trans ?_, (h c).2.2.2⟩)
      (Cert.Reference13Ideal.Value.run (F := Ideal) m' g')
    all_goals obtain ⟨h0, h1, h2, h3, h4⟩ := hag c
    · refine (Cert.Reference13Ideal.Read.val_main_v27_eq (F := Ideal) _ _).trans ?_
      rw [h0, h1]
      funext i
      exact (congrArg _ (eq_ix2 i)).trans (gated_at _ _ _ _)
    · refine (Cert.Reference13Ideal.Read.val_main_v26_eq (F := Ideal) _ _ _ _).trans ?_
      rw [h0, h1, h2, h3]
      funext i
      exact (congrArg _ (eq_ix2 i)).trans (stream_at _ _ _ _ _ _)
    · refine (Cert.Reference13Ideal.Read.val_main_v40_eq (F := Ideal) _ _).trans ?_
      rw [h0, h1, h2, h3, h4]
      funext i
      exact (congrArg _ (eq_ix2 i)).trans (scaled_at _ _ _ _ _ _ _)

end Cert.CFwd

end
-- ==== Proof.CopyRing.lean ====
/-
  Eight chunks of 512 rows copied through three slots, three chunks of each of two operands on their way at any time:
  the names of the chunks, slots and semaphores, what is held between two trips, and one trip's change of it.
-/
module

public import proofs.«01_k».proof.Proof.Spec
public import Idealize.ShloMosaic.Lib.Pipeline.FrameBody
public import Idealize.ShloMosaic.Lib.Ring
public import Idealize.ShloMosaic.Lib.Tactic

@[expose] public section

set_option maxRecDepth 16384

noncomputable section

namespace Cert.CopyRing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Names: chunk `b` of an operand, slot `s` of a buffer, slot `s`'s semaphores -/

abbrev Rows (n : ℕ) : Shape := ⟨2, ![4096, n]⟩
abbrev Chunk (n : ℕ) : Shape := ⟨2, ![512, n]⟩
abbrev Bufs (n : ℕ) : Shape := ⟨3, ![3, 512, n]⟩
abbrev Slot (n : ℕ) : Shape := ⟨3, ![1, 512, n]⟩
abbrev Cells : Shape := ⟨2, ![2, 3]⟩
abbrev Cell : Shape := ⟨2, ![1, 1]⟩
abbrev Unit0 : Shape := ⟨0, ![]⟩

abbrev rowOff (b : Fin 8) : Fin 2 → Nat := ![512 * b.val, 0]
abbrev bufOff (s : Fin 3) : Fin 3 → Nat := ![s.val, 0, 0]
abbrev semOff (r : Fin 2) (s : Fin 3) : Fin 2 → Nat := ![r.val, s.val]
theorem row_inb (n : ℕ) (b : Fin 8) : ∀ a, rowOff b a + (Chunk n).size a ≤ (Rows n).size a
  | ⟨0, _⟩ => by have := b.isLt; show 512 * b.val + 512 ≤ 4096; omega
  | ⟨1, _⟩ => by show 0 + n ≤ n; omega
theorem buf_inb (n : ℕ) (s : Fin 3) : ∀ a, bufOff s a + (Slot n).size a ≤ (Bufs n).size a
  | ⟨0, _⟩ => by have := s.isLt; show s.val + 1 ≤ 3; omega
  | ⟨1, _⟩ => by show 0 + 512 ≤ 512; omega
  | ⟨2, _⟩ => by show 0 + n ≤ n; omega
theorem sem_inb (r : Fin 2) (s : Fin 3) : ∀ a, semOff r s a + Cell.size a ≤ Cells.size a := by revert r s; decide

section Names
variable {sig : RefSig} {n : ℕ}

/-- Chunk `b` of an operand. -/
def chunk (M : Memref sig .tc .hbm (Rows n) .bf16) (b : Fin 8) : Memref sig .tc .hbm (Chunk n) .bf16 :=
  M.slice (Rect.unit (s := Rows n) (rowOff b) (Chunk n).size (row_inb n b)) (fun _ => rfl)
/-- Slot `s` of a buffer. -/
def slot (B : Memref sig .tc .vmem (Bufs n) .bf16) (hq : (Slot n).Squeezes (Chunk n)) (s : Fin 3) : Memref sig .tc .vmem (Chunk n) .bf16 :=
  (B.slice (Rect.unit (s := Bufs n) (bufOff s) (Slot n).size (buf_inb n s)) (fun _ => rfl)).squeeze (Chunk n) hq
/-- Slot `s`'s semaphore: row 0 the first operand's, row 1 the second's. -/
def dsem (A : DmaSems sig Cells) (hq : Cell.Squeezes Unit0) (r : Fin 2) (s : Fin 3) : DmaSems sig Unit0 :=
  (A.slice (Rect.unit (s := Cells) (semOff r s) Cell.size (sem_inb r s))).squeeze Unit0 hq

/-- The offsets are chunk `b`'s, slot `s`'s, semaphore `(r, s)`'s. -/
class IsRow (off : Fin 2 → Nat) (b : outParam (Fin 8)) : Prop where eq : off = rowOff b
class IsBuf (off : Fin 3 → Nat) (s : outParam (Fin 3)) : Prop where eq : off = bufOff s
class IsSem (off : Fin 2 → Nat) (r : outParam (Fin 2)) (s : outParam (Fin 3)) : Prop where eq : off = semOff r s

instance (s : Fin 3) : ClosedOff (bufOff s) := ⟨bufOff s, rfl⟩
instance (b : Fin 8) : ClosedOff (rowOff b) := ⟨rowOff b, rfl⟩
instance : IsRow ![0, 0] 0 := ⟨by decide⟩
instance : IsRow ![512, 0] 1 := ⟨by decide⟩
instance : IsRow ![1024, 0] 2 := ⟨by decide⟩
instance : IsBuf ![0, 0, 0] 0 := ⟨by decide⟩
instance : IsBuf ![1, 0, 0] 1 := ⟨by decide⟩
instance : IsBuf ![2, 0, 0] 2 := ⟨by decide⟩
instance : IsSem ![0, 0] 0 0 := ⟨by decide⟩
instance : IsSem ![0, 1] 0 1 := ⟨by decide⟩
instance : IsSem ![0, 2] 0 2 := ⟨by decide⟩
instance : IsSem ![1, 0] 1 0 := ⟨by decide⟩
instance : IsSem ![1, 1] 1 1 := ⟨by decide⟩
instance : IsSem ![1, 2] 1 2 := ⟨by decide⟩

@[sl_canon] theorem chunk_eq (M : Memref sig .tc .hbm (Rows n) .bf16) {off : Fin 2 → Nat} {b : Fin 8} [h : IsRow off b] (hh hs) :
    M.slice (Rect.unit (s := Rows n) off (Chunk n).size hh) hs = chunk M b := Memref.slice_unit_congr _ h.eq _ _ _ (fun _ => rfl)
@[sl_canon] theorem slot_eq (B : Memref sig .tc .vmem (Bufs n) .bf16) {off : Fin 3 → Nat} {s : Fin 3} [h : IsBuf off s] (hh hs hq) :
    (B.slice (Rect.unit (s := Bufs n) off (Slot n).size hh) hs).squeeze (Chunk n) hq = slot B hq s :=
  congrArg (fun M : Memref sig .tc .vmem (Slot n) .bf16 => M.squeeze (Chunk n) hq) (Memref.slice_unit_congr _ h.eq _ _ _ _)
@[sl_canon] theorem dsem_eq (A : DmaSems sig Cells) {off : Fin 2 → Nat} {r : Fin 2} {s : Fin 3} [h : IsSem off r s] (hh hq) :
    (A.slice (Rect.unit (s := Cells) off Cell.size hh)).squeeze Unit0 hq = dsem A hq r s :=
  congrArg (fun A : DmaSems sig Cell => A.squeeze Unit0 hq) (SemArray.slice_unit_congr _ h.eq _ _)

end Names

/-! ## The pieces -/

section Pieces
variable {nD : ℕ} {τ : Topo} {sig : RefSig} {F : FTy → Type} [FloatOps F] {n : ℕ}
local notation "𝕄" => MT nD τ sig Unit (Elt F) ℕ (Pipeline.UD sig nD τ) ℕ
variable (c : Dev nD) (M : Memref sig .tc .hbm (Rows n) .bf16) (X : Buf (Elt F) (M.view.loc (c : Thread nD τ)))
  (B : Memref sig .tc .vmem (Bufs n) .bf16) (hq : (Slot n).Squeezes (Chunk n)) (A : DmaSems sig Cells) (hc : Cell.Squeezes Unit0)
  (r : Fin 2) (N : ℕ) (s : Fin 3) (b : Fin 8)

abbrev cellP : sProp 𝕄 := semVal ((c : Thread nD τ), SemLoc.dma (dsem A hc r s).sem) 0
abbrev slotP (f : Buf (Elt F) ((slot B hq s).view.loc (c : Thread nD τ))) : sProp 𝕄 :=
  (slot B hq s).view.loc (c : Thread nD τ) ↦[(slot B hq s).view.set]{fullShare} f
abbrev homeP : sProp 𝕄 := (chunk M b).view.loc (c : Thread nD τ) ↦[(chunk M b).view.set]{fullShare} X
/-- Chunk `b`'s words. -/
abbrev words : (Chunk n).Idx → Elt F .bf16 := ReadAs.same.apply ((chunk M b).view.read (Elt F) X)
/-- Slot `s` holding chunk `b`. -/
abbrev held : Buf (Elt F) ((slot B hq s).view.loc (c : Thread nD τ)) :=
  (slot B hq s).view.writes (Elt F) (slot B hq s).view.junk [⟨Rect.whole (Chunk n), words c M X b⟩]
/-- Slot `s` on its way with chunk `b`, over contents `f`. -/
abbrev flyP (f : Buf (Elt F) ((slot B hq s).view.loc (c : Thread nD τ))) : sProp 𝕄 :=
  Transfers.Flight countersEmb (c : Thread nD τ) (SemLoc.dma (dsem A hc r s).sem) () N
    iprop(slotP c B hq s ((slot B hq s).view.writes (Elt F) f [⟨Rect.whole (Chunk n), words c M X b⟩]) ∗ homeP c M X b)

/-- A copy started over the words that came before it: it is on its way over them. -/
theorem fly_after (b' : Fin 8) :
    flyP c M X B hq A hc r N s b' (held c M X B hq s b)
      = Transfers.Flight countersEmb (c : Thread nD τ) (SemLoc.dma (dsem A hc r s).sem) () N
          iprop(((slot B hq s).view.loc (c : Thread nD τ) ↦[(slot B hq s).view.set]{fullShare}
              (slot B hq s).view.writes (Elt F) (slot B hq s).view.junk [⟨Rect.whole (Chunk n), words c M X b'⟩, ⟨Rect.whole (Chunk n), words c M X b⟩]) ∗ homeP c M X b') := by
  simp only [flyP, slotP, held, View.writes]

/-- The same elements held under two names. -/
theorem pt_congr {ℓ : Loc nD τ sig} {S T : Finset (Idx ℓ)} (h : S = T) (f : Buf (Elt F) ℓ) :
    (ℓ ↦[S]{fullShare} f : sProp 𝕄) = (ℓ ↦[T]{fullShare} f) := by rw [h]

/-- A buffer whole is its three slots. -/
theorem slots_eq {ℓ : Loc nD τ sig} {J : Fin 3 → Finset (Idx ℓ)} (hd : ∀ s s', s ≠ s' → Disjoint (J s) (J s')) (hc : Finset.univ.biUnion J = Finset.univ)
    {P : Fin 3 → Buf (Elt F) ℓ → sProp 𝕄} (e : ∀ s f, P s f = (ℓ ↦[J s]{fullShare} f)) :
    (iprop(∃ f, ℓ ↦{fullShare} f) : sProp 𝕄) = iprop((∃ f, P 0 f) ∗ (∃ f, P 1 f) ∗ ∃ f, P 2 f) :=
  Entails.antisymm (Ring.slots3_split J hd hc (P 0) (P 1) (P 2) (e 0) (e 1) (e 2)) (Ring.slots3_join J hd hc (P 0) (P 1) (P 2) (e 0) (e 1) (e 2))

/-- Two operands whole are their chunks. -/
theorem homes_eq {ℓ ℓ' : Loc nD τ sig} {G : Fin 8 → Finset (Idx ℓ)} {G' : Fin 8 → Finset (Idx ℓ')} (hd : ∀ b b', b ≠ b' → Disjoint (G b) (G b'))
    (hc : Finset.univ.biUnion G = Finset.univ) (hd' : ∀ b b', b ≠ b' → Disjoint (G' b) (G' b')) (hc' : Finset.univ.biUnion G' = Finset.univ)
    {f : Buf (Elt F) ℓ} {f' : Buf (Elt F) ℓ'} {P P' : Fin 8 → sProp 𝕄} (e : ∀ b, P b = (ℓ ↦[G b]{fullShare} f)) (e' : ∀ b, P' b = (ℓ' ↦[G' b]{fullShare} f')) :
    (iprop((ℓ ↦{fullShare} f) ∗ (ℓ' ↦{fullShare} f')) : sProp 𝕄) = bigSep Finset.univ (fun b => iprop(P b ∗ P' b)) := by
  rw [bigSep_sep', Ring.pointsTo_blocks G hd hc, Ring.pointsTo_blocks G' hd' hc', bigSep_congr fun b _ => e b, bigSep_congr fun b _ => e' b]

end Pieces

/-! ## Chunks and slots as sets of elements -/

section Sets
variable (n : ℕ)

abbrev G (b : Fin 8) : Finset (Rows n).Idx := (Rect.unit (s := Rows n) (rowOff b) (Chunk n).size (row_inb n b)).set
abbrev J (s : Fin 3) : Finset (Bufs n).Idx := (Rect.unit (s := Bufs n) (bufOff s) (Slot n).size (buf_inb n s)).set
theorem row0 (b : Fin 8) : rowOff b 0 = 512 * b.val := rfl
theorem row1 : ∀ (b : Fin 8) (a : Fin 2), a ≠ 0 → rowOff b a = 0 := by decide
theorem buf0 (s : Fin 3) : bufOff s 0 = 1 * s.val := (Nat.one_mul _).symm
theorem buf1 : ∀ (s : Fin 3) (a : Fin 3), a ≠ 0 → bufOff s a = 0 := by decide
theorem G_disj : ∀ b b' : Fin 8, b ≠ b' → Disjoint (G n b) (G n b') := Ring.lead_disjoint (s := Rows n) 0 512 rowOff (Chunk n).size (row_inb n) row0 rfl
theorem G_cover : Finset.univ.biUnion (G n) = Finset.univ :=
  Ring.lead_cover (s := Rows n) 0 512 rowOff (Chunk n).size (row_inb n) row0 row1 rfl
    (fun a h => match a with | ⟨0, _⟩ => absurd rfl h | ⟨1, _⟩ => rfl) rfl
theorem J_disj : ∀ s s' : Fin 3, s ≠ s' → Disjoint (J n s) (J n s') := Ring.lead_disjoint (s := Bufs n) 0 1 bufOff (Slot n).size (buf_inb n) buf0 rfl
theorem J_cover : Finset.univ.biUnion (J n) = Finset.univ :=
  Ring.lead_cover (s := Bufs n) 0 1 bufOff (Slot n).size (buf_inb n) buf0 buf1 rfl
    (fun a h => match a with | ⟨0, _⟩ => absurd rfl h | ⟨1, _⟩ => rfl | ⟨2, _⟩ => rfl) rfl

end Sets

/-! ## One trip -/

section Step
variable {M : Type} [URA M] (home : Fin 8 → sProp M) (fly : Fin 3 → Fin 8 → sProp M) (free : Fin 3 → sProp M)

/-- Chunk `b` before trip `k`: back home, its slot at rest if nothing is to come into it; on its way; or not yet sent. -/
def role (k : ℕ) (b : Fin 8) : sProp M :=
  if b.val < k then iprop(home b ∗ if b.val + 3 < 8 then iprop(emp) else free (Ring.sl 3 b.val))
  else if b.val < k + 3 then fly (Ring.sl 3 b.val) b
  else home b

/-- Two families that differ at one member share the rest. -/
theorem pick_one (Φ Ψ : Fin 8 → sProp M) (b : Fin 8) (h : ∀ x, x ≠ b → Φ x = Ψ x) :
    ∃ R, bigSep Finset.univ Φ = iprop(Φ b ∗ R) ∧ bigSep Finset.univ Ψ = iprop(Ψ b ∗ R) := by
  refine ⟨bigSep (Finset.univ.erase b) Φ, ?_, ?_⟩
  · conv_lhs => rw [← Finset.insert_erase (Finset.mem_univ b), bigSep_insert (Finset.notMem_erase _ _)]
    rfl
  · conv_lhs => rw [← Finset.insert_erase (Finset.mem_univ b), bigSep_insert (Finset.notMem_erase _ _)]
    rw [bigSep_congr fun x hx => h x (Finset.ne_of_mem_erase hx)]
    rfl
/-- Two families that differ at two members share the rest. -/
theorem pick_two (Φ Ψ : Fin 8 → sProp M) (b b' : Fin 8) (hb : b ≠ b') (h : ∀ x, x ≠ b → x ≠ b' → Φ x = Ψ x) :
    ∃ R, bigSep Finset.univ Φ = iprop(Φ b ∗ Φ b' ∗ R) ∧ bigSep Finset.univ Ψ = iprop(Ψ b ∗ Ψ b' ∗ R) := by
  have hm : b' ∈ Finset.univ.erase b := Finset.mem_erase.2 ⟨hb.symm, Finset.mem_univ _⟩
  refine ⟨bigSep ((Finset.univ.erase b).erase b') Φ, ?_, ?_⟩
  · conv_lhs => rw [← Finset.insert_erase (Finset.mem_univ b), bigSep_insert (Finset.notMem_erase _ _), ← Finset.insert_erase hm, bigSep_insert (Finset.notMem_erase _ _)]
    rfl
  · conv_lhs => rw [← Finset.insert_erase (Finset.mem_univ b), bigSep_insert (Finset.notMem_erase _ _), ← Finset.insert_erase hm, bigSep_insert (Finset.notMem_erase _ _)]
    rw [bigSep_congr fun x hx => h x (Finset.ne_of_mem_erase (Finset.mem_of_mem_erase hx)) (Finset.ne_of_mem_erase hx)]
    rfl

/-- A trip takes what is held before it to what is held before the next: `more` is a trip that issues a copy, `last` one of
    the last three; `hw` says that a trip leaves alone what it doesn't touch. -/
theorem step {w : sProp M → sProp M} (hw : ∀ {P Q R S : sProp M}, (P ⊢ w Q) → (iprop(Q ∗ R) ⊢ S) → iprop(P ∗ R) ⊢ w S)
    {k : ℕ} (hk : k < 8) {A A' : sProp M}
    (more : k + 3 < 8 → iprop(A ∗ home (Ring.bk 8 (k + 3)) ∗ fly (Ring.sl 3 k) (Ring.bk 8 k))
      ⊢ w iprop(A' ∗ home (Ring.bk 8 k) ∗ fly (Ring.sl 3 k) (Ring.bk 8 (k + 3))))
    (last : ¬ k + 3 < 8 → iprop(A ∗ fly (Ring.sl 3 k) (Ring.bk 8 k)) ⊢ w iprop(A' ∗ home (Ring.bk 8 k) ∗ free (Ring.sl 3 k))) :
    iprop(A ∗ bigSep Finset.univ (role home fly free k)) ⊢ w iprop(A' ∗ bigSep Finset.univ (role home fly free (k + 1))) := by
  have v0 : (Ring.bk 8 k).val = k := Ring.bk_val hk
  by_cases h3 : k + 3 < 8
  · have v3 : (Ring.bk 8 (k + 3)).val = k + 3 := Ring.bk_val h3
    obtain ⟨R, e0, e1⟩ := pick_two (role home fly free k) (role home fly free (k + 1)) (Ring.bk 8 k) (Ring.bk 8 (k + 3))
      (fun h => by have := congrArg Fin.val h; omega)
      (fun x h0 h3' => by
        have n0 : x.val ≠ k := fun h => h0 (Fin.ext (h.trans v0.symm))
        have n3 : x.val ≠ k + 3 := fun h => h3' (Fin.ext (h.trans v3.symm))
        unfold role
        rw [if_congr (show x.val < k ↔ x.val < k + 1 by omega) rfl rfl, if_congr (show x.val < k + 3 ↔ x.val < k + 1 + 3 by omega) rfl rfl])
    have r00 : role home fly free k (Ring.bk 8 k) = fly (Ring.sl 3 k) (Ring.bk 8 k) := by
      unfold role; rw [if_neg (by omega), if_pos (by omega), v0]
    have r03 : role home fly free k (Ring.bk 8 (k + 3)) = home (Ring.bk 8 (k + 3)) := by
      unfold role; rw [if_neg (by omega), if_neg (by omega)]
    have r10 : role home fly free (k + 1) (Ring.bk 8 k) = iprop(home (Ring.bk 8 k) ∗ emp) := by
      unfold role; rw [if_pos (by omega), if_pos (by omega)]
    have r13 : role home fly free (k + 1) (Ring.bk 8 (k + 3)) = fly (Ring.sl 3 k) (Ring.bk 8 (k + 3)) := by
      unfold role; rw [if_neg (by omega), if_pos (by omega), v3, Ring.sl_add]
    rw [e0, e1, r00, r03, r10, r13]
    refine BIBase.Entails.trans ?_ (hw (R := R) (more h3) ?_)
    · iintro ⟨HA, HF, HH, HR⟩; iframe
    · iintro ⟨⟨HA, HH, HF⟩, HR⟩; iframe
  · obtain ⟨R, e0, e1⟩ := pick_one (role home fly free k) (role home fly free (k + 1)) (Ring.bk 8 k)
      (fun x h0 => by
        have n0 : x.val ≠ k := fun h => h0 (Fin.ext (h.trans v0.symm))
        have := x.isLt
        unfold role
        rw [if_congr (show x.val < k ↔ x.val < k + 1 by omega) rfl rfl, if_congr (show x.val < k + 3 ↔ x.val < k + 1 + 3 by omega) rfl rfl])
    have r00 : role home fly free k (Ring.bk 8 k) = fly (Ring.sl 3 k) (Ring.bk 8 k) := by
      unfold role; rw [if_neg (by omega), if_pos (by omega), v0]
    have r10 : role home fly free (k + 1) (Ring.bk 8 k) = iprop(home (Ring.bk 8 k) ∗ free (Ring.sl 3 k)) := by
      unfold role; rw [if_pos (by omega), if_neg (by omega), v0]
    rw [e0, e1, r00, r10]
    refine BIBase.Entails.trans ?_ (hw (R := R) (last h3) ?_)
    · iintro ⟨HA, HF, HR⟩; iframe
    · iintro ⟨⟨HA, HH, HF⟩, HR⟩; iframe

theorem bigSep_eight (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- Before the first trip three chunks are on their way. -/
theorem roles_zero : bigSep Finset.univ (role home fly free 0) = iprop(fly 0 0 ∗ fly 1 1 ∗ fly 2 2
    ∗ home 3 ∗ home 4 ∗ home 5 ∗ home 6 ∗ home 7) := by
  rw [bigSep_eight]; rfl
theorem regroup {K H h0 h1 h2 h3 h4 h5 h6 h7 a0 a1 a2 b0 b1 b2 c0 c1 c2 d0 d1 d2 : sProp M} :
    iprop(K ∗ H ∗ (h0 ∗ emp) ∗ (h1 ∗ emp) ∗ (h2 ∗ emp) ∗ (h3 ∗ emp) ∗ (h4 ∗ emp) ∗ (h5 ∗ a2 ∗ b2 ∗ c2 ∗ d2) ∗ (h6 ∗ a0 ∗ b0 ∗ c0 ∗ d0) ∗ (h7 ∗ a1 ∗ b1 ∗ c1 ∗ d1))
      ⊢ iprop(((a0 ∗ a1 ∗ a2) ∗ (b0 ∗ b1 ∗ b2) ∗ K) ∗ H ∗ (c0 ∗ c1 ∗ c2 ∗ d0 ∗ d1 ∗ d2) ∗ h0 ∗ h1 ∗ h2 ∗ h3 ∗ h4 ∗ h5 ∗ h6 ∗ h7) := by
  iintro ⟨HK, HH, ⟨H0, -⟩, ⟨H1, -⟩, ⟨H2, -⟩, ⟨H3, -⟩, ⟨H4, -⟩, ⟨H5, A2, B2, C2, D2⟩, ⟨H6, A0, B0, C0, D0⟩, ⟨H7, A1, B1, C1, D1⟩⟩
  isplitl [HK A0 A1 A2 B0 B1 B2]
  · iframe
  isplitl [HH]; · iexact HH
  isplitl [C0 C1 C2 D0 D1 D2]
  · iframe
  iframe
/-- After the last all are home and the slots, of two buffers and two semaphores each, at rest. -/
theorem roles_end (A B C D : Fin 3 → sProp M) (K H : sProp M) :
    iprop(K ∗ H ∗ bigSep Finset.univ (role home fly (fun s => iprop(A s ∗ B s ∗ C s ∗ D s)) 8))
      ⊢ iprop(((A 0 ∗ A 1 ∗ A 2) ∗ (B 0 ∗ B 1 ∗ B 2) ∗ K) ∗ H ∗ (C 0 ∗ C 1 ∗ C 2 ∗ D 0 ∗ D 1 ∗ D 2) ∗ bigSep Finset.univ home) := by
  rw [bigSep_eight, bigSep_eight]
  exact regroup

/-- What `k` trips make of `a`. -/
def after {α : Type} {N : ℕ} (next : Fin N → α → α) (a : α) : ℕ → α
  | 0 => a
  | k + 1 => if h : k < N then next ⟨k, h⟩ (after next a k) else after next a k
theorem after_succ {α : Type} {N : ℕ} (next : Fin N → α → α) (a : α) (k : Fin N) : after next a (k.val + 1) = next k (after next a k.val) :=
  dif_pos k.isLt

end Step

/-! ## What is read, entry by entry -/

section Read
open Cert.Mat
variable {sig : RefSig} {nD : ℕ} {τ : Topo} {n : ℕ}

/-- A load of a slot that holds the words `w` is `w`. -/
theorem load_eq (c : Dev nD) (B : Memref sig .tc .vmem (Bufs n) .bf16) (hq) {off : Fin 3 → Nat} {s : Fin 3} (h : off = bufOff s) (hh hs)
    (f : Buf (Elt Ideal) ((slot B hq s).view.loc (c : Thread nD τ))) (w) :
    shapeCast (Chunk n) (B.view.readAt (Elt Ideal) (Rect.unit (s := Bufs n) off (Slot n).size hh).toLoadRect
      ((slot B hq s).view.writes (Elt Ideal) f [⟨Rect.whole (Chunk n), w⟩])) hs = w := by
  subst h; exact View.read_writes_whole _ _ _

/-- Entry `(r, i)` of chunk `k`. -/
theorem row_at (X : Vec Ideal (Rows n) .bf16) (k : Fin 8) (r : Fin 512) (i : Fin n) :
    X ((Rect.unit (s := Rows n) (rowOff (Ring.bk 8 k.val)) (Chunk n).size (row_inb n _)).idx (ix2 r i)) = at2 X (512 * k.val + r.val) i.val := by
  refine at2_of X _ _ _ ?_ ?_
  · show 512 * (Ring.bk 8 k.val).val + 1 * r.val = _; rw [Ring.bk_val k.isLt]; omega
  · show 0 + 1 * i.val = _; omega

/-- A rectangle that begins at the beginning and is of the whole's size is the whole. -/
theorem unit_idx {S : Shape} {off : Fin S.rank → ℕ} (hh) (h : ∀ a, off a = 0) (y : S.Idx) : (Rect.unit (s := S) off S.size hh).idx y = y :=
  funext fun a => Fin.ext (by show off a + 1 * (y a).val = _; rw [h]; omega)
theorem unit_all {S : Shape} {off : Fin S.rank → ℕ} (hh) (h : ∀ a, off a = 0) (y : S.Idx) : y ∈ (Rect.unit (s := S) off S.size hh).set := by
  rw [Rect.mem_set_unit]
  exact fun a => ⟨by rw [h]; exact Nat.zero_le _, by rw [h, Nat.zero_add]; exact (y a).isLt⟩

/-- The accumulator is written whole and read whole. -/
theorem acc_read (c : Dev nD) (C : Memref sig .tc .vmem ⟨2, ![1024, n]⟩ .f32) (hh) (f : Buf (Elt Ideal) (C.view.loc (c : Thread nD τ))) (w : Vec Ideal ⟨2, ![1024, n]⟩ .f32) :
    C.view.read (Elt Ideal) (C.view.writes (Elt Ideal) f [⟨Rect.unit (s := ⟨2, ![1024, n]⟩) ![0, 0] (⟨2, ![1024, n]⟩ : Shape).size hh, w⟩]) = w := by
  refine (View.read_writes_eq_canon _ _ _ fun y => ⟨_, List.mem_singleton.2 rfl, ?_⟩).trans (View.canon_unit_zero (S := ⟨2, ![1024, n]⟩) Mat.hz2 _ w)
  exact unit_all (S := ⟨2, ![1024, n]⟩) hh (fun a => congrFun Mat.hz2 a) y

/-- Trips that add 512 terms each have added all the terms before. -/
theorem after_sum {α : Type} {N : ℕ} (next : Fin N → α → α) (a : α) (rd : α → EReal) (f : ℕ → EReal) (h0 : rd a = 0)
    (hs : ∀ (k : Fin N) b, rd (next k b) = rd b + ∑ r : Fin 512, f (512 * k.val + r.val)) :
    ∀ k ≤ N, rd (after next a k) = ∑ t ∈ Finset.range (512 * k), f t
  | 0, _ => h0.trans (Finset.sum_range_zero _).symm
  | k + 1, hk => by
    rw [after_succ next a ⟨k, hk⟩, hs, after_sum next a rd f h0 hs k (Nat.le_of_succ_le hk), Nat.mul_succ, Finset.sum_range_add, Finset.sum_range (n := 512)]

/-- The gradient of `w` in `h @ w`, in eight groups of `n` columns. -/
def grad {N : ℕ} (h : Vec Ideal (Rows 1024) .bf16) (d : Vec Ideal (Rows N) .bf16) : Vec Ideal ⟨3, ![8, 1024, n]⟩ .bf16 := fun y =>
  ∑ t ∈ Finset.range 4096, at2 h t (y 1).val * at2 d t (n * (y 0).val + (y 2).val)

end Read

end Cert.CopyRing

end
-- ==== Proof.DwCols.lean ====
/-
  The weight gradient whose operands stay in the large memory, at 3072 columns: the kernel's run, and its launch. The
  operands are held chunk by chunk and the buffers slot by slot while the body runs, and whole again after it.
-/
module

public import proofs.«01_k».proof.Proof.CopyRing
public import proofs.«01_k».proof.Proof.Gen.Kernel14Ideal.Launch
public import proofs.«01_k».proof.Proof.Gen.Kernel14Ideal.Skeleton
public import proofs.«01_k».proof.Defs
public import proofs.«01_k».proof.Proof.Spec
public import proofs.«01_k».proof.Proof.Gen.Reference14Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.DwCols

open Cert.Kernel14Ideal Cert.Kernel14Ideal.Gen Cert.CopyRing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

abbrev UW : Type := Pipeline.UD sig nD τ
local notation "𝕄" => MT nD τ sig Unit (Elt F) ℕ UW ℕ
abbrev 𝒱₀ : Variants := Variants.none

abbrev mA : Memref sig .tc .hbm S4096x1024 .bf16 := Memref.whole main_arg0
abbrev mB : Memref sig .tc .hbm S4096x3072 .bf16 := Memref.whole main_arg1
abbrev bufA : Memref sig .tc .vmem S3x512x1024 .bf16 := Memref.whole cc0_scratch0
abbrev bufB : Memref sig .tc .vmem S3x512x3072 .bf16 := Memref.whole cc0_scratch1
abbrev mC : Memref sig .tc .vmem S1024x3072 .f32 := Memref.whole cc0_scratch2
theorem qA : S1x512x1024.Squeezes S512x1024 := squeezes_S1x512x1024_S512x1024
theorem qB : S1x512x3072.Squeezes S512x3072 := squeezes_S1x512x3072_S512x3072
theorem qC : S1x1.Squeezes S_ := squeezes_S1x1_S_

section Offsets
variable (k : Fin k0_t1_loop.trips)

instance : IsSem (k0_off1 k) 0 (Ring.sl 3 k.val) := ⟨by revert k; decide +kernel⟩
instance : IsBuf (k0_off2 k) (Ring.sl 3 k.val) := ⟨by revert k; decide +kernel⟩
instance : IsRow (k0_off3 k) (Ring.bk 8 k.val) := ⟨by revert k; decide +kernel⟩
instance : IsSem (k0_off4 k) 1 (Ring.sl 3 k.val) := ⟨by revert k; decide +kernel⟩
instance : IsBuf (k0_off5 k) (Ring.sl 3 k.val) := ⟨by revert k; decide +kernel⟩
instance : IsRow (k0_off6 k) (Ring.bk 8 k.val) := ⟨by revert k; decide +kernel⟩
theorem off7_eq : k0_off7 k = bufOff (Ring.sl 3 k.val) := by revert k; decide +kernel
theorem off8_eq : k0_off8 k = bufOff (Ring.sl 3 k.val) := by revert k; decide +kernel
instance : IsSem (k0_off9 k) 0 (Ring.sl 3 k.val) := ⟨by revert k; decide +kernel⟩
instance : IsBuf (k0_off10 k) (Ring.sl 3 k.val) := ⟨by revert k; decide +kernel⟩
instance [h : Fact (k.val + 3 < 8)] : IsRow (k0_off11 k) (Ring.bk 8 (k.val + 3)) := ⟨by have h := h.out; revert k; decide +kernel⟩
instance : IsSem (k0_off12 k) 1 (Ring.sl 3 k.val) := ⟨by revert k; decide +kernel⟩
instance : IsBuf (k0_off13 k) (Ring.sl 3 k.val) := ⟨by revert k; decide +kernel⟩
instance [h : Fact (k.val + 3 < 8)] : IsRow (k0_off14 k) (Ring.bk 8 (k.val + 3)) := ⟨by have h := h.out; revert k; decide +kernel⟩
instance : ClosedOff (k0_off7 k) := ⟨_, off7_eq k⟩
instance : ClosedOff (k0_off8 k) := ⟨_, off8_eq k⟩
/-- A trip issues copies when three more chunks are to come, and otherwise does not. -/
theorem more_iff : k.val + 3 < 8 ↔ k0_cond1 k = 1#1 := by revert k; decide +kernel

end Offsets

section Body
variable (c : Dev nD) (XA : Buf (Elt F) (mA.view.loc (c : Thread nD τ))) (XB : Buf (Elt F) (mB.view.loc (c : Thread nD τ)))
  (arg2 : Memref sig .tc .vmem S8x1024x384 .bf16) (harg2 : arg2.IsWhole)

/-- The program run on the core, to one assertion. -/
abbrev wpT {α : Type} (p : Prog (TpuEff nD τ sig (Elt F) Λ₀ .tc) α) (Q : sProp 𝕄) : sProp 𝕄 :=
  wp Idealize.ShloMosaic.frame (wpE (defs₀ (F := F)) 𝒱₀ (c : Thread nD τ) none) Set.univ p (fun _ => Q)
/-- What a run doesn't touch stays. -/
theorem wp_keep {α : Type} {p : Prog (TpuEff nD τ sig (Elt F) Λ₀ .tc) α} {P Q R S : sProp 𝕄} (h : P ⊢ wpT c p Q) (h' : iprop(Q ∗ R) ⊢ S) :
    iprop(P ∗ R) ⊢ wpT c p S :=
  (sep_mono h .rfl).trans ((wp_frame_r _ _ _).trans (wp_mono _ _ _ fun _ => h'))

/-- The two operands' chunk `b`, home. -/
abbrev home (b : Fin 8) : sProp 𝕄 := iprop(homeP c mA XA b ∗ homeP c mB XB b)
/-- Slot `s` of both buffers on its way with chunk `b`. -/
abbrev infl (s : Fin 3) (b : Fin 8) : sProp 𝕄 :=
  iprop((∃ g, flyP c mA XA bufA qA cc0_scratch3 qC 0 32768 s b g) ∗ (∃ g, flyP c mB XB bufB qB cc0_scratch3 qC 1 98304 s b g))
/-- Slot `s` of both buffers at rest. -/
abbrev free (s : Fin 3) : sProp 𝕄 :=
  iprop((∃ g, slotP (F := F) c bufA qA s g) ∗ (∃ g, slotP (F := F) c bufB qB s g) ∗ cellP (F := F) c cc0_scratch3 qC 0 s ∗ cellP (F := F) c cc0_scratch3 qC 1 s)
/-- The accumulator's words. -/
abbrev accP (f : Buf (Elt F) (mC.view.loc (c : Thread nD τ))) : sProp 𝕄 :=
  mC.view.loc (c : Thread nD τ) ↦[mC.view.set]{fullShare} f
abbrev has (f : Buf (Elt F) (mC.view.loc (c : Thread nD τ))) : sProp 𝕄 := iprop(accP c f ∗ (∃ W, owes (c : Thread nD τ) 0 W))

abbrev trip (k : Fin k0_t1_loop.trips) : Prog (TpuEff nD τ sig (Elt F) Λ₀ .tc) Unit :=
  k0_t1_body (F := F) mA (Memref.isWhole_whole _) mB (Memref.isWhole_whole _) arg2 harg2 bufA (Memref.isWhole_whole _) bufB (Memref.isWhole_whole _) mC (Memref.isWhole_whole _) cc0_scratch3 k ()
abbrev RC : Rect S1024x3072 := Rect.unit (s := S1024x3072) ![0, 0] S1024x3072.size inb_S1024x3072_S1024x3072_0_0
/-- The slot's words as trip `k` loads them: chunk `k` of the activations, -/
abbrev loadA (k : Fin k0_t1_loop.trips) : Vec F S1x512x1024 .bf16 :=
  bufA.view.readAt (Elt F) (Rect.unit (s := S3x512x1024) (k0_off7 k) S1x512x1024.size (k0_off7_inb k)).toLoadRect (held c mA XA bufA qA (Ring.sl 3 k.val) (Ring.bk 8 k.val))
/-- and of the gradient. -/
abbrev loadB (k : Fin k0_t1_loop.trips) : Vec F S1x512x3072 .bf16 :=
  bufB.view.readAt (Elt F) (Rect.unit (s := S3x512x3072) (k0_off8 k) S1x512x3072.size (k0_off8_inb k)).toLoadRect (held c mB XB bufB qB (Ring.sl 3 k.val) (Ring.bk 8 k.val))
/-- The accumulator after trip `k`, from what it held before. -/
abbrev nextAcc (k : Fin k0_t1_loop.trips) (f : Buf (Elt F) (mC.view.loc (c : Thread nD τ))) : Buf (Elt F) (mC.view.loc (c : Thread nD τ)) :=
  mC.view.writes (Elt F) f [⟨RC, k0_pay1 (mC.view.readAt (Elt F) RC.toLoadRect f) (loadA c XA k) (loadB c XB k)⟩]

/-- A trip that issues: chunk `k` is waited for, multiplied in and back home, and chunk `k + 3` is on its way in its place. -/
theorem trip_more (k : Fin k0_t1_loop.trips) (f : Buf (Elt F) (mC.view.loc (c : Thread nD τ))) (h3 : k.val + 3 < 8) :
    iprop(has c f ∗ home c XA XB (Ring.bk 8 (k.val + 3)) ∗ infl c XA XB (Ring.sl 3 k.val) (Ring.bk 8 k.val))
    ⊢ wpT c (trip arg2 harg2 k) iprop(has c (nextAcc c XA XB k f) ∗ home c XA XB (Ring.bk 8 k.val) ∗ infl c XA XB (Ring.sl 3 k.val) (Ring.bk 8 (k.val + 3))) := by
  have h1 : k0_cond1 k = 1#1 := (more_iff k).1 h3
  haveI : Fact (k.val + 3 < 8) := ⟨h3⟩
  iintro ⟨⟨HC, ⟨%W, HW⟩⟩, ⟨HA, HB⟩, ⟨%gA, HFA⟩, ⟨%gB, HFB⟩⟩
  dsimp only [wpT, trip]
  sl_unfold [k0_t1_body]
  sl_exec
  sl_step
  isplitl [HC HW]
  · isplitl [HC]; · iexact HC
    iexists _; iexact HW
  isplitl [HFA_src HFB_src]
  · isplitl [HFA_src]; · iexact HFA_src
    iexact HFB_src
  isplitl [HFA]
  · iexists (held c mA XA bufA qA (Ring.sl 3 k.val) (Ring.bk 8 k.val))
    irw [fly_after]
    iexact HFA
  iexists (held c mB XB bufB qB (Ring.sl 3 k.val) (Ring.bk 8 k.val))
  irw [fly_after]
  iexact HFB

/-- One of the last three trips: chunk `k` is waited for, multiplied in and back home, and its slot is at rest. -/
theorem trip_last (k : Fin k0_t1_loop.trips) (f : Buf (Elt F) (mC.view.loc (c : Thread nD τ))) (h3 : ¬ k.val + 3 < 8) :
    iprop(has c f ∗ infl c XA XB (Ring.sl 3 k.val) (Ring.bk 8 k.val))
    ⊢ wpT c (trip arg2 harg2 k) iprop(has c (nextAcc c XA XB k f) ∗ home c XA XB (Ring.bk 8 k.val) ∗ free (F := F) c (Ring.sl 3 k.val)) := by
  have h1 : ¬ k0_cond1 k = 1#1 := fun h => h3 ((more_iff k).2 h)
  iintro ⟨⟨HC, ⟨%W, HW⟩⟩, ⟨%gA, HFA⟩, ⟨%gB, HFB⟩⟩
  dsimp only [wpT, trip]
  sl_unfold [k0_t1_body]
  sl_exec
  sl_step
  isplitl [HC HW]
  · isplitl [HC]; · iexact HC
    iexists _; iexact HW
  isplitl [HFA_src HFB_src]
  · isplitl [HFA_src]; · iexact HFA_src
    iexact HFB_src
  isplitl [HFA_dst]; · iexists _; iexact HFA_dst
  isplitl [HFB_dst]; · iexists _; iexact HFB_dst
  isplitl [HFA]; · iexact HFA
  iexact HFB

/-- What holds before trip `k`. -/
def inv (f₀ : Buf (Elt F) (mC.view.loc (c : Thread nD τ))) (k : ℕ) : sProp 𝕄 :=
  iprop(has c (after (nextAcc c XA XB) f₀ k) ∗ bigSep Finset.univ (role (home c XA XB) (infl c XA XB) (free (F := F) c) k))

theorem inv_zero (f : Buf (Elt F) (mC.view.loc (c : Thread nD τ))) : inv c XA XB f 0
    = iprop(has c f ∗ infl c XA XB 0 0 ∗ infl c XA XB 1 1 ∗ infl c XA XB 2 2 ∗ home c XA XB 3 ∗ home c XA XB 4 ∗ home c XA XB 5 ∗ home c XA XB 6 ∗ home c XA XB 7) :=
  congrArg (fun P : sProp 𝕄 => iprop(has c f ∗ P)) (roles_zero (home c XA XB) (infl c XA XB) (free (F := F) c))

theorem inv_step (f₀ : Buf (Elt F) (mC.view.loc (c : Thread nD τ))) (k : Fin k0_t1_loop.trips) :
    inv c XA XB f₀ k.val ⊢ wpT c (trip arg2 harg2 k) (inv c XA XB f₀ (k.val + 1)) := by
  unfold inv
  rw [after_succ]
  exact step _ _ _ (fun h h' => wp_keep c h h') k.isLt (trip_more c XA XB arg2 harg2 k _) (trip_last c XA XB arg2 harg2 k _)

abbrev body : Prog (TpuEff nD τ sig (Elt F) Λ₀ .tc) PUnit :=
  cc0_dw_c_in_skel (F := F) mA (Memref.isWhole_whole _) mB (Memref.isWhole_whole _) arg2 harg2 bufA (Memref.isWhole_whole _) bufB (Memref.isWhole_whole _) mC (Memref.isWhole_whole _) cc0_scratch3

/-- The accumulator as the loop finds it: zeros. -/
abbrev acc0 : Buf (Elt F) (mC.view.loc (c : Thread nD τ)) := mC.view.writes (Elt F) mC.view.junk [⟨RC, k0_pay2 (F := F)⟩]
/-- The accumulator's columns from `o` on. -/
abbrev cols (A : Buf (Elt F) (mC.view.loc (c : Thread nD τ))) (o : ℕ) (hh : ∀ a, (![0, o] : Fin 2 → ℕ) a + S1024x384.size a ≤ S1024x3072.size a) : Vec F S1024x384 .f32 :=
  mC.view.readAt (Elt F) (Rect.unit (s := S1024x3072) ![0, o] S1024x384.size hh).toLoadRect A
/-- Group `q` of the result, of words `w`. -/
abbrev grp (q : ℕ) (hh : ∀ a, (![q, 0, 0] : Fin 3 → ℕ) a + S1x1024x384.size a ≤ S8x1024x384.size a) (w : Vec F S1x1024x384 .bf16) : View.Piece (Elt F) S8x1024x384 .bf16 := ⟨Rect.unit (s := S8x1024x384) ![q, 0, 0] S1x1024x384.size hh, w⟩
/-- The eight groups of the accumulator's columns, rounded, last first. -/
def outPieces (A : Buf (Elt F) (mC.view.loc (c : Thread nD τ))) : List (View.Piece (Elt F) S8x1024x384 .bf16) :=
  [grp 7 (by decide) (k0_pay11 (cols c A 2688 (by decide))), grp 6 (by decide) (k0_pay10 (cols c A 2304 (by decide))),
   grp 5 (by decide) (k0_pay9 (cols c A 1920 (by decide))), grp 4 (by decide) (k0_pay8 (cols c A 1536 (by decide))),
   grp 3 (by decide) (k0_pay7 (cols c A 1152 (by decide))), grp 2 (by decide) (k0_pay6 (k0_pay5 (cols c A 768 (by decide)))),
   grp 1 (by decide) (k0_pay4 (cols c A 384 (by decide))), grp 0 (by decide) (k0_pay3 (cols c A 0 (by decide)))]
/-- The accumulator after the loop. -/
abbrev accEnd : Buf (Elt F) (mC.view.loc (c : Thread nD τ)) := after (nextAcc c XA XB) (acc0 c) k0_t1_loop.trips

/-- All that the body touches besides its result, as it finds it and leaves it. -/
def rest : sProp 𝕄 :=
  iprop((((∃ f, slotP c bufA qA 0 f) ∗ (∃ f, slotP c bufA qA 1 f) ∗ ∃ f, slotP c bufA qA 2 f)
      ∗ ((∃ f, slotP c bufB qB 0 f) ∗ (∃ f, slotP c bufB qB 1 f) ∗ ∃ f, slotP c bufB qB 2 f) ∗ ∃ f, accP (F := F) c f)
    ∗ (∃ r, prngReg c r)
    ∗ (cellP c cc0_scratch3 qC 0 0 ∗ cellP c cc0_scratch3 qC 0 1 ∗ cellP c cc0_scratch3 qC 0 2 ∗ cellP c cc0_scratch3 qC 1 0 ∗ cellP c cc0_scratch3 qC 1 1 ∗ cellP c cc0_scratch3 qC 1 2)
    ∗ bigSep Finset.univ (home c XA XB))

set_option maxHeartbeats 400000 in
/-- The whole body: the result is written from the accumulator, and everything else is as it was found. -/
theorem body_run (fO : Buf (Elt F) (arg2.view.loc (c : Thread nD τ))) (W) :
    iprop(rest c XA XB ∗ owes (c : Thread nD τ) 0 W ∗ (arg2.view.loc (c : Thread nD τ) ↦[arg2.view.set]{fullShare} fO))
    ⊢ wpT c (body arg2 harg2) iprop(rest c XA XB ∗ (∃ W, owes (c : Thread nD τ) 0 W)
          ∗ (arg2.view.loc (c : Thread nD τ) ↦[arg2.view.set]{fullShare} arg2.view.writes (Elt F) fO (outPieces c (accEnd c XA XB)))) := by
  conv_lhs => rw [rest, bigSep_eight]
  iintro ⟨⟨⟨⟨⟨%a0, S0⟩, ⟨%a1, S1⟩, ⟨%a2, S2⟩⟩, ⟨⟨%b0, T0⟩, ⟨%b1, T1⟩, ⟨%b2, T2⟩⟩, ⟨%fC, HC⟩⟩, Hg, ⟨C0, C1, C2, D0, D1, D2⟩,
    ⟨⟨A0, B0⟩, ⟨A1, B1⟩, ⟨A2, B2⟩, H3, H4, H5, H6, H7⟩⟩, HW, HO⟩
  dsimp only [wpT, body]
  sl_exec
  ihave HI : inv c XA XB (acc0 c) 0 $$ [HC HW C0 D0 C1 D1 C2 D2 H3 H4 H5 H6 H7]
  · irw [inv_zero]
    isplitl [HC HW]
    · isplitl [HC]; · iexact HC
      iexists _; iexact HW
    isplitl [C0 D0]
    · isplitl [C0]; · iexists a0; iexact C0
      iexists b0; iexact D0
    isplitl [C1 D1]
    · isplitl [C1]; · iexists a1; iexact C1
      iexists b1; iexact D1
    isplitl [C2 D2]
    · isplitl [C2]; · iexists a2; iexact C2
      iexists b2; iexact D2
    isplitl [H3]; · iexact H3
    isplitl [H4]; · iexact H4
    isplitl [H5]; · iexact H5
    isplitl [H6]; · iexact H6
    iexact H7
  iapply (Scf.wp_for_bind Idealize.ShloMosaic.frame (wpE (defs₀ (F := F)) 𝒱₀ (c : Thread nD τ) none) Set.univ _ _ _ k0_t1_ok PUnit.unit _
    (fun k _ => inv c XA XB (acc0 c) k) (fun k _ => inv_step c XA XB arg2 harg2 (acc0 c) k)) $$ [HI]
  · iexact HI
  iintro %_ HI
  unfold inv
  icases HI with ⟨⟨HC, HW⟩, HR⟩
  sl_exec
  sl_step
  isplitl [HC Hg HR]
  · unfold rest
    iapply (roles_end (home c XA XB) (infl c XA XB) (fun s => iprop(∃ g, slotP c bufA qA s g)) (fun s => iprop(∃ g, slotP c bufB qB s g)) (cellP c cc0_scratch3 qC 0) (cellP c cc0_scratch3 qC 1) _ _)
    isplitl [HC]; · iexists _; iexact HC
    isplitl [Hg]; · iexact Hg
    iexact HR
  isplitl [HW]; · iexact HW
  iexact HO

end Body

/-! ## The launch -/

section Launch
variable (m : (ℓ : Loc nD τ sig) → Buf (Elt F) ℓ) (ρ : Dev nD → PrngReg) (c : Dev nD)

abbrev V (c : Dev nD) (b : Ref sig .tc) : Buf (Elt F) ((c : Thread nD τ).loc b) := m ((c : Thread nD τ).loc b)

theorem hmain : Pipeline.HMain (Ix := Unit) (Name := ℕ) (U := UW) (Lvl := ℕ) cfgs 0 defs₀ 𝒱₀ m (main (F := F)) (V m) :=
  Pipeline.hmain_region cfgs 0 defs₀ 𝒱₀ m main fun c => (main_chain c).trans rfl

/-- The body's six semaphores. -/
abbrev osem : Fin 6 → SemLoc sig := fun j => (![SemLoc.dma 1, SemLoc.dma 2, SemLoc.dma 3, SemLoc.dma 4, SemLoc.dma 5, SemLoc.dma 6] : Fin 6 → SemLoc sig) j
theorem ownSemFacts : Pipeline.OwnSemFacts spec0 osem := by decide
/-- The operands the body reads where they lie. -/
def H : Finset (Ref sig .tc) := {main_arg0, main_arg1}
theorem H_sub : H ⊆ Pipeline.restRefs sig spec0 := by decide

theorem slotA_eq (s : Fin 3) (f : Buf (Elt F) ((c : Thread nD τ).loc cc0_scratch0)) :
    slotP c bufA qA s f = (((c : Thread nD τ).loc cc0_scratch0) ↦[J 1024 s]{fullShare} f : sProp 𝕄) :=
  pt_congr ((View.set_reshape _ _).trans (View.set_slice_whole _ _)) f
theorem slotB_eq (s : Fin 3) (f : Buf (Elt F) ((c : Thread nD τ).loc cc0_scratch1)) :
    slotP c bufB qB s f = (((c : Thread nD τ).loc cc0_scratch1) ↦[J 3072 s]{fullShare} f : sProp 𝕄) :=
  pt_congr ((View.set_reshape _ _).trans (View.set_slice_whole _ _)) f

theorem owns_eq : (Pipeline.ownSems0 (Ix := Unit) (Name := ℕ) (U := UW) (Lvl := ℕ) (Val := Elt F) (τ := τ) osem c : sProp 𝕄)
    = iprop(cellP c cc0_scratch3 qC 0 0 ∗ cellP c cc0_scratch3 qC 0 1 ∗ cellP c cc0_scratch3 qC 0 2 ∗ cellP c cc0_scratch3 qC 1 0 ∗ cellP c cc0_scratch3 qC 1 1 ∗ cellP c cc0_scratch3 qC 1 2) := by
  rw [Pipeline.ownSems0_eq_of_list c osem [0, 1, 2, 3, 4, 5] (by decide) (by decide)]; rfl

/-- The two operands whole are their chunks. -/
theorem hbm_eq : (bigSep H (fun b => ((c : Thread nD τ).loc b) ↦{fullShare} V m c b) : sProp 𝕄) = bigSep Finset.univ (home c (V m c main_arg0) (V m c main_arg1)) := by
  rw [BI.bigSep_eq_bigSepL_of_eq [main_arg0, main_arg1] (by decide) (by decide)]
  exact homes_eq (ℓ := (c : Thread nD τ).loc main_arg0) (ℓ' := (c : Thread nD τ).loc main_arg1) (G_disj 1024) (G_cover 1024) (G_disj 3072) (G_cover 3072)
    (fun b => pt_congr (View.set_slice_whole _ _) _) (fun b => pt_congr (View.set_slice_whole _ _) _)

theorem accP_eq (f : Buf (Elt F) ((c : Thread nD τ).loc cc0_scratch2)) : accP c f = (((c : Thread nD τ).loc cc0_scratch2) ↦{fullShare} f : sProp 𝕄) :=
  pt_congr (View.set_whole _) f

/-- What the body leaves of the result. -/
def outAt (c : Dev nD) : Vec F S8x1024x384 .bf16 := View.canon (outPieces c (accEnd c (V m c main_arg0) (V m c main_arg1)))

def dats (_ : Fin 1) (c : Dev nD) : Dat τ (Elt F) Unit ℕ UW ℕ cfg0 c where
  A w := V m c (Pipeline.arrRef spec0 w)
  after w _ := match w with
    | ⟨0, _⟩ => outAt m c
  Φ _ := Pipeline.ΦD osem spec0 H (V m) c
  q _ := fullShare
  owed _ := 0

theorem A_eq (c : Dev nD) (w : Fin cfg0.W) : (dats m 0 c).A w = V m c (Pipeline.arrRef spec0 w) := by
  dsimp only [dats]
theorem after_eq (t : Fin cfg0.N) : (dats m 0 c).after 0 t = outAt m c := by dsimp only [dats]

abbrev st (t : Fin cfg0.N) : Memref sig .tc .vmem S8x1024x384 .bf16 := win0_0.stage (cfg0.slots t 0)
abbrev hst (t : Fin cfg0.N) : (st t).IsWhole := hstage0_0 0

theorem out_cover (A) (y : S8x1024x384.Idx) : ∃ pc ∈ outPieces (F := F) c A, y ∈ pc.1.set :=
  View.cover_of_tiledL (outPieces c A) S1x1024x384.size (by sl_kernel_rfl) y

theorem table_row (t : Fin cfg0.N) : defs₀ (F := F) .tc cfg0.body (cfg0.bodyArgs t (cfg0.slots t))
    = cc0_dw_c_in mA (Memref.isWhole_whole _) mB (Memref.isWhole_whole _) (st t) (hst t) bufA (Memref.isWhole_whole _) bufB (Memref.isWhole_whole _) mC (Memref.isWhole_whole _) cc0_scratch3 := by
  unfold defs₀; rw [Defs.onTc_tc]

/-- What the launch hands the body is what it touches. -/
theorem rest_eq : (Pipeline.ΦD osem spec0 H (V m) c : sProp 𝕄) = rest c (V m c main_arg0) (V m c main_arg1) := by
  rw [Pipeline.ΦD_eq, scopedRest0_eq, slots_eq (ℓ := (c : Thread nD τ).loc cc0_scratch0) (J_disj 1024) (J_cover 1024) (slotA_eq c),
    slots_eq (ℓ := (c : Thread nD τ).loc cc0_scratch1) (J_disj 3072) (J_cover 3072) (slotB_eq c), owns_eq, hbm_eq, rest]
  simp only [accP_eq]
  rfl

set_option backward.isDefEq.respectTransparency.types false in
theorem body_obligation : BodyObligation (dats (F := F) m 0 c) (defs₀ (F := F)) 𝒱₀ () Set.univ := fun t => by
  rw [bigSep_W0, bigSep_W0, table_row, after_eq]
  rw [show (dats m 0 c).Φ t.castSucc = Pipeline.ΦD osem spec0 H (V m) c from rfl, show (dats m 0 c).Φ t.succ = Pipeline.ΦD osem spec0 H (V m) c from rfl]
  unfold Dat.owesAt Pipeline.owesWithin owns outAt
  rw [show (dats m 0 c).owed t.castSucc = 0 from rfl, show (dats m 0 c).owed t.succ = 0 from rfl, cc0_dw_c_in_eq_skeleton]
  rw [rest_eq]
  iintro ⟨HΦ, ⟨%W, -, HW⟩, ⟨%d, %fO, -, HO⟩⟩
  iapply (wp_wand_r Idealize.ShloMosaic.frame (wpE (defs₀ (F := F)) 𝒱₀ (c : Thread nD τ) none) Set.univ)
  isplitl [HΦ HW HO]
  · iapply (body_run c (V m c main_arg0) (V m c main_arg1) (st t) (hst t) fO W)
    isplitl [HΦ]; · iexact HΦ
    isplitl [HW]; · iexact HW
    iexact HO
  iintro %_ ⟨HΦ, ⟨%W', HW⟩, HO⟩
  isplitl [HΦ]; · iexact HΦ
  isplitl [HW]
  · iexists W'; isplitr
    · ipureintro; exact fun _ _ => Or.inl trivial
    iexact HW
  iexists _; isplitr
  swap; · iexact HO
  ipureintro
  exact View.read_writes_eq_canon _ _ _ (out_cover c _)

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ 𝒱₀ ownSemFacts H H_sub m ρ main
    (hbody := fun c => (body_obligation m c).loose) (hshare := fun c => (dats m 0 c).share_full fun _ => rfl)
    (howed := fun _ _ => rfl) (V := V m) (hmain := hmain m) (hA := A_eq m) (hin := fun _ => .rfl) (hout := fun _ => .rfl)

/-- The program terminates without a fault, its arguments end as they were, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).2 main_arg0 (Pipeline.mem_restRefs_of main_arg0 (by decide) (by decide)),
    (h.1 c).2 main_arg1 (Pipeline.mem_restRefs_of main_arg1 (by decide) (by decide))⟩, h.2⟩) (run_main m ρ)

end Launch

end Cert.DwCols

/-! ## The value claim: the kernel's column groups are the host's -/

namespace Cert.DwCols

open Cert.Kernel14Ideal Cert.Kernel14Ideal.Gen Cert.Mat Cert.CopyRing
open Idealize.ShloMosaic Idealize.ShloMosaic.TcCoe Idealize.ShloMosaic.Tactic Idealize.SL.Sem

instance : Cert.Kernel14Ideal.Facts := Cert.Kernel14Ideal.Gen.facts
instance : Cert.Reference14Ideal.Facts := Cert.Reference14Ideal.Gen.facts

section Words
variable (c : Dev nD) (XA : Vec Ideal S4096x1024 .bf16) (XB : Vec Ideal S4096x3072 .bf16)

/-- After the loop the accumulator holds the products over all the tokens. -/
theorem acc_at (i : Fin 1024) (j : Fin 3072) :
    mC.view.read (Elt Ideal) (accEnd (F := Ideal) c XA XB) (ix2 i j) = ∑ t ∈ Finset.range 4096, at2 XA t i.val * at2 XB t j.val := by
  refine after_sum _ _ (fun A => mC.view.read (Elt Ideal) A (ix2 i j)) (fun t => at2 XA t i.val * at2 XB t j.val) ?_ (fun k A => ?_) 8 le_rfl
  · show mC.view.read (Elt Ideal) (acc0 (F := Ideal) c) (ix2 i j) = 0
    rw [acc0, acc_read (τ := τ) c]
    pointwise [k0_pay2]
  · have e : ∑ r : Fin 512, at2 XA (512 * k.val + r.val) i.val * at2 XB (512 * k.val + r.val) j.val
        = ∑ r : Fin 512, words (τ := τ) c mA XA (Ring.bk 8 k.val) (ix2 r i) * words (τ := τ) c mB XB (Ring.bk 8 k.val) (ix2 r j) :=
      Finset.sum_congr rfl fun r _ => (congrArg₂ (fun p q : EReal => p * q) (row_at XA k r i) (row_at XB k r j)).symm
    show mC.view.read (Elt Ideal) (nextAcc (F := Ideal) c XA XB k A) (ix2 i j) = mC.view.read (Elt Ideal) A (ix2 i j) + _
    rw [nextAcc, acc_read (τ := τ) c, View.readAt_eq_ld, View.ld_unit_zero (S := S1024x3072) Mat.hz2, e]
    unfold k0_pay1
    dsimp only
    rw [load_eq (τ := τ) c bufA qA (off7_eq k), load_eq (τ := τ) c bufB qB (off8_eq k)]
    pointwise []

/-- A group's columns of the accumulator, entry by entry. -/
theorem column_at (A : Buf (Elt Ideal) (mC.view.loc (c : Thread nD τ))) (q o : ℕ) (hh) (y : S8x1024x384.Idx) (i : Fin 1024) (j : Fin 384) (n : Fin 3072)
    (hn : n.val = 384 * (y 0).val + (y 2).val) (e0 : (y 0).val = q) (e1 : (y 1).val = i.val) (e2 : (y 2).val = j.val) (ho : o = 384 * q) :
    cols c A o hh (ix2 i j) = mC.view.read (Elt Ideal) A (ix2 (y 1) n) := by
  refine congrArg (mC.view.read (Elt Ideal) A) (funext fun a => Fin.ext ?_)
  match a with
  | ⟨0, _⟩ => show 0 + 1 * i.val = (y 1).val; omega
  | ⟨1, _⟩ => show o + 1 * j.val = n.val; omega

/-- The result's group `q` is the accumulator's columns from `384 * q` on. -/
theorem pieces_at (A : Buf (Elt Ideal) (mC.view.loc (c : Thread nD τ))) (y : S8x1024x384.Idx) (n : Fin 3072) (hn : n.val = 384 * (y 0).val + (y 2).val) :
    View.canon (outPieces (F := Ideal) c A) y = mC.view.read (Elt Ideal) A (ix2 (y 1) n) := by
  unfold outPieces
  canon_tiles x e using (out_cover (F := Ideal) c A y)
  all_goals obtain ⟨u, i, j, rfl⟩ := Mat.ix3_of x
  · refine Eq.trans ?_ (column_at c A 7 2688 (by decide) y i j n hn (by omega) e1 e2 rfl)
    pointwise [k0_pay11]
  · refine Eq.trans ?_ (column_at c A 6 2304 (by decide) y i j n hn (by omega) e1 e2 rfl)
    pointwise [k0_pay10]
  · refine Eq.trans ?_ (column_at c A 5 1920 (by decide) y i j n hn (by omega) e1 e2 rfl)
    pointwise [k0_pay9]
  · refine Eq.trans ?_ (column_at c A 4 1536 (by decide) y i j n hn (by omega) e1 e2 rfl)
    pointwise [k0_pay8]
  · refine Eq.trans ?_ (column_at c A 3 1152 (by decide) y i j n hn (by omega) e1 e2 rfl)
    pointwise [k0_pay7]
  · refine Eq.trans ?_ (column_at c A 2 768 (by decide) y i j n hn (by omega) e1 e2 rfl)
    pointwise [k0_pay6, k0_pay5]
  · refine Eq.trans ?_ (column_at c A 1 384 (by decide) y i j n hn (by omega) e1 e2 rfl)
    pointwise [k0_pay4]
  · refine Eq.trans ?_ (column_at c A 0 0 (by decide) y i j n hn (by omega) e1 e2 rfl)
    pointwise [k0_pay3]

end Words

variable (m : (ℓ : Loc nD τ sig) → Buf (Elt Ideal) ℓ) (c : Dev nD)

/-- The body leaves the gradient of the arguments. -/
theorem out_eq : outAt m c = grad (m ((c : Thread nD τ).loc main_arg0)) (m ((c : Thread nD τ).loc main_arg1)) := by
  funext y
  have h0 : (y 0).val < 8 := (y 0).isLt
  have h2 : (y 2).val < 384 := (y 2).isLt
  unfold outAt grad
  rw [pieces_at c _ y ⟨384 * (y 0).val + (y 2).val, by omega⟩ rfl]
  exact acc_at c _ _ (y 1) _

/-- The one block is the whole result. -/
theorem index_facts : ∀ (t : Fin grid0.N) (a : Fin 3), win0_0.index t a * S8x1024x384.size a = 0 := by decide +kernel

/-- So the result's array ends holding it. -/
theorem final : (dats m 0 c).arrAt 0 cfg0.N = outAt m c := by
  refine (dats m 0 c).arrAt_eq_of_cover 0 (outAt m c) (fun t _ => ?_) (fun i => ⟨t0_0, by decide, ?_⟩)
  · show (cfg0.win 0).cut (grid0.coords t) ((dats m 0 c).after 0 t) = _
    rw [after_eq]
    generalize outAt m c = o
    funext y
    exact congrArg o (unit_idx (S := S8x1024x384) _ (index_facts t) y).symm
  · show i ∈ ((View.whole main_v0).slice (win0_0.rect t0_0)).set
    rw [View.set_slice_whole]
    exact unit_all (S := S8x1024x384) _ (index_facts t0_0) i

/-- The host's gradient, entry by entry. -/
theorem host_at (x0 : Vec Ideal S4096x1024 .bf16) (x1 : Vec Ideal S4096x3072 .bf16) (y : S8x1024x384.Idx) :
    Cert.Reference14Ideal.Read.val_main_v8 (F := Ideal) x0 x1 y = grad x0 x1 y := by
  unfold grad
  rw [Finset.sum_range]
  rw [Cert.Reference14Ideal.Read.val_main_v8_apply, Cert.Reference14Ideal.Read.val_main_v7_apply, Cert.Reference14Ideal.Read.val_main_v6_apply, Cert.Reference14Ideal.Read.val_main_v5_apply,
    Cert.Reference14Ideal.Read.val_main_v4_apply]
  have h0 : (y 0).val < 8 := (y 0).isLt
  have h1 : (y 1).val < 1024 := (y 1).isLt
  have h2 : (y 2).val < 384 := (y 2).isLt
  refine Finset.sum_congr rfl fun t _ => (mul_comm (G := EReal) _ _).trans (congrArg₂ (fun p q : EReal => p * q) (at2_of x0 _ _ _ rfl ?_) (at2_of x1 _ _ _ rfl ?_))
  · show (((y 1).val * 8 + (y 0).val) * 384 + (y 2).val) / 3072 = _; omega
  · show (((y 1).val * 8 + (y 0).val) * 384 + (y 2).val) % 3072 = _; omega

/-- The host's run leaves no counter raised and keeps its arguments. -/
theorem host_frame : Cert.quiescent_Reference14Ideal := fun m g _ =>
  (θ_run _ _ _).mono (fun r h => ⟨fun c => (h c).2, Idealize.ShloMosaic.sem_eq_zero_of_no_sems (by decide) r.2⟩)
    (Cert.Reference14Ideal.Value.run (F := Ideal) m g)

/-- The result of the kernel's idealization is the host's, entry by entry, for every argument. -/
theorem values : Cert.algebraic_Kernel14Ideal_Reference14Ideal := by
  intro m g m' g' _ hag
  refine ⟨fun c => outAt m c, ?_, ?_⟩
  · exact (θ_run _ _ _).mono (fun r h c => ⟨((h.1 c).1 0).trans (final m c), (h.1 c).2 main_arg0 (Pipeline.mem_restRefs_of main_arg0 (by decide) (by decide)),
      (h.1 c).2 main_arg1 (Pipeline.mem_restRefs_of main_arg1 (by decide) (by decide))⟩) (run_main (F := Ideal) m g)
  · refine (θ_run _ _ _).mono (fun r h c => ⟨(h c).1.trans ?_, (h c).2⟩)
      (Cert.Reference14Ideal.Value.run (F := Ideal) m' g')
    obtain ⟨h0, h1⟩ := hag c
    refine (Cert.Reference14Ideal.Read.val_main_v8_eq (F := Ideal) _ _).trans ?_
    rw [h0, h1]
    refine Eq.trans ?_ (out_eq m c).symm
    funext i
    exact host_at _ _ i

end Cert.DwCols

end
-- ==== Proof.DwAb.lean ====
/-
  The weight gradient whose operands stay in the large memory, at 2048 columns: the kernel's run, and its launch. The
  operands are held chunk by chunk and the buffers slot by slot while the body runs, and whole again after it.
-/
module

public import proofs.«01_k».proof.Proof.CopyRing
public import proofs.«01_k».proof.Proof.Gen.Kernel15Ideal.Launch
public import proofs.«01_k».proof.Proof.Gen.Kernel15Ideal.Skeleton
public import proofs.«01_k».proof.Defs
public import proofs.«01_k».proof.Proof.Spec
public import proofs.«01_k».proof.Proof.Gen.Reference15Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.DwAb

open Cert.Kernel15Ideal Cert.Kernel15Ideal.Gen Cert.CopyRing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

abbrev UW : Type := Pipeline.UD sig nD τ
local notation "𝕄" => MT nD τ sig Unit (Elt F) ℕ UW ℕ
abbrev 𝒱₀ : Variants := Variants.none

abbrev mA : Memref sig .tc .hbm S4096x1024 .bf16 := Memref.whole main_arg0
abbrev mB : Memref sig .tc .hbm S4096x2048 .bf16 := Memref.whole main_arg1
abbrev bufA : Memref sig .tc .vmem S3x512x1024 .bf16 := Memref.whole cc0_scratch0
abbrev bufB : Memref sig .tc .vmem S3x512x2048 .bf16 := Memref.whole cc0_scratch1
abbrev mC : Memref sig .tc .vmem S1024x2048 .f32 := Memref.whole cc0_scratch2
theorem qA : S1x512x1024.Squeezes S512x1024 := squeezes_S1x512x1024_S512x1024
theorem qB : S1x512x2048.Squeezes S512x2048 := squeezes_S1x512x2048_S512x2048
theorem qC : S1x1.Squeezes S_ := squeezes_S1x1_S_

section Offsets
variable (k : Fin k0_t1_loop.trips)

instance : IsSem (k0_off1 k) 0 (Ring.sl 3 k.val) := ⟨by revert k; decide +kernel⟩
instance : IsBuf (k0_off2 k) (Ring.sl 3 k.val) := ⟨by revert k; decide +kernel⟩
instance : IsRow (k0_off3 k) (Ring.bk 8 k.val) := ⟨by revert k; decide +kernel⟩
instance : IsSem (k0_off4 k) 1 (Ring.sl 3 k.val) := ⟨by revert k; decide +kernel⟩
instance : IsBuf (k0_off5 k) (Ring.sl 3 k.val) := ⟨by revert k; decide +kernel⟩
instance : IsRow (k0_off6 k) (Ring.bk 8 k.val) := ⟨by revert k; decide +kernel⟩
theorem off7_eq : k0_off7 k = bufOff (Ring.sl 3 k.val) := by revert k; decide +kernel
theorem off8_eq : k0_off8 k = bufOff (Ring.sl 3 k.val) := by revert k; decide +kernel
instance : IsSem (k0_off9 k) 0 (Ring.sl 3 k.val) := ⟨by revert k; decide +kernel⟩
instance : IsBuf (k0_off10 k) (Ring.sl 3 k.val) := ⟨by revert k; decide +kernel⟩
instance [h : Fact (k.val + 3 < 8)] : IsRow (k0_off11 k) (Ring.bk 8 (k.val + 3)) := ⟨by have h := h.out; revert k; decide +kernel⟩
instance : IsSem (k0_off12 k) 1 (Ring.sl 3 k.val) := ⟨by revert k; decide +kernel⟩
instance : IsBuf (k0_off13 k) (Ring.sl 3 k.val) := ⟨by revert k; decide +kernel⟩
instance [h : Fact (k.val + 3 < 8)] : IsRow (k0_off14 k) (Ring.bk 8 (k.val + 3)) := ⟨by have h := h.out; revert k; decide +kernel⟩
instance : ClosedOff (k0_off7 k) := ⟨_, off7_eq k⟩
instance : ClosedOff (k0_off8 k) := ⟨_, off8_eq k⟩
/-- A trip issues copies when three more chunks are to come, and otherwise does not. -/
theorem more_iff : k.val + 3 < 8 ↔ k0_cond1 k = 1#1 := by revert k; decide +kernel

end Offsets

section Body
variable (c : Dev nD) (XA : Buf (Elt F) (mA.view.loc (c : Thread nD τ))) (XB : Buf (Elt F) (mB.view.loc (c : Thread nD τ)))
  (arg2 : Memref sig .tc .vmem S8x1024x256 .bf16) (harg2 : arg2.IsWhole)

/-- The program run on the core, to one assertion. -/
abbrev wpT {α : Type} (p : Prog (TpuEff nD τ sig (Elt F) Λ₀ .tc) α) (Q : sProp 𝕄) : sProp 𝕄 :=
  wp Idealize.ShloMosaic.frame (wpE (defs₀ (F := F)) 𝒱₀ (c : Thread nD τ) none) Set.univ p (fun _ => Q)
/-- What a run doesn't touch stays. -/
theorem wp_keep {α : Type} {p : Prog (TpuEff nD τ sig (Elt F) Λ₀ .tc) α} {P Q R S : sProp 𝕄} (h : P ⊢ wpT c p Q) (h' : iprop(Q ∗ R) ⊢ S) :
    iprop(P ∗ R) ⊢ wpT c p S :=
  (sep_mono h .rfl).trans ((wp_frame_r _ _ _).trans (wp_mono _ _ _ fun _ => h'))

/-- The two operands' chunk `b`, home. -/
abbrev home (b : Fin 8) : sProp 𝕄 := iprop(homeP c mA XA b ∗ homeP c mB XB b)
/-- Slot `s` of both buffers on its way with chunk `b`. -/
abbrev infl (s : Fin 3) (b : Fin 8) : sProp 𝕄 :=
  iprop((∃ g, flyP c mA XA bufA qA cc0_scratch3 qC 0 32768 s b g) ∗ (∃ g, flyP c mB XB bufB qB cc0_scratch3 qC 1 65536 s b g))
/-- Slot `s` of both buffers at rest. -/
abbrev free (s : Fin 3) : sProp 𝕄 :=
  iprop((∃ g, slotP (F := F) c bufA qA s g) ∗ (∃ g, slotP (F := F) c bufB qB s g) ∗ cellP (F := F) c cc0_scratch3 qC 0 s ∗ cellP (F := F) c cc0_scratch3 qC 1 s)
/-- The accumulator's words. -/
abbrev accP (f : Buf (Elt F) (mC.view.loc (c : Thread nD τ))) : sProp 𝕄 :=
  mC.view.loc (c : Thread nD τ) ↦[mC.view.set]{fullShare} f
abbrev has (f : Buf (Elt F) (mC.view.loc (c : Thread nD τ))) : sProp 𝕄 := iprop(accP c f ∗ (∃ W, owes (c : Thread nD τ) 0 W))

abbrev trip (k : Fin k0_t1_loop.trips) : Prog (TpuEff nD τ sig (Elt F) Λ₀ .tc) Unit :=
  k0_t1_body (F := F) mA (Memref.isWhole_whole _) mB (Memref.isWhole_whole _) arg2 harg2 bufA (Memref.isWhole_whole _) bufB (Memref.isWhole_whole _) mC (Memref.isWhole_whole _) cc0_scratch3 k ()
abbrev RC : Rect S1024x2048 := Rect.unit (s := S1024x2048) ![0, 0] S1024x2048.size inb_S1024x2048_S1024x2048_0_0
/-- The slot's words as trip `k` loads them: chunk `k` of the activations, -/
abbrev loadA (k : Fin k0_t1_loop.trips) : Vec F S1x512x1024 .bf16 :=
  bufA.view.readAt (Elt F) (Rect.unit (s := S3x512x1024) (k0_off7 k) S1x512x1024.size (k0_off7_inb k)).toLoadRect (held c mA XA bufA qA (Ring.sl 3 k.val) (Ring.bk 8 k.val))
/-- and of the gradient. -/
abbrev loadB (k : Fin k0_t1_loop.trips) : Vec F S1x512x2048 .bf16 :=
  bufB.view.readAt (Elt F) (Rect.unit (s := S3x512x2048) (k0_off8 k) S1x512x2048.size (k0_off8_inb k)).toLoadRect (held c mB XB bufB qB (Ring.sl 3 k.val) (Ring.bk 8 k.val))
/-- The accumulator after trip `k`, from what it held before. -/
abbrev nextAcc (k : Fin k0_t1_loop.trips) (f : Buf (Elt F) (mC.view.loc (c : Thread nD τ))) : Buf (Elt F) (mC.view.loc (c : Thread nD τ)) :=
  mC.view.writes (Elt F) f [⟨RC, k0_pay1 (mC.view.readAt (Elt F) RC.toLoadRect f) (loadA c XA k) (loadB c XB k)⟩]

/-- A trip that issues: chunk `k` is waited for, multiplied in and back home, and chunk `k + 3` is on its way in its place. -/
theorem trip_more (k : Fin k0_t1_loop.trips) (f : Buf (Elt F) (mC.view.loc (c : Thread nD τ))) (h3 : k.val + 3 < 8) :
    iprop(has c f ∗ home c XA XB (Ring.bk 8 (k.val + 3)) ∗ infl c XA XB (Ring.sl 3 k.val) (Ring.bk 8 k.val))
    ⊢ wpT c (trip arg2 harg2 k) iprop(has c (nextAcc c XA XB k f) ∗ home c XA XB (Ring.bk 8 k.val) ∗ infl c XA XB (Ring.sl 3 k.val) (Ring.bk 8 (k.val + 3))) := by
  have h1 : k0_cond1 k = 1#1 := (more_iff k).1 h3
  haveI : Fact (k.val + 3 < 8) := ⟨h3⟩
  iintro ⟨⟨HC, ⟨%W, HW⟩⟩, ⟨HA, HB⟩, ⟨%gA, HFA⟩, ⟨%gB, HFB⟩⟩
  dsimp only [wpT, trip]
  sl_unfold [k0_t1_body]
  sl_exec
  sl_step
  isplitl [HC HW]
  · isplitl [HC]; · iexact HC
    iexists _; iexact HW
  isplitl [HFA_src HFB_src]
  · isplitl [HFA_src]; · iexact HFA_src
    iexact HFB_src
  isplitl [HFA]
  · iexists (held c mA XA bufA qA (Ring.sl 3 k.val) (Ring.bk 8 k.val))
    irw [fly_after]
    iexact HFA
  iexists (held c mB XB bufB qB (Ring.sl 3 k.val) (Ring.bk 8 k.val))
  irw [fly_after]
  iexact HFB

/-- One of the last three trips: chunk `k` is waited for, multiplied in and back home, and its slot is at rest. -/
theorem trip_last (k : Fin k0_t1_loop.trips) (f : Buf (Elt F) (mC.view.loc (c : Thread nD τ))) (h3 : ¬ k.val + 3 < 8) :
    iprop(has c f ∗ infl c XA XB (Ring.sl 3 k.val) (Ring.bk 8 k.val))
    ⊢ wpT c (trip arg2 harg2 k) iprop(has c (nextAcc c XA XB k f) ∗ home c XA XB (Ring.bk 8 k.val) ∗ free (F := F) c (Ring.sl 3 k.val)) := by
  have h1 : ¬ k0_cond1 k = 1#1 := fun h => h3 ((more_iff k).2 h)
  iintro ⟨⟨HC, ⟨%W, HW⟩⟩, ⟨%gA, HFA⟩, ⟨%gB, HFB⟩⟩
  dsimp only [wpT, trip]
  sl_unfold [k0_t1_body]
  sl_exec
  sl_step
  isplitl [HC HW]
  · isplitl [HC]; · iexact HC
    iexists _; iexact HW
  isplitl [HFA_src HFB_src]
  · isplitl [HFA_src]; · iexact HFA_src
    iexact HFB_src
  isplitl [HFA_dst]; · iexists _; iexact HFA_dst
  isplitl [HFB_dst]; · iexists _; iexact HFB_dst
  isplitl [HFA]; · iexact HFA
  iexact HFB

/-- What holds before trip `k`. -/
def inv (f₀ : Buf (Elt F) (mC.view.loc (c : Thread nD τ))) (k : ℕ) : sProp 𝕄 :=
  iprop(has c (after (nextAcc c XA XB) f₀ k) ∗ bigSep Finset.univ (role (home c XA XB) (infl c XA XB) (free (F := F) c) k))

theorem inv_zero (f : Buf (Elt F) (mC.view.loc (c : Thread nD τ))) : inv c XA XB f 0
    = iprop(has c f ∗ infl c XA XB 0 0 ∗ infl c XA XB 1 1 ∗ infl c XA XB 2 2 ∗ home c XA XB 3 ∗ home c XA XB 4 ∗ home c XA XB 5 ∗ home c XA XB 6 ∗ home c XA XB 7) :=
  congrArg (fun P : sProp 𝕄 => iprop(has c f ∗ P)) (roles_zero (home c XA XB) (infl c XA XB) (free (F := F) c))

theorem inv_step (f₀ : Buf (Elt F) (mC.view.loc (c : Thread nD τ))) (k : Fin k0_t1_loop.trips) :
    inv c XA XB f₀ k.val ⊢ wpT c (trip arg2 harg2 k) (inv c XA XB f₀ (k.val + 1)) := by
  unfold inv
  rw [after_succ]
  exact step _ _ _ (fun h h' => wp_keep c h h') k.isLt (trip_more c XA XB arg2 harg2 k _) (trip_last c XA XB arg2 harg2 k _)

abbrev body : Prog (TpuEff nD τ sig (Elt F) Λ₀ .tc) PUnit :=
  cc0_dw_ab_in_skel (F := F) mA (Memref.isWhole_whole _) mB (Memref.isWhole_whole _) arg2 harg2 bufA (Memref.isWhole_whole _) bufB (Memref.isWhole_whole _) mC (Memref.isWhole_whole _) cc0_scratch3

/-- The accumulator as the loop finds it: zeros. -/
abbrev acc0 : Buf (Elt F) (mC.view.loc (c : Thread nD τ)) := mC.view.writes (Elt F) mC.view.junk [⟨RC, k0_pay2 (F := F)⟩]
/-- The accumulator's columns from `o` on. -/
abbrev cols (A : Buf (Elt F) (mC.view.loc (c : Thread nD τ))) (o : ℕ) (hh : ∀ a, (![0, o] : Fin 2 → ℕ) a + S1024x256.size a ≤ S1024x2048.size a) : Vec F S1024x256 .f32 :=
  mC.view.readAt (Elt F) (Rect.unit (s := S1024x2048) ![0, o] S1024x256.size hh).toLoadRect A
/-- Group `q` of the result, of words `w`. -/
abbrev grp (q : ℕ) (hh : ∀ a, (![q, 0, 0] : Fin 3 → ℕ) a + S1x1024x256.size a ≤ S8x1024x256.size a) (w : Vec F S1x1024x256 .bf16) : View.Piece (Elt F) S8x1024x256 .bf16 := ⟨Rect.unit (s := S8x1024x256) ![q, 0, 0] S1x1024x256.size hh, w⟩
/-- The eight groups of the accumulator's columns, rounded, last first. -/
def outPieces (A : Buf (Elt F) (mC.view.loc (c : Thread nD τ))) : List (View.Piece (Elt F) S8x1024x256 .bf16) :=
  [grp 7 (by decide) (k0_pay11 (cols c A 1792 (by decide))), grp 6 (by decide) (k0_pay10 (cols c A 1536 (by decide))),
   grp 5 (by decide) (k0_pay9 (cols c A 1280 (by decide))), grp 4 (by decide) (k0_pay8 (cols c A 1024 (by decide))),
   grp 3 (by decide) (k0_pay7 (cols c A 768 (by decide))), grp 2 (by decide) (k0_pay6 (k0_pay5 (cols c A 512 (by decide)))),
   grp 1 (by decide) (k0_pay4 (cols c A 256 (by decide))), grp 0 (by decide) (k0_pay3 (cols c A 0 (by decide)))]
/-- The accumulator after the loop. -/
abbrev accEnd : Buf (Elt F) (mC.view.loc (c : Thread nD τ)) := after (nextAcc c XA XB) (acc0 c) k0_t1_loop.trips

/-- All that the body touches besides its result, as it finds it and leaves it. -/
def rest : sProp 𝕄 :=
  iprop((((∃ f, slotP c bufA qA 0 f) ∗ (∃ f, slotP c bufA qA 1 f) ∗ ∃ f, slotP c bufA qA 2 f)
      ∗ ((∃ f, slotP c bufB qB 0 f) ∗ (∃ f, slotP c bufB qB 1 f) ∗ ∃ f, slotP c bufB qB 2 f) ∗ ∃ f, accP (F := F) c f)
    ∗ (∃ r, prngReg c r)
    ∗ (cellP c cc0_scratch3 qC 0 0 ∗ cellP c cc0_scratch3 qC 0 1 ∗ cellP c cc0_scratch3 qC 0 2 ∗ cellP c cc0_scratch3 qC 1 0 ∗ cellP c cc0_scratch3 qC 1 1 ∗ cellP c cc0_scratch3 qC 1 2)
    ∗ bigSep Finset.univ (home c XA XB))

set_option maxHeartbeats 400000 in
/-- The whole body: the result is written from the accumulator, and everything else is as it was found. -/
theorem body_run (fO : Buf (Elt F) (arg2.view.loc (c : Thread nD τ))) (W) :
    iprop(rest c XA XB ∗ owes (c : Thread nD τ) 0 W ∗ (arg2.view.loc (c : Thread nD τ) ↦[arg2.view.set]{fullShare} fO))
    ⊢ wpT c (body arg2 harg2) iprop(rest c XA XB ∗ (∃ W, owes (c : Thread nD τ) 0 W)
          ∗ (arg2.view.loc (c : Thread nD τ) ↦[arg2.view.set]{fullShare} arg2.view.writes (Elt F) fO (outPieces c (accEnd c XA XB)))) := by
  conv_lhs => rw [rest, bigSep_eight]
  iintro ⟨⟨⟨⟨⟨%a0, S0⟩, ⟨%a1, S1⟩, ⟨%a2, S2⟩⟩, ⟨⟨%b0, T0⟩, ⟨%b1, T1⟩, ⟨%b2, T2⟩⟩, ⟨%fC, HC⟩⟩, Hg, ⟨C0, C1, C2, D0, D1, D2⟩,
    ⟨⟨A0, B0⟩, ⟨A1, B1⟩, ⟨A2, B2⟩, H3, H4, H5, H6, H7⟩⟩, HW, HO⟩
  dsimp only [wpT, body]
  sl_exec
  ihave HI : inv c XA XB (acc0 c) 0 $$ [HC HW C0 D0 C1 D1 C2 D2 H3 H4 H5 H6 H7]
  · irw [inv_zero]
    isplitl [HC HW]
    · isplitl [HC]; · iexact HC
      iexists _; iexact HW
    isplitl [C0 D0]
    · isplitl [C0]; · iexists a0; iexact C0
      iexists b0; iexact D0
    isplitl [C1 D1]
    · isplitl [C1]; · iexists a1; iexact C1
      iexists b1; iexact D1
    isplitl [C2 D2]
    · isplitl [C2]; · iexists a2; iexact C2
      iexists b2; iexact D2
    isplitl [H3]; · iexact H3
    isplitl [H4]; · iexact H4
    isplitl [H5]; · iexact H5
    isplitl [H6]; · iexact H6
    iexact H7
  iapply (Scf.wp_for_bind Idealize.ShloMosaic.frame (wpE (defs₀ (F := F)) 𝒱₀ (c : Thread nD τ) none) Set.univ _ _ _ k0_t1_ok PUnit.unit _
    (fun k _ => inv c XA XB (acc0 c) k) (fun k _ => inv_step c XA XB arg2 harg2 (acc0 c) k)) $$ [HI]
  · iexact HI
  iintro %_ HI
  unfold inv
  icases HI with ⟨⟨HC, HW⟩, HR⟩
  sl_exec
  sl_step
  isplitl [HC Hg HR]
  · unfold rest
    iapply (roles_end (home c XA XB) (infl c XA XB) (fun s => iprop(∃ g, slotP c bufA qA s g)) (fun s => iprop(∃ g, slotP c bufB qB s g)) (cellP c cc0_scratch3 qC 0) (cellP c cc0_scratch3 qC 1) _ _)
    isplitl [HC]; · iexists _; iexact HC
    isplitl [Hg]; · iexact Hg
    iexact HR
  isplitl [HW]; · iexact HW
  iexact HO

end Body

/-! ## The launch -/

section Launch
variable (m : (ℓ : Loc nD τ sig) → Buf (Elt F) ℓ) (ρ : Dev nD → PrngReg) (c : Dev nD)

abbrev V (c : Dev nD) (b : Ref sig .tc) : Buf (Elt F) ((c : Thread nD τ).loc b) := m ((c : Thread nD τ).loc b)

theorem hmain : Pipeline.HMain (Ix := Unit) (Name := ℕ) (U := UW) (Lvl := ℕ) cfgs 0 defs₀ 𝒱₀ m (main (F := F)) (V m) :=
  Pipeline.hmain_region cfgs 0 defs₀ 𝒱₀ m main fun c => (main_chain c).trans rfl

/-- The body's six semaphores. -/
abbrev osem : Fin 6 → SemLoc sig := fun j => (![SemLoc.dma 1, SemLoc.dma 2, SemLoc.dma 3, SemLoc.dma 4, SemLoc.dma 5, SemLoc.dma 6] : Fin 6 → SemLoc sig) j
theorem ownSemFacts : Pipeline.OwnSemFacts spec0 osem := by decide
/-- The operands the body reads where they lie. -/
def H : Finset (Ref sig .tc) := {main_arg0, main_arg1}
theorem H_sub : H ⊆ Pipeline.restRefs sig spec0 := by decide

theorem slotA_eq (s : Fin 3) (f : Buf (Elt F) ((c : Thread nD τ).loc cc0_scratch0)) :
    slotP c bufA qA s f = (((c : Thread nD τ).loc cc0_scratch0) ↦[J 1024 s]{fullShare} f : sProp 𝕄) :=
  pt_congr ((View.set_reshape _ _).trans (View.set_slice_whole _ _)) f
theorem slotB_eq (s : Fin 3) (f : Buf (Elt F) ((c : Thread nD τ).loc cc0_scratch1)) :
    slotP c bufB qB s f = (((c : Thread nD τ).loc cc0_scratch1) ↦[J 2048 s]{fullShare} f : sProp 𝕄) :=
  pt_congr ((View.set_reshape _ _).trans (View.set_slice_whole _ _)) f

theorem owns_eq : (Pipeline.ownSems0 (Ix := Unit) (Name := ℕ) (U := UW) (Lvl := ℕ) (Val := Elt F) (τ := τ) osem c : sProp 𝕄)
    = iprop(cellP c cc0_scratch3 qC 0 0 ∗ cellP c cc0_scratch3 qC 0 1 ∗ cellP c cc0_scratch3 qC 0 2 ∗ cellP c cc0_scratch3 qC 1 0 ∗ cellP c cc0_scratch3 qC 1 1 ∗ cellP c cc0_scratch3 qC 1 2) := by
  rw [Pipeline.ownSems0_eq_of_list c osem [0, 1, 2, 3, 4, 5] (by decide) (by decide)]; rfl

/-- The two operands whole are their chunks. -/
theorem hbm_eq : (bigSep H (fun b => ((c : Thread nD τ).loc b) ↦{fullShare} V m c b) : sProp 𝕄) = bigSep Finset.univ (home c (V m c main_arg0) (V m c main_arg1)) := by
  rw [BI.bigSep_eq_bigSepL_of_eq [main_arg0, main_arg1] (by decide) (by decide)]
  exact homes_eq (ℓ := (c : Thread nD τ).loc main_arg0) (ℓ' := (c : Thread nD τ).loc main_arg1) (G_disj 1024) (G_cover 1024) (G_disj 2048) (G_cover 2048)
    (fun b => pt_congr (View.set_slice_whole _ _) _) (fun b => pt_congr (View.set_slice_whole _ _) _)

theorem accP_eq (f : Buf (Elt F) ((c : Thread nD τ).loc cc0_scratch2)) : accP c f = (((c : Thread nD τ).loc cc0_scratch2) ↦{fullShare} f : sProp 𝕄) :=
  pt_congr (View.set_whole _) f

/-- What the body leaves of the result. -/
def outAt (c : Dev nD) : Vec F S8x1024x256 .bf16 := View.canon (outPieces c (accEnd c (V m c main_arg0) (V m c main_arg1)))

def dats (_ : Fin 1) (c : Dev nD) : Dat τ (Elt F) Unit ℕ UW ℕ cfg0 c where
  A w := V m c (Pipeline.arrRef spec0 w)
  after w _ := match w with
    | ⟨0, _⟩ => outAt m c
  Φ _ := Pipeline.ΦD osem spec0 H (V m) c
  q _ := fullShare
  owed _ := 0

theorem A_eq (c : Dev nD) (w : Fin cfg0.W) : (dats m 0 c).A w = V m c (Pipeline.arrRef spec0 w) := by
  dsimp only [dats]
theorem after_eq (t : Fin cfg0.N) : (dats m 0 c).after 0 t = outAt m c := by dsimp only [dats]

abbrev st (t : Fin cfg0.N) : Memref sig .tc .vmem S8x1024x256 .bf16 := win0_0.stage (cfg0.slots t 0)
abbrev hst (t : Fin cfg0.N) : (st t).IsWhole := hstage0_0 0

theorem out_cover (A) (y : S8x1024x256.Idx) : ∃ pc ∈ outPieces (F := F) c A, y ∈ pc.1.set :=
  View.cover_of_tiledL (outPieces c A) S1x1024x256.size (by sl_kernel_rfl) y

theorem table_row (t : Fin cfg0.N) : defs₀ (F := F) .tc cfg0.body (cfg0.bodyArgs t (cfg0.slots t))
    = cc0_dw_ab_in mA (Memref.isWhole_whole _) mB (Memref.isWhole_whole _) (st t) (hst t) bufA (Memref.isWhole_whole _) bufB (Memref.isWhole_whole _) mC (Memref.isWhole_whole _) cc0_scratch3 := by
  unfold defs₀; rw [Defs.onTc_tc]

/-- What the launch hands the body is what it touches. -/
theorem rest_eq : (Pipeline.ΦD osem spec0 H (V m) c : sProp 𝕄) = rest c (V m c main_arg0) (V m c main_arg1) := by
  rw [Pipeline.ΦD_eq, scopedRest0_eq, slots_eq (ℓ := (c : Thread nD τ).loc cc0_scratch0) (J_disj 1024) (J_cover 1024) (slotA_eq c),
    slots_eq (ℓ := (c : Thread nD τ).loc cc0_scratch1) (J_disj 2048) (J_cover 2048) (slotB_eq c), owns_eq, hbm_eq, rest]
  simp only [accP_eq]
  rfl

set_option backward.isDefEq.respectTransparency.types false in
theorem body_obligation : BodyObligation (dats (F := F) m 0 c) (defs₀ (F := F)) 𝒱₀ () Set.univ := fun t => by
  rw [bigSep_W0, bigSep_W0, table_row, after_eq]
  rw [show (dats m 0 c).Φ t.castSucc = Pipeline.ΦD osem spec0 H (V m) c from rfl, show (dats m 0 c).Φ t.succ = Pipeline.ΦD osem spec0 H (V m) c from rfl]
  unfold Dat.owesAt Pipeline.owesWithin owns outAt
  rw [show (dats m 0 c).owed t.castSucc = 0 from rfl, show (dats m 0 c).owed t.succ = 0 from rfl, cc0_dw_ab_in_eq_skeleton]
  rw [rest_eq]
  iintro ⟨HΦ, ⟨%W, -, HW⟩, ⟨%d, %fO, -, HO⟩⟩
  iapply (wp_wand_r Idealize.ShloMosaic.frame (wpE (defs₀ (F := F)) 𝒱₀ (c : Thread nD τ) none) Set.univ)
  isplitl [HΦ HW HO]
  · iapply (body_run c (V m c main_arg0) (V m c main_arg1) (st t) (hst t) fO W)
    isplitl [HΦ]; · iexact HΦ
    isplitl [HW]; · iexact HW
    iexact HO
  iintro %_ ⟨HΦ, ⟨%W', HW⟩, HO⟩
  isplitl [HΦ]; · iexact HΦ
  isplitl [HW]
  · iexists W'; isplitr
    · ipureintro; exact fun _ _ => Or.inl trivial
    iexact HW
  iexists _; isplitr
  swap; · iexact HO
  ipureintro
  exact View.read_writes_eq_canon _ _ _ (out_cover c _)

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ 𝒱₀ ownSemFacts H H_sub m ρ main
    (hbody := fun c => (body_obligation m c).loose) (hshare := fun c => (dats m 0 c).share_full fun _ => rfl)
    (howed := fun _ _ => rfl) (V := V m) (hmain := hmain m) (hA := A_eq m) (hin := fun _ => .rfl) (hout := fun _ => .rfl)

/-- The program terminates without a fault, its arguments end as they were, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).2 main_arg0 (Pipeline.mem_restRefs_of main_arg0 (by decide) (by decide)),
    (h.1 c).2 main_arg1 (Pipeline.mem_restRefs_of main_arg1 (by decide) (by decide))⟩, h.2⟩) (run_main m ρ)

end Launch

end Cert.DwAb

/-! ## The value claim: the kernel's column groups are the host's -/

namespace Cert.DwAb

open Cert.Kernel15Ideal Cert.Kernel15Ideal.Gen Cert.Mat Cert.CopyRing
open Idealize.ShloMosaic Idealize.ShloMosaic.TcCoe Idealize.ShloMosaic.Tactic Idealize.SL.Sem

instance : Cert.Kernel15Ideal.Facts := Cert.Kernel15Ideal.Gen.facts
instance : Cert.Reference15Ideal.Facts := Cert.Reference15Ideal.Gen.facts

section Words
variable (c : Dev nD) (XA : Vec Ideal S4096x1024 .bf16) (XB : Vec Ideal S4096x2048 .bf16)

/-- After the loop the accumulator holds the products over all the tokens. -/
theorem acc_at (i : Fin 1024) (j : Fin 2048) :
    mC.view.read (Elt Ideal) (accEnd (F := Ideal) c XA XB) (ix2 i j) = ∑ t ∈ Finset.range 4096, at2 XA t i.val * at2 XB t j.val := by
  refine after_sum _ _ (fun A => mC.view.read (Elt Ideal) A (ix2 i j)) (fun t => at2 XA t i.val * at2 XB t j.val) ?_ (fun k A => ?_) 8 le_rfl
  · show mC.view.read (Elt Ideal) (acc0 (F := Ideal) c) (ix2 i j) = 0
    rw [acc0, acc_read (τ := τ) c]
    pointwise [k0_pay2]
  · have e : ∑ r : Fin 512, at2 XA (512 * k.val + r.val) i.val * at2 XB (512 * k.val + r.val) j.val
        = ∑ r : Fin 512, words (τ := τ) c mA XA (Ring.bk 8 k.val) (ix2 r i) * words (τ := τ) c mB XB (Ring.bk 8 k.val) (ix2 r j) :=
      Finset.sum_congr rfl fun r _ => (congrArg₂ (fun p q : EReal => p * q) (row_at XA k r i) (row_at XB k r j)).symm
    show mC.view.read (Elt Ideal) (nextAcc (F := Ideal) c XA XB k A) (ix2 i j) = mC.view.read (Elt Ideal) A (ix2 i j) + _
    rw [nextAcc, acc_read (τ := τ) c, View.readAt_eq_ld, View.ld_unit_zero (S := S1024x2048) Mat.hz2, e]
    unfold k0_pay1
    dsimp only
    rw [load_eq (τ := τ) c bufA qA (off7_eq k), load_eq (τ := τ) c bufB qB (off8_eq k)]
    pointwise []

/-- A group's columns of the accumulator, entry by entry. -/
theorem column_at (A : Buf (Elt Ideal) (mC.view.loc (c : Thread nD τ))) (q o : ℕ) (hh) (y : S8x1024x256.Idx) (i : Fin 1024) (j : Fin 256) (n : Fin 2048)
    (hn : n.val = 256 * (y 0).val + (y 2).val) (e0 : (y 0).val = q) (e1 : (y 1).val = i.val) (e2 : (y 2).val = j.val) (ho : o = 256 * q) :
    cols c A o hh (ix2 i j) = mC.view.read (Elt Ideal) A (ix2 (y 1) n) := by
  refine congrArg (mC.view.read (Elt Ideal) A) (funext fun a => Fin.ext ?_)
  match a with
  | ⟨0, _⟩ => show 0 + 1 * i.val = (y 1).val; omega
  | ⟨1, _⟩ => show o + 1 * j.val = n.val; omega

/-- The result's group `q` is the accumulator's columns from `256 * q` on. -/
theorem pieces_at (A : Buf (Elt Ideal) (mC.view.loc (c : Thread nD τ))) (y : S8x1024x256.Idx) (n : Fin 2048) (hn : n.val = 256 * (y 0).val + (y 2).val) :
    View.canon (outPieces (F := Ideal) c A) y = mC.view.read (Elt Ideal) A (ix2 (y 1) n) := by
  unfold outPieces
  canon_tiles x e using (out_cover (F := Ideal) c A y)
  all_goals obtain ⟨u, i, j, rfl⟩ := Mat.ix3_of x
  · refine Eq.trans ?_ (column_at c A 7 1792 (by decide) y i j n hn (by omega) e1 e2 rfl)
    pointwise [k0_pay11]
  · refine Eq.trans ?_ (column_at c A 6 1536 (by decide) y i j n hn (by omega) e1 e2 rfl)
    pointwise [k0_pay10]
  · refine Eq.trans ?_ (column_at c A 5 1280 (by decide) y i j n hn (by omega) e1 e2 rfl)
    pointwise [k0_pay9]
  · refine Eq.trans ?_ (column_at c A 4 1024 (by decide) y i j n hn (by omega) e1 e2 rfl)
    pointwise [k0_pay8]
  · refine Eq.trans ?_ (column_at c A 3 768 (by decide) y i j n hn (by omega) e1 e2 rfl)
    pointwise [k0_pay7]
  · refine Eq.trans ?_ (column_at c A 2 512 (by decide) y i j n hn (by omega) e1 e2 rfl)
    pointwise [k0_pay6, k0_pay5]
  · refine Eq.trans ?_ (column_at c A 1 256 (by decide) y i j n hn (by omega) e1 e2 rfl)
    pointwise [k0_pay4]
  · refine Eq.trans ?_ (column_at c A 0 0 (by decide) y i j n hn (by omega) e1 e2 rfl)
    pointwise [k0_pay3]

end Words

variable (m : (ℓ : Loc nD τ sig) → Buf (Elt Ideal) ℓ) (c : Dev nD)

/-- The body leaves the gradient of the arguments. -/
theorem out_eq : outAt m c = grad (m ((c : Thread nD τ).loc main_arg0)) (m ((c : Thread nD τ).loc main_arg1)) := by
  funext y
  have h0 : (y 0).val < 8 := (y 0).isLt
  have h2 : (y 2).val < 256 := (y 2).isLt
  unfold outAt grad
  rw [pieces_at c _ y ⟨256 * (y 0).val + (y 2).val, by omega⟩ rfl]
  exact acc_at c _ _ (y 1) _

/-- The one block is the whole result. -/
theorem index_facts : ∀ (t : Fin grid0.N) (a : Fin 3), win0_0.index t a * S8x1024x256.size a = 0 := by decide +kernel

/-- So the result's array ends holding it. -/
theorem final : (dats m 0 c).arrAt 0 cfg0.N = outAt m c := by
  refine (dats m 0 c).arrAt_eq_of_cover 0 (outAt m c) (fun t _ => ?_) (fun i => ⟨t0_0, by decide, ?_⟩)
  · show (cfg0.win 0).cut (grid0.coords t) ((dats m 0 c).after 0 t) = _
    rw [after_eq]
    generalize outAt m c = o
    funext y
    exact congrArg o (unit_idx (S := S8x1024x256) _ (index_facts t) y).symm
  · show i ∈ ((View.whole main_v0).slice (win0_0.rect t0_0)).set
    rw [View.set_slice_whole]
    exact unit_all (S := S8x1024x256) _ (index_facts t0_0) i

/-- The host's gradient, entry by entry. -/
theorem host_at (x0 : Vec Ideal S4096x1024 .bf16) (x1 : Vec Ideal S4096x2048 .bf16) (y : S8x1024x256.Idx) :
    Cert.Reference15Ideal.Read.val_main_v8 (F := Ideal) x0 x1 y = grad x0 x1 y := by
  unfold grad
  rw [Finset.sum_range]
  rw [Cert.Reference15Ideal.Read.val_main_v8_apply, Cert.Reference15Ideal.Read.val_main_v7_apply, Cert.Reference15Ideal.Read.val_main_v6_apply, Cert.Reference15Ideal.Read.val_main_v5_apply,
    Cert.Reference15Ideal.Read.val_main_v4_apply]
  have h0 : (y 0).val < 8 := (y 0).isLt
  have h1 : (y 1).val < 1024 := (y 1).isLt
  have h2 : (y 2).val < 256 := (y 2).isLt
  refine Finset.sum_congr rfl fun t _ => (mul_comm (G := EReal) _ _).trans (congrArg₂ (fun p q : EReal => p * q) (at2_of x0 _ _ _ rfl ?_) (at2_of x1 _ _ _ rfl ?_))
  · show (((y 1).val * 8 + (y 0).val) * 256 + (y 2).val) / 2048 = _; omega
  · show (((y 1).val * 8 + (y 0).val) * 256 + (y 2).val) % 2048 = _; omega

/-- The host's run leaves no counter raised and keeps its arguments. -/
theorem host_frame : Cert.quiescent_Reference15Ideal := fun m g _ =>
  (θ_run _ _ _).mono (fun r h => ⟨fun c => (h c).2, Idealize.ShloMosaic.sem_eq_zero_of_no_sems (by decide) r.2⟩)
    (Cert.Reference15Ideal.Value.run (F := Ideal) m g)

/-- The result of the kernel's idealization is the host's, entry by entry, for every argument. -/
theorem values : Cert.algebraic_Kernel15Ideal_Reference15Ideal := by
  intro m g m' g' _ hag
  refine ⟨fun c => outAt m c, ?_, ?_⟩
  · exact (θ_run _ _ _).mono (fun r h c => ⟨((h.1 c).1 0).trans (final m c), (h.1 c).2 main_arg0 (Pipeline.mem_restRefs_of main_arg0 (by decide) (by decide)),
      (h.1 c).2 main_arg1 (Pipeline.mem_restRefs_of main_arg1 (by decide) (by decide))⟩) (run_main (F := Ideal) m g)
  · refine (θ_run _ _ _).mono (fun r h c => ⟨(h c).1.trans ?_, (h c).2⟩)
      (Cert.Reference15Ideal.Value.run (F := Ideal) m' g')
    obtain ⟨h0, h1⟩ := hag c
    refine (Cert.Reference15Ideal.Read.val_main_v8_eq (F := Ideal) _ _).trans ?_
    rw [h0, h1]
    refine Eq.trans ?_ (out_eq m c).symm
    funext i
    exact host_at _ _ i

end Cert.DwAb

end
-- ==== Proof.Bits.lean ====
/-
  The program as it is written runs the same text as the one read at the ideal instance, so that one's run is its too.
-/
module

public import proofs.«01_k».proof.Proof.FgBody
public import proofs.«01_k».proof.Proof.Gen.Kernel11.Skeleton
public import proofs.«01_k».proof.Proof.DwCols
public import proofs.«01_k».proof.Proof.Gen.Kernel14.Skeleton
public import proofs.«01_k».proof.Proof.DwAb
public import proofs.«01_k».proof.Proof.Gen.Kernel15.Skeleton

@[expose] public section

set_option maxRecDepth 65536

noncomputable section

namespace Cert.FfnGradBits

open Cert.Kernel11 Cert.Kernel11.Gen Idealize.ShloMosaic Idealize.ShloMosaic.TcCoe Idealize.SL.Sem

variable {F : FTy → Type} [FloatOps F]

theorem body_same : @Cert.Kernel11.cc0_ffn_bwd F _ _ = @Cert.Kernel11Ideal.cc0_ffn_bwd F _ _ := rfl

theorem table_same : @Cert.Kernel11.defs₀ F _ _ = @Cert.Kernel11Ideal.defs₀ F _ _ := by
  unfold Cert.Kernel11.defs₀ Cert.Kernel11Ideal.defs₀
  refine congrArg Defs.onTc (funext fun l => funext fun a => ?_)
  match l, a with
  | ⟨0, _⟩, (t, s) => rfl

theorem defs_same : @Cert.Kernel11.defs F _ _ = @Cert.Kernel11Ideal.defs F _ _ :=
  congrArg (Pipeline.defs Cert.Kernel11.pcfgs) table_same

variable (m : (ℓ : Loc nD τ sig) → Buf (Elt F) ℓ) (ρ : Dev nD → PrngReg)

/-- The program terminates without a fault, its arguments end as they were, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) := by
  rw [defs_same]
  exact Cert.FfnGrad.frame (F := F) m ρ

end Cert.FfnGradBits

namespace Cert.DwColsBits

open Cert.Kernel14 Cert.Kernel14.Gen Idealize.ShloMosaic Idealize.ShloMosaic.TcCoe Idealize.SL.Sem

variable {F : FTy → Type} [FloatOps F]

theorem body_same : @Cert.Kernel14.cc0_dw_c_in F _ _ = @Cert.Kernel14Ideal.cc0_dw_c_in F _ _ := rfl

theorem table_same : @Cert.Kernel14.defs₀ F _ _ = @Cert.Kernel14Ideal.defs₀ F _ _ := by
  unfold Cert.Kernel14.defs₀ Cert.Kernel14Ideal.defs₀
  refine congrArg Defs.onTc (funext fun l => funext fun a => ?_)
  match l, a with
  | ⟨0, _⟩, (t, s) => rfl

theorem defs_same : @Cert.Kernel14.defs F _ _ = @Cert.Kernel14Ideal.defs F _ _ :=
  congrArg (Pipeline.defs Cert.Kernel14.pcfgs) table_same

variable (m : (ℓ : Loc nD τ sig) → Buf (Elt F) ℓ) (ρ : Dev nD → PrngReg)

/-- The program terminates without a fault, its arguments end as they were, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  rw [defs_same]
  exact Cert.DwCols.frame (F := F) m ρ

end Cert.DwColsBits

namespace Cert.DwAbBits

open Cert.Kernel15 Cert.Kernel15.Gen Idealize.ShloMosaic Idealize.ShloMosaic.TcCoe Idealize.SL.Sem

variable {F : FTy → Type} [FloatOps F]

theorem body_same : @Cert.Kernel15.cc0_dw_ab_in F _ _ = @Cert.Kernel15Ideal.cc0_dw_ab_in F _ _ := rfl

theorem table_same : @Cert.Kernel15.defs₀ F _ _ = @Cert.Kernel15Ideal.defs₀ F _ _ := by
  unfold Cert.Kernel15.defs₀ Cert.Kernel15Ideal.defs₀
  refine congrArg Defs.onTc (funext fun l => funext fun a => ?_)
  match l, a with
  | ⟨0, _⟩, (t, s) => rfl

theorem defs_same : @Cert.Kernel15.defs F _ _ = @Cert.Kernel15Ideal.defs F _ _ :=
  congrArg (Pipeline.defs Cert.Kernel15.pcfgs) table_same

variable (m : (ℓ : Loc nD τ sig) → Buf (Elt F) ℓ) (ρ : Dev nD → PrngReg)

/-- The program terminates without a fault, its arguments end as they were, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  rw [defs_same]
  exact Cert.DwAb.frame (F := F) m ρ

end Cert.DwAbBits

end
-- ==== Proof.lean ====
/-
  The proof of `Cert.Claim`: the frames, and the value claims.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Reference14Ideal
public import proofs.«01_k».proof.Proof.Gen.Reference14Ideal.Run
public import proofs.«01_k».proof.Proof.Gen.Reference14Ideal.Read
public import proofs.«01_k».proof.Proof.Gen.Reference15Ideal
public import proofs.«01_k».proof.Proof.Gen.Reference15Ideal.Run
public import proofs.«01_k».proof.Proof.Gen.Reference15Ideal.Read
public import proofs.«01_k».proof.Proof.ConvGrad
public import proofs.«01_k».proof.Proof.MatClaims
public import proofs.«01_k».proof.Proof.CIn
public import proofs.«01_k».proof.Proof.AbIn
public import proofs.«01_k».proof.Proof.Ffn
public import proofs.«01_k».proof.Proof.Loss
public import proofs.«01_k».proof.Proof.Fg
public import proofs.«01_k».proof.Proof.CFwdClaim
public import proofs.«01_k».proof.Proof.DwCols
public import proofs.«01_k».proof.Proof.DwAb
public import proofs.«01_k».proof.Proof.Bits

@[expose] public section

noncomputable section

namespace Cert.Proof

open Idealize.ShloMosaic Idealize.SL.Sem

/-- Every claim of this certificate. -/
theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    fun m g _ => Kernel.Gen.frame m g, fun m g _ => KernelIdeal.Gen.frame m g, ConvGrad.host_frame,
    fun m g _ => Kernel2.Gen.frame m g, fun m g _ => Kernel2Ideal.Gen.frame m g, UpGrad.host_frame,
    fun m g _ => Kernel3.Gen.frame m g, fun m g _ => Kernel3Ideal.Gen.frame m g, DownGrad.host_frame,
    fun m g _ => Kernel4.Gen.frame m g, fun m g _ => Kernel4Ideal.Gen.frame m g, OutGrad.host_frame,
    fun m g _ => Kernel5.Gen.frame m g, fun m g _ => Kernel5Ideal.Gen.frame m g, CIn.host_frame,
    fun m g _ => Kernel6.Gen.frame m g, fun m g _ => Kernel6Ideal.Gen.frame m g, AbIn.host_frame,
    fun m g _ => Kernel7.Gen.frame m g, fun m g _ => Kernel7Ideal.Gen.frame m g, AbProj.host_frame,
    fun m g _ => Kernel8.Gen.frame m g, fun m g _ => Kernel8Ideal.Gen.frame m g, CProj.host_frame,
    fun m g _ => Kernel9.Gen.frame m g, fun m g _ => Kernel9Ideal.Gen.frame m g, Ffn0.host_frame,
    fun m g _ => Kernel10.Gen.frame m g, fun m g _ => Kernel10Ideal.Gen.frame m g, Ffn1.host_frame,
    fun m g _ => FfnGradBits.frame (F := Bits) m g, fun m g _ => FfnGrad.frame (F := Ideal) m g, FfnGrad.host_frame,
    fun m g _ => Kernel12.Gen.frame m g, fun m g _ => Kernel12Ideal.Gen.frame m g, MmOut.host_frame,
    fun m g _ => Kernel13.Gen.frame m g, fun m g _ => Kernel13Ideal.Gen.frame m g, CFwd.host_frame,
    fun m g _ => DwColsBits.frame (F := Bits) m g, fun m g _ => DwCols.frame (F := Ideal) m g, DwCols.host_frame,
    fun m g _ => DwAbBits.frame (F := Bits) m g, fun m g _ => DwAb.frame (F := Ideal) m g, DwAb.host_frame,
    trivial, ConvGrad.values,
    trivial, UpGrad.values,
    trivial, DownGrad.values,
    trivial, OutGrad.values,
    trivial, CIn.values,
    trivial, AbIn.values,
    trivial, AbProj.values,
    trivial, CProj.values,
    trivial, Ffn0.values,
    trivial, Ffn1.values,
    trivial, FfnGrad.values,
    trivial, MmOut.values,
    trivial, CFwd.values,
    trivial, DwCols.values,
    trivial, DwAb.values⟩

end Cert.Proof

end
